-- ==== Defs.lean ====
def Pre_GainKernel (m : (ℓ : Loc Cert.GainKernel.nD Cert.GainKernel.τ Cert.GainKernel.sig) → Buf (Elt Bits) ℓ) : Prop :=
  True

def Pre_GainKernelIdeal (m : (ℓ : Loc Cert.GainKernelIdeal.nD Cert.GainKernelIdeal.τ Cert.GainKernelIdeal.sig) → Buf (Elt Ideal) ℓ) : Prop :=
  True

def Pre_GainReferenceIdeal (m : (ℓ : Loc Cert.GainReferenceIdeal.nD Cert.GainReferenceIdeal.τ Cert.GainReferenceIdeal.sig) → Buf (Elt Ideal) ℓ) : Prop :=
  True

def Pre_SbKernel (m : (ℓ : Loc Cert.SbKernel.nD Cert.SbKernel.τ Cert.SbKernel.sig) → Buf (Elt Bits) ℓ) : Prop :=
  True

def Pre_SbKernelIdeal (m : (ℓ : Loc Cert.SbKernelIdeal.nD Cert.SbKernelIdeal.τ Cert.SbKernelIdeal.sig) → Buf (Elt Ideal) ℓ) : Prop :=
  True

def Pre_SbKernelIdeal_moderate_scores [hPre_moderate_scores : Cert.Pre_moderate_scores.Facts] (m : (ℓ : Loc Cert.SbKernelIdeal.nD Cert.SbKernelIdeal.τ Cert.SbKernelIdeal.sig) → Buf (Elt Ideal) ℓ) : Prop :=
  ∀ c : Dev Cert.SbKernelIdeal.nD,
    (Cert.Pre_moderate_scores.fn (F := Ideal) (m ((c.tc : Thread Cert.SbKernelIdeal.nD Cert.SbKernelIdeal.τ).loc Cert.SbKernelIdeal.main_arg0)) (m ((c.tc : Thread Cert.SbKernelIdeal.nD Cert.SbKernelIdeal.τ).loc Cert.SbKernelIdeal.main_arg1)) (m ((c.tc : Thread Cert.SbKernelIdeal.nD Cert.SbKernelIdeal.τ).loc Cert.SbKernelIdeal.main_arg2)) (m ((c.tc : Thread Cert.SbKernelIdeal.nD Cert.SbKernelIdeal.τ).loc Cert.SbKernelIdeal.main_arg3))) = (fun _ => 1#1)

def Pre_SbReferenceIdeal (m : (ℓ : Loc Cert.SbReferenceIdeal.nD Cert.SbReferenceIdeal.τ Cert.SbReferenceIdeal.sig) → Buf (Elt Ideal) ℓ) : Prop :=
  True

def Pre_SbReferenceIdeal_moderate_scores [hPre_moderate_scores : Cert.Pre_moderate_scores.Facts] (m : (ℓ : Loc Cert.SbReferenceIdeal.nD Cert.SbReferenceIdeal.τ Cert.SbReferenceIdeal.sig) → Buf (Elt Ideal) ℓ) : Prop :=
  ∀ c : Dev Cert.SbReferenceIdeal.nD,
    (Cert.Pre_moderate_scores.fn (F := Ideal) (m ((c.tc : Thread Cert.SbReferenceIdeal.nD Cert.SbReferenceIdeal.τ).loc Cert.SbReferenceIdeal.main_arg0)) (m ((c.tc : Thread Cert.SbReferenceIdeal.nD Cert.SbReferenceIdeal.τ).loc Cert.SbReferenceIdeal.main_arg1)) (m ((c.tc : Thread Cert.SbReferenceIdeal.nD Cert.SbReferenceIdeal.τ).loc Cert.SbReferenceIdeal.main_arg2)) (m ((c.tc : Thread Cert.SbReferenceIdeal.nD Cert.SbReferenceIdeal.τ).loc Cert.SbReferenceIdeal.main_arg3))) = (fun _ => 1#1)

def Pre_MemKernel (m : (ℓ : Loc Cert.MemKernel.nD Cert.MemKernel.τ Cert.MemKernel.sig) → Buf (Elt Bits) ℓ) : Prop :=
  True

def Pre_MemKernelIdeal (m : (ℓ : Loc Cert.MemKernelIdeal.nD Cert.MemKernelIdeal.τ Cert.MemKernelIdeal.sig) → Buf (Elt Ideal) ℓ) : Prop :=
  True

def Pre_MemKernelIdeal_finite_memory [hPre_finite_memory : Cert.Pre_finite_memory.Facts] (m : (ℓ : Loc Cert.MemKernelIdeal.nD Cert.MemKernelIdeal.τ Cert.MemKernelIdeal.sig) → Buf (Elt Ideal) ℓ) : Prop :=
  ∀ c : Dev Cert.MemKernelIdeal.nD,
    (Cert.Pre_finite_memory.fn (F := Ideal) (m ((c.tc : Thread Cert.MemKernelIdeal.nD Cert.MemKernelIdeal.τ).loc Cert.MemKernelIdeal.main_arg0)) (m ((c.tc : Thread Cert.MemKernelIdeal.nD Cert.MemKernelIdeal.τ).loc Cert.MemKernelIdeal.main_arg1)) (m ((c.tc : Thread Cert.MemKernelIdeal.nD Cert.MemKernelIdeal.τ).loc Cert.MemKernelIdeal.main_arg2)) (m ((c.tc : Thread Cert.MemKernelIdeal.nD Cert.MemKernelIdeal.τ).loc Cert.MemKernelIdeal.main_arg3))) = (fun _ => 1#1)

def Pre_MemReferenceIdeal (m : (ℓ : Loc Cert.MemReferenceIdeal.nD Cert.MemReferenceIdeal.τ Cert.MemReferenceIdeal.sig) → Buf (Elt Ideal) ℓ) : Prop :=
  True

def Pre_MemReferenceIdeal_finite_memory [hPre_finite_memory : Cert.Pre_finite_memory.Facts] (m : (ℓ : Loc Cert.MemReferenceIdeal.nD Cert.MemReferenceIdeal.τ Cert.MemReferenceIdeal.sig) → Buf (Elt Ideal) ℓ) : Prop :=
  ∀ c : Dev Cert.MemReferenceIdeal.nD,
    (Cert.Pre_finite_memory.fn (F := Ideal) (m ((c.tc : Thread Cert.MemReferenceIdeal.nD Cert.MemReferenceIdeal.τ).loc Cert.MemReferenceIdeal.main_arg0)) (m ((c.tc : Thread Cert.MemReferenceIdeal.nD Cert.MemReferenceIdeal.τ).loc Cert.MemReferenceIdeal.main_arg1)) (m ((c.tc : Thread Cert.MemReferenceIdeal.nD Cert.MemReferenceIdeal.τ).loc Cert.MemReferenceIdeal.main_arg2)) (m ((c.tc : Thread Cert.MemReferenceIdeal.nD Cert.MemReferenceIdeal.τ).loc Cert.MemReferenceIdeal.main_arg3))) = (fun _ => 1#1)

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_SwigluKernel (m : (ℓ : Loc Cert.SwigluKernel.nD Cert.SwigluKernel.τ Cert.SwigluKernel.sig) → Buf (Elt Bits) ℓ) : Prop :=
  True

def Pre_SwigluKernelIdeal (m : (ℓ : Loc Cert.SwigluKernelIdeal.nD Cert.SwigluKernelIdeal.τ Cert.SwigluKernelIdeal.sig) → Buf (Elt Ideal) ℓ) : Prop :=
  True

def Pre_SwigluKernelIdeal_finite_swiglu [hPre_finite_swiglu : Cert.Pre_finite_swiglu.Facts] (m : (ℓ : Loc Cert.SwigluKernelIdeal.nD Cert.SwigluKernelIdeal.τ Cert.SwigluKernelIdeal.sig) → Buf (Elt Ideal) ℓ) : Prop :=
  ∀ c : Dev Cert.SwigluKernelIdeal.nD,
    (Cert.Pre_finite_swiglu.fn (F := Ideal) (m ((c.tc : Thread Cert.SwigluKernelIdeal.nD Cert.SwigluKernelIdeal.τ).loc Cert.SwigluKernelIdeal.main_arg0)) (m ((c.tc : Thread Cert.SwigluKernelIdeal.nD Cert.SwigluKernelIdeal.τ).loc Cert.SwigluKernelIdeal.main_arg1)) (m ((c.tc : Thread Cert.SwigluKernelIdeal.nD Cert.SwigluKernelIdeal.τ).loc Cert.SwigluKernelIdeal.main_arg2))) = (fun _ => 1#1)

def Pre_SwigluReferenceIdeal (m : (ℓ : Loc Cert.SwigluReferenceIdeal.nD Cert.SwigluReferenceIdeal.τ Cert.SwigluReferenceIdeal.sig) → Buf (Elt Ideal) ℓ) : Prop :=
  True

def Pre_SwigluReferenceIdeal_finite_swiglu [hPre_finite_swiglu : Cert.Pre_finite_swiglu.Facts] (m : (ℓ : Loc Cert.SwigluReferenceIdeal.nD Cert.SwigluReferenceIdeal.τ Cert.SwigluReferenceIdeal.sig) → Buf (Elt Ideal) ℓ) : Prop :=
  ∀ c : Dev Cert.SwigluReferenceIdeal.nD,
    (Cert.Pre_finite_swiglu.fn (F := Ideal) (m ((c.tc : Thread Cert.SwigluReferenceIdeal.nD Cert.SwigluReferenceIdeal.τ).loc Cert.SwigluReferenceIdeal.main_arg0)) (m ((c.tc : Thread Cert.SwigluReferenceIdeal.nD Cert.SwigluReferenceIdeal.τ).loc Cert.SwigluReferenceIdeal.main_arg1)) (m ((c.tc : Thread Cert.SwigluReferenceIdeal.nD Cert.SwigluReferenceIdeal.τ).loc Cert.SwigluReferenceIdeal.main_arg2))) = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_finite_loss [hPre_finite_loss : Cert.Pre_finite_loss.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4))) = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_finite_loss [hPre_finite_loss : Cert.Pre_finite_loss.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4))) = (fun _ => 1#1)

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixKernelIdeal_finite_mix [hPre_finite_mix : Cert.Pre_finite_mix.Facts] (m : (ℓ : Loc Cert.MixKernelIdeal.nD Cert.MixKernelIdeal.τ Cert.MixKernelIdeal.sig) → Buf (Elt Ideal) ℓ) : Prop :=
  ∀ c : Dev Cert.MixKernelIdeal.nD,
    (Cert.Pre_finite_mix.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6))) = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_finite_mix [hPre_finite_mix : Cert.Pre_finite_mix.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_finite_mix.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6))) = (fun _ => 1#1)

def Pre_PreKernel (m : (ℓ : Loc Cert.PreKernel.nD Cert.PreKernel.τ Cert.PreKernel.sig) → Buf (Elt Bits) ℓ) : Prop :=
  True

def Pre_PreKernelIdeal (m : (ℓ : Loc Cert.PreKernelIdeal.nD Cert.PreKernelIdeal.τ Cert.PreKernelIdeal.sig) → Buf (Elt Ideal) ℓ) : Prop :=
  True

def Pre_PreKernelIdeal_finite_pre [hPre_finite_pre : Cert.Pre_finite_pre.Facts] (m : (ℓ : Loc Cert.PreKernelIdeal.nD Cert.PreKernelIdeal.τ Cert.PreKernelIdeal.sig) → Buf (Elt Ideal) ℓ) : Prop :=
  ∀ c : Dev Cert.PreKernelIdeal.nD,
    (Cert.Pre_finite_pre.fn (F := Ideal) (m ((c.tc : Thread Cert.PreKernelIdeal.nD Cert.PreKernelIdeal.τ).loc Cert.PreKernelIdeal.main_arg0)) (m ((c.tc : Thread Cert.PreKernelIdeal.nD Cert.PreKernelIdeal.τ).loc Cert.PreKernelIdeal.main_arg1)) (m ((c.tc : Thread Cert.PreKernelIdeal.nD Cert.PreKernelIdeal.τ).loc Cert.PreKernelIdeal.main_arg2)) (m ((c.tc : Thread Cert.PreKernelIdeal.nD Cert.PreKernelIdeal.τ).loc Cert.PreKernelIdeal.main_arg3)) (m ((c.tc : Thread Cert.PreKernelIdeal.nD Cert.PreKernelIdeal.τ).loc Cert.PreKernelIdeal.main_arg4)) (m ((c.tc : Thread Cert.PreKernelIdeal.nD Cert.PreKernelIdeal.τ).loc Cert.PreKernelIdeal.main_arg5)) (m ((c.tc : Thread Cert.PreKernelIdeal.nD Cert.PreKernelIdeal.τ).loc Cert.PreKernelIdeal.main_arg6))) = (fun _ => 1#1)

def Pre_PreReferenceIdeal (m : (ℓ : Loc Cert.PreReferenceIdeal.nD Cert.PreReferenceIdeal.τ Cert.PreReferenceIdeal.sig) → Buf (Elt Ideal) ℓ) : Prop :=
  True

def Pre_PreReferenceIdeal_finite_pre [hPre_finite_pre : Cert.Pre_finite_pre.Facts] (m : (ℓ : Loc Cert.PreReferenceIdeal.nD Cert.PreReferenceIdeal.τ Cert.PreReferenceIdeal.sig) → Buf (Elt Ideal) ℓ) : Prop :=
  ∀ c : Dev Cert.PreReferenceIdeal.nD,
    (Cert.Pre_finite_pre.fn (F := Ideal) (m ((c.tc : Thread Cert.PreReferenceIdeal.nD Cert.PreReferenceIdeal.τ).loc Cert.PreReferenceIdeal.main_arg0)) (m ((c.tc : Thread Cert.PreReferenceIdeal.nD Cert.PreReferenceIdeal.τ).loc Cert.PreReferenceIdeal.main_arg1)) (m ((c.tc : Thread Cert.PreReferenceIdeal.nD Cert.PreReferenceIdeal.τ).loc Cert.PreReferenceIdeal.main_arg2)) (m ((c.tc : Thread Cert.PreReferenceIdeal.nD Cert.PreReferenceIdeal.τ).loc Cert.PreReferenceIdeal.main_arg3)) (m ((c.tc : Thread Cert.PreReferenceIdeal.nD Cert.PreReferenceIdeal.τ).loc Cert.PreReferenceIdeal.main_arg4)) (m ((c.tc : Thread Cert.PreReferenceIdeal.nD Cert.PreReferenceIdeal.τ).loc Cert.PreReferenceIdeal.main_arg5)) (m ((c.tc : Thread Cert.PreReferenceIdeal.nD Cert.PreReferenceIdeal.τ).loc Cert.PreReferenceIdeal.main_arg6))) = (fun _ => 1#1)

def Pre_SbfKernel (m : (ℓ : Loc Cert.SbfKernel.nD Cert.SbfKernel.τ Cert.SbfKernel.sig) → Buf (Elt Bits) ℓ) : Prop :=
  True

def Pre_SbfKernelIdeal (m : (ℓ : Loc Cert.SbfKernelIdeal.nD Cert.SbfKernelIdeal.τ Cert.SbfKernelIdeal.sig) → Buf (Elt Ideal) ℓ) : Prop :=
  True

def Pre_SbfKernelIdeal_moderate_forward [hPre_moderate_forward : Cert.Pre_moderate_forward.Facts] (m : (ℓ : Loc Cert.SbfKernelIdeal.nD Cert.SbfKernelIdeal.τ Cert.SbfKernelIdeal.sig) → Buf (Elt Ideal) ℓ) : Prop :=
  ∀ c : Dev Cert.SbfKernelIdeal.nD,
    (Cert.Pre_moderate_forward.fn (F := Ideal) (m ((c.tc : Thread Cert.SbfKernelIdeal.nD Cert.SbfKernelIdeal.τ).loc Cert.SbfKernelIdeal.main_arg0)) (m ((c.tc : Thread Cert.SbfKernelIdeal.nD Cert.SbfKernelIdeal.τ).loc Cert.SbfKernelIdeal.main_arg1)) (m ((c.tc : Thread Cert.SbfKernelIdeal.nD Cert.SbfKernelIdeal.τ).loc Cert.SbfKernelIdeal.main_arg2))) = (fun _ => 1#1)

def Pre_SbfReferenceIdeal (m : (ℓ : Loc Cert.SbfReferenceIdeal.nD Cert.SbfReferenceIdeal.τ Cert.SbfReferenceIdeal.sig) → Buf (Elt Ideal) ℓ) : Prop :=
  True

def Pre_SbfReferenceIdeal_moderate_forward [hPre_moderate_forward : Cert.Pre_moderate_forward.Facts] (m : (ℓ : Loc Cert.SbfReferenceIdeal.nD Cert.SbfReferenceIdeal.τ Cert.SbfReferenceIdeal.sig) → Buf (Elt Ideal) ℓ) : Prop :=
  ∀ c : Dev Cert.SbfReferenceIdeal.nD,
    (Cert.Pre_moderate_forward.fn (F := Ideal) (m ((c.tc : Thread Cert.SbfReferenceIdeal.nD Cert.SbfReferenceIdeal.τ).loc Cert.SbfReferenceIdeal.main_arg0)) (m ((c.tc : Thread Cert.SbfReferenceIdeal.nD Cert.SbfReferenceIdeal.τ).loc Cert.SbfReferenceIdeal.main_arg1)) (m ((c.tc : Thread Cert.SbfReferenceIdeal.nD Cert.SbfReferenceIdeal.τ).loc Cert.SbfReferenceIdeal.main_arg2))) = (fun _ => 1#1)

def Pre_MemfKernel (m : (ℓ : Loc Cert.MemfKernel.nD Cert.MemfKernel.τ Cert.MemfKernel.sig) → Buf (Elt Bits) ℓ) : Prop :=
  True

def Pre_MemfKernelIdeal (m : (ℓ : Loc Cert.MemfKernelIdeal.nD Cert.MemfKernelIdeal.τ Cert.MemfKernelIdeal.sig) → Buf (Elt Ideal) ℓ) : Prop :=
  True

def Pre_MemfReferenceIdeal (m : (ℓ : Loc Cert.MemfReferenceIdeal.nD Cert.MemfReferenceIdeal.τ Cert.MemfReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_GwKernel (m : (ℓ : Loc Cert.GwKernel.nD Cert.GwKernel.τ Cert.GwKernel.sig) → Buf (Elt Bits) ℓ) : Prop :=
  True

def Pre_GwKernelIdeal (m : (ℓ : Loc Cert.GwKernelIdeal.nD Cert.GwKernelIdeal.τ Cert.GwKernelIdeal.sig) → Buf (Elt Ideal) ℓ) : Prop :=
  True

def Pre_GwReferenceIdeal (m : (ℓ : Loc Cert.GwReferenceIdeal.nD Cert.GwReferenceIdeal.τ Cert.GwReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_SmallKernel (m : (ℓ : Loc Cert.SmallKernel.nD Cert.SmallKernel.τ Cert.SmallKernel.sig) → Buf (Elt Bits) ℓ) : Prop :=
  True

def Pre_SmallKernelIdeal (m : (ℓ : Loc Cert.SmallKernelIdeal.nD Cert.SmallKernelIdeal.τ Cert.SmallKernelIdeal.sig) → Buf (Elt Ideal) ℓ) : Prop :=
  True

def Pre_SmallReferenceIdeal (m : (ℓ : Loc Cert.SmallReferenceIdeal.nD Cert.SmallReferenceIdeal.τ Cert.SmallReferenceIdeal.sig) → Buf (Elt Ideal) ℓ) : Prop :=
  True

def quiescent_GainKernel [hGainKernel : Cert.GainKernel.Facts] : Prop :=
  ∀ (m : (ℓ : Loc Cert.GainKernel.nD Cert.GainKernel.τ Cert.GainKernel.sig) → Buf (Elt Bits) ℓ) (g : Dev Cert.GainKernel.nD → PrngReg), Pre_GainKernel m →
    θ_run (Cert.GainKernel.defs (F := Bits)) (onTc (τ := Cert.GainKernel.τ) (Cert.GainKernel.main (F := Bits))) ⟨m, fun _ => 0, g⟩ (fun r => (∀ c : Dev Cert.GainKernel.nD,
      r.2.mem ((c.tc : Thread Cert.GainKernel.nD Cert.GainKernel.τ).loc Cert.GainKernel.main_arg0) = m ((c.tc : Thread Cert.GainKernel.nD Cert.GainKernel.τ).loc Cert.GainKernel.main_arg0)
      ∧ r.2.mem ((c.tc : Thread Cert.GainKernel.nD Cert.GainKernel.τ).loc Cert.GainKernel.main_arg1) = m ((c.tc : Thread Cert.GainKernel.nD Cert.GainKernel.τ).loc Cert.GainKernel.main_arg1)
      ∧ r.2.mem ((c.tc : Thread Cert.GainKernel.nD Cert.GainKernel.τ).loc Cert.GainKernel.main_arg2) = m ((c.tc : Thread Cert.GainKernel.nD Cert.GainKernel.τ).loc Cert.GainKernel.main_arg2))
      ∧ r.2.sem = fun _ => 0)

def quiescent_GainKernelIdeal [hGainKernelIdeal : Cert.GainKernelIdeal.Facts] : Prop :=
  ∀ (m : (ℓ : Loc Cert.GainKernelIdeal.nD Cert.GainKernelIdeal.τ Cert.GainKernelIdeal.sig) → Buf (Elt Ideal) ℓ) (g : Dev Cert.GainKernelIdeal.nD → PrngReg), Pre_GainKernelIdeal m →
    θ_run (Cert.GainKernelIdeal.defs (F := Ideal)) (onTc (τ := Cert.GainKernelIdeal.τ) (Cert.GainKernelIdeal.main (F := Ideal))) ⟨m, fun _ => 0, g⟩ (fun r => (∀ c : Dev Cert.GainKernelIdeal.nD,
      r.2.mem ((c.tc : Thread Cert.GainKernelIdeal.nD Cert.GainKernelIdeal.τ).loc Cert.GainKernelIdeal.main_arg0) = m ((c.tc : Thread Cert.GainKernelIdeal.nD Cert.GainKernelIdeal.τ).loc Cert.GainKernelIdeal.main_arg0)
      ∧ r.2.mem ((c.tc : Thread Cert.GainKernelIdeal.nD Cert.GainKernelIdeal.τ).loc Cert.GainKernelIdeal.main_arg1) = m ((c.tc : Thread Cert.GainKernelIdeal.nD Cert.GainKernelIdeal.τ).loc Cert.GainKernelIdeal.main_arg1)
      ∧ r.2.mem ((c.tc : Thread Cert.GainKernelIdeal.nD Cert.GainKernelIdeal.τ).loc Cert.GainKernelIdeal.main_arg2) = m ((c.tc : Thread Cert.GainKernelIdeal.nD Cert.GainKernelIdeal.τ).loc Cert.GainKernelIdeal.main_arg2))
      ∧ r.2.sem = fun _ => 0)

def quiescent_GainReferenceIdeal [hGainReferenceIdeal : Cert.GainReferenceIdeal.Facts] : Prop :=
  ∀ (m : (ℓ : Loc Cert.GainReferenceIdeal.nD Cert.GainReferenceIdeal.τ Cert.GainReferenceIdeal.sig) → Buf (Elt Ideal) ℓ) (g : Dev Cert.GainReferenceIdeal.nD → PrngReg), Pre_GainReferenceIdeal m →
    θ_run (Cert.GainReferenceIdeal.defs (F := Ideal)) (onTc (τ := Cert.GainReferenceIdeal.τ) (Cert.GainReferenceIdeal.main (F := Ideal))) ⟨m, fun _ => 0, g⟩ (fun r => (∀ c : Dev Cert.GainReferenceIdeal.nD,
      r.2.mem ((c.tc : Thread Cert.GainReferenceIdeal.nD Cert.GainReferenceIdeal.τ).loc Cert.GainReferenceIdeal.main_arg0) = m ((c.tc : Thread Cert.GainReferenceIdeal.nD Cert.GainReferenceIdeal.τ).loc Cert.GainReferenceIdeal.main_arg0)
      ∧ r.2.mem ((c.tc : Thread Cert.GainReferenceIdeal.nD Cert.GainReferenceIdeal.τ).loc Cert.GainReferenceIdeal.main_arg1) = m ((c.tc : Thread Cert.GainReferenceIdeal.nD Cert.GainReferenceIdeal.τ).loc Cert.GainReferenceIdeal.main_arg1)
      ∧ r.2.mem ((c.tc : Thread Cert.GainReferenceIdeal.nD Cert.GainReferenceIdeal.τ).loc Cert.GainReferenceIdeal.main_arg2) = m ((c.tc : Thread Cert.GainReferenceIdeal.nD Cert.GainReferenceIdeal.τ).loc Cert.GainReferenceIdeal.main_arg2))
      ∧ r.2.sem = fun _ => 0)

def quiescent_SbKernel [hSbKernel : Cert.SbKernel.Facts] : Prop :=
  ∀ (m : (ℓ : Loc Cert.SbKernel.nD Cert.SbKernel.τ Cert.SbKernel.sig) → Buf (Elt Bits) ℓ) (g : Dev Cert.SbKernel.nD → PrngReg), Pre_SbKernel m →
    θ_run (Cert.SbKernel.defs (F := Bits)) (onTc (τ := Cert.SbKernel.τ) (Cert.SbKernel.main (F := Bits))) ⟨m, fun _ => 0, g⟩ (fun r => (∀ c : Dev Cert.SbKernel.nD,
      r.2.mem ((c.tc : Thread Cert.SbKernel.nD Cert.SbKernel.τ).loc Cert.SbKernel.main_arg0) = m ((c.tc : Thread Cert.SbKernel.nD Cert.SbKernel.τ).loc Cert.SbKernel.main_arg0)
      ∧ r.2.mem ((c.tc : Thread Cert.SbKernel.nD Cert.SbKernel.τ).loc Cert.SbKernel.main_arg1) = m ((c.tc : Thread Cert.SbKernel.nD Cert.SbKernel.τ).loc Cert.SbKernel.main_arg1)
      ∧ r.2.mem ((c.tc : Thread Cert.SbKernel.nD Cert.SbKernel.τ).loc Cert.SbKernel.main_arg2) = m ((c.tc : Thread Cert.SbKernel.nD Cert.SbKernel.τ).loc Cert.SbKernel.main_arg2)
      ∧ r.2.mem ((c.tc : Thread Cert.SbKernel.nD Cert.SbKernel.τ).loc Cert.SbKernel.main_arg3) = m ((c.tc : Thread Cert.SbKernel.nD Cert.SbKernel.τ).loc Cert.SbKernel.main_arg3))
      ∧ r.2.sem = fun _ => 0)

def quiescent_SbKernelIdeal [hSbKernelIdeal : Cert.SbKernelIdeal.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
      ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1)
      ∧ r.2.mem ((c.tc : Thread Cert.SbKernelIdeal.nD Cert.SbKernelIdeal.τ).loc Cert.SbKernelIdeal.main_arg2) = m ((c.tc : Thread Cert.SbKernelIdeal.nD Cert.SbKernelIdeal.τ).loc Cert.SbKernelIdeal.main_arg2)
      ∧ r.2.mem ((c.tc : Thread Cert.SbKernelIdeal.nD Cert.SbKernelIdeal.τ).loc Cert.SbKernelIdeal.main_arg3) = m ((c.tc : Thread Cert.SbKernelIdeal.nD Cert.SbKernelIdeal.τ).loc Cert.SbKernelIdeal.main_arg3))
      ∧ r.2.sem = fun _ => 0)

def quiescent_SbKernelIdeal_pre_moderate_scores [hSbKernelIdeal : Cert.SbKernelIdeal.Facts] [hPre_moderate_scores : Cert.Pre_moderate_scores.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal_moderate_scores m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
      ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1)
      ∧ r.2.mem ((c.tc : Thread Cert.SbKernelIdeal.nD Cert.SbKernelIdeal.τ).loc Cert.SbKernelIdeal.main_arg2) = m ((c.tc : Thread Cert.SbKernelIdeal.nD Cert.SbKernelIdeal.τ).loc Cert.SbKernelIdeal.main_arg2)
      ∧ r.2.mem ((c.tc : Thread Cert.SbKernelIdeal.nD Cert.SbKernelIdeal.τ).loc Cert.SbKernelIdeal.main_arg3) = m ((c.tc : Thread Cert.SbKernelIdeal.nD Cert.SbKernelIdeal.τ).loc Cert.SbKernelIdeal.main_arg3))
      ∧ r.2.sem = fun _ => 0)

def quiescent_SbReferenceIdeal [hSbReferenceIdeal : Cert.SbReferenceIdeal.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1)
      ∧ r.2.mem ((c.tc : Thread Cert.SbReferenceIdeal.nD Cert.SbReferenceIdeal.τ).loc Cert.SbReferenceIdeal.main_arg2) = m ((c.tc : Thread Cert.SbReferenceIdeal.nD Cert.SbReferenceIdeal.τ).loc Cert.SbReferenceIdeal.main_arg2)
      ∧ r.2.mem ((c.tc : Thread Cert.SbReferenceIdeal.nD Cert.SbReferenceIdeal.τ).loc Cert.SbReferenceIdeal.main_arg3) = m ((c.tc : Thread Cert.SbReferenceIdeal.nD Cert.SbReferenceIdeal.τ).loc Cert.SbReferenceIdeal.main_arg3))
      ∧ r.2.sem = fun _ => 0)

def quiescent_SbReferenceIdeal_pre_moderate_scores [hSbReferenceIdeal : Cert.SbReferenceIdeal.Facts] [hPre_moderate_scores : Cert.Pre_moderate_scores.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal_moderate_scores m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1)
      ∧ r.2.mem ((c.tc : Thread Cert.SbReferenceIdeal.nD Cert.SbReferenceIdeal.τ).loc Cert.SbReferenceIdeal.main_arg2) = m ((c.tc : Thread Cert.SbReferenceIdeal.nD Cert.SbReferenceIdeal.τ).loc Cert.SbReferenceIdeal.main_arg2)
      ∧ r.2.mem ((c.tc : Thread Cert.SbReferenceIdeal.nD Cert.SbReferenceIdeal.τ).loc Cert.SbReferenceIdeal.main_arg3) = m ((c.tc : Thread Cert.SbReferenceIdeal.nD Cert.SbReferenceIdeal.τ).loc Cert.SbReferenceIdeal.main_arg3))
      ∧ r.2.sem = fun _ => 0)

def quiescent_MemKernel [hMemKernel : Cert.MemKernel.Facts] : Prop :=
  ∀ (m : (ℓ : Loc Cert.MemKernel.nD Cert.MemKernel.τ Cert.MemKernel.sig) → Buf (Elt Bits) ℓ) (g : Dev Cert.MemKernel.nD → PrngReg), Pre_MemKernel m →
    θ_run (Cert.MemKernel.defs (F := Bits)) (onTc (τ := Cert.MemKernel.τ) (Cert.MemKernel.main (F := Bits))) ⟨m, fun _ => 0, g⟩ (fun r => (∀ c : Dev Cert.MemKernel.nD,
      r.2.mem ((c.tc : Thread Cert.MemKernel.nD Cert.MemKernel.τ).loc Cert.MemKernel.main_arg0) = m ((c.tc : Thread Cert.MemKernel.nD Cert.MemKernel.τ).loc Cert.MemKernel.main_arg0)
      ∧ r.2.mem ((c.tc : Thread Cert.MemKernel.nD Cert.MemKernel.τ).loc Cert.MemKernel.main_arg1) = m ((c.tc : Thread Cert.MemKernel.nD Cert.MemKernel.τ).loc Cert.MemKernel.main_arg1)
      ∧ r.2.mem ((c.tc : Thread Cert.MemKernel.nD Cert.MemKernel.τ).loc Cert.MemKernel.main_arg2) = m ((c.tc : Thread Cert.MemKernel.nD Cert.MemKernel.τ).loc Cert.MemKernel.main_arg2)
      ∧ r.2.mem ((c.tc : Thread Cert.MemKernel.nD Cert.MemKernel.τ).loc Cert.MemKernel.main_arg3) = m ((c.tc : Thread Cert.MemKernel.nD Cert.MemKernel.τ).loc Cert.MemKernel.main_arg3))
      ∧ r.2.sem = fun _ => 0)

def quiescent_MemKernelIdeal [hMemKernelIdeal : Cert.MemKernelIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
      ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3))
      ∧ r.2.sem = fun _ => 0)

def quiescent_MemKernelIdeal_pre_finite_memory [hMemKernelIdeal : Cert.MemKernelIdeal.Facts] [hPre_finite_memory : Cert.Pre_finite_memory.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal_finite_memory m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
      ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3))
      ∧ r.2.sem = fun _ => 0)

def quiescent_MemReferenceIdeal_pre_finite_memory [hMemReferenceIdeal : Cert.MemReferenceIdeal.Facts] [hPre_finite_memory : Cert.Pre_finite_memory.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal_finite_memory m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3)
      ∧ r.2.mem ((c.tc : Thread Cert.GateKernel.nD Cert.GateKernel.τ).loc Cert.GateKernel.main_arg4) = m ((c.tc : Thread Cert.GateKernel.nD Cert.GateKernel.τ).loc Cert.GateKernel.main_arg4)
      ∧ r.2.mem ((c.tc : Thread Cert.GateKernel.nD Cert.GateKernel.τ).loc Cert.GateKernel.main_arg5) = m ((c.tc : Thread Cert.GateKernel.nD Cert.GateKernel.τ).loc Cert.GateKernel.main_arg5)
      ∧ r.2.mem ((c.tc : Thread Cert.GateKernel.nD Cert.GateKernel.τ).loc Cert.GateKernel.main_arg6) = m ((c.tc : Thread Cert.GateKernel.nD Cert.GateKernel.τ).loc Cert.GateKernel.main_arg6))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4)
      ∧ r.2.mem ((c.tc : Thread Cert.GateKernelIdeal.nD Cert.GateKernelIdeal.τ).loc Cert.GateKernelIdeal.main_arg5) = m ((c.tc : Thread Cert.GateKernelIdeal.nD Cert.GateKernelIdeal.τ).loc Cert.GateKernelIdeal.main_arg5)
      ∧ r.2.mem ((c.tc : Thread Cert.GateKernelIdeal.nD Cert.GateKernelIdeal.τ).loc Cert.GateKernelIdeal.main_arg6) = m ((c.tc : Thread Cert.GateKernelIdeal.nD Cert.GateKernelIdeal.τ).loc Cert.GateKernelIdeal.main_arg6))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4)
      ∧ r.2.mem ((c.tc : Thread Cert.GateReferenceIdeal.nD Cert.GateReferenceIdeal.τ).loc Cert.GateReferenceIdeal.main_arg5) = m ((c.tc : Thread Cert.GateReferenceIdeal.nD Cert.GateReferenceIdeal.τ).loc Cert.GateReferenceIdeal.main_arg5)
      ∧ r.2.mem ((c.tc : Thread Cert.GateReferenceIdeal.nD Cert.GateReferenceIdeal.τ).loc Cert.GateReferenceIdeal.main_arg6) = m ((c.tc : Thread Cert.GateReferenceIdeal.nD Cert.GateReferenceIdeal.τ).loc Cert.GateReferenceIdeal.main_arg6))
      ∧ r.2.sem = fun _ => 0)

def quiescent_SwigluKernel [hSwigluKernel : Cert.SwigluKernel.Facts] : Prop :=
  ∀ (m : (ℓ : Loc Cert.SwigluKernel.nD Cert.SwigluKernel.τ Cert.SwigluKernel.sig) → Buf (Elt Bits) ℓ) (g : Dev Cert.SwigluKernel.nD → PrngReg), Pre_SwigluKernel m →
    θ_run (Cert.SwigluKernel.defs (F := Bits)) (onTc (τ := Cert.SwigluKernel.τ) (Cert.SwigluKernel.main (F := Bits))) ⟨m, fun _ => 0, g⟩ (fun r => (∀ c : Dev Cert.SwigluKernel.nD,
      r.2.mem ((c.tc : Thread Cert.SwigluKernel.nD Cert.SwigluKernel.τ).loc Cert.SwigluKernel.main_arg0) = m ((c.tc : Thread Cert.SwigluKernel.nD Cert.SwigluKernel.τ).loc Cert.SwigluKernel.main_arg0)
      ∧ r.2.mem ((c.tc : Thread Cert.SwigluKernel.nD Cert.SwigluKernel.τ).loc Cert.SwigluKernel.main_arg1) = m ((c.tc : Thread Cert.SwigluKernel.nD Cert.SwigluKernel.τ).loc Cert.SwigluKernel.main_arg1)
      ∧ r.2.mem ((c.tc : Thread Cert.SwigluKernel.nD Cert.SwigluKernel.τ).loc Cert.SwigluKernel.main_arg2) = m ((c.tc : Thread Cert.SwigluKernel.nD Cert.SwigluKernel.τ).loc Cert.SwigluKernel.main_arg2))
      ∧ r.2.sem = fun _ => 0)

def quiescent_SwigluKernelIdeal [hSwigluKernelIdeal : Cert.SwigluKernelIdeal.Facts] : Prop :=
  ∀ (m : (ℓ : Loc Cert.SwigluKernelIdeal.nD Cert.SwigluKernelIdeal.τ Cert.SwigluKernelIdeal.sig) → Buf (Elt Ideal) ℓ) (g : Dev Cert.SwigluKernelIdeal.nD → PrngReg), Pre_SwigluKernelIdeal m →
    θ_run (Cert.SwigluKernelIdeal.defs (F := Ideal)) (onTc (τ := Cert.SwigluKernelIdeal.τ) (Cert.SwigluKernelIdeal.main (F := Ideal))) ⟨m, fun _ => 0, g⟩ (fun r => (∀ c : Dev Cert.SwigluKernelIdeal.nD,
      r.2.mem ((c.tc : Thread Cert.SwigluKernelIdeal.nD Cert.SwigluKernelIdeal.τ).loc Cert.SwigluKernelIdeal.main_arg0) = m ((c.tc : Thread Cert.SwigluKernelIdeal.nD Cert.SwigluKernelIdeal.τ).loc Cert.SwigluKernelIdeal.main_arg0)
      ∧ r.2.mem ((c.tc : Thread Cert.SwigluKernelIdeal.nD Cert.SwigluKernelIdeal.τ).loc Cert.SwigluKernelIdeal.main_arg1) = m ((c.tc : Thread Cert.SwigluKernelIdeal.nD Cert.SwigluKernelIdeal.τ).loc Cert.SwigluKernelIdeal.main_arg1)
      ∧ r.2.mem ((c.tc : Thread Cert.SwigluKernelIdeal.nD Cert.SwigluKernelIdeal.τ).loc Cert.SwigluKernelIdeal.main_arg2) = m ((c.tc : Thread Cert.SwigluKernelIdeal.nD Cert.SwigluKernelIdeal.τ).loc Cert.SwigluKernelIdeal.main_arg2))
      ∧ r.2.sem = fun _ => 0)

def quiescent_SwigluKernelIdeal_pre_finite_swiglu [hSwigluKernelIdeal : Cert.SwigluKernelIdeal.Facts] [hPre_finite_swiglu : Cert.Pre_finite_swiglu.Facts] : Prop :=
  ∀ (m : (ℓ : Loc Cert.SwigluKernelIdeal.nD Cert.SwigluKernelIdeal.τ Cert.SwigluKernelIdeal.sig) → Buf (Elt Ideal) ℓ) (g : Dev Cert.SwigluKernelIdeal.nD → PrngReg), Pre_SwigluKernelIdeal_finite_swiglu m →
    θ_run (Cert.SwigluKernelIdeal.defs (F := Ideal)) (onTc (τ := Cert.SwigluKernelIdeal.τ) (Cert.SwigluKernelIdeal.main (F := Ideal))) ⟨m, fun _ => 0, g⟩ (fun r => (∀ c : Dev Cert.SwigluKernelIdeal.nD,
      r.2.mem ((c.tc : Thread Cert.SwigluKernelIdeal.nD Cert.SwigluKernelIdeal.τ).loc Cert.SwigluKernelIdeal.main_arg0) = m ((c.tc : Thread Cert.SwigluKernelIdeal.nD Cert.SwigluKernelIdeal.τ).loc Cert.SwigluKernelIdeal.main_arg0)
      ∧ r.2.mem ((c.tc : Thread Cert.SwigluKernelIdeal.nD Cert.SwigluKernelIdeal.τ).loc Cert.SwigluKernelIdeal.main_arg1) = m ((c.tc : Thread Cert.SwigluKernelIdeal.nD Cert.SwigluKernelIdeal.τ).loc Cert.SwigluKernelIdeal.main_arg1)
      ∧ r.2.mem ((c.tc : Thread Cert.SwigluKernelIdeal.nD Cert.SwigluKernelIdeal.τ).loc Cert.SwigluKernelIdeal.main_arg2) = m ((c.tc : Thread Cert.SwigluKernelIdeal.nD Cert.SwigluKernelIdeal.τ).loc Cert.SwigluKernelIdeal.main_arg2))
      ∧ r.2.sem = fun _ => 0)

def quiescent_SwigluReferenceIdeal [hSwigluReferenceIdeal : Cert.SwigluReferenceIdeal.Facts] : Prop :=
  ∀ (m : (ℓ : Loc Cert.SwigluReferenceIdeal.nD Cert.SwigluReferenceIdeal.τ Cert.SwigluReferenceIdeal.sig) → Buf (Elt Ideal) ℓ) (g : Dev Cert.SwigluReferenceIdeal.nD → PrngReg), Pre_SwigluReferenceIdeal m →
    θ_run (Cert.SwigluReferenceIdeal.defs (F := Ideal)) (onTc (τ := Cert.SwigluReferenceIdeal.τ) (Cert.SwigluReferenceIdeal.main (F := Ideal))) ⟨m, fun _ => 0, g⟩ (fun r => (∀ c : Dev Cert.SwigluReferenceIdeal.nD,
      r.2.mem ((c.tc : Thread Cert.SwigluReferenceIdeal.nD Cert.SwigluReferenceIdeal.τ).loc Cert.SwigluReferenceIdeal.main_arg0) = m ((c.tc : Thread Cert.SwigluReferenceIdeal.nD Cert.SwigluReferenceIdeal.τ).loc Cert.SwigluReferenceIdeal.main_arg0)
      ∧ r.2.mem ((c.tc : Thread Cert.SwigluReferenceIdeal.nD Cert.SwigluReferenceIdeal.τ).loc Cert.SwigluReferenceIdeal.main_arg1) = m ((c.tc : Thread Cert.SwigluReferenceIdeal.nD Cert.SwigluReferenceIdeal.τ).loc Cert.SwigluReferenceIdeal.main_arg1)
      ∧ r.2.mem ((c.tc : Thread Cert.SwigluReferenceIdeal.nD Cert.SwigluReferenceIdeal.τ).loc Cert.SwigluReferenceIdeal.main_arg2) = m ((c.tc : Thread Cert.SwigluReferenceIdeal.nD Cert.SwigluReferenceIdeal.τ).loc Cert.SwigluReferenceIdeal.main_arg2))
      ∧ r.2.sem = fun _ => 0)

def quiescent_SwigluReferenceIdeal_pre_finite_swiglu [hSwigluReferenceIdeal : Cert.SwigluReferenceIdeal.Facts] [hPre_finite_swiglu : Cert.Pre_finite_swiglu.Facts] : Prop :=
  ∀ (m : (ℓ : Loc Cert.SwigluReferenceIdeal.nD Cert.SwigluReferenceIdeal.τ Cert.SwigluReferenceIdeal.sig) → Buf (Elt Ideal) ℓ) (g : Dev Cert.SwigluReferenceIdeal.nD → PrngReg), Pre_SwigluReferenceIdeal_finite_swiglu m →
    θ_run (Cert.SwigluReferenceIdeal.defs (F := Ideal)) (onTc (τ := Cert.SwigluReferenceIdeal.τ) (Cert.SwigluReferenceIdeal.main (F := Ideal))) ⟨m, fun _ => 0, g⟩ (fun r => (∀ c : Dev Cert.SwigluReferenceIdeal.nD,
      r.2.mem ((c.tc : Thread Cert.SwigluReferenceIdeal.nD Cert.SwigluReferenceIdeal.τ).loc Cert.SwigluReferenceIdeal.main_arg0) = m ((c.tc : Thread Cert.SwigluReferenceIdeal.nD Cert.SwigluReferenceIdeal.τ).loc Cert.SwigluReferenceIdeal.main_arg0)
      ∧ r.2.mem ((c.tc : Thread Cert.SwigluReferenceIdeal.nD Cert.SwigluReferenceIdeal.τ).loc Cert.SwigluReferenceIdeal.main_arg1) = m ((c.tc : Thread Cert.SwigluReferenceIdeal.nD Cert.SwigluReferenceIdeal.τ).loc Cert.SwigluReferenceIdeal.main_arg1)
      ∧ r.2.mem ((c.tc : Thread Cert.SwigluReferenceIdeal.nD Cert.SwigluReferenceIdeal.τ).loc Cert.SwigluReferenceIdeal.main_arg2) = m ((c.tc : Thread Cert.SwigluReferenceIdeal.nD Cert.SwigluReferenceIdeal.τ).loc Cert.SwigluReferenceIdeal.main_arg2))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3)
      ∧ r.2.mem ((c.tc : Thread Cert.LossKernel.nD Cert.LossKernel.τ).loc Cert.LossKernel.main_arg4) = m ((c.tc : Thread Cert.LossKernel.nD Cert.LossKernel.τ).loc Cert.LossKernel.main_arg4))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ r.2.sem = fun _ => 0)

def quiescent_LossKernelIdeal_pre_finite_loss [hLossKernelIdeal : Cert.LossKernelIdeal.Facts] [hPre_finite_loss : Cert.Pre_finite_loss.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_finite_loss m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4))
      ∧ r.2.sem = fun _ => 0)

def quiescent_LossReferenceIdeal_pre_finite_loss [hLossReferenceIdeal : Cert.LossReferenceIdeal.Facts] [hPre_finite_loss : Cert.Pre_finite_loss.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_finite_loss m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6))
      ∧ r.2.sem = fun _ => 0)

def quiescent_MixKernelIdeal_pre_finite_mix [hMixKernelIdeal : Cert.MixKernelIdeal.Facts] [hPre_finite_mix : Cert.Pre_finite_mix.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal_finite_mix m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6))
      ∧ r.2.sem = fun _ => 0)

def quiescent_MixReferenceIdeal_pre_finite_mix [hMixReferenceIdeal : Cert.MixReferenceIdeal.Facts] [hPre_finite_mix : Cert.Pre_finite_mix.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_finite_mix m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6))
      ∧ r.2.sem = fun _ => 0)

def quiescent_PreKernel [hPreKernel : Cert.PreKernel.Facts] : Prop :=
  ∀ (m : (ℓ : Loc Cert.PreKernel.nD Cert.PreKernel.τ Cert.PreKernel.sig) → Buf (Elt Bits) ℓ) (g : Dev Cert.PreKernel.nD → PrngReg), Pre_PreKernel m →
    θ_run (Cert.PreKernel.defs (F := Bits)) (onTc (τ := Cert.PreKernel.τ) (Cert.PreKernel.main (F := Bits))) ⟨m, fun _ => 0, g⟩ (fun r => (∀ c : Dev Cert.PreKernel.nD,
      r.2.mem ((c.tc : Thread Cert.PreKernel.nD Cert.PreKernel.τ).loc Cert.PreKernel.main_arg0) = m ((c.tc : Thread Cert.PreKernel.nD Cert.PreKernel.τ).loc Cert.PreKernel.main_arg0)
      ∧ r.2.mem ((c.tc : Thread Cert.PreKernel.nD Cert.PreKernel.τ).loc Cert.PreKernel.main_arg1) = m ((c.tc : Thread Cert.PreKernel.nD Cert.PreKernel.τ).loc Cert.PreKernel.main_arg1)
      ∧ r.2.mem ((c.tc : Thread Cert.PreKernel.nD Cert.PreKernel.τ).loc Cert.PreKernel.main_arg2) = m ((c.tc : Thread Cert.PreKernel.nD Cert.PreKernel.τ).loc Cert.PreKernel.main_arg2)
      ∧ r.2.mem ((c.tc : Thread Cert.PreKernel.nD Cert.PreKernel.τ).loc Cert.PreKernel.main_arg3) = m ((c.tc : Thread Cert.PreKernel.nD Cert.PreKernel.τ).loc Cert.PreKernel.main_arg3)
      ∧ r.2.mem ((c.tc : Thread Cert.PreKernel.nD Cert.PreKernel.τ).loc Cert.PreKernel.main_arg4) = m ((c.tc : Thread Cert.PreKernel.nD Cert.PreKernel.τ).loc Cert.PreKernel.main_arg4)
      ∧ r.2.mem ((c.tc : Thread Cert.PreKernel.nD Cert.PreKernel.τ).loc Cert.PreKernel.main_arg5) = m ((c.tc : Thread Cert.PreKernel.nD Cert.PreKernel.τ).loc Cert.PreKernel.main_arg5)
      ∧ r.2.mem ((c.tc : Thread Cert.PreKernel.nD Cert.PreKernel.τ).loc Cert.PreKernel.main_arg6) = m ((c.tc : Thread Cert.PreKernel.nD Cert.PreKernel.τ).loc Cert.PreKernel.main_arg6))
      ∧ r.2.sem = fun _ => 0)

def quiescent_PreKernelIdeal [hPreKernelIdeal : Cert.PreKernelIdeal.Facts] : Prop :=
  ∀ (m : (ℓ : Loc Cert.PreKernelIdeal.nD Cert.PreKernelIdeal.τ Cert.PreKernelIdeal.sig) → Buf (Elt Ideal) ℓ) (g : Dev Cert.PreKernelIdeal.nD → PrngReg), Pre_PreKernelIdeal m →
    θ_run (Cert.PreKernelIdeal.defs (F := Ideal)) (onTc (τ := Cert.PreKernelIdeal.τ) (Cert.PreKernelIdeal.main (F := Ideal))) ⟨m, fun _ => 0, g⟩ (fun r => (∀ c : Dev Cert.PreKernelIdeal.nD,
      r.2.mem ((c.tc : Thread Cert.PreKernelIdeal.nD Cert.PreKernelIdeal.τ).loc Cert.PreKernelIdeal.main_arg0) = m ((c.tc : Thread Cert.PreKernelIdeal.nD Cert.PreKernelIdeal.τ).loc Cert.PreKernelIdeal.main_arg0)
      ∧ r.2.mem ((c.tc : Thread Cert.PreKernelIdeal.nD Cert.PreKernelIdeal.τ).loc Cert.PreKernelIdeal.main_arg1) = m ((c.tc : Thread Cert.PreKernelIdeal.nD Cert.PreKernelIdeal.τ).loc Cert.PreKernelIdeal.main_arg1)
      ∧ r.2.mem ((c.tc : Thread Cert.PreKernelIdeal.nD Cert.PreKernelIdeal.τ).loc Cert.PreKernelIdeal.main_arg2) = m ((c.tc : Thread Cert.PreKernelIdeal.nD Cert.PreKernelIdeal.τ).loc Cert.PreKernelIdeal.main_arg2)
      ∧ r.2.mem ((c.tc : Thread Cert.PreKernelIdeal.nD Cert.PreKernelIdeal.τ).loc Cert.PreKernelIdeal.main_arg3) = m ((c.tc : Thread Cert.PreKernelIdeal.nD Cert.PreKernelIdeal.τ).loc Cert.PreKernelIdeal.main_arg3)
      ∧ r.2.mem ((c.tc : Thread Cert.PreKernelIdeal.nD Cert.PreKernelIdeal.τ).loc Cert.PreKernelIdeal.main_arg4) = m ((c.tc : Thread Cert.PreKernelIdeal.nD Cert.PreKernelIdeal.τ).loc Cert.PreKernelIdeal.main_arg4)
      ∧ r.2.mem ((c.tc : Thread Cert.PreKernelIdeal.nD Cert.PreKernelIdeal.τ).loc Cert.PreKernelIdeal.main_arg5) = m ((c.tc : Thread Cert.PreKernelIdeal.nD Cert.PreKernelIdeal.τ).loc Cert.PreKernelIdeal.main_arg5)
      ∧ r.2.mem ((c.tc : Thread Cert.PreKernelIdeal.nD Cert.PreKernelIdeal.τ).loc Cert.PreKernelIdeal.main_arg6) = m ((c.tc : Thread Cert.PreKernelIdeal.nD Cert.PreKernelIdeal.τ).loc Cert.PreKernelIdeal.main_arg6))
      ∧ r.2.sem = fun _ => 0)

def quiescent_PreKernelIdeal_pre_finite_pre [hPreKernelIdeal : Cert.PreKernelIdeal.Facts] [hPre_finite_pre : Cert.Pre_finite_pre.Facts] : Prop :=
  ∀ (m : (ℓ : Loc Cert.PreKernelIdeal.nD Cert.PreKernelIdeal.τ Cert.PreKernelIdeal.sig) → Buf (Elt Ideal) ℓ) (g : Dev Cert.PreKernelIdeal.nD → PrngReg), Pre_PreKernelIdeal_finite_pre m →
    θ_run (Cert.PreKernelIdeal.defs (F := Ideal)) (onTc (τ := Cert.PreKernelIdeal.τ) (Cert.PreKernelIdeal.main (F := Ideal))) ⟨m, fun _ => 0, g⟩ (fun r => (∀ c : Dev Cert.PreKernelIdeal.nD,
      r.2.mem ((c.tc : Thread Cert.PreKernelIdeal.nD Cert.PreKernelIdeal.τ).loc Cert.PreKernelIdeal.main_arg0) = m ((c.tc : Thread Cert.PreKernelIdeal.nD Cert.PreKernelIdeal.τ).loc Cert.PreKernelIdeal.main_arg0)
      ∧ r.2.mem ((c.tc : Thread Cert.PreKernelIdeal.nD Cert.PreKernelIdeal.τ).loc Cert.PreKernelIdeal.main_arg1) = m ((c.tc : Thread Cert.PreKernelIdeal.nD Cert.PreKernelIdeal.τ).loc Cert.PreKernelIdeal.main_arg1)
      ∧ r.2.mem ((c.tc : Thread Cert.PreKernelIdeal.nD Cert.PreKernelIdeal.τ).loc Cert.PreKernelIdeal.main_arg2) = m ((c.tc : Thread Cert.PreKernelIdeal.nD Cert.PreKernelIdeal.τ).loc Cert.PreKernelIdeal.main_arg2)
      ∧ r.2.mem ((c.tc : Thread Cert.PreKernelIdeal.nD Cert.PreKernelIdeal.τ).loc Cert.PreKernelIdeal.main_arg3) = m ((c.tc : Thread Cert.PreKernelIdeal.nD Cert.PreKernelIdeal.τ).loc Cert.PreKernelIdeal.main_arg3)
      ∧ r.2.mem ((c.tc : Thread Cert.PreKernelIdeal.nD Cert.PreKernelIdeal.τ).loc Cert.PreKernelIdeal.main_arg4) = m ((c.tc : Thread Cert.PreKernelIdeal.nD Cert.PreKernelIdeal.τ).loc Cert.PreKernelIdeal.main_arg4)
      ∧ r.2.mem ((c.tc : Thread Cert.PreKernelIdeal.nD Cert.PreKernelIdeal.τ).loc Cert.PreKernelIdeal.main_arg5) = m ((c.tc : Thread Cert.PreKernelIdeal.nD Cert.PreKernelIdeal.τ).loc Cert.PreKernelIdeal.main_arg5)
      ∧ r.2.mem ((c.tc : Thread Cert.PreKernelIdeal.nD Cert.PreKernelIdeal.τ).loc Cert.PreKernelIdeal.main_arg6) = m ((c.tc : Thread Cert.PreKernelIdeal.nD Cert.PreKernelIdeal.τ).loc Cert.PreKernelIdeal.main_arg6))
      ∧ r.2.sem = fun _ => 0)

def quiescent_PreReferenceIdeal [hPreReferenceIdeal : Cert.PreReferenceIdeal.Facts] : Prop :=
  ∀ (m : (ℓ : Loc Cert.PreReferenceIdeal.nD Cert.PreReferenceIdeal.τ Cert.PreReferenceIdeal.sig) → Buf (Elt Ideal) ℓ) (g : Dev Cert.PreReferenceIdeal.nD → PrngReg), Pre_PreReferenceIdeal m →
    θ_run (Cert.PreReferenceIdeal.defs (F := Ideal)) (onTc (τ := Cert.PreReferenceIdeal.τ) (Cert.PreReferenceIdeal.main (F := Ideal))) ⟨m, fun _ => 0, g⟩ (fun r => (∀ c : Dev Cert.PreReferenceIdeal.nD,
      r.2.mem ((c.tc : Thread Cert.PreReferenceIdeal.nD Cert.PreReferenceIdeal.τ).loc Cert.PreReferenceIdeal.main_arg0) = m ((c.tc : Thread Cert.PreReferenceIdeal.nD Cert.PreReferenceIdeal.τ).loc Cert.PreReferenceIdeal.main_arg0)
      ∧ r.2.mem ((c.tc : Thread Cert.PreReferenceIdeal.nD Cert.PreReferenceIdeal.τ).loc Cert.PreReferenceIdeal.main_arg1) = m ((c.tc : Thread Cert.PreReferenceIdeal.nD Cert.PreReferenceIdeal.τ).loc Cert.PreReferenceIdeal.main_arg1)
      ∧ r.2.mem ((c.tc : Thread Cert.PreReferenceIdeal.nD Cert.PreReferenceIdeal.τ).loc Cert.PreReferenceIdeal.main_arg2) = m ((c.tc : Thread Cert.PreReferenceIdeal.nD Cert.PreReferenceIdeal.τ).loc Cert.PreReferenceIdeal.main_arg2)
      ∧ r.2.mem ((c.tc : Thread Cert.PreReferenceIdeal.nD Cert.PreReferenceIdeal.τ).loc Cert.PreReferenceIdeal.main_arg3) = m ((c.tc : Thread Cert.PreReferenceIdeal.nD Cert.PreReferenceIdeal.τ).loc Cert.PreReferenceIdeal.main_arg3)
      ∧ r.2.mem ((c.tc : Thread Cert.PreReferenceIdeal.nD Cert.PreReferenceIdeal.τ).loc Cert.PreReferenceIdeal.main_arg4) = m ((c.tc : Thread Cert.PreReferenceIdeal.nD Cert.PreReferenceIdeal.τ).loc Cert.PreReferenceIdeal.main_arg4)
      ∧ r.2.mem ((c.tc : Thread Cert.PreReferenceIdeal.nD Cert.PreReferenceIdeal.τ).loc Cert.PreReferenceIdeal.main_arg5) = m ((c.tc : Thread Cert.PreReferenceIdeal.nD Cert.PreReferenceIdeal.τ).loc Cert.PreReferenceIdeal.main_arg5)
      ∧ r.2.mem ((c.tc : Thread Cert.PreReferenceIdeal.nD Cert.PreReferenceIdeal.τ).loc Cert.PreReferenceIdeal.main_arg6) = m ((c.tc : Thread Cert.PreReferenceIdeal.nD Cert.PreReferenceIdeal.τ).loc Cert.PreReferenceIdeal.main_arg6))
      ∧ r.2.sem = fun _ => 0)

def quiescent_PreReferenceIdeal_pre_finite_pre [hPreReferenceIdeal : Cert.PreReferenceIdeal.Facts] [hPre_finite_pre : Cert.Pre_finite_pre.Facts] : Prop :=
  ∀ (m : (ℓ : Loc Cert.PreReferenceIdeal.nD Cert.PreReferenceIdeal.τ Cert.PreReferenceIdeal.sig) → Buf (Elt Ideal) ℓ) (g : Dev Cert.PreReferenceIdeal.nD → PrngReg), Pre_PreReferenceIdeal_finite_pre m →
    θ_run (Cert.PreReferenceIdeal.defs (F := Ideal)) (onTc (τ := Cert.PreReferenceIdeal.τ) (Cert.PreReferenceIdeal.main (F := Ideal))) ⟨m, fun _ => 0, g⟩ (fun r => (∀ c : Dev Cert.PreReferenceIdeal.nD,
      r.2.mem ((c.tc : Thread Cert.PreReferenceIdeal.nD Cert.PreReferenceIdeal.τ).loc Cert.PreReferenceIdeal.main_arg0) = m ((c.tc : Thread Cert.PreReferenceIdeal.nD Cert.PreReferenceIdeal.τ).loc Cert.PreReferenceIdeal.main_arg0)
      ∧ r.2.mem ((c.tc : Thread Cert.PreReferenceIdeal.nD Cert.PreReferenceIdeal.τ).loc Cert.PreReferenceIdeal.main_arg1) = m ((c.tc : Thread Cert.PreReferenceIdeal.nD Cert.PreReferenceIdeal.τ).loc Cert.PreReferenceIdeal.main_arg1)
      ∧ r.2.mem ((c.tc : Thread Cert.PreReferenceIdeal.nD Cert.PreReferenceIdeal.τ).loc Cert.PreReferenceIdeal.main_arg2) = m ((c.tc : Thread Cert.PreReferenceIdeal.nD Cert.PreReferenceIdeal.τ).loc Cert.PreReferenceIdeal.main_arg2)
      ∧ r.2.mem ((c.tc : Thread Cert.PreReferenceIdeal.nD Cert.PreReferenceIdeal.τ).loc Cert.PreReferenceIdeal.main_arg3) = m ((c.tc : Thread Cert.PreReferenceIdeal.nD Cert.PreReferenceIdeal.τ).loc Cert.PreReferenceIdeal.main_arg3)
      ∧ r.2.mem ((c.tc : Thread Cert.PreReferenceIdeal.nD Cert.PreReferenceIdeal.τ).loc Cert.PreReferenceIdeal.main_arg4) = m ((c.tc : Thread Cert.PreReferenceIdeal.nD Cert.PreReferenceIdeal.τ).loc Cert.PreReferenceIdeal.main_arg4)
      ∧ r.2.mem ((c.tc : Thread Cert.PreReferenceIdeal.nD Cert.PreReferenceIdeal.τ).loc Cert.PreReferenceIdeal.main_arg5) = m ((c.tc : Thread Cert.PreReferenceIdeal.nD Cert.PreReferenceIdeal.τ).loc Cert.PreReferenceIdeal.main_arg5)
      ∧ r.2.mem ((c.tc : Thread Cert.PreReferenceIdeal.nD Cert.PreReferenceIdeal.τ).loc Cert.PreReferenceIdeal.main_arg6) = m ((c.tc : Thread Cert.PreReferenceIdeal.nD Cert.PreReferenceIdeal.τ).loc Cert.PreReferenceIdeal.main_arg6))
      ∧ r.2.sem = fun _ => 0)

def quiescent_SbfKernel [hSbfKernel : Cert.SbfKernel.Facts] : Prop :=
  ∀ (m : (ℓ : Loc Cert.SbfKernel.nD Cert.SbfKernel.τ Cert.SbfKernel.sig) → Buf (Elt Bits) ℓ) (g : Dev Cert.SbfKernel.nD → PrngReg), Pre_SbfKernel m →
    θ_run (Cert.SbfKernel.defs (F := Bits)) (onTc (τ := Cert.SbfKernel.τ) (Cert.SbfKernel.main (F := Bits))) ⟨m, fun _ => 0, g⟩ (fun r => (∀ c : Dev Cert.SbfKernel.nD,
      r.2.mem ((c.tc : Thread Cert.SbfKernel.nD Cert.SbfKernel.τ).loc Cert.SbfKernel.main_arg0) = m ((c.tc : Thread Cert.SbfKernel.nD Cert.SbfKernel.τ).loc Cert.SbfKernel.main_arg0)
      ∧ r.2.mem ((c.tc : Thread Cert.SbfKernel.nD Cert.SbfKernel.τ).loc Cert.SbfKernel.main_arg1) = m ((c.tc : Thread Cert.SbfKernel.nD Cert.SbfKernel.τ).loc Cert.SbfKernel.main_arg1)
      ∧ r.2.mem ((c.tc : Thread Cert.SbfKernel.nD Cert.SbfKernel.τ).loc Cert.SbfKernel.main_arg2) = m ((c.tc : Thread Cert.SbfKernel.nD Cert.SbfKernel.τ).loc Cert.SbfKernel.main_arg2))
      ∧ r.2.sem = fun _ => 0)

def quiescent_SbfKernelIdeal [hSbfKernelIdeal : Cert.SbfKernelIdeal.Facts] : Prop :=
  ∀ (m : (ℓ : Loc Cert.SbfKernelIdeal.nD Cert.SbfKernelIdeal.τ Cert.SbfKernelIdeal.sig) → Buf (Elt Ideal) ℓ) (g : Dev Cert.SbfKernelIdeal.nD → PrngReg), Pre_SbfKernelIdeal m →
    θ_run (Cert.SbfKernelIdeal.defs (F := Ideal)) (onTc (τ := Cert.SbfKernelIdeal.τ) (Cert.SbfKernelIdeal.main (F := Ideal))) ⟨m, fun _ => 0, g⟩ (fun r => (∀ c : Dev Cert.SbfKernelIdeal.nD,
      r.2.mem ((c.tc : Thread Cert.SbfKernelIdeal.nD Cert.SbfKernelIdeal.τ).loc Cert.SbfKernelIdeal.main_arg0) = m ((c.tc : Thread Cert.SbfKernelIdeal.nD Cert.SbfKernelIdeal.τ).loc Cert.SbfKernelIdeal.main_arg0)
      ∧ r.2.mem ((c.tc : Thread Cert.SbfKernelIdeal.nD Cert.SbfKernelIdeal.τ).loc Cert.SbfKernelIdeal.main_arg1) = m ((c.tc : Thread Cert.SbfKernelIdeal.nD Cert.SbfKernelIdeal.τ).loc Cert.SbfKernelIdeal.main_arg1)
      ∧ r.2.mem ((c.tc : Thread Cert.SbfKernelIdeal.nD Cert.SbfKernelIdeal.τ).loc Cert.SbfKernelIdeal.main_arg2) = m ((c.tc : Thread Cert.SbfKernelIdeal.nD Cert.SbfKernelIdeal.τ).loc Cert.SbfKernelIdeal.main_arg2))
      ∧ r.2.sem = fun _ => 0)

def quiescent_SbfKernelIdeal_pre_moderate_forward [hSbfKernelIdeal : Cert.SbfKernelIdeal.Facts] [hPre_moderate_forward : Cert.Pre_moderate_forward.Facts] : Prop :=
  ∀ (m : (ℓ : Loc Cert.SbfKernelIdeal.nD Cert.SbfKernelIdeal.τ Cert.SbfKernelIdeal.sig) → Buf (Elt Ideal) ℓ) (g : Dev Cert.SbfKernelIdeal.nD → PrngReg), Pre_SbfKernelIdeal_moderate_forward m →
    θ_run (Cert.SbfKernelIdeal.defs (F := Ideal)) (onTc (τ := Cert.SbfKernelIdeal.τ) (Cert.SbfKernelIdeal.main (F := Ideal))) ⟨m, fun _ => 0, g⟩ (fun r => (∀ c : Dev Cert.SbfKernelIdeal.nD,
      r.2.mem ((c.tc : Thread Cert.SbfKernelIdeal.nD Cert.SbfKernelIdeal.τ).loc Cert.SbfKernelIdeal.main_arg0) = m ((c.tc : Thread Cert.SbfKernelIdeal.nD Cert.SbfKernelIdeal.τ).loc Cert.SbfKernelIdeal.main_arg0)
      ∧ r.2.mem ((c.tc : Thread Cert.SbfKernelIdeal.nD Cert.SbfKernelIdeal.τ).loc Cert.SbfKernelIdeal.main_arg1) = m ((c.tc : Thread Cert.SbfKernelIdeal.nD Cert.SbfKernelIdeal.τ).loc Cert.SbfKernelIdeal.main_arg1)
      ∧ r.2.mem ((c.tc : Thread Cert.SbfKernelIdeal.nD Cert.SbfKernelIdeal.τ).loc Cert.SbfKernelIdeal.main_arg2) = m ((c.tc : Thread Cert.SbfKernelIdeal.nD Cert.SbfKernelIdeal.τ).loc Cert.SbfKernelIdeal.main_arg2))
      ∧ r.2.sem = fun _ => 0)

def quiescent_SbfReferenceIdeal [hSbfReferenceIdeal : Cert.SbfReferenceIdeal.Facts] : Prop :=
  ∀ (m : (ℓ : Loc Cert.SbfReferenceIdeal.nD Cert.SbfReferenceIdeal.τ Cert.SbfReferenceIdeal.sig) → Buf (Elt Ideal) ℓ) (g : Dev Cert.SbfReferenceIdeal.nD → PrngReg), Pre_SbfReferenceIdeal m →
    θ_run (Cert.SbfReferenceIdeal.defs (F := Ideal)) (onTc (τ := Cert.SbfReferenceIdeal.τ) (Cert.SbfReferenceIdeal.main (F := Ideal))) ⟨m, fun _ => 0, g⟩ (fun r => (∀ c : Dev Cert.SbfReferenceIdeal.nD,
      r.2.mem ((c.tc : Thread Cert.SbfReferenceIdeal.nD Cert.SbfReferenceIdeal.τ).loc Cert.SbfReferenceIdeal.main_arg0) = m ((c.tc : Thread Cert.SbfReferenceIdeal.nD Cert.SbfReferenceIdeal.τ).loc Cert.SbfReferenceIdeal.main_arg0)
      ∧ r.2.mem ((c.tc : Thread Cert.SbfReferenceIdeal.nD Cert.SbfReferenceIdeal.τ).loc Cert.SbfReferenceIdeal.main_arg1) = m ((c.tc : Thread Cert.SbfReferenceIdeal.nD Cert.SbfReferenceIdeal.τ).loc Cert.SbfReferenceIdeal.main_arg1)
      ∧ r.2.mem ((c.tc : Thread Cert.SbfReferenceIdeal.nD Cert.SbfReferenceIdeal.τ).loc Cert.SbfReferenceIdeal.main_arg2) = m ((c.tc : Thread Cert.SbfReferenceIdeal.nD Cert.SbfReferenceIdeal.τ).loc Cert.SbfReferenceIdeal.main_arg2))
      ∧ r.2.sem = fun _ => 0)

def quiescent_SbfReferenceIdeal_pre_moderate_forward [hSbfReferenceIdeal : Cert.SbfReferenceIdeal.Facts] [hPre_moderate_forward : Cert.Pre_moderate_forward.Facts] : Prop :=
  ∀ (m : (ℓ : Loc Cert.SbfReferenceIdeal.nD Cert.SbfReferenceIdeal.τ Cert.SbfReferenceIdeal.sig) → Buf (Elt Ideal) ℓ) (g : Dev Cert.SbfReferenceIdeal.nD → PrngReg), Pre_SbfReferenceIdeal_moderate_forward m →
    θ_run (Cert.SbfReferenceIdeal.defs (F := Ideal)) (onTc (τ := Cert.SbfReferenceIdeal.τ) (Cert.SbfReferenceIdeal.main (F := Ideal))) ⟨m, fun _ => 0, g⟩ (fun r => (∀ c : Dev Cert.SbfReferenceIdeal.nD,
      r.2.mem ((c.tc : Thread Cert.SbfReferenceIdeal.nD Cert.SbfReferenceIdeal.τ).loc Cert.SbfReferenceIdeal.main_arg0) = m ((c.tc : Thread Cert.SbfReferenceIdeal.nD Cert.SbfReferenceIdeal.τ).loc Cert.SbfReferenceIdeal.main_arg0)
      ∧ r.2.mem ((c.tc : Thread Cert.SbfReferenceIdeal.nD Cert.SbfReferenceIdeal.τ).loc Cert.SbfReferenceIdeal.main_arg1) = m ((c.tc : Thread Cert.SbfReferenceIdeal.nD Cert.SbfReferenceIdeal.τ).loc Cert.SbfReferenceIdeal.main_arg1)
      ∧ r.2.mem ((c.tc : Thread Cert.SbfReferenceIdeal.nD Cert.SbfReferenceIdeal.τ).loc Cert.SbfReferenceIdeal.main_arg2) = m ((c.tc : Thread Cert.SbfReferenceIdeal.nD Cert.SbfReferenceIdeal.τ).loc Cert.SbfReferenceIdeal.main_arg2))
      ∧ r.2.sem = fun _ => 0)

def quiescent_MemfKernel [hMemfKernel : Cert.MemfKernel.Facts] : Prop :=
  ∀ (m : (ℓ : Loc Cert.MemfKernel.nD Cert.MemfKernel.τ Cert.MemfKernel.sig) → Buf (Elt Bits) ℓ) (g : Dev Cert.MemfKernel.nD → PrngReg), Pre_MemfKernel m →
    θ_run (Cert.MemfKernel.defs (F := Bits)) (onTc (τ := Cert.MemfKernel.τ) (Cert.MemfKernel.main (F := Bits))) ⟨m, fun _ => 0, g⟩ (fun r => (∀ c : Dev Cert.MemfKernel.nD,
      r.2.mem ((c.tc : Thread Cert.MemfKernel.nD Cert.MemfKernel.τ).loc Cert.MemfKernel.main_arg0) = m ((c.tc : Thread Cert.MemfKernel.nD Cert.MemfKernel.τ).loc Cert.MemfKernel.main_arg0)
      ∧ r.2.mem ((c.tc : Thread Cert.MemfKernel.nD Cert.MemfKernel.τ).loc Cert.MemfKernel.main_arg1) = m ((c.tc : Thread Cert.MemfKernel.nD Cert.MemfKernel.τ).loc Cert.MemfKernel.main_arg1)
      ∧ r.2.mem ((c.tc : Thread Cert.MemfKernel.nD Cert.MemfKernel.τ).loc Cert.MemfKernel.main_arg2) = m ((c.tc : Thread Cert.MemfKernel.nD Cert.MemfKernel.τ).loc Cert.MemfKernel.main_arg2))
      ∧ r.2.sem = fun _ => 0)

def quiescent_MemfKernelIdeal [hMemfKernelIdeal : Cert.MemfKernelIdeal.Facts] : Prop :=
  ∀ (m : (ℓ : Loc Cert.MemfKernelIdeal.nD Cert.MemfKernelIdeal.τ Cert.MemfKernelIdeal.sig) → Buf (Elt Ideal) ℓ) (g : Dev Cert.MemfKernelIdeal.nD → PrngReg), Pre_MemfKernelIdeal m →
    θ_run (Cert.MemfKernelIdeal.defs (F := Ideal)) (onTc (τ := Cert.MemfKernelIdeal.τ) (Cert.MemfKernelIdeal.main (F := Ideal))) ⟨m, fun _ => 0, g⟩ (fun r => (∀ c : Dev Cert.MemfKernelIdeal.nD,
      r.2.mem ((c.tc : Thread Cert.MemfKernelIdeal.nD Cert.MemfKernelIdeal.τ).loc Cert.MemfKernelIdeal.main_arg0) = m ((c.tc : Thread Cert.MemfKernelIdeal.nD Cert.MemfKernelIdeal.τ).loc Cert.MemfKernelIdeal.main_arg0)
      ∧ r.2.mem ((c.tc : Thread Cert.MemfKernelIdeal.nD Cert.MemfKernelIdeal.τ).loc Cert.MemfKernelIdeal.main_arg1) = m ((c.tc : Thread Cert.MemfKernelIdeal.nD Cert.MemfKernelIdeal.τ).loc Cert.MemfKernelIdeal.main_arg1)
      ∧ r.2.mem ((c.tc : Thread Cert.MemfKernelIdeal.nD Cert.MemfKernelIdeal.τ).loc Cert.MemfKernelIdeal.main_arg2) = m ((c.tc : Thread Cert.MemfKernelIdeal.nD Cert.MemfKernelIdeal.τ).loc Cert.MemfKernelIdeal.main_arg2))
      ∧ r.2.sem = fun _ => 0)

def quiescent_MemfReferenceIdeal [hMemfReferenceIdeal : Cert.MemfReferenceIdeal.Facts] : Prop :=
  ∀ (m : (ℓ : Loc Cert.MemfReferenceIdeal.nD Cert.MemfReferenceIdeal.τ Cert.MemfReferenceIdeal.sig) → Buf (Elt Ideal) ℓ) (g : Dev Cert.MemfReferenceIdeal.nD → PrngReg), Pre_MemfReferenceIdeal m →
    θ_run (Cert.MemfReferenceIdeal.defs (F := Ideal)) (onTc (τ := Cert.MemfReferenceIdeal.τ) (Cert.MemfReferenceIdeal.main (F := Ideal))) ⟨m, fun _ => 0, g⟩ (fun r => (∀ c : Dev Cert.MemfReferenceIdeal.nD,
      r.2.mem ((c.tc : Thread Cert.MemfReferenceIdeal.nD Cert.MemfReferenceIdeal.τ).loc Cert.MemfReferenceIdeal.main_arg0) = m ((c.tc : Thread Cert.MemfReferenceIdeal.nD Cert.MemfReferenceIdeal.τ).loc Cert.MemfReferenceIdeal.main_arg0)
      ∧ r.2.mem ((c.tc : Thread Cert.MemfReferenceIdeal.nD Cert.MemfReferenceIdeal.τ).loc Cert.MemfReferenceIdeal.main_arg1) = m ((c.tc : Thread Cert.MemfReferenceIdeal.nD Cert.MemfReferenceIdeal.τ).loc Cert.MemfReferenceIdeal.main_arg1)
      ∧ r.2.mem ((c.tc : Thread Cert.MemfReferenceIdeal.nD Cert.MemfReferenceIdeal.τ).loc Cert.MemfReferenceIdeal.main_arg2) = m ((c.tc : Thread Cert.MemfReferenceIdeal.nD Cert.MemfReferenceIdeal.τ).loc Cert.MemfReferenceIdeal.main_arg2))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def quiescent_GwKernel [hGwKernel : Cert.GwKernel.Facts] : Prop :=
  ∀ (m : (ℓ : Loc Cert.GwKernel.nD Cert.GwKernel.τ Cert.GwKernel.sig) → Buf (Elt Bits) ℓ) (g : Dev Cert.GwKernel.nD → PrngReg), Pre_GwKernel m →
    θ_run (Cert.GwKernel.defs (F := Bits)) (onTc (τ := Cert.GwKernel.τ) (Cert.GwKernel.main (F := Bits))) ⟨m, fun _ => 0, g⟩ (fun r => (∀ c : Dev Cert.GwKernel.nD,
      r.2.mem ((c.tc : Thread Cert.GwKernel.nD Cert.GwKernel.τ).loc Cert.GwKernel.main_arg0) = m ((c.tc : Thread Cert.GwKernel.nD Cert.GwKernel.τ).loc Cert.GwKernel.main_arg0)
      ∧ r.2.mem ((c.tc : Thread Cert.GwKernel.nD Cert.GwKernel.τ).loc Cert.GwKernel.main_arg1) = m ((c.tc : Thread Cert.GwKernel.nD Cert.GwKernel.τ).loc Cert.GwKernel.main_arg1)
      ∧ r.2.mem ((c.tc : Thread Cert.GwKernel.nD Cert.GwKernel.τ).loc Cert.GwKernel.main_arg2) = m ((c.tc : Thread Cert.GwKernel.nD Cert.GwKernel.τ).loc Cert.GwKernel.main_arg2))
      ∧ r.2.sem = fun _ => 0)

def quiescent_GwKernelIdeal [hGwKernelIdeal : Cert.GwKernelIdeal.Facts] : Prop :=
  ∀ (m : (ℓ : Loc Cert.GwKernelIdeal.nD Cert.GwKernelIdeal.τ Cert.GwKernelIdeal.sig) → Buf (Elt Ideal) ℓ) (g : Dev Cert.GwKernelIdeal.nD → PrngReg), Pre_GwKernelIdeal m →
    θ_run (Cert.GwKernelIdeal.defs (F := Ideal)) (onTc (τ := Cert.GwKernelIdeal.τ) (Cert.GwKernelIdeal.main (F := Ideal))) ⟨m, fun _ => 0, g⟩ (fun r => (∀ c : Dev Cert.GwKernelIdeal.nD,
      r.2.mem ((c.tc : Thread Cert.GwKernelIdeal.nD Cert.GwKernelIdeal.τ).loc Cert.GwKernelIdeal.main_arg0) = m ((c.tc : Thread Cert.GwKernelIdeal.nD Cert.GwKernelIdeal.τ).loc Cert.GwKernelIdeal.main_arg0)
      ∧ r.2.mem ((c.tc : Thread Cert.GwKernelIdeal.nD Cert.GwKernelIdeal.τ).loc Cert.GwKernelIdeal.main_arg1) = m ((c.tc : Thread Cert.GwKernelIdeal.nD Cert.GwKernelIdeal.τ).loc Cert.GwKernelIdeal.main_arg1)
      ∧ r.2.mem ((c.tc : Thread Cert.GwKernelIdeal.nD Cert.GwKernelIdeal.τ).loc Cert.GwKernelIdeal.main_arg2) = m ((c.tc : Thread Cert.GwKernelIdeal.nD Cert.GwKernelIdeal.τ).loc Cert.GwKernelIdeal.main_arg2))
      ∧ r.2.sem = fun _ => 0)

def quiescent_GwReferenceIdeal [hGwReferenceIdeal : Cert.GwReferenceIdeal.Facts] : Prop :=
  ∀ (m : (ℓ : Loc Cert.GwReferenceIdeal.nD Cert.GwReferenceIdeal.τ Cert.GwReferenceIdeal.sig) → Buf (Elt Ideal) ℓ) (g : Dev Cert.GwReferenceIdeal.nD → PrngReg), Pre_GwReferenceIdeal m →
    θ_run (Cert.GwReferenceIdeal.defs (F := Ideal)) (onTc (τ := Cert.GwReferenceIdeal.τ) (Cert.GwReferenceIdeal.main (F := Ideal))) ⟨m, fun _ => 0, g⟩ (fun r => (∀ c : Dev Cert.GwReferenceIdeal.nD,
      r.2.mem ((c.tc : Thread Cert.GwReferenceIdeal.nD Cert.GwReferenceIdeal.τ).loc Cert.GwReferenceIdeal.main_arg0) = m ((c.tc : Thread Cert.GwReferenceIdeal.nD Cert.GwReferenceIdeal.τ).loc Cert.GwReferenceIdeal.main_arg0)
      ∧ r.2.mem ((c.tc : Thread Cert.GwReferenceIdeal.nD Cert.GwReferenceIdeal.τ).loc Cert.GwReferenceIdeal.main_arg1) = m ((c.tc : Thread Cert.GwReferenceIdeal.nD Cert.GwReferenceIdeal.τ).loc Cert.GwReferenceIdeal.main_arg1)
      ∧ r.2.mem ((c.tc : Thread Cert.GwReferenceIdeal.nD Cert.GwReferenceIdeal.τ).loc Cert.GwReferenceIdeal.main_arg2) = m ((c.tc : Thread Cert.GwReferenceIdeal.nD Cert.GwReferenceIdeal.τ).loc Cert.GwReferenceIdeal.main_arg2))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def quiescent_SmallKernel [hSmallKernel : Cert.SmallKernel.Facts] : Prop :=
  ∀ (m : (ℓ : Loc Cert.SmallKernel.nD Cert.SmallKernel.τ Cert.SmallKernel.sig) → Buf (Elt Bits) ℓ) (g : Dev Cert.SmallKernel.nD → PrngReg), Pre_SmallKernel m →
    θ_run (Cert.SmallKernel.defs (F := Bits)) (onTc (τ := Cert.SmallKernel.τ) (Cert.SmallKernel.main (F := Bits))) ⟨m, fun _ => 0, g⟩ (fun r => (∀ c : Dev Cert.SmallKernel.nD,
      r.2.mem ((c.tc : Thread Cert.SmallKernel.nD Cert.SmallKernel.τ).loc Cert.SmallKernel.main_arg0) = m ((c.tc : Thread Cert.SmallKernel.nD Cert.SmallKernel.τ).loc Cert.SmallKernel.main_arg0)
      ∧ r.2.mem ((c.tc : Thread Cert.SmallKernel.nD Cert.SmallKernel.τ).loc Cert.SmallKernel.main_arg1) = m ((c.tc : Thread Cert.SmallKernel.nD Cert.SmallKernel.τ).loc Cert.SmallKernel.main_arg1)
      ∧ r.2.mem ((c.tc : Thread Cert.SmallKernel.nD Cert.SmallKernel.τ).loc Cert.SmallKernel.main_arg2) = m ((c.tc : Thread Cert.SmallKernel.nD Cert.SmallKernel.τ).loc Cert.SmallKernel.main_arg2)
      ∧ r.2.mem ((c.tc : Thread Cert.SmallKernel.nD Cert.SmallKernel.τ).loc Cert.SmallKernel.main_arg3) = m ((c.tc : Thread Cert.SmallKernel.nD Cert.SmallKernel.τ).loc Cert.SmallKernel.main_arg3)
      ∧ r.2.mem ((c.tc : Thread Cert.SmallKernel.nD Cert.SmallKernel.τ).loc Cert.SmallKernel.main_arg4) = m ((c.tc : Thread Cert.SmallKernel.nD Cert.SmallKernel.τ).loc Cert.SmallKernel.main_arg4)
      ∧ r.2.mem ((c.tc : Thread Cert.SmallKernel.nD Cert.SmallKernel.τ).loc Cert.SmallKernel.main_arg5) = m ((c.tc : Thread Cert.SmallKernel.nD Cert.SmallKernel.τ).loc Cert.SmallKernel.main_arg5)
      ∧ r.2.mem ((c.tc : Thread Cert.SmallKernel.nD Cert.SmallKernel.τ).loc Cert.SmallKernel.main_arg6) = m ((c.tc : Thread Cert.SmallKernel.nD Cert.SmallKernel.τ).loc Cert.SmallKernel.main_arg6)
      ∧ r.2.mem ((c.tc : Thread Cert.SmallKernel.nD Cert.SmallKernel.τ).loc Cert.SmallKernel.main_arg7) = m ((c.tc : Thread Cert.SmallKernel.nD Cert.SmallKernel.τ).loc Cert.SmallKernel.main_arg7)
      ∧ r.2.mem ((c.tc : Thread Cert.SmallKernel.nD Cert.SmallKernel.τ).loc Cert.SmallKernel.main_arg8) = m ((c.tc : Thread Cert.SmallKernel.nD Cert.SmallKernel.τ).loc Cert.SmallKernel.main_arg8)
      ∧ r.2.mem ((c.tc : Thread Cert.SmallKernel.nD Cert.SmallKernel.τ).loc Cert.SmallKernel.main_arg9) = m ((c.tc : Thread Cert.SmallKernel.nD Cert.SmallKernel.τ).loc Cert.SmallKernel.main_arg9)
      ∧ r.2.mem ((c.tc : Thread Cert.SmallKernel.nD Cert.SmallKernel.τ).loc Cert.SmallKernel.main_arg10) = m ((c.tc : Thread Cert.SmallKernel.nD Cert.SmallKernel.τ).loc Cert.SmallKernel.main_arg10)
      ∧ r.2.mem ((c.tc : Thread Cert.SmallKernel.nD Cert.SmallKernel.τ).loc Cert.SmallKernel.main_arg11) = m ((c.tc : Thread Cert.SmallKernel.nD Cert.SmallKernel.τ).loc Cert.SmallKernel.main_arg11)
      ∧ r.2.mem ((c.tc : Thread Cert.SmallKernel.nD Cert.SmallKernel.τ).loc Cert.SmallKernel.main_arg12) = m ((c.tc : Thread Cert.SmallKernel.nD Cert.SmallKernel.τ).loc Cert.SmallKernel.main_arg12)
      ∧ r.2.mem ((c.tc : Thread Cert.SmallKernel.nD Cert.SmallKernel.τ).loc Cert.SmallKernel.main_arg13) = m ((c.tc : Thread Cert.SmallKernel.nD Cert.SmallKernel.τ).loc Cert.SmallKernel.main_arg13)
      ∧ r.2.mem ((c.tc : Thread Cert.SmallKernel.nD Cert.SmallKernel.τ).loc Cert.SmallKernel.main_arg14) = m ((c.tc : Thread Cert.SmallKernel.nD Cert.SmallKernel.τ).loc Cert.SmallKernel.main_arg14)
      ∧ r.2.mem ((c.tc : Thread Cert.SmallKernel.nD Cert.SmallKernel.τ).loc Cert.SmallKernel.main_arg15) = m ((c.tc : Thread Cert.SmallKernel.nD Cert.SmallKernel.τ).loc Cert.SmallKernel.main_arg15)
      ∧ r.2.mem ((c.tc : Thread Cert.SmallKernel.nD Cert.SmallKernel.τ).loc Cert.SmallKernel.main_arg16) = m ((c.tc : Thread Cert.SmallKernel.nD Cert.SmallKernel.τ).loc Cert.SmallKernel.main_arg16)
      ∧ r.2.mem ((c.tc : Thread Cert.SmallKernel.nD Cert.SmallKernel.τ).loc Cert.SmallKernel.main_arg17) = m ((c.tc : Thread Cert.SmallKernel.nD Cert.SmallKernel.τ).loc Cert.SmallKernel.main_arg17)
      ∧ r.2.mem ((c.tc : Thread Cert.SmallKernel.nD Cert.SmallKernel.τ).loc Cert.SmallKernel.main_arg18) = m ((c.tc : Thread Cert.SmallKernel.nD Cert.SmallKernel.τ).loc Cert.SmallKernel.main_arg18)
      ∧ r.2.mem ((c.tc : Thread Cert.SmallKernel.nD Cert.SmallKernel.τ).loc Cert.SmallKernel.main_arg19) = m ((c.tc : Thread Cert.SmallKernel.nD Cert.SmallKernel.τ).loc Cert.SmallKernel.main_arg19)
      ∧ r.2.mem ((c.tc : Thread Cert.SmallKernel.nD Cert.SmallKernel.τ).loc Cert.SmallKernel.main_arg20) = m ((c.tc : Thread Cert.SmallKernel.nD Cert.SmallKernel.τ).loc Cert.SmallKernel.main_arg20)
      ∧ r.2.mem ((c.tc : Thread Cert.SmallKernel.nD Cert.SmallKernel.τ).loc Cert.SmallKernel.main_arg21) = m ((c.tc : Thread Cert.SmallKernel.nD Cert.SmallKernel.τ).loc Cert.SmallKernel.main_arg21)
      ∧ r.2.mem ((c.tc : Thread Cert.SmallKernel.nD Cert.SmallKernel.τ).loc Cert.SmallKernel.main_arg22) = m ((c.tc : Thread Cert.SmallKernel.nD Cert.SmallKernel.τ).loc Cert.SmallKernel.main_arg22)
      ∧ r.2.mem ((c.tc : Thread Cert.SmallKernel.nD Cert.SmallKernel.τ).loc Cert.SmallKernel.main_arg23) = m ((c.tc : Thread Cert.SmallKernel.nD Cert.SmallKernel.τ).loc Cert.SmallKernel.main_arg23)
      ∧ r.2.mem ((c.tc : Thread Cert.SmallKernel.nD Cert.SmallKernel.τ).loc Cert.SmallKernel.main_arg24) = m ((c.tc : Thread Cert.SmallKernel.nD Cert.SmallKernel.τ).loc Cert.SmallKernel.main_arg24))
      ∧ r.2.sem = fun _ => 0)

def quiescent_SmallKernelIdeal [hSmallKernelIdeal : Cert.SmallKernelIdeal.Facts] : Prop :=
  ∀ (m : (ℓ : Loc Cert.SmallKernelIdeal.nD Cert.SmallKernelIdeal.τ Cert.SmallKernelIdeal.sig) → Buf (Elt Ideal) ℓ) (g : Dev Cert.SmallKernelIdeal.nD → PrngReg), Pre_SmallKernelIdeal m →
    θ_run (Cert.SmallKernelIdeal.defs (F := Ideal)) (onTc (τ := Cert.SmallKernelIdeal.τ) (Cert.SmallKernelIdeal.main (F := Ideal))) ⟨m, fun _ => 0, g⟩ (fun r => (∀ c : Dev Cert.SmallKernelIdeal.nD,
      r.2.mem ((c.tc : Thread Cert.SmallKernelIdeal.nD Cert.SmallKernelIdeal.τ).loc Cert.SmallKernelIdeal.main_arg0) = m ((c.tc : Thread Cert.SmallKernelIdeal.nD Cert.SmallKernelIdeal.τ).loc Cert.SmallKernelIdeal.main_arg0)
      ∧ r.2.mem ((c.tc : Thread Cert.SmallKernelIdeal.nD Cert.SmallKernelIdeal.τ).loc Cert.SmallKernelIdeal.main_arg1) = m ((c.tc : Thread Cert.SmallKernelIdeal.nD Cert.SmallKernelIdeal.τ).loc Cert.SmallKernelIdeal.main_arg1)
      ∧ r.2.mem ((c.tc : Thread Cert.SmallKernelIdeal.nD Cert.SmallKernelIdeal.τ).loc Cert.SmallKernelIdeal.main_arg2) = m ((c.tc : Thread Cert.SmallKernelIdeal.nD Cert.SmallKernelIdeal.τ).loc Cert.SmallKernelIdeal.main_arg2)
      ∧ r.2.mem ((c.tc : Thread Cert.SmallKernelIdeal.nD Cert.SmallKernelIdeal.τ).loc Cert.SmallKernelIdeal.main_arg3) = m ((c.tc : Thread Cert.SmallKernelIdeal.nD Cert.SmallKernelIdeal.τ).loc Cert.SmallKernelIdeal.main_arg3)
      ∧ r.2.mem ((c.tc : Thread Cert.SmallKernelIdeal.nD Cert.SmallKernelIdeal.τ).loc Cert.SmallKernelIdeal.main_arg4) = m ((c.tc : Thread Cert.SmallKernelIdeal.nD Cert.SmallKernelIdeal.τ).loc Cert.SmallKernelIdeal.main_arg4)
      ∧ r.2.mem ((c.tc : Thread Cert.SmallKernelIdeal.nD Cert.SmallKernelIdeal.τ).loc Cert.SmallKernelIdeal.main_arg5) = m ((c.tc : Thread Cert.SmallKernelIdeal.nD Cert.SmallKernelIdeal.τ).loc Cert.SmallKernelIdeal.main_arg5)
      ∧ r.2.mem ((c.tc : Thread Cert.SmallKernelIdeal.nD Cert.SmallKernelIdeal.τ).loc Cert.SmallKernelIdeal.main_arg6) = m ((c.tc : Thread Cert.SmallKernelIdeal.nD Cert.SmallKernelIdeal.τ).loc Cert.SmallKernelIdeal.main_arg6)
      ∧ r.2.mem ((c.tc : Thread Cert.SmallKernelIdeal.nD Cert.SmallKernelIdeal.τ).loc Cert.SmallKernelIdeal.main_arg7) = m ((c.tc : Thread Cert.SmallKernelIdeal.nD Cert.SmallKernelIdeal.τ).loc Cert.SmallKernelIdeal.main_arg7)
      ∧ r.2.mem ((c.tc : Thread Cert.SmallKernelIdeal.nD Cert.SmallKernelIdeal.τ).loc Cert.SmallKernelIdeal.main_arg8) = m ((c.tc : Thread Cert.SmallKernelIdeal.nD Cert.SmallKernelIdeal.τ).loc Cert.SmallKernelIdeal.main_arg8)
      ∧ r.2.mem ((c.tc : Thread Cert.SmallKernelIdeal.nD Cert.SmallKernelIdeal.τ).loc Cert.SmallKernelIdeal.main_arg9) = m ((c.tc : Thread Cert.SmallKernelIdeal.nD Cert.SmallKernelIdeal.τ).loc Cert.SmallKernelIdeal.main_arg9)
      ∧ r.2.mem ((c.tc : Thread Cert.SmallKernelIdeal.nD Cert.SmallKernelIdeal.τ).loc Cert.SmallKernelIdeal.main_arg10) = m ((c.tc : Thread Cert.SmallKernelIdeal.nD Cert.SmallKernelIdeal.τ).loc Cert.SmallKernelIdeal.main_arg10)
      ∧ r.2.mem ((c.tc : Thread Cert.SmallKernelIdeal.nD Cert.SmallKernelIdeal.τ).loc Cert.SmallKernelIdeal.main_arg11) = m ((c.tc : Thread Cert.SmallKernelIdeal.nD Cert.SmallKernelIdeal.τ).loc Cert.SmallKernelIdeal.main_arg11)
      ∧ r.2.mem ((c.tc : Thread Cert.SmallKernelIdeal.nD Cert.SmallKernelIdeal.τ).loc Cert.SmallKernelIdeal.main_arg12) = m ((c.tc : Thread Cert.SmallKernelIdeal.nD Cert.SmallKernelIdeal.τ).loc Cert.SmallKernelIdeal.main_arg12)
      ∧ r.2.mem ((c.tc : Thread Cert.SmallKernelIdeal.nD Cert.SmallKernelIdeal.τ).loc Cert.SmallKernelIdeal.main_arg13) = m ((c.tc : Thread Cert.SmallKernelIdeal.nD Cert.SmallKernelIdeal.τ).loc Cert.SmallKernelIdeal.main_arg13)
      ∧ r.2.mem ((c.tc : Thread Cert.SmallKernelIdeal.nD Cert.SmallKernelIdeal.τ).loc Cert.SmallKernelIdeal.main_arg14) = m ((c.tc : Thread Cert.SmallKernelIdeal.nD Cert.SmallKernelIdeal.τ).loc Cert.SmallKernelIdeal.main_arg14)
      ∧ r.2.mem ((c.tc : Thread Cert.SmallKernelIdeal.nD Cert.SmallKernelIdeal.τ).loc Cert.SmallKernelIdeal.main_arg15) = m ((c.tc : Thread Cert.SmallKernelIdeal.nD Cert.SmallKernelIdeal.τ).loc Cert.SmallKernelIdeal.main_arg15)
      ∧ r.2.mem ((c.tc : Thread Cert.SmallKernelIdeal.nD Cert.SmallKernelIdeal.τ).loc Cert.SmallKernelIdeal.main_arg16) = m ((c.tc : Thread Cert.SmallKernelIdeal.nD Cert.SmallKernelIdeal.τ).loc Cert.SmallKernelIdeal.main_arg16)
      ∧ r.2.mem ((c.tc : Thread Cert.SmallKernelIdeal.nD Cert.SmallKernelIdeal.τ).loc Cert.SmallKernelIdeal.main_arg17) = m ((c.tc : Thread Cert.SmallKernelIdeal.nD Cert.SmallKernelIdeal.τ).loc Cert.SmallKernelIdeal.main_arg17)
      ∧ r.2.mem ((c.tc : Thread Cert.SmallKernelIdeal.nD Cert.SmallKernelIdeal.τ).loc Cert.SmallKernelIdeal.main_arg18) = m ((c.tc : Thread Cert.SmallKernelIdeal.nD Cert.SmallKernelIdeal.τ).loc Cert.SmallKernelIdeal.main_arg18)
      ∧ r.2.mem ((c.tc : Thread Cert.SmallKernelIdeal.nD Cert.SmallKernelIdeal.τ).loc Cert.SmallKernelIdeal.main_arg19) = m ((c.tc : Thread Cert.SmallKernelIdeal.nD Cert.SmallKernelIdeal.τ).loc Cert.SmallKernelIdeal.main_arg19)
      ∧ r.2.mem ((c.tc : Thread Cert.SmallKernelIdeal.nD Cert.SmallKernelIdeal.τ).loc Cert.SmallKernelIdeal.main_arg20) = m ((c.tc : Thread Cert.SmallKernelIdeal.nD Cert.SmallKernelIdeal.τ).loc Cert.SmallKernelIdeal.main_arg20)
      ∧ r.2.mem ((c.tc : Thread Cert.SmallKernelIdeal.nD Cert.SmallKernelIdeal.τ).loc Cert.SmallKernelIdeal.main_arg21) = m ((c.tc : Thread Cert.SmallKernelIdeal.nD Cert.SmallKernelIdeal.τ).loc Cert.SmallKernelIdeal.main_arg21)
      ∧ r.2.mem ((c.tc : Thread Cert.SmallKernelIdeal.nD Cert.SmallKernelIdeal.τ).loc Cert.SmallKernelIdeal.main_arg22) = m ((c.tc : Thread Cert.SmallKernelIdeal.nD Cert.SmallKernelIdeal.τ).loc Cert.SmallKernelIdeal.main_arg22)
      ∧ r.2.mem ((c.tc : Thread Cert.SmallKernelIdeal.nD Cert.SmallKernelIdeal.τ).loc Cert.SmallKernelIdeal.main_arg23) = m ((c.tc : Thread Cert.SmallKernelIdeal.nD Cert.SmallKernelIdeal.τ).loc Cert.SmallKernelIdeal.main_arg23)
      ∧ r.2.mem ((c.tc : Thread Cert.SmallKernelIdeal.nD Cert.SmallKernelIdeal.τ).loc Cert.SmallKernelIdeal.main_arg24) = m ((c.tc : Thread Cert.SmallKernelIdeal.nD Cert.SmallKernelIdeal.τ).loc Cert.SmallKernelIdeal.main_arg24))
      ∧ r.2.sem = fun _ => 0)

def quiescent_SmallReferenceIdeal [hSmallReferenceIdeal : Cert.SmallReferenceIdeal.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0)
      ∧ r.2.mem ((c.tc : Thread Cert.SmallReferenceIdeal.nD Cert.SmallReferenceIdeal.τ).loc Cert.SmallReferenceIdeal.main_arg1) = m ((c.tc : Thread Cert.SmallReferenceIdeal.nD Cert.SmallReferenceIdeal.τ).loc Cert.SmallReferenceIdeal.main_arg1)
      ∧ r.2.mem ((c.tc : Thread Cert.SmallReferenceIdeal.nD Cert.SmallReferenceIdeal.τ).loc Cert.SmallReferenceIdeal.main_arg2) = m ((c.tc : Thread Cert.SmallReferenceIdeal.nD Cert.SmallReferenceIdeal.τ).loc Cert.SmallReferenceIdeal.main_arg2)
      ∧ r.2.mem ((c.tc : Thread Cert.SmallReferenceIdeal.nD Cert.SmallReferenceIdeal.τ).loc Cert.SmallReferenceIdeal.main_arg3) = m ((c.tc : Thread Cert.SmallReferenceIdeal.nD Cert.SmallReferenceIdeal.τ).loc Cert.SmallReferenceIdeal.main_arg3)
      ∧ r.2.mem ((c.tc : Thread Cert.SmallReferenceIdeal.nD Cert.SmallReferenceIdeal.τ).loc Cert.SmallReferenceIdeal.main_arg4) = m ((c.tc : Thread Cert.SmallReferenceIdeal.nD Cert.SmallReferenceIdeal.τ).loc Cert.SmallReferenceIdeal.main_arg4)
      ∧ r.2.mem ((c.tc : Thread Cert.SmallReferenceIdeal.nD Cert.SmallReferenceIdeal.τ).loc Cert.SmallReferenceIdeal.main_arg5) = m ((c.tc : Thread Cert.SmallReferenceIdeal.nD Cert.SmallReferenceIdeal.τ).loc Cert.SmallReferenceIdeal.main_arg5)
      ∧ r.2.mem ((c.tc : Thread Cert.SmallReferenceIdeal.nD Cert.SmallReferenceIdeal.τ).loc Cert.SmallReferenceIdeal.main_arg6) = m ((c.tc : Thread Cert.SmallReferenceIdeal.nD Cert.SmallReferenceIdeal.τ).loc Cert.SmallReferenceIdeal.main_arg6)
      ∧ r.2.mem ((c.tc : Thread Cert.SmallReferenceIdeal.nD Cert.SmallReferenceIdeal.τ).loc Cert.SmallReferenceIdeal.main_arg7) = m ((c.tc : Thread Cert.SmallReferenceIdeal.nD Cert.SmallReferenceIdeal.τ).loc Cert.SmallReferenceIdeal.main_arg7)
      ∧ r.2.mem ((c.tc : Thread Cert.SmallReferenceIdeal.nD Cert.SmallReferenceIdeal.τ).loc Cert.SmallReferenceIdeal.main_arg8) = m ((c.tc : Thread Cert.SmallReferenceIdeal.nD Cert.SmallReferenceIdeal.τ).loc Cert.SmallReferenceIdeal.main_arg8)
      ∧ r.2.mem ((c.tc : Thread Cert.SmallReferenceIdeal.nD Cert.SmallReferenceIdeal.τ).loc Cert.SmallReferenceIdeal.main_arg9) = m ((c.tc : Thread Cert.SmallReferenceIdeal.nD Cert.SmallReferenceIdeal.τ).loc Cert.SmallReferenceIdeal.main_arg9)
      ∧ r.2.mem ((c.tc : Thread Cert.SmallReferenceIdeal.nD Cert.SmallReferenceIdeal.τ).loc Cert.SmallReferenceIdeal.main_arg10) = m ((c.tc : Thread Cert.SmallReferenceIdeal.nD Cert.SmallReferenceIdeal.τ).loc Cert.SmallReferenceIdeal.main_arg10)
      ∧ r.2.mem ((c.tc : Thread Cert.SmallReferenceIdeal.nD Cert.SmallReferenceIdeal.τ).loc Cert.SmallReferenceIdeal.main_arg11) = m ((c.tc : Thread Cert.SmallReferenceIdeal.nD Cert.SmallReferenceIdeal.τ).loc Cert.SmallReferenceIdeal.main_arg11)
      ∧ r.2.mem ((c.tc : Thread Cert.SmallReferenceIdeal.nD Cert.SmallReferenceIdeal.τ).loc Cert.SmallReferenceIdeal.main_arg12) = m ((c.tc : Thread Cert.SmallReferenceIdeal.nD Cert.SmallReferenceIdeal.τ).loc Cert.SmallReferenceIdeal.main_arg12)
      ∧ r.2.mem ((c.tc : Thread Cert.SmallReferenceIdeal.nD Cert.SmallReferenceIdeal.τ).loc Cert.SmallReferenceIdeal.main_arg13) = m ((c.tc : Thread Cert.SmallReferenceIdeal.nD Cert.SmallReferenceIdeal.τ).loc Cert.SmallReferenceIdeal.main_arg13)
      ∧ r.2.mem ((c.tc : Thread Cert.SmallReferenceIdeal.nD Cert.SmallReferenceIdeal.τ).loc Cert.SmallReferenceIdeal.main_arg14) = m ((c.tc : Thread Cert.SmallReferenceIdeal.nD Cert.SmallReferenceIdeal.τ).loc Cert.SmallReferenceIdeal.main_arg14)
      ∧ r.2.mem ((c.tc : Thread Cert.SmallReferenceIdeal.nD Cert.SmallReferenceIdeal.τ).loc Cert.SmallReferenceIdeal.main_arg15) = m ((c.tc : Thread Cert.SmallReferenceIdeal.nD Cert.SmallReferenceIdeal.τ).loc Cert.SmallReferenceIdeal.main_arg15)
      ∧ r.2.mem ((c.tc : Thread Cert.SmallReferenceIdeal.nD Cert.SmallReferenceIdeal.τ).loc Cert.SmallReferenceIdeal.main_arg16) = m ((c.tc : Thread Cert.SmallReferenceIdeal.nD Cert.SmallReferenceIdeal.τ).loc Cert.SmallReferenceIdeal.main_arg16)
      ∧ r.2.mem ((c.tc : Thread Cert.SmallReferenceIdeal.nD Cert.SmallReferenceIdeal.τ).loc Cert.SmallReferenceIdeal.main_arg17) = m ((c.tc : Thread Cert.SmallReferenceIdeal.nD Cert.SmallReferenceIdeal.τ).loc Cert.SmallReferenceIdeal.main_arg17)
      ∧ r.2.mem ((c.tc : Thread Cert.SmallReferenceIdeal.nD Cert.SmallReferenceIdeal.τ).loc Cert.SmallReferenceIdeal.main_arg18) = m ((c.tc : Thread Cert.SmallReferenceIdeal.nD Cert.SmallReferenceIdeal.τ).loc Cert.SmallReferenceIdeal.main_arg18)
      ∧ r.2.mem ((c.tc : Thread Cert.SmallReferenceIdeal.nD Cert.SmallReferenceIdeal.τ).loc Cert.SmallReferenceIdeal.main_arg19) = m ((c.tc : Thread Cert.SmallReferenceIdeal.nD Cert.SmallReferenceIdeal.τ).loc Cert.SmallReferenceIdeal.main_arg19)
      ∧ r.2.mem ((c.tc : Thread Cert.SmallReferenceIdeal.nD Cert.SmallReferenceIdeal.τ).loc Cert.SmallReferenceIdeal.main_arg20) = m ((c.tc : Thread Cert.SmallReferenceIdeal.nD Cert.SmallReferenceIdeal.τ).loc Cert.SmallReferenceIdeal.main_arg20)
      ∧ r.2.mem ((c.tc : Thread Cert.SmallReferenceIdeal.nD Cert.SmallReferenceIdeal.τ).loc Cert.SmallReferenceIdeal.main_arg21) = m ((c.tc : Thread Cert.SmallReferenceIdeal.nD Cert.SmallReferenceIdeal.τ).loc Cert.SmallReferenceIdeal.main_arg21)
      ∧ r.2.mem ((c.tc : Thread Cert.SmallReferenceIdeal.nD Cert.SmallReferenceIdeal.τ).loc Cert.SmallReferenceIdeal.main_arg22) = m ((c.tc : Thread Cert.SmallReferenceIdeal.nD Cert.SmallReferenceIdeal.τ).loc Cert.SmallReferenceIdeal.main_arg22)
      ∧ r.2.mem ((c.tc : Thread Cert.SmallReferenceIdeal.nD Cert.SmallReferenceIdeal.τ).loc Cert.SmallReferenceIdeal.main_arg23) = m ((c.tc : Thread Cert.SmallReferenceIdeal.nD Cert.SmallReferenceIdeal.τ).loc Cert.SmallReferenceIdeal.main_arg23)
      ∧ r.2.mem ((c.tc : Thread Cert.SmallReferenceIdeal.nD Cert.SmallReferenceIdeal.τ).loc Cert.SmallReferenceIdeal.main_arg24) = m ((c.tc : Thread Cert.SmallReferenceIdeal.nD Cert.SmallReferenceIdeal.τ).loc Cert.SmallReferenceIdeal.main_arg24))
      ∧ r.2.sem = fun _ => 0)

def preserves_GainKernel_GainKernelIdeal : Prop :=
  True

def algebraic_GainKernelIdeal_GainReferenceIdeal [hGainKernelIdeal : Cert.GainKernelIdeal.Facts] [hGainReferenceIdeal : Cert.GainReferenceIdeal.Facts] : Prop :=
  ∀ (m : (ℓ : Loc Cert.GainKernelIdeal.nD Cert.GainKernelIdeal.τ Cert.GainKernelIdeal.sig) → Buf (Elt Ideal) ℓ) (g : Dev Cert.GainKernelIdeal.nD → PrngReg)
    (m' : (ℓ : Loc Cert.GainReferenceIdeal.nD Cert.GainReferenceIdeal.τ Cert.GainReferenceIdeal.sig) → Buf (Elt Ideal) ℓ) (g' : Dev Cert.GainReferenceIdeal.nD → PrngReg), Pre_GainKernelIdeal m →
    (∀ c : Dev Cert.GainKernelIdeal.nD,
      m' ((c.tc : Thread Cert.GainReferenceIdeal.nD Cert.GainReferenceIdeal.τ).loc Cert.GainReferenceIdeal.main_arg0) = m ((c.tc : Thread Cert.GainKernelIdeal.nD Cert.GainKernelIdeal.τ).loc Cert.GainKernelIdeal.main_arg0)
      ∧ m' ((c.tc : Thread Cert.GainReferenceIdeal.nD Cert.GainReferenceIdeal.τ).loc Cert.GainReferenceIdeal.main_arg1) = m ((c.tc : Thread Cert.GainKernelIdeal.nD Cert.GainKernelIdeal.τ).loc Cert.GainKernelIdeal.main_arg1)
      ∧ m' ((c.tc : Thread Cert.GainReferenceIdeal.nD Cert.GainReferenceIdeal.τ).loc Cert.GainReferenceIdeal.main_arg2) = m ((c.tc : Thread Cert.GainKernelIdeal.nD Cert.GainKernelIdeal.τ).loc Cert.GainKernelIdeal.main_arg2)) →
    ∃ (v0 : (c : Dev Cert.GainKernelIdeal.nD) → Buf (Elt Ideal) ((c.tc : Thread Cert.GainKernelIdeal.nD Cert.GainKernelIdeal.τ).loc Cert.GainKernelIdeal.main_v2)),
      θ_run (Cert.GainKernelIdeal.defs (F := Ideal)) (onTc (τ := Cert.GainKernelIdeal.τ) (Cert.GainKernelIdeal.main (F := Ideal))) ⟨m, fun _ => 0, g⟩ (fun r => ∀ c : Dev Cert.GainKernelIdeal.nD,
          r.2.mem ((c.tc : Thread Cert.GainKernelIdeal.nD Cert.GainKernelIdeal.τ).loc Cert.GainKernelIdeal.main_v2) = v0 c
          ∧ r.2.mem ((c.tc : Thread Cert.GainKernelIdeal.nD Cert.GainKernelIdeal.τ).loc Cert.GainKernelIdeal.main_arg0) = m ((c.tc : Thread Cert.GainKernelIdeal.nD Cert.GainKernelIdeal.τ).loc Cert.GainKernelIdeal.main_arg0)
          ∧ r.2.mem ((c.tc : Thread Cert.GainKernelIdeal.nD Cert.GainKernelIdeal.τ).loc Cert.GainKernelIdeal.main_arg1) = m ((c.tc : Thread Cert.GainKernelIdeal.nD Cert.GainKernelIdeal.τ).loc Cert.GainKernelIdeal.main_arg1)
          ∧ r.2.mem ((c.tc : Thread Cert.GainKernelIdeal.nD Cert.GainKernelIdeal.τ).loc Cert.GainKernelIdeal.main_arg2) = m ((c.tc : Thread Cert.GainKernelIdeal.nD Cert.GainKernelIdeal.τ).loc Cert.GainKernelIdeal.main_arg2))
      ∧ θ_run (Cert.GainReferenceIdeal.defs (F := Ideal)) (onTc (τ := Cert.GainReferenceIdeal.τ) (Cert.GainReferenceIdeal.main (F := Ideal))) ⟨m', fun _ => 0, g'⟩ (fun r => ∀ c : Dev Cert.GainReferenceIdeal.nD,
          r.2.mem ((c.tc : Thread Cert.GainReferenceIdeal.nD Cert.GainReferenceIdeal.τ).loc Cert.GainReferenceIdeal.main_v18) = v0 c
          ∧ r.2.mem ((c.tc : Thread Cert.GainReferenceIdeal.nD Cert.GainReferenceIdeal.τ).loc Cert.GainReferenceIdeal.main_arg0) = m' ((c.tc : Thread Cert.GainReferenceIdeal.nD Cert.GainReferenceIdeal.τ).loc Cert.GainReferenceIdeal.main_arg0)
          ∧ r.2.mem ((c.tc : Thread Cert.GainReferenceIdeal.nD Cert.GainReferenceIdeal.τ).loc Cert.GainReferenceIdeal.main_arg1) = m' ((c.tc : Thread Cert.GainReferenceIdeal.nD Cert.GainReferenceIdeal.τ).loc Cert.GainReferenceIdeal.main_arg1)
          ∧ r.2.mem ((c.tc : Thread Cert.GainReferenceIdeal.nD Cert.GainReferenceIdeal.τ).loc Cert.GainReferenceIdeal.main_arg2) = m' ((c.tc : Thread Cert.GainReferenceIdeal.nD Cert.GainReferenceIdeal.τ).loc Cert.GainReferenceIdeal.main_arg2))

def preserves_SbKernel_SbKernelIdeal : Prop :=
  True

def algebraic_SbKernelIdeal_SbReferenceIdeal_pre_moderate_scores [hSbKernelIdeal : Cert.SbKernelIdeal.Facts] [hSbReferenceIdeal : Cert.SbReferenceIdeal.Facts] [hPre_moderate_scores : Cert.Pre_moderate_scores.Facts] : Prop :=
  ∀ (m : (ℓ : Loc Cert.SbKernelIdeal.nD Cert.SbKernelIdeal.τ Cert.SbKernelIdeal.sig) → Buf (Elt Ideal) ℓ) (g : Dev Cert.SbKernelIdeal.nD → PrngReg)
    (m' : (ℓ : Loc Cert.SbReferenceIdeal.nD Cert.SbReferenceIdeal.τ Cert.SbReferenceIdeal.sig) → Buf (Elt Ideal) ℓ) (g' : Dev Cert.SbReferenceIdeal.nD → PrngReg), Pre_SbKernelIdeal_moderate_scores m →
    (∀ c : Dev Cert.SbKernelIdeal.nD,
      m' ((c.tc : Thread Cert.SbReferenceIdeal.nD Cert.SbReferenceIdeal.τ).loc Cert.SbReferenceIdeal.main_arg0) = m ((c.tc : Thread Cert.SbKernelIdeal.nD Cert.SbKernelIdeal.τ).loc Cert.SbKernelIdeal.main_arg0)
      ∧ m' ((c.tc : Thread Cert.SbReferenceIdeal.nD Cert.SbReferenceIdeal.τ).loc Cert.SbReferenceIdeal.main_arg1) = m ((c.tc : Thread Cert.SbKernelIdeal.nD Cert.SbKernelIdeal.τ).loc Cert.SbKernelIdeal.main_arg1)
      ∧ m' ((c.tc : Thread Cert.SbReferenceIdeal.nD Cert.SbReferenceIdeal.τ).loc Cert.SbReferenceIdeal.main_arg2) = m ((c.tc : Thread Cert.SbKernelIdeal.nD Cert.SbKernelIdeal.τ).loc Cert.SbKernelIdeal.main_arg2)
      ∧ m' ((c.tc : Thread Cert.SbReferenceIdeal.nD Cert.SbReferenceIdeal.τ).loc Cert.SbReferenceIdeal.main_arg3) = m ((c.tc : Thread Cert.SbKernelIdeal.nD Cert.SbKernelIdeal.τ).loc Cert.SbKernelIdeal.main_arg3)) →
    ∃ (v0 : (c : Dev Cert.SbKernelIdeal.nD) → Buf (Elt Ideal) ((c.tc : Thread Cert.SbKernelIdeal.nD Cert.SbKernelIdeal.τ).loc Cert.SbKernelIdeal.main_v40)) (v1 : (c : Dev Cert.SbKernelIdeal.nD) → Buf (Elt Ideal) ((c.tc : Thread Cert.SbKernelIdeal.nD Cert.SbKernelIdeal.τ).loc Cert.SbKernelIdeal.main_v43)) (v2 : (c : Dev Cert.SbKernelIdeal.nD) → Buf (Elt Ideal) ((c.tc : Thread Cert.SbKernelIdeal.nD Cert.SbKernelIdeal.τ).loc Cert.SbKernelIdeal.main_v46)),
      θ_run (Cert.SbKernelIdeal.defs (F := Ideal)) (onTc (τ := Cert.SbKernelIdeal.τ) (Cert.SbKernelIdeal.main (F := Ideal))) ⟨m, fun _ => 0, g⟩ (fun r => ∀ c : Dev Cert.SbKernelIdeal.nD,
          r.2.mem ((c.tc : Thread Cert.SbKernelIdeal.nD Cert.SbKernelIdeal.τ).loc Cert.SbKernelIdeal.main_v40) = v0 c
          ∧ r.2.mem ((c.tc : Thread Cert.SbKernelIdeal.nD Cert.SbKernelIdeal.τ).loc Cert.SbKernelIdeal.main_v43) = v1 c
          ∧ r.2.mem ((c.tc : Thread Cert.SbKernelIdeal.nD Cert.SbKernelIdeal.τ).loc Cert.SbKernelIdeal.main_v46) = v2 c
          ∧ r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
          ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1)
          ∧ r.2.mem ((c.tc : Thread Cert.SbKernelIdeal.nD Cert.SbKernelIdeal.τ).loc Cert.SbKernelIdeal.main_arg2) = m ((c.tc : Thread Cert.SbKernelIdeal.nD Cert.SbKernelIdeal.τ).loc Cert.SbKernelIdeal.main_arg2)
          ∧ r.2.mem ((c.tc : Thread Cert.SbKernelIdeal.nD Cert.SbKernelIdeal.τ).loc Cert.SbKernelIdeal.main_arg3) = m ((c.tc : Thread Cert.SbKernelIdeal.nD Cert.SbKernelIdeal.τ).loc Cert.SbKernelIdeal.main_arg3))
      ∧ θ_run (Cert.SbReferenceIdeal.defs (F := Ideal)) (onTc (τ := Cert.SbReferenceIdeal.τ) (Cert.SbReferenceIdeal.main (F := Ideal))) ⟨m', fun _ => 0, g'⟩ (fun r => ∀ c : Dev Cert.SbReferenceIdeal.nD,
          r.2.mem ((c.tc : Thread Cert.SbReferenceIdeal.nD Cert.SbReferenceIdeal.τ).loc Cert.SbReferenceIdeal.main_v41) = v0 c
          ∧ r.2.mem ((c.tc : Thread Cert.SbReferenceIdeal.nD Cert.SbReferenceIdeal.τ).loc Cert.SbReferenceIdeal.main_v42) = v1 c
          ∧ r.2.mem ((c.tc : Thread Cert.SbReferenceIdeal.nD Cert.SbReferenceIdeal.τ).loc Cert.SbReferenceIdeal.main_v43) = v2 c
          ∧ r.2.mem ((c.tc : Thread Cert.SbReferenceIdeal.nD Cert.SbReferenceIdeal.τ).loc Cert.SbReferenceIdeal.main_arg0) = m' ((c.tc : Thread Cert.SbReferenceIdeal.nD Cert.SbReferenceIdeal.τ).loc Cert.SbReferenceIdeal.main_arg0)
          ∧ r.2.mem ((c.tc : Thread Cert.SbReferenceIdeal.nD Cert.SbReferenceIdeal.τ).loc Cert.SbReferenceIdeal.main_arg1) = m' ((c.tc : Thread Cert.SbReferenceIdeal.nD Cert.SbReferenceIdeal.τ).loc Cert.SbReferenceIdeal.main_arg1)
          ∧ r.2.mem ((c.tc : Thread Cert.SbReferenceIdeal.nD Cert.SbReferenceIdeal.τ).loc Cert.SbReferenceIdeal.main_arg2) = m' ((c.tc : Thread Cert.SbReferenceIdeal.nD Cert.SbReferenceIdeal.τ).loc Cert.SbReferenceIdeal.main_arg2)
          ∧ r.2.mem ((c.tc : Thread Cert.SbReferenceIdeal.nD Cert.SbReferenceIdeal.τ).loc Cert.SbReferenceIdeal.main_arg3) = m' ((c.tc : Thread Cert.SbReferenceIdeal.nD Cert.SbReferenceIdeal.τ).loc Cert.SbReferenceIdeal.main_arg3))

def preserves_MemKernel_MemKernelIdeal : Prop :=
  True

def algebraic_MemKernelIdeal_MemReferenceIdeal_pre_finite_memory [hMemKernelIdeal : Cert.MemKernelIdeal.Facts] [hMemReferenceIdeal : Cert.MemReferenceIdeal.Facts] [hPre_finite_memory : Cert.Pre_finite_memory.Facts] : Prop :=
  ∀ (m : (ℓ : Loc Cert.MemKernelIdeal.nD Cert.MemKernelIdeal.τ Cert.MemKernelIdeal.sig) → Buf (Elt Ideal) ℓ) (g : Dev Cert.MemKernelIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemKernelIdeal_finite_memory m →
    (∀ c : Dev Cert.MemKernelIdeal.nD,
      m' ((c.tc : Thread Cert.MemReferenceIdeal.nD Cert.MemReferenceIdeal.τ).loc Cert.MemReferenceIdeal.main_arg0) = m ((c.tc : Thread Cert.MemKernelIdeal.nD Cert.MemKernelIdeal.τ).loc Cert.MemKernelIdeal.main_arg0)
      ∧ m' ((c.tc : Thread Cert.MemReferenceIdeal.nD Cert.MemReferenceIdeal.τ).loc Cert.MemReferenceIdeal.main_arg1) = m ((c.tc : Thread Cert.MemKernelIdeal.nD Cert.MemKernelIdeal.τ).loc Cert.MemKernelIdeal.main_arg1)
      ∧ m' ((c.tc : Thread Cert.MemReferenceIdeal.nD Cert.MemReferenceIdeal.τ).loc Cert.MemReferenceIdeal.main_arg2) = m ((c.tc : Thread Cert.MemKernelIdeal.nD Cert.MemKernelIdeal.τ).loc Cert.MemKernelIdeal.main_arg2)
      ∧ m' ((c.tc : Thread Cert.MemReferenceIdeal.nD Cert.MemReferenceIdeal.τ).loc Cert.MemReferenceIdeal.main_arg3) = m ((c.tc : Thread Cert.MemKernelIdeal.nD Cert.MemKernelIdeal.τ).loc Cert.MemKernelIdeal.main_arg3)) →
    ∃ (v0 : (c : Dev Cert.MemKernelIdeal.nD) → Buf (Elt Ideal) ((c.tc : Thread Cert.MemKernelIdeal.nD Cert.MemKernelIdeal.τ).loc Cert.MemKernelIdeal.main_v13)) (v1 : (c : Dev Cert.MemKernelIdeal.nD) → Buf (Elt Ideal) ((c.tc : Thread Cert.MemKernelIdeal.nD Cert.MemKernelIdeal.τ).loc Cert.MemKernelIdeal.main_v14)) (v2 : (c : Dev Cert.MemKernelIdeal.nD) → Buf (Elt Ideal) ((c.tc : Thread Cert.MemKernelIdeal.nD Cert.MemKernelIdeal.τ).loc Cert.MemKernelIdeal.main_v15)),
      θ_run (Cert.MemKernelIdeal.defs (F := Ideal)) (onTc (τ := Cert.MemKernelIdeal.τ) (Cert.MemKernelIdeal.main (F := Ideal))) ⟨m, fun _ => 0, g⟩ (fun r => ∀ c : Dev Cert.MemKernelIdeal.nD,
          r.2.mem ((c.tc : Thread Cert.MemKernelIdeal.nD Cert.MemKernelIdeal.τ).loc Cert.MemKernelIdeal.main_v13) = v0 c
          ∧ r.2.mem ((c.tc : Thread Cert.MemKernelIdeal.nD Cert.MemKernelIdeal.τ).loc Cert.MemKernelIdeal.main_v14) = v1 c
          ∧ r.2.mem ((c.tc : Thread Cert.MemKernelIdeal.nD Cert.MemKernelIdeal.τ).loc Cert.MemKernelIdeal.main_v15) = v2 c
          ∧ r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
          ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
          ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
          ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v55) = v0 c
          ∧ r.2.mem ((c.tc : Thread Cert.MemReferenceIdeal.nD Cert.MemReferenceIdeal.τ).loc Cert.MemReferenceIdeal.main_v56) = v1 c
          ∧ r.2.mem ((c.tc : Thread Cert.MemReferenceIdeal.nD Cert.MemReferenceIdeal.τ).loc Cert.MemReferenceIdeal.main_v57) = v2 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2)
          ∧ r.2.mem ((c.tc : Thread Cert.MemReferenceIdeal.nD Cert.MemReferenceIdeal.τ).loc Cert.MemReferenceIdeal.main_arg3) = m' ((c.tc : Thread Cert.MemReferenceIdeal.nD Cert.MemReferenceIdeal.τ).loc Cert.MemReferenceIdeal.main_arg3))

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)
      ∧ m' ((c.tc : Thread Cert.GateReferenceIdeal.nD Cert.GateReferenceIdeal.τ).loc Cert.GateReferenceIdeal.main_arg4) = m ((c.tc : Thread Cert.GateKernelIdeal.nD Cert.GateKernelIdeal.τ).loc Cert.GateKernelIdeal.main_arg4)
      ∧ m' ((c.tc : Thread Cert.GateReferenceIdeal.nD Cert.GateReferenceIdeal.τ).loc Cert.GateReferenceIdeal.main_arg5) = m ((c.tc : Thread Cert.GateKernelIdeal.nD Cert.GateKernelIdeal.τ).loc Cert.GateKernelIdeal.main_arg5)
      ∧ m' ((c.tc : Thread Cert.GateReferenceIdeal.nD Cert.GateReferenceIdeal.τ).loc Cert.GateReferenceIdeal.main_arg6) = m ((c.tc : Thread Cert.GateKernelIdeal.nD Cert.GateKernelIdeal.τ).loc Cert.GateKernelIdeal.main_arg6)) →
    ∃ (v0 : (c : Dev Cert.GateKernelIdeal.nD) → Buf (Elt Ideal) ((c.tc : Thread Cert.GateKernelIdeal.nD Cert.GateKernelIdeal.τ).loc Cert.GateKernelIdeal.main_v6_3)) (v1 : (c : Dev Cert.GateKernelIdeal.nD) → Buf (Elt Ideal) ((c.tc : Thread Cert.GateKernelIdeal.nD Cert.GateKernelIdeal.τ).loc Cert.GateKernelIdeal.main_v6_0)) (v2 : (c : Dev Cert.GateKernelIdeal.nD) → Buf (Elt Ideal) ((c.tc : Thread Cert.GateKernelIdeal.nD Cert.GateKernelIdeal.τ).loc Cert.GateKernelIdeal.main_v6_1)) (v3 : (c : Dev Cert.GateKernelIdeal.nD) → Buf (Elt Ideal) ((c.tc : Thread Cert.GateKernelIdeal.nD Cert.GateKernelIdeal.τ).loc Cert.GateKernelIdeal.main_v6_2)) (v4 : (c : Dev Cert.GateKernelIdeal.nD) → Buf (Elt Ideal) ((c.tc : Thread Cert.GateKernelIdeal.nD Cert.GateKernelIdeal.τ).loc Cert.GateKernelIdeal.main_v6_4)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v6_3) = v0 c
          ∧ r.2.mem ((c.tc : Thread Cert.GateKernelIdeal.nD Cert.GateKernelIdeal.τ).loc Cert.GateKernelIdeal.main_v6_0) = v1 c
          ∧ r.2.mem ((c.tc : Thread Cert.GateKernelIdeal.nD Cert.GateKernelIdeal.τ).loc Cert.GateKernelIdeal.main_v6_1) = v2 c
          ∧ r.2.mem ((c.tc : Thread Cert.GateKernelIdeal.nD Cert.GateKernelIdeal.τ).loc Cert.GateKernelIdeal.main_v6_2) = v3 c
          ∧ r.2.mem ((c.tc : Thread Cert.GateKernelIdeal.nD Cert.GateKernelIdeal.τ).loc Cert.GateKernelIdeal.main_v6_4) = v4 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
          ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4)
          ∧ r.2.mem ((c.tc : Thread Cert.GateKernelIdeal.nD Cert.GateKernelIdeal.τ).loc Cert.GateKernelIdeal.main_arg5) = m ((c.tc : Thread Cert.GateKernelIdeal.nD Cert.GateKernelIdeal.τ).loc Cert.GateKernelIdeal.main_arg5)
          ∧ r.2.mem ((c.tc : Thread Cert.GateKernelIdeal.nD Cert.GateKernelIdeal.τ).loc Cert.GateKernelIdeal.main_arg6) = m ((c.tc : Thread Cert.GateKernelIdeal.nD Cert.GateKernelIdeal.τ).loc Cert.GateKernelIdeal.main_arg6))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v43) = v0 c
          ∧ r.2.mem ((c.tc : Thread Cert.GateReferenceIdeal.nD Cert.GateReferenceIdeal.τ).loc Cert.GateReferenceIdeal.main_v44) = v1 c
          ∧ r.2.mem ((c.tc : Thread Cert.GateReferenceIdeal.nD Cert.GateReferenceIdeal.τ).loc Cert.GateReferenceIdeal.main_v45) = v2 c
          ∧ r.2.mem ((c.tc : Thread Cert.GateReferenceIdeal.nD Cert.GateReferenceIdeal.τ).loc Cert.GateReferenceIdeal.main_v46) = v3 c
          ∧ r.2.mem ((c.tc : Thread Cert.GateReferenceIdeal.nD Cert.GateReferenceIdeal.τ).loc Cert.GateReferenceIdeal.main_v42) = v4 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4)
          ∧ r.2.mem ((c.tc : Thread Cert.GateReferenceIdeal.nD Cert.GateReferenceIdeal.τ).loc Cert.GateReferenceIdeal.main_arg5) = m' ((c.tc : Thread Cert.GateReferenceIdeal.nD Cert.GateReferenceIdeal.τ).loc Cert.GateReferenceIdeal.main_arg5)
          ∧ r.2.mem ((c.tc : Thread Cert.GateReferenceIdeal.nD Cert.GateReferenceIdeal.τ).loc Cert.GateReferenceIdeal.main_arg6) = m' ((c.tc : Thread Cert.GateReferenceIdeal.nD Cert.GateReferenceIdeal.τ).loc Cert.GateReferenceIdeal.main_arg6))

def preserves_SwigluKernel_SwigluKernelIdeal : Prop :=
  True

def algebraic_SwigluKernelIdeal_SwigluReferenceIdeal_pre_finite_swiglu [hSwigluKernelIdeal : Cert.SwigluKernelIdeal.Facts] [hSwigluReferenceIdeal : Cert.SwigluReferenceIdeal.Facts] [hPre_finite_swiglu : Cert.Pre_finite_swiglu.Facts] : Prop :=
  ∀ (m : (ℓ : Loc Cert.SwigluKernelIdeal.nD Cert.SwigluKernelIdeal.τ Cert.SwigluKernelIdeal.sig) → Buf (Elt Ideal) ℓ) (g : Dev Cert.SwigluKernelIdeal.nD → PrngReg)
    (m' : (ℓ : Loc Cert.SwigluReferenceIdeal.nD Cert.SwigluReferenceIdeal.τ Cert.SwigluReferenceIdeal.sig) → Buf (Elt Ideal) ℓ) (g' : Dev Cert.SwigluReferenceIdeal.nD → PrngReg), Pre_SwigluKernelIdeal_finite_swiglu m →
    (∀ c : Dev Cert.SwigluKernelIdeal.nD,
      m' ((c.tc : Thread Cert.SwigluReferenceIdeal.nD Cert.SwigluReferenceIdeal.τ).loc Cert.SwigluReferenceIdeal.main_arg0) = m ((c.tc : Thread Cert.SwigluKernelIdeal.nD Cert.SwigluKernelIdeal.τ).loc Cert.SwigluKernelIdeal.main_arg0)
      ∧ m' ((c.tc : Thread Cert.SwigluReferenceIdeal.nD Cert.SwigluReferenceIdeal.τ).loc Cert.SwigluReferenceIdeal.main_arg1) = m ((c.tc : Thread Cert.SwigluKernelIdeal.nD Cert.SwigluKernelIdeal.τ).loc Cert.SwigluKernelIdeal.main_arg1)
      ∧ m' ((c.tc : Thread Cert.SwigluReferenceIdeal.nD Cert.SwigluReferenceIdeal.τ).loc Cert.SwigluReferenceIdeal.main_arg2) = m ((c.tc : Thread Cert.SwigluKernelIdeal.nD Cert.SwigluKernelIdeal.τ).loc Cert.SwigluKernelIdeal.main_arg2)) →
    ∃ (v0 : (c : Dev Cert.SwigluKernelIdeal.nD) → Buf (Elt Ideal) ((c.tc : Thread Cert.SwigluKernelIdeal.nD Cert.SwigluKernelIdeal.τ).loc Cert.SwigluKernelIdeal.main_v5)),
      θ_run (Cert.SwigluKernelIdeal.defs (F := Ideal)) (onTc (τ := Cert.SwigluKernelIdeal.τ) (Cert.SwigluKernelIdeal.main (F := Ideal))) ⟨m, fun _ => 0, g⟩ (fun r => ∀ c : Dev Cert.SwigluKernelIdeal.nD,
          r.2.mem ((c.tc : Thread Cert.SwigluKernelIdeal.nD Cert.SwigluKernelIdeal.τ).loc Cert.SwigluKernelIdeal.main_v5) = v0 c
          ∧ r.2.mem ((c.tc : Thread Cert.SwigluKernelIdeal.nD Cert.SwigluKernelIdeal.τ).loc Cert.SwigluKernelIdeal.main_arg0) = m ((c.tc : Thread Cert.SwigluKernelIdeal.nD Cert.SwigluKernelIdeal.τ).loc Cert.SwigluKernelIdeal.main_arg0)
          ∧ r.2.mem ((c.tc : Thread Cert.SwigluKernelIdeal.nD Cert.SwigluKernelIdeal.τ).loc Cert.SwigluKernelIdeal.main_arg1) = m ((c.tc : Thread Cert.SwigluKernelIdeal.nD Cert.SwigluKernelIdeal.τ).loc Cert.SwigluKernelIdeal.main_arg1)
          ∧ r.2.mem ((c.tc : Thread Cert.SwigluKernelIdeal.nD Cert.SwigluKernelIdeal.τ).loc Cert.SwigluKernelIdeal.main_arg2) = m ((c.tc : Thread Cert.SwigluKernelIdeal.nD Cert.SwigluKernelIdeal.τ).loc Cert.SwigluKernelIdeal.main_arg2))
      ∧ θ_run (Cert.SwigluReferenceIdeal.defs (F := Ideal)) (onTc (τ := Cert.SwigluReferenceIdeal.τ) (Cert.SwigluReferenceIdeal.main (F := Ideal))) ⟨m', fun _ => 0, g'⟩ (fun r => ∀ c : Dev Cert.SwigluReferenceIdeal.nD,
          r.2.mem ((c.tc : Thread Cert.SwigluReferenceIdeal.nD Cert.SwigluReferenceIdeal.τ).loc Cert.SwigluReferenceIdeal.main_v12) = v0 c
          ∧ r.2.mem ((c.tc : Thread Cert.SwigluReferenceIdeal.nD Cert.SwigluReferenceIdeal.τ).loc Cert.SwigluReferenceIdeal.main_arg0) = m' ((c.tc : Thread Cert.SwigluReferenceIdeal.nD Cert.SwigluReferenceIdeal.τ).loc Cert.SwigluReferenceIdeal.main_arg0)
          ∧ r.2.mem ((c.tc : Thread Cert.SwigluReferenceIdeal.nD Cert.SwigluReferenceIdeal.τ).loc Cert.SwigluReferenceIdeal.main_arg1) = m' ((c.tc : Thread Cert.SwigluReferenceIdeal.nD Cert.SwigluReferenceIdeal.τ).loc Cert.SwigluReferenceIdeal.main_arg1)
          ∧ r.2.mem ((c.tc : Thread Cert.SwigluReferenceIdeal.nD Cert.SwigluReferenceIdeal.τ).loc Cert.SwigluReferenceIdeal.main_arg2) = m' ((c.tc : Thread Cert.SwigluReferenceIdeal.nD Cert.SwigluReferenceIdeal.τ).loc Cert.SwigluReferenceIdeal.main_arg2))

def preserves_LossKernel_LossKernelIdeal : Prop :=
  True

def algebraic_LossKernelIdeal_LossReferenceIdeal_pre_finite_loss [hLossKernelIdeal : Cert.LossKernelIdeal.Facts] [hLossReferenceIdeal : Cert.LossReferenceIdeal.Facts] [hPre_finite_loss : Cert.Pre_finite_loss.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_finite_loss m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)
      ∧ m' ((c.tc : Thread Cert.LossReferenceIdeal.nD Cert.LossReferenceIdeal.τ).loc Cert.LossReferenceIdeal.main_arg4) = m ((c.tc : Thread Cert.LossKernelIdeal.nD Cert.LossKernelIdeal.τ).loc Cert.LossKernelIdeal.main_arg4)) →
    ∃ (v0 : (c : Dev Cert.LossKernelIdeal.nD) → Buf (Elt Ideal) ((c.tc : Thread Cert.LossKernelIdeal.nD Cert.LossKernelIdeal.τ).loc Cert.LossKernelIdeal.main_v2_0)) (v1 : (c : Dev Cert.LossKernelIdeal.nD) → Buf (Elt Ideal) ((c.tc : Thread Cert.LossKernelIdeal.nD Cert.LossKernelIdeal.τ).loc Cert.LossKernelIdeal.main_v2_1)) (v2 : (c : Dev Cert.LossKernelIdeal.nD) → Buf (Elt Ideal) ((c.tc : Thread Cert.LossKernelIdeal.nD Cert.LossKernelIdeal.τ).loc Cert.LossKernelIdeal.main_v2_2)) (v3 : (c : Dev Cert.LossKernelIdeal.nD) → Buf (Elt Ideal) ((c.tc : Thread Cert.LossKernelIdeal.nD Cert.LossKernelIdeal.τ).loc Cert.LossKernelIdeal.main_v2_3)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v2_0) = v0 c
          ∧ r.2.mem ((c.tc : Thread Cert.LossKernelIdeal.nD Cert.LossKernelIdeal.τ).loc Cert.LossKernelIdeal.main_v2_1) = v1 c
          ∧ r.2.mem ((c.tc : Thread Cert.LossKernelIdeal.nD Cert.LossKernelIdeal.τ).loc Cert.LossKernelIdeal.main_v2_2) = v2 c
          ∧ r.2.mem ((c.tc : Thread Cert.LossKernelIdeal.nD Cert.LossKernelIdeal.τ).loc Cert.LossKernelIdeal.main_v2_3) = v3 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
          ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v37) = v0 c
          ∧ r.2.mem ((c.tc : Thread Cert.LossReferenceIdeal.nD Cert.LossReferenceIdeal.τ).loc Cert.LossReferenceIdeal.main_v57) = v1 c
          ∧ r.2.mem ((c.tc : Thread Cert.LossReferenceIdeal.nD Cert.LossReferenceIdeal.τ).loc Cert.LossReferenceIdeal.main_v40) = v2 c
          ∧ r.2.mem ((c.tc : Thread Cert.LossReferenceIdeal.nD Cert.LossReferenceIdeal.τ).loc Cert.LossReferenceIdeal.main_v31) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4))

def preserves_MixKernel_MixKernelIdeal : Prop :=
  True

def algebraic_MixKernelIdeal_MixReferenceIdeal_pre_finite_mix [hMixKernelIdeal : Cert.MixKernelIdeal.Facts] [hMixReferenceIdeal : Cert.MixReferenceIdeal.Facts] [hPre_finite_mix : Cert.Pre_finite_mix.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal_finite_mix m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)) →
    ∃ (v0 : (c : Dev Cert.MixKernelIdeal.nD) → Buf (Elt Ideal) ((c.tc : Thread Cert.MixKernelIdeal.nD Cert.MixKernelIdeal.τ).loc Cert.MixKernelIdeal.main_v15_0)) (v1 : (c : Dev Cert.MixKernelIdeal.nD) → Buf (Elt Ideal) ((c.tc : Thread Cert.MixKernelIdeal.nD Cert.MixKernelIdeal.τ).loc Cert.MixKernelIdeal.main_v15_1)) (v2 : (c : Dev Cert.MixKernelIdeal.nD) → Buf (Elt Ideal) ((c.tc : Thread Cert.MixKernelIdeal.nD Cert.MixKernelIdeal.τ).loc Cert.MixKernelIdeal.main_v15_3)) (v3 : (c : Dev Cert.MixKernelIdeal.nD) → Buf (Elt Ideal) ((c.tc : Thread Cert.MixKernelIdeal.nD Cert.MixKernelIdeal.τ).loc Cert.MixKernelIdeal.main_v15_2)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v15_0) = v0 c
          ∧ r.2.mem ((c.tc : Thread Cert.MixKernelIdeal.nD Cert.MixKernelIdeal.τ).loc Cert.MixKernelIdeal.main_v15_1) = v1 c
          ∧ r.2.mem ((c.tc : Thread Cert.MixKernelIdeal.nD Cert.MixKernelIdeal.τ).loc Cert.MixKernelIdeal.main_v15_3) = v2 c
          ∧ r.2.mem ((c.tc : Thread Cert.MixKernelIdeal.nD Cert.MixKernelIdeal.τ).loc Cert.MixKernelIdeal.main_v15_2) = v3 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v52) = v0 c
          ∧ r.2.mem ((c.tc : Thread Cert.MixReferenceIdeal.nD Cert.MixReferenceIdeal.τ).loc Cert.MixReferenceIdeal.main_v73) = v1 c
          ∧ r.2.mem ((c.tc : Thread Cert.MixReferenceIdeal.nD Cert.MixReferenceIdeal.τ).loc Cert.MixReferenceIdeal.main_v56) = v2 c
          ∧ r.2.mem ((c.tc : Thread Cert.MixReferenceIdeal.nD Cert.MixReferenceIdeal.τ).loc Cert.MixReferenceIdeal.main_v35) = v3 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6))

def preserves_PreKernel_PreKernelIdeal : Prop :=
  True

def algebraic_PreKernelIdeal_PreReferenceIdeal_pre_finite_pre [hPreKernelIdeal : Cert.PreKernelIdeal.Facts] [hPreReferenceIdeal : Cert.PreReferenceIdeal.Facts] [hPre_finite_pre : Cert.Pre_finite_pre.Facts] : Prop :=
  ∀ (m : (ℓ : Loc Cert.PreKernelIdeal.nD Cert.PreKernelIdeal.τ Cert.PreKernelIdeal.sig) → Buf (Elt Ideal) ℓ) (g : Dev Cert.PreKernelIdeal.nD → PrngReg)
    (m' : (ℓ : Loc Cert.PreReferenceIdeal.nD Cert.PreReferenceIdeal.τ Cert.PreReferenceIdeal.sig) → Buf (Elt Ideal) ℓ) (g' : Dev Cert.PreReferenceIdeal.nD → PrngReg), Pre_PreKernelIdeal_finite_pre m →
    (∀ c : Dev Cert.PreKernelIdeal.nD,
      m' ((c.tc : Thread Cert.PreReferenceIdeal.nD Cert.PreReferenceIdeal.τ).loc Cert.PreReferenceIdeal.main_arg0) = m ((c.tc : Thread Cert.PreKernelIdeal.nD Cert.PreKernelIdeal.τ).loc Cert.PreKernelIdeal.main_arg0)
      ∧ m' ((c.tc : Thread Cert.PreReferenceIdeal.nD Cert.PreReferenceIdeal.τ).loc Cert.PreReferenceIdeal.main_arg1) = m ((c.tc : Thread Cert.PreKernelIdeal.nD Cert.PreKernelIdeal.τ).loc Cert.PreKernelIdeal.main_arg1)
      ∧ m' ((c.tc : Thread Cert.PreReferenceIdeal.nD Cert.PreReferenceIdeal.τ).loc Cert.PreReferenceIdeal.main_arg2) = m ((c.tc : Thread Cert.PreKernelIdeal.nD Cert.PreKernelIdeal.τ).loc Cert.PreKernelIdeal.main_arg2)
      ∧ m' ((c.tc : Thread Cert.PreReferenceIdeal.nD Cert.PreReferenceIdeal.τ).loc Cert.PreReferenceIdeal.main_arg3) = m ((c.tc : Thread Cert.PreKernelIdeal.nD Cert.PreKernelIdeal.τ).loc Cert.PreKernelIdeal.main_arg3)
      ∧ m' ((c.tc : Thread Cert.PreReferenceIdeal.nD Cert.PreReferenceIdeal.τ).loc Cert.PreReferenceIdeal.main_arg4) = m ((c.tc : Thread Cert.PreKernelIdeal.nD Cert.PreKernelIdeal.τ).loc Cert.PreKernelIdeal.main_arg4)
      ∧ m' ((c.tc : Thread Cert.PreReferenceIdeal.nD Cert.PreReferenceIdeal.τ).loc Cert.PreReferenceIdeal.main_arg5) = m ((c.tc : Thread Cert.PreKernelIdeal.nD Cert.PreKernelIdeal.τ).loc Cert.PreKernelIdeal.main_arg5)
      ∧ m' ((c.tc : Thread Cert.PreReferenceIdeal.nD Cert.PreReferenceIdeal.τ).loc Cert.PreReferenceIdeal.main_arg6) = m ((c.tc : Thread Cert.PreKernelIdeal.nD Cert.PreKernelIdeal.τ).loc Cert.PreKernelIdeal.main_arg6)) →
    ∃ (v0 : (c : Dev Cert.PreKernelIdeal.nD) → Buf (Elt Ideal) ((c.tc : Thread Cert.PreKernelIdeal.nD Cert.PreKernelIdeal.τ).loc Cert.PreKernelIdeal.main_v80_0)) (v1 : (c : Dev Cert.PreKernelIdeal.nD) → Buf (Elt Ideal) ((c.tc : Thread Cert.PreKernelIdeal.nD Cert.PreKernelIdeal.τ).loc Cert.PreKernelIdeal.main_v80_1)),
      θ_run (Cert.PreKernelIdeal.defs (F := Ideal)) (onTc (τ := Cert.PreKernelIdeal.τ) (Cert.PreKernelIdeal.main (F := Ideal))) ⟨m, fun _ => 0, g⟩ (fun r => ∀ c : Dev Cert.PreKernelIdeal.nD,
          r.2.mem ((c.tc : Thread Cert.PreKernelIdeal.nD Cert.PreKernelIdeal.τ).loc Cert.PreKernelIdeal.main_v80_0) = v0 c
          ∧ r.2.mem ((c.tc : Thread Cert.PreKernelIdeal.nD Cert.PreKernelIdeal.τ).loc Cert.PreKernelIdeal.main_v80_1) = v1 c
          ∧ r.2.mem ((c.tc : Thread Cert.PreKernelIdeal.nD Cert.PreKernelIdeal.τ).loc Cert.PreKernelIdeal.main_arg0) = m ((c.tc : Thread Cert.PreKernelIdeal.nD Cert.PreKernelIdeal.τ).loc Cert.PreKernelIdeal.main_arg0)
          ∧ r.2.mem ((c.tc : Thread Cert.PreKernelIdeal.nD Cert.PreKernelIdeal.τ).loc Cert.PreKernelIdeal.main_arg1) = m ((c.tc : Thread Cert.PreKernelIdeal.nD Cert.PreKernelIdeal.τ).loc Cert.PreKernelIdeal.main_arg1)
          ∧ r.2.mem ((c.tc : Thread Cert.PreKernelIdeal.nD Cert.PreKernelIdeal.τ).loc Cert.PreKernelIdeal.main_arg2) = m ((c.tc : Thread Cert.PreKernelIdeal.nD Cert.PreKernelIdeal.τ).loc Cert.PreKernelIdeal.main_arg2)
          ∧ r.2.mem ((c.tc : Thread Cert.PreKernelIdeal.nD Cert.PreKernelIdeal.τ).loc Cert.PreKernelIdeal.main_arg3) = m ((c.tc : Thread Cert.PreKernelIdeal.nD Cert.PreKernelIdeal.τ).loc Cert.PreKernelIdeal.main_arg3)
          ∧ r.2.mem ((c.tc : Thread Cert.PreKernelIdeal.nD Cert.PreKernelIdeal.τ).loc Cert.PreKernelIdeal.main_arg4) = m ((c.tc : Thread Cert.PreKernelIdeal.nD Cert.PreKernelIdeal.τ).loc Cert.PreKernelIdeal.main_arg4)
          ∧ r.2.mem ((c.tc : Thread Cert.PreKernelIdeal.nD Cert.PreKernelIdeal.τ).loc Cert.PreKernelIdeal.main_arg5) = m ((c.tc : Thread Cert.PreKernelIdeal.nD Cert.PreKernelIdeal.τ).loc Cert.PreKernelIdeal.main_arg5)
          ∧ r.2.mem ((c.tc : Thread Cert.PreKernelIdeal.nD Cert.PreKernelIdeal.τ).loc Cert.PreKernelIdeal.main_arg6) = m ((c.tc : Thread Cert.PreKernelIdeal.nD Cert.PreKernelIdeal.τ).loc Cert.PreKernelIdeal.main_arg6))
      ∧ θ_run (Cert.PreReferenceIdeal.defs (F := Ideal)) (onTc (τ := Cert.PreReferenceIdeal.τ) (Cert.PreReferenceIdeal.main (F := Ideal))) ⟨m', fun _ => 0, g'⟩ (fun r => ∀ c : Dev Cert.PreReferenceIdeal.nD,
          r.2.mem ((c.tc : Thread Cert.PreReferenceIdeal.nD Cert.PreReferenceIdeal.τ).loc Cert.PreReferenceIdeal.main_v39) = v0 c
          ∧ r.2.mem ((c.tc : Thread Cert.PreReferenceIdeal.nD Cert.PreReferenceIdeal.τ).loc Cert.PreReferenceIdeal.main_v22) = v1 c
          ∧ r.2.mem ((c.tc : Thread Cert.PreReferenceIdeal.nD Cert.PreReferenceIdeal.τ).loc Cert.PreReferenceIdeal.main_arg0) = m' ((c.tc : Thread Cert.PreReferenceIdeal.nD Cert.PreReferenceIdeal.τ).loc Cert.PreReferenceIdeal.main_arg0)
          ∧ r.2.mem ((c.tc : Thread Cert.PreReferenceIdeal.nD Cert.PreReferenceIdeal.τ).loc Cert.PreReferenceIdeal.main_arg1) = m' ((c.tc : Thread Cert.PreReferenceIdeal.nD Cert.PreReferenceIdeal.τ).loc Cert.PreReferenceIdeal.main_arg1)
          ∧ r.2.mem ((c.tc : Thread Cert.PreReferenceIdeal.nD Cert.PreReferenceIdeal.τ).loc Cert.PreReferenceIdeal.main_arg2) = m' ((c.tc : Thread Cert.PreReferenceIdeal.nD Cert.PreReferenceIdeal.τ).loc Cert.PreReferenceIdeal.main_arg2)
          ∧ r.2.mem ((c.tc : Thread Cert.PreReferenceIdeal.nD Cert.PreReferenceIdeal.τ).loc Cert.PreReferenceIdeal.main_arg3) = m' ((c.tc : Thread Cert.PreReferenceIdeal.nD Cert.PreReferenceIdeal.τ).loc Cert.PreReferenceIdeal.main_arg3)
          ∧ r.2.mem ((c.tc : Thread Cert.PreReferenceIdeal.nD Cert.PreReferenceIdeal.τ).loc Cert.PreReferenceIdeal.main_arg4) = m' ((c.tc : Thread Cert.PreReferenceIdeal.nD Cert.PreReferenceIdeal.τ).loc Cert.PreReferenceIdeal.main_arg4)
          ∧ r.2.mem ((c.tc : Thread Cert.PreReferenceIdeal.nD Cert.PreReferenceIdeal.τ).loc Cert.PreReferenceIdeal.main_arg5) = m' ((c.tc : Thread Cert.PreReferenceIdeal.nD Cert.PreReferenceIdeal.τ).loc Cert.PreReferenceIdeal.main_arg5)
          ∧ r.2.mem ((c.tc : Thread Cert.PreReferenceIdeal.nD Cert.PreReferenceIdeal.τ).loc Cert.PreReferenceIdeal.main_arg6) = m' ((c.tc : Thread Cert.PreReferenceIdeal.nD Cert.PreReferenceIdeal.τ).loc Cert.PreReferenceIdeal.main_arg6))

def preserves_SbfKernel_SbfKernelIdeal : Prop :=
  True

def algebraic_SbfKernelIdeal_SbfReferenceIdeal_pre_moderate_forward [hSbfKernelIdeal : Cert.SbfKernelIdeal.Facts] [hSbfReferenceIdeal : Cert.SbfReferenceIdeal.Facts] [hPre_moderate_forward : Cert.Pre_moderate_forward.Facts] : Prop :=
  ∀ (m : (ℓ : Loc Cert.SbfKernelIdeal.nD Cert.SbfKernelIdeal.τ Cert.SbfKernelIdeal.sig) → Buf (Elt Ideal) ℓ) (g : Dev Cert.SbfKernelIdeal.nD → PrngReg)
    (m' : (ℓ : Loc Cert.SbfReferenceIdeal.nD Cert.SbfReferenceIdeal.τ Cert.SbfReferenceIdeal.sig) → Buf (Elt Ideal) ℓ) (g' : Dev Cert.SbfReferenceIdeal.nD → PrngReg), Pre_SbfKernelIdeal_moderate_forward m →
    (∀ c : Dev Cert.SbfKernelIdeal.nD,
      m' ((c.tc : Thread Cert.SbfReferenceIdeal.nD Cert.SbfReferenceIdeal.τ).loc Cert.SbfReferenceIdeal.main_arg0) = m ((c.tc : Thread Cert.SbfKernelIdeal.nD Cert.SbfKernelIdeal.τ).loc Cert.SbfKernelIdeal.main_arg0)
      ∧ m' ((c.tc : Thread Cert.SbfReferenceIdeal.nD Cert.SbfReferenceIdeal.τ).loc Cert.SbfReferenceIdeal.main_arg1) = m ((c.tc : Thread Cert.SbfKernelIdeal.nD Cert.SbfKernelIdeal.τ).loc Cert.SbfKernelIdeal.main_arg1)
      ∧ m' ((c.tc : Thread Cert.SbfReferenceIdeal.nD Cert.SbfReferenceIdeal.τ).loc Cert.SbfReferenceIdeal.main_arg2) = m ((c.tc : Thread Cert.SbfKernelIdeal.nD Cert.SbfKernelIdeal.τ).loc Cert.SbfKernelIdeal.main_arg2)) →
    ∃ (v0 : (c : Dev Cert.SbfKernelIdeal.nD) → Buf (Elt Ideal) ((c.tc : Thread Cert.SbfKernelIdeal.nD Cert.SbfKernelIdeal.τ).loc Cert.SbfKernelIdeal.main_v12)) (v1 : (c : Dev Cert.SbfKernelIdeal.nD) → Buf (Elt Ideal) ((c.tc : Thread Cert.SbfKernelIdeal.nD Cert.SbfKernelIdeal.τ).loc Cert.SbfKernelIdeal.main_v13)),
      θ_run (Cert.SbfKernelIdeal.defs (F := Ideal)) (onTc (τ := Cert.SbfKernelIdeal.τ) (Cert.SbfKernelIdeal.main (F := Ideal))) ⟨m, fun _ => 0, g⟩ (fun r => ∀ c : Dev Cert.SbfKernelIdeal.nD,
          r.2.mem ((c.tc : Thread Cert.SbfKernelIdeal.nD Cert.SbfKernelIdeal.τ).loc Cert.SbfKernelIdeal.main_v12) = v0 c
          ∧ r.2.mem ((c.tc : Thread Cert.SbfKernelIdeal.nD Cert.SbfKernelIdeal.τ).loc Cert.SbfKernelIdeal.main_v13) = v1 c
          ∧ r.2.mem ((c.tc : Thread Cert.SbfKernelIdeal.nD Cert.SbfKernelIdeal.τ).loc Cert.SbfKernelIdeal.main_arg0) = m ((c.tc : Thread Cert.SbfKernelIdeal.nD Cert.SbfKernelIdeal.τ).loc Cert.SbfKernelIdeal.main_arg0)
          ∧ r.2.mem ((c.tc : Thread Cert.SbfKernelIdeal.nD Cert.SbfKernelIdeal.τ).loc Cert.SbfKernelIdeal.main_arg1) = m ((c.tc : Thread Cert.SbfKernelIdeal.nD Cert.SbfKernelIdeal.τ).loc Cert.SbfKernelIdeal.main_arg1)
          ∧ r.2.mem ((c.tc : Thread Cert.SbfKernelIdeal.nD Cert.SbfKernelIdeal.τ).loc Cert.SbfKernelIdeal.main_arg2) = m ((c.tc : Thread Cert.SbfKernelIdeal.nD Cert.SbfKernelIdeal.τ).loc Cert.SbfKernelIdeal.main_arg2))
      ∧ θ_run (Cert.SbfReferenceIdeal.defs (F := Ideal)) (onTc (τ := Cert.SbfReferenceIdeal.τ) (Cert.SbfReferenceIdeal.main (F := Ideal))) ⟨m', fun _ => 0, g'⟩ (fun r => ∀ c : Dev Cert.SbfReferenceIdeal.nD,
          r.2.mem ((c.tc : Thread Cert.SbfReferenceIdeal.nD Cert.SbfReferenceIdeal.τ).loc Cert.SbfReferenceIdeal.main_v21) = v0 c
          ∧ r.2.mem ((c.tc : Thread Cert.SbfReferenceIdeal.nD Cert.SbfReferenceIdeal.τ).loc Cert.SbfReferenceIdeal.main_v20) = v1 c
          ∧ r.2.mem ((c.tc : Thread Cert.SbfReferenceIdeal.nD Cert.SbfReferenceIdeal.τ).loc Cert.SbfReferenceIdeal.main_arg0) = m' ((c.tc : Thread Cert.SbfReferenceIdeal.nD Cert.SbfReferenceIdeal.τ).loc Cert.SbfReferenceIdeal.main_arg0)
          ∧ r.2.mem ((c.tc : Thread Cert.SbfReferenceIdeal.nD Cert.SbfReferenceIdeal.τ).loc Cert.SbfReferenceIdeal.main_arg1) = m' ((c.tc : Thread Cert.SbfReferenceIdeal.nD Cert.SbfReferenceIdeal.τ).loc Cert.SbfReferenceIdeal.main_arg1)
          ∧ r.2.mem ((c.tc : Thread Cert.SbfReferenceIdeal.nD Cert.SbfReferenceIdeal.τ).loc Cert.SbfReferenceIdeal.main_arg2) = m' ((c.tc : Thread Cert.SbfReferenceIdeal.nD Cert.SbfReferenceIdeal.τ).loc Cert.SbfReferenceIdeal.main_arg2))

def preserves_MemfKernel_MemfKernelIdeal : Prop :=
  True

def algebraic_MemfKernelIdeal_MemfReferenceIdeal [hMemfKernelIdeal : Cert.MemfKernelIdeal.Facts] [hMemfReferenceIdeal : Cert.MemfReferenceIdeal.Facts] : Prop :=
  ∀ (m : (ℓ : Loc Cert.MemfKernelIdeal.nD Cert.MemfKernelIdeal.τ Cert.MemfKernelIdeal.sig) → Buf (Elt Ideal) ℓ) (g : Dev Cert.MemfKernelIdeal.nD → PrngReg)
    (m' : (ℓ : Loc Cert.MemfReferenceIdeal.nD Cert.MemfReferenceIdeal.τ Cert.MemfReferenceIdeal.sig) → Buf (Elt Ideal) ℓ) (g' : Dev Cert.MemfReferenceIdeal.nD → PrngReg), Pre_MemfKernelIdeal m →
    (∀ c : Dev Cert.MemfKernelIdeal.nD,
      m' ((c.tc : Thread Cert.MemfReferenceIdeal.nD Cert.MemfReferenceIdeal.τ).loc Cert.MemfReferenceIdeal.main_arg0) = m ((c.tc : Thread Cert.MemfKernelIdeal.nD Cert.MemfKernelIdeal.τ).loc Cert.MemfKernelIdeal.main_arg0)
      ∧ m' ((c.tc : Thread Cert.MemfReferenceIdeal.nD Cert.MemfReferenceIdeal.τ).loc Cert.MemfReferenceIdeal.main_arg1) = m ((c.tc : Thread Cert.MemfKernelIdeal.nD Cert.MemfKernelIdeal.τ).loc Cert.MemfKernelIdeal.main_arg1)
      ∧ m' ((c.tc : Thread Cert.MemfReferenceIdeal.nD Cert.MemfReferenceIdeal.τ).loc Cert.MemfReferenceIdeal.main_arg2) = m ((c.tc : Thread Cert.MemfKernelIdeal.nD Cert.MemfKernelIdeal.τ).loc Cert.MemfKernelIdeal.main_arg2)) →
    ∃ (v0 : (c : Dev Cert.MemfKernelIdeal.nD) → Buf (Elt Ideal) ((c.tc : Thread Cert.MemfKernelIdeal.nD Cert.MemfKernelIdeal.τ).loc Cert.MemfKernelIdeal.main_v9)),
      θ_run (Cert.MemfKernelIdeal.defs (F := Ideal)) (onTc (τ := Cert.MemfKernelIdeal.τ) (Cert.MemfKernelIdeal.main (F := Ideal))) ⟨m, fun _ => 0, g⟩ (fun r => ∀ c : Dev Cert.MemfKernelIdeal.nD,
          r.2.mem ((c.tc : Thread Cert.MemfKernelIdeal.nD Cert.MemfKernelIdeal.τ).loc Cert.MemfKernelIdeal.main_v9) = v0 c
          ∧ r.2.mem ((c.tc : Thread Cert.MemfKernelIdeal.nD Cert.MemfKernelIdeal.τ).loc Cert.MemfKernelIdeal.main_arg0) = m ((c.tc : Thread Cert.MemfKernelIdeal.nD Cert.MemfKernelIdeal.τ).loc Cert.MemfKernelIdeal.main_arg0)
          ∧ r.2.mem ((c.tc : Thread Cert.MemfKernelIdeal.nD Cert.MemfKernelIdeal.τ).loc Cert.MemfKernelIdeal.main_arg1) = m ((c.tc : Thread Cert.MemfKernelIdeal.nD Cert.MemfKernelIdeal.τ).loc Cert.MemfKernelIdeal.main_arg1)
          ∧ r.2.mem ((c.tc : Thread Cert.MemfKernelIdeal.nD Cert.MemfKernelIdeal.τ).loc Cert.MemfKernelIdeal.main_arg2) = m ((c.tc : Thread Cert.MemfKernelIdeal.nD Cert.MemfKernelIdeal.τ).loc Cert.MemfKernelIdeal.main_arg2))
      ∧ θ_run (Cert.MemfReferenceIdeal.defs (F := Ideal)) (onTc (τ := Cert.MemfReferenceIdeal.τ) (Cert.MemfReferenceIdeal.main (F := Ideal))) ⟨m', fun _ => 0, g'⟩ (fun r => ∀ c : Dev Cert.MemfReferenceIdeal.nD,
          r.2.mem ((c.tc : Thread Cert.MemfReferenceIdeal.nD Cert.MemfReferenceIdeal.τ).loc Cert.MemfReferenceIdeal.main_v16) = v0 c
          ∧ r.2.mem ((c.tc : Thread Cert.MemfReferenceIdeal.nD Cert.MemfReferenceIdeal.τ).loc Cert.MemfReferenceIdeal.main_arg0) = m' ((c.tc : Thread Cert.MemfReferenceIdeal.nD Cert.MemfReferenceIdeal.τ).loc Cert.MemfReferenceIdeal.main_arg0)
          ∧ r.2.mem ((c.tc : Thread Cert.MemfReferenceIdeal.nD Cert.MemfReferenceIdeal.τ).loc Cert.MemfReferenceIdeal.main_arg1) = m' ((c.tc : Thread Cert.MemfReferenceIdeal.nD Cert.MemfReferenceIdeal.τ).loc Cert.MemfReferenceIdeal.main_arg1)
          ∧ r.2.mem ((c.tc : Thread Cert.MemfReferenceIdeal.nD Cert.MemfReferenceIdeal.τ).loc Cert.MemfReferenceIdeal.main_arg2) = m' ((c.tc : Thread Cert.MemfReferenceIdeal.nD Cert.MemfReferenceIdeal.τ).loc Cert.MemfReferenceIdeal.main_arg2))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)) →
    ∃ (v0 : (c : Dev Cert.NormKernelIdeal.nD) → Buf (Elt Ideal) ((c.tc : Thread Cert.NormKernelIdeal.nD Cert.NormKernelIdeal.τ).loc Cert.NormKernelIdeal.main_v0)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v0) = v0 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v12) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)) →
    ∃ (v0 : (c : Dev Cert.FfnKernelIdeal.nD) → Buf (Elt Ideal) ((c.tc : Thread Cert.FfnKernelIdeal.nD Cert.FfnKernelIdeal.τ).loc Cert.FfnKernelIdeal.main_v2_0)) (v1 : (c : Dev Cert.FfnKernelIdeal.nD) → Buf (Elt Ideal) ((c.tc : Thread Cert.FfnKernelIdeal.nD Cert.FfnKernelIdeal.τ).loc Cert.FfnKernelIdeal.main_v2_1)) (v2 : (c : Dev Cert.FfnKernelIdeal.nD) → Buf (Elt Ideal) ((c.tc : Thread Cert.FfnKernelIdeal.nD Cert.FfnKernelIdeal.τ).loc Cert.FfnKernelIdeal.main_v2_2)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v2_0) = v0 c
          ∧ r.2.mem ((c.tc : Thread Cert.FfnKernelIdeal.nD Cert.FfnKernelIdeal.τ).loc Cert.FfnKernelIdeal.main_v2_1) = v1 c
          ∧ r.2.mem ((c.tc : Thread Cert.FfnKernelIdeal.nD Cert.FfnKernelIdeal.τ).loc Cert.FfnKernelIdeal.main_v2_2) = v2 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v6) = v0 c
          ∧ r.2.mem ((c.tc : Thread Cert.FfnReferenceIdeal.nD Cert.FfnReferenceIdeal.τ).loc Cert.FfnReferenceIdeal.main_v8) = v1 c
          ∧ r.2.mem ((c.tc : Thread Cert.FfnReferenceIdeal.nD Cert.FfnReferenceIdeal.τ).loc Cert.FfnReferenceIdeal.main_v9) = v2 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)) →
    ∃ (v0 : (c : Dev Cert.MergeKernelIdeal.nD) → Buf (Elt Ideal) ((c.tc : Thread Cert.MergeKernelIdeal.nD Cert.MergeKernelIdeal.τ).loc Cert.MergeKernelIdeal.main_v5_0)) (v1 : (c : Dev Cert.MergeKernelIdeal.nD) → Buf (Elt Ideal) ((c.tc : Thread Cert.MergeKernelIdeal.nD Cert.MergeKernelIdeal.τ).loc Cert.MergeKernelIdeal.main_v5_1)) (v2 : (c : Dev Cert.MergeKernelIdeal.nD) → Buf (Elt Ideal) ((c.tc : Thread Cert.MergeKernelIdeal.nD Cert.MergeKernelIdeal.τ).loc Cert.MergeKernelIdeal.main_v5_2)) (v3 : (c : Dev Cert.MergeKernelIdeal.nD) → Buf (Elt Ideal) ((c.tc : Thread Cert.MergeKernelIdeal.nD Cert.MergeKernelIdeal.τ).loc Cert.MergeKernelIdeal.main_v5_3)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v5_0) = v0 c
          ∧ r.2.mem ((c.tc : Thread Cert.MergeKernelIdeal.nD Cert.MergeKernelIdeal.τ).loc Cert.MergeKernelIdeal.main_v5_1) = v1 c
          ∧ r.2.mem ((c.tc : Thread Cert.MergeKernelIdeal.nD Cert.MergeKernelIdeal.τ).loc Cert.MergeKernelIdeal.main_v5_2) = v2 c
          ∧ r.2.mem ((c.tc : Thread Cert.MergeKernelIdeal.nD Cert.MergeKernelIdeal.τ).loc Cert.MergeKernelIdeal.main_v5_3) = v3 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v34) = v0 c
          ∧ r.2.mem ((c.tc : Thread Cert.MergeReferenceIdeal.nD Cert.MergeReferenceIdeal.τ).loc Cert.MergeReferenceIdeal.main_v20) = v1 c
          ∧ r.2.mem ((c.tc : Thread Cert.MergeReferenceIdeal.nD Cert.MergeReferenceIdeal.τ).loc Cert.MergeReferenceIdeal.main_v33) = v2 c
          ∧ r.2.mem ((c.tc : Thread Cert.MergeReferenceIdeal.nD Cert.MergeReferenceIdeal.τ).loc Cert.MergeReferenceIdeal.main_v47) = v3 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def preserves_GwKernel_GwKernelIdeal : Prop :=
  True

def algebraic_GwKernelIdeal_GwReferenceIdeal [hGwKernelIdeal : Cert.GwKernelIdeal.Facts] [hGwReferenceIdeal : Cert.GwReferenceIdeal.Facts] : Prop :=
  ∀ (m : (ℓ : Loc Cert.GwKernelIdeal.nD Cert.GwKernelIdeal.τ Cert.GwKernelIdeal.sig) → Buf (Elt Ideal) ℓ) (g : Dev Cert.GwKernelIdeal.nD → PrngReg)
    (m' : (ℓ : Loc Cert.GwReferenceIdeal.nD Cert.GwReferenceIdeal.τ Cert.GwReferenceIdeal.sig) → Buf (Elt Ideal) ℓ) (g' : Dev Cert.GwReferenceIdeal.nD → PrngReg), Pre_GwKernelIdeal m →
    (∀ c : Dev Cert.GwKernelIdeal.nD,
      m' ((c.tc : Thread Cert.GwReferenceIdeal.nD Cert.GwReferenceIdeal.τ).loc Cert.GwReferenceIdeal.main_arg0) = m ((c.tc : Thread Cert.GwKernelIdeal.nD Cert.GwKernelIdeal.τ).loc Cert.GwKernelIdeal.main_arg0)
      ∧ m' ((c.tc : Thread Cert.GwReferenceIdeal.nD Cert.GwReferenceIdeal.τ).loc Cert.GwReferenceIdeal.main_arg1) = m ((c.tc : Thread Cert.GwKernelIdeal.nD Cert.GwKernelIdeal.τ).loc Cert.GwKernelIdeal.main_arg1)
      ∧ m' ((c.tc : Thread Cert.GwReferenceIdeal.nD Cert.GwReferenceIdeal.τ).loc Cert.GwReferenceIdeal.main_arg2) = m ((c.tc : Thread Cert.GwKernelIdeal.nD Cert.GwKernelIdeal.τ).loc Cert.GwKernelIdeal.main_arg2)) →
    ∃ (v0 : (c : Dev Cert.GwKernelIdeal.nD) → Buf (Elt Ideal) ((c.tc : Thread Cert.GwKernelIdeal.nD Cert.GwKernelIdeal.τ).loc Cert.GwKernelIdeal.main_v2)),
      θ_run (Cert.GwKernelIdeal.defs (F := Ideal)) (onTc (τ := Cert.GwKernelIdeal.τ) (Cert.GwKernelIdeal.main (F := Ideal))) ⟨m, fun _ => 0, g⟩ (fun r => ∀ c : Dev Cert.GwKernelIdeal.nD,
          r.2.mem ((c.tc : Thread Cert.GwKernelIdeal.nD Cert.GwKernelIdeal.τ).loc Cert.GwKernelIdeal.main_v2) = v0 c
          ∧ r.2.mem ((c.tc : Thread Cert.GwKernelIdeal.nD Cert.GwKernelIdeal.τ).loc Cert.GwKernelIdeal.main_arg0) = m ((c.tc : Thread Cert.GwKernelIdeal.nD Cert.GwKernelIdeal.τ).loc Cert.GwKernelIdeal.main_arg0)
          ∧ r.2.mem ((c.tc : Thread Cert.GwKernelIdeal.nD Cert.GwKernelIdeal.τ).loc Cert.GwKernelIdeal.main_arg1) = m ((c.tc : Thread Cert.GwKernelIdeal.nD Cert.GwKernelIdeal.τ).loc Cert.GwKernelIdeal.main_arg1)
          ∧ r.2.mem ((c.tc : Thread Cert.GwKernelIdeal.nD Cert.GwKernelIdeal.τ).loc Cert.GwKernelIdeal.main_arg2) = m ((c.tc : Thread Cert.GwKernelIdeal.nD Cert.GwKernelIdeal.τ).loc Cert.GwKernelIdeal.main_arg2))
      ∧ θ_run (Cert.GwReferenceIdeal.defs (F := Ideal)) (onTc (τ := Cert.GwReferenceIdeal.τ) (Cert.GwReferenceIdeal.main (F := Ideal))) ⟨m', fun _ => 0, g'⟩ (fun r => ∀ c : Dev Cert.GwReferenceIdeal.nD,
          r.2.mem ((c.tc : Thread Cert.GwReferenceIdeal.nD Cert.GwReferenceIdeal.τ).loc Cert.GwReferenceIdeal.main_v3) = v0 c
          ∧ r.2.mem ((c.tc : Thread Cert.GwReferenceIdeal.nD Cert.GwReferenceIdeal.τ).loc Cert.GwReferenceIdeal.main_arg0) = m' ((c.tc : Thread Cert.GwReferenceIdeal.nD Cert.GwReferenceIdeal.τ).loc Cert.GwReferenceIdeal.main_arg0)
          ∧ r.2.mem ((c.tc : Thread Cert.GwReferenceIdeal.nD Cert.GwReferenceIdeal.τ).loc Cert.GwReferenceIdeal.main_arg1) = m' ((c.tc : Thread Cert.GwReferenceIdeal.nD Cert.GwReferenceIdeal.τ).loc Cert.GwReferenceIdeal.main_arg1)
          ∧ r.2.mem ((c.tc : Thread Cert.GwReferenceIdeal.nD Cert.GwReferenceIdeal.τ).loc Cert.GwReferenceIdeal.main_arg2) = m' ((c.tc : Thread Cert.GwReferenceIdeal.nD Cert.GwReferenceIdeal.τ).loc Cert.GwReferenceIdeal.main_arg2))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)) →
    ∃ (v0 : (c : Dev Cert.AdamKernelIdeal.nD) → Buf (Elt Ideal) ((c.tc : Thread Cert.AdamKernelIdeal.nD Cert.AdamKernelIdeal.τ).loc Cert.AdamKernelIdeal.main_v1_0)) (v1 : (c : Dev Cert.AdamKernelIdeal.nD) → Buf (Elt Ideal) ((c.tc : Thread Cert.AdamKernelIdeal.nD Cert.AdamKernelIdeal.τ).loc Cert.AdamKernelIdeal.main_v1_1)) (v2 : (c : Dev Cert.AdamKernelIdeal.nD) → Buf (Elt Ideal) ((c.tc : Thread Cert.AdamKernelIdeal.nD Cert.AdamKernelIdeal.τ).loc Cert.AdamKernelIdeal.main_v1_2)) (v3 : (c : Dev Cert.AdamKernelIdeal.nD) → Buf (Elt Ideal) ((c.tc : Thread Cert.AdamKernelIdeal.nD Cert.AdamKernelIdeal.τ).loc Cert.AdamKernelIdeal.main_v1_3)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v1_0) = v0 c
          ∧ r.2.mem ((c.tc : Thread Cert.AdamKernelIdeal.nD Cert.AdamKernelIdeal.τ).loc Cert.AdamKernelIdeal.main_v1_1) = v1 c
          ∧ r.2.mem ((c.tc : Thread Cert.AdamKernelIdeal.nD Cert.AdamKernelIdeal.τ).loc Cert.AdamKernelIdeal.main_v1_2) = v2 c
          ∧ r.2.mem ((c.tc : Thread Cert.AdamKernelIdeal.nD Cert.AdamKernelIdeal.τ).loc Cert.AdamKernelIdeal.main_v1_3) = v3 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v1) = v0 c
          ∧ r.2.mem ((c.tc : Thread Cert.AdamReferenceIdeal.nD Cert.AdamReferenceIdeal.τ).loc Cert.AdamReferenceIdeal.main_v25) = v1 c
          ∧ r.2.mem ((c.tc : Thread Cert.AdamReferenceIdeal.nD Cert.AdamReferenceIdeal.τ).loc Cert.AdamReferenceIdeal.main_v6) = v2 c
          ∧ r.2.mem ((c.tc : Thread Cert.AdamReferenceIdeal.nD Cert.AdamReferenceIdeal.τ).loc Cert.AdamReferenceIdeal.main_v12) = v3 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def preserves_SmallKernel_SmallKernelIdeal : Prop :=
  True

def algebraic_SmallKernelIdeal_SmallReferenceIdeal [hSmallKernelIdeal : Cert.SmallKernelIdeal.Facts] [hSmallReferenceIdeal : Cert.SmallReferenceIdeal.Facts] : Prop :=
  ∀ (m : (ℓ : Loc Cert.SmallKernelIdeal.nD Cert.SmallKernelIdeal.τ Cert.SmallKernelIdeal.sig) → Buf (Elt Ideal) ℓ) (g : Dev Cert.SmallKernelIdeal.nD → PrngReg)
    (m' : (ℓ : Loc Cert.SmallReferenceIdeal.nD Cert.SmallReferenceIdeal.τ Cert.SmallReferenceIdeal.sig) → Buf (Elt Ideal) ℓ) (g' : Dev Cert.SmallReferenceIdeal.nD → PrngReg), Pre_SmallKernelIdeal m →
    (∀ c : Dev Cert.SmallKernelIdeal.nD,
      m' ((c.tc : Thread Cert.SmallReferenceIdeal.nD Cert.SmallReferenceIdeal.τ).loc Cert.SmallReferenceIdeal.main_arg0) = m ((c.tc : Thread Cert.SmallKernelIdeal.nD Cert.SmallKernelIdeal.τ).loc Cert.SmallKernelIdeal.main_arg0)
      ∧ m' ((c.tc : Thread Cert.SmallReferenceIdeal.nD Cert.SmallReferenceIdeal.τ).loc Cert.SmallReferenceIdeal.main_arg1) = m ((c.tc : Thread Cert.SmallKernelIdeal.nD Cert.SmallKernelIdeal.τ).loc Cert.SmallKernelIdeal.main_arg1)
      ∧ m' ((c.tc : Thread Cert.SmallReferenceIdeal.nD Cert.SmallReferenceIdeal.τ).loc Cert.SmallReferenceIdeal.main_arg2) = m ((c.tc : Thread Cert.SmallKernelIdeal.nD Cert.SmallKernelIdeal.τ).loc Cert.SmallKernelIdeal.main_arg2)
      ∧ m' ((c.tc : Thread Cert.SmallReferenceIdeal.nD Cert.SmallReferenceIdeal.τ).loc Cert.SmallReferenceIdeal.main_arg3) = m ((c.tc : Thread Cert.SmallKernelIdeal.nD Cert.SmallKernelIdeal.τ).loc Cert.SmallKernelIdeal.main_arg3)
      ∧ m' ((c.tc : Thread Cert.SmallReferenceIdeal.nD Cert.SmallReferenceIdeal.τ).loc Cert.SmallReferenceIdeal.main_arg4) = m ((c.tc : Thread Cert.SmallKernelIdeal.nD Cert.SmallKernelIdeal.τ).loc Cert.SmallKernelIdeal.main_arg4)
      ∧ m' ((c.tc : Thread Cert.SmallReferenceIdeal.nD Cert.SmallReferenceIdeal.τ).loc Cert.SmallReferenceIdeal.main_arg5) = m ((c.tc : Thread Cert.SmallKernelIdeal.nD Cert.SmallKernelIdeal.τ).loc Cert.SmallKernelIdeal.main_arg5)
      ∧ m' ((c.tc : Thread Cert.SmallReferenceIdeal.nD Cert.SmallReferenceIdeal.τ).loc Cert.SmallReferenceIdeal.main_arg6) = m ((c.tc : Thread Cert.SmallKernelIdeal.nD Cert.SmallKernelIdeal.τ).loc Cert.SmallKernelIdeal.main_arg6)
      ∧ m' ((c.tc : Thread Cert.SmallReferenceIdeal.nD Cert.SmallReferenceIdeal.τ).loc Cert.SmallReferenceIdeal.main_arg7) = m ((c.tc : Thread Cert.SmallKernelIdeal.nD Cert.SmallKernelIdeal.τ).loc Cert.SmallKernelIdeal.main_arg7)
      ∧ m' ((c.tc : Thread Cert.SmallReferenceIdeal.nD Cert.SmallReferenceIdeal.τ).loc Cert.SmallReferenceIdeal.main_arg8) = m ((c.tc : Thread Cert.SmallKernelIdeal.nD Cert.SmallKernelIdeal.τ).loc Cert.SmallKernelIdeal.main_arg8)
      ∧ m' ((c.tc : Thread Cert.SmallReferenceIdeal.nD Cert.SmallReferenceIdeal.τ).loc Cert.SmallReferenceIdeal.main_arg9) = m ((c.tc : Thread Cert.SmallKernelIdeal.nD Cert.SmallKernelIdeal.τ).loc Cert.SmallKernelIdeal.main_arg9)
      ∧ m' ((c.tc : Thread Cert.SmallReferenceIdeal.nD Cert.SmallReferenceIdeal.τ).loc Cert.SmallReferenceIdeal.main_arg10) = m ((c.tc : Thread Cert.SmallKernelIdeal.nD Cert.SmallKernelIdeal.τ).loc Cert.SmallKernelIdeal.main_arg10)
      ∧ m' ((c.tc : Thread Cert.SmallReferenceIdeal.nD Cert.SmallReferenceIdeal.τ).loc Cert.SmallReferenceIdeal.main_arg11) = m ((c.tc : Thread Cert.SmallKernelIdeal.nD Cert.SmallKernelIdeal.τ).loc Cert.SmallKernelIdeal.main_arg11)
      ∧ m' ((c.tc : Thread Cert.SmallReferenceIdeal.nD Cert.SmallReferenceIdeal.τ).loc Cert.SmallReferenceIdeal.main_arg12) = m ((c.tc : Thread Cert.SmallKernelIdeal.nD Cert.SmallKernelIdeal.τ).loc Cert.SmallKernelIdeal.main_arg12)
      ∧ m' ((c.tc : Thread Cert.SmallReferenceIdeal.nD Cert.SmallReferenceIdeal.τ).loc Cert.SmallReferenceIdeal.main_arg13) = m ((c.tc : Thread Cert.SmallKernelIdeal.nD Cert.SmallKernelIdeal.τ).loc Cert.SmallKernelIdeal.main_arg13)
      ∧ m' ((c.tc : Thread Cert.SmallReferenceIdeal.nD Cert.SmallReferenceIdeal.τ).loc Cert.SmallReferenceIdeal.main_arg14) = m ((c.tc : Thread Cert.SmallKernelIdeal.nD Cert.SmallKernelIdeal.τ).loc Cert.SmallKernelIdeal.main_arg14)
      ∧ m' ((c.tc : Thread Cert.SmallReferenceIdeal.nD Cert.SmallReferenceIdeal.τ).loc Cert.SmallReferenceIdeal.main_arg15) = m ((c.tc : Thread Cert.SmallKernelIdeal.nD Cert.SmallKernelIdeal.τ).loc Cert.SmallKernelIdeal.main_arg15)
      ∧ m' ((c.tc : Thread Cert.SmallReferenceIdeal.nD Cert.SmallReferenceIdeal.τ).loc Cert.SmallReferenceIdeal.main_arg16) = m ((c.tc : Thread Cert.SmallKernelIdeal.nD Cert.SmallKernelIdeal.τ).loc Cert.SmallKernelIdeal.main_arg16)
      ∧ m' ((c.tc : Thread Cert.SmallReferenceIdeal.nD Cert.SmallReferenceIdeal.τ).loc Cert.SmallReferenceIdeal.main_arg17) = m ((c.tc : Thread Cert.SmallKernelIdeal.nD Cert.SmallKernelIdeal.τ).loc Cert.SmallKernelIdeal.main_arg17)
      ∧ m' ((c.tc : Thread Cert.SmallReferenceIdeal.nD Cert.SmallReferenceIdeal.τ).loc Cert.SmallReferenceIdeal.main_arg18) = m ((c.tc : Thread Cert.SmallKernelIdeal.nD Cert.SmallKernelIdeal.τ).loc Cert.SmallKernelIdeal.main_arg18)
      ∧ m' ((c.tc : Thread Cert.SmallReferenceIdeal.nD Cert.SmallReferenceIdeal.τ).loc Cert.SmallReferenceIdeal.main_arg19) = m ((c.tc : Thread Cert.SmallKernelIdeal.nD Cert.SmallKernelIdeal.τ).loc Cert.SmallKernelIdeal.main_arg19)
      ∧ m' ((c.tc : Thread Cert.SmallReferenceIdeal.nD Cert.SmallReferenceIdeal.τ).loc Cert.SmallReferenceIdeal.main_arg20) = m ((c.tc : Thread Cert.SmallKernelIdeal.nD Cert.SmallKernelIdeal.τ).loc Cert.SmallKernelIdeal.main_arg20)
      ∧ m' ((c.tc : Thread Cert.SmallReferenceIdeal.nD Cert.SmallReferenceIdeal.τ).loc Cert.SmallReferenceIdeal.main_arg21) = m ((c.tc : Thread Cert.SmallKernelIdeal.nD Cert.SmallKernelIdeal.τ).loc Cert.SmallKernelIdeal.main_arg21)
      ∧ m' ((c.tc : Thread Cert.SmallReferenceIdeal.nD Cert.SmallReferenceIdeal.τ).loc Cert.SmallReferenceIdeal.main_arg22) = m ((c.tc : Thread Cert.SmallKernelIdeal.nD Cert.SmallKernelIdeal.τ).loc Cert.SmallKernelIdeal.main_arg22)
      ∧ m' ((c.tc : Thread Cert.SmallReferenceIdeal.nD Cert.SmallReferenceIdeal.τ).loc Cert.SmallReferenceIdeal.main_arg23) = m ((c.tc : Thread Cert.SmallKernelIdeal.nD Cert.SmallKernelIdeal.τ).loc Cert.SmallKernelIdeal.main_arg23)
      ∧ m' ((c.tc : Thread Cert.SmallReferenceIdeal.nD Cert.SmallReferenceIdeal.τ).loc Cert.SmallReferenceIdeal.main_arg24) = m ((c.tc : Thread Cert.SmallKernelIdeal.nD Cert.SmallKernelIdeal.τ).loc Cert.SmallKernelIdeal.main_arg24)) →
    ∃ (v0 : (c : Dev Cert.SmallKernelIdeal.nD) → Buf (Elt Ideal) ((c.tc : Thread Cert.SmallKernelIdeal.nD Cert.SmallKernelIdeal.τ).loc Cert.SmallKernelIdeal.main_v10_0)) (v1 : (c : Dev Cert.SmallKernelIdeal.nD) → Buf (Elt Ideal) ((c.tc : Thread Cert.SmallKernelIdeal.nD Cert.SmallKernelIdeal.τ).loc Cert.SmallKernelIdeal.main_v10_1)) (v2 : (c : Dev Cert.SmallKernelIdeal.nD) → Buf (Elt Ideal) ((c.tc : Thread Cert.SmallKernelIdeal.nD Cert.SmallKernelIdeal.τ).loc Cert.SmallKernelIdeal.main_v10_2)) (v3 : (c : Dev Cert.SmallKernelIdeal.nD) → Buf (Elt Ideal) ((c.tc : Thread Cert.SmallKernelIdeal.nD Cert.SmallKernelIdeal.τ).loc Cert.SmallKernelIdeal.main_v10_3)) (v4 : (c : Dev Cert.SmallKernelIdeal.nD) → Buf (Elt Ideal) ((c.tc : Thread Cert.SmallKernelIdeal.nD Cert.SmallKernelIdeal.τ).loc Cert.SmallKernelIdeal.main_v10_4)),
      θ_run (Cert.SmallKernelIdeal.defs (F := Ideal)) (onTc (τ := Cert.SmallKernelIdeal.τ) (Cert.SmallKernelIdeal.main (F := Ideal))) ⟨m, fun _ => 0, g⟩ (fun r => ∀ c : Dev Cert.SmallKernelIdeal.nD,
          r.2.mem ((c.tc : Thread Cert.SmallKernelIdeal.nD Cert.SmallKernelIdeal.τ).loc Cert.SmallKernelIdeal.main_v10_0) = v0 c
          ∧ r.2.mem ((c.tc : Thread Cert.SmallKernelIdeal.nD Cert.SmallKernelIdeal.τ).loc Cert.SmallKernelIdeal.main_v10_1) = v1 c
          ∧ r.2.mem ((c.tc : Thread Cert.SmallKernelIdeal.nD Cert.SmallKernelIdeal.τ).loc Cert.SmallKernelIdeal.main_v10_2) = v2 c
          ∧ r.2.mem ((c.tc : Thread Cert.SmallKernelIdeal.nD Cert.SmallKernelIdeal.τ).loc Cert.SmallKernelIdeal.main_v10_3) = v3 c
          ∧ r.2.mem ((c.tc : Thread Cert.SmallKernelIdeal.nD Cert.SmallKernelIdeal.τ).loc Cert.SmallKernelIdeal.main_v10_4) = v4 c
          ∧ r.2.mem ((c.tc : Thread Cert.SmallKernelIdeal.nD Cert.SmallKernelIdeal.τ).loc Cert.SmallKernelIdeal.main_arg0) = m ((c.tc : Thread Cert.SmallKernelIdeal.nD Cert.SmallKernelIdeal.τ).loc Cert.SmallKernelIdeal.main_arg0)
          ∧ r.2.mem ((c.tc : Thread Cert.SmallKernelIdeal.nD Cert.SmallKernelIdeal.τ).loc Cert.SmallKernelIdeal.main_arg1) = m ((c.tc : Thread Cert.SmallKernelIdeal.nD Cert.SmallKernelIdeal.τ).loc Cert.SmallKernelIdeal.main_arg1)
          ∧ r.2.mem ((c.tc : Thread Cert.SmallKernelIdeal.nD Cert.SmallKernelIdeal.τ).loc Cert.SmallKernelIdeal.main_arg2) = m ((c.tc : Thread Cert.SmallKernelIdeal.nD Cert.SmallKernelIdeal.τ).loc Cert.SmallKernelIdeal.main_arg2)
          ∧ r.2.mem ((c.tc : Thread Cert.SmallKernelIdeal.nD Cert.SmallKernelIdeal.τ).loc Cert.SmallKernelIdeal.main_arg3) = m ((c.tc : Thread Cert.SmallKernelIdeal.nD Cert.SmallKernelIdeal.τ).loc Cert.SmallKernelIdeal.main_arg3)
          ∧ r.2.mem ((c.tc : Thread Cert.SmallKernelIdeal.nD Cert.SmallKernelIdeal.τ).loc Cert.SmallKernelIdeal.main_arg4) = m ((c.tc : Thread Cert.SmallKernelIdeal.nD Cert.SmallKernelIdeal.τ).loc Cert.SmallKernelIdeal.main_arg4)
          ∧ r.2.mem ((c.tc : Thread Cert.SmallKernelIdeal.nD Cert.SmallKernelIdeal.τ).loc Cert.SmallKernelIdeal.main_arg5) = m ((c.tc : Thread Cert.SmallKernelIdeal.nD Cert.SmallKernelIdeal.τ).loc Cert.SmallKernelIdeal.main_arg5)
          ∧ r.2.mem ((c.tc : Thread Cert.SmallKernelIdeal.nD Cert.SmallKernelIdeal.τ).loc Cert.SmallKernelIdeal.main_arg6) = m ((c.tc : Thread Cert.SmallKernelIdeal.nD Cert.SmallKernelIdeal.τ).loc Cert.SmallKernelIdeal.main_arg6)
          ∧ r.2.mem ((c.tc : Thread Cert.SmallKernelIdeal.nD Cert.SmallKernelIdeal.τ).loc Cert.SmallKernelIdeal.main_arg7) = m ((c.tc : Thread Cert.SmallKernelIdeal.nD Cert.SmallKernelIdeal.τ).loc Cert.SmallKernelIdeal.main_arg7)
          ∧ r.2.mem ((c.tc : Thread Cert.SmallKernelIdeal.nD Cert.SmallKernelIdeal.τ).loc Cert.SmallKernelIdeal.main_arg8) = m ((c.tc : Thread Cert.SmallKernelIdeal.nD Cert.SmallKernelIdeal.τ).loc Cert.SmallKernelIdeal.main_arg8)
          ∧ r.2.mem ((c.tc : Thread Cert.SmallKernelIdeal.nD Cert.SmallKernelIdeal.τ).loc Cert.SmallKernelIdeal.main_arg9) = m ((c.tc : Thread Cert.SmallKernelIdeal.nD Cert.SmallKernelIdeal.τ).loc Cert.SmallKernelIdeal.main_arg9)
          ∧ r.2.mem ((c.tc : Thread Cert.SmallKernelIdeal.nD Cert.SmallKernelIdeal.τ).loc Cert.SmallKernelIdeal.main_arg10) = m ((c.tc : Thread Cert.SmallKernelIdeal.nD Cert.SmallKernelIdeal.τ).loc Cert.SmallKernelIdeal.main_arg10)
          ∧ r.2.mem ((c.tc : Thread Cert.SmallKernelIdeal.nD Cert.SmallKernelIdeal.τ).loc Cert.SmallKernelIdeal.main_arg11) = m ((c.tc : Thread Cert.SmallKernelIdeal.nD Cert.SmallKernelIdeal.τ).loc Cert.SmallKernelIdeal.main_arg11)
          ∧ r.2.mem ((c.tc : Thread Cert.SmallKernelIdeal.nD Cert.SmallKernelIdeal.τ).loc Cert.SmallKernelIdeal.main_arg12) = m ((c.tc : Thread Cert.SmallKernelIdeal.nD Cert.SmallKernelIdeal.τ).loc Cert.SmallKernelIdeal.main_arg12)
          ∧ r.2.mem ((c.tc : Thread Cert.SmallKernelIdeal.nD Cert.SmallKernelIdeal.τ).loc Cert.SmallKernelIdeal.main_arg13) = m ((c.tc : Thread Cert.SmallKernelIdeal.nD Cert.SmallKernelIdeal.τ).loc Cert.SmallKernelIdeal.main_arg13)
          ∧ r.2.mem ((c.tc : Thread Cert.SmallKernelIdeal.nD Cert.SmallKernelIdeal.τ).loc Cert.SmallKernelIdeal.main_arg14) = m ((c.tc : Thread Cert.SmallKernelIdeal.nD Cert.SmallKernelIdeal.τ).loc Cert.SmallKernelIdeal.main_arg14)
          ∧ r.2.mem ((c.tc : Thread Cert.SmallKernelIdeal.nD Cert.SmallKernelIdeal.τ).loc Cert.SmallKernelIdeal.main_arg15) = m ((c.tc : Thread Cert.SmallKernelIdeal.nD Cert.SmallKernelIdeal.τ).loc Cert.SmallKernelIdeal.main_arg15)
          ∧ r.2.mem ((c.tc : Thread Cert.SmallKernelIdeal.nD Cert.SmallKernelIdeal.τ).loc Cert.SmallKernelIdeal.main_arg16) = m ((c.tc : Thread Cert.SmallKernelIdeal.nD Cert.SmallKernelIdeal.τ).loc Cert.SmallKernelIdeal.main_arg16)
          ∧ r.2.mem ((c.tc : Thread Cert.SmallKernelIdeal.nD Cert.SmallKernelIdeal.τ).loc Cert.SmallKernelIdeal.main_arg17) = m ((c.tc : Thread Cert.SmallKernelIdeal.nD Cert.SmallKernelIdeal.τ).loc Cert.SmallKernelIdeal.main_arg17)
          ∧ r.2.mem ((c.tc : Thread Cert.SmallKernelIdeal.nD Cert.SmallKernelIdeal.τ).loc Cert.SmallKernelIdeal.main_arg18) = m ((c.tc : Thread Cert.SmallKernelIdeal.nD Cert.SmallKernelIdeal.τ).loc Cert.SmallKernelIdeal.main_arg18)
          ∧ r.2.mem ((c.tc : Thread Cert.SmallKernelIdeal.nD Cert.SmallKernelIdeal.τ).loc Cert.SmallKernelIdeal.main_arg19) = m ((c.tc : Thread Cert.SmallKernelIdeal.nD Cert.SmallKernelIdeal.τ).loc Cert.SmallKernelIdeal.main_arg19)
          ∧ r.2.mem ((c.tc : Thread Cert.SmallKernelIdeal.nD Cert.SmallKernelIdeal.τ).loc Cert.SmallKernelIdeal.main_arg20) = m ((c.tc : Thread Cert.SmallKernelIdeal.nD Cert.SmallKernelIdeal.τ).loc Cert.SmallKernelIdeal.main_arg20)
          ∧ r.2.mem ((c.tc : Thread Cert.SmallKernelIdeal.nD Cert.SmallKernelIdeal.τ).loc Cert.SmallKernelIdeal.main_arg21) = m ((c.tc : Thread Cert.SmallKernelIdeal.nD Cert.SmallKernelIdeal.τ).loc Cert.SmallKernelIdeal.main_arg21)
          ∧ r.2.mem ((c.tc : Thread Cert.SmallKernelIdeal.nD Cert.SmallKernelIdeal.τ).loc Cert.SmallKernelIdeal.main_arg22) = m ((c.tc : Thread Cert.SmallKernelIdeal.nD Cert.SmallKernelIdeal.τ).loc Cert.SmallKernelIdeal.main_arg22)
          ∧ r.2.mem ((c.tc : Thread Cert.SmallKernelIdeal.nD Cert.SmallKernelIdeal.τ).loc Cert.SmallKernelIdeal.main_arg23) = m ((c.tc : Thread Cert.SmallKernelIdeal.nD Cert.SmallKernelIdeal.τ).loc Cert.SmallKernelIdeal.main_arg23)
          ∧ r.2.mem ((c.tc : Thread Cert.SmallKernelIdeal.nD Cert.SmallKernelIdeal.τ).loc Cert.SmallKernelIdeal.main_arg24) = m ((c.tc : Thread Cert.SmallKernelIdeal.nD Cert.SmallKernelIdeal.τ).loc Cert.SmallKernelIdeal.main_arg24))
      ∧ θ_run (Cert.SmallReferenceIdeal.defs (F := Ideal)) (onTc (τ := Cert.SmallReferenceIdeal.τ) (Cert.SmallReferenceIdeal.main (F := Ideal))) ⟨m', fun _ => 0, g'⟩ (fun r => ∀ c : Dev Cert.SmallReferenceIdeal.nD,
          r.2.mem ((c.tc : Thread Cert.SmallReferenceIdeal.nD Cert.SmallReferenceIdeal.τ).loc Cert.SmallReferenceIdeal.main_v7) = v0 c
          ∧ r.2.mem ((c.tc : Thread Cert.SmallReferenceIdeal.nD Cert.SmallReferenceIdeal.τ).loc Cert.SmallReferenceIdeal.main_v37) = v1 c
          ∧ r.2.mem ((c.tc : Thread Cert.SmallReferenceIdeal.nD Cert.SmallReferenceIdeal.τ).loc Cert.SmallReferenceIdeal.main_v18) = v2 c
          ∧ r.2.mem ((c.tc : Thread Cert.SmallReferenceIdeal.nD Cert.SmallReferenceIdeal.τ).loc Cert.SmallReferenceIdeal.main_v24) = v3 c
          ∧ r.2.mem ((c.tc : Thread Cert.SmallReferenceIdeal.nD Cert.SmallReferenceIdeal.τ).loc Cert.SmallReferenceIdeal.main_v40) = v4 c
          ∧ r.2.mem ((c.tc : Thread Cert.SmallReferenceIdeal.nD Cert.SmallReferenceIdeal.τ).loc Cert.SmallReferenceIdeal.main_arg0) = m' ((c.tc : Thread Cert.SmallReferenceIdeal.nD Cert.SmallReferenceIdeal.τ).loc Cert.SmallReferenceIdeal.main_arg0)
          ∧ r.2.mem ((c.tc : Thread Cert.SmallReferenceIdeal.nD Cert.SmallReferenceIdeal.τ).loc Cert.SmallReferenceIdeal.main_arg1) = m' ((c.tc : Thread Cert.SmallReferenceIdeal.nD Cert.SmallReferenceIdeal.τ).loc Cert.SmallReferenceIdeal.main_arg1)
          ∧ r.2.mem ((c.tc : Thread Cert.SmallReferenceIdeal.nD Cert.SmallReferenceIdeal.τ).loc Cert.SmallReferenceIdeal.main_arg2) = m' ((c.tc : Thread Cert.SmallReferenceIdeal.nD Cert.SmallReferenceIdeal.τ).loc Cert.SmallReferenceIdeal.main_arg2)
          ∧ r.2.mem ((c.tc : Thread Cert.SmallReferenceIdeal.nD Cert.SmallReferenceIdeal.τ).loc Cert.SmallReferenceIdeal.main_arg3) = m' ((c.tc : Thread Cert.SmallReferenceIdeal.nD Cert.SmallReferenceIdeal.τ).loc Cert.SmallReferenceIdeal.main_arg3)
          ∧ r.2.mem ((c.tc : Thread Cert.SmallReferenceIdeal.nD Cert.SmallReferenceIdeal.τ).loc Cert.SmallReferenceIdeal.main_arg4) = m' ((c.tc : Thread Cert.SmallReferenceIdeal.nD Cert.SmallReferenceIdeal.τ).loc Cert.SmallReferenceIdeal.main_arg4)
          ∧ r.2.mem ((c.tc : Thread Cert.SmallReferenceIdeal.nD Cert.SmallReferenceIdeal.τ).loc Cert.SmallReferenceIdeal.main_arg5) = m' ((c.tc : Thread Cert.SmallReferenceIdeal.nD Cert.SmallReferenceIdeal.τ).loc Cert.SmallReferenceIdeal.main_arg5)
          ∧ r.2.mem ((c.tc : Thread Cert.SmallReferenceIdeal.nD Cert.SmallReferenceIdeal.τ).loc Cert.SmallReferenceIdeal.main_arg6) = m' ((c.tc : Thread Cert.SmallReferenceIdeal.nD Cert.SmallReferenceIdeal.τ).loc Cert.SmallReferenceIdeal.main_arg6)
          ∧ r.2.mem ((c.tc : Thread Cert.SmallReferenceIdeal.nD Cert.SmallReferenceIdeal.τ).loc Cert.SmallReferenceIdeal.main_arg7) = m' ((c.tc : Thread Cert.SmallReferenceIdeal.nD Cert.SmallReferenceIdeal.τ).loc Cert.SmallReferenceIdeal.main_arg7)
          ∧ r.2.mem ((c.tc : Thread Cert.SmallReferenceIdeal.nD Cert.SmallReferenceIdeal.τ).loc Cert.SmallReferenceIdeal.main_arg8) = m' ((c.tc : Thread Cert.SmallReferenceIdeal.nD Cert.SmallReferenceIdeal.τ).loc Cert.SmallReferenceIdeal.main_arg8)
          ∧ r.2.mem ((c.tc : Thread Cert.SmallReferenceIdeal.nD Cert.SmallReferenceIdeal.τ).loc Cert.SmallReferenceIdeal.main_arg9) = m' ((c.tc : Thread Cert.SmallReferenceIdeal.nD Cert.SmallReferenceIdeal.τ).loc Cert.SmallReferenceIdeal.main_arg9)
          ∧ r.2.mem ((c.tc : Thread Cert.SmallReferenceIdeal.nD Cert.SmallReferenceIdeal.τ).loc Cert.SmallReferenceIdeal.main_arg10) = m' ((c.tc : Thread Cert.SmallReferenceIdeal.nD Cert.SmallReferenceIdeal.τ).loc Cert.SmallReferenceIdeal.main_arg10)
          ∧ r.2.mem ((c.tc : Thread Cert.SmallReferenceIdeal.nD Cert.SmallReferenceIdeal.τ).loc Cert.SmallReferenceIdeal.main_arg11) = m' ((c.tc : Thread Cert.SmallReferenceIdeal.nD Cert.SmallReferenceIdeal.τ).loc Cert.SmallReferenceIdeal.main_arg11)
          ∧ r.2.mem ((c.tc : Thread Cert.SmallReferenceIdeal.nD Cert.SmallReferenceIdeal.τ).loc Cert.SmallReferenceIdeal.main_arg12) = m' ((c.tc : Thread Cert.SmallReferenceIdeal.nD Cert.SmallReferenceIdeal.τ).loc Cert.SmallReferenceIdeal.main_arg12)
          ∧ r.2.mem ((c.tc : Thread Cert.SmallReferenceIdeal.nD Cert.SmallReferenceIdeal.τ).loc Cert.SmallReferenceIdeal.main_arg13) = m' ((c.tc : Thread Cert.SmallReferenceIdeal.nD Cert.SmallReferenceIdeal.τ).loc Cert.SmallReferenceIdeal.main_arg13)
          ∧ r.2.mem ((c.tc : Thread Cert.SmallReferenceIdeal.nD Cert.SmallReferenceIdeal.τ).loc Cert.SmallReferenceIdeal.main_arg14) = m' ((c.tc : Thread Cert.SmallReferenceIdeal.nD Cert.SmallReferenceIdeal.τ).loc Cert.SmallReferenceIdeal.main_arg14)
          ∧ r.2.mem ((c.tc : Thread Cert.SmallReferenceIdeal.nD Cert.SmallReferenceIdeal.τ).loc Cert.SmallReferenceIdeal.main_arg15) = m' ((c.tc : Thread Cert.SmallReferenceIdeal.nD Cert.SmallReferenceIdeal.τ).loc Cert.SmallReferenceIdeal.main_arg15)
          ∧ r.2.mem ((c.tc : Thread Cert.SmallReferenceIdeal.nD Cert.SmallReferenceIdeal.τ).loc Cert.SmallReferenceIdeal.main_arg16) = m' ((c.tc : Thread Cert.SmallReferenceIdeal.nD Cert.SmallReferenceIdeal.τ).loc Cert.SmallReferenceIdeal.main_arg16)
          ∧ r.2.mem ((c.tc : Thread Cert.SmallReferenceIdeal.nD Cert.SmallReferenceIdeal.τ).loc Cert.SmallReferenceIdeal.main_arg17) = m' ((c.tc : Thread Cert.SmallReferenceIdeal.nD Cert.SmallReferenceIdeal.τ).loc Cert.SmallReferenceIdeal.main_arg17)
          ∧ r.2.mem ((c.tc : Thread Cert.SmallReferenceIdeal.nD Cert.SmallReferenceIdeal.τ).loc Cert.SmallReferenceIdeal.main_arg18) = m' ((c.tc : Thread Cert.SmallReferenceIdeal.nD Cert.SmallReferenceIdeal.τ).loc Cert.SmallReferenceIdeal.main_arg18)
          ∧ r.2.mem ((c.tc : Thread Cert.SmallReferenceIdeal.nD Cert.SmallReferenceIdeal.τ).loc Cert.SmallReferenceIdeal.main_arg19) = m' ((c.tc : Thread Cert.SmallReferenceIdeal.nD Cert.SmallReferenceIdeal.τ).loc Cert.SmallReferenceIdeal.main_arg19)
          ∧ r.2.mem ((c.tc : Thread Cert.SmallReferenceIdeal.nD Cert.SmallReferenceIdeal.τ).loc Cert.SmallReferenceIdeal.main_arg20) = m' ((c.tc : Thread Cert.SmallReferenceIdeal.nD Cert.SmallReferenceIdeal.τ).loc Cert.SmallReferenceIdeal.main_arg20)
          ∧ r.2.mem ((c.tc : Thread Cert.SmallReferenceIdeal.nD Cert.SmallReferenceIdeal.τ).loc Cert.SmallReferenceIdeal.main_arg21) = m' ((c.tc : Thread Cert.SmallReferenceIdeal.nD Cert.SmallReferenceIdeal.τ).loc Cert.SmallReferenceIdeal.main_arg21)
          ∧ r.2.mem ((c.tc : Thread Cert.SmallReferenceIdeal.nD Cert.SmallReferenceIdeal.τ).loc Cert.SmallReferenceIdeal.main_arg22) = m' ((c.tc : Thread Cert.SmallReferenceIdeal.nD Cert.SmallReferenceIdeal.τ).loc Cert.SmallReferenceIdeal.main_arg22)
          ∧ r.2.mem ((c.tc : Thread Cert.SmallReferenceIdeal.nD Cert.SmallReferenceIdeal.τ).loc Cert.SmallReferenceIdeal.main_arg23) = m' ((c.tc : Thread Cert.SmallReferenceIdeal.nD Cert.SmallReferenceIdeal.τ).loc Cert.SmallReferenceIdeal.main_arg23)
          ∧ r.2.mem ((c.tc : Thread Cert.SmallReferenceIdeal.nD Cert.SmallReferenceIdeal.τ).loc Cert.SmallReferenceIdeal.main_arg24) = m' ((c.tc : Thread Cert.SmallReferenceIdeal.nD Cert.SmallReferenceIdeal.τ).loc Cert.SmallReferenceIdeal.main_arg24))

def Claim : Prop :=
  ∃ (hGainKernel : Cert.GainKernel.Facts) (hGainKernelIdeal : Cert.GainKernelIdeal.Facts) (hGainReferenceIdeal : Cert.GainReferenceIdeal.Facts) (hSbKernel : Cert.SbKernel.Facts) (hSbKernelIdeal : Cert.SbKernelIdeal.Facts) (hSbReferenceIdeal : Cert.SbReferenceIdeal.Facts) (hMemKernel : Cert.MemKernel.Facts) (hMemKernelIdeal : Cert.MemKernelIdeal.Facts) (hMemReferenceIdeal : Cert.MemReferenceIdeal.Facts) (hGateKernel : Cert.GateKernel.Facts) (hGateKernelIdeal : Cert.GateKernelIdeal.Facts) (hGateReferenceIdeal : Cert.GateReferenceIdeal.Facts) (hSwigluKernel : Cert.SwigluKernel.Facts) (hSwigluKernelIdeal : Cert.SwigluKernelIdeal.Facts) (hSwigluReferenceIdeal : Cert.SwigluReferenceIdeal.Facts) (hLossKernel : Cert.LossKernel.Facts) (hLossKernelIdeal : Cert.LossKernelIdeal.Facts) (hLossReferenceIdeal : Cert.LossReferenceIdeal.Facts) (hMixKernel : Cert.MixKernel.Facts) (hMixKernelIdeal : Cert.MixKernelIdeal.Facts) (hMixReferenceIdeal : Cert.MixReferenceIdeal.Facts) (hPreKernel : Cert.PreKernel.Facts) (hPreKernelIdeal : Cert.PreKernelIdeal.Facts) (hPreReferenceIdeal : Cert.PreReferenceIdeal.Facts) (hSbfKernel : Cert.SbfKernel.Facts) (hSbfKernelIdeal : Cert.SbfKernelIdeal.Facts) (hSbfReferenceIdeal : Cert.SbfReferenceIdeal.Facts) (hMemfKernel : Cert.MemfKernel.Facts) (hMemfKernelIdeal : Cert.MemfKernelIdeal.Facts) (hMemfReferenceIdeal : Cert.MemfReferenceIdeal.Facts) (hNormKernel : Cert.NormKernel.Facts) (hNormKernelIdeal : Cert.NormKernelIdeal.Facts) (hNormReferenceIdeal : Cert.NormReferenceIdeal.Facts) (hFfnKernel : Cert.FfnKernel.Facts) (hFfnKernelIdeal : Cert.FfnKernelIdeal.Facts) (hFfnReferenceIdeal : Cert.FfnReferenceIdeal.Facts) (hMergeKernel : Cert.MergeKernel.Facts) (hMergeKernelIdeal : Cert.MergeKernelIdeal.Facts) (hMergeReferenceIdeal : Cert.MergeReferenceIdeal.Facts) (hGwKernel : Cert.GwKernel.Facts) (hGwKernelIdeal : Cert.GwKernelIdeal.Facts) (hGwReferenceIdeal : Cert.GwReferenceIdeal.Facts) (hAdamKernel : Cert.AdamKernel.Facts) (hAdamKernelIdeal : Cert.AdamKernelIdeal.Facts) (hAdamReferenceIdeal : Cert.AdamReferenceIdeal.Facts) (hSmallKernel : Cert.SmallKernel.Facts) (hSmallKernelIdeal : Cert.SmallKernelIdeal.Facts) (hSmallReferenceIdeal : Cert.SmallReferenceIdeal.Facts) (hPre_moderate_scores : Cert.Pre_moderate_scores.Facts) (hPre_finite_memory : Cert.Pre_finite_memory.Facts) (hPre_finite_swiglu : Cert.Pre_finite_swiglu.Facts) (hPre_finite_loss : Cert.Pre_finite_loss.Facts) (hPre_finite_mix : Cert.Pre_finite_mix.Facts) (hPre_finite_pre : Cert.Pre_finite_pre.Facts) (hPre_moderate_forward : Cert.Pre_moderate_forward.Facts),
    quiescent_GainKernel (hGainKernel := hGainKernel)
    ∧ quiescent_GainKernelIdeal (hGainKernelIdeal := hGainKernelIdeal)
    ∧ quiescent_GainReferenceIdeal (hGainReferenceIdeal := hGainReferenceIdeal)
    ∧ quiescent_SbKernel (hSbKernel := hSbKernel)
    ∧ quiescent_SbKernelIdeal (hSbKernelIdeal := hSbKernelIdeal)
    ∧ quiescent_SbKernelIdeal_pre_moderate_scores (hSbKernelIdeal := hSbKernelIdeal) (hPre_moderate_scores := hPre_moderate_scores)
    ∧ quiescent_SbReferenceIdeal (hSbReferenceIdeal := hSbReferenceIdeal)
    ∧ quiescent_SbReferenceIdeal_pre_moderate_scores (hSbReferenceIdeal := hSbReferenceIdeal) (hPre_moderate_scores := hPre_moderate_scores)
    ∧ quiescent_MemKernel (hMemKernel := hMemKernel)
    ∧ quiescent_MemKernelIdeal (hMemKernelIdeal := hMemKernelIdeal)
    ∧ quiescent_MemKernelIdeal_pre_finite_memory (hMemKernelIdeal := hMemKernelIdeal) (hPre_finite_memory := hPre_finite_memory)
    ∧ quiescent_MemReferenceIdeal (hMemReferenceIdeal := hMemReferenceIdeal)
    ∧ quiescent_MemReferenceIdeal_pre_finite_memory (hMemReferenceIdeal := hMemReferenceIdeal) (hPre_finite_memory := hPre_finite_memory)
    ∧ quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_SwigluKernel (hSwigluKernel := hSwigluKernel)
    ∧ quiescent_SwigluKernelIdeal (hSwigluKernelIdeal := hSwigluKernelIdeal)
    ∧ quiescent_SwigluKernelIdeal_pre_finite_swiglu (hSwigluKernelIdeal := hSwigluKernelIdeal) (hPre_finite_swiglu := hPre_finite_swiglu)
    ∧ quiescent_SwigluReferenceIdeal (hSwigluReferenceIdeal := hSwigluReferenceIdeal)
    ∧ quiescent_SwigluReferenceIdeal_pre_finite_swiglu (hSwigluReferenceIdeal := hSwigluReferenceIdeal) (hPre_finite_swiglu := hPre_finite_swiglu)
    ∧ quiescent_LossKernel (hLossKernel := hLossKernel)
    ∧ quiescent_LossKernelIdeal (hLossKernelIdeal := hLossKernelIdeal)
    ∧ quiescent_LossKernelIdeal_pre_finite_loss (hLossKernelIdeal := hLossKernelIdeal) (hPre_finite_loss := hPre_finite_loss)
    ∧ quiescent_LossReferenceIdeal (hLossReferenceIdeal := hLossReferenceIdeal)
    ∧ quiescent_LossReferenceIdeal_pre_finite_loss (hLossReferenceIdeal := hLossReferenceIdeal) (hPre_finite_loss := hPre_finite_loss)
    ∧ quiescent_MixKernel (hMixKernel := hMixKernel)
    ∧ quiescent_MixKernelIdeal (hMixKernelIdeal := hMixKernelIdeal)
    ∧ quiescent_MixKernelIdeal_pre_finite_mix (hMixKernelIdeal := hMixKernelIdeal) (hPre_finite_mix := hPre_finite_mix)
    ∧ quiescent_MixReferenceIdeal (hMixReferenceIdeal := hMixReferenceIdeal)
    ∧ quiescent_MixReferenceIdeal_pre_finite_mix (hMixReferenceIdeal := hMixReferenceIdeal) (hPre_finite_mix := hPre_finite_mix)
    ∧ quiescent_PreKernel (hPreKernel := hPreKernel)
    ∧ quiescent_PreKernelIdeal (hPreKernelIdeal := hPreKernelIdeal)
    ∧ quiescent_PreKernelIdeal_pre_finite_pre (hPreKernelIdeal := hPreKernelIdeal) (hPre_finite_pre := hPre_finite_pre)
    ∧ quiescent_PreReferenceIdeal (hPreReferenceIdeal := hPreReferenceIdeal)
    ∧ quiescent_PreReferenceIdeal_pre_finite_pre (hPreReferenceIdeal := hPreReferenceIdeal) (hPre_finite_pre := hPre_finite_pre)
    ∧ quiescent_SbfKernel (hSbfKernel := hSbfKernel)
    ∧ quiescent_SbfKernelIdeal (hSbfKernelIdeal := hSbfKernelIdeal)
    ∧ quiescent_SbfKernelIdeal_pre_moderate_forward (hSbfKernelIdeal := hSbfKernelIdeal) (hPre_moderate_forward := hPre_moderate_forward)
    ∧ quiescent_SbfReferenceIdeal (hSbfReferenceIdeal := hSbfReferenceIdeal)
    ∧ quiescent_SbfReferenceIdeal_pre_moderate_forward (hSbfReferenceIdeal := hSbfReferenceIdeal) (hPre_moderate_forward := hPre_moderate_forward)
    ∧ quiescent_MemfKernel (hMemfKernel := hMemfKernel)
    ∧ quiescent_MemfKernelIdeal (hMemfKernelIdeal := hMemfKernelIdeal)
    ∧ quiescent_MemfReferenceIdeal (hMemfReferenceIdeal := hMemfReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_GwKernel (hGwKernel := hGwKernel)
    ∧ quiescent_GwKernelIdeal (hGwKernelIdeal := hGwKernelIdeal)
    ∧ quiescent_GwReferenceIdeal (hGwReferenceIdeal := hGwReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ quiescent_SmallKernel (hSmallKernel := hSmallKernel)
    ∧ quiescent_SmallKernelIdeal (hSmallKernelIdeal := hSmallKernelIdeal)
    ∧ quiescent_SmallReferenceIdeal (hSmallReferenceIdeal := hSmallReferenceIdeal)
    ∧ preserves_GainKernel_GainKernelIdeal
    ∧ algebraic_GainKernelIdeal_GainReferenceIdeal (hGainKernelIdeal := hGainKernelIdeal) (hGainReferenceIdeal := hGainReferenceIdeal)
    ∧ preserves_SbKernel_SbKernelIdeal
    ∧ algebraic_SbKernelIdeal_SbReferenceIdeal_pre_moderate_scores (hSbKernelIdeal := hSbKernelIdeal) (hSbReferenceIdeal := hSbReferenceIdeal) (hPre_moderate_scores := hPre_moderate_scores)
    ∧ preserves_MemKernel_MemKernelIdeal
    ∧ algebraic_MemKernelIdeal_MemReferenceIdeal_pre_finite_memory (hMemKernelIdeal := hMemKernelIdeal) (hMemReferenceIdeal := hMemReferenceIdeal) (hPre_finite_memory := hPre_finite_memory)
    ∧ preserves_GateKernel_GateKernelIdeal
    ∧ algebraic_GateKernelIdeal_GateReferenceIdeal (hGateKernelIdeal := hGateKernelIdeal) (hGateReferenceIdeal := hGateReferenceIdeal)
    ∧ preserves_SwigluKernel_SwigluKernelIdeal
    ∧ algebraic_SwigluKernelIdeal_SwigluReferenceIdeal_pre_finite_swiglu (hSwigluKernelIdeal := hSwigluKernelIdeal) (hSwigluReferenceIdeal := hSwigluReferenceIdeal) (hPre_finite_swiglu := hPre_finite_swiglu)
    ∧ preserves_LossKernel_LossKernelIdeal
    ∧ algebraic_LossKernelIdeal_LossReferenceIdeal_pre_finite_loss (hLossKernelIdeal := hLossKernelIdeal) (hLossReferenceIdeal := hLossReferenceIdeal) (hPre_finite_loss := hPre_finite_loss)
    ∧ preserves_MixKernel_MixKernelIdeal
    ∧ algebraic_MixKernelIdeal_MixReferenceIdeal_pre_finite_mix (hMixKernelIdeal := hMixKernelIdeal) (hMixReferenceIdeal := hMixReferenceIdeal) (hPre_finite_mix := hPre_finite_mix)
    ∧ preserves_PreKernel_PreKernelIdeal
    ∧ algebraic_PreKernelIdeal_PreReferenceIdeal_pre_finite_pre (hPreKernelIdeal := hPreKernelIdeal) (hPreReferenceIdeal := hPreReferenceIdeal) (hPre_finite_pre := hPre_finite_pre)
    ∧ preserves_SbfKernel_SbfKernelIdeal
    ∧ algebraic_SbfKernelIdeal_SbfReferenceIdeal_pre_moderate_forward (hSbfKernelIdeal := hSbfKernelIdeal) (hSbfReferenceIdeal := hSbfReferenceIdeal) (hPre_moderate_forward := hPre_moderate_forward)
    ∧ preserves_MemfKernel_MemfKernelIdeal
    ∧ algebraic_MemfKernelIdeal_MemfReferenceIdeal (hMemfKernelIdeal := hMemfKernelIdeal) (hMemfReferenceIdeal := hMemfReferenceIdeal)
    ∧ preserves_NormKernel_NormKernelIdeal
    ∧ algebraic_NormKernelIdeal_NormReferenceIdeal (hNormKernelIdeal := hNormKernelIdeal) (hNormReferenceIdeal := hNormReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_GwKernel_GwKernelIdeal
    ∧ algebraic_GwKernelIdeal_GwReferenceIdeal (hGwKernelIdeal := hGwKernelIdeal) (hGwReferenceIdeal := hGwReferenceIdeal)
    ∧ preserves_AdamKernel_AdamKernelIdeal
    ∧ algebraic_AdamKernelIdeal_AdamReferenceIdeal (hAdamKernelIdeal := hAdamKernelIdeal) (hAdamReferenceIdeal := hAdamReferenceIdeal)
    ∧ preserves_SmallKernel_SmallKernelIdeal
    ∧ algebraic_SmallKernelIdeal_SmallReferenceIdeal (hSmallKernelIdeal := hSmallKernelIdeal) (hSmallReferenceIdeal := hSmallReferenceIdeal)
-- ==== Pre_finite_loss.lean ====
abbrev S8192x1024 : Shape := ⟨2, ![8192, 1024]⟩
abbrev S8192x2816 : Shape := ⟨2, ![8192, 2816]⟩
abbrev S2816x1024 : Shape := ⟨2, ![2816, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2816 : S_.BroadcastsInDim S8192x2816 (![] : Fin 0 → Fin S8192x2816.rank)
  reducesTo_S8192x2816_S_d0_1 : S8192x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S8192x1024 .f32) (main_v3 : IVec S_ 1) (main_v7 : IVec S_ 1) (main_v11 : IVec S_ 1) (main_v15 : IVec S_ 1) : IVec S_ 1 :=
  let main_v16 : FVec F S8192x1024 .f32 := Host.absf main_arg4
  let main_cst_6 : FVec F S_ .f32 := constant S_ .f32 0x7F800000#32
  let main_v17 : FVec F S8192x1024 .f32 := broadcastInDim S8192x1024 ![] bcast_S_S8192x1024 main_cst_6
  let main_v18 : IVec S8192x1024 1 := cmpf .olt main_v16 main_v17
  let main_c_7 : IVec S_ 1 := constantI S_ 1 1#1
  let main_v19 : IVec S_ 1 := (fun x v => Host.reduce IntOp.andi x v reducesTo_S8192x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8192x1024 .f32) (main_arg1 : FVec F S8192x2816 .f32) (main_arg2 : FVec F S2816x1024 .f32) (main_arg3 : FVec F S1x1024 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2816 .f32 := Host.absf main_arg1
  let main_cst_0 : FVec F S_ .f32 := constant S_ .f32 0x7F800000#32
  let main_v5 : FVec F S8192x2816 .f32 := broadcastInDim S8192x2816 ![] bcast_S_S8192x2816 main_cst_0
  let main_v6 : IVec S8192x2816 1 := cmpf .olt main_v4 main_v5
  let main_c_1 : IVec S_ 1 := constantI S_ 1 1#1
  let main_v7 : IVec S_ 1 := (fun x v => Host.reduce IntOp.andi x v reducesTo_S8192x2816_S_d0_1 h_S_) main_v6 main_c_1
  let main_v8 : FVec F S2816x1024 .f32 := Host.absf main_arg2
  let main_cst_2 : FVec F S_ .f32 := constant S_ .f32 0x7F800000#32
  let main_v9 : FVec F S2816x1024 .f32 := broadcastInDim S2816x1024 ![] bcast_S_S2816x1024 main_cst_2
  let main_v10 : IVec S2816x1024 1 := cmpf .olt main_v8 main_v9
  let main_c_3 : IVec S_ 1 := constantI S_ 1 1#1
  let main_v11 : IVec S_ 1 := (fun x v => Host.reduce IntOp.andi x v reducesTo_S2816x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_v3 main_v7 main_v11 main_v15
-- ==== Pre_finite_memory.lean ====
abbrev S4x2048x4x128 : Shape := ⟨4, ![4, 2048, 4, 128]⟩
abbrev S4x256x4x128 : Shape := ⟨4, ![4, 256, 4, 128]⟩
abbrev S_ : Shape := ⟨0, ![]⟩

class Facts : Prop where
  bcast_S_S4x2048x4x128 : S_.BroadcastsInDim S4x2048x4x128 (![] : Fin 0 → Fin S4x2048x4x128.rank)
  reducesTo_S4x2048x4x128_S_d0_1_2_3 : S4x2048x4x128.ReducesTo [0, 1, 2, 3] S_
  h_S_ : 0 < S_.numel
  bcast_S_S4x256x4x128 : S_.BroadcastsInDim S4x256x4x128 (![] : Fin 0 → Fin S4x256x4x128.rank)
  reducesTo_S4x256x4x128_S_d0_1_2_3 : S4x256x4x128.ReducesTo [0, 1, 2, 3] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S4x2048x4x128 .f32) (main_arg1 : FVec F S4x256x4x128 .f32) (main_arg2 : FVec F S4x256x4x128 .f32) (main_arg3 : FVec F S4x2048x4x128 .f32) : IVec S_ 1 :=
  let main_v0 : FVec F S4x2048x4x128 .f32 := Host.absf main_arg0
  let main_cst : FVec F S_ .f32 := constant S_ .f32 0x7F800000#32
  let main_v1 : FVec F S4x2048x4x128 .f32 := broadcastInDim S4x2048x4x128 ![] bcast_S_S4x2048x4x128 main_cst
  let main_v2 : IVec S4x2048x4x128 1 := cmpf .olt main_v0 main_v1
  let main_c : IVec S_ 1 := constantI S_ 1 1#1
  let main_v3 : IVec S_ 1 := (fun x v => Host.reduce IntOp.andi x v reducesTo_S4x2048x4x128_S_d0_1_2_3 h_S_) main_v2 main_c
  let main_v4 : FVec F S4x256x4x128 .f32 := Host.absf main_arg1
  let main_cst_0 : FVec F S_ .f32 := constant S_ .f32 0x7F800000#32
  let main_v5 : FVec F S4x256x4x128 .f32 := broadcastInDim S4x256x4x128 ![] bcast_S_S4x256x4x128 main_cst_0
  let main_v6 : IVec S4x256x4x128 1 := cmpf .olt main_v4 main_v5
  let main_c_1 : IVec S_ 1 := constantI S_ 1 1#1
  let main_v7 : IVec S_ 1 := (fun x v => Host.reduce IntOp.andi x v reducesTo_S4x256x4x128_S_d0_1_2_3 h_S_) main_v6 main_c_1
  let main_v8 : FVec F S4x256x4x128 .f32 := Host.absf main_arg2
  let main_cst_2 : FVec F S_ .f32 := constant S_ .f32 0x7F800000#32
  let main_v9 : FVec F S4x256x4x128 .f32 := broadcastInDim S4x256x4x128 ![] bcast_S_S4x256x4x128 main_cst_2
  let main_v10 : IVec S4x256x4x128 1 := cmpf .olt main_v8 main_v9
  let main_c_3 : IVec S_ 1 := constantI S_ 1 1#1
  let main_v11 : IVec S_ 1 := (fun x v => Host.reduce IntOp.andi x v reducesTo_S4x256x4x128_S_d0_1_2_3 h_S_) main_v10 main_c_3
  let main_v12 : FVec F S4x2048x4x128 .f32 := Host.absf main_arg3
  let main_cst_4 : FVec F S_ .f32 := constant S_ .f32 0x7F800000#32
  let main_v13 : FVec F S4x2048x4x128 .f32 := broadcastInDim S4x2048x4x128 ![] bcast_S_S4x2048x4x128 main_cst_4
  let main_v14 : IVec S4x2048x4x128 1 := cmpf .olt main_v12 main_v13
  let main_c_5 : IVec S_ 1 := constantI S_ 1 1#1
  let main_v15 : IVec S_ 1 := (fun x v => Host.reduce IntOp.andi x v reducesTo_S4x2048x4x128_S_d0_1_2_3 h_S_) main_v14 main_c_5
  fn_part1 (F := F) main_v3 main_v7 main_v11 main_v15
-- ==== Pre_finite_mix.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S8192x5632 : S_.BroadcastsInDim S8192x5632 (![] : Fin 0 → Fin S8192x5632.rank)
  reducesTo_S8192x5632_S_d0_1 : S8192x5632.ReducesTo [0, 1] S_

variable [Facts]

def fn_part1 {F : FTy → Type} [FloatOps F] (main_arg4 : FVec F S1024x5632 .f32) (main_arg5 : FVec F S8192x5632 .f32) (main_arg6 : FVec F S8192x1024 .f32) (main_v3 : IVec S_ 1) (main_v7 : IVec S_ 1) (main_v11 : IVec S_ 1) (main_v15 : IVec S_ 1) : IVec S_ 1 :=
  let main_v16 : FVec F S1024x5632 .f32 := Host.absf main_arg4
  let main_cst_6 : FVec F S_ .f32 := constant S_ .f32 0x7F800000#32
  let main_v17 : FVec F S1024x5632 .f32 := broadcastInDim S1024x5632 ![] bcast_S_S1024x5632 main_cst_6
  let main_v18 : IVec S1024x5632 1 := cmpf .olt main_v16 main_v17
  let main_c_7 : IVec S_ 1 := constantI S_ 1 1#1
  let main_v19 : IVec S_ 1 := (fun x v => Host.reduce IntOp.andi x v reducesTo_S1024x5632_S_d0_1 h_S_) main_v18 main_c_7
  let main_v20 : FVec F S8192x5632 .f32 := Host.absf main_arg5
  let main_cst_8 : FVec F S_ .f32 := constant S_ .f32 0x7F800000#32
  let main_v21 : FVec F S8192x5632 .f32 := broadcastInDim S8192x5632 ![] bcast_S_S8192x5632 main_cst_8
  let main_v22 : IVec S8192x5632 1 := cmpf .olt main_v20 main_v21
  let main_c_9 : IVec S_ 1 := constantI S_ 1 1#1
  let main_v23 : IVec S_ 1 := (fun x v => Host.reduce IntOp.andi x v reducesTo_S8192x5632_S_d0_1 h_S_) main_v22 main_c_9
  let main_v24 : FVec F S8192x1024 .f32 := Host.absf main_arg6
  let main_cst_10 : FVec F S_ .f32 := constant S_ .f32 0x7F800000#32
  let main_v25 : FVec F S8192x1024 .f32 := broadcastInDim S8192x1024 ![] bcast_S_S8192x1024 main_cst_10
  let main_v26 : IVec S8192x1024 1 := cmpf .olt main_v24 main_v25
  let main_c_11 : IVec S_ 1 := constantI S_ 1 1#1
  let main_v27 : IVec S_ 1 := (fun x v => Host.reduce IntOp.andi x v reducesTo_S8192x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S1024x5632 .f32) (main_arg5 : FVec F S8192x5632 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_arg6 main_v3 main_v7 main_v11 main_v15
-- ==== Pre_finite_pre.lean ====
abbrev S8192x1024 : Shape := ⟨2, ![8192, 1024]⟩
abbrev S1x1024 : Shape := ⟨2, ![1, 1024]⟩
abbrev S1024x4352 : Shape := ⟨2, ![1024, 4352]⟩
abbrev S1024x3072 : Shape := ⟨2, ![1024, 3072]⟩
abbrev S8192x4352 : Shape := ⟨2, ![8192, 4352]⟩
abbrev S8192x3072 : Shape := ⟨2, ![8192, 3072]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x4352 : S_.BroadcastsInDim S1024x4352 (![] : Fin 0 → Fin S1024x4352.rank)
  reducesTo_S1024x4352_S_d0_1 : S1024x4352.ReducesTo [0, 1] S_
  bcast_S_S1024x3072 : S_.BroadcastsInDim S1024x3072 (![] : Fin 0 → Fin S1024x3072.rank)
  reducesTo_S1024x3072_S_d0_1 : S1024x3072.ReducesTo [0, 1] S_
  bcast_S_S8192x4352 : S_.BroadcastsInDim S8192x4352 (![] : Fin 0 → Fin S8192x4352.rank)
  reducesTo_S8192x4352_S_d0_1 : S8192x4352.ReducesTo [0, 1] S_
  bcast_S_S8192x3072 : S_.BroadcastsInDim S8192x3072 (![] : Fin 0 → Fin S8192x3072.rank)
  reducesTo_S8192x3072_S_d0_1 : S8192x3072.ReducesTo [0, 1] S_

variable [Facts]

def fn_part1 {F : FTy → Type} [FloatOps F] (main_arg4 : FVec F S8192x4352 .f32) (main_arg5 : FVec F S8192x3072 .f32) (main_arg6 : FVec F S8192x1024 .f32) (main_v3 : IVec S_ 1) (main_v7 : IVec S_ 1) (main_v11 : IVec S_ 1) (main_v15 : IVec S_ 1) : IVec S_ 1 :=
  let main_v16 : FVec F S8192x4352 .f32 := Host.absf main_arg4
  let main_cst_6 : FVec F S_ .f32 := constant S_ .f32 0x7F800000#32
  let main_v17 : FVec F S8192x4352 .f32 := broadcastInDim S8192x4352 ![] bcast_S_S8192x4352 main_cst_6
  let main_v18 : IVec S8192x4352 1 := cmpf .olt main_v16 main_v17
  let main_c_7 : IVec S_ 1 := constantI S_ 1 1#1
  let main_v19 : IVec S_ 1 := (fun x v => Host.reduce IntOp.andi x v reducesTo_S8192x4352_S_d0_1 h_S_) main_v18 main_c_7
  let main_v20 : FVec F S8192x3072 .f32 := Host.absf main_arg5
  let main_cst_8 : FVec F S_ .f32 := constant S_ .f32 0x7F800000#32
  let main_v21 : FVec F S8192x3072 .f32 := broadcastInDim S8192x3072 ![] bcast_S_S8192x3072 main_cst_8
  let main_v22 : IVec S8192x3072 1 := cmpf .olt main_v20 main_v21
  let main_c_9 : IVec S_ 1 := constantI S_ 1 1#1
  let main_v23 : IVec S_ 1 := (fun x v => Host.reduce IntOp.andi x v reducesTo_S8192x3072_S_d0_1 h_S_) main_v22 main_c_9
  let main_v24 : FVec F S8192x1024 .f32 := Host.absf main_arg6
  let main_cst_10 : FVec F S_ .f32 := constant S_ .f32 0x7F800000#32
  let main_v25 : FVec F S8192x1024 .f32 := broadcastInDim S8192x1024 ![] bcast_S_S8192x1024 main_cst_10
  let main_v26 : IVec S8192x1024 1 := cmpf .olt main_v24 main_v25
  let main_c_11 : IVec S_ 1 := constantI S_ 1 1#1
  let main_v27 : IVec S_ 1 := (fun x v => Host.reduce IntOp.andi x v reducesTo_S8192x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S8192x1024 .f32) (main_arg1 : FVec F S1x1024 .f32) (main_arg2 : FVec F S1024x4352 .f32) (main_arg3 : FVec F S1024x3072 .f32) (main_arg4 : FVec F S8192x4352 .f32) (main_arg5 : FVec F S8192x3072 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x4352 .f32 := Host.absf main_arg2
  let main_cst_2 : FVec F S_ .f32 := constant S_ .f32 0x7F800000#32
  let main_v9 : FVec F S1024x4352 .f32 := broadcastInDim S1024x4352 ![] bcast_S_S1024x4352 main_cst_2
  let main_v10 : IVec S1024x4352 1 := cmpf .olt main_v8 main_v9
  let main_c_3 : IVec S_ 1 := constantI S_ 1 1#1
  let main_v11 : IVec S_ 1 := (fun x v => Host.reduce IntOp.andi x v reducesTo_S1024x4352_S_d0_1 h_S_) main_v10 main_c_3
  let main_v12 : FVec F S1024x3072 .f32 := Host.absf main_arg3
  let main_cst_4 : FVec F S_ .f32 := constant S_ .f32 0x7F800000#32
  let main_v13 : FVec F S1024x3072 .f32 := broadcastInDim S1024x3072 ![] bcast_S_S1024x3072 main_cst_4
  let main_v14 : IVec S1024x3072 1 := cmpf .olt main_v12 main_v13
  let main_c_5 : IVec S_ 1 := constantI S_ 1 1#1
  let main_v15 : IVec S_ 1 := (fun x v => Host.reduce IntOp.andi x v reducesTo_S1024x3072_S_d0_1 h_S_) main_v14 main_c_5
  fn_part1 (F := F) main_arg4 main_arg5 main_arg6 main_v3 main_v7 main_v11 main_v15
-- ==== Pre_finite_swiglu.lean ====
abbrev S8192x5632 : Shape := ⟨2, ![8192, 5632]⟩
abbrev S2816x1024 : Shape := ⟨2, ![2816, 1024]⟩
abbrev S8192x1024 : Shape := ⟨2, ![8192, 1024]⟩
abbrev S_ : Shape := ⟨0, ![]⟩

class Facts : Prop where
  bcast_S_S8192x5632 : S_.BroadcastsInDim S8192x5632 (![] : Fin 0 → Fin S8192x5632.rank)
  reducesTo_S8192x5632_S_d0_1 : S8192x5632.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x5632 .f32) (main_arg1 : FVec F S2816x1024 .f32) (main_arg2 : FVec F S8192x1024 .f32) : IVec S_ 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_c : IVec S_ 1 := constantI S_ 1 1#1
  let main_v3 : IVec S_ 1 := (fun x v => Host.reduce IntOp.andi x v reducesTo_S8192x5632_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : FVec F S8192x1024 .f32 := Host.absf main_arg2
  let main_cst_2 : FVec F S_ .f32 := constant S_ .f32 0x7F800000#32
  let main_v9 : FVec F S8192x1024 .f32 := broadcastInDim S8192x1024 ![] bcast_S_S8192x1024 main_cst_2
  let main_v10 : IVec S8192x1024 1 := cmpf .olt main_v8 main_v9
  let main_c_3 : IVec S_ 1 := constantI S_ 1 1#1
  let main_v11 : IVec S_ 1 := (fun x v => Host.reduce IntOp.andi x v reducesTo_S8192x1024_S_d0_1 h_S_) main_v10 main_c_3
  let main_v12 : IVec S_ 1 := andi main_v3 main_v7
  let main_v13 : IVec S_ 1 := andi main_v12 main_v11
  main_v13
-- ==== Pre_moderate_forward.lean ====
abbrev S4x2048x8x64 : Shape := ⟨4, ![4, 2048, 8, 64]⟩
abbrev S4x8x2048x2048 : Shape := ⟨4, ![4, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩

class Facts : Prop where
  bcast_S_S4x8x2048x2048 : S_.BroadcastsInDim S4x8x2048x2048 (![] : Fin 0 → Fin S4x8x2048x2048.rank)
  bcast_S2048_S1x2048_1 : S2048.BroadcastsInDim S1x2048 (![1] : Fin 1 → Fin S1x2048.rank)
  bcast_S2048_S2048x1_0 : S2048.BroadcastsInDim S2048x1 (![0] : Fin 1 → Fin S2048x1.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S_S4x2048x8x64 : S_.BroadcastsInDim S4x2048x8x64 (![] : Fin 0 → Fin S4x2048x8x64.rank)
  reducesTo_S4x2048x8x64_S_d0_1_2_3 : S4x2048x8x64.ReducesTo [0, 1, 2, 3] S_
  h_S_ : 0 < S_.numel
  bcast_S2048x2048_S4x8x2048x2048_2_3 : S2048x2048.BroadcastsInDim S4x8x2048x2048 (![2, 3] : Fin 2 → Fin S4x8x2048x2048.rank)
  reducesTo_S4x8x2048x2048_S_d0_1_2_3 : S4x8x2048x2048.ReducesTo [0, 1, 2, 3] S_
  dot_S4x2048x8x64_S4x2048x8x64_S4x8x2048x2048_3_3_1_1_02_02_wf : DotDims.WF S4x2048x8x64 S4x2048x8x64 S4x8x2048x2048 [3] [3] [1] [1] [0, 2] [0, 2]

variable [Facts]

def dot_S4x2048x8x64_S4x2048x8x64_S4x8x2048x2048_3_3_1_1_02_02 : DotDims S4x2048x8x64 S4x2048x8x64 S4x8x2048x2048 where
  lhsContracting := [3]
  rhsContracting := [3]
  lhsNonContracting := [1]
  rhsNonContracting := [1]
  lhsBatch := [0, 2]
  rhsBatch := [0, 2]
  wf := dot_S4x2048x8x64_S4x2048x8x64_S4x8x2048x2048_3_3_1_1_02_02_wf
def fn_where {F : FTy → Type} [FloatOps F] (arg0 : IVec S2048x2048 1) (arg1 : FVec F S4x8x2048x2048 .f32) (arg2 : FVec F S_ .f32) : FVec F S4x8x2048x2048 .f32 :=
  let v0 : FVec F S_ .f32 := id arg2
  let v1 : IVec S4x8x2048x2048 1 := broadcastInDim S4x8x2048x2048 ![2, 3] bcast_S2048x2048_S4x8x2048x2048_2_3 arg0
  let v2 : FVec F S4x8x2048x2048 .f32 := broadcastInDim S4x8x2048x2048 ![] bcast_S_S4x8x2048x2048 v0
  let v3 : FVec F S4x8x2048x2048 .f32 := select v1 arg1 v2
  v3

def fn_part1 {F : FTy → Type} [FloatOps F] (main_v2 : FVec F S4x8x2048x2048 .f32) (main_v9 : IVec S2048x2048 1) (main_v13 : IVec S_ 1) (main_v17 : IVec S_ 1) (main_v18 : FVec F S4x2048x8x64 .f32) : IVec S_ 1 :=
  let main_cst_3 : FVec F S_ .f32 := constant S_ .f32 0x7F800000#32
  let main_v19 : FVec F S4x2048x8x64 .f32 := broadcastInDim S4x2048x8x64 ![] bcast_S_S4x2048x8x64 main_cst_3
  let main_v20 : IVec S4x2048x8x64 1 := cmpf .olt main_v18 main_v19
  let main_c_4 : IVec S_ 1 := constantI S_ 1 1#1
  let main_v21 : IVec S_ 1 := (fun x v => Host.reduce IntOp.andi x v reducesTo_S4x2048x8x64_S_d0_1_2_3 h_S_) main_v20 main_c_4
  let main_v22 : IVec S_ 1 := andi main_v13 main_v17
  let main_v23 : IVec S_ 1 := andi main_v22 main_v21
  let main_cst_5 : FVec F S_ .f32 := constant S_ .f32 0x00000000#32
  let main_v24 : FVec F S4x8x2048x2048 .f32 := fn_where (F := F) main_v9 main_v2 main_cst_5
  let main_cst_6 : FVec F S_ .f32 := constant S_ .f32 0x42700000#32
  let main_v25 : FVec F S4x8x2048x2048 .f32 := broadcastInDim S4x8x2048x2048 ![] bcast_S_S4x8x2048x2048 main_cst_6
  let main_v26 : IVec S4x8x2048x2048 1 := cmpf .ole main_v24 main_v25
  let main_c_7 : IVec S_ 1 := constantI S_ 1 1#1
  let main_v27 : IVec S_ 1 := (fun x v => Host.reduce IntOp.andi x v reducesTo_S4x8x2048x2048_S_d0_1_2_3 h_S_) main_v26 main_c_7
  let main_v28 : IVec S_ 1 := andi main_v23 main_v27
  main_v28

def fn {F : FTy → Type} [FloatOps F] (main_arg0 : FVec F S4x2048x8x64 .f32) (main_arg1 : FVec F S4x2048x8x64 .f32) (main_arg2 : FVec F S4x2048x8x64 .f32) : IVec S_ 1 :=
  let main_v0 : FVec F S4x8x2048x2048 .f32 := (fun l r => Host.dotGeneral dot_S4x2048x8x64_S4x2048x8x64_S4x8x2048x2048_3_3_1_1_02_02 none l r) main_arg0 main_arg1
  let main_cst : FVec F S_ .f32 := constant S_ .f32 0x3E000000#32
  let main_v1 : FVec F S4x8x2048x2048 .f32 := broadcastInDim S4x8x2048x2048 ![] bcast_S_S4x8x2048x2048 main_cst
  let main_v2 : FVec F S4x8x2048x2048 .f32 := mulf main_v0 main_v1
  let main_v3 : IVec S2048 32 := iotaInDim S2048 32 0
  let main_v4 : IVec S1x2048 32 := broadcastInDim S1x2048 ![1] bcast_S2048_S1x2048_1 main_v3
  let main_v5 : IVec S2048 32 := iotaInDim S2048 32 0
  let main_v6 : IVec S2048x1 32 := broadcastInDim S2048x1 ![0] bcast_S2048_S2048x1_0 main_v5
  let main_v7 : IVec S2048x2048 32 := broadcastInDim S2048x2048 ![0, 1] bcast_S1x2048_S2048x2048_0_1 main_v4
  let main_v8 : IVec S2048x2048 32 := broadcastInDim S2048x2048 ![0, 1] bcast_S2048x1_S2048x2048_0_1 main_v6
  let main_v9 : IVec S2048x2048 1 := cmpi .slt main_v7 main_v8
  let main_v10 : FVec F S4x2048x8x64 .f32 := Host.absf main_arg0
  let main_cst_0 : FVec F S_ .f32 := constant S_ .f32 0x7F800000#32
  let main_v11 : FVec F S4x2048x8x64 .f32 := broadcastInDim S4x2048x8x64 ![] bcast_S_S4x2048x8x64 main_cst_0
  let main_v12 : IVec S4x2048x8x64 1 := cmpf .olt main_v10 main_v11
  let main_c : IVec S_ 1 := constantI S_ 1 1#1
  let main_v13 : IVec S_ 1 := (fun x v => Host.reduce IntOp.andi x v reducesTo_S4x2048x8x64_S_d0_1_2_3 h_S_) main_v12 main_c
  let main_v14 : FVec F S4x2048x8x64 .f32 := Host.absf main_arg1
  let main_cst_1 : FVec F S_ .f32 := constant S_ .f32 0x7F800000#32
  let main_v15 : FVec F S4x2048x8x64 .f32 := broadcastInDim S4x2048x8x64 ![] bcast_S_S4x2048x8x64 main_cst_1
  let main_v16 : IVec S4x2048x8x64 1 := cmpf .olt main_v14 main_v15
  let main_c_2 : IVec S_ 1 := constantI S_ 1 1#1
  let main_v17 : IVec S_ 1 := (fun x v => Host.reduce IntOp.andi x v reducesTo_S4x2048x8x64_S_d0_1_2_3 h_S_) main_v16 main_c_2
  let main_v18 : FVec F S4x2048x8x64 .f32 := Host.absf main_arg2
  fn_part1 (F := F) main_v2 main_v9 main_v13 main_v17 main_v18
-- ==== Pre_moderate_scores.lean ====
abbrev S4x2048x8x64 : Shape := ⟨4, ![4, 2048, 8, 64]⟩
abbrev S4x8x2048x2048 : Shape := ⟨4, ![4, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩

class Facts : Prop where
  bcast_S_S4x8x2048x2048 : S_.BroadcastsInDim S4x8x2048x2048 (![] : Fin 0 → Fin S4x8x2048x2048.rank)
  bcast_S2048_S1x2048_1 : S2048.BroadcastsInDim S1x2048 (![1] : Fin 1 → Fin S1x2048.rank)
  bcast_S2048_S2048x1_0 : S2048.BroadcastsInDim S2048x1 (![0] : Fin 1 → Fin S2048x1.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S_S4x2048x8x64 : S_.BroadcastsInDim S4x2048x8x64 (![] : Fin 0 → Fin S4x2048x8x64.rank)
  reducesTo_S4x2048x8x64_S_d0_1_2_3 : S4x2048x8x64.ReducesTo [0, 1, 2, 3] S_
  h_S_ : 0 < S_.numel
  bcast_S2048x2048_S4x8x2048x2048_2_3 : S2048x2048.BroadcastsInDim S4x8x2048x2048 (![2, 3] : Fin 2 → Fin S4x8x2048x2048.rank)
  reducesTo_S4x8x2048x2048_S_d0_1_2_3 : S4x8x2048x2048.ReducesTo [0, 1, 2, 3] S_
  dot_S4x2048x8x64_S4x2048x8x64_S4x8x2048x2048_3_3_1_1_02_02_wf : DotDims.WF S4x2048x8x64 S4x2048x8x64 S4x8x2048x2048 [3] [3] [1] [1] [0, 2] [0, 2]

variable [Facts]

def dot_S4x2048x8x64_S4x2048x8x64_S4x8x2048x2048_3_3_1_1_02_02 : DotDims S4x2048x8x64 S4x2048x8x64 S4x8x2048x2048 where
  lhsContracting := [3]
  rhsContracting := [3]
  lhsNonContracting := [1]
  rhsNonContracting := [1]
  lhsBatch := [0, 2]
  rhsBatch := [0, 2]
  wf := dot_S4x2048x8x64_S4x2048x8x64_S4x8x2048x2048_3_3_1_1_02_02_wf
def fn_where {F : FTy → Type} [FloatOps F] (arg0 : IVec S2048x2048 1) (arg1 : FVec F S4x8x2048x2048 .f32) (arg2 : FVec F S_ .f32) : FVec F S4x8x2048x2048 .f32 :=
  let v0 : FVec F S_ .f32 := id arg2
  let v1 : IVec S4x8x2048x2048 1 := broadcastInDim S4x8x2048x2048 ![2, 3] bcast_S2048x2048_S4x8x2048x2048_2_3 arg0
  let v2 : FVec F S4x8x2048x2048 .f32 := broadcastInDim S4x8x2048x2048 ![] bcast_S_S4x8x2048x2048 v0
  let v3 : FVec F S4x8x2048x2048 .f32 := select v1 arg1 v2
  v3

def fn_part1 {F : FTy → Type} [FloatOps F] (main_arg3 : FVec F S4x2048x8x64 .f32) (main_v2 : FVec F S4x8x2048x2048 .f32) (main_v9 : IVec S2048x2048 1) (main_v13 : IVec S_ 1) (main_v17 : IVec S_ 1) (main_v18 : FVec F S4x2048x8x64 .f32) : IVec S_ 1 :=
  let main_cst_3 : FVec F S_ .f32 := constant S_ .f32 0x7F800000#32
  let main_v19 : FVec F S4x2048x8x64 .f32 := broadcastInDim S4x2048x8x64 ![] bcast_S_S4x2048x8x64 main_cst_3
  let main_v20 : IVec S4x2048x8x64 1 := cmpf .olt main_v18 main_v19
  let main_c_4 : IVec S_ 1 := constantI S_ 1 1#1
  let main_v21 : IVec S_ 1 := (fun x v => Host.reduce IntOp.andi x v reducesTo_S4x2048x8x64_S_d0_1_2_3 h_S_) main_v20 main_c_4
  let main_v22 : FVec F S4x2048x8x64 .f32 := Host.absf main_arg3
  let main_cst_5 : FVec F S_ .f32 := constant S_ .f32 0x7F800000#32
  let main_v23 : FVec F S4x2048x8x64 .f32 := broadcastInDim S4x2048x8x64 ![] bcast_S_S4x2048x8x64 main_cst_5
  let main_v24 : IVec S4x2048x8x64 1 := cmpf .olt main_v22 main_v23
  let main_c_6 : IVec S_ 1 := constantI S_ 1 1#1
  let main_v25 : IVec S_ 1 := (fun x v => Host.reduce IntOp.andi x v reducesTo_S4x2048x8x64_S_d0_1_2_3 h_S_) main_v24 main_c_6
  let main_cst_7 : FVec F S_ .f32 := constant S_ .f32 0x00000000#32
  let main_v26 : FVec F S4x8x2048x2048 .f32 := fn_where (F := F) main_v9 main_v2 main_cst_7
  let main_cst_8 : FVec F S_ .f32 := constant S_ .f32 0x42700000#32
  let main_v27 : FVec F S4x8x2048x2048 .f32 := broadcastInDim S4x8x2048x2048 ![] bcast_S_S4x8x2048x2048 main_cst_8
  let main_v28 : IVec S4x8x2048x2048 1 := cmpf .ole main_v26 main_v27
  let main_c_9 : IVec S_ 1 := constantI S_ 1 1#1
  let main_v29 : IVec S_ 1 := (fun x v => Host.reduce IntOp.andi x v reducesTo_S4x8x2048x2048_S_d0_1_2_3 h_S_) main_v28 main_c_9
  let main_v30 : IVec S_ 1 := andi main_v29 main_v13
  let main_v31 : IVec S_ 1 := andi main_v30 main_v17
  let main_v32 : IVec S_ 1 := andi main_v31 main_v21
  let main_v33 : IVec S_ 1 := andi main_v32 main_v25
  main_v33

def fn {F : FTy → Type} [FloatOps F] (main_arg0 : FVec F S4x2048x8x64 .f32) (main_arg1 : FVec F S4x2048x8x64 .f32) (main_arg2 : FVec F S4x2048x8x64 .f32) (main_arg3 : FVec F S4x2048x8x64 .f32) : IVec S_ 1 :=
  let main_v0 : FVec F S4x8x2048x2048 .f32 := (fun l r => Host.dotGeneral dot_S4x2048x8x64_S4x2048x8x64_S4x8x2048x2048_3_3_1_1_02_02 none l r) main_arg0 main_arg1
  let main_cst : FVec F S_ .f32 := constant S_ .f32 0x3E000000#32
  let main_v1 : FVec F S4x8x2048x2048 .f32 := broadcastInDim S4x8x2048x2048 ![] bcast_S_S4x8x2048x2048 main_cst
  let main_v2 : FVec F S4x8x2048x2048 .f32 := mulf main_v0 main_v1
  let main_v3 : IVec S2048 32 := iotaInDim S2048 32 0
  let main_v4 : IVec S1x2048 32 := broadcastInDim S1x2048 ![1] bcast_S2048_S1x2048_1 main_v3
  let main_v5 : IVec S2048 32 := iotaInDim S2048 32 0
  let main_v6 : IVec S2048x1 32 := broadcastInDim S2048x1 ![0] bcast_S2048_S2048x1_0 main_v5
  let main_v7 : IVec S2048x2048 32 := broadcastInDim S2048x2048 ![0, 1] bcast_S1x2048_S2048x2048_0_1 main_v4
  let main_v8 : IVec S2048x2048 32 := broadcastInDim S2048x2048 ![0, 1] bcast_S2048x1_S2048x2048_0_1 main_v6
  let main_v9 : IVec S2048x2048 1 := cmpi .slt main_v7 main_v8
  let main_v10 : FVec F S4x2048x8x64 .f32 := Host.absf main_arg0
  let main_cst_0 : FVec F S_ .f32 := constant S_ .f32 0x7F800000#32
  let main_v11 : FVec F S4x2048x8x64 .f32 := broadcastInDim S4x2048x8x64 ![] bcast_S_S4x2048x8x64 main_cst_0
  let main_v12 : IVec S4x2048x8x64 1 := cmpf .olt main_v10 main_v11
  let main_c : IVec S_ 1 := constantI S_ 1 1#1
  let main_v13 : IVec S_ 1 := (fun x v => Host.reduce IntOp.andi x v reducesTo_S4x2048x8x64_S_d0_1_2_3 h_S_) main_v12 main_c
  let main_v14 : FVec F S4x2048x8x64 .f32 := Host.absf main_arg1
  let main_cst_1 : FVec F S_ .f32 := constant S_ .f32 0x7F800000#32
  let main_v15 : FVec F S4x2048x8x64 .f32 := broadcastInDim S4x2048x8x64 ![] bcast_S_S4x2048x8x64 main_cst_1
  let main_v16 : IVec S4x2048x8x64 1 := cmpf .olt main_v14 main_v15
  let main_c_2 : IVec S_ 1 := constantI S_ 1 1#1
  let main_v17 : IVec S_ 1 := (fun x v => Host.reduce IntOp.andi x v reducesTo_S4x2048x8x64_S_d0_1_2_3 h_S_) main_v16 main_c_2
  let main_v18 : FVec F S4x2048x8x64 .f32 := Host.absf main_arg2
  fn_part1 (F := F) main_arg3 main_v2 main_v9 main_v13 main_v17 main_v18
-- ==== GainKernel.lean ====
abbrev S4x256x1024 : Shape := ⟨3, ![4, 256, 1024]⟩
abbrev S1x1024 : Shape := ⟨2, ![1, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 5
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S4x256x1024, .f32⟩
  | .hbm, ⟨3, _⟩ => ⟨S1024x1024, .f32⟩
  | .hbm, ⟨4, _⟩ => ⟨S1024x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GainReferenceIdeal.lean ====
abbrev S4x256x1024 : Shape := ⟨3, ![4, 256, 1024]⟩
abbrev S1x1024 : Shape := ⟨2, ![1, 1024]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S4x256x1024, .f32⟩
  | .hbm, ⟨3, _⟩ => ⟨S1024, .f32⟩
  | .hbm, ⟨4, _⟩ => ⟨S4x256x1024, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x1024, .f32⟩
  | .hbm, ⟨16, _⟩ => ⟨S4x256x1024, .f32⟩
  | .hbm, ⟨17, _⟩ => ⟨S1x1x1024, .f32⟩
  | .hbm, ⟨18, _⟩ => ⟨S4x256x1024, .f32⟩
  | .hbm, ⟨19, _⟩ => ⟨S4x256x1024, .f32⟩
  | .hbm, ⟨20, _⟩ => ⟨S4x256x1024, .f32⟩
  | .hbm, ⟨21, _⟩ => ⟨S_, .f32⟩
  | .hbm, ⟨22, _⟩ => ⟨S1024, .f32⟩
  | .hbm, ⟨23, _⟩ => ⟨S1x1x1024, .f32⟩
  | .hbm, ⟨24, _⟩ => ⟨S_, .f32⟩
  | .hbm, ⟨25, _⟩ => ⟨S1024, .f32⟩
  | .hbm, ⟨26, _⟩ => ⟨S1x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== SbKernel.lean ====
abbrev S4x2048x8x64 : Shape := ⟨4, ![4, 2048, 8, 64]⟩
abbrev S4x2048x4x128 : Shape := ⟨4, ![4, 2048, 4, 128]⟩
abbrev S4x2048x4x1x128 : Shape := ⟨5, ![4, 2048, 4, 1, 128]⟩
abbrev S4x2048x4x3x128 : Shape := ⟨5, ![4, 2048, 4, 3, 128]⟩
abbrev S4x2048x1536 : Shape := ⟨3, ![4, 2048, 1536]⟩
abbrev S_ : Shape := ⟨0, ![]⟩
abbrev S4x2048x512 : Shape := ⟨3, ![4, 2048, 512]⟩
abbrev S4x2048x2048 : Shape := ⟨3, ![4, 2048, 2048]⟩
abbrev S4x8x2048x2048 : Shape := ⟨4, ![4, 8, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x8x64x2048 : Shape := ⟨4, ![4, 8, 64, 2048]⟩
abbrev S1x2048x384 : Shape := ⟨3, ![1, 2048, 384]⟩
abbrev S1x2048x128 : Shape := ⟨3, ![1, 2048, 128]⟩
abbrev S512x128 : Shape := ⟨2, ![512, 128]⟩
abbrev S2048x128 : Shape := ⟨2, ![2048, 128]⟩
abbrev S256x128 : Shape := ⟨2, ![256, 128]⟩
abbrev S512x256 : Shape := ⟨2, ![512, 256]⟩
abbrev S256x256 : Shape := ⟨2, ![256, 256]⟩
abbrev S1x256x128 : Shape := ⟨3, ![1, 256, 128]⟩
abbrev S256 : Shape := ⟨1, ![256]⟩
abbrev S256x1 : Shape := ⟨2, ![256, 1]⟩
abbrev S512x1 : Shape := ⟨2, ![512, 1]⟩
abbrev S512x512 : Shape := ⟨2, ![512, 512]⟩
abbrev S512 : Shape := ⟨1, ![512]⟩

abbrev nBuf : Space → Nat
  | .hbm => 93
  | .vmem => 11
  | .smem => 0
  | _ => 0

abbrev bufTy : (tb : Table) → Fin (tcTables nBuf tb) → BufTy
  | .hbm, ⟨0, _⟩ => ⟨S4x2048x8x64, .f32⟩
  | .hbm, ⟨1, _⟩ => ⟨S4x2048x8x64, .f32⟩
  | .hbm, ⟨2, _⟩ => ⟨S4x2048x8x64, .f32⟩
  | .hbm, ⟨3, _⟩ => ⟨S4x2048x8x64, .f32⟩
  | .hbm, ⟨4, _⟩ => ⟨S4x2048x4x128, .f32⟩
  | .hbm, ⟨5, _⟩ => ⟨S4x2048x4x128, .f32⟩
  | .hbm, ⟨6, _⟩ => ⟨S4x2048x4x128, .f32⟩
  | .hbm, ⟨7, _⟩ => ⟨S4x2048x4x1x128, .f32⟩
  | .hbm, ⟨8, _⟩ => ⟨S4x2048x4x1x128, .f32⟩
  | .hbm, ⟨9, _⟩ => ⟨S4x2048x4x1x128, .f32⟩
  | .hbm, ⟨10, _⟩ => ⟨S4x2048x4x3x128, .f32⟩
  | .hbm, ⟨11, _⟩ => ⟨S4x2048x1536, .f32⟩
  | .hbm, ⟨12, _⟩ => ⟨S_, .f32⟩
  | .hbm, ⟨13, _⟩ => ⟨S4x2048x512, .f32⟩
  | .hbm, ⟨14, _⟩ => ⟨S4x2048x2048, .f32⟩
  | .hbm, ⟨15, _⟩ => ⟨S4x2048x2048, .bf16⟩
  | .hbm, ⟨16, _⟩ => ⟨S4x8x2048x2048, .f32⟩
  | .hbm, ⟨17, _⟩ => ⟨S_, .f32⟩
  | .hbm, ⟨18, _⟩ => ⟨S4x8x2048x2048, .f32⟩
  | .hbm, ⟨19, _⟩ => ⟨S4x8x2048x2048, .f32⟩
  | .hbm, ⟨20, _⟩ => ⟨S2048, .i32⟩
  | .hbm, ⟨21, _⟩ => ⟨S2048x1, .i32⟩
  | .hbm, ⟨22, _⟩ => ⟨S2048, .i32⟩
  | .hbm, ⟨23, _⟩ => ⟨S1x2048, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S4x8x2048x2048, .f32⟩
  | .hbm, ⟨28, _⟩ => ⟨S_, .f32⟩
  | .hbm, ⟨29, _⟩ => ⟨S4x8x2048x2048, .f32⟩
  | .hbm, ⟨30, _⟩ => ⟨S4x8x2048x2048, .f32⟩
  | .hbm, ⟨31, _⟩ => ⟨S4x8x2048x2048, .f32⟩
  | .hbm, ⟨32, _⟩ => ⟨S4x8x2048x2048, .f32⟩
  | .hbm, ⟨33, _⟩ => ⟨S4x8x2048x2048, .i1⟩
  | .hbm, ⟨34, _⟩ => ⟨S4x8x2048x2048, .f32⟩
  | .hbm, ⟨35, _⟩ => ⟨S4x8x2048x2048, .f32⟩
  | .hbm, ⟨36, _⟩ => ⟨S4x8x2048x2048, .f32⟩
  | .hbm, ⟨37, _⟩ => ⟨S4x8x2048x2048, .f32⟩
  | .hbm, ⟨38, _⟩ => ⟨S4x8x2048x2048, .f32⟩
  | .hbm, ⟨39, _⟩ => ⟨S4x8x2048x2048, .f32⟩
  | .hbm, ⟨40, _⟩ => ⟨S4x8x2048x2048, .f32⟩
  | .hbm, ⟨41, _⟩ => ⟨S4x8x2048x2048, .f32⟩
  | .hbm, ⟨42, _⟩ => ⟨S4x8x2048x2048, .f32⟩
  | .hbm, ⟨43, _⟩ => ⟨S4x8x2048x2048, .f32⟩
  | .hbm, ⟨44, _⟩ => ⟨S4x8x2048x2048, .f32⟩
  | .hbm, ⟨45, _⟩ => ⟨S_, .f32⟩
  | .hbm, ⟨46, _⟩ => ⟨S4x8x2048x2048, .f32⟩
  | .hbm, ⟨47, _⟩ => ⟨S4x8x2048x2048, .f32⟩
  | .hbm, ⟨48, _⟩ => ⟨S4x8x2048x2048, .f32⟩
  | .hbm, ⟨49, _⟩ => ⟨S4x8x2048x2048, .f32⟩
  | .hbm, ⟨50, _⟩ => ⟨S4x8x2048x2048, .i1⟩
  | .hbm, ⟨51, _⟩ => ⟨S4x8x2048x2048, .f32⟩
  | .hbm, ⟨52, _⟩ => ⟨S4x8x2048x2048, .f32⟩
  | .hbm, ⟨53, _⟩ => ⟨S4x8x2048x2048, .f32⟩
  | .hbm, ⟨54, _⟩ => ⟨S4x8x2048x2048, .f32⟩
  | .hbm, ⟨55, _⟩ => ⟨S4x8x2048x2048, .f32⟩
  | .hbm, ⟨56, _⟩ => ⟨S4x8x2048x2048, .f32⟩
  | .hbm, ⟨57, _⟩ => ⟨S4x8x2048x2048, .f32⟩
  | .hbm, ⟨58, _⟩ => ⟨S4x8x2048x2048, .f32⟩
  | .hbm, ⟨59, _⟩ => ⟨S4x8x2048x2048, .f32⟩
  | .hbm, ⟨60, _⟩ => ⟨S_, .f32⟩
  | .hbm, ⟨61, _⟩ => ⟨S_, .f32⟩
  | .hbm, ⟨62, _⟩ => ⟨S4x8x2048x2048, .i1⟩
  | .hbm, ⟨63, _⟩ => ⟨S4x8x2048x2048, .f32⟩
  | .hbm, ⟨64, _⟩ => ⟨S4x8x2048x2048, .f32⟩
  | .hbm, ⟨65, _⟩ => ⟨S_, .f32⟩
  | .hbm, ⟨66, _⟩ => ⟨S_, .f32⟩
  | .hbm, ⟨67, _⟩ => ⟨S4x8x2048x2048, .f32⟩
  | .hbm, ⟨68, _⟩ => ⟨S4x8x2048x2048, .f32⟩
  | .hbm, ⟨69, _⟩ => ⟨S4x8x2048x2048, .f32⟩
  | .hbm, ⟨70, _⟩ => ⟨S4x8x2048x2048, .f32⟩
  | .hbm, ⟨71, _⟩ => ⟨S_, .f32⟩
  | .hbm, ⟨72, _⟩ => ⟨S_, .f32⟩
  | .hbm, ⟨73, _⟩ => ⟨S4x8x2048x2048, .i1⟩
  | .hbm, ⟨74, _⟩ => ⟨S4x8x2048x2048, .f32⟩
  | .hbm, ⟨75, _⟩ => ⟨S4x8x2048x2048, .f32⟩
  | .hbm, ⟨76, _⟩ => ⟨S4x8x64x2048, .f32⟩
  | .hbm, ⟨77, _⟩ => ⟨S4x2048x8x64, .f32⟩
  | .hbm, ⟨78, _⟩ => ⟨S4x2048x512, .f32⟩
  | .hbm, ⟨79, _⟩ => ⟨S4x2048x512, .f32⟩
  | .hbm, ⟨80, _⟩ => ⟨S4x2048x512, .bf16⟩
  | .hbm, ⟨81, _⟩ => ⟨S4x2048x2048, .bf16⟩
  | .hbm, ⟨82, _⟩ => ⟨S4x2048x1536, .bf16⟩
  | .hbm, ⟨83, _⟩ => ⟨S4x2048x4x3x128, .bf16⟩
  | .hbm, ⟨84, _⟩ => ⟨S4x2048x4x1x128, .bf16⟩
  | .hbm, ⟨85, _⟩ => ⟨S4x2048x4x128, .bf16⟩
  | .hbm, ⟨86, _⟩ => ⟨S4x2048x8x64, .bf16⟩
  | .hbm, ⟨87, _⟩ => ⟨S4x2048x4x1x128, .bf16⟩
  | .hbm, ⟨88, _⟩ => ⟨S4x2048x4x128, .bf16⟩
  | .hbm, ⟨89, _⟩ => ⟨S4x2048x8x64, .bf16⟩
  | .hbm, ⟨90, _⟩ => ⟨S4x2048x4x1x128, .bf16⟩
  | .hbm, ⟨91, _⟩ => ⟨S4x2048x4x128, .bf16⟩
  | .hbm, ⟨92, _⟩ => ⟨S4x2048x8x64, .bf16⟩
  | .local _ .vmem, ⟨0, _⟩ => ⟨S1x2048x384, .bf16⟩
  | .local _ .vmem, ⟨1, _⟩ => ⟨S1x2048x384, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .f32⟩
  | .local _ .vmem, ⟨5, _⟩ => ⟨S1x2048x128, .f32⟩
  | .local _ .vmem, ⟨6, _⟩ => ⟨S1x2048x384, .bf16⟩
  | .local _ .vmem, ⟨7, _⟩ => ⟨S1x2048x384, .bf16⟩
  | .local _ .vmem, ⟨8, _⟩ => ⟨S512x128, .f32⟩
  | .local _ .vmem, ⟨9, _⟩ => ⟨S2048x128, .f32⟩
  | .local _ .vmem, ⟨10, _⟩ => ⟨S2048x128, .f32⟩
  | _, _ => ⟨S4x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_call0_v0 : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_v1 : Ref sig .tc := ⟨.hbm, 41, rfl⟩
abbrev main_v21 : Ref sig .tc := ⟨.hbm, 42, rfl⟩
abbrev main_v22 : Ref sig .tc := ⟨.hbm, 43, rfl⟩
abbrev main_call1_v0 : Ref sig .tc := ⟨.hbm, 44, rfl⟩
abbrev main_call1_call0_cst : Ref sig .tc := ⟨.hbm, 45, rfl⟩
abbrev main_call1_call0_v0 : Ref sig .tc := ⟨.hbm, 46, rfl⟩
abbrev main_call1_call0_v1 : Ref sig .tc := ⟨.hbm, 47, rfl⟩
abbrev main_call1_call0_v2 : Ref sig .tc := ⟨.hbm, 48, rfl⟩
abbrev main_call1_call0_v3 : Ref sig .tc := ⟨.hbm, 49, rfl⟩
abbrev main_call1_call0_v4 : Ref sig .tc := ⟨.hbm, 50, rfl⟩
abbrev main_call1_call0_v5 : Ref sig .tc := ⟨.hbm, 51, rfl⟩
abbrev main_call1_call0_v6 : Ref sig .tc := ⟨.hbm, 52, rfl⟩
abbrev main_call1_call0_v7 : Ref sig .tc := ⟨.hbm, 53, rfl⟩
abbrev main_call1_call0_v8 : Ref sig .tc := ⟨.hbm, 54, rfl⟩
abbrev main_call1_call0_v9 : Ref sig .tc := ⟨.hbm, 55, rfl⟩
abbrev main_call1_call0_v10 : Ref sig .tc := ⟨.hbm, 56, rfl⟩
abbrev main_call1_call0_v11 : Ref sig .tc := ⟨.hbm, 57, rfl⟩
abbrev main_call1_v1 : Ref sig .tc := ⟨.hbm, 58, rfl⟩
abbrev main_v23 : Ref sig .tc := ⟨.hbm, 59, rfl⟩
abbrev main_cst_1 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v24 : Ref sig .tc := ⟨.hbm, 64, rfl⟩
abbrev main_call3_cst : Ref sig .tc := ⟨.hbm, 65, rfl⟩
abbrev main_call3_v0 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_cst_2 : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c8_i32 : BitVec 32 := 8#32
  let v30 : BitVec 32 := Scalar.addi c0_i32 c8_i32
  let c1_i32 : BitVec 32 := 1#32
  ⟨c0_i32, v30, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32 : BitVec 32 := 256#32
  let v41 : BitVec 32 := Scalar.muli arg9 c256_i32
  v41
def k0_off1 (k0_t1 : Fin k0_t1_loop.trips) : Fin 3 → Nat :=
  let c0_13 : Index := 0#32
  let c0_i32 : BitVec 32 := 0#32
  let c1_i32 : BitVec 32 := 1#32
  let arg9 : BitVec 32 := Scf.iv c0_i32 c1_i32 k0_t1
  let c256_i32 : BitVec 32 := 256#32
  let v41 : BitVec 32 := Scalar.muli arg9 c256_i32
  let v42 : BitVec 32 := v41
  let v43 : Index := Scalar.indexCast v42
  let c0_14 : Index := 0#32
  ![0, v43.toNat, 0]
def k0_off2 (k0_t1 : Fin k0_t1_loop.trips) : Fin 3 → Nat :=
  let c0_17 : Index := 0#32
  let c0_i32 : BitVec 32 := 0#32
  let c1_i32 : BitVec 32 := 1#32
  let arg9 : BitVec 32 := Scf.iv c0_i32 c1_i32 k0_t1
  let c256_i32 : BitVec 32 := 256#32
  let v41 : BitVec 32 := Scalar.muli arg9 c256_i32
  let v42 : BitVec 32 := v41
  let v52 : Index := Scalar.indexCast v42
  let c0_18 : Index := 0#32
  ![0, v52.toNat, 0]
def k0_cond1 (k0_t1 : Fin k0_t1_loop.trips) : BitVec 1 :=
  let c0_i32 : BitVec 32 := 0#32
  let c1_i32 : BitVec 32 := 1#32
  let arg9 : BitVec 32 := Scf.iv c0_i32 c1_i32 k0_t1
  let c0_i32_27 : BitVec 32 := 0#32
  let v74 : BitVec 1 := Scalar.cmpi .sgt arg9 c0_i32_27
  let v75 : BitVec 32 := Scalar.extui v74
  let c0_i32_28 : BitVec 32 := 0#32
  let v76 : BitVec 1 := Scalar.cmpi .ne v75 c0_i32_28
  v76

def k0_mult2 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_45 : BitVec 32 := 256#32
  let v104 : BitVec 32 := Scalar.muli arg9 c256_i32_45
  v104
def k0_off3 (k0_t1 : Fin k0_t1_loop.trips) : Fin 3 → Nat :=
  let c0_46 : Index := 0#32
  let c0_i32 : BitVec 32 := 0#32
  let c1_i32 : BitVec 32 := 1#32
  let arg9 : BitVec 32 := Scf.iv c0_i32 c1_i32 k0_t1
  let c256_i32_45 : BitVec 32 := 256#32
  let v104 : BitVec 32 := Scalar.muli arg9 c256_i32_45
  let v105 : BitVec 32 := v104
  let v106 : Index := Scalar.indexCast v105
  let c128_47 : Index := 128#32
  ![0, v106.toNat, 128]
def k0_off4 (k0_t1 : Fin k0_t1_loop.trips) : Fin 3 → Nat :=
  let c0_48 : Index := 0#32
  let c0_i32 : BitVec 32 := 0#32
  let c1_i32 : BitVec 32 := 1#32
  let arg9 : BitVec 32 := Scf.iv c0_i32 c1_i32 k0_t1
  let c256_i32_45 : BitVec 32 := 256#32
  let v104 : BitVec 32 := Scalar.muli arg9 c256_i32_45
  let v105 : BitVec 32 := v104
  let v109 : Index := Scalar.indexCast v105
  let c256_49 : Index := 256#32
  ![0, v109.toNat, 256]
def k0_off5 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32_45 : BitVec 32 := 256#32
  let v104 : BitVec 32 := Scalar.muli arg9 c256_i32_45
  let v105 : BitVec 32 := v104
  let v156 : Index := Scalar.indexCast v105
  let c0_62 : Index := 0#32
  ![v156.toNat, 0]
def k0_mult3 (k0_t1 : Fin k0_t1_loop.trips) : BitVec 32 :=
  let c0_i32 : BitVec 32 := 0#32
  let c1_i32 : BitVec 32 := 1#32
  let arg9 : BitVec 32 := Scf.iv c0_i32 c1_i32 k0_t1
  let c1_i32_44 : BitVec 32 := 1#32
  let v103 : BitVec 32 := Scalar.subi arg9 c1_i32_44
  let c256_i32_70 : BitVec 32 := 256#32
  let v178 : BitVec 32 := Scalar.muli v103 c256_i32_70
  v178
def k0_off6 (k0_t1 : Fin k0_t1_loop.trips) : Fin 3 → Nat :=
  let c0_71 : Index := 0#32
  let c0_i32 : BitVec 32 := 0#32
  let c1_i32 : BitVec 32 := 1#32
  let arg9 : BitVec 32 := Scf.iv c0_i32 c1_i32 k0_t1
  let c1_i32_44 : BitVec 32 := 1#32
  let v103 : BitVec 32 := Scalar.subi arg9 c1_i32_44
  let c256_i32_70 : BitVec 32 := 256#32
  let v178 : BitVec 32 := Scalar.muli v103 c256_i32_70
  let v179 : BitVec 32 := v178
  let v180 : Index := Scalar.indexCast v179
  let c128_72 : Index := 128#32
  ![0, v180.toNat, 128]
def k0_off7 (k0_t1 : Fin k0_t1_loop.trips) : Fin 3 → Nat :=
  let c0_73 : Index := 0#32
  let c0_i32 : BitVec 32 := 0#32
  let c1_i32 : BitVec 32 := 1#32
  let arg9 : BitVec 32 := Scf.iv c0_i32 c1_i32 k0_t1
  let c1_i32_44 : BitVec 32 := 1#32
  let v103 : BitVec 32 := Scalar.subi arg9 c1_i32_44
  let c256_i32_70 : BitVec 32 := 256#32
  let v178 : BitVec 32 := Scalar.muli v103 c256_i32_70
  let v179 : BitVec 32 := v178
  let v183 : Index := Scalar.indexCast v179
  let c256_74 : Index := 256#32
  ![0, v183.toNat, 256]
def k0_off8 (k0_t1 : Fin k0_t1_loop.trips) : Fin 2 → Nat :=
  let c0_i32 : BitVec 32 := 0#32
  let c1_i32 : BitVec 32 := 1#32
  let arg9 : BitVec 32 := Scf.iv c0_i32 c1_i32 k0_t1
  let c1_i32_44 : BitVec 32 := 1#32
  let v103 : BitVec 32 := Scalar.subi arg9 c1_i32_44
  let c256_i32_70 : BitVec 32 := 256#32
  let v178 : BitVec 32 := Scalar.muli v103 c256_i32_70
  let v179 : BitVec 32 := v178
  let v226 : Index := Scalar.indexCast v179
  let c0_86 : Index := 0#32
  ![v226.toNat, 0]
def k0_mult4 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_44 : BitVec 32 := 256#32
  let v103 : BitVec 32 := Scalar.muli arg9 c256_i32_44
  v103
def k0_off9 (k0_t1 : Fin k0_t1_loop.trips) : Fin 3 → Nat :=
  let c0_45 : Index := 0#32
  let c0_i32 : BitVec 32 := 0#32
  let c1_i32 : BitVec 32 := 1#32
  let arg9 : BitVec 32 := Scf.iv c0_i32 c1_i32 k0_t1
  let c256_i32_44 : BitVec 32 := 256#32
  let v103 : BitVec 32 := Scalar.muli arg9 c256_i32_44
  let v104 : BitVec 32 := v103
  let v105 : Index := Scalar.indexCast v104
  let c128_46 : Index := 128#32
  ![0, v105.toNat, 128]
def k0_off10 (k0_t1 : Fin k0_t1_loop.trips) : Fin 3 → Nat :=
  let c0_47 : Index := 0#32
  let c0_i32 : BitVec 32 := 0#32
  let c1_i32 : BitVec 32 := 1#32
  let arg9 : BitVec 32 := Scf.iv c0_i32 c1_i32 k0_t1
  let c256_i32_44 : BitVec 32 := 256#32
  let v103 : BitVec 32 := Scalar.muli arg9 c256_i32_44
  let v104 : BitVec 32 := v103
  let v108 : Index := Scalar.indexCast v104
  let c256_48 : Index := 256#32
  ![0, v108.toNat, 256]
def k0_off11 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32_44 : BitVec 32 := 256#32
  let v103 : BitVec 32 := Scalar.muli arg9 c256_i32_44
  let v104 : BitVec 32 := v103
  let v155 : Index := Scalar.indexCast v104
  let c0_61 : Index := 0#32
  ![v155.toNat, 0]
@[reducible] def k0_t2_loop (k0_t1 : Fin k0_t1_loop.trips) : Scf.Loop 32 :=
  let c0_i32_32 : BitVec 32 := 0#32
  let c0_i32 : BitVec 32 := 0#32
  let c1_i32 : BitVec 32 := 1#32
  let arg9 : BitVec 32 := Scf.iv c0_i32 c1_i32 k0_t1
  let c1_i32_29 : BitVec 32 := 1#32
  let v78 : BitVec 32 := Scalar.subi arg9 c1_i32_29
  let c0_i32_30 : BitVec 32 := 0#32
  let v79 : BitVec 32 := Scalar.maxsi v78 c0_i32_30
  let c1_i32_31 : BitVec 32 := 1#32
  let v80 : BitVec 32 := Scalar.shrui v79 c1_i32_31
  let v81 : BitVec 32 := Scalar.subi v80 c0_i32_32
  let c1_i32_33 : BitVec 32 := 1#32
  let v83 : BitVec 32 := Scalar.divsi v81 c1_i32_33
  let v84 : BitVec 32 := Scalar.muli v83 c1_i32_33
  let v85 : BitVec 32 := Scalar.addi c0_i32_32 v84
  let c1_i32_34 : BitVec 32 := 1#32
  ⟨c0_i32_32, v85, c1_i32_34⟩
def k0_mult5 (k0_t1 : Fin k0_t1_loop.trips) (k0_t2 : Fin (k0_t2_loop k0_t1).trips) : BitVec 32 :=
  let c0_i32 : BitVec 32 := 0#32
  let c1_i32 : BitVec 32 := 1#32
  let arg9 : BitVec 32 := Scf.iv c0_i32 c1_i32 k0_t1
  let c1_i32_29 : BitVec 32 := 1#32
  let v78 : BitVec 32 := Scalar.subi arg9 c1_i32_29
  let c0_i32_30 : BitVec 32 := 0#32
  let v79 : BitVec 32 := Scalar.maxsi v78 c0_i32_30
  let c1_i32_45 : BitVec 32 := 1#32
  let v106 : BitVec 32 := Scalar.subi v79 c1_i32_45
  let c2_i32_46 : BitVec 32 := 2#32
  let c0_i32_32 : BitVec 32 := 0#32
  let c1_i32_34 : BitVec 32 := 1#32
  let arg10 : BitVec 32 := Scf.iv c0_i32_32 c1_i32_34 k0_t2
  let v107 : BitVec 32 := Scalar.muli c2_i32_46 arg10
  let v108 : BitVec 32 := Scalar.subi v106 v107
  let c256_i32_47 : BitVec 32 := 256#32
  let v109 : BitVec 32 := Scalar.muli v108 c256_i32_47
  v109
def k0_off12 (k0_t1 : Fin k0_t1_loop.trips) (k0_t2 : Fin (k0_t2_loop k0_t1).trips) (c1_i32_45 : BitVec 32) : Fin 3 → Nat :=
  let c0_48 : Index := 0#32
  let c0_i32 : BitVec 32 := 0#32
  let c1_i32 : BitVec 32 := 1#32
  let arg9 : BitVec 32 := Scf.iv c0_i32 c1_i32 k0_t1
  let c1_i32_29 : BitVec 32 := 1#32
  let v78 : BitVec 32 := Scalar.subi arg9 c1_i32_29
  let c0_i32_30 : BitVec 32 := 0#32
  let v79 : BitVec 32 := Scalar.maxsi v78 c0_i32_30
  let v106 : BitVec 32 := Scalar.subi v79 c1_i32_45
  let c2_i32_46 : BitVec 32 := 2#32
  let c0_i32_32 : BitVec 32 := 0#32
  let c1_i32_34 : BitVec 32 := 1#32
  let arg10 : BitVec 32 := Scf.iv c0_i32_32 c1_i32_34 k0_t2
  let v107 : BitVec 32 := Scalar.muli c2_i32_46 arg10
  let v108 : BitVec 32 := Scalar.subi v106 v107
  let c256_i32_47 : BitVec 32 := 256#32
  let v109 : BitVec 32 := Scalar.muli v108 c256_i32_47
  let v110 : BitVec 32 := v109
  let v111 : Index := Scalar.indexCast v110
  let c128_49 : Index := 128#32
  ![0, v111.toNat, 128]
def k0_off13 (k0_t1 : Fin k0_t1_loop.trips) (k0_t2 : Fin (k0_t2_loop k0_t1).trips) (c1_i32_45 : BitVec 32) : Fin 3 → Nat :=
  let c0_50 : Index := 0#32
  let c0_i32 : BitVec 32 := 0#32
  let c1_i32 : BitVec 32 := 1#32
  let arg9 : BitVec 32 := Scf.iv c0_i32 c1_i32 k0_t1
  let c1_i32_29 : BitVec 32 := 1#32
  let v78 : BitVec 32 := Scalar.subi arg9 c1_i32_29
  let c0_i32_30 : BitVec 32 := 0#32
  let v79 : BitVec 32 := Scalar.maxsi v78 c0_i32_30
  let v106 : BitVec 32 := Scalar.subi v79 c1_i32_45
  let c2_i32_46 : BitVec 32 := 2#32
  let c0_i32_32 : BitVec 32 := 0#32
  let c1_i32_34 : BitVec 32 := 1#32
  let arg10 : BitVec 32 := Scf.iv c0_i32_32 c1_i32_34 k0_t2
  let v107 : BitVec 32 := Scalar.muli c2_i32_46 arg10
  let v108 : BitVec 32 := Scalar.subi v106 v107
  let c256_i32_47 : BitVec 32 := 256#32
  let v109 : BitVec 32 := Scalar.muli v108 c256_i32_47
  let v110 : BitVec 32 := v109
  let v114 : Index := Scalar.indexCast v110
  let c256_51 : Index := 256#32
  ![0, v114.toNat, 256]
def k0_off14 (k0_t1 : Fin k0_t1_loop.trips) (k0_t2 : Fin (k0_t2_loop k0_t1).trips) (c1_i32_45 : BitVec 32) : Fin 2 → Nat :=
  let c0_i32 : BitVec 32 := 0#32
  let c1_i32 : BitVec 32 := 1#32
  let arg9 : BitVec 32 := Scf.iv c0_i32 c1_i32 k0_t1
  let c1_i32_29 : BitVec 32 := 1#32
  let v78 : BitVec 32 := Scalar.subi arg9 c1_i32_29
  let c0_i32_30 : BitVec 32 := 0#32
  let v79 : BitVec 32 := Scalar.maxsi v78 c0_i32_30
  let v106 : BitVec 32 := Scalar.subi v79 c1_i32_45
  let c2_i32_46 : BitVec 32 := 2#32
  let c0_i32_32 : BitVec 32 := 0#32
  let c1_i32_34 : BitVec 32 := 1#32
  let arg10 : BitVec 32 := Scf.iv c0_i32_32 c1_i32_34 k0_t2
  let v107 : BitVec 32 := Scalar.muli c2_i32_46 arg10
  let v108 : BitVec 32 := Scalar.subi v106 v107
  let c256_i32_47 : BitVec 32 := 256#32
  let v109 : BitVec 32 := Scalar.muli v108 c256_i32_47
  let v110 : BitVec 32 := v109
  let v157 : Index := Scalar.indexCast v110
  let c0_63 : Index := 0#32
  ![v157.toNat, 0]
def k0_mult6 (k0_t1 : Fin k0_t1_loop.trips) (k0_t2 : Fin (k0_t2_loop k0_t1).trips) : BitVec 32 :=
  let c0_i32 : BitVec 32 := 0#32
  let c1_i32 : BitVec 32 := 1#32
  let arg9 : BitVec 32 := Scf.iv c0_i32 c1_i32 k0_t1
  let c1_i32_29 : BitVec 32 := 1#32
  let v78 : BitVec 32 := Scalar.subi arg9 c1_i32_29
  let c0_i32_30 : BitVec 32 := 0#32
  let v79 : BitVec 32 := Scalar.maxsi v78 c0_i32_30
  let c2_i32 : BitVec 32 := 2#32
  let v103 : BitVec 32 := Scalar.subi v79 c2_i32
  let c2_i32_44 : BitVec 32 := 2#32
  let c0_i32_32 : BitVec 32 := 0#32
  let c1_i32_34 : BitVec 32 := 1#32
  let arg10 : BitVec 32 := Scf.iv c0_i32_32 c1_i32_34 k0_t2
  let v104 : BitVec 32 := Scalar.muli c2_i32_44 arg10
  let v105 : BitVec 32 := Scalar.subi v103 v104
  let c256_i32_71 : BitVec 32 := 256#32
  let v179 : BitVec 32 := Scalar.muli v105 c256_i32_71
  v179
@[reducible] def k0_t3_loop (k0_t1 : Fin k0_t1_loop.trips) : Scf.Loop 32 :=
  let c0_i32_32 : BitVec 32 := 0#32
  let c0_i32 : BitVec 32 := 0#32
  let c1_i32 : BitVec 32 := 1#32
  let arg9 : BitVec 32 := Scf.iv c0_i32 c1_i32 k0_t1
  let c1_i32_29 : BitVec 32 := 1#32
  let v78 : BitVec 32 := Scalar.subi arg9 c1_i32_29
  let c0_i32_30 : BitVec 32 := 0#32
  let v79 : BitVec 32 := Scalar.maxsi v78 c0_i32_30
  let c1_i32_31 : BitVec 32 := 1#32
  let v80 : BitVec 32 := Scalar.shrui v79 c1_i32_31
  let v81 : BitVec 32 := Scalar.subi v80 c0_i32_32
  let c1_i32_33 : BitVec 32 := 1#32
  let v83 : BitVec 32 := Scalar.divsi v81 c1_i32_33
  let v84 : BitVec 32 := Scalar.muli v83 c1_i32_33
  let v85 : BitVec 32 := Scalar.addi c0_i32_32 v84
  let v82 : BitVec 32 := Scalar.addi c0_i32_32 v81
  let c1_i32_35 : BitVec 32 := 1#32
  ⟨v85, v82, c1_i32_35⟩
def k0_mult7 (k0_t1 : Fin k0_t1_loop.trips) (k0_t3 : Fin (k0_t3_loop k0_t1).trips) : BitVec 32 :=
  let c0_i32 : BitVec 32 := 0#32
  let c1_i32 : BitVec 32 := 1#32
  let arg9 : BitVec 32 := Scf.iv c0_i32 c1_i32 k0_t1
  let c1_i32_29 : BitVec 32 := 1#32
  let v78 : BitVec 32 := Scalar.subi arg9 c1_i32_29
  let c0_i32_30 : BitVec 32 := 0#32
  let v79 : BitVec 32 := Scalar.maxsi v78 c0_i32_30
  let c1_i32_45 : BitVec 32 := 1#32
  let v106 : BitVec 32 := Scalar.subi v79 c1_i32_45
  let c2_i32_46 : BitVec 32 := 2#32
  let c0_i32_32 : BitVec 32 := 0#32
  let c1_i32_31 : BitVec 32 := 1#32
  let v80 : BitVec 32 := Scalar.shrui v79 c1_i32_31
  let v81 : BitVec 32 := Scalar.subi v80 c0_i32_32
  let c1_i32_33 : BitVec 32 := 1#32
  let v83 : BitVec 32 := Scalar.divsi v81 c1_i32_33
  let v84 : BitVec 32 := Scalar.muli v83 c1_i32_33
  let v85 : BitVec 32 := Scalar.addi c0_i32_32 v84
  let c1_i32_35 : BitVec 32 := 1#32
  let arg10 : BitVec 32 := Scf.iv v85 c1_i32_35 k0_t3
  let v107 : BitVec 32 := Scalar.muli c2_i32_46 arg10
  let v108 : BitVec 32 := Scalar.subi v106 v107
  let c256_i32_47 : BitVec 32 := 256#32
  let v109 : BitVec 32 := Scalar.muli v108 c256_i32_47
  v109
def k0_off15 (k0_t1 : Fin k0_t1_loop.trips) (k0_t3 : Fin (k0_t3_loop k0_t1).trips) (c1_i32_45 : BitVec 32) : Fin 3 → Nat :=
  let c0_48 : Index := 0#32
  let c0_i32 : BitVec 32 := 0#32
  let c1_i32 : BitVec 32 := 1#32
  let arg9 : BitVec 32 := Scf.iv c0_i32 c1_i32 k0_t1
  let c1_i32_29 : BitVec 32 := 1#32
  let v78 : BitVec 32 := Scalar.subi arg9 c1_i32_29
  let c0_i32_30 : BitVec 32 := 0#32
  let v79 : BitVec 32 := Scalar.maxsi v78 c0_i32_30
  let v106 : BitVec 32 := Scalar.subi v79 c1_i32_45
  let c2_i32_46 : BitVec 32 := 2#32
  let c0_i32_32 : BitVec 32 := 0#32
  let c1_i32_31 : BitVec 32 := 1#32
  let v80 : BitVec 32 := Scalar.shrui v79 c1_i32_31
  let v81 : BitVec 32 := Scalar.subi v80 c0_i32_32
  let c1_i32_33 : BitVec 32 := 1#32
  let v83 : BitVec 32 := Scalar.divsi v81 c1_i32_33
  let v84 : BitVec 32 := Scalar.muli v83 c1_i32_33
  let v85 : BitVec 32 := Scalar.addi c0_i32_32 v84
  let c1_i32_35 : BitVec 32 := 1#32
  let arg10 : BitVec 32 := Scf.iv v85 c1_i32_35 k0_t3
  let v107 : BitVec 32 := Scalar.muli c2_i32_46 arg10
  let v108 : BitVec 32 := Scalar.subi v106 v107
  let c256_i32_47 : BitVec 32 := 256#32
  let v109 : BitVec 32 := Scalar.muli v108 c256_i32_47
  let v110 : BitVec 32 := v109
  let v111 : Index := Scalar.indexCast v110
  let c128_49 : Index := 128#32
  ![0, v111.toNat, 128]
def k0_off16 (k0_t1 : Fin k0_t1_loop.trips) (k0_t3 : Fin (k0_t3_loop k0_t1).trips) (c1_i32_45 : BitVec 32) : Fin 3 → Nat :=
  let c0_50 : Index := 0#32
  let c0_i32 : BitVec 32 := 0#32
  let c1_i32 : BitVec 32 := 1#32
  let arg9 : BitVec 32 := Scf.iv c0_i32 c1_i32 k0_t1
  let c1_i32_29 : BitVec 32 := 1#32
  let v78 : BitVec 32 := Scalar.subi arg9 c1_i32_29
  let c0_i32_30 : BitVec 32 := 0#32
  let v79 : BitVec 32 := Scalar.maxsi v78 c0_i32_30
  let v106 : BitVec 32 := Scalar.subi v79 c1_i32_45
  let c2_i32_46 : BitVec 32 := 2#32
  let c0_i32_32 : BitVec 32 := 0#32
  let c1_i32_31 : BitVec 32 := 1#32
  let v80 : BitVec 32 := Scalar.shrui v79 c1_i32_31
  let v81 : BitVec 32 := Scalar.subi v80 c0_i32_32
  let c1_i32_33 : BitVec 32 := 1#32
  let v83 : BitVec 32 := Scalar.divsi v81 c1_i32_33
  let v84 : BitVec 32 := Scalar.muli v83 c1_i32_33
  let v85 : BitVec 32 := Scalar.addi c0_i32_32 v84
  let c1_i32_35 : BitVec 32 := 1#32
  let arg10 : BitVec 32 := Scf.iv v85 c1_i32_35 k0_t3
  let v107 : BitVec 32 := Scalar.muli c2_i32_46 arg10
  let v108 : BitVec 32 := Scalar.subi v106 v107
  let c256_i32_47 : BitVec 32 := 256#32
  let v109 : BitVec 32 := Scalar.muli v108 c256_i32_47
  let v110 : BitVec 32 := v109
  let v114 : Index := Scalar.indexCast v110
  let c256_51 : Index := 256#32
  ![0, v114.toNat, 256]
def k0_off17 (k0_t1 : Fin k0_t1_loop.trips) (k0_t3 : Fin (k0_t3_loop k0_t1).trips) (c1_i32_45 : BitVec 32) : Fin 2 → Nat :=
  let c0_i32 : BitVec 32 := 0#32
  let c1_i32 : BitVec 32 := 1#32
  let arg9 : BitVec 32 := Scf.iv c0_i32 c1_i32 k0_t1
  let c1_i32_29 : BitVec 32 := 1#32
  let v78 : BitVec 32 := Scalar.subi arg9 c1_i32_29
  let c0_i32_30 : BitVec 32 := 0#32
  let v79 : BitVec 32 := Scalar.maxsi v78 c0_i32_30
  let v106 : BitVec 32 := Scalar.subi v79 c1_i32_45
  let c2_i32_46 : BitVec 32 := 2#32
  let c0_i32_32 : BitVec 32 := 0#32
  let c1_i32_31 : BitVec 32 := 1#32
  let v80 : BitVec 32 := Scalar.shrui v79 c1_i32_31
  let v81 : BitVec 32 := Scalar.subi v80 c0_i32_32
  let c1_i32_33 : BitVec 32 := 1#32
  let v83 : BitVec 32 := Scalar.divsi v81 c1_i32_33
  let v84 : BitVec 32 := Scalar.muli v83 c1_i32_33
  let v85 : BitVec 32 := Scalar.addi c0_i32_32 v84
  let c1_i32_35 : BitVec 32 := 1#32
  let arg10 : BitVec 32 := Scf.iv v85 c1_i32_35 k0_t3
  let v107 : BitVec 32 := Scalar.muli c2_i32_46 arg10
  let v108 : BitVec 32 := Scalar.subi v106 v107
  let c256_i32_47 : BitVec 32 := 256#32
  let v109 : BitVec 32 := Scalar.muli v108 c256_i32_47
  let v110 : BitVec 32 := v109
  let v157 : Index := Scalar.indexCast v110
  let c0_63 : Index := 0#32
  ![v157.toNat, 0]
def k0_mult8 (k0_t1 : Fin k0_t1_loop.trips) (k0_t3 : Fin (k0_t3_loop k0_t1).trips) : BitVec 32 :=
  let c0_i32 : BitVec 32 := 0#32
  let c1_i32 : BitVec 32 := 1#32
  let arg9 : BitVec 32 := Scf.iv c0_i32 c1_i32 k0_t1
  let c1_i32_29 : BitVec 32 := 1#32
  let v78 : BitVec 32 := Scalar.subi arg9 c1_i32_29
  let c0_i32_30 : BitVec 32 := 0#32
  let v79 : BitVec 32 := Scalar.maxsi v78 c0_i32_30
  let c2_i32 : BitVec 32 := 2#32
  let v103 : BitVec 32 := Scalar.subi v79 c2_i32
  let c2_i32_44 : BitVec 32 := 2#32
  let c0_i32_32 : BitVec 32 := 0#32
  let c1_i32_31 : BitVec 32 := 1#32
  let v80 : BitVec 32 := Scalar.shrui v79 c1_i32_31
  let v81 : BitVec 32 := Scalar.subi v80 c0_i32_32
  let c1_i32_33 : BitVec 32 := 1#32
  let v83 : BitVec 32 := Scalar.divsi v81 c1_i32_33
  let v84 : BitVec 32 := Scalar.muli v83 c1_i32_33
  let v85 : BitVec 32 := Scalar.addi c0_i32_32 v84
  let c1_i32_35 : BitVec 32 := 1#32
  let arg10 : BitVec 32 := Scf.iv v85 c1_i32_35 k0_t3
  let v104 : BitVec 32 := Scalar.muli c2_i32_44 arg10
  let v105 : BitVec 32 := Scalar.subi v103 v104
  let c256_i32_71 : BitVec 32 := 256#32
  let v179 : BitVec 32 := Scalar.muli v105 c256_i32_71
  v179
def k0_cond2 (k0_t1 : Fin k0_t1_loop.trips) : BitVec 1 :=
  let c0_i32 : BitVec 32 := 0#32
  let c1_i32 : BitVec 32 := 1#32
  let arg9 : BitVec 32 := Scf.iv c0_i32 c1_i32 k0_t1
  let c1_i32_29 : BitVec 32 := 1#32
  let v78 : BitVec 32 := Scalar.subi arg9 c1_i32_29
  let c0_i32_30 : BitVec 32 := 0#32
  let v79 : BitVec 32 := Scalar.maxsi v78 c0_i32_30
  let c1_i32_36 : BitVec 32 := 1#32
  let v88 : BitVec 32 := Scalar.andi v79 c1_i32_36
  let c1_i32_37 : BitVec 32 := 1#32
  let v89 : BitVec 1 := Scalar.cmpi .eq v88 c1_i32_37
  let v90 : BitVec 32 := Scalar.extui v89
  let c0_i32_38 : BitVec 32 := 0#32
  let v91 : BitVec 1 := Scalar.cmpi .ne v90 c0_i32_38
  v91

def k0_mult9 : BitVec 32 :=
  let c0_i32_44 : BitVec 32 := 0#32
  c0_i32_44
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SbReferenceIdeal.lean ====
abbrev S4x2048x8x64 : Shape := ⟨4, ![4, 2048, 8, 64]⟩
abbrev S4x8x2048x2048 : Shape := ⟨4, ![4, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x8x64x2048 : Shape := ⟨4, ![4, 8, 64, 2048]⟩
abbrev S4x8x2048x64 : Shape := ⟨4, ![4, 8, 2048, 64]⟩

abbrev nBuf : Space → Nat
  | .hbm => 168
  | .vmem => 0
  | .smem => 0
  | _ => 0

abbrev hbmTy0_0 (i : Nat) : BufTy := match i % 128 with
  | 0 => ⟨S4x2048x8x64, .f32⟩
  | 1 => ⟨S4x2048x8x64, .f32⟩
  | 2 => ⟨S4x2048x8x64, .f32⟩
  | 3 => ⟨S4x2048x8x64, .f32⟩
  | 4 => ⟨S4x8x2048x2048, .f32⟩
  | 5 => ⟨S_, .f32⟩
  | 6 => ⟨S4x8x2048x2048, .f32⟩
  | 7 => ⟨S4x8x2048x2048, .f32⟩
  | 8 => ⟨S2048, .i32⟩
  | 9 => ⟨S2048x1, .i32⟩
  | 10 => ⟨S2048, .i32⟩
  | 11 => ⟨S1x2048, .i32⟩
  | 12 => ⟨S2048x2048, .i32⟩
  | 13 => ⟨S2048x2048, .i32⟩
  | 14 => ⟨S2048x2048, .i1⟩
  | 15 => ⟨S4x8x2048x2048, .f32⟩
  | 16 => ⟨S_, .f32⟩
  | 17 => ⟨S4x8x2048x2048, .f32⟩
  | 18 => ⟨S4x8x2048x2048, .f32⟩
  | 19 => ⟨S4x8x2048x2048, .f32⟩
  | 20 => ⟨S4x8x2048x2048, .f32⟩
  | 21 => ⟨S4x8x2048x2048, .i1⟩
  | 22 => ⟨S4x8x2048x2048, .f32⟩
  | 23 => ⟨S4x8x2048x2048, .f32⟩
  | 24 => ⟨S4x8x2048x2048, .f32⟩
  | 25 => ⟨S4x8x2048x2048, .f32⟩
  | 26 => ⟨S4x8x2048x2048, .f32⟩
  | 27 => ⟨S4x8x2048x2048, .f32⟩
  | 28 => ⟨S4x8x2048x2048, .f32⟩
  | 29 => ⟨S4x8x2048x2048, .f32⟩
  | 30 => ⟨S_, .f32⟩
  | 31 => ⟨S4x8x2048x2048, .f32⟩
  | 32 => ⟨S4x8x2048x2048, .i1⟩
  | 33 => ⟨S_, .f32⟩
  | 34 => ⟨S4x8x2048x2048, .f32⟩
  | 35 => ⟨S4x8x2048x2048, .f32⟩
  | 36 => ⟨S_, .f32⟩
  | 37 => ⟨S4x8x2048x2048, .f32⟩
  | 38 => ⟨S4x8x2048x2048, .i1⟩
  | 39 => ⟨S_, .f32⟩
  | 40 => ⟨S4x8x2048x2048, .f32⟩
  | 41 => ⟨S4x8x2048x2048, .f32⟩
  | 42 => ⟨S4x8x2048x2048, .f32⟩
  | 43 => ⟨S4x8x2048x2048, .f32⟩
  | 44 => ⟨S_, .f32⟩
  | 45 => ⟨S_, .f32⟩
  | 46 => ⟨S_, .i1⟩
  | 47 => ⟨S_, .f32⟩
  | 48 => ⟨S_, .f32⟩
  | 49 => ⟨S_, .f32⟩
  | 50 => ⟨S_, .f32⟩
  | 51 => ⟨S4x8x2048x2048, .f32⟩
  | 52 => ⟨S4x8x2048x2048, .i1⟩
  | 53 => ⟨S_, .f32⟩
  | 54 => ⟨S4x8x2048x2048, .f32⟩
  | 55 => ⟨S4x8x2048x2048, .f32⟩
  | 56 => ⟨S4x8x2048x2048, .f32⟩
  | 57 => ⟨S4x8x2048x2048, .f32⟩
  | 58 => ⟨S4x8x2048x2048, .f32⟩
  | 59 => ⟨S_, .f32⟩
  | 60 => ⟨S4x8x2048x2048, .f32⟩
  | 61 => ⟨S4x8x2048x2048, .f32⟩
  | 62 => ⟨S4x8x2048x2048, .f32⟩
  | 63 => ⟨S4x8x2048x2048, .f32⟩
  | 64 => ⟨S4x8x2048x2048, .f32⟩
  | 65 => ⟨S_, .f32⟩
  | 66 => ⟨S4x8x2048x2048, .f32⟩
  | 67 => ⟨S4x8x2048x2048, .f32⟩
  | 68 => ⟨S4x8x2048x2048, .f32⟩
  | 69 => ⟨S4x8x2048x2048, .f32⟩
  | 70 => ⟨S4x8x2048x2048, .i1⟩
  | 71 => ⟨S4x8x2048x2048, .f32⟩
  | 72 => ⟨S4x8x2048x2048, .f32⟩
  | 73 => ⟨S4x8x2048x2048, .f32⟩
  | 74 => ⟨S4x8x2048x2048, .f32⟩
  | 75 => ⟨S4x8x2048x2048, .f32⟩
  | 76 => ⟨S4x8x2048x2048, .f32⟩
  | 77 => ⟨S4x8x2048x2048, .f32⟩
  | 78 => ⟨S4x8x2048x2048, .f32⟩
  | 79 => ⟨S_, .f32⟩
  | 80 => ⟨S4x8x2048x2048, .f32⟩
  | 81 => ⟨S4x8x2048x2048, .i1⟩
  | 82 => ⟨S_, .f32⟩
  | 83 => ⟨S4x8x2048x2048, .f32⟩
  | 84 => ⟨S4x8x2048x2048, .f32⟩
  | 85 => ⟨S_, .f32⟩
  | 86 => ⟨S4x8x2048x2048, .f32⟩
  | 87 => ⟨S4x8x2048x2048, .i1⟩
  | 88 => ⟨S_, .f32⟩
  | 89 => ⟨S4x8x2048x2048, .f32⟩
  | 90 => ⟨S4x8x2048x2048, .f32⟩
  | 91 => ⟨S4x8x2048x2048, .f32⟩
  | 92 => ⟨S4x8x2048x2048, .f32⟩
  | 93 => ⟨S_, .f32⟩
  | 94 => ⟨S_, .f32⟩
  | 95 => ⟨S_, .i1⟩
  | 96 => ⟨S_, .f32⟩
  | 97 => ⟨S_, .f32⟩
  | 98 => ⟨S_, .f32⟩
  | 99 => ⟨S_, .f32⟩
  | 100 => ⟨S4x8x2048x2048, .f32⟩
  | 101 => ⟨S4x8x2048x2048, .i1⟩
  | 102 => ⟨S_, .f32⟩
  | 103 => ⟨S4x8x2048x2048, .f32⟩
  | 104 => ⟨S4x8x2048x2048, .f32⟩
  | 105 => ⟨S4x8x2048x2048, .f32⟩
  | 106 => ⟨S4x8x2048x2048, .f32⟩
  | 107 => ⟨S4x8x2048x2048, .f32⟩
  | 108 => ⟨S_, .f32⟩
  | 109 => ⟨S4x8x2048x2048, .f32⟩
  | 110 => ⟨S4x8x2048x2048, .f32⟩
  | 111 => ⟨S4x8x2048x2048, .f32⟩
  | 112 => ⟨S_, .f32⟩
  | 113 => ⟨S_, .f32⟩
  | 114 => ⟨S4x8x2048x2048, .i1⟩
  | 115 => ⟨S4x8x2048x2048, .f32⟩
  | 116 => ⟨S4x8x2048x2048, .f32⟩
  | 117 => ⟨S_, .f32⟩
  | 118 => ⟨S4x8x2048x2048, .f32⟩
  | 119 => ⟨S_, .f32⟩
  | 120 => ⟨S_, .f32⟩
  | 121 => ⟨S4x8x2048x2048, .f32⟩
  | 122 => ⟨S4x8x2048x2048, .f32⟩
  | 123 => ⟨S4x8x2048x2048, .f32⟩
  | 124 => ⟨S4x8x2048x2048, .f32⟩
  | 125 => ⟨S_, .f32⟩
  | 126 => ⟨S_, .f32⟩
  | 127 => ⟨S4x8x2048x2048, .i1⟩
  | _ => ⟨S4x2048x8x64, .f32⟩

abbrev hbmTy0_1 (i : Nat) : BufTy := match i % 128 with
  | 0 => ⟨S4x8x2048x2048, .f32⟩
  | 1 => ⟨S4x8x2048x2048, .f32⟩
  | 2 => ⟨S_, .f32⟩
  | 3 => ⟨S4x8x2048x2048, .f32⟩
  | 4 => ⟨S4x8x64x2048, .f32⟩
  | 5 => ⟨S4x2048x8x64, .f32⟩
  | 6 => ⟨S4x8x64x2048, .f32⟩
  | 7 => ⟨S4x8x2048x2048, .f32⟩
  | 8 => ⟨S4x8x64x2048, .f32⟩
  | 9 => ⟨S4x2048x8x64, .f32⟩
  | 10 => ⟨S_, .f32⟩
  | 11 => ⟨S4x8x2048x2048, .f32⟩
  | 12 => ⟨S4x8x2048x2048, .f32⟩
  | 13 => ⟨S4x8x2048x2048, .f32⟩
  | 14 => ⟨S4x8x2048x2048, .f32⟩
  | 15 => ⟨S_, .f32⟩
  | 16 => ⟨S_, .f32⟩
  | 17 => ⟨S4x8x2048x2048, .f32⟩
  | 18 => ⟨S4x8x2048x2048, .f32⟩
  | 19 => ⟨S_, .f32⟩
  | 20 => ⟨S4x8x2048x2048, .f32⟩
  | 21 => ⟨S4x8x2048x2048, .f32⟩
  | 22 => ⟨S4x8x2048x2048, .f32⟩
  | 23 => ⟨S4x8x2048x2048, .f32⟩
  | 24 => ⟨S4x8x2048x2048, .f32⟩
  | 25 => ⟨S4x8x2048x2048, .f32⟩
  | 26 => ⟨S4x8x2048x2048, .f32⟩
  | 27 => ⟨S4x8x2048x2048, .f32⟩
  | 28 => ⟨S4x8x2048x2048, .f32⟩
  | 29 => ⟨S4x8x2048x2048, .f32⟩
  | 30 => ⟨S_, .f32⟩
  | 31 => ⟨S4x8x2048x2048, .f32⟩
  | 32 => ⟨S4x8x2048x2048, .f32⟩
  | 33 => ⟨S4x8x2048x64, .f32⟩
  | 34 => ⟨S4x2048x8x64, .f32⟩
  | 35 => ⟨S4x8x2048x64, .f32⟩
  | 36 => ⟨S4x2048x8x64, .f32⟩
  | 37 => ⟨S4x2048x8x64, .bf16⟩
  | 38 => ⟨S4x2048x8x64, .bf16⟩
  | 39 => ⟨S4x2048x8x64, .bf16⟩
  | _ => ⟨S4x2048x8x64, .f32⟩

abbrev hbmTy (i : Nat) : BufTy := match i / 128 with
  | 0 => hbmTy0_0 i
  | 1 => hbmTy0_1 i
  | _ => ⟨S4x2048x8x64, .f32⟩

abbrev bufTy : (tb : Table) → Fin (tcTables nBuf tb) → BufTy
  | .hbm, ⟨i, _⟩ => hbmTy i
  | _, _ => ⟨S4x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1_0 : Ref sig .tc := ⟨.hbm, 29, rfl⟩
abbrev main_call0_call0_cst_0 : Ref sig .tc := ⟨.hbm, 30, rfl⟩
abbrev main_call0_call0_v13 : Ref sig .tc := ⟨.hbm, 31, rfl⟩
abbrev main_call0_call0_v14 : Ref sig .tc := ⟨.hbm, 32, rfl⟩
abbrev main_call0_call0_cst_1 : Ref sig .tc := ⟨.hbm, 33, rfl⟩
abbrev main_call0_call0_v15 : Ref sig .tc := ⟨.hbm, 34, rfl⟩
abbrev main_call0_call0_v16 : Ref sig .tc := ⟨.hbm, 35, rfl⟩
abbrev main_call0_call0_cst_2 : Ref sig .tc := ⟨.hbm, 36, rfl⟩
abbrev main_call0_call0_v17 : Ref sig .tc := ⟨.hbm, 37, rfl⟩
abbrev main_call0_call0_v18 : Ref sig .tc := ⟨.hbm, 38, rfl⟩
abbrev main_call0_call0_cst_3 : Ref sig .tc := ⟨.hbm, 39, rfl⟩
abbrev main_call0_call0_v19 : Ref sig .tc := ⟨.hbm, 40, rfl⟩
abbrev main_call0_call0_v20 : Ref sig .tc := ⟨.hbm, 41, rfl⟩
abbrev main_call0_call0_v21 : Ref sig .tc := ⟨.hbm, 42, rfl⟩
abbrev main_v10_1 : Ref sig .tc := ⟨.hbm, 43, rfl⟩
abbrev main_call0_call0_cst_4 : Ref sig .tc := ⟨.hbm, 44, rfl⟩
abbrev main_call0_call0_cst_5 : Ref sig .tc := ⟨.hbm, 45, rfl⟩
abbrev main_call0_call0_v23 : Ref sig .tc := ⟨.hbm, 46, rfl⟩
abbrev main_call0_call0_cst_6 : Ref sig .tc := ⟨.hbm, 47, rfl⟩
abbrev main_call0_call0_cst_7 : Ref sig .tc := ⟨.hbm, 48, rfl⟩
abbrev main_call0_call0_v24 : Ref sig .tc := ⟨.hbm, 49, rfl⟩
abbrev main_call0_call0_cst_8 : Ref sig .tc := ⟨.hbm, 50, rfl⟩
abbrev main_call0_call0_v25 : Ref sig .tc := ⟨.hbm, 51, rfl⟩
abbrev main_call0_call0_v26 : Ref sig .tc := ⟨.hbm, 52, rfl⟩
abbrev main_call0_call0_cst_9 : Ref sig .tc := ⟨.hbm, 53, rfl⟩
abbrev main_call0_call0_v27 : Ref sig .tc := ⟨.hbm, 54, rfl⟩
abbrev main_call0_call0_v28 : Ref sig .tc := ⟨.hbm, 55, rfl⟩
abbrev main_call0_call0_v29 : Ref sig .tc := ⟨.hbm, 56, rfl⟩
abbrev main_call0_call0_v30 : Ref sig .tc := ⟨.hbm, 57, rfl⟩
abbrev main_call0_call0_v31 : Ref sig .tc := ⟨.hbm, 58, rfl⟩
abbrev main_call0_call0_cst_10 : Ref sig .tc := ⟨.hbm, 59, rfl⟩
abbrev main_call0_call0_v32 : Ref sig .tc := ⟨.hbm, 60, rfl⟩
abbrev main_v10_2 : Ref sig .tc := ⟨.hbm, 61, rfl⟩
abbrev main_v10_0 : Ref sig .tc := ⟨.hbm, 62, rfl⟩
abbrev main_v11 : Ref sig .tc := ⟨.hbm, 63, rfl⟩
abbrev main_call1_v0 : Ref sig .tc := ⟨.hbm, 64, rfl⟩
abbrev main_call1_call0_cst : Ref sig .tc := ⟨.hbm, 65, rfl⟩
abbrev main_call1_call0_v0 : Ref sig .tc := ⟨.hbm, 66, rfl⟩
abbrev main_call1_call0_v1 : Ref sig .tc := ⟨.hbm, 67, rfl⟩
abbrev main_call1_call0_v2 : Ref sig .tc := ⟨.hbm, 68, rfl⟩
abbrev main_call1_call0_v3 : Ref sig .tc := ⟨.hbm, 69, rfl⟩
abbrev main_call1_call0_v4 : Ref sig .tc := ⟨.hbm, 70, rfl⟩
abbrev main_call1_call0_v5 : Ref sig .tc := ⟨.hbm, 71, rfl⟩
abbrev main_call1_call0_v6 : Ref sig .tc := ⟨.hbm, 72, rfl⟩
abbrev main_call1_call0_v7 : Ref sig .tc := ⟨.hbm, 73, rfl⟩
abbrev main_call1_call0_v8 : Ref sig .tc := ⟨.hbm, 74, rfl⟩
abbrev main_call1_call0_v9 : Ref sig .tc := ⟨.hbm, 75, rfl⟩
abbrev main_call1_call0_v10 : Ref sig .tc := ⟨.hbm, 76, rfl⟩
abbrev main_call1_call0_v11 : Ref sig .tc := ⟨.hbm, 77, rfl⟩
abbrev main_call1_v1_0 : Ref sig .tc := ⟨.hbm, 78, rfl⟩
abbrev main_call1_call0_cst_0 : Ref sig .tc := ⟨.hbm, 79, rfl⟩
abbrev main_call1_call0_v13 : Ref sig .tc := ⟨.hbm, 80, rfl⟩
abbrev main_call1_call0_v14 : Ref sig .tc := ⟨.hbm, 81, rfl⟩
abbrev main_call1_call0_cst_1 : Ref sig .tc := ⟨.hbm, 82, rfl⟩
abbrev main_call1_call0_v15 : Ref sig .tc := ⟨.hbm, 83, rfl⟩
abbrev main_call1_call0_v16 : Ref sig .tc := ⟨.hbm, 84, rfl⟩
abbrev main_call1_call0_cst_2 : Ref sig .tc := ⟨.hbm, 85, rfl⟩
abbrev main_call1_call0_v17 : Ref sig .tc := ⟨.hbm, 86, rfl⟩
abbrev main_call1_call0_v18 : Ref sig .tc := ⟨.hbm, 87, rfl⟩
abbrev main_call1_call0_cst_3 : Ref sig .tc := ⟨.hbm, 88, rfl⟩
abbrev main_call1_call0_v19 : Ref sig .tc := ⟨.hbm, 89, rfl⟩
abbrev main_call1_call0_v20 : Ref sig .tc := ⟨.hbm, 90, rfl⟩
abbrev main_call1_call0_v21 : Ref sig .tc := ⟨.hbm, 91, rfl⟩
abbrev main_v12_1 : Ref sig .tc := ⟨.hbm, 92, rfl⟩
abbrev main_call1_call0_cst_4 : Ref sig .tc := ⟨.hbm, 93, rfl⟩
abbrev main_call1_call0_cst_5 : Ref sig .tc := ⟨.hbm, 94, rfl⟩
abbrev main_call1_call0_v23 : Ref sig .tc := ⟨.hbm, 95, rfl⟩
abbrev main_call1_call0_cst_6 : Ref sig .tc := ⟨.hbm, 96, rfl⟩
abbrev main_call1_call0_cst_7 : Ref sig .tc := ⟨.hbm, 97, rfl⟩
abbrev main_call1_call0_v24 : Ref sig .tc := ⟨.hbm, 98, rfl⟩
abbrev main_call1_call0_cst_8 : Ref sig .tc := ⟨.hbm, 99, rfl⟩
abbrev main_call1_call0_v25 : Ref sig .tc := ⟨.hbm, 100, rfl⟩
abbrev main_call1_call0_v26 : Ref sig .tc := ⟨.hbm, 101, rfl⟩
abbrev main_call1_call0_cst_9 : Ref sig .tc := ⟨.hbm, 102, rfl⟩
abbrev main_call1_call0_v27 : Ref sig .tc := ⟨.hbm, 103, rfl⟩
abbrev main_call1_call0_v28 : Ref sig .tc := ⟨.hbm, 104, rfl⟩
abbrev main_call1_call0_v29 : Ref sig .tc := ⟨.hbm, 105, rfl⟩
abbrev main_call1_call0_v30 : Ref sig .tc := ⟨.hbm, 106, rfl⟩
abbrev main_call1_call0_v31 : Ref sig .tc := ⟨.hbm, 107, rfl⟩
abbrev main_call1_call0_cst_10 : Ref sig .tc := ⟨.hbm, 108, rfl⟩
abbrev main_call1_call0_v32 : Ref sig .tc := ⟨.hbm, 109, rfl⟩
abbrev main_v12_2 : Ref sig .tc := ⟨.hbm, 110, rfl⟩
abbrev main_v12_0 : Ref sig .tc := ⟨.hbm, 111, rfl⟩
abbrev main_cst_0 : Ref sig .tc := ⟨.hbm, 112, rfl⟩
abbrev main_call2_v0 : Ref sig .tc := ⟨.hbm, 113, rfl⟩
abbrev main_v13_1 : Ref sig .tc := ⟨.hbm, 114, rfl⟩
abbrev main_call2_v2 : Ref sig .tc := ⟨.hbm, 115, rfl⟩
abbrev main_v13_0 : Ref sig .tc := ⟨.hbm, 116, rfl⟩
abbrev main_call2_cst : Ref sig .tc := ⟨.hbm, 117, rfl⟩
abbrev main_v13_2 : Ref sig .tc := ⟨.hbm, 118, rfl⟩
abbrev main_call3_cst : Ref sig .tc := ⟨.hbm, 119, rfl⟩
abbrev main_call3_v0 : Ref sig .tc := ⟨.hbm, 120, rfl⟩
abbrev main_v14 : Ref sig .tc := ⟨.hbm, 121, rfl⟩
abbrev main_v15 : Ref sig .tc := ⟨.hbm, 122, rfl⟩
abbrev main_v16 : Ref sig .tc := ⟨.hbm, 123, rfl⟩
abbrev main_v17 : Ref sig .tc := ⟨.hbm, 124, rfl⟩
abbrev main_cst_1 : Ref sig .tc := ⟨.hbm, 125, rfl⟩
abbrev main_call4_v0 : Ref sig .tc := ⟨.hbm, 126, rfl⟩
abbrev main_v18_1 : Ref sig .tc := ⟨.hbm, 127, rfl⟩
abbrev main_call4_v2 : Ref sig .tc := ⟨.hbm, 128, rfl⟩
abbrev main_v18_0 : Ref sig .tc := ⟨.hbm, 129, rfl⟩
abbrev main_call4_cst : Ref sig .tc := ⟨.hbm, 130, rfl⟩
abbrev main_v18_2 : Ref sig .tc := ⟨.hbm, 131, rfl⟩
abbrev main_v19 : Ref sig .tc := ⟨.hbm, 132, rfl⟩
abbrev main_v20 : Ref sig .tc := ⟨.hbm, 133, rfl⟩
abbrev main_v21 : Ref sig .tc := ⟨.hbm, 134, rfl⟩
abbrev main_v22 : Ref sig .tc := ⟨.hbm, 135, rfl⟩
abbrev main_v23 : Ref sig .tc := ⟨.hbm, 136, rfl⟩
abbrev main_v24 : Ref sig .tc := ⟨.hbm, 137, rfl⟩
abbrev main_call5_cst : Ref sig .tc := ⟨.hbm, 138, rfl⟩
abbrev main_call5_v0 : Ref sig .tc := ⟨.hbm, 139, rfl⟩
abbrev main_v25 : Ref sig .tc := ⟨.hbm, 140, rfl⟩
abbrev main_v26 : Ref sig .tc := ⟨.hbm, 141, rfl⟩
abbrev main_v27 : Ref sig .tc := ⟨.hbm, 142, rfl⟩
abbrev main_call6_cst : Ref sig .tc := ⟨.hbm, 143, rfl⟩
abbrev main_call6_v0 : Ref sig .tc := ⟨.hbm, 144, rfl⟩
abbrev main_v28 : Ref sig .tc := ⟨.hbm, 145, rfl⟩
abbrev main_v29 : Ref sig .tc := ⟨.hbm, 146, rfl⟩
abbrev main_call7_cst : Ref sig .tc := ⟨.hbm, 147, rfl⟩
abbrev main_call7_v0 : Ref sig .tc := ⟨.hbm, 148, rfl⟩
abbrev main_v30 : Ref sig .tc := ⟨.hbm, 149, rfl⟩
abbrev main_call8_v0 : Ref sig .tc := ⟨.hbm, 150, rfl⟩
abbrev main_call8_v1 : Ref sig .tc := ⟨.hbm, 151, rfl⟩
abbrev main_v31 : Ref sig .tc := ⟨.hbm, 152, rfl⟩
abbrev main_v32 : Ref sig .tc := ⟨.hbm, 153, rfl⟩
abbrev main_call9_v0 : Ref sig .tc := ⟨.hbm, 154, rfl⟩
abbrev main_call9_v1 : Ref sig .tc := ⟨.hbm, 155, rfl⟩
abbrev main_v33 : Ref sig .tc := ⟨.hbm, 156, rfl⟩
abbrev main_v34 : Ref sig .tc := ⟨.hbm, 157, rfl⟩
abbrev main_cst_2 : Ref sig .tc := ⟨.hbm, 158, rfl⟩
abbrev main_v35 : Ref sig .tc := ⟨.hbm, 159, rfl⟩
abbrev main_v36 : Ref sig .tc := ⟨.hbm, 160, rfl⟩
abbrev main_v37 : Ref sig .tc := ⟨.hbm, 161, rfl⟩
abbrev main_v38 : Ref sig .tc := ⟨.hbm, 162, rfl⟩
abbrev main_v39 : Ref sig .tc := ⟨.hbm, 163, rfl⟩
abbrev main_v40 : Ref sig .tc := ⟨.hbm, 164, rfl⟩
abbrev main_v41 : Ref sig .tc := ⟨.hbm, 165, rfl⟩
abbrev main_v42 : Ref sig .tc := ⟨.hbm, 166, rfl⟩
abbrev main_v43 : Ref sig .tc := ⟨.hbm, 167, rfl⟩

abbrev nD : Nat := 1
abbrev τ : Topo := Topo.v7x

variable {F : FTy → Type} [FloatOps F]
-- ==== MemKernel.lean ====
abbrev S4x2048x4x128 : Shape := ⟨4, ![4, 2048, 4, 128]⟩
abbrev S4x256x4x128 : Shape := ⟨4, ![4, 256, 4, 128]⟩
abbrev S_ : Shape := ⟨0, ![]⟩
abbrev S4x2048x1536 : Shape := ⟨3, ![4, 2048, 1536]⟩
abbrev S4x2048x512 : Shape := ⟨3, ![4, 2048, 512]⟩
abbrev S4x2048x2048 : Shape := ⟨3, ![4, 2048, 2048]⟩
abbrev S4x256x512 : Shape := ⟨3, ![4, 256, 512]⟩
abbrev S4x256x1024 : Shape := ⟨3, ![4, 256, 1024]⟩
abbrev S1x2048x128 : Shape := ⟨3, ![1, 2048, 128]⟩
abbrev S1x256x128 : Shape := ⟨3, ![1, 256, 128]⟩
abbrev S256x128 : Shape := ⟨2, ![256, 128]⟩
abbrev S2048x128 : Shape := ⟨2, ![2048, 128]⟩
abbrev S2048x256 : Shape := ⟨2, ![2048, 256]⟩
abbrev S2048 : Shape := ⟨1, ![2048]⟩
abbrev S2048x1 : Shape := ⟨2, ![2048, 1]⟩

abbrev nBuf : Space → Nat
  | .hbm => 24
  | .vmem => 14
  | .smem => 0
  | _ => 0

abbrev bufTy : (tb : Table) → Fin (tcTables nBuf tb) → BufTy
  | .hbm, ⟨0, _⟩ => ⟨S4x2048x4x128, .f32⟩
  | .hbm, ⟨1, _⟩ => ⟨S4x256x4x128, .f32⟩
  | .hbm, ⟨2, _⟩ => ⟨S4x256x4x128, .f32⟩
  | .hbm, ⟨3, _⟩ => ⟨S4x2048x4x128, .f32⟩
  | .hbm, ⟨4, _⟩ => ⟨S_, .bf16⟩
  | .hbm, ⟨5, _⟩ => ⟨S4x2048x1536, .bf16⟩
  | .hbm, ⟨6, _⟩ => ⟨S4x2048x512, .f32⟩
  | .hbm, ⟨7, _⟩ => ⟨S4x2048x512, .bf16⟩
  | .hbm, ⟨8, _⟩ => ⟨S4x2048x2048, .bf16⟩
  | .hbm, ⟨9, _⟩ => ⟨S4x256x512, .f32⟩
  | .hbm, ⟨10, _⟩ => ⟨S4x256x512, .f32⟩
  | .hbm, ⟨11, _⟩ => ⟨S4x256x1024, .f32⟩
  | .hbm, ⟨12, _⟩ => ⟨S4x256x1024, .bf16⟩
  | .hbm, ⟨13, _⟩ => ⟨S4x2048x512, .f32⟩
  | .hbm, ⟨14, _⟩ => ⟨S4x2048x512, .bf16⟩
  | .hbm, ⟨15, _⟩ => ⟨S_, .bf16⟩
  | .hbm, ⟨16, _⟩ => ⟨S4x2048x2048, .bf16⟩
  | .hbm, ⟨17, _⟩ => ⟨S4x2048x2048, .bf16⟩
  | .hbm, ⟨18, _⟩ => ⟨S4x256x512, .bf16⟩
  | .hbm, ⟨19, _⟩ => ⟨S4x256x512, .bf16⟩
  | .hbm, ⟨20, _⟩ => ⟨S4x2048x512, .bf16⟩
  | .hbm, ⟨21, _⟩ => ⟨S4x2048x4x128, .bf16⟩
  | .hbm, ⟨22, _⟩ => ⟨S4x256x4x128, .bf16⟩
  | .hbm, ⟨23, _⟩ => ⟨S4x256x4x128, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x256x128, .bf16⟩
  | .local _ .vmem, ⟨11, _⟩ => ⟨S1x256x128, .bf16⟩
  | .local _ .vmem, ⟨12, _⟩ => ⟨S1x256x128, .bf16⟩
  | .local _ .vmem, ⟨13, _⟩ => ⟨S1x256x128, .bf16⟩
  | _, _ => ⟨S4x2048x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def k0_mult1 : BitVec 32 :=
  let c0_i32 : BitVec 32 := 0#32
  let c2048_i32 : BitVec 32 := 2048#32
  let v5 : BitVec 32 := Scalar.muli c0_i32 c2048_i32
  v5
def k0_off1 : Fin 3 → Nat :=
  let c0_5 : Index := 0#32
  let c0_i32 : BitVec 32 := 0#32
  let c2048_i32 : BitVec 32 := 2048#32
  let v5 : BitVec 32 := Scalar.muli c0_i32 c2048_i32
  let v6 : BitVec 32 := v5
  let v7 : Index := Scalar.indexCast v6
  let c0_6 : Index := 0#32
  ![0, v7.toNat, 0]
def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MemReferenceIdeal.lean ====
abbrev S4x2048x4x128 : Shape := ⟨4, ![4, 2048, 4, 128]⟩
abbrev S4x256x4x128 : Shape := ⟨4, ![4, 256, 4, 128]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S4x4x128x256 : Shape := ⟨4, ![4, 4, 128, 256]⟩
abbrev S4x4x256x128 : Shape := ⟨4, ![4, 4, 256, 128]⟩
abbrev S4x4x2048x128 : Shape := ⟨4, ![4, 4, 2048, 128]⟩

abbrev nBuf : Space → Nat
  | .hbm => 76
  | .vmem => 0
  | .smem => 0
  | _ => 0

abbrev bufTy : (tb : Table) → Fin (tcTables nBuf tb) → BufTy
  | .hbm, ⟨0, _⟩ => ⟨S4x2048x4x128, .f32⟩
  | .hbm, ⟨1, _⟩ => ⟨S4x256x4x128, .f32⟩
  | .hbm, ⟨2, _⟩ => ⟨S4x256x4x128, .f32⟩
  | .hbm, ⟨3, _⟩ => ⟨S4x2048x4x128, .f32⟩
  | .hbm, ⟨4, _⟩ => ⟨S4x4x2048x256, .f32⟩
  | .hbm, ⟨5, _⟩ => ⟨S_, .f32⟩
  | .hbm, ⟨6, _⟩ => ⟨S4x4x2048x256, .f32⟩
  | .hbm, ⟨7, _⟩ => ⟨S4x4x2048x256, .f32⟩
  | .hbm, ⟨8, _⟩ => ⟨S_, .f32⟩
  | .hbm, ⟨9, _⟩ => ⟨S4x4x2048, .f32⟩
  | .hbm, ⟨10, _⟩ => ⟨S4x4x2048x1, .f32⟩
  | .hbm, ⟨11, _⟩ => ⟨S4x4x2048x256, .f32⟩
  | .hbm, ⟨12, _⟩ => ⟨S4x4x2048x256, .i1⟩
  | .hbm, ⟨13, _⟩ => ⟨S4x4x2048x256, .f32⟩
  | .hbm, ⟨14, _⟩ => ⟨S_, .f32⟩
  | .hbm, ⟨15, _⟩ => ⟨S4x4x2048, .f32⟩
  | .hbm, ⟨16, _⟩ => ⟨S_, .f32⟩
  | .hbm, ⟨17, _⟩ => ⟨S4x4x2048, .f32⟩
  | .hbm, ⟨18, _⟩ => ⟨S4x4x2048, .f32⟩
  | .hbm, ⟨19, _⟩ => ⟨S_, .f32⟩
  | .hbm, ⟨20, _⟩ => ⟨S4x4x2048, .f32⟩
  | .hbm, ⟨21, _⟩ => ⟨S4x4x2048, .i1⟩
  | .hbm, ⟨22, _⟩ => ⟨S_, .f32⟩
  | .hbm, ⟨23, _⟩ => ⟨S4x4x2048, .f32⟩
  | .hbm, ⟨24, _⟩ => ⟨S4x4x2048, .i1⟩
  | .hbm, ⟨25, _⟩ => ⟨S_, .f32⟩
  | .hbm, ⟨26, _⟩ => ⟨S4x4x2048, .f32⟩
  | .hbm, ⟨27, _⟩ => ⟨S_, .f32⟩
  | .hbm, ⟨28, _⟩ => ⟨S4x4x2048, .f32⟩
  | .hbm, ⟨29, _⟩ => ⟨S_, .f32⟩
  | .hbm, ⟨30, _⟩ => ⟨S4x4x2048, .f32⟩
  | .hbm, ⟨31, _⟩ => ⟨S4x4x2048, .f32⟩
  | .hbm, ⟨32, _⟩ => ⟨S4x4x2048, .f32⟩
  | .hbm, ⟨33, _⟩ => ⟨S4x4x2048x1, .f32⟩
  | .hbm, ⟨34, _⟩ => ⟨S4x4x2048x256, .f32⟩
  | .hbm, ⟨35, _⟩ => ⟨S4x4x2048x256, .f32⟩
  | .hbm, ⟨36, _⟩ => ⟨S4x4x2048x256, .f32⟩
  | .hbm, ⟨37, _⟩ => ⟨S_, .f32⟩
  | .hbm, ⟨38, _⟩ => ⟨S4x4x2048, .f32⟩
  | .hbm, ⟨39, _⟩ => ⟨S4x4x2048x1, .f32⟩
  | .hbm, ⟨40, _⟩ => ⟨S4x4x2048x256, .f32⟩
  | .hbm, ⟨41, _⟩ => ⟨S4x4x2048x256, .f32⟩
  | .hbm, ⟨42, _⟩ => ⟨S4x4x2048x1, .f32⟩
  | .hbm, ⟨43, _⟩ => ⟨S_, .f32⟩
  | .hbm, ⟨44, _⟩ => ⟨S4x4x2048x1, .f32⟩
  | .hbm, ⟨45, _⟩ => ⟨S4x4x2048x1, .f32⟩
  | .hbm, ⟨46, _⟩ => ⟨S4x4x128x2048, .f32⟩
  | .hbm, ⟨47, _⟩ => ⟨S4x2048x4x128, .f32⟩
  | .hbm, ⟨48, _⟩ => ⟨S4x4x128x2048, .f32⟩
  | .hbm, ⟨49, _⟩ => ⟨S4x4x2048x256, .f32⟩
  | .hbm, ⟨50, _⟩ => ⟨S4x4x128x256, .f32⟩
  | .hbm, ⟨51, _⟩ => ⟨S4x256x4x128, .f32⟩
  | .hbm, ⟨52, _⟩ => ⟨S4x4x2048x256, .f32⟩
  | .hbm, ⟨53, _⟩ => ⟨S4x4x2048x256, .f32⟩
  | .hbm, ⟨54, _⟩ => ⟨S4x4x2048x256, .f32⟩
  | .hbm, ⟨55, _⟩ => ⟨S_, .f32⟩
  | .hbm, ⟨56, _⟩ => ⟨S4x4x2048, .f32⟩
  | .hbm, ⟨57, _⟩ => ⟨S4x4x2048x1, .f32⟩
  | .hbm, ⟨58, _⟩ => ⟨S4x4x2048x1, .f32⟩
  | .hbm, ⟨59, _⟩ => ⟨S4x4x2048x256, .f32⟩
  | .hbm, ⟨60, _⟩ => ⟨S4x4x2048x256, .f32⟩
  | .hbm, ⟨61, _⟩ => ⟨S_, .f32⟩
  | .hbm, ⟨62, _⟩ => ⟨S4x4x2048, .f32⟩
  | .hbm, ⟨63, _⟩ => ⟨S4x4x2048x256, .f32⟩
  | .hbm, ⟨64, _⟩ => ⟨S4x4x2048x256, .f32⟩
  | .hbm, ⟨65, _⟩ => ⟨S4x4x2048x256, .f32⟩
  | .hbm, ⟨66, _⟩ => ⟨S_, .f32⟩
  | .hbm, ⟨67, _⟩ => ⟨S4x4x2048x256, .f32⟩
  | .hbm, ⟨68, _⟩ => ⟨S4x4x2048x256, .f32⟩
  | .hbm, ⟨69, _⟩ => ⟨S4x4x256x128, .f32⟩
  | .hbm, ⟨70, _⟩ => ⟨S4x256x4x128, .f32⟩
  | .hbm, ⟨71, _⟩ => ⟨S4x4x2048x128, .f32⟩
  | .hbm, ⟨72, _⟩ => ⟨S4x2048x4x128, .f32⟩
  | .hbm, ⟨73, _⟩ => ⟨S4x2048x4x128, .bf16⟩
  | .hbm, ⟨74, _⟩ => ⟨S4x256x4x128, .bf16⟩
  | .hbm, ⟨75, _⟩ => ⟨S4x256x4x128, .bf16⟩
  | _, _ => ⟨S4x2048x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_12 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== GateKernel.lean ====
abbrev S8192x3072 : Shape := ⟨2, ![8192, 3072]⟩
abbrev S8192x1024 : Shape := ⟨2, ![8192, 1024]⟩
abbrev S1x3072 : Shape := ⟨2, ![1, 3072]⟩
abbrev S1024x1024 : Shape := ⟨2, ![1024, 1024]⟩
abbrev S512x1024 : Shape := ⟨2, ![512, 1024]⟩
abbrev S512x3072 : Shape := ⟨2, ![512, 3072]⟩
abbrev S1x1024 : Shape := ⟨2, ![1, 1024]⟩
abbrev S1024 : Shape := ⟨1, ![1024]⟩

abbrev nBuf : Space → Nat
  | .hbm => 18
  | .vmem => 21
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x3072, .f32⟩
  | .hbm, ⟨5, _⟩ => ⟨S1024x1024, .f32⟩
  | .hbm, ⟨6, _⟩ => ⟨S8192x1024, .f32⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S1024x1024, .bf16⟩
  | .hbm, ⟨12, _⟩ => ⟨S8192x3072, .bf16⟩
  | .hbm, ⟨13, _⟩ => ⟨S8192x1024, .bf16⟩
  | .hbm, ⟨14, _⟩ => ⟨S8192x1024, .bf16⟩
  | .hbm, ⟨15, _⟩ => ⟨S8192x1024, .bf16⟩
  | .hbm, ⟨16, _⟩ => ⟨S8192x3072, .bf16⟩
  | .hbm, ⟨17, _⟩ => ⟨S1x3072, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x3072, .bf16⟩
  | .local _ .vmem, ⟨4, _⟩ => ⟨S512x3072, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x3072, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x3072, .bf16⟩
  | .local _ .vmem, ⟨19, _⟩ => ⟨S512x3072, .bf16⟩
  | .local _ .vmem, ⟨20, _⟩ => ⟨S1x3072, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![c0_i32_2.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== GateReferenceIdeal.lean ====
abbrev S8192x3072 : Shape := ⟨2, ![8192, 3072]⟩
abbrev S8192x1024 : Shape := ⟨2, ![8192, 1024]⟩
abbrev S1x3072 : Shape := ⟨2, ![1, 3072]⟩
abbrev S1024x1024 : Shape := ⟨2, ![1024, 1024]⟩
abbrev S_ : Shape := ⟨0, ![]⟩
abbrev S8192x3x1024 : Shape := ⟨3, ![8192, 3, 1024]⟩
abbrev S8192x1x1024 : Shape := ⟨3, ![8192, 1, 1024]⟩
abbrev S3072 : Shape := ⟨1, ![3072]⟩

abbrev nBuf : Space → Nat
  | .hbm => 61
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x3072, .f32⟩
  | .hbm, ⟨5, _⟩ => ⟨S1024x1024, .f32⟩
  | .hbm, ⟨6, _⟩ => ⟨S8192x1024, .f32⟩
  | .hbm, ⟨7, _⟩ => ⟨S8192x3072, .f32⟩
  | .hbm, ⟨8, _⟩ => ⟨S8192x3072, .f32⟩
  | .hbm, ⟨9, _⟩ => ⟨S8192x3072, .f32⟩
  | .hbm, ⟨10, _⟩ => ⟨S8192x3072, .f32⟩
  | .hbm, ⟨11, _⟩ => ⟨S_, .f32⟩
  | .hbm, ⟨12, _⟩ => ⟨S8192x3072, .f32⟩
  | .hbm, ⟨13, _⟩ => ⟨S8192x3072, .f32⟩
  | .hbm, ⟨14, _⟩ => ⟨S_, .f32⟩
  | .hbm, ⟨15, _⟩ => ⟨S8192x3072, .f32⟩
  | .hbm, ⟨16, _⟩ => ⟨S8192x3072, .f32⟩
  | .hbm, ⟨17, _⟩ => ⟨S_, .f32⟩
  | .hbm, ⟨18, _⟩ => ⟨S8192x3072, .f32⟩
  | .hbm, ⟨19, _⟩ => ⟨S8192x3072, .f32⟩
  | .hbm, ⟨20, _⟩ => ⟨S8192x3072, .f32⟩
  | .hbm, ⟨21, _⟩ => ⟨S8192x3x1024, .f32⟩
  | .hbm, ⟨22, _⟩ => ⟨S8192x1x1024, .f32⟩
  | .hbm, ⟨23, _⟩ => ⟨S8192x1024, .f32⟩
  | .hbm, ⟨24, _⟩ => ⟨S8192x1024, .f32⟩
  | .hbm, ⟨25, _⟩ => ⟨S8192x1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1x1024, .f32⟩
  | .hbm, ⟨38, _⟩ => ⟨S_, .f32⟩
  | .hbm, ⟨39, _⟩ => ⟨S8192x3x1024, .f32⟩
  | .hbm, ⟨40, _⟩ => ⟨S8192x1024, .f32⟩
  | .hbm, ⟨41, _⟩ => ⟨S8192x1024, .f32⟩
  | .hbm, ⟨42, _⟩ => ⟨S8192x1x1024, .f32⟩
  | .hbm, ⟨43, _⟩ => ⟨S_, .f32⟩
  | .hbm, ⟨44, _⟩ => ⟨S8192x3x1024, .f32⟩
  | .hbm, ⟨45, _⟩ => ⟨S8192x3x1024, .f32⟩
  | .hbm, ⟨46, _⟩ => ⟨S8192x1024, .f32⟩
  | .hbm, ⟨47, _⟩ => ⟨S8192x1024, .f32⟩
  | .hbm, ⟨48, _⟩ => ⟨S8192x1x1024, .f32⟩
  | .hbm, ⟨49, _⟩ => ⟨S_, .f32⟩
  | .hbm, ⟨50, _⟩ => ⟨S8192x3x1024, .f32⟩
  | .hbm, ⟨51, _⟩ => ⟨S8192x3x1024, .f32⟩
  | .hbm, ⟨52, _⟩ => ⟨S8192x3072, .f32⟩
  | .hbm, ⟨53, _⟩ => ⟨S8192x3072, .f32⟩
  | .hbm, ⟨54, _⟩ => ⟨S_, .f32⟩
  | .hbm, ⟨55, _⟩ => ⟨S3072, .f32⟩
  | .hbm, ⟨56, _⟩ => ⟨S1x3072, .f32⟩
  | .hbm, ⟨57, _⟩ => ⟨S8192x3072, .bf16⟩
  | .hbm, ⟨58, _⟩ => ⟨S8192x1024, .bf16⟩
  | .hbm, ⟨59, _⟩ => ⟨S8192x1024, .bf16⟩
  | .hbm, ⟨60, _⟩ => ⟨S8192x1024, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== SwigluKernel.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S256x1024 : Shape := ⟨2, ![256, 1024]⟩
abbrev S256x2816 : Shape := ⟨2, ![256, 2816]⟩
abbrev S256x5632 : Shape := ⟨2, ![256, 5632]⟩

abbrev nBuf : Space → Nat
  | .hbm => 9
  | .vmem => 9
  | .smem => 0
  | _ => 0

abbrev bufTy : (tb : Table) → Fin (tcTables nBuf tb) → BufTy
  | .hbm, ⟨0, _⟩ => ⟨S8192x5632, .f32⟩
  | .hbm, ⟨1, _⟩ => ⟨S2816x1024, .f32⟩
  | .hbm, ⟨2, _⟩ => ⟨S8192x1024, .f32⟩
  | .hbm, ⟨3, _⟩ => ⟨S8192x5632, .bf16⟩
  | .hbm, ⟨4, _⟩ => ⟨S8192x1024, .bf16⟩
  | .hbm, ⟨5, _⟩ => ⟨S2816x1024, .bf16⟩
  | .hbm, ⟨6, _⟩ => ⟨S8192x2816, .bf16⟩
  | .hbm, ⟨7, _⟩ => ⟨S8192x2816, .bf16⟩
  | .hbm, ⟨8, _⟩ => ⟨S8192x5632, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x5632, .bf16⟩
  | .local _ .vmem, ⟨8, _⟩ => ⟨S256x5632, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![c0_i32_2.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== SwigluReferenceIdeal.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S2816x1024, .f32⟩
  | .hbm, ⟨2, _⟩ => ⟨S8192x1024, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x1024, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S_, .f32⟩
  | .hbm, ⟨24, _⟩ => ⟨S8192x5632, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x5632, .f32⟩
  | .hbm, ⟨31, _⟩ => ⟨S8192x5632, .f32⟩
  | .hbm, ⟨32, _⟩ => ⟨S8192x5632, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v1_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v1_1 : Ref sig .tc := ⟨.hbm, 15, rfl⟩
abbrev main_v1_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== LossKernel.lean ====
abbrev S8192x1024 : Shape := ⟨2, ![8192, 1024]⟩
abbrev S8192x2816 : Shape := ⟨2, ![8192, 2816]⟩
abbrev S2816x1024 : Shape := ⟨2, ![2816, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S1x1024, .f32⟩
  | .hbm, ⟨4, _⟩ => ⟨S8192x1024, .f32⟩
  | .hbm, ⟨5, _⟩ => ⟨S8192x2816, .bf16⟩
  | .hbm, ⟨6, _⟩ => ⟨S2816x1024, .bf16⟩
  | .hbm, ⟨7, _⟩ => ⟨S8192x1024, .f32⟩
  | .hbm, ⟨8, _⟩ => ⟨S8192x1024, .bf16⟩
  | .hbm, ⟨9, _⟩ => ⟨S1x1024, .f32⟩
  | .hbm, ⟨10, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== LossReferenceIdeal.lean ====
abbrev S8192x1024 : Shape := ⟨2, ![8192, 1024]⟩
abbrev S8192x2816 : Shape := ⟨2, ![8192, 2816]⟩
abbrev S2816x1024 : Shape := ⟨2, ![2816, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 81
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_cst_11 : Ref sig .tc := ⟨.hbm, 49, rfl⟩
abbrev main_v32 : Ref sig .tc := ⟨.hbm, 50, rfl⟩
abbrev main_v33 : Ref sig .tc := ⟨.hbm, 51, rfl⟩
abbrev main_cst_12 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_13 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_14 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_cst_16 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩

abbrev nD : Nat := 1
abbrev τ : Topo := Topo.v7x

variable {F : FTy → Type} [FloatOps F]
-- ==== MixKernel.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S512x2816 : Shape := ⟨2, ![512, 2816]⟩
abbrev S1024x2816 : Shape := ⟨2, ![1024, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 29
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S8192x5632, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x5632, .bf16⟩
  | .hbm, ⟨24, _⟩ => ⟨S1024x5632, .bf16⟩
  | .hbm, ⟨25, _⟩ => ⟨S8192x1024, .f32⟩
  | .hbm, ⟨26, _⟩ => ⟨S8192x1024, .bf16⟩
  | .hbm, ⟨27, _⟩ => ⟨S1x1024, .f32⟩
  | .hbm, ⟨28, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S1024x2816, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev main_v15_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨2, ![16, 2], ![false, false]⟩

def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_4 : BitVec 32 := 0#32
  let v10 : BitVec 1 := Scalar.cmpi .ne v9 c0_i32_4
  v10

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== MixReferenceIdeal.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 97
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S8192x5632, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x5632, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x1024, .f32⟩
  | .hbm, ⟨84, _⟩ => ⟨S8192x1024, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S_, .f32⟩
  | .hbm, ⟨90, _⟩ => ⟨S8192, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩

abbrev nD : Nat := 1
abbrev τ : Topo := Topo.v7x

variable {F : FTy → Type} [FloatOps F]
-- ==== PreKernel.lean ====
abbrev S8192x1024 : Shape := ⟨2, ![8192, 1024]⟩
abbrev S1x1024 : Shape := ⟨2, ![1, 1024]⟩
abbrev S1024x4352 : Shape := ⟨2, ![1024, 4352]⟩
abbrev S1024x3072 : Shape := ⟨2, ![1024, 3072]⟩
abbrev S8192x4352 : Shape := ⟨2, ![8192, 4352]⟩
abbrev S8192x3072 : Shape := ⟨2, ![8192, 3072]⟩
abbrev S8192x128 : Shape := ⟨2, ![8192, 128]⟩
abbrev S8192x2048 : Shape := ⟨2, ![8192, 2048]⟩
abbrev S1024x128 : Shape := ⟨2, ![1024, 128]⟩
abbrev S1024x2048 : Shape := ⟨2, ![1024, 2048]⟩
abbrev S8192x256 : Shape := ⟨2, ![8192, 256]⟩
abbrev S8192x2304 : Shape := ⟨2, ![8192, 2304]⟩
abbrev S1024x256 : Shape := ⟨2, ![1024, 256]⟩
abbrev S1024x2304 : Shape := ⟨2, ![1024, 2304]⟩
abbrev S1024x1024 : Shape := ⟨2, ![1024, 1024]⟩
abbrev S1024x768 : Shape := ⟨2, ![1024, 768]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 89
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4352, .f32⟩
  | .hbm, ⟨3, _⟩ => ⟨S1024x3072, .f32⟩
  | .hbm, ⟨4, _⟩ => ⟨S8192x4352, .f32⟩
  | .hbm, ⟨5, _⟩ => ⟨S8192x3072, .f32⟩
  | .hbm, ⟨6, _⟩ => ⟨S8192x1024, .f32⟩
  | .hbm, ⟨7, _⟩ => ⟨S1024x4352, .bf16⟩
  | .hbm, ⟨8, _⟩ => ⟨S8192x4352, .bf16⟩
  | .hbm, ⟨9, _⟩ => ⟨S1024x3072, .bf16⟩
  | .hbm, ⟨10, _⟩ => ⟨S8192x3072, .bf16⟩
  | .hbm, ⟨11, _⟩ => ⟨S8192x128, .bf16⟩
  | .hbm, ⟨12, _⟩ => ⟨S8192x128, .bf16⟩
  | .hbm, ⟨13, _⟩ => ⟨S8192x128, .bf16⟩
  | .hbm, ⟨14, _⟩ => ⟨S8192x128, .bf16⟩
  | .hbm, ⟨15, _⟩ => ⟨S8192x128, .bf16⟩
  | .hbm, ⟨16, _⟩ => ⟨S8192x128, .bf16⟩
  | .hbm, ⟨17, _⟩ => ⟨S8192x128, .bf16⟩
  | .hbm, ⟨18, _⟩ => ⟨S8192x128, .bf16⟩
  | .hbm, ⟨19, _⟩ => ⟨S8192x128, .bf16⟩
  | .hbm, ⟨20, _⟩ => ⟨S8192x128, .bf16⟩
  | .hbm, ⟨21, _⟩ => ⟨S8192x128, .bf16⟩
  | .hbm, ⟨22, _⟩ => ⟨S8192x128, .bf16⟩
  | .hbm, ⟨23, _⟩ => ⟨S8192x128, .bf16⟩
  | .hbm, ⟨24, _⟩ => ⟨S8192x128, .bf16⟩
  | .hbm, ⟨25, _⟩ => ⟨S8192x128, .bf16⟩
  | .hbm, ⟨26, _⟩ => ⟨S8192x128, .bf16⟩
  | .hbm, ⟨27, _⟩ => ⟨S8192x2048, .bf16⟩
  | .hbm, ⟨28, _⟩ => ⟨S1024x128, .bf16⟩
  | .hbm, ⟨29, _⟩ => ⟨S1024x128, .bf16⟩
  | .hbm, ⟨30, _⟩ => ⟨S1024x128, .bf16⟩
  | .hbm, ⟨31, _⟩ => ⟨S1024x128, .bf16⟩
  | .hbm, ⟨32, _⟩ => ⟨S1024x128, .bf16⟩
  | .hbm, ⟨33, _⟩ => ⟨S1024x128, .bf16⟩
  | .hbm, ⟨34, _⟩ => ⟨S1024x128, .bf16⟩
  | .hbm, ⟨35, _⟩ => ⟨S1024x128, .bf16⟩
  | .hbm, ⟨36, _⟩ => ⟨S1024x128, .bf16⟩
  | .hbm, ⟨37, _⟩ => ⟨S1024x128, .bf16⟩
  | .hbm, ⟨38, _⟩ => ⟨S1024x128, .bf16⟩
  | .hbm, ⟨39, _⟩ => ⟨S1024x128, .bf16⟩
  | .hbm, ⟨40, _⟩ => ⟨S1024x128, .bf16⟩
  | .hbm, ⟨41, _⟩ => ⟨S1024x128, .bf16⟩
  | .hbm, ⟨42, _⟩ => ⟨S1024x128, .bf16⟩
  | .hbm, ⟨43, _⟩ => ⟨S1024x128, .bf16⟩
  | .hbm, ⟨44, _⟩ => ⟨S1024x2048, .bf16⟩
  | .hbm, ⟨45, _⟩ => ⟨S8192x128, .bf16⟩
  | .hbm, ⟨46, _⟩ => ⟨S8192x128, .bf16⟩
  | .hbm, ⟨47, _⟩ => ⟨S8192x128, .bf16⟩
  | .hbm, ⟨48, _⟩ => ⟨S8192x128, .bf16⟩
  | .hbm, ⟨49, _⟩ => ⟨S8192x128, .bf16⟩
  | .hbm, ⟨50, _⟩ => ⟨S8192x128, .bf16⟩
  | .hbm, ⟨51, _⟩ => ⟨S8192x128, .bf16⟩
  | .hbm, ⟨52, _⟩ => ⟨S8192x128, .bf16⟩
  | .hbm, ⟨53, _⟩ => ⟨S8192x128, .bf16⟩
  | .hbm, ⟨54, _⟩ => ⟨S8192x128, .bf16⟩
  | .hbm, ⟨55, _⟩ => ⟨S8192x128, .bf16⟩
  | .hbm, ⟨56, _⟩ => ⟨S8192x128, .bf16⟩
  | .hbm, ⟨57, _⟩ => ⟨S8192x128, .bf16⟩
  | .hbm, ⟨58, _⟩ => ⟨S8192x128, .bf16⟩
  | .hbm, ⟨59, _⟩ => ⟨S8192x128, .bf16⟩
  | .hbm, ⟨60, _⟩ => ⟨S8192x128, .bf16⟩
  | .hbm, ⟨61, _⟩ => ⟨S8192x128, .bf16⟩
  | .hbm, ⟨62, _⟩ => ⟨S8192x128, .bf16⟩
  | .hbm, ⟨63, _⟩ => ⟨S8192x2048, .bf16⟩
  | .hbm, ⟨64, _⟩ => ⟨S8192x256, .bf16⟩
  | .hbm, ⟨65, _⟩ => ⟨S8192x2304, .bf16⟩
  | .hbm, ⟨66, _⟩ => ⟨S1024x128, .bf16⟩
  | .hbm, ⟨67, _⟩ => ⟨S1024x128, .bf16⟩
  | .hbm, ⟨68, _⟩ => ⟨S1024x128, .bf16⟩
  | .hbm, ⟨69, _⟩ => ⟨S1024x128, .bf16⟩
  | .hbm, ⟨70, _⟩ => ⟨S1024x128, .bf16⟩
  | .hbm, ⟨71, _⟩ => ⟨S1024x128, .bf16⟩
  | .hbm, ⟨72, _⟩ => ⟨S1024x128, .bf16⟩
  | .hbm, ⟨73, _⟩ => ⟨S1024x128, .bf16⟩
  | .hbm, ⟨74, _⟩ => ⟨S1024x128, .bf16⟩
  | .hbm, ⟨75, _⟩ => ⟨S1024x128, .bf16⟩
  | .hbm, ⟨76, _⟩ => ⟨S1024x128, .bf16⟩
  | .hbm, ⟨77, _⟩ => ⟨S1024x128, .bf16⟩
  | .hbm, ⟨78, _⟩ => ⟨S1024x128, .bf16⟩
  | .hbm, ⟨79, _⟩ => ⟨S1024x128, .bf16⟩
  | .hbm, ⟨80, _⟩ => ⟨S1024x128, .bf16⟩
  | .hbm, ⟨81, _⟩ => ⟨S1024x128, .bf16⟩
  | .hbm, ⟨82, _⟩ => ⟨S1024x128, .bf16⟩
  | .hbm, ⟨83, _⟩ => ⟨S1024x128, .bf16⟩
  | .hbm, ⟨84, _⟩ => ⟨S1024x2048, .bf16⟩
  | .hbm, ⟨85, _⟩ => ⟨S1024x256, .bf16⟩
  | .hbm, ⟨86, _⟩ => ⟨S1024x2304, .bf16⟩
  | .hbm, ⟨87, _⟩ => ⟨S8192x1024, .f32⟩
  | .hbm, ⟨88, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x768, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | .local _ .vmem, ⟨19, _⟩ => ⟨S1x1024, .f32⟩
  | .local _ .vmem, ⟨20, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80_0 : Ref sig .tc := ⟨.hbm, 87, rfl⟩
abbrev main_v80_1 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![8, 8], ![false, false]⟩

def k0_cond6 (i : grid0.Coords) : BitVec 1 :=
  let arg1 : BitVec 32 := BitVec.ofNat 32 (i 1).val
  let c7_i32_9 : BitVec 32 := 7#32
  let v23 : BitVec 1 := Scalar.cmpi .eq arg1 c7_i32_9
  let v24 : BitVec 32 := Scalar.extui v23
  let c0_i32_10 : BitVec 32 := 0#32
  let v25 : BitVec 1 := Scalar.cmpi .ne v24 c0_i32_10
  v25

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== PreReferenceIdeal.lean ====
abbrev S8192x1024 : Shape := ⟨2, ![8192, 1024]⟩
abbrev S1x1024 : Shape := ⟨2, ![1, 1024]⟩
abbrev S1024x4352 : Shape := ⟨2, ![1024, 4352]⟩
abbrev S1024x3072 : Shape := ⟨2, ![1024, 3072]⟩
abbrev S8192x4352 : Shape := ⟨2, ![8192, 4352]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4352, .f32⟩
  | .hbm, ⟨3, _⟩ => ⟨S1024x3072, .f32⟩
  | .hbm, ⟨4, _⟩ => ⟨S8192x4352, .f32⟩
  | .hbm, ⟨5, _⟩ => ⟨S8192x3072, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x4352, .f32⟩
  | .hbm, ⟨27, _⟩ => ⟨S8192x3072, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== SbfKernel.lean ====
abbrev S4x2048x8x64 : Shape := ⟨4, ![4, 2048, 8, 64]⟩
abbrev S4x2048x4x128 : Shape := ⟨4, ![4, 2048, 4, 128]⟩
abbrev S4x2048x4x1x128 : Shape := ⟨5, ![4, 2048, 4, 1, 128]⟩
abbrev S4x2048x4x3x128 : Shape := ⟨5, ![4, 2048, 4, 3, 128]⟩
abbrev S4x2048x1536 : Shape := ⟨3, ![4, 2048, 1536]⟩
abbrev S_ : Shape := ⟨0, ![]⟩
abbrev S4x2048x512 : Shape := ⟨3, ![4, 2048, 512]⟩
abbrev S4x2048x2048 : Shape := ⟨3, ![4, 2048, 2048]⟩
abbrev S1x2048x384 : Shape := ⟨3, ![1, 2048, 384]⟩
abbrev S1x2048x128 : Shape := ⟨3, ![1, 2048, 128]⟩
abbrev S512x128 : Shape := ⟨2, ![512, 128]⟩
abbrev S256x128 : Shape := ⟨2, ![256, 128]⟩
abbrev S512x256 : Shape := ⟨2, ![512, 256]⟩
abbrev S256x256 : Shape := ⟨2, ![256, 256]⟩
abbrev S1x256x128 : Shape := ⟨3, ![1, 256, 128]⟩
abbrev S512x1 : Shape := ⟨2, ![512, 1]⟩
abbrev S512x512 : Shape := ⟨2, ![512, 512]⟩
abbrev S512 : Shape := ⟨1, ![512]⟩

abbrev nBuf : Space → Nat
  | .hbm => 19
  | .vmem => 7
  | .smem => 0
  | _ => 0

abbrev bufTy : (tb : Table) → Fin (tcTables nBuf tb) → BufTy
  | .hbm, ⟨0, _⟩ => ⟨S4x2048x8x64, .f32⟩
  | .hbm, ⟨1, _⟩ => ⟨S4x2048x8x64, .f32⟩
  | .hbm, ⟨2, _⟩ => ⟨S4x2048x8x64, .f32⟩
  | .hbm, ⟨3, _⟩ => ⟨S4x2048x4x128, .f32⟩
  | .hbm, ⟨4, _⟩ => ⟨S4x2048x4x128, .f32⟩
  | .hbm, ⟨5, _⟩ => ⟨S4x2048x4x128, .f32⟩
  | .hbm, ⟨6, _⟩ => ⟨S4x2048x4x1x128, .f32⟩
  | .hbm, ⟨7, _⟩ => ⟨S4x2048x4x1x128, .f32⟩
  | .hbm, ⟨8, _⟩ => ⟨S4x2048x4x1x128, .f32⟩
  | .hbm, ⟨9, _⟩ => ⟨S4x2048x4x3x128, .f32⟩
  | .hbm, ⟨10, _⟩ => ⟨S4x2048x1536, .f32⟩
  | .hbm, ⟨11, _⟩ => ⟨S_, .f32⟩
  | .hbm, ⟨12, _⟩ => ⟨S4x2048x512, .f32⟩
  | .hbm, ⟨13, _⟩ => ⟨S4x2048x2048, .f32⟩
  | .hbm, ⟨14, _⟩ => ⟨S4x2048x2048, .bf16⟩
  | .hbm, ⟨15, _⟩ => ⟨S4x2048x512, .bf16⟩
  | .hbm, ⟨16, _⟩ => ⟨S4x2048x512, .f32⟩
  | .hbm, ⟨17, _⟩ => ⟨S4x2048x8x64, .bf16⟩
  | .hbm, ⟨18, _⟩ => ⟨S4x2048x8x64, .f32⟩
  | .local _ .vmem, ⟨0, _⟩ => ⟨S1x2048x384, .bf16⟩
  | .local _ .vmem, ⟨1, _⟩ => ⟨S1x2048x384, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .f32⟩
  | .local _ .vmem, ⟨5, _⟩ => ⟨S1x2048x128, .f32⟩
  | .local _ .vmem, ⟨6, _⟩ => ⟨S512x128, .f32⟩
  | _, _ => ⟨S4x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c8_i32 : BitVec 32 := 8#32
  let v15 : BitVec 32 := Scalar.addi c0_i32 c8_i32
  let c1_i32 : BitVec 32 := 1#32
  ⟨c0_i32, v15, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v16 : BitVec 32 := Scalar.muli arg6 c256_i32
  v16
def k0_off1 (k0_t1 : Fin k0_t1_loop.trips) : Fin 3 → Nat :=
  let c0 : Index := 0#32
  let c0_i32 : BitVec 32 := 0#32
  let c1_i32 : BitVec 32 := 1#32
  let arg6 : BitVec 32 := Scf.iv c0_i32 c1_i32 k0_t1
  let c256_i32 : BitVec 32 := 256#32
  let v16 : BitVec 32 := Scalar.muli arg6 c256_i32
  let v17 : BitVec 32 := v16
  let v18 : Index := Scalar.indexCast v17
  let c0_1 : Index := 0#32
  ![0, v18.toNat, 0]
def k0_cond1 (k0_t1 : Fin k0_t1_loop.trips) : BitVec 1 :=
  let c0_i32 : BitVec 32 := 0#32
  let c1_i32 : BitVec 32 := 1#32
  let arg6 : BitVec 32 := Scf.iv c0_i32 c1_i32 k0_t1
  let c0_i32_4 : BitVec 32 := 0#32
  let v28 : BitVec 1 := Scalar.cmpi .sgt arg6 c0_i32_4
  let v29 : BitVec 32 := Scalar.extui v28
  let c0_i32_5 : BitVec 32 := 0#32
  let v30 : BitVec 1 := Scalar.cmpi .ne v29 c0_i32_5
  v30

def k0_mult2 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32_23 : BitVec 32 := 256#32
  let v60 : BitVec 32 := Scalar.muli arg6 c256_i32_23
  v60
def k0_off2 (k0_t1 : Fin k0_t1_loop.trips) : Fin 3 → Nat :=
  let c0_24 : Index := 0#32
  let c0_i32 : BitVec 32 := 0#32
  let c1_i32 : BitVec 32 := 1#32
  let arg6 : BitVec 32 := Scf.iv c0_i32 c1_i32 k0_t1
  let c256_i32_23 : BitVec 32 := 256#32
  let v60 : BitVec 32 := Scalar.muli arg6 c256_i32_23
  let v61 : BitVec 32 := v60
  let v62 : Index := Scalar.indexCast v61
  let c128 : Index := 128#32
  ![0, v62.toNat, 128]
def k0_off3 (k0_t1 : Fin k0_t1_loop.trips) : Fin 3 → Nat :=
  let c0_25 : Index := 0#32
  let c0_i32 : BitVec 32 := 0#32
  let c1_i32 : BitVec 32 := 1#32
  let arg6 : BitVec 32 := Scf.iv c0_i32 c1_i32 k0_t1
  let c256_i32_23 : BitVec 32 := 256#32
  let v60 : BitVec 32 := Scalar.muli arg6 c256_i32_23
  let v61 : BitVec 32 := v60
  let v65 : Index := Scalar.indexCast v61
  let c256 : Index := 256#32
  ![0, v65.toNat, 256]
def k0_mult3 (k0_t1 : Fin k0_t1_loop.trips) : BitVec 32 :=
  let c0_i32 : BitVec 32 := 0#32
  let c1_i32 : BitVec 32 := 1#32
  let arg6 : BitVec 32 := Scf.iv c0_i32 c1_i32 k0_t1
  let c1_i32_22 : BitVec 32 := 1#32
  let v59 : BitVec 32 := Scalar.subi arg6 c1_i32_22
  let c256_i32_36 : BitVec 32 := 256#32
  let v97 : BitVec 32 := Scalar.muli v59 c256_i32_36
  v97
def k0_off4 (k0_t1 : Fin k0_t1_loop.trips) : Fin 3 → Nat :=
  let c0_37 : Index := 0#32
  let c0_i32 : BitVec 32 := 0#32
  let c1_i32 : BitVec 32 := 1#32
  let arg6 : BitVec 32 := Scf.iv c0_i32 c1_i32 k0_t1
  let c1_i32_22 : BitVec 32 := 1#32
  let v59 : BitVec 32 := Scalar.subi arg6 c1_i32_22
  let c256_i32_36 : BitVec 32 := 256#32
  let v97 : BitVec 32 := Scalar.muli v59 c256_i32_36
  let v98 : BitVec 32 := v97
  let v99 : Index := Scalar.indexCast v98
  let c128_38 : Index := 128#32
  ![0, v99.toNat, 128]
def k0_off5 (k0_t1 : Fin k0_t1_loop.trips) : Fin 3 → Nat :=
  let c0_39 : Index := 0#32
  let c0_i32 : BitVec 32 := 0#32
  let c1_i32 : BitVec 32 := 1#32
  let arg6 : BitVec 32 := Scf.iv c0_i32 c1_i32 k0_t1
  let c1_i32_22 : BitVec 32 := 1#32
  let v59 : BitVec 32 := Scalar.subi arg6 c1_i32_22
  let c256_i32_36 : BitVec 32 := 256#32
  let v97 : BitVec 32 := Scalar.muli v59 c256_i32_36
  let v98 : BitVec 32 := v97
  let v102 : Index := Scalar.indexCast v98
  let c256_40 : Index := 256#32
  ![0, v102.toNat, 256]
def k0_mult4 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32_22 : BitVec 32 := 256#32
  let v59 : BitVec 32 := Scalar.muli arg6 c256_i32_22
  v59
def k0_off6 (k0_t1 : Fin k0_t1_loop.trips) : Fin 3 → Nat :=
  let c0_23 : Index := 0#32
  let c0_i32 : BitVec 32 := 0#32
  let c1_i32 : BitVec 32 := 1#32
  let arg6 : BitVec 32 := Scf.iv c0_i32 c1_i32 k0_t1
  let c256_i32_22 : BitVec 32 := 256#32
  let v59 : BitVec 32 := Scalar.muli arg6 c256_i32_22
  let v60 : BitVec 32 := v59
  let v61 : Index := Scalar.indexCast v60
  let c128 : Index := 128#32
  ![0, v61.toNat, 128]
def k0_off7 (k0_t1 : Fin k0_t1_loop.trips) : Fin 3 → Nat :=
  let c0_24 : Index := 0#32
  let c0_i32 : BitVec 32 := 0#32
  let c1_i32 : BitVec 32 := 1#32
  let arg6 : BitVec 32 := Scf.iv c0_i32 c1_i32 k0_t1
  let c256_i32_22 : BitVec 32 := 256#32
  let v59 : BitVec 32 := Scalar.muli arg6 c256_i32_22
  let v60 : BitVec 32 := v59
  let v64 : Index := Scalar.indexCast v60
  let c256 : Index := 256#32
  ![0, v64.toNat, 256]
@[reducible] def k0_t2_loop (k0_t1 : Fin k0_t1_loop.trips) : Scf.Loop 32 :=
  let c0_i32_9 : BitVec 32 := 0#32
  let c0_i32 : BitVec 32 := 0#32
  let c1_i32 : BitVec 32 := 1#32
  let arg6 : BitVec 32 := Scf.iv c0_i32 c1_i32 k0_t1
  let c1_i32_6 : BitVec 32 := 1#32
  let v32 : BitVec 32 := Scalar.subi arg6 c1_i32_6
  let c0_i32_7 : BitVec 32 := 0#32
  let v33 : BitVec 32 := Scalar.maxsi v32 c0_i32_7
  let c1_i32_8 : BitVec 32 := 1#32
  let v34 : BitVec 32 := Scalar.shrui v33 c1_i32_8
  let v35 : BitVec 32 := Scalar.subi v34 c0_i32_9
  let c1_i32_10 : BitVec 32 := 1#32
  let v37 : BitVec 32 := Scalar.divsi v35 c1_i32_10
  let v38 : BitVec 32 := Scalar.muli v37 c1_i32_10
  let v39 : BitVec 32 := Scalar.addi c0_i32_9 v38
  let c1_i32_11 : BitVec 32 := 1#32
  ⟨c0_i32_9, v39, c1_i32_11⟩
def k0_mult5 (k0_t1 : Fin k0_t1_loop.trips) (k0_t2 : Fin (k0_t2_loop k0_t1).trips) : BitVec 32 :=
  let c0_i32 : BitVec 32 := 0#32
  let c1_i32 : BitVec 32 := 1#32
  let arg6 : BitVec 32 := Scf.iv c0_i32 c1_i32 k0_t1
  let c1_i32_6 : BitVec 32 := 1#32
  let v32 : BitVec 32 := Scalar.subi arg6 c1_i32_6
  let c0_i32_7 : BitVec 32 := 0#32
  let v33 : BitVec 32 := Scalar.maxsi v32 c0_i32_7
  let c1_i32_23 : BitVec 32 := 1#32
  let v62 : BitVec 32 := Scalar.subi v33 c1_i32_23
  let c2_i32_24 : BitVec 32 := 2#32
  let c0_i32_9 : BitVec 32 := 0#32
  let c1_i32_11 : BitVec 32 := 1#32
  let arg7 : BitVec 32 := Scf.iv c0_i32_9 c1_i32_11 k0_t2
  let v63 : BitVec 32 := Scalar.muli c2_i32_24 arg7
  let v64 : BitVec 32 := Scalar.subi v62 v63
  let c256_i32_25 : BitVec 32 := 256#32
  let v65 : BitVec 32 := Scalar.muli v64 c256_i32_25
  v65
def k0_off8 (k0_t1 : Fin k0_t1_loop.trips) (k0_t2 : Fin (k0_t2_loop k0_t1).trips) (c1_i32_23 : BitVec 32) : Fin 3 → Nat :=
  let c0_26 : Index := 0#32
  let c0_i32 : BitVec 32 := 0#32
  let c1_i32 : BitVec 32 := 1#32
  let arg6 : BitVec 32 := Scf.iv c0_i32 c1_i32 k0_t1
  let c1_i32_6 : BitVec 32 := 1#32
  let v32 : BitVec 32 := Scalar.subi arg6 c1_i32_6
  let c0_i32_7 : BitVec 32 := 0#32
  let v33 : BitVec 32 := Scalar.maxsi v32 c0_i32_7
  let v62 : BitVec 32 := Scalar.subi v33 c1_i32_23
  let c2_i32_24 : BitVec 32 := 2#32
  let c0_i32_9 : BitVec 32 := 0#32
  let c1_i32_11 : BitVec 32 := 1#32
  let arg7 : BitVec 32 := Scf.iv c0_i32_9 c1_i32_11 k0_t2
  let v63 : BitVec 32 := Scalar.muli c2_i32_24 arg7
  let v64 : BitVec 32 := Scalar.subi v62 v63
  let c256_i32_25 : BitVec 32 := 256#32
  let v65 : BitVec 32 := Scalar.muli v64 c256_i32_25
  let v66 : BitVec 32 := v65
  let v67 : Index := Scalar.indexCast v66
  let c128 : Index := 128#32
  ![0, v67.toNat, 128]
def k0_off9 (k0_t1 : Fin k0_t1_loop.trips) (k0_t2 : Fin (k0_t2_loop k0_t1).trips) (c1_i32_23 : BitVec 32) : Fin 3 → Nat :=
  let c0_27 : Index := 0#32
  let c0_i32 : BitVec 32 := 0#32
  let c1_i32 : BitVec 32 := 1#32
  let arg6 : BitVec 32 := Scf.iv c0_i32 c1_i32 k0_t1
  let c1_i32_6 : BitVec 32 := 1#32
  let v32 : BitVec 32 := Scalar.subi arg6 c1_i32_6
  let c0_i32_7 : BitVec 32 := 0#32
  let v33 : BitVec 32 := Scalar.maxsi v32 c0_i32_7
  let v62 : BitVec 32 := Scalar.subi v33 c1_i32_23
  let c2_i32_24 : BitVec 32 := 2#32
  let c0_i32_9 : BitVec 32 := 0#32
  let c1_i32_11 : BitVec 32 := 1#32
  let arg7 : BitVec 32 := Scf.iv c0_i32_9 c1_i32_11 k0_t2
  let v63 : BitVec 32 := Scalar.muli c2_i32_24 arg7
  let v64 : BitVec 32 := Scalar.subi v62 v63
  let c256_i32_25 : BitVec 32 := 256#32
  let v65 : BitVec 32 := Scalar.muli v64 c256_i32_25
  let v66 : BitVec 32 := v65
  let v70 : Index := Scalar.indexCast v66
  let c256 : Index := 256#32
  ![0, v70.toNat, 256]
def k0_mult6 (k0_t1 : Fin k0_t1_loop.trips) (k0_t2 : Fin (k0_t2_loop k0_t1).trips) : BitVec 32 :=
  let c0_i32 : BitVec 32 := 0#32
  let c1_i32 : BitVec 32 := 1#32
  let arg6 : BitVec 32 := Scf.iv c0_i32 c1_i32 k0_t1
  let c1_i32_6 : BitVec 32 := 1#32
  let v32 : BitVec 32 := Scalar.subi arg6 c1_i32_6
  let c0_i32_7 : BitVec 32 := 0#32
  let v33 : BitVec 32 := Scalar.maxsi v32 c0_i32_7
  let c2_i32 : BitVec 32 := 2#32
  let v59 : BitVec 32 := Scalar.subi v33 c2_i32
  let c2_i32_22 : BitVec 32 := 2#32
  let c0_i32_9 : BitVec 32 := 0#32
  let c1_i32_11 : BitVec 32 := 1#32
  let arg7 : BitVec 32 := Scf.iv c0_i32_9 c1_i32_11 k0_t2
  let v60 : BitVec 32 := Scalar.muli c2_i32_22 arg7
  let v61 : BitVec 32 := Scalar.subi v59 v60
  let c256_i32_38 : BitVec 32 := 256#32
  let v100 : BitVec 32 := Scalar.muli v61 c256_i32_38
  v100
@[reducible] def k0_t3_loop (k0_t1 : Fin k0_t1_loop.trips) : Scf.Loop 32 :=
  let c0_i32_9 : BitVec 32 := 0#32
  let c0_i32 : BitVec 32 := 0#32
  let c1_i32 : BitVec 32 := 1#32
  let arg6 : BitVec 32 := Scf.iv c0_i32 c1_i32 k0_t1
  let c1_i32_6 : BitVec 32 := 1#32
  let v32 : BitVec 32 := Scalar.subi arg6 c1_i32_6
  let c0_i32_7 : BitVec 32 := 0#32
  let v33 : BitVec 32 := Scalar.maxsi v32 c0_i32_7
  let c1_i32_8 : BitVec 32 := 1#32
  let v34 : BitVec 32 := Scalar.shrui v33 c1_i32_8
  let v35 : BitVec 32 := Scalar.subi v34 c0_i32_9
  let c1_i32_10 : BitVec 32 := 1#32
  let v37 : BitVec 32 := Scalar.divsi v35 c1_i32_10
  let v38 : BitVec 32 := Scalar.muli v37 c1_i32_10
  let v39 : BitVec 32 := Scalar.addi c0_i32_9 v38
  let v36 : BitVec 32 := Scalar.addi c0_i32_9 v35
  let c1_i32_12 : BitVec 32 := 1#32
  ⟨v39, v36, c1_i32_12⟩
def k0_mult7 (k0_t1 : Fin k0_t1_loop.trips) (k0_t3 : Fin (k0_t3_loop k0_t1).trips) : BitVec 32 :=
  let c0_i32 : BitVec 32 := 0#32
  let c1_i32 : BitVec 32 := 1#32
  let arg6 : BitVec 32 := Scf.iv c0_i32 c1_i32 k0_t1
  let c1_i32_6 : BitVec 32 := 1#32
  let v32 : BitVec 32 := Scalar.subi arg6 c1_i32_6
  let c0_i32_7 : BitVec 32 := 0#32
  let v33 : BitVec 32 := Scalar.maxsi v32 c0_i32_7
  let c1_i32_23 : BitVec 32 := 1#32
  let v62 : BitVec 32 := Scalar.subi v33 c1_i32_23
  let c2_i32_24 : BitVec 32 := 2#32
  let c0_i32_9 : BitVec 32 := 0#32
  let c1_i32_8 : BitVec 32 := 1#32
  let v34 : BitVec 32 := Scalar.shrui v33 c1_i32_8
  let v35 : BitVec 32 := Scalar.subi v34 c0_i32_9
  let c1_i32_10 : BitVec 32 := 1#32
  let v37 : BitVec 32 := Scalar.divsi v35 c1_i32_10
  let v38 : BitVec 32 := Scalar.muli v37 c1_i32_10
  let v39 : BitVec 32 := Scalar.addi c0_i32_9 v38
  let c1_i32_12 : BitVec 32 := 1#32
  let arg7 : BitVec 32 := Scf.iv v39 c1_i32_12 k0_t3
  let v63 : BitVec 32 := Scalar.muli c2_i32_24 arg7
  let v64 : BitVec 32 := Scalar.subi v62 v63
  let c256_i32_25 : BitVec 32 := 256#32
  let v65 : BitVec 32 := Scalar.muli v64 c256_i32_25
  v65
def k0_off10 (k0_t1 : Fin k0_t1_loop.trips) (k0_t3 : Fin (k0_t3_loop k0_t1).trips) (c1_i32_23 : BitVec 32) : Fin 3 → Nat :=
  let c0_26 : Index := 0#32
  let c0_i32 : BitVec 32 := 0#32
  let c1_i32 : BitVec 32 := 1#32
  let arg6 : BitVec 32 := Scf.iv c0_i32 c1_i32 k0_t1
  let c1_i32_6 : BitVec 32 := 1#32
  let v32 : BitVec 32 := Scalar.subi arg6 c1_i32_6
  let c0_i32_7 : BitVec 32 := 0#32
  let v33 : BitVec 32 := Scalar.maxsi v32 c0_i32_7
  let v62 : BitVec 32 := Scalar.subi v33 c1_i32_23
  let c2_i32_24 : BitVec 32 := 2#32
  let c0_i32_9 : BitVec 32 := 0#32
  let c1_i32_8 : BitVec 32 := 1#32
  let v34 : BitVec 32 := Scalar.shrui v33 c1_i32_8
  let v35 : BitVec 32 := Scalar.subi v34 c0_i32_9
  let c1_i32_10 : BitVec 32 := 1#32
  let v37 : BitVec 32 := Scalar.divsi v35 c1_i32_10
  let v38 : BitVec 32 := Scalar.muli v37 c1_i32_10
  let v39 : BitVec 32 := Scalar.addi c0_i32_9 v38
  let c1_i32_12 : BitVec 32 := 1#32
  let arg7 : BitVec 32 := Scf.iv v39 c1_i32_12 k0_t3
  let v63 : BitVec 32 := Scalar.muli c2_i32_24 arg7
  let v64 : BitVec 32 := Scalar.subi v62 v63
  let c256_i32_25 : BitVec 32 := 256#32
  let v65 : BitVec 32 := Scalar.muli v64 c256_i32_25
  let v66 : BitVec 32 := v65
  let v67 : Index := Scalar.indexCast v66
  let c128 : Index := 128#32
  ![0, v67.toNat, 128]
def k0_off11 (k0_t1 : Fin k0_t1_loop.trips) (k0_t3 : Fin (k0_t3_loop k0_t1).trips) (c1_i32_23 : BitVec 32) : Fin 3 → Nat :=
  let c0_27 : Index := 0#32
  let c0_i32 : BitVec 32 := 0#32
  let c1_i32 : BitVec 32 := 1#32
  let arg6 : BitVec 32 := Scf.iv c0_i32 c1_i32 k0_t1
  let c1_i32_6 : BitVec 32 := 1#32
  let v32 : BitVec 32 := Scalar.subi arg6 c1_i32_6
  let c0_i32_7 : BitVec 32 := 0#32
  let v33 : BitVec 32 := Scalar.maxsi v32 c0_i32_7
  let v62 : BitVec 32 := Scalar.subi v33 c1_i32_23
  let c2_i32_24 : BitVec 32 := 2#32
  let c0_i32_9 : BitVec 32 := 0#32
  let c1_i32_8 : BitVec 32 := 1#32
  let v34 : BitVec 32 := Scalar.shrui v33 c1_i32_8
  let v35 : BitVec 32 := Scalar.subi v34 c0_i32_9
  let c1_i32_10 : BitVec 32 := 1#32
  let v37 : BitVec 32 := Scalar.divsi v35 c1_i32_10
  let v38 : BitVec 32 := Scalar.muli v37 c1_i32_10
  let v39 : BitVec 32 := Scalar.addi c0_i32_9 v38
  let c1_i32_12 : BitVec 32 := 1#32
  let arg7 : BitVec 32 := Scf.iv v39 c1_i32_12 k0_t3
  let v63 : BitVec 32 := Scalar.muli c2_i32_24 arg7
  let v64 : BitVec 32 := Scalar.subi v62 v63
  let c256_i32_25 : BitVec 32 := 256#32
  let v65 : BitVec 32 := Scalar.muli v64 c256_i32_25
  let v66 : BitVec 32 := v65
  let v70 : Index := Scalar.indexCast v66
  let c256 : Index := 256#32
  ![0, v70.toNat, 256]
def k0_mult8 (k0_t1 : Fin k0_t1_loop.trips) (k0_t3 : Fin (k0_t3_loop k0_t1).trips) : BitVec 32 :=
  let c0_i32 : BitVec 32 := 0#32
  let c1_i32 : BitVec 32 := 1#32
  let arg6 : BitVec 32 := Scf.iv c0_i32 c1_i32 k0_t1
  let c1_i32_6 : BitVec 32 := 1#32
  let v32 : BitVec 32 := Scalar.subi arg6 c1_i32_6
  let c0_i32_7 : BitVec 32 := 0#32
  let v33 : BitVec 32 := Scalar.maxsi v32 c0_i32_7
  let c2_i32 : BitVec 32 := 2#32
  let v59 : BitVec 32 := Scalar.subi v33 c2_i32
  let c2_i32_22 : BitVec 32 := 2#32
  let c0_i32_9 : BitVec 32 := 0#32
  let c1_i32_8 : BitVec 32 := 1#32
  let v34 : BitVec 32 := Scalar.shrui v33 c1_i32_8
  let v35 : BitVec 32 := Scalar.subi v34 c0_i32_9
  let c1_i32_10 : BitVec 32 := 1#32
  let v37 : BitVec 32 := Scalar.divsi v35 c1_i32_10
  let v38 : BitVec 32 := Scalar.muli v37 c1_i32_10
  let v39 : BitVec 32 := Scalar.addi c0_i32_9 v38
  let c1_i32_12 : BitVec 32 := 1#32
  let arg7 : BitVec 32 := Scf.iv v39 c1_i32_12 k0_t3
  let v60 : BitVec 32 := Scalar.muli c2_i32_22 arg7
  let v61 : BitVec 32 := Scalar.subi v59 v60
  let c256_i32_38 : BitVec 32 := 256#32
  let v100 : BitVec 32 := Scalar.muli v61 c256_i32_38
  v100
def k0_cond2 (k0_t1 : Fin k0_t1_loop.trips) : BitVec 1 :=
  let c0_i32 : BitVec 32 := 0#32
  let c1_i32 : BitVec 32 := 1#32
  let arg6 : BitVec 32 := Scf.iv c0_i32 c1_i32 k0_t1
  let c1_i32_6 : BitVec 32 := 1#32
  let v32 : BitVec 32 := Scalar.subi arg6 c1_i32_6
  let c0_i32_7 : BitVec 32 := 0#32
  let v33 : BitVec 32 := Scalar.maxsi v32 c0_i32_7
  let c1_i32_13 : BitVec 32 := 1#32
  let v42 : BitVec 32 := Scalar.andi v33 c1_i32_13
  let c1_i32_14 : BitVec 32 := 1#32
  let v43 : BitVec 1 := Scalar.cmpi .eq v42 c1_i32_14
  let v44 : BitVec 32 := Scalar.extui v43
  let c0_i32_15 : BitVec 32 := 0#32
  let v45 : BitVec 1 := Scalar.cmpi .ne v44 c0_i32_15
  v45

def k0_mult9 : BitVec 32 :=
  let c0_i32_22 : BitVec 32 := 0#32
  c0_i32_22
def k0_off12 (k0_t1 : Fin k0_t1_loop.trips) : Fin 3 → Nat :=
  let c0_18 : Index := 0#32
  let c0_i32 : BitVec 32 := 0#32
  let c1_i32 : BitVec 32 := 1#32
  let arg6 : BitVec 32 := Scf.iv c0_i32 c1_i32 k0_t1
  let c256_i32 : BitVec 32 := 256#32
  let v16 : BitVec 32 := Scalar.muli arg6 c256_i32
  let v17 : BitVec 32 := v16
  let v50 : Index := Scalar.indexCast v17
  let c0_19 : Index := 0#32
  ![0, v50.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SbfReferenceIdeal.lean ====
abbrev S4x2048x8x64 : Shape := ⟨4, ![4, 2048, 8, 64]⟩
abbrev S4x8x2048x2048 : Shape := ⟨4, ![4, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x8x64x2048 : Shape := ⟨4, ![4, 8, 64, 2048]⟩

abbrev nBuf : Space → Nat
  | .hbm => 66
  | .vmem => 0
  | .smem => 0
  | _ => 0

abbrev bufTy : (tb : Table) → Fin (tcTables nBuf tb) → BufTy
  | .hbm, ⟨0, _⟩ => ⟨S4x2048x8x64, .f32⟩
  | .hbm, ⟨1, _⟩ => ⟨S4x2048x8x64, .f32⟩
  | .hbm, ⟨2, _⟩ => ⟨S4x2048x8x64, .f32⟩
  | .hbm, ⟨3, _⟩ => ⟨S4x8x2048x2048, .f32⟩
  | .hbm, ⟨4, _⟩ => ⟨S_, .f32⟩
  | .hbm, ⟨5, _⟩ => ⟨S4x8x2048x2048, .f32⟩
  | .hbm, ⟨6, _⟩ => ⟨S4x8x2048x2048, .f32⟩
  | .hbm, ⟨7, _⟩ => ⟨S2048, .i32⟩
  | .hbm, ⟨8, _⟩ => ⟨S2048x1, .i32⟩
  | .hbm, ⟨9, _⟩ => ⟨S2048, .i32⟩
  | .hbm, ⟨10, _⟩ => ⟨S1x2048, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S4x8x2048x2048, .f32⟩
  | .hbm, ⟨15, _⟩ => ⟨S_, .f32⟩
  | .hbm, ⟨16, _⟩ => ⟨S4x8x2048x2048, .f32⟩
  | .hbm, ⟨17, _⟩ => ⟨S4x8x2048x2048, .f32⟩
  | .hbm, ⟨18, _⟩ => ⟨S4x8x2048x2048, .f32⟩
  | .hbm, ⟨19, _⟩ => ⟨S4x8x2048x2048, .f32⟩
  | .hbm, ⟨20, _⟩ => ⟨S4x8x2048x2048, .i1⟩
  | .hbm, ⟨21, _⟩ => ⟨S4x8x2048x2048, .f32⟩
  | .hbm, ⟨22, _⟩ => ⟨S4x8x2048x2048, .f32⟩
  | .hbm, ⟨23, _⟩ => ⟨S4x8x2048x2048, .f32⟩
  | .hbm, ⟨24, _⟩ => ⟨S4x8x2048x2048, .f32⟩
  | .hbm, ⟨25, _⟩ => ⟨S4x8x2048x2048, .f32⟩
  | .hbm, ⟨26, _⟩ => ⟨S4x8x2048x2048, .f32⟩
  | .hbm, ⟨27, _⟩ => ⟨S4x8x2048x2048, .f32⟩
  | .hbm, ⟨28, _⟩ => ⟨S4x8x2048x2048, .f32⟩
  | .hbm, ⟨29, _⟩ => ⟨S4x8x2048x2048, .f32⟩
  | .hbm, ⟨30, _⟩ => ⟨S4x8x2048x2048, .f32⟩
  | .hbm, ⟨31, _⟩ => ⟨S4x8x2048x2048, .f32⟩
  | .hbm, ⟨32, _⟩ => ⟨S_, .f32⟩
  | .hbm, ⟨33, _⟩ => ⟨S4x8x2048x2048, .f32⟩
  | .hbm, ⟨34, _⟩ => ⟨S4x8x2048x2048, .f32⟩
  | .hbm, ⟨35, _⟩ => ⟨S4x8x2048x2048, .f32⟩
  | .hbm, ⟨36, _⟩ => ⟨S4x8x2048x2048, .f32⟩
  | .hbm, ⟨37, _⟩ => ⟨S4x8x2048x2048, .i1⟩
  | .hbm, ⟨38, _⟩ => ⟨S4x8x2048x2048, .f32⟩
  | .hbm, ⟨39, _⟩ => ⟨S4x8x2048x2048, .f32⟩
  | .hbm, ⟨40, _⟩ => ⟨S4x8x2048x2048, .f32⟩
  | .hbm, ⟨41, _⟩ => ⟨S4x8x2048x2048, .f32⟩
  | .hbm, ⟨42, _⟩ => ⟨S4x8x2048x2048, .f32⟩
  | .hbm, ⟨43, _⟩ => ⟨S4x8x2048x2048, .f32⟩
  | .hbm, ⟨44, _⟩ => ⟨S4x8x2048x2048, .f32⟩
  | .hbm, ⟨45, _⟩ => ⟨S4x8x2048x2048, .f32⟩
  | .hbm, ⟨46, _⟩ => ⟨S4x8x2048x2048, .f32⟩
  | .hbm, ⟨47, _⟩ => ⟨S_, .f32⟩
  | .hbm, ⟨48, _⟩ => ⟨S_, .f32⟩
  | .hbm, ⟨49, _⟩ => ⟨S4x8x2048x2048, .i1⟩
  | .hbm, ⟨50, _⟩ => ⟨S4x8x2048x2048, .f32⟩
  | .hbm, ⟨51, _⟩ => ⟨S4x8x2048x2048, .f32⟩
  | .hbm, ⟨52, _⟩ => ⟨S_, .f32⟩
  | .hbm, ⟨53, _⟩ => ⟨S_, .f32⟩
  | .hbm, ⟨54, _⟩ => ⟨S4x8x2048x2048, .f32⟩
  | .hbm, ⟨55, _⟩ => ⟨S4x8x2048x2048, .f32⟩
  | .hbm, ⟨56, _⟩ => ⟨S4x8x2048x2048, .f32⟩
  | .hbm, ⟨57, _⟩ => ⟨S4x8x2048x2048, .f32⟩
  | .hbm, ⟨58, _⟩ => ⟨S_, .f32⟩
  | .hbm, ⟨59, _⟩ => ⟨S_, .f32⟩
  | .hbm, ⟨60, _⟩ => ⟨S4x8x2048x2048, .i1⟩
  | .hbm, ⟨61, _⟩ => ⟨S4x8x2048x2048, .f32⟩
  | .hbm, ⟨62, _⟩ => ⟨S4x8x2048x2048, .f32⟩
  | .hbm, ⟨63, _⟩ => ⟨S4x8x64x2048, .f32⟩
  | .hbm, ⟨64, _⟩ => ⟨S4x2048x8x64, .f32⟩
  | .hbm, ⟨65, _⟩ => ⟨S4x2048x8x64, .bf16⟩
  | _, _ => ⟨S4x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_v11 : Ref sig .tc := ⟨.hbm, 30, rfl⟩
abbrev main_call1_v0 : Ref sig .tc := ⟨.hbm, 31, rfl⟩
abbrev main_call1_call0_cst : Ref sig .tc := ⟨.hbm, 32, rfl⟩
abbrev main_call1_call0_v0 : Ref sig .tc := ⟨.hbm, 33, rfl⟩
abbrev main_call1_call0_v1 : Ref sig .tc := ⟨.hbm, 34, rfl⟩
abbrev main_call1_call0_v2 : Ref sig .tc := ⟨.hbm, 35, rfl⟩
abbrev main_call1_call0_v3 : Ref sig .tc := ⟨.hbm, 36, rfl⟩
abbrev main_call1_call0_v4 : Ref sig .tc := ⟨.hbm, 37, rfl⟩
abbrev main_call1_call0_v5 : Ref sig .tc := ⟨.hbm, 38, rfl⟩
abbrev main_call1_call0_v6 : Ref sig .tc := ⟨.hbm, 39, rfl⟩
abbrev main_call1_call0_v7 : Ref sig .tc := ⟨.hbm, 40, rfl⟩
abbrev main_call1_call0_v8 : Ref sig .tc := ⟨.hbm, 41, rfl⟩
abbrev main_call1_call0_v9 : Ref sig .tc := ⟨.hbm, 42, rfl⟩
abbrev main_call1_call0_v10 : Ref sig .tc := ⟨.hbm, 43, rfl⟩
abbrev main_call1_call0_v11 : Ref sig .tc := ⟨.hbm, 44, rfl⟩
abbrev main_call1_v1 : Ref sig .tc := ⟨.hbm, 45, rfl⟩
abbrev main_v12 : Ref sig .tc := ⟨.hbm, 46, rfl⟩
abbrev main_cst_0 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v13 : Ref sig .tc := ⟨.hbm, 51, rfl⟩
abbrev main_call3_cst : Ref sig .tc := ⟨.hbm, 52, rfl⟩
abbrev main_call3_v0 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst_1 : Ref sig .tc := ⟨.hbm, 58, rfl⟩
abbrev main_call4_v0 : Ref sig .tc := ⟨.hbm, 59, rfl⟩
abbrev main_call4_v1 : Ref sig .tc := ⟨.hbm, 60, rfl⟩
abbrev main_call4_v2 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩

abbrev nD : Nat := 1
abbrev τ : Topo := Topo.v7x

variable {F : FTy → Type} [FloatOps F]
-- ==== MemfKernel.lean ====
abbrev S4x2048x4x128 : Shape := ⟨4, ![4, 2048, 4, 128]⟩
abbrev S4x256x4x128 : Shape := ⟨4, ![4, 256, 4, 128]⟩
abbrev S_ : Shape := ⟨0, ![]⟩
abbrev S4x2048x1536 : Shape := ⟨3, ![4, 2048, 1536]⟩
abbrev S4x2048x512 : Shape := ⟨3, ![4, 2048, 512]⟩
abbrev S4x2048x2048 : Shape := ⟨3, ![4, 2048, 2048]⟩
abbrev S4x256x512 : Shape := ⟨3, ![4, 256, 512]⟩
abbrev S4x256x1024 : Shape := ⟨3, ![4, 256, 1024]⟩
abbrev S1x2048x128 : Shape := ⟨3, ![1, 2048, 128]⟩
abbrev S1x256x128 : Shape := ⟨3, ![1, 256, 128]⟩
abbrev S256x128 : Shape := ⟨2, ![256, 128]⟩
abbrev S2048x128 : Shape := ⟨2, ![2048, 128]⟩
abbrev S2048x256 : Shape := ⟨2, ![2048, 256]⟩
abbrev S2048 : Shape := ⟨1, ![2048]⟩
abbrev S2048x1 : Shape := ⟨2, ![2048, 1]⟩

abbrev nBuf : Space → Nat
  | .hbm => 14
  | .vmem => 8
  | .smem => 0
  | _ => 0

abbrev bufTy : (tb : Table) → Fin (tcTables nBuf tb) → BufTy
  | .hbm, ⟨0, _⟩ => ⟨S4x2048x4x128, .f32⟩
  | .hbm, ⟨1, _⟩ => ⟨S4x256x4x128, .f32⟩
  | .hbm, ⟨2, _⟩ => ⟨S4x256x4x128, .f32⟩
  | .hbm, ⟨3, _⟩ => ⟨S_, .bf16⟩
  | .hbm, ⟨4, _⟩ => ⟨S4x2048x1536, .bf16⟩
  | .hbm, ⟨5, _⟩ => ⟨S4x2048x512, .f32⟩
  | .hbm, ⟨6, _⟩ => ⟨S4x2048x512, .bf16⟩
  | .hbm, ⟨7, _⟩ => ⟨S4x2048x2048, .bf16⟩
  | .hbm, ⟨8, _⟩ => ⟨S4x256x512, .f32⟩
  | .hbm, ⟨9, _⟩ => ⟨S4x256x512, .f32⟩
  | .hbm, ⟨10, _⟩ => ⟨S4x256x1024, .f32⟩
  | .hbm, ⟨11, _⟩ => ⟨S4x256x1024, .bf16⟩
  | .hbm, ⟨12, _⟩ => ⟨S4x2048x512, .bf16⟩
  | .hbm, ⟨13, _⟩ => ⟨S4x2048x4x128, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x2048x128, .bf16⟩
  | .local _ .vmem, ⟨7, _⟩ => ⟨S1x2048x128, .bf16⟩
  | _, _ => ⟨S4x2048x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_mult1 : BitVec 32 :=
  let c0_i32 : BitVec 32 := 0#32
  let c2048_i32 : BitVec 32 := 2048#32
  let v4 : BitVec 32 := Scalar.muli c0_i32 c2048_i32
  v4
def k0_off1 : Fin 3 → Nat :=
  let c0_5 : Index := 0#32
  let c0_i32 : BitVec 32 := 0#32
  let c2048_i32 : BitVec 32 := 2048#32
  let v4 : BitVec 32 := Scalar.muli c0_i32 c2048_i32
  let v5 : BitVec 32 := v4
  let v6 : Index := Scalar.indexCast v5
  let c0_6 : Index := 0#32
  ![0, v6.toNat, 0]
def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemfReferenceIdeal.lean ====
abbrev S4x2048x4x128 : Shape := ⟨4, ![4, 2048, 4, 128]⟩
abbrev S4x256x4x128 : Shape := ⟨4, ![4, 256, 4, 128]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x4x128, .f32⟩
  | .hbm, ⟨1, _⟩ => ⟨S4x256x4x128, .f32⟩
  | .hbm, ⟨2, _⟩ => ⟨S4x256x4x128, .f32⟩
  | .hbm, ⟨3, _⟩ => ⟨S4x4x2048x256, .f32⟩
  | .hbm, ⟨4, _⟩ => ⟨S_, .f32⟩
  | .hbm, ⟨5, _⟩ => ⟨S4x4x2048x256, .f32⟩
  | .hbm, ⟨6, _⟩ => ⟨S4x4x2048x256, .f32⟩
  | .hbm, ⟨7, _⟩ => ⟨S_, .f32⟩
  | .hbm, ⟨8, _⟩ => ⟨S4x4x2048, .f32⟩
  | .hbm, ⟨9, _⟩ => ⟨S_, .f32⟩
  | .hbm, ⟨10, _⟩ => ⟨S4x4x2048, .f32⟩
  | .hbm, ⟨11, _⟩ => ⟨S4x4x2048, .f32⟩
  | .hbm, ⟨12, _⟩ => ⟨S4x4x2048x1, .f32⟩
  | .hbm, ⟨13, _⟩ => ⟨S4x4x2048x256, .f32⟩
  | .hbm, ⟨14, _⟩ => ⟨S4x4x2048x256, .f32⟩
  | .hbm, ⟨15, _⟩ => ⟨S4x4x2048x256, .f32⟩
  | .hbm, ⟨16, _⟩ => ⟨S_, .f32⟩
  | .hbm, ⟨17, _⟩ => ⟨S4x4x2048, .f32⟩
  | .hbm, ⟨18, _⟩ => ⟨S4x4x2048x1, .f32⟩
  | .hbm, ⟨19, _⟩ => ⟨S4x4x2048x256, .f32⟩
  | .hbm, ⟨20, _⟩ => ⟨S4x4x2048x256, .f32⟩
  | .hbm, ⟨21, _⟩ => ⟨S4x4x128x2048, .f32⟩
  | .hbm, ⟨22, _⟩ => ⟨S4x2048x4x128, .f32⟩
  | .hbm, ⟨23, _⟩ => ⟨S4x2048x4x128, .bf16⟩
  | _, _ => ⟨S4x2048x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== NormKernel.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== FfnKernel.lean ====
abbrev S8192x1024 : Shape := ⟨2, ![8192, 1024]⟩
abbrev S1024x5632 : Shape := ⟨2, ![1024, 5632]⟩
abbrev S8192x2816 : Shape := ⟨2, ![8192, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S1024x5632, .bf16⟩
  | .hbm, ⟨4, _⟩ => ⟨S8192x2816, .bf16⟩
  | .hbm, ⟨5, _⟩ => ⟨S8192x2816, .bf16⟩
  | .hbm, ⟨6, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnReferenceIdeal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .bf16⟩
  | .hbm, ⟨17, _⟩ => ⟨S8192x2816, .f32⟩
  | .hbm, ⟨18, _⟩ => ⟨S8192x2816, .bf16⟩
  | .hbm, ⟨19, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== MergeKernel.lean ====
abbrev S8192x3072 : Shape := ⟨2, ![8192, 3072]⟩
abbrev S8192x1024 : Shape := ⟨2, ![8192, 1024]⟩
abbrev S1x3072 : Shape := ⟨2, ![1, 3072]⟩
abbrev S1024x1024 : Shape := ⟨2, ![1024, 1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩

abbrev nBuf : Space → Nat
  | .hbm => 18
  | .vmem => 22
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x3072, .f32⟩
  | .hbm, ⟨5, _⟩ => ⟨S1024x1024, .f32⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S8192x3072, .bf16⟩
  | .hbm, ⟨13, _⟩ => ⟨S1024x1024, .bf16⟩
  | .hbm, ⟨14, _⟩ => ⟨S8192x1024, .bf16⟩
  | .hbm, ⟨15, _⟩ => ⟨S8192x1024, .f32⟩
  | .hbm, ⟨16, _⟩ => ⟨S8192x1024, .f32⟩
  | .hbm, ⟨17, _⟩ => ⟨S8192x1024, .bf16⟩
  | .local _ .vmem, ⟨0, _⟩ => ⟨S512x3072, .bf16⟩
  | .local _ .vmem, ⟨1, _⟩ => ⟨S512x3072, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x3072, .f32⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeReferenceIdeal.lean ====
abbrev S8192x3072 : Shape := ⟨2, ![8192, 3072]⟩
abbrev S8192x1024 : Shape := ⟨2, ![8192, 1024]⟩
abbrev S1x3072 : Shape := ⟨2, ![1, 3072]⟩
abbrev S1024x1024 : Shape := ⟨2, ![1024, 1024]⟩
abbrev S1x1024 : Shape := ⟨2, ![1, 1024]⟩
abbrev S_ : Shape := ⟨0, ![]⟩
abbrev S8192x3x1024 : Shape := ⟨3, ![8192, 3, 1024]⟩
abbrev S8192x1x1024 : Shape := ⟨3, ![8192, 1, 1024]⟩
abbrev S8192 : Shape := ⟨1, ![8192]⟩
abbrev S8192x1 : Shape := ⟨2, ![8192, 1]⟩

abbrev nBuf : Space → Nat
  | .hbm => 65
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x3072, .f32⟩
  | .hbm, ⟨5, _⟩ => ⟨S1024x1024, .f32⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S8192x3072, .f32⟩
  | .hbm, ⟨10, _⟩ => ⟨S8192x3072, .f32⟩
  | .hbm, ⟨11, _⟩ => ⟨S8192x3072, .f32⟩
  | .hbm, ⟨12, _⟩ => ⟨S8192x3072, .f32⟩
  | .hbm, ⟨13, _⟩ => ⟨S_, .f32⟩
  | .hbm, ⟨14, _⟩ => ⟨S8192x3072, .f32⟩
  | .hbm, ⟨15, _⟩ => ⟨S8192x3072, .f32⟩
  | .hbm, ⟨16, _⟩ => ⟨S_, .f32⟩
  | .hbm, ⟨17, _⟩ => ⟨S8192x3072, .f32⟩
  | .hbm, ⟨18, _⟩ => ⟨S8192x3072, .f32⟩
  | .hbm, ⟨19, _⟩ => ⟨S8192x3x1024, .f32⟩
  | .hbm, ⟨20, _⟩ => ⟨S8192x1x1024, .f32⟩
  | .hbm, ⟨21, _⟩ => ⟨S8192x1024, .f32⟩
  | .hbm, ⟨22, _⟩ => ⟨S8192x1024, .f32⟩
  | .hbm, ⟨23, _⟩ => ⟨S8192x1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .bf16⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== GwKernel.lean ====
abbrev S8192x1024 : Shape := ⟨2, ![8192, 1024]⟩
abbrev S1024x5632 : Shape := ⟨2, ![1024, 5632]⟩
abbrev S8192x5632 : Shape := ⟨2, ![8192, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x1024, .bf16⟩
  | .hbm, ⟨4, _⟩ => ⟨S8192x5632, .bf16⟩
  | .hbm, ⟨5, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwReferenceIdeal.lean ====
abbrev S8192x1024 : Shape := ⟨2, ![8192, 1024]⟩
abbrev S1024x5632 : Shape := ⟨2, ![1024, 5632]⟩
abbrev S8192x5632 : Shape := ⟨2, ![8192, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x5632, .f32⟩
  | .hbm, ⟨4, _⟩ => ⟨S5632x1024, .f32⟩
  | .hbm, ⟨5, _⟩ => ⟨S1024x5632, .f32⟩
  | .hbm, ⟨6, _⟩ => ⟨S1024x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AdamKernel.lean ====
abbrev S8x1024x704 : Shape := ⟨3, ![8, 1024, 704]⟩
abbrev S1x1024x704 : Shape := ⟨3, ![1, 1024, 704]⟩
abbrev S8x256x704 : Shape := ⟨3, ![8, 256, 704]⟩
abbrev S1x256x704 : Shape := ⟨3, ![1, 256, 704]⟩
abbrev S256x704 : Shape := ⟨2, ![256, 704]⟩

abbrev nBuf : Space → Nat
  | .hbm => 9
  | .vmem => 16
  | .smem => 0
  | _ => 0

abbrev bufTy : (tb : Table) → Fin (tcTables nBuf tb) → BufTy
  | .hbm, ⟨0, _⟩ => ⟨S8x1024x704, .f32⟩
  | .hbm, ⟨1, _⟩ => ⟨S1x1024x704, .f32⟩
  | .hbm, ⟨2, _⟩ => ⟨S1x1024x704, .f32⟩
  | .hbm, ⟨3, _⟩ => ⟨S1x1024x704, .f32⟩
  | .hbm, ⟨4, _⟩ => ⟨S8x1024x704, .bf16⟩
  | .hbm, ⟨5, _⟩ => ⟨S1x1024x704, .f32⟩
  | .hbm, ⟨6, _⟩ => ⟨S1x1024x704, .f32⟩
  | .hbm, ⟨7, _⟩ => ⟨S1x1024x704, .f32⟩
  | .hbm, ⟨8, _⟩ => ⟨S1x1024x704, .f32⟩
  | .local _ .vmem, ⟨0, _⟩ => ⟨S8x256x704, .bf16⟩
  | .local _ .vmem, ⟨1, _⟩ => ⟨S8x256x704, .bf16⟩
  | .local _ .vmem, ⟨2, _⟩ => ⟨S1x256x704, .f32⟩
  | .local _ .vmem, ⟨3, _⟩ => ⟨S1x256x704, .f32⟩
  | .local _ .vmem, ⟨4, _⟩ => ⟨S1x256x704, .f32⟩
  | .local _ .vmem, ⟨5, _⟩ => ⟨S1x256x704, .f32⟩
  | .local _ .vmem, ⟨6, _⟩ => ⟨S1x256x704, .f32⟩
  | .local _ .vmem, ⟨7, _⟩ => ⟨S1x256x704, .f32⟩
  | .local _ .vmem, ⟨8, _⟩ => ⟨S1x256x704, .f32⟩
  | .local _ .vmem, ⟨9, _⟩ => ⟨S1x256x704, .f32⟩
  | .local _ .vmem, ⟨10, _⟩ => ⟨S1x256x704, .f32⟩
  | .local _ .vmem, ⟨11, _⟩ => ⟨S1x256x704, .f32⟩
  | .local _ .vmem, ⟨12, _⟩ => ⟨S1x256x704, .f32⟩
  | .local _ .vmem, ⟨13, _⟩ => ⟨S1x256x704, .f32⟩
  | .local _ .vmem, ⟨14, _⟩ => ⟨S1x256x704, .f32⟩
  | .local _ .vmem, ⟨15, _⟩ => ⟨S1x256x704, .f32⟩
  | _, _ => ⟨S8x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamReferenceIdeal.lean ====
abbrev S8x1024x704 : Shape := ⟨3, ![8, 1024, 704]⟩
abbrev S1x1024x704 : Shape := ⟨3, ![1, 1024, 704]⟩
abbrev S_ : Shape := ⟨0, ![]⟩
abbrev S1024x704 : Shape := ⟨2, ![1024, 704]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x704, .f32⟩
  | .hbm, ⟨1, _⟩ => ⟨S1x1024x704, .f32⟩
  | .hbm, ⟨2, _⟩ => ⟨S1x1024x704, .f32⟩
  | .hbm, ⟨3, _⟩ => ⟨S1x1024x704, .f32⟩
  | .hbm, ⟨4, _⟩ => ⟨S_, .f32⟩
  | .hbm, ⟨5, _⟩ => ⟨S1024x704, .f32⟩
  | .hbm, ⟨6, _⟩ => ⟨S1x1024x704, .f32⟩
  | .hbm, ⟨7, _⟩ => ⟨S_, .f32⟩
  | .hbm, ⟨8, _⟩ => ⟨S1x1024x704, .f32⟩
  | .hbm, ⟨9, _⟩ => ⟨S1x1024x704, .f32⟩
  | .hbm, ⟨10, _⟩ => ⟨S_, .f32⟩
  | .hbm, ⟨11, _⟩ => ⟨S1x1024x704, .f32⟩
  | .hbm, ⟨12, _⟩ => ⟨S1x1024x704, .f32⟩
  | .hbm, ⟨13, _⟩ => ⟨S1x1024x704, .f32⟩
  | .hbm, ⟨14, _⟩ => ⟨S_, .f32⟩
  | .hbm, ⟨15, _⟩ => ⟨S1x1024x704, .f32⟩
  | .hbm, ⟨16, _⟩ => ⟨S1x1024x704, .f32⟩
  | .hbm, ⟨17, _⟩ => ⟨S1x1024x704, .f32⟩
  | .hbm, ⟨18, _⟩ => ⟨S_, .f32⟩
  | .hbm, ⟨19, _⟩ => ⟨S1x1024x704, .f32⟩
  | .hbm, ⟨20, _⟩ => ⟨S1x1024x704, .f32⟩
  | .hbm, ⟨21, _⟩ => ⟨S1x1024x704, .f32⟩
  | .hbm, ⟨22, _⟩ => ⟨S_, .f32⟩
  | .hbm, ⟨23, _⟩ => ⟨S1x1024x704, .f32⟩
  | .hbm, ⟨24, _⟩ => ⟨S1x1024x704, .f32⟩
  | .hbm, ⟨25, _⟩ => ⟨S_, .f32⟩
  | .hbm, ⟨26, _⟩ => ⟨S1x1024x704, .f32⟩
  | .hbm, ⟨27, _⟩ => ⟨S1x1024x704, .f32⟩
  | .hbm, ⟨28, _⟩ => ⟨S1x1024x704, .f32⟩
  | .hbm, ⟨29, _⟩ => ⟨S_, .f32⟩
  | .hbm, ⟨30, _⟩ => ⟨S1x1024x704, .f32⟩
  | .hbm, ⟨31, _⟩ => ⟨S1x1024x704, .f32⟩
  | .hbm, ⟨32, _⟩ => ⟨S1x1024x704, .f32⟩
  | .hbm, ⟨33, _⟩ => ⟨S_, .f32⟩
  | .hbm, ⟨34, _⟩ => ⟨S1x1024x704, .f32⟩
  | .hbm, ⟨35, _⟩ => ⟨S1x1024x704, .f32⟩
  | .hbm, ⟨36, _⟩ => ⟨S1x1024x704, .f32⟩
  | .hbm, ⟨37, _⟩ => ⟨S_, .f32⟩
  | .hbm, ⟨38, _⟩ => ⟨S1x1024x704, .f32⟩
  | .hbm, ⟨39, _⟩ => ⟨S1x1024x704, .f32⟩
  | _, _ => ⟨S8x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== SmallKernel.lean ====
abbrev S1x1024 : Shape := ⟨2, ![1, 1024]⟩
abbrev S1x3072 : Shape := ⟨2, ![1, 3072]⟩
abbrev S8x1x1024 : Shape := ⟨3, ![8, 1, 1024]⟩
abbrev S8x1x3072 : Shape := ⟨3, ![8, 1, 3072]⟩
abbrev S8x3x1024 : Shape := ⟨3, ![8, 3, 1024]⟩
abbrev S8x8x1024 : Shape := ⟨3, ![8, 8, 1024]⟩
abbrev S_ : Shape := ⟨0, ![]⟩
abbrev S8x7x1024 : Shape := ⟨3, ![8, 7, 1024]⟩
abbrev S8x16x1024 : Shape := ⟨3, ![8, 16, 1024]⟩
abbrev S3x1024 : Shape := ⟨2, ![3, 1024]⟩
abbrev S8x1024 : Shape := ⟨2, ![8, 1024]⟩
abbrev S8x128 : Shape := ⟨2, ![8, 128]⟩
abbrev S1x16x1024 : Shape := ⟨3, ![1, 16, 1024]⟩
abbrev S16x1024 : Shape := ⟨2, ![16, 1024]⟩
abbrev S1 : Shape := ⟨1, ![1]⟩
abbrev S1x1 : Shape := ⟨2, ![1, 1]⟩

abbrev nBuf : Space → Nat
  | .hbm => 41
  | .vmem => 9
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x3072, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x3072, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x3072, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S8x1x1024, .f32⟩
  | .hbm, ⟨23, _⟩ => ⟨S8x1x3072, .f32⟩
  | .hbm, ⟨24, _⟩ => ⟨S8x1x1024, .f32⟩
  | .hbm, ⟨25, _⟩ => ⟨S8x3x1024, .f32⟩
  | .hbm, ⟨26, _⟩ => ⟨S8x8x1024, .f32⟩
  | .hbm, ⟨27, _⟩ => ⟨S_, .f32⟩
  | .hbm, ⟨28, _⟩ => ⟨S8x7x1024, .f32⟩
  | .hbm, ⟨29, _⟩ => ⟨S8x16x1024, .f32⟩
  | .hbm, ⟨30, _⟩ => ⟨S3x1024, .f32⟩
  | .hbm, ⟨31, _⟩ => ⟨S8x1024, .f32⟩
  | .hbm, ⟨32, _⟩ => ⟨S3x1024, .f32⟩
  | .hbm, ⟨33, _⟩ => ⟨S8x1024, .f32⟩
  | .hbm, ⟨34, _⟩ => ⟨S3x1024, .f32⟩
  | .hbm, ⟨35, _⟩ => ⟨S8x1024, .f32⟩
  | .hbm, ⟨36, _⟩ => ⟨S8x1024, .f32⟩
  | .hbm, ⟨37, _⟩ => ⟨S8x1024, .f32⟩
  | .hbm, ⟨38, _⟩ => ⟨S8x1024, .f32⟩
  | .hbm, ⟨39, _⟩ => ⟨S8x1024, .f32⟩
  | .hbm, ⟨40, _⟩ => ⟨S8x128, .f32⟩
  | .local _ .vmem, ⟨0, _⟩ => ⟨S8x16x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x128, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_cst : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10_0 : Ref sig .tc := ⟨.hbm, 36, rfl⟩
abbrev main_v10_1 : Ref sig .tc := ⟨.hbm, 37, rfl⟩
abbrev main_v10_2 : Ref sig .tc := ⟨.hbm, 38, rfl⟩
abbrev main_v10_3 : Ref sig .tc := ⟨.hbm, 39, rfl⟩
abbrev main_v10_4 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== SmallReferenceIdeal.lean ====
abbrev S1x1024 : Shape := ⟨2, ![1, 1024]⟩
abbrev S1x3072 : Shape := ⟨2, ![1, 3072]⟩
abbrev S8x1x1024 : Shape := ⟨3, ![8, 1, 1024]⟩
abbrev S8x1x3072 : Shape := ⟨3, ![8, 1, 3072]⟩
abbrev S_ : Shape := ⟨0, ![]⟩
abbrev S3x1024 : Shape := ⟨2, ![3, 1024]⟩
abbrev S8x1024 : Shape := ⟨2, ![8, 1024]⟩
abbrev S8x128 : Shape := ⟨2, ![8, 128]⟩

abbrev nBuf : Space → Nat
  | .hbm => 83
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x3072, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x3072, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x3072, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S8x1x1024, .f32⟩
  | .hbm, ⟨23, _⟩ => ⟨S8x1x3072, .f32⟩
  | .hbm, ⟨24, _⟩ => ⟨S8x1x1024, .f32⟩
  | .hbm, ⟨25, _⟩ => ⟨S_, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S_, .f32⟩
  | .hbm, ⟨30, _⟩ => ⟨S1x1024, .f32⟩
  | .hbm, ⟨31, _⟩ => ⟨S_, .f32⟩
  | .hbm, ⟨32, _⟩ => ⟨S1x1024, .f32⟩
  | .hbm, ⟨33, _⟩ => ⟨S_, .f32⟩
  | .hbm, ⟨34, _⟩ => ⟨S1x1024, .f32⟩
  | .hbm, ⟨35, _⟩ => ⟨S_, .f32⟩
  | .hbm, ⟨36, _⟩ => ⟨S1x3072, .f32⟩
  | .hbm, ⟨37, _⟩ => ⟨S3x1024, .f32⟩
  | .hbm, ⟨38, _⟩ => ⟨S8x1024, .f32⟩
  | .hbm, ⟨39, _⟩ => ⟨S3x1024, .f32⟩
  | .hbm, ⟨40, _⟩ => ⟨S8x1024, .f32⟩
  | .hbm, ⟨41, _⟩ => ⟨S3x1024, .f32⟩
  | .hbm, ⟨42, _⟩ => ⟨S8x1024, .f32⟩
  | .hbm, ⟨43, _⟩ => ⟨S3x1024, .f32⟩
  | .hbm, ⟨44, _⟩ => ⟨S8x1024, .f32⟩
  | .hbm, ⟨45, _⟩ => ⟨S_, .f32⟩
  | .hbm, ⟨46, _⟩ => ⟨S8x1024, .f32⟩
  | .hbm, ⟨47, _⟩ => ⟨S8x1024, .f32⟩
  | .hbm, ⟨48, _⟩ => ⟨S_, .f32⟩
  | .hbm, ⟨49, _⟩ => ⟨S8x1024, .f32⟩
  | .hbm, ⟨50, _⟩ => ⟨S8x1024, .f32⟩
  | .hbm, ⟨51, _⟩ => ⟨S8x1024, .f32⟩
  | .hbm, ⟨52, _⟩ => ⟨S_, .f32⟩
  | .hbm, ⟨53, _⟩ => ⟨S8x1024, .f32⟩
  | .hbm, ⟨54, _⟩ => ⟨S8x1024, .f32⟩
  | .hbm, ⟨55, _⟩ => ⟨S8x1024, .f32⟩
  | .hbm, ⟨56, _⟩ => ⟨S_, .f32⟩
  | .hbm, ⟨57, _⟩ => ⟨S8x1024, .f32⟩
  | .hbm, ⟨58, _⟩ => ⟨S8x1024, .f32⟩
  | .hbm, ⟨59, _⟩ => ⟨S8x1024, .f32⟩
  | .hbm, ⟨60, _⟩ => ⟨S_, .f32⟩
  | .hbm, ⟨61, _⟩ => ⟨S8x1024, .f32⟩
  | .hbm, ⟨62, _⟩ => ⟨S8x1024, .f32⟩
  | .hbm, ⟨63, _⟩ => ⟨S_, .f32⟩
  | .hbm, ⟨64, _⟩ => ⟨S8x1024, .f32⟩
  | .hbm, ⟨65, _⟩ => ⟨S8x1024, .f32⟩
  | .hbm, ⟨66, _⟩ => ⟨S8x1024, .f32⟩
  | .hbm, ⟨67, _⟩ => ⟨S_, .f32⟩
  | .hbm, ⟨68, _⟩ => ⟨S8x1024, .f32⟩
  | .hbm, ⟨69, _⟩ => ⟨S8x1024, .f32⟩
  | .hbm, ⟨70, _⟩ => ⟨S8x1024, .f32⟩
  | .hbm, ⟨71, _⟩ => ⟨S_, .f32⟩
  | .hbm, ⟨72, _⟩ => ⟨S8x1024, .f32⟩
  | .hbm, ⟨73, _⟩ => ⟨S8x1024, .f32⟩
  | .hbm, ⟨74, _⟩ => ⟨S8x1024, .f32⟩
  | .hbm, ⟨75, _⟩ => ⟨S_, .f32⟩
  | .hbm, ⟨76, _⟩ => ⟨S8x1024, .f32⟩
  | .hbm, ⟨77, _⟩ => ⟨S8x1024, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S8x128, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_cst_0 : Ref sig .tc := ⟨.hbm, 27, rfl⟩
abbrev main_v1 : Ref sig .tc := ⟨.hbm, 28, rfl⟩
abbrev main_cst_1 : Ref sig .tc := ⟨.hbm, 29, rfl⟩
abbrev main_v2 : Ref sig .tc := ⟨.hbm, 30, rfl⟩
abbrev main_cst_2 : Ref sig .tc := ⟨.hbm, 31, rfl⟩
abbrev main_v3 : Ref sig .tc := ⟨.hbm, 32, rfl⟩
abbrev main_cst_3 : Ref sig .tc := ⟨.hbm, 33, rfl⟩
abbrev main_v4 : Ref sig .tc := ⟨.hbm, 34, rfl⟩
abbrev main_cst_4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_5 : Ref sig .tc := ⟨.hbm, 45, rfl⟩
abbrev main_v14 : Ref sig .tc := ⟨.hbm, 46, rfl⟩
abbrev main_v15 : Ref sig .tc := ⟨.hbm, 47, rfl⟩
abbrev main_cst_6 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_cst_7 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst_8 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_cst_9 : Ref sig .tc := ⟨.hbm, 60, rfl⟩
abbrev main_v25 : Ref sig .tc := ⟨.hbm, 61, rfl⟩
abbrev main_v26 : Ref sig .tc := ⟨.hbm, 62, rfl⟩
abbrev main_cst_10 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_cst_11 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_cst_12 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_cst_13 : Ref sig .tc := ⟨.hbm, 75, rfl⟩
abbrev main_v36 : Ref sig .tc := ⟨.hbm, 76, rfl⟩
abbrev main_v37 : Ref sig .tc := ⟨.hbm, 77, rfl⟩
abbrev main_cst_14 : Ref sig .tc := ⟨.hbm, 78, rfl⟩
abbrev main_v38 : Ref sig .tc := ⟨.hbm, 79, rfl⟩
abbrev main_cst_15 : Ref sig .tc := ⟨.hbm, 80, rfl⟩
abbrev main_v39 : Ref sig .tc := ⟨.hbm, 81, rfl⟩
abbrev main_v40 : Ref sig .tc := ⟨.hbm, 82, rfl⟩

abbrev nD : Nat := 1
abbrev τ : Topo := Topo.v7x

variable {F : FTy → Type} [FloatOps F]
-- ==== Proof.SumRows.lean ====
module

public import Idealize.ShloMosaic.Lib.Pointwise

@[expose] public section

namespace Cert.SumRows

open Idealize.ShloMosaic

variable {n0 n1 n2 : Nat} {t : Shape}

theorem pos (h : (⟨3, ![n0, n1, n2]⟩ : Shape).ReducesTo [0, 1] t) : 0 < t.rank := by
  have : t.rank = 1 := h.1
  omega

theorem size (h : (⟨3, ![n0, n1, n2]⟩ : Shape).ReducesTo [0, 1] t) : t.size ⟨0, pos h⟩ = n2 := h.2 ⟨0, pos h⟩

/-- The kept coordinate of an index of a sum over the first two axes. -/
abbrev kept (h : (⟨3, ![n0, n1, n2]⟩ : Shape).ReducesTo [0, 1] t) (j : t.Idx) : Fin n2 :=
  ⟨(j ⟨0, pos h⟩).val, Shape.coordLt (j ⟨0, pos h⟩) (size h)⟩

/-- The elements summed into `j` are those with `j`'s coordinate on the last axis. -/
theorem fiber (h : (⟨3, ![n0, n1, n2]⟩ : Shape).ReducesTo [0, 1] t) (j : t.Idx) (i : (⟨3, ![n0, n1, n2]⟩ : Shape).Idx) :
    h.drop i = j ↔ ∃ k : Fin n0 × Fin n1, ix3 k.1 k.2 (kept h j) = i := by
  constructor
  · intro e
    refine ⟨(i 0, i 1), ?_⟩
    funext a
    apply Fin.ext
    match a with
    | ⟨0, _⟩ => rfl
    | ⟨1, _⟩ => rfl
    | ⟨2, _⟩ => exact (congrArg Fin.val (congrFun e ⟨0, pos h⟩)).symm
  · rintro ⟨k, rfl⟩
    funext b
    apply Fin.ext
    match b with
    | ⟨0, _⟩ => rfl
    | ⟨_ + 1, hb⟩ => exact absurd hb (by have : t.rank = 1 := h.1; omega)

/-- A host sum over the first two axes of a box, at an index. -/
theorem apply (h : (⟨3, ![n0, n1, n2]⟩ : Shape).ReducesTo [0, 1] t) (v : (⟨3, ![n0, n1, n2]⟩ : Shape).Idx → EReal)
    (z : EReal) (j : t.Idx) :
    Ideal.hostReduceAdd h v z j = z + ∑ a : Fin n0, ∑ b : Fin n1, v (ix3 a b (kept h j)) := by
  unfold Ideal.hostReduceAdd
  congr 1
  refine (Finset.sum_filter_eq_sum_of_fiber _ (fun k : Fin n0 × Fin n1 => ix3 k.1 k.2 (kept h j))
    (fun _ _ e => Prod.ext (congrFun e 0) (congrFun e 1)) (fiber h j) v).trans ?_
  simp only [Fintype.sum_prod_type]

end Cert.SumRows
-- ==== Proof.Gain.lean ====
module

public import proofs.«01_k».proof.Defs
public import proofs.«01_k».proof.Proof.SumRows
public import proofs.«01_k».proof.Proof.Gen.GainKernel.Frame
public import proofs.«01_k».proof.Proof.Gen.GainKernelIdeal.Value
public import proofs.«01_k».proof.Proof.Gen.GainReferenceIdeal.Run
public import Idealize.ShloMosaic.Adequacy
public import Idealize.ShloMosaic.Init
public import Idealize.ShloMosaic.Lib.Quiescent
public import Idealize.ShloMosaic.Lib.Pointwise
public import Idealize.ShloMosaic.Lib.Pipeline.ValueKit

@[expose] public section

set_option maxRecDepth 16384

noncomputable section

namespace Cert.Gain

open Idealize.ShloMosaic Idealize.ShloMosaic.TcCoe Idealize.SL.Sem
open Cert.GainKernelIdeal Cert.GainKernelIdeal.Gen Cert.GainKernelIdeal.Value

variable (m : (ℓ : Loc nD τ sig) → Buf (Elt Ideal) ℓ)

theorem block_index : ∀ t : Fin cfg0.N, win0_0.index t = ![t.val, 0] ∧ win0_1.index t = ![t.val, 0] :=
  (by decide +kernel : ∀ t : Fin grid0.N, win0_0.index t = ![t.val, 0] ∧ win0_1.index t = ![t.val, 0])

/-- The cotangent's block at a point is one batch entry's rows. -/
theorem ct_block (c : Dev nD) (t : Fin cfg0.N) (b : Fin 4) (h : t.val = b.val) (r : Fin 256) (j : Fin 1024) :
    iblk m c 0 t (ix2 r j) = m ((c.tc : Thread nD τ).loc main_arg2) (ix3 b r j) := by
  blk_simp [iblk]
  entry_read
  pointwise
  blk_ext [block_index]

/-- The memory's block at a point is the same batch entry's rows. -/
theorem mem_block (c : Dev nD) (t : Fin cfg0.N) (b : Fin 4) (h : t.val = b.val) (r : Fin 256) (j : Fin 1024) :
    iblk m c 1 t (ix2 r j) = m ((c.tc : Thread nD τ).loc main_arg0) (ix3 b r j) := by
  blk_simp [iblk]
  entry_read
  pointwise
  blk_ext [block_index]

/-- What one batch entry adds to the gain's gradient at column `j`: over its rows, the cotangent times the normalised row. -/
def part (mem ct : FVec Ideal S4x256x1024 .f32) (b : Fin 4) (j : Fin 1024) : EReal :=
  ∑ r : Fin 256, ct (ix3 b r j) * (mem (ix3 b r j) *
    Ideal.rsqrt (Ideal.div (∑ k : Fin 1024, mem (ix3 b r k) * mem (ix3 b r k)) (Ideal.ofBits .f32 1149239296#32)
      + Ideal.ofBits .f32 897988541#32))

/-- One grid point adds its batch entry's part. -/
theorem step_apply (c : Dev nD) (n : ℕ) (h : n < cfg0.N) (b : Fin 4) (hb : n = b.val) (acc : FVec Ideal S1x1024 .f32) (j : Fin 1024) :
    step2 m c n h acc (ix2 0 j)
      = acc (ix2 0 j) + part (m ((c.tc : Thread nD τ).loc main_arg0)) (m ((c.tc : Thread nD τ).loc main_arg2)) b j := by
  unfold step2 part
  unfold_payloads
  pointwise
  simp only [ct_block m c ⟨n, h⟩ b hb, mem_block m c ⟨n, h⟩ b hb]

/-- The first grid point leaves its batch entry's part. -/
theorem reset_apply (c : Dev nD) (n : ℕ) (h : n < cfg0.N) (b : Fin 4) (hb : n = b.val) (j : Fin 1024) :
    reset2 m c n h (ix2 0 j)
      = part (m ((c.tc : Thread nD τ).loc main_arg0)) (m ((c.tc : Thread nD τ).loc main_arg2)) b j := by
  unfold reset2 part
  unfold_payloads
  pointwise
  simp only [ct_block m c ⟨n, h⟩ b hb, mem_block m c ⟨n, h⟩ b hb]

/-- The kernel's result at column `j`: the parts of the four batch entries. -/
theorem result_apply (c : Dev nD) (j : Fin 1024) : G2 m c (ix2 0 j)
    = ∑ b : Fin 4, part (m ((c.tc : Thread nD τ).loc main_arg0)) (m ((c.tc : Thread nD τ).loc main_arg2)) b j := by
  have hN : cfg0.N = 4 := N_0
  have h0 : 4 * run2Of (ix2 0 j : S1x1024.Idx) = 0 := by
    show 4 * (1 * (0 / 1 - 0) + 1 * (j.val / 1024 - 0)) = 0
    omega
  have hl : loc2Of (ix2 0 j : S1x1024.Idx) = ix2 0 j := by
    funext a
    apply Fin.ext
    match a with
    | ⟨0, _⟩ => rfl
    | ⟨1, _⟩ => exact Nat.mod_eq_of_lt j.isLt
  unfold G2
  rw [dif_pos (by omega), hl]
  simp only [h0, Pipeline.accAt_succ, Pipeline.accAt_zero]
  rw [Fin.sum_univ_four]
  exact (step_apply m c 3 _ 3 rfl _ j).trans (congrArg (· + _) ((step_apply m c 2 _ 2 rfl _ j).trans
    (congrArg (· + _) ((step_apply m c 1 _ 1 rfl _ j).trans (congrArg (· + _) (reset_apply m c 0 _ 0 rfl j))))))

/-- The kernel's result is the reference's, and both leave their arguments unchanged. -/
theorem algebraic : algebraic_GainKernelIdeal_GainReferenceIdeal := by
  intro m ρ m' ρ' _ hagree
  refine ⟨_, Cert.GainKernelIdeal.Value.run (F := Ideal) m ρ, ?_⟩
  refine (θ_run Cert.GainReferenceIdeal.defs _ _).mono (fun _ h c => ⟨?_, (h c).2⟩)
    (Cert.GainReferenceIdeal.Value.run (F := Ideal) m' ρ')
  rw [(h c).1]
  simp only [hagree c]
  funext i
  idx_vars i
  rw [Subsingleton.elim i0 0, result_apply]
  unfold part
  pointwise [SumRows.apply]
  simp only [Finset.univ_unique, Finset.sum_singleton]
  exact Finset.sum_congr rfl fun b _ => Finset.sum_congr rfl fun r _ => mul_comm _ _

/-- The reference runs and leaves its arguments and its counters as they were. -/
theorem quiescent_reference : quiescent_GainReferenceIdeal := fun m ρ _ =>
  (θ_run Cert.GainReferenceIdeal.defs _ _).mono (fun r h => ⟨fun c => (h c).2, sem_eq_zero_of_no_sems (by decide) r.2⟩)
    (Cert.GainReferenceIdeal.Value.run (F := Ideal) m ρ)

end Cert.Gain
-- ==== Proof.Sb.Model.lean ====
/-
  What one program of the stick-breaking gradient's grid computes, as functions of its three blocks: the tiles of a
  block of queries one after another, and the blocks of queries one after another. No memory and no loops here.
-/
module

public import proofs.«01_k».proof.Proof.Gen.SbKernelIdeal.Skeleton
public import Idealize.ShloMosaic.Lib.VecWindow

@[expose] public section

set_option maxRecDepth 16384

noncomputable section

namespace Cert.Sb

open Idealize.ShloMosaic Idealize.ShloMosaic.TcCoe Idealize.ShloMosaic.VecWindow
open Cert.SbKernelIdeal Cert.SbKernelIdeal.Gen

variable {F : FTy → Type} [FloatOps F]

/-- What is carried from tile to tile of a block of queries: per row the sum of the softplus of the later tiles and what
    is left of the row's sum of cotangent times output, the gradient of the queries so far, and the gradients of all
    keys and values so far. -/
structure St (F : FTy → Type) [FloatOps F] where
  later : FVec F S512x1 .f32
  rest : FVec F S512x1 .f32
  dq : Vec F S512x128 .f32
  dk : Vec F S2048x128 .f32
  dv : Vec F S2048x128 .f32

theorem inb_k (j : Fin 8) : ∀ a, (![0, 256 * j.val, 128] : Fin 3 → ℕ) a + S1x256x128.size a ≤ S1x2048x384.size a := by
  revert j; decide +kernel
theorem inb_v (j : Fin 8) : ∀ a, (![0, 256 * j.val, 256] : Fin 3 → ℕ) a + S1x256x128.size a ≤ S1x2048x384.size a := by
  revert j; decide +kernel
theorem inb_q (j : Fin 8) : ∀ a, (![0, 256 * j.val, 0] : Fin 3 → ℕ) a + S1x256x128.size a ≤ S1x2048x384.size a := by
  revert j; decide +kernel
theorem inb_o (j : Fin 8) : ∀ a, (![0, 256 * j.val, 0] : Fin 3 → ℕ) a + S1x256x128.size a ≤ S1x2048x128.size a := by
  revert j; decide +kernel
theorem inb_d (j : Fin 8) : ∀ a, (![256 * j.val, 0] : Fin 2 → ℕ) a + S256x128.size a ≤ S2048x128.size a := by
  revert j; decide +kernel

/-- Tile `j` of the keys. -/
def kTile (X : Vec F S1x2048x384 .bf16) (j : Fin 8) : Vec F S1x256x128 .bf16 := window X ![0, 256 * j.val, 128] S1x256x128.size (inb_k j)
/-- Tile `j` of the values. -/
def vTile (X : Vec F S1x2048x384 .bf16) (j : Fin 8) : Vec F S1x256x128 .bf16 := window X ![0, 256 * j.val, 256] S1x256x128.size (inb_v j)
/-- Block `i` of the queries, scaled, once with each head's columns. -/
def qs (X : Vec F S1x2048x384 .bf16) (i : Fin 8) : FVec F S512x128 .bf16 := k0_pay81 k0_pay95 (window X ![0, 256 * i.val, 0] S1x256x128.size (inb_q i))
/-- Block `i` of the output's cotangent, once with each head's columns. -/
def dos (Y : Vec F S1x2048x128 .bf16) (i : Fin 8) : FVec F S512x128 .bf16 := k0_pay83 k0_pay95 (window Y ![0, 256 * i.val, 0] S1x256x128.size (inb_o i))
/-- Per row of block `i` the sum of cotangent times output. -/
def dsum (Y : Vec F S1x2048x128 .bf16) (O : Vec F S1x2048x128 .f32) (i : Fin 8) : FVec F S512x1 .f32 :=
  k0_pay84 k0_pay95 (window Y ![0, 256 * i.val, 0] S1x256x128.size (inb_o i)) (window O ![0, 256 * i.val, 0] S1x256x128.size (inb_o i))

/-- Rows of tile `j` of the keys' or values' gradient. -/
abbrev dTile (d : Vec F S2048x128 .f32) (j : Fin 8) : Vec F S256x128 .f32 := window d ![256 * j.val, 0] S256x128.size (inb_d j)

/-- One tile wholly below the diagonal. -/
def tileU (X : Vec F S1x2048x384 .bf16) (a b : FVec F S512x128 .bf16) (j : Fin 8) (s : St F) : St F where
  later := k0_pay43 s.later (k0_pay33 a (kTile X j))
  rest := k0_pay44 s.rest (k0_pay35 k0_pay97 a b s.later (kTile X j) (vTile X j))
  dq := k0_pay40 (k0_pay31 (kTile X j)) (k0_pay35 k0_pay97 a b s.later (kTile X j) (vTile X j)) (k0_pay36 a (kTile X j))
    (k0_pay37 k0_pay97 k0_pay98 a b s.later (kTile X j) (vTile X j)) (k0_pay38 s.rest) s.dq
  dk := put s.dk ![256 * j.val, 0] S256x128.size
    (k0_pay41 a (k0_pay35 k0_pay97 a b s.later (kTile X j) (vTile X j)) (k0_pay36 a (kTile X j))
      (k0_pay37 k0_pay97 k0_pay98 a b s.later (kTile X j) (vTile X j)) (k0_pay38 s.rest) (dTile s.dk j))
  dv := put s.dv ![256 * j.val, 0] S256x128.size (k0_pay42 b (k0_pay34 k0_pay97 a s.later (kTile X j)) (dTile s.dv j))

/-- The tile on the diagonal, the first of a block of queries: nothing is later, and the queries' gradient starts here. -/
def tileM (X : Vec F S1x2048x384 .bf16) (a b : FVec F S512x128 .bf16) (r : FVec F S512x1 .f32) (j : Fin 8) (dk dv : Vec F S2048x128 .f32) : St F where
  later := k0_pay12 k0_pay85 (k0_pay4 k0_pay96 a (kTile X j))
  rest := k0_pay13 r (k0_pay6 k0_pay96 k0_pay97 a b k0_pay85 (kTile X j) (vTile X j))
  dq := k0_pay9 k0_pay96 (k0_pay2 (kTile X j)) (k0_pay7 k0_pay96 k0_pay97 k0_pay98 a b r k0_pay85 (kTile X j) (vTile X j))
  dk := put dk ![256 * j.val, 0] S256x128.size
    (k0_pay10 k0_pay96 a (k0_pay7 k0_pay96 k0_pay97 k0_pay98 a b r k0_pay85 (kTile X j) (vTile X j)) (dTile dk j))
  dv := put dv ![256 * j.val, 0] S256x128.size (k0_pay11 b (k0_pay5 k0_pay96 k0_pay97 a k0_pay85 (kTile X j)) (dTile dv j))

/-- Tile `n + 1` places before tile `i`. -/
abbrev before (i : Fin 8) (n : ℕ) : Fin 8 := ⟨i.val - (n + 1), by have := i.isLt; omega⟩

/-- Block `i` of the queries after the diagonal tile and the `n` tiles before it, going back. -/
def seq (X : Vec F S1x2048x384 .bf16) (Y : Vec F S1x2048x128 .bf16) (O : Vec F S1x2048x128 .f32) (i : Fin 8) (dk dv : Vec F S2048x128 .f32) : ℕ → St F
  | 0 => tileM X (qs X i) (dos Y i) (dsum Y O i) i dk dv
  | n + 1 => tileU X (qs X i) (dos Y i) (before i n) (seq X Y O i dk dv n)

/-- The gradients of the keys and values after the first `n` blocks of queries. -/
def acc (X : Vec F S1x2048x384 .bf16) (Y : Vec F S1x2048x128 .bf16) (O : Vec F S1x2048x128 .f32) : ℕ → Vec F S2048x128 .f32 × Vec F S2048x128 .f32
  | 0 => (k0_pay99, k0_pay100)
  | n + 1 => if h : n < 8 then
      ((seq X Y O ⟨n, h⟩ (acc X Y O n).1 (acc X Y O n).2 n).dk, (seq X Y O ⟨n, h⟩ (acc X Y O n).1 (acc X Y O n).2 n).dv)
    else acc X Y O n

/-- Block `i` of the queries, all its tiles. -/
def full (X : Vec F S1x2048x384 .bf16) (Y : Vec F S1x2048x128 .bf16) (O : Vec F S1x2048x128 .f32) (i : Fin 8) : St F :=
  seq X Y O i (acc X Y O i.val).1 (acc X Y O i.val).2 i.val

theorem acc_succ (X : Vec F S1x2048x384 .bf16) (Y : Vec F S1x2048x128 .bf16) (O : Vec F S1x2048x128 .f32) (i : Fin 8) :
    acc X Y O (i.val + 1) = ((full X Y O i).dk, (full X Y O i).dv) := by
  rw [acc, dif_pos i.isLt]; rfl

/-- The output's rows after the first `n` blocks of queries: their gradients, in the first 128 columns. -/
def outQ (X : Vec F S1x2048x384 .bf16) (Y : Vec F S1x2048x128 .bf16) (O : Vec F S1x2048x128 .f32) (W : Vec F S1x2048x384 .bf16) : ℕ → Vec F S1x2048x384 .bf16
  | 0 => W
  | n + 1 => if h : n < 8 then put (outQ X Y O W n) ![0, 256 * n, 0] S1x256x128.size (k0_pay112 (full X Y O ⟨n, h⟩).dq) else outQ X Y O W n

theorem outQ_succ (X : Vec F S1x2048x384 .bf16) (Y : Vec F S1x2048x128 .bf16) (O : Vec F S1x2048x128 .f32) (W : Vec F S1x2048x384 .bf16) (i : Fin 8) :
    outQ X Y O W (i.val + 1) = put (outQ X Y O W i.val) ![0, 256 * i.val, 0] S1x256x128.size (k0_pay112 (full X Y O i).dq) := by
  rw [outQ, dif_pos i.isLt]

/-- The output block: the queries' gradients, then the keys', then the values'. -/
def outAll (X : Vec F S1x2048x384 .bf16) (Y : Vec F S1x2048x128 .bf16) (O : Vec F S1x2048x128 .f32) (W : Vec F S1x2048x384 .bf16) : Vec F S1x2048x384 .bf16 :=
  put (put (outQ X Y O W 8) ![0, 0, 128] S1x2048x128.size (k0_pay113 (acc X Y O 8).1)) ![0, 0, 256] S1x2048x128.size (k0_pay1 (acc X Y O 8).2)

end Cert.Sb

end
-- ==== Proof.Sb.Closed.lean ====
/-
  Where the tiles of the stick-breaking gradient lie, in closed form, and which of its branches are taken.
-/
module

public import proofs.«01_k».proof.Proof.Gen.SbKernelIdeal.Skeleton
public import Idealize.ShloMosaic.Lib.Exec

@[expose] public section

set_option maxRecDepth 16384

namespace Cert.Sb

open Idealize.ShloMosaic Idealize.ShloMosaic.TcCoe
open Cert.SbKernelIdeal Cert.SbKernelIdeal.Gen

theorem trips1 : k0_t1_loop.trips = 8 := by decide +kernel
/-- A trip of the loop over blocks of queries, as a block's number. -/
abbrev blk (t : Fin k0_t1_loop.trips) : Fin 8 := ⟨t.val, trips1 ▸ t.isLt⟩

theorem trips2 : ∀ t : Fin k0_t1_loop.trips, (k0_t2_loop t).trips = (t.val - 1) / 2 := by decide +kernel
theorem trips3 : ∀ t : Fin k0_t1_loop.trips, (k0_t3_loop t).trips = 0 := by decide +kernel
theorem cond1_iff : ∀ t : Fin k0_t1_loop.trips, k0_cond1 t = 1#1 ↔ 0 < t.val := by decide +kernel
theorem cond2_iff : ∀ t : Fin k0_t1_loop.trips, k0_cond2 t = 1#1 ↔ 0 < t.val ∧ t.val % 2 = 0 := by decide +kernel

theorem off6_eq : ∀ t : Fin k0_t1_loop.trips, 0 < t.val → k0_off6 t = ![0, 256 * (t.val - (0 + 1)), 128] := by decide +kernel
theorem off7_eq : ∀ t : Fin k0_t1_loop.trips, 0 < t.val → k0_off7 t = ![0, 256 * (t.val - (0 + 1)), 256] := by decide +kernel
theorem off8_eq : ∀ t : Fin k0_t1_loop.trips, 0 < t.val → k0_off8 t = ![256 * (t.val - (0 + 1)), 0] := by decide +kernel
theorem off12_eq : ∀ (t : Fin k0_t1_loop.trips) (u : Fin (k0_t2_loop t).trips) (r : Fin 2),
    k0_off12 t u (BitVec.ofNat 32 (1 + r.val)) = ![0, 256 * (t.val - (1 + 2 * u.val + r.val + 1)), 128] := by decide +kernel
theorem off13_eq : ∀ (t : Fin k0_t1_loop.trips) (u : Fin (k0_t2_loop t).trips) (r : Fin 2),
    k0_off13 t u (BitVec.ofNat 32 (1 + r.val)) = ![0, 256 * (t.val - (1 + 2 * u.val + r.val + 1)), 256] := by decide +kernel
theorem off14_eq : ∀ (t : Fin k0_t1_loop.trips) (u : Fin (k0_t2_loop t).trips) (r : Fin 2),
    k0_off14 t u (BitVec.ofNat 32 (1 + r.val)) = ![256 * (t.val - (1 + 2 * u.val + r.val + 1)), 0] := by decide +kernel

instance (t : Fin k0_t1_loop.trips) (u : Fin (k0_t2_loop t).trips) : ClosedOff (k0_off14 t u 1#32) := ⟨_, off14_eq t u 0⟩
instance (t : Fin k0_t1_loop.trips) (u : Fin (k0_t2_loop t).trips) : ClosedOff (k0_off14 t u 2#32) := ⟨_, off14_eq t u 1⟩

end Cert.Sb
-- ==== Proof.Sb.Loop2.lean ====
module

public import proofs.«01_k».proof.Proof.Sb.Model
public import proofs.«01_k».proof.Proof.Sb.Closed
public import proofs.«01_k».proof.Proof.Gen.SbKernelIdeal.Skeleton
public import proofs.«01_k».proof.Proof.Gen.SbKernelIdeal.Loops
public import proofs.«01_k».proof.Proof.Gen.SbKernelIdeal.Frame
public import Idealize.ShloMosaic.Lib.Tactic

@[expose] public section

set_option maxRecDepth 16384

noncomputable section

namespace Cert.Sb

open Cert.SbKernelIdeal Cert.SbKernelIdeal.Gen
open Idealize.ShloMosaic
open Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Reads

theorem kRead (m : Memref sig .tc .vmem S1x2048x384 .bf16) {f : m.view.ty.Contents (Elt F)} {X : Vec F S1x2048x384 .bf16} (hf : m.view.read (Elt F) f = X)
    (j : Fin 8) {off : Fin 3 → ℕ} (h : off = ![0, 256 * j.val, 128]) (inb : ∀ a, off a + S1x256x128.size a ≤ S1x2048x384.size a) :
    m.view.readAt (Elt F) (Rect.unit (s := S1x2048x384) off S1x256x128.size inb).toLoadRect f = kTile X j := by
  subst hf; exact View.readAt_unit _ _ _ h (inb_k j)

theorem vRead (m : Memref sig .tc .vmem S1x2048x384 .bf16) {f : m.view.ty.Contents (Elt F)} {X : Vec F S1x2048x384 .bf16} (hf : m.view.read (Elt F) f = X)
    (j : Fin 8) {off : Fin 3 → ℕ} (h : off = ![0, 256 * j.val, 256]) (inb : ∀ a, off a + S1x256x128.size a ≤ S1x2048x384.size a) :
    m.view.readAt (Elt F) (Rect.unit (s := S1x2048x384) off S1x256x128.size inb).toLoadRect f = vTile X j := by
  subst hf; exact View.readAt_unit _ _ _ h (inb_v j)

theorem dRead (m : Memref sig .tc .vmem S2048x128 .f32) (f : m.view.ty.Contents (Elt F))
    (j : Fin 8) {off : Fin 2 → ℕ} (h : off = ![256 * j.val, 0]) (inb : ∀ a, off a + S256x128.size a ≤ S2048x128.size a) :
    m.view.readAt (Elt F) (Rect.unit (s := S2048x128) off S256x128.size inb).toLoadRect f = dTile (m.view.read (Elt F) f) j :=
  View.readAt_unit _ _ _ h (inb_d j)

theorem dPut (m : Memref sig .tc .vmem S2048x128 .f32) (f : m.view.ty.Contents (Elt F))
    (j : Fin 8) {off : Fin 2 → ℕ} (h : off = ![256 * j.val, 0]) (inb : ∀ a, off a + S256x128.size a ≤ S2048x128.size a)
    (w : Vec F S256x128 .f32) (L : List (View.Piece (Elt F) S2048x128 .f32)) :
    m.view.read (Elt F) (m.view.writes (Elt F) f (⟨Rect.unit (s := S2048x128) off S256x128.size inb, w⟩ :: L))
      = put (m.view.read (Elt F) (m.view.writes (Elt F) f L)) ![256 * j.val, 0] S256x128.size w :=
  View.read_writes_cons_put _ _ _ _ _ h

theorem qCov (m : Memref sig .tc .vmem S512x128 .f32) (inb inb' : ∀ a, (![0, 0] : Fin 2 → ℕ) a + S512x128.size a ≤ S512x128.size a)
    (w : Vec F S512x128 .f32) (L : List (View.Piece (Elt F) S512x128 .f32)) :
    m.view.readCov (Val := Elt F) (⟨Rect.unit (s := S512x128) ![0, 0] S512x128.size inb', w⟩ :: L) (Rect.unit (s := S512x128) ![0, 0] S512x128.size inb).toLoadRect = w :=
  View.readCov_full m.view inb inb' w L

theorem qPut (m : Memref sig .tc .vmem S512x128 .f32) (f : m.view.ty.Contents (Elt F)) (inb : ∀ a, (![0, 0] : Fin 2 → ℕ) a + S512x128.size a ≤ S512x128.size a)
    (w : Vec F S512x128 .f32) (L : List (View.Piece (Elt F) S512x128 .f32)) :
    m.view.read (Elt F) (m.view.writes (Elt F) f (⟨Rect.unit (s := S512x128) ![0, 0] S512x128.size inb, w⟩ :: L)) = w :=
  View.read_writes_full m.view f inb w L

theorem qRead (m : Memref sig .tc .vmem S512x128 .f32) (f : m.view.ty.Contents (Elt F)) (inb : ∀ a, (![0, 0] : Fin 2 → ℕ) a + S512x128.size a ≤ S512x128.size a) :
    m.view.readAt (Elt F) (Rect.unit (s := S512x128) ![0, 0] S512x128.size inb).toLoadRect f = m.view.read (Elt F) f :=
  View.readAt_full m.view f inb

end Reads

section Trip

variable (c : Dev nD) (i : grid0.Coords)
  (arg2 : Memref sig .tc .vmem S1x2048x384 .bf16) (harg2 : arg2.IsWhole) (arg3 : Memref sig .tc .vmem S1x2048x128 .bf16) (harg3 : arg3.IsWhole)
  (arg4 : Memref sig .tc .vmem S1x2048x128 .f32) (harg4 : arg4.IsWhole) (arg5 : Memref sig .tc .vmem S1x2048x384 .bf16) (harg5 : arg5.IsWhole)
  (arg6 : Memref sig .tc .vmem S512x128 .f32) (harg6 : arg6.IsWhole) (arg7 : Memref sig .tc .vmem S2048x128 .f32) (harg7 : arg7.IsWhole)
  (arg8 : Memref sig .tc .vmem S2048x128 .f32) (harg8 : arg8.IsWhole)
  (X : Vec F S1x2048x384 .bf16) (Y : Vec F S1x2048x128 .bf16) (O : Vec F S1x2048x128 .f32)

/-- The queries', keys' and values' block as given, and the three gradient buffers at the state `s`. -/
def holds (s : St F) : sProp 𝕄 :=
  iprop(owns (c : Thread nD τ) arg2 fullShare X ∗ owns (c : Thread nD τ) arg6 fullShare s.dq
    ∗ owns (c : Thread nD τ) arg7 fullShare s.dk ∗ owns (c : Thread nD τ) arg8 fullShare s.dv)

/-- Before trip `k` of the loop over pairs of tiles, `n` tiles having been done before the loop. -/
def inv2 (st : ℕ → St F) (k : ℕ) (r : FVec F S512x1 .f32 × FVec F S512x1 .f32) : sProp 𝕄 :=
  iprop(⌜r = ((st (1 + 2 * k)).later, (st (1 + 2 * k)).rest)⌝ ∗ holds c arg2 arg6 arg7 arg8 X (st (1 + 2 * k)))

set_option maxHeartbeats 4000000 in
theorem step2 (t : Fin k0_t1_loop.trips) (v79 : BitVec 32) (u : Fin (k0_t2_loop t).trips) (a b : FVec F S512x128 .bf16) (st : ℕ → St F)
    (hst : ∀ n, st (n + 1) = tileU X a b (before (blk t) n) (st n)) (r : FVec F S512x1 .f32 × FVec F S512x1 .f32) :
    inv2 c arg2 arg6 arg7 arg8 X st u.val r
    ⊢ wp Idealize.ShloMosaic.frame (wpE (defs₀ (F := F)) Variants.none (c : Thread nD τ) none) Set.univ
      (k0_t2_body (F := F) i arg2 harg2 arg3 harg3 arg4 harg4 arg5 harg5 arg6 harg6 arg7 harg7 arg8 harg8 t a b v79 u r)
      (inv2 c arg2 arg6 arg7 arg8 X st (u.val + 1)) := by
  have e1 : 1 + 2 * (u.val + 1) = (1 + 2 * u.val) + 1 + 1 := by omega
  unfold inv2 holds k0_t2_body
  rw [e1, hst, hst]
  generalize st (1 + 2 * u.val) = s
  unfold owns
  iintro ⟨%hr, ⟨%f2, %h2, H2⟩, ⟨%f6, %h6, H6⟩, ⟨%f7, %h7, H7⟩, ⟨%f8, %h8, H8⟩⟩
  subst hr
  have ek0 := fun inb => kRead arg2 h2 (before (blk t) (1 + 2 * u.val)) (off := k0_off12 t u 1#32) (off12_eq t u 0) inb
  have ek1 := fun inb => kRead arg2 h2 (before (blk t) (1 + 2 * u.val + 1)) (off := k0_off12 t u 2#32) (off12_eq t u 1) inb
  have ev0 := fun inb => vRead arg2 h2 (before (blk t) (1 + 2 * u.val)) (off := k0_off13 t u 1#32) (off13_eq t u 0) inb
  have ev1 := fun inb => vRead arg2 h2 (before (blk t) (1 + 2 * u.val + 1)) (off := k0_off13 t u 2#32) (off13_eq t u 1) inb
  have er0 := fun (m : Memref sig .tc .vmem S2048x128 .f32) f inb => dRead (F := F) m f (before (blk t) (1 + 2 * u.val)) (off := k0_off14 t u 1#32) (off14_eq t u 0) inb
  have er1 := fun (m : Memref sig .tc .vmem S2048x128 .f32) f inb => dRead (F := F) m f (before (blk t) (1 + 2 * u.val + 1)) (off := k0_off14 t u 2#32) (off14_eq t u 1) inb
  have ep0 := fun (m : Memref sig .tc .vmem S2048x128 .f32) f inb => dPut (F := F) m f (before (blk t) (1 + 2 * u.val)) (off := k0_off14 t u 1#32) (off14_eq t u 0) inb
  have ep1 := fun (m : Memref sig .tc .vmem S2048x128 .f32) f inb => dPut (F := F) m f (before (blk t) (1 + 2 * u.val + 1)) (off := k0_off14 t u 2#32) (off14_eq t u 1) inb
  simp only [k0_part5_eq_skeleton, k0_part6_eq_skeleton, k0_part7_eq_skeleton]
  sl_exec
  sl_step
  isplitr
  · ipureintro
    sl_unfold_run_names
    rfl
  isplitl [H2]
  · iexists _; isplitr
    · ipureintro; exact h2
    iexact H2
  isplitl [H6]
  · iexists _; isplitr; swap
    · iexact H6
    ipureintro
    sl_unfold_run_names
    rw [qPut, qCov, qRead, h6]
    rfl
  isplitl [H7]
  · iexists _; isplitr; swap
    · iexact H7
    ipureintro
    sl_unfold_run_names
    simp only [ep1, er1, ep0, er0, ek0, ek1, ev0, ev1, View.writes_nil, h7]
    rfl
  iexists _; isplitr; swap
  · iexact H8
  ipureintro
  sl_unfold_run_names
  simp only [ep1, er1, ep0, er0, ek0, ek1, View.writes_nil, h8]
  rfl

end Trip
end Cert.Sb
end
-- ==== Proof.Sb.Loop1.lean ====
module

public import proofs.«01_k».proof.Proof.Sb.Loop2

@[expose] public section

set_option maxRecDepth 16384

noncomputable section

namespace Cert.Sb

open Cert.SbKernelIdeal Cert.SbKernelIdeal.Gen
open Idealize.ShloMosaic
open Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Reads

theorem q1Read (m : Memref sig .tc .vmem S1x2048x384 .bf16) {f : m.view.ty.Contents (Elt F)} {X : Vec F S1x2048x384 .bf16} (hf : m.view.read (Elt F) f = X)
    (j : Fin 8) {off : Fin 3 → ℕ} (h : off = ![0, 256 * j.val, 0]) (inb : ∀ a, off a + S1x256x128.size a ≤ S1x2048x384.size a) :
    m.view.readAt (Elt F) (Rect.unit (s := S1x2048x384) off S1x256x128.size inb).toLoadRect f = window X ![0, 256 * j.val, 0] S1x256x128.size (inb_q j) := by
  subst hf; exact View.readAt_unit _ _ _ h (inb_q j)

theorem oRead {e : EltTy} (m : Memref sig .tc .vmem S1x2048x128 e) {f : m.view.ty.Contents (Elt F)} {X : Vec F S1x2048x128 e} (hf : m.view.read (Elt F) f = X)
    (j : Fin 8) {off : Fin 3 → ℕ} (h : off = ![0, 256 * j.val, 0]) (inb : ∀ a, off a + S1x256x128.size a ≤ S1x2048x128.size a) :
    m.view.readAt (Elt F) (Rect.unit (s := S1x2048x128) off S1x256x128.size inb).toLoadRect f = window X ![0, 256 * j.val, 0] S1x256x128.size (inb_o j) := by
  subst hf; exact View.readAt_unit _ _ _ h (inb_o j)

theorem outPut (m : Memref sig .tc .vmem S1x2048x384 .bf16) (f : m.view.ty.Contents (Elt F))
    (j : Fin 8) {off : Fin 3 → ℕ} (h : off = ![0, 256 * j.val, 0]) (inb : ∀ a, off a + S1x256x128.size a ≤ S1x2048x384.size a)
    (w : Vec F S1x256x128 .bf16) (L : List (View.Piece (Elt F) S1x2048x384 .bf16)) :
    m.view.read (Elt F) (m.view.writes (Elt F) f (⟨Rect.unit (s := S1x2048x384) off S1x256x128.size inb, w⟩ :: L))
      = put (m.view.read (Elt F) (m.view.writes (Elt F) f L)) ![0, 256 * j.val, 0] S1x256x128.size w :=
  View.read_writes_cons_put _ _ _ _ _ h

end Reads

section Trip

variable (c : Dev nD) (i : grid0.Coords)
  (arg2 : Memref sig .tc .vmem S1x2048x384 .bf16) (harg2 : arg2.IsWhole) (arg3 : Memref sig .tc .vmem S1x2048x128 .bf16) (harg3 : arg3.IsWhole)
  (arg4 : Memref sig .tc .vmem S1x2048x128 .f32) (harg4 : arg4.IsWhole) (arg5 : Memref sig .tc .vmem S1x2048x384 .bf16) (harg5 : arg5.IsWhole)
  (arg6 : Memref sig .tc .vmem S512x128 .f32) (harg6 : arg6.IsWhole) (arg7 : Memref sig .tc .vmem S2048x128 .f32) (harg7 : arg7.IsWhole)
  (arg8 : Memref sig .tc .vmem S2048x128 .f32) (harg8 : arg8.IsWhole)
  (X : Vec F S1x2048x384 .bf16) (Y : Vec F S1x2048x128 .bf16) (O : Vec F S1x2048x128 .f32) (W : Vec F S1x2048x384 .bf16)

/-- Before block `k` of the queries. -/
def inv1 (k : ℕ) (_ : Unit) : sProp 𝕄 :=
  iprop(owns (c : Thread nD τ) arg2 fullShare X ∗ owns (c : Thread nD τ) arg3 fullShare Y ∗ owns (c : Thread nD τ) arg4 fullShare O
    ∗ owns (c : Thread nD τ) arg5 fullShare (outQ X Y O W k) ∗ (∃ d, owns (c : Thread nD τ) arg6 fullShare d)
    ∗ owns (c : Thread nD τ) arg7 fullShare (acc X Y O k).1 ∗ owns (c : Thread nD τ) arg8 fullShare (acc X Y O k).2)

set_option maxHeartbeats 4000000 in
theorem step1_zero (t : Fin k0_t1_loop.trips) (ht : t.val = 0) (r : Unit) :
    inv1 c arg2 arg3 arg4 arg5 arg6 arg7 arg8 X Y O W t.val r
    ⊢ wp Idealize.ShloMosaic.frame (wpE (defs₀ (F := F)) Variants.none (c : Thread nD τ) none) Set.univ
      (k0_t1_body (F := F) i arg2 harg2 arg3 harg3 arg4 harg4 arg5 harg5 arg6 harg6 arg7 harg7 arg8 harg8 t r)
      (inv1 c arg2 arg3 arg4 arg5 arg6 arg7 arg8 X Y O W (t.val + 1)) := by
  have htr2 : (k0_t2_loop t).trips = 0 := by rw [trips2]; omega
  have htr3 : (k0_t3_loop t).trips = 0 := trips3 t
  have hc1 : ¬ k0_cond1 t = 1#1 := fun h => by have := (cond1_iff t).1 h; omega
  have hc2 : ¬ k0_cond2 t = 1#1 := fun h => by have := (cond2_iff t).1 h; omega
  unfold inv1 k0_t1_body
  unfold owns
  iintro ⟨⟨%f2, %h2, H2⟩, ⟨%f3, %h3, H3⟩, ⟨%f4, %h4, H4⟩, ⟨%f5, %h5, H5⟩, ⟨%d6, %f6, %h6, H6⟩, ⟨%f7, %h7, H7⟩, ⟨%f8, %h8, H8⟩⟩
  have eq1 := fun inb => q1Read arg2 h2 (blk t) (off := k0_off1 t) (k0_off1_eq t) inb
  have eo3 := fun inb => oRead arg3 h3 (blk t) (off := k0_off2 t) (k0_off2_eq t) inb
  have eo4 := fun inb => oRead arg4 h4 (blk t) (off := k0_off2 t) (k0_off2_eq t) inb
  have ek := fun inb => kRead arg2 h2 (blk t) (off := k0_off9 t) (k0_off9_eq t) inb
  have ev := fun inb => vRead arg2 h2 (blk t) (off := k0_off10 t) (k0_off10_eq t) inb
  have er := fun (m : Memref sig .tc .vmem S2048x128 .f32) f inb => dRead (F := F) m f (blk t) (off := k0_off11 t) (k0_off11_eq t) inb
  have ep := fun (m : Memref sig .tc .vmem S2048x128 .f32) f inb => dPut (F := F) m f (blk t) (off := k0_off11 t) (k0_off11_eq t) inb
  simp only [k0_part12_eq_skeleton, k0_part4_eq_skeleton]
  sl_exec (disch := first | sl_exact hc1 | sl_exact hc2)
  sl_step
  rw [show acc X Y O (t.val + 1) = _ from acc_succ X Y O (blk t), show outQ X Y O W (t.val + 1) = _ from outQ_succ X Y O W (blk t)]
  have hf : full X Y O (blk t) = tileM X (qs X (blk t)) (dos Y (blk t)) (dsum Y O (blk t)) (blk t) (acc X Y O t.val).1 (acc X Y O t.val).2 := by
    unfold full; rw [show (blk t).val = 0 from ht]; rfl
  rw [hf]
  isplitl [H2]
  · iexists _; isplitr; swap
    · iexact H2
    ipureintro; exact h2
  isplitl [H3]
  · iexists _; isplitr; swap
    · iexact H3
    ipureintro; exact h3
  isplitl [H4]
  · iexists _; isplitr; swap
    · iexact H4
    ipureintro; exact h4
  isplitl [H5]
  · iexists _; isplitr; swap
    · iexact H5
    ipureintro
    sl_unfold_run_names
    rw [outPut arg5 f5 (blk t) (k0_off1_eq t), View.writes_nil, h5, qCov]
    rfl
  isplitl [H6]
  · iexists _; iexists _; isplitr; swap
    · iexact H6
    ipureintro; rfl
  isplitl [H7]
  · iexists _; isplitr; swap
    · iexact H7
    ipureintro
    sl_unfold_run_names
    simp only [ep, er, View.writes_nil, h7]
    rfl
  iexists _; isplitr; swap
  · iexact H8
  ipureintro
  sl_unfold_run_names
  simp only [ep, er, View.writes_nil, h8]
  rfl

set_option maxHeartbeats 4000000 in
theorem step1_pos (t : Fin k0_t1_loop.trips) (ht : 0 < t.val) (r : Unit) :
    inv1 c arg2 arg3 arg4 arg5 arg6 arg7 arg8 X Y O W t.val r
    ⊢ wp Idealize.ShloMosaic.frame (wpE (defs₀ (F := F)) Variants.none (c : Thread nD τ) none) Set.univ
      (k0_t1_body (F := F) i arg2 harg2 arg3 harg3 arg4 harg4 arg5 harg5 arg6 harg6 arg7 harg7 arg8 harg8 t r)
      (inv1 c arg2 arg3 arg4 arg5 arg6 arg7 arg8 X Y O W (t.val + 1)) := by
  have htr3 : (k0_t3_loop t).trips = 0 := trips3 t
  have hc1 : k0_cond1 t = 1#1 := (cond1_iff t).2 ht
  letI : ClosedOff (k0_off8 t) := ⟨![256 * (t.val - (0 + 1)), 0], off8_eq t ht⟩
  unfold inv1 k0_t1_body
  unfold owns
  iintro ⟨⟨%f2, %h2, H2⟩, ⟨%f3, %h3, H3⟩, ⟨%f4, %h4, H4⟩, ⟨%f5, %h5, H5⟩, ⟨%d6, %f6, %h6, H6⟩, ⟨%f7, %h7, H7⟩, ⟨%f8, %h8, H8⟩⟩
  have eq1 := fun inb => q1Read arg2 h2 (blk t) (off := k0_off1 t) (k0_off1_eq t) inb
  have eo3 := fun inb => oRead arg3 h3 (blk t) (off := k0_off2 t) (k0_off2_eq t) inb
  have eo4 := fun inb => oRead arg4 h4 (blk t) (off := k0_off2 t) (k0_off2_eq t) inb
  have ek := fun inb => kRead arg2 h2 (blk t) (off := k0_off3 t) (k0_off3_eq t) inb
  have ev := fun inb => vRead arg2 h2 (blk t) (off := k0_off4 t) (k0_off4_eq t) inb
  have er := fun (m : Memref sig .tc .vmem S2048x128 .f32) f inb => dRead (F := F) m f (blk t) (off := k0_off5 t) (k0_off5_eq t) inb
  have ep := fun (m : Memref sig .tc .vmem S2048x128 .f32) f inb => dPut (F := F) m f (blk t) (off := k0_off5 t) (k0_off5_eq t) inb
  have ek0 := fun inb => kRead arg2 h2 (before (blk t) 0) (off := k0_off6 t) (off6_eq t ht) inb
  have ev0 := fun inb => vRead arg2 h2 (before (blk t) 0) (off := k0_off7 t) (off7_eq t ht) inb
  have er0 := fun (m : Memref sig .tc .vmem S2048x128 .f32) f inb => dRead (F := F) m f (before (blk t) 0) (off := k0_off8 t) (off8_eq t ht) inb
  have ep0 := fun (m : Memref sig .tc .vmem S2048x128 .f32) f inb => dPut (F := F) m f (before (blk t) 0) (off := k0_off8 t) (off8_eq t ht) inb
  simp only [k0_part12_eq_skeleton, k0_part1_eq_skeleton, k0_part2_eq_skeleton, k0_part3_eq_skeleton, k0_part11_eq_skeleton]
  sl_exec (disch := first | sl_exact hc1)
  have ea : step1_pos.sl.r_14 X t = qs X (blk t) := rfl
  have eb : step1_pos.sl.r_15 Y t = dos Y (blk t) := rfl
  sl_for (inv2 c arg2 arg6 arg7 arg8 X (seq X Y O (blk t) (acc X Y O t.val).1 (acc X Y O t.val).2)) $$ [H2 H6 H7 H8]
  · intro u r
    exact step2 c i arg2 harg2 arg3 harg3 arg4 harg4 arg5 harg5 arg6 harg6 arg7 harg7 arg8 harg8 X t _ u _ _ _ (fun n => rfl) r
  · unfold inv2 holds owns
    isplitr
    · ipureintro
      sl_unfold_run_names
      rfl
    isplitl [H2]
    · iexists _; isplitr; swap
      · iexact H2
      ipureintro; exact h2
    isplitl [H6]
    · iexists _; isplitr; swap
      · iexact H6
      ipureintro
      sl_unfold_run_names
      rw [qPut, qCov]
      rfl
    isplitl [H7]
    · iexists _; isplitr; swap
      · iexact H7
      ipureintro
      sl_unfold_run_names
      simp only [ep, er, ep0, er0, View.writes_nil, h7]
      rfl
    iexists _; isplitr; swap
    · iexact H8
    ipureintro
    sl_unfold_run_names
    simp only [ep, er, ep0, er0, View.writes_nil, h8]
    rfl
  · unfold inv2 holds owns
    rw [show acc X Y O (t.val + 1) = _ from acc_succ X Y O (blk t), show outQ X Y O W (t.val + 1) = _ from outQ_succ X Y O W (blk t)]
    have hs : full X Y O (blk t) = seq X Y O (blk t) (acc X Y O t.val).1 (acc X Y O t.val).2 t.val := rfl
    have hn : ∀ n, seq X Y O (blk t) (acc X Y O t.val).1 (acc X Y O t.val).2 (n + 1)
        = tileU X (qs X (blk t)) (dos Y (blk t)) (before (blk t) n) (seq X Y O (blk t) (acc X Y O t.val).1 (acc X Y O t.val).2 n) := fun _ => rfl
    generalize seq X Y O (blk t) (acc X Y O t.val).1 (acc X Y O t.val).2 = st at hs hn ⊢
    by_cases hev : t.val % 2 = 0
    · have hc2 : k0_cond2 t = 1#1 := (cond2_iff t).2 ⟨ht, hev⟩
      have hj : (before (blk t) (t.val - 1)).val = 0 := by simp only [blk]; omega
      rw [show t.val = (1 + 2 * (k0_t2_loop t).trips) + 1 by rw [trips2]; omega, hn, show before (blk t) (1 + 2 * (k0_t2_loop t).trips) = before (blk t) (t.val - 1) by rw [trips2]; congr 1; omega] at hs
      rw [hs]
      generalize st (1 + 2 * (k0_t2_loop t).trips) = s
      iintro %r ⟨%hr, ⟨%f2, %h2, H2⟩, ⟨%f6, %h6, H6⟩, ⟨%f7, %h7, H7⟩, ⟨%f8, %h8, H8⟩⟩
      subst hr
      have ekz := fun inb => kRead arg2 h2 (before (blk t) (t.val - 1)) (off := ![0, 0, 128]) (by rw [hj]) inb
      have evz := fun inb => vRead arg2 h2 (before (blk t) (t.val - 1)) (off := ![0, 0, 256]) (by rw [hj]) inb
      have erz := fun (m : Memref sig .tc .vmem S2048x128 .f32) f inb => dRead (F := F) m f (before (blk t) (t.val - 1)) (off := ![0, 0]) (by rw [hj]) inb
      have epz := fun (m : Memref sig .tc .vmem S2048x128 .f32) f inb => dPut (F := F) m f (before (blk t) (t.val - 1)) (off := ![0, 0]) (by rw [hj]) inb
      sl_exec (disch := first | sl_exact hc2)
      sl_step
      isplitl [H2]
      · iexists _; isplitr; swap
        · iexact H2
        ipureintro; exact h2
      isplitl [H3]
      · iexists _; isplitr; swap
        · iexact H3
        ipureintro; exact h3
      isplitl [H4]
      · iexists _; isplitr; swap
        · iexact H4
        ipureintro; exact h4
      isplitl [H5]
      · iexists _; isplitr; swap
        · iexact H5
        ipureintro
        sl_unfold_run_names
        rw [outPut arg5 f5 (blk t) (k0_off1_eq t), View.writes_nil, h5]
        rw [qCov, qRead, h6]; rfl
      isplitl [H6]
      · iexists _; iexists _; isplitr; swap
        · iexact H6
        ipureintro; rfl
      isplitl [H7]
      · iexists _; isplitr; swap
        · iexact H7
        ipureintro
        sl_unfold_run_names
        rw [epz, View.writes_nil, h7]; rfl
      iexists _; isplitr; swap
      · iexact H8
      ipureintro
      sl_unfold_run_names
      rw [epz, View.writes_nil, h8]; rfl
    · have hc2 : ¬ k0_cond2 t = 1#1 := fun h => hev ((cond2_iff t).1 h).2
      rw [show t.val = 1 + 2 * (k0_t2_loop t).trips by rw [trips2]; omega] at hs
      rw [hs]
      generalize st (1 + 2 * (k0_t2_loop t).trips) = s
      iintro %r ⟨%hr, ⟨%f2, %h2, H2⟩, ⟨%f6, %h6, H6⟩, ⟨%f7, %h7, H7⟩, ⟨%f8, %h8, H8⟩⟩
      subst hr
      sl_exec (disch := first | sl_exact hc2)
      sl_step
      isplitl [H2]
      · iexists _; isplitr; swap
        · iexact H2
        ipureintro; exact h2
      isplitl [H3]
      · iexists _; isplitr; swap
        · iexact H3
        ipureintro; exact h3
      isplitl [H4]
      · iexists _; isplitr; swap
        · iexact H4
        ipureintro; exact h4
      isplitl [H5]
      · iexists _; isplitr; swap
        · iexact H5
        ipureintro
        sl_unfold_run_names
        rw [outPut arg5 f5 (blk t) (k0_off1_eq t), View.writes_nil, h5]
        rw [qRead, h6]
      isplitl [H6]
      · iexists _; iexists _; isplitr; swap
        · iexact H6
        ipureintro; rfl
      isplitl [H7]
      · iexists _; isplitr; swap
        · iexact H7
        ipureintro
        exact h7
      iexists _; isplitr; swap
      · iexact H8
      ipureintro
      exact h8

end Trip
end Cert.Sb
end
-- ==== Proof.Sb.Out.lean ====
/-
  The output block of the stick-breaking gradient, element by element: every one of its elements is written.
-/
module

public import proofs.«01_k».proof.Proof.Sb.Model

@[expose] public section

set_option maxRecDepth 16384

noncomputable section

namespace Cert.Sb

open Idealize.ShloMosaic Idealize.ShloMosaic.TcCoe Idealize.ShloMosaic.VecWindow
open Cert.SbKernelIdeal Cert.SbKernelIdeal.Gen

variable {F : FTy → Type} [FloatOps F]

variable (X : Vec F S1x2048x384 .bf16) (Y : Vec F S1x2048x128 .bf16) (O : Vec F S1x2048x128 .f32) (W W' : Vec F S1x2048x384 .bf16)

/-- The rows of the first `n` blocks do not depend on what the buffer held. -/
theorem outQ_indep (n : ℕ) (hn : n ≤ 8) (y : S1x2048x384.Idx) (h2 : (y 2).val < 128) (h1 : (y 1).val < 256 * n) :
    outQ X Y O W n y = outQ X Y O W' n y := by
  induction n with
  | zero => omega
  | succ n ih =>
    have h0 : (y 0).val < 1 := (y 0).isLt
    rw [show outQ X Y O W (n + 1) = _ from outQ_succ X Y O W ⟨n, by omega⟩, show outQ X Y O W' (n + 1) = _ from outQ_succ X Y O W' ⟨n, by omega⟩]
    unfold put
    by_cases h : ∀ a, (![0, 256 * n, 0] : Fin 3 → ℕ) a ≤ (y a).val ∧ (y a).val < (![0, 256 * n, 0] : Fin 3 → ℕ) a + S1x256x128.size a
    · rw [dif_pos h, dif_pos h]
    · rw [dif_neg h, dif_neg h]
      refine ih (by omega) ?_
      by_contra hlt
      refine h fun a => ?_
      match a with
      | ⟨0, _⟩ => exact ⟨Nat.zero_le _, by show (y 0).val < 0 + 1; omega⟩
      | ⟨1, _⟩ => exact ⟨by show 256 * n ≤ (y 1).val; omega, by show (y 1).val < 256 * n + 256; omega⟩
      | ⟨2, _⟩ => exact ⟨Nat.zero_le _, by show (y 2).val < 0 + 128; omega⟩

/-- The whole output block does not depend on what the buffer held. -/
theorem outAll_indep : outAll X Y O W = outAll X Y O W' := by
  funext y
  have h0 : (y 0).val < 1 := (y 0).isLt
  have h1 : (y 1).val < 2048 := (y 1).isLt
  have h2 : (y 2).val < 384 := (y 2).isLt
  unfold outAll
  have hin : ∀ o, o ≤ (y 2).val → (y 2).val < o + 128 → ∀ a, (![0, 0, o] : Fin 3 → ℕ) a ≤ (y a).val ∧ (y a).val < (![0, 0, o] : Fin 3 → ℕ) a + S1x2048x128.size a := fun o ha hb a => by
    match a with
    | ⟨0, _⟩ => exact ⟨Nat.zero_le _, by show (y 0).val < 0 + 1; omega⟩
    | ⟨1, _⟩ => exact ⟨Nat.zero_le _, by show (y 1).val < 0 + 2048; omega⟩
    | ⟨2, _⟩ => exact ⟨ha, hb⟩
  unfold put
  by_cases hv : 256 ≤ (y 2).val
  · rw [dif_pos (hin 256 hv (by omega)), dif_pos (hin 256 hv (by omega))]
  have hv' : ¬ ∀ a, (![0, 0, 256] : Fin 3 → ℕ) a ≤ (y a).val ∧ (y a).val < (![0, 0, 256] : Fin 3 → ℕ) a + S1x2048x128.size a := fun h => hv (h 2).1
  rw [dif_neg hv', dif_neg hv']
  by_cases hk : 128 ≤ (y 2).val
  · rw [dif_pos (hin 128 hk (by omega)), dif_pos (hin 128 hk (by omega))]
  have hk' : ¬ ∀ a, (![0, 0, 128] : Fin 3 → ℕ) a ≤ (y a).val ∧ (y a).val < (![0, 0, 128] : Fin 3 → ℕ) a + S1x2048x128.size a := fun h => hk (h 2).1
  rw [dif_neg hk', dif_neg hk']
  exact outQ_indep X Y O W W' 8 le_rfl y (by omega) (by omega)

/-- The output block (what the buffer held does not matter). -/
def out : Vec F S1x2048x384 .bf16 := outAll X Y O X

theorem outAll_eq : outAll X Y O W = out X Y O := outAll_indep X Y O W _

end Cert.Sb

end
-- ==== Proof.Sb.Run.lean ====
/-
  The run of the stick-breaking gradient: its body at a point of the grid, and the launch.
-/
module

public import proofs.«01_k».proof.Proof.Sb.Loop1
public import proofs.«01_k».proof.Proof.Sb.Out
public import Idealize.ShloMosaic.Lib.Claim

@[expose] public section

set_option maxRecDepth 16384

noncomputable section

namespace Cert.Sb

open Cert.SbKernelIdeal Cert.SbKernelIdeal.Gen
open Idealize.ShloMosaic
open Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Reads

theorem dPutFull (m : Memref sig .tc .vmem S2048x128 .f32) (f : m.view.ty.Contents (Elt F)) (inb : ∀ a, (![0, 0] : Fin 2 → ℕ) a + S2048x128.size a ≤ S2048x128.size a)
    (w : Vec F S2048x128 .f32) (L : List (View.Piece (Elt F) S2048x128 .f32)) :
    m.view.read (Elt F) (m.view.writes (Elt F) f (⟨Rect.unit (s := S2048x128) ![0, 0] S2048x128.size inb, w⟩ :: L)) = w :=
  View.read_writes_full m.view f inb w L

theorem dReadFull (m : Memref sig .tc .vmem S2048x128 .f32) (f : m.view.ty.Contents (Elt F)) (inb : ∀ a, (![0, 0] : Fin 2 → ℕ) a + S2048x128.size a ≤ S2048x128.size a) :
    m.view.readAt (Elt F) (Rect.unit (s := S2048x128) ![0, 0] S2048x128.size inb).toLoadRect f = m.view.read (Elt F) f :=
  View.readAt_full m.view f inb

theorem outPutAll (m : Memref sig .tc .vmem S1x2048x384 .bf16) (f : m.view.ty.Contents (Elt F))
    (o : ℕ) (inb : ∀ a, (![0, 0, o] : Fin 3 → ℕ) a + S1x2048x128.size a ≤ S1x2048x384.size a)
    (w : Vec F S1x2048x128 .bf16) (L : List (View.Piece (Elt F) S1x2048x384 .bf16)) :
    m.view.read (Elt F) (m.view.writes (Elt F) f (⟨Rect.unit (s := S1x2048x384) ![0, 0, o] S1x2048x128.size inb, w⟩ :: L))
      = put (m.view.read (Elt F) (m.view.writes (Elt F) f L)) ![0, 0, o] S1x2048x128.size w :=
  View.read_writes_cons_put _ _ _ _ _ rfl

end Reads

section Trip

variable (c : Dev nD) (i : grid0.Coords)
  (arg2 : Memref sig .tc .vmem S1x2048x384 .bf16) (harg2 : arg2.IsWhole) (arg3 : Memref sig .tc .vmem S1x2048x128 .bf16) (harg3 : arg3.IsWhole)
  (arg4 : Memref sig .tc .vmem S1x2048x128 .f32) (harg4 : arg4.IsWhole) (arg5 : Memref sig .tc .vmem S1x2048x384 .bf16) (harg5 : arg5.IsWhole)
  (arg6 : Memref sig .tc .vmem S512x128 .f32) (harg6 : arg6.IsWhole) (arg7 : Memref sig .tc .vmem S2048x128 .f32) (harg7 : arg7.IsWhole)
  (arg8 : Memref sig .tc .vmem S2048x128 .f32) (harg8 : arg8.IsWhole)
  (X : Vec F S1x2048x384 .bf16) (Y : Vec F S1x2048x128 .bf16) (O : Vec F S1x2048x128 .f32) (W : Vec F S1x2048x384 .bf16)

/-- One trip of the loop over blocks of queries. -/
theorem step1 (t : Fin k0_t1_loop.trips) (r : Unit) :
    inv1 c arg2 arg3 arg4 arg5 arg6 arg7 arg8 X Y O W t.val r
    ⊢ wp Idealize.ShloMosaic.frame (wpE (defs₀ (F := F)) Variants.none (c : Thread nD τ) none) Set.univ
      (k0_t1_body (F := F) i arg2 harg2 arg3 harg3 arg4 harg4 arg5 harg5 arg6 harg6 arg7 harg7 arg8 harg8 t r)
      (inv1 c arg2 arg3 arg4 arg5 arg6 arg7 arg8 X Y O W (t.val + 1)) := by
  rcases Nat.eq_zero_or_pos t.val with h | h
  · exact step1_zero c i arg2 harg2 arg3 harg3 arg4 harg4 arg5 harg5 arg6 harg6 arg7 harg7 arg8 harg8 X Y O W t h r
  · exact step1_pos c i arg2 harg2 arg3 harg3 arg4 harg4 arg5 harg5 arg6 harg6 arg7 harg7 arg8 harg8 X Y O W t h r

set_option maxHeartbeats 4000000 in
/-- The body: from its three blocks it leaves `out` of them. -/
theorem sound_kernel (K : PUnit → sProp 𝕄) :
    iprop(owns (c : Thread nD τ) arg2 fullShare X ∗ owns (c : Thread nD τ) arg3 fullShare Y ∗ owns (c : Thread nD τ) arg4 fullShare O
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare X ∗ owns (c : Thread nD τ) arg3 fullShare Y ∗ owns (c : Thread nD τ) arg4 fullShare O
          ∗ owns (c : Thread nD τ) arg5 fullShare (out X Y O) ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) Set.univ (cc0_sb_attn_bwd (F := F) i arg2 harg2 arg3 harg3 arg4 harg4 arg5 harg5 arg6 harg6 arg7 harg7 arg8 harg8) K := by
  simp only [cc0_sb_attn_bwd_eq_skeleton]; unfold cc0_sb_attn_bwd_skel
  simp only [k0_part13_eq_skeleton]
  unfold owns
  iintro ⟨⟨%f2, %h2, H2⟩, ⟨%f3, %h3, H3⟩, ⟨%f4, %h4, H4⟩, ⟨%d5, %f5, %h5, H5⟩, ⟨%d6, %f6, %h6, H6⟩, ⟨%d7, %f7, %h7, H7⟩, ⟨%d8, %f8, %h8, H8⟩, Hk⟩
  sl_exec
  sl_for (inv1 c arg2 arg3 arg4 arg5 arg6 arg7 arg8 X Y O d5) $$ [H2 H3 H4 H5 H6 H7 H8]
  · intro t r
    exact step1 c i arg2 harg2 arg3 harg3 arg4 harg4 arg5 harg5 arg6 harg6 arg7 harg7 arg8 harg8 X Y O d5 t r
  · unfold inv1 owns
    isplitl [H2]
    · iexists _; isplitr; swap
      · iexact H2
      ipureintro; exact h2
    isplitl [H3]
    · iexists _; isplitr; swap
      · iexact H3
      ipureintro; exact h3
    isplitl [H4]
    · iexists _; isplitr; swap
      · iexact H4
      ipureintro; exact h4
    isplitl [H5]
    · iexists _; isplitr; swap
      · iexact H5
      ipureintro; exact h5
    isplitl [H6]
    · iexists _; iexists _; isplitr; swap
      · iexact H6
      ipureintro; exact h6
    isplitl [H7]
    · iexists _; isplitr; swap
      · iexact H7
      ipureintro
      sl_unfold_run_names
      rw [dPutFull]; rfl
    iexists _; isplitr; swap
    · iexact H8
    ipureintro
    sl_unfold_run_names
    rw [dPutFull]; rfl
  · unfold inv1 owns
    iintro %r ⟨⟨%f2, %h2, H2⟩, ⟨%f3, %h3, H3⟩, ⟨%f4, %h4, H4⟩, ⟨%f5, %h5', H5⟩, ⟨%d6, %f6, %h6, H6⟩, ⟨%f7, %h7, H7⟩, ⟨%f8, %h8, H8⟩⟩
    sl_exec
    sl_step
    iapply Hk
    isplitl [H2]
    · iexists _; isplitr; swap
      · iexact H2
      ipureintro; exact h2
    isplitl [H3]
    · iexists _; isplitr; swap
      · iexact H3
      ipureintro; exact h3
    isplitl [H4]
    · iexists _; isplitr; swap
      · iexact H4
      ipureintro; exact h4
    isplitl [H5]
    · iexists _; isplitr; swap
      · iexact H5
      ipureintro
      sl_unfold_run_names
      rw [outPutAll, outPutAll, View.writes_nil, h5', dReadFull, dReadFull, h7, h8]
      exact outAll_eq X Y O d5
    isplitl [H6]
    · iexists _; iexists _; isplitr; swap
      · iexact H6
      ipureintro; rfl
    isplitl [H7]
    · iexists _; iexists _; isplitr; swap
      · iexact H7
      ipureintro; rfl
    iexists _; iexists _; isplitr; swap
    · iexact H8
    ipureintro; rfl

end Trip

variable (m : (ℓ : Loc nD τ sig) → Buf (Elt F) ℓ) (ρ : Dev nD → PrngReg)

/-- The pipeline's data on a core: each input's buffer at its block, the output's at the body's function of them. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => out (X0_0 m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_x (c : Dev nD) (t : Fin cfg0.N) : (dats m 0 c).after 0 t = X0_0 m c t := by dsimp only [dats]
theorem after_do (c : Dev nD) (t : Fin cfg0.N) : (dats m 0 c).after 1 t = iblk m c 1 t := by dsimp only [dats]
theorem after_o (c : Dev nD) (t : Fin cfg0.N) : (dats m 0 c).after 2 t = iblk m c 2 t := by dsimp only [dats]
/-- What the body leaves in the output's buffer. -/
theorem after_out (c : Dev nD) (t : Fin cfg0.N) : (dats m 0 c).after 3 t = out (X0_0 m c t) (iblk m c 1 t) (iblk m c 2 t) := by dsimp only [dats]

/-- Between points the three scratch buffers are held at some contents. -/
theorem between (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d)) ∗ (∃ r, prngReg c r)) := by
  unfold Pipeline.ΦA; rw [scopedRest0_eq]; simp only [owns_whole]; try rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 1000000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after_x m c), before0_1_of m (dats m 0 c) (A_eq m c 1) (after_do m c),
    before0_2_of m (dats m 0 c) (A_eq m c 2) (after_o m c)]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, between,
    after_x, after_do, after_o, after_out]
  iintro ⟨⟨⟨HA, HB, HC⟩, Hr⟩, Ho, ⟨%d0, H0⟩, ⟨%d1, H1⟩, ⟨%d2, H2⟩, ⟨%d3, H3⟩⟩
  iapply (sound_kernel c (grid0.coords t) _ _ _ _ _ _ _ _ _ _ _ _ _ _ (X0_0 m c t) (iblk m c 1 t) (iblk m c 2 t) _)
  isplitl [H0]; · iexact H0
  isplitl [H1]; · iexact H1
  isplitl [H2]; · iexact H2
  isplitl [H3]; · iexists _; iexact H3
  isplitl [HA]; · iexact HA
  isplitl [HB]; · iexact HB
  isplitl [HC]; · iexact HC
  iintro ⟨H0, H1, H2, H3, HA, HB, HC⟩
  isplitl [HA HB HC Hr]
  · isplitl [HA HB HC]
    · isplitl [HA]; · iexact HA
      isplitl [HB]; · iexact HB
      iexact HC
    iexact Hr
  isplitl [Ho]; · iexact Ho
  isplitl [H0]; · iexact H0
  isplitl [H1]; · iexact H1
  isplitl [H2]; · iexact H2
  iexact H3

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
set_option maxHeartbeats 1600000 in
/-- The launch: every run ends, with the arrays as the pipeline's data say and every semaphore counter at zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every run ends with the arguments unchanged and every semaphore counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.Sb
end
-- ==== Proof.Sb.Head.lean ====
/-
  Stick-breaking attention of one head and the gradient of its queries, keys and values, in real numbers: a query
  `i` gives the key `j` before it the weight exp (z i j - the softplus of the scores from j on).
-/
module

public import Mathlib.Analysis.SpecialFunctions.Log.Basic
public import Mathlib.Algebra.BigOperators.Intervals

@[expose] public section

noncomputable section

namespace Cert.Sb

open Finset

/-- The softplus of a score. -/
def soft (z : ℝ) : ℝ := Real.log (1 + Real.exp z)

namespace Head

variable (q k v d : ℕ → ℕ → ℝ)

/-- The scaled score of a query and a key. -/
def z (i j : ℕ) : ℝ := (∑ e ∈ range 64, q i e * k j e) * (1 / 8)
/-- Its softplus where the key is before the query. -/
def sp (i j : ℕ) : ℝ := if j < i then soft (z q k i j) else 0
/-- The weight of a key. -/
def w (i j : ℕ) : ℝ := if j < i then Real.exp (z q k i j - ∑ c ∈ Ico j i, sp q k i c) else 0
/-- The gradient of a weight. -/
def pr (i j : ℕ) : ℝ := ∑ e ∈ range 64, d i e * v j e
/-- Weight times its gradient. -/
def g (i j : ℕ) : ℝ := w q k i j * pr v d i j
/-- The gradient of a score. -/
def dz (i j : ℕ) : ℝ :=
  if j < i then g q k v d i j - Real.exp (z q k i j - sp q k i j) * ∑ c ∈ range (j + 1), g q k v d i c else 0
/-- The output. -/
def o (i e : ℕ) : ℝ := ∑ j ∈ range 2048, w q k i j * v j e
/-- The gradients of the queries, the keys and the values. -/
def dq (i e : ℕ) : ℝ := (∑ j ∈ range 2048, dz q k v d i j * k j e) * (1 / 8)
def dk (j e : ℕ) : ℝ := ∑ i ∈ range 2048, dz q k v d i j * (q i e * (1 / 8))
def dv (j e : ℕ) : ℝ := ∑ i ∈ range 2048, w q k i j * d i e

theorem sp_of_le {i j : ℕ} (h : i ≤ j) : sp q k i j = 0 := if_neg (by omega)
theorem w_of_le {i j : ℕ} (h : i ≤ j) : w q k i j = 0 := if_neg (by omega)
theorem g_of_le {i j : ℕ} (h : i ≤ j) : g q k v d i j = 0 := by rw [g, w_of_le q k h, zero_mul]
theorem dz_of_le {i j : ℕ} (h : i ≤ j) : dz q k v d i j = 0 := if_neg (by omega)

/-- The sum over the features of cotangent times output is the sum over the keys of weight times its gradient. -/
theorem sum_mul_o (i : ℕ) : ∑ e ∈ range 64, d i e * o q k v i e = ∑ j ∈ range 2048, g q k v d i j := by
  simp only [o, g, pr, mul_sum]
  rw [sum_comm]
  refine sum_congr rfl fun j _ => sum_congr rfl fun e _ => ?_
  ring

/-- A sum over a range beyond the query ends at the query, where the terms are zero from there on. -/
theorem sum_Ico_cut (f : ℕ → ℝ) {a i n : ℕ} (hin : i ≤ n) (h : ∀ c, i ≤ c → f c = 0) :
    ∑ c ∈ Ico a n, f c = ∑ c ∈ Ico a i, f c := by
  rcases Nat.lt_or_ge i a with h1 | h1
  · rw [sum_eq_zero fun c hc => h c (by have := mem_Ico.mp hc; omega), Ico_eq_empty (by omega), sum_empty]
  · rw [← sum_Ico_consecutive f h1 hin, sum_eq_zero (s := Ico i n) fun c hc => h c (mem_Ico.mp hc).1, add_zero]

end Head

/-! ### Sums of a tile -/

/-- The columns of a tile from `x` on. -/
theorem sum_from (f : ℕ → ℝ) (b : ℕ) (x : ℕ) :
    ∑ t : Fin 256, (if x ≤ t.val then f (b + t.val) else 0) = ∑ c ∈ Ico (b + x) (b + 256), f c := by
  rw [← Finset.sum_range (fun t => if x ≤ t then f (b + t) else 0), ← sum_filter]
  have : (range 256).filter (fun t => x ≤ t) = Ico x 256 := by ext; simp; omega
  rw [this, sum_Ico_add (fun c => f c) x 256 b, add_comm x b, add_comm 256 b]

/-- The columns of a tile after `x`. -/
theorem sum_after (f : ℕ → ℝ) (b : ℕ) (x : ℕ) :
    ∑ t : Fin 256, (if x < t.val then f (b + t.val) else 0) = ∑ c ∈ Ico (b + x + 1) (b + 256), f c :=
  sum_from f b (x + 1)

theorem sum_tile (f : ℕ → ℝ) (b : ℕ) : ∑ t : Fin 256, f (b + t.val) = ∑ c ∈ Ico b (b + 256), f c := by
  simpa using sum_from f b 0

/-- Of two halves, one. -/
theorem sum_half (n : ℕ) (f : ℕ → ℝ) (s : ℕ) (hs : s < 2) :
    ∑ l ∈ range (n + n), (if l / n = s then f (l % n) else 0) = ∑ e ∈ range n, f e := by
  rw [sum_range_add]
  have h1 : ∑ e ∈ range n, (if e / n = s then f (e % n) else 0) = if 0 = s then ∑ e ∈ range n, f e else 0 := by
    rw [sum_congr rfl fun e he => by rw [Nat.div_eq_of_lt (mem_range.mp he), Nat.mod_eq_of_lt (mem_range.mp he)]]
    split <;> simp
  have h2 : ∑ e ∈ range n, (if (n + e) / n = s then f ((n + e) % n) else 0) = if 1 = s then ∑ e ∈ range n, f e else 0 := by
    rw [sum_congr rfl fun e he => by
      have := mem_range.mp he
      rw [Nat.add_div_left _ (by omega), Nat.div_eq_of_lt this, Nat.add_mod_left, Nat.mod_eq_of_lt this]]
    split <;> simp_all
  rw [h1, h2]
  obtain rfl | rfl : s = 0 ∨ s = 1 := by omega
  · simp
  · simp

/-- Of 128 lanes, the 64 of one head. -/
theorem sum_lanes (f : ℕ → ℝ) (s : ℕ) (hs : s < 2) :
    ∑ l : Fin 128, (if l.val / 64 = s then f (l.val % 64) else 0) = ∑ e ∈ range 64, f e := by
  rw [← Finset.sum_range (fun l => if l / 64 = s then f (l % 64) else 0)]; exact sum_half 64 f s hs

/-- Of 512 stacked rows, the 256 of one head. -/
theorem sum_stacked (f : ℕ → ℝ) (s : ℕ) (hs : s < 2) :
    ∑ q : Fin 512, (if q.val / 256 = s then f (q.val % 256) else 0) = ∑ u ∈ range 256, f u := by
  rw [← Finset.sum_range (fun l => if l / 256 = s then f (l % 256) else 0)]; exact sum_half 256 f s hs

end Cert.Sb

end
-- ==== Proof.Sb.Tile.lean ====
/-
  A tile of the stick-breaking gradient over the extended reals: where the scores and the products of cotangent and
  values are real numbers and no score is above 60, every vector that the tile computes is a vector of real numbers,
  given here in closed form. Casts are identities there, so the second half of each split sum is zero.
-/
module

public import proofs.«01_k».proof.Proof.Sb.Model
public import proofs.«01_k».proof.Proof.Sb.Head
public import Idealize.ShloMosaic.Lib.Pointwise
public import Idealize.ShloMosaic.Lib.WordCmp

@[expose] public section

set_option maxRecDepth 16384

noncomputable section

namespace Cert.Sb

open Idealize.ShloMosaic Idealize.ShloMosaic.TcCoe Idealize.ShloMosaic.VecWindow
open Cert.SbKernelIdeal Cert.SbKernelIdeal.Gen

/-- A sum of real numbers, summed as extended reals. -/
theorem coe_sum {ι : Type} (s : Finset ι) (f : ι → ℝ) : ((∑ k ∈ s, f k : ℝ) : EReal) = ∑ k ∈ s, (f k : EReal) := by
  induction s using Finset.cons_induction with
  | empty => simp
  | cons a s h ih => rw [Finset.sum_cons, Finset.sum_cons, EReal.coe_add, ih]

theorem bits_60 : Ideal.ofBits FTy.f32 1114636288#32 = ((60 : ℝ) : EReal) := by
  simp [Ideal.ofBits, Ideal.ieee]; rw [← EReal.coe_mul]; norm_num

theorem bits_eighth : Ideal.ofBits FTy.f32 1040187392#32 = ((1 / 8 : ℝ) : EReal) := by
  simp [Ideal.ofBits, Ideal.ieee]; rw [← EReal.coe_mul]; norm_num

theorem bits_eighth_bf16 : Ideal.ofBits FTy.bf16 15872#16 = ((1 / 8 : ℝ) : EReal) := by
  simp [Ideal.ofBits, Ideal.ieee]; rw [← EReal.coe_mul]; norm_num

/-- A comparison of words is the comparison of the numbers below half the range that they hold. -/
theorem word_lt (a b : ℕ) (ha : a < 2 ^ 31) (hb : b < 2 ^ 31) :
    ((BitVec.ofNat 32 a).toInt < (BitVec.ofNat 32 b).toInt) = (a < b) := by
  rw [WordCmp.toInt_ofNat_of_lt (by omega), WordCmp.toInt_ofNat_of_lt (by omega)]; simp

theorem word_le (a b : ℕ) (ha : a < 2 ^ 31) (hb : b < 2 ^ 31) :
    ((BitVec.ofNat 32 a).toInt ≤ (BitVec.ofNat 32 b).toInt) = (a ≤ b) := by
  rw [WordCmp.toInt_ofNat_of_lt (by omega), WordCmp.toInt_ofNat_of_lt (by omega)]; simp

/-- A truth value as a number. -/
theorem bool_number (p : Prop) [Decidable p] :
    (FloatOps.sitofp FTy.f32 (BitVec.setWidth 32 (BitVec.ofBool (decide p))) : Ideal .f32) = if p then 1 else 0 := by
  change ((((BitVec.setWidth 32 (BitVec.ofBool (decide p))).toInt : ℝ)) : EReal) = _
  by_cases h : p <;> simp [h]

/-- The triangle of ones that sums from a column on, twice over. -/
theorem tri_incl (q : Fin 512) (x : Fin 256) :
    (k0_pay97 (F := Ideal)) (ix2 q x) = if x.val ≤ q.val % 256 then 1 else 0 := by
  pointwise [k0_pay97]
  simp only [WordCmp.cmpi_sge_eq, word_le _ _ (show x.val < 2 ^ 31 by omega) (show q.val < 2 ^ 31 by omega),
    word_le _ _ (show x.val < 2 ^ 31 by omega) (show q.val - 256 < 2 ^ 31 by omega), bool_number]
  split
  · rw [Nat.mod_eq_of_lt (by omega)]
  · rw [show q.val % 256 = q.val - 256 by omega]

/-- The triangle of ones that sums after a column, twice over. -/
theorem tri_excl (q : Fin 512) (x : Fin 256) :
    (k0_pay98 (F := Ideal)) (ix2 q x) = if x.val < q.val % 256 then 1 else 0 := by
  pointwise [k0_pay98]
  simp only [WordCmp.cmpi_sgt_eq, word_lt _ _ (show x.val < 2 ^ 31 by omega) (show q.val < 2 ^ 31 by omega),
    word_lt _ _ (show x.val < 2 ^ 31 by omega) (show q.val - 256 < 2 ^ 31 by omega), bool_number]
  split
  · rw [Nat.mod_eq_of_lt (by omega)]
  · rw [show q.val % 256 = q.val - 256 by omega]

/-- Within the diagonal tile a query sees the keys strictly before it. -/
theorem diag (q : Fin 512) (x : Fin 256) : k0_pay96 (ix2 q x) = BitVec.ofBool (decide (x.val < q.val % 256)) := by
  pointwise [k0_pay96]
  have h : IntOp.andi (BitVec.ofNat 32 q.val) 255#32 = BitVec.ofNat 32 (q.val % 256) := by
    revert q; decide +kernel
  rw [h, WordCmp.cmpi_sgt_eq]
  simp only [word_lt _ _ (show x.val < 2 ^ 31 by omega) (show q.val % 256 < 2 ^ 31 by omega)]

/-- A row times a doubled triangle, the second copy meeting zeros: the sum over the columns that the triangle keeps. -/
theorem split_sum (f : Fin 256 → EReal) (φ : Fin 256 → ℝ) (hf : ∀ k, f k = (φ k : EReal)) (p : Fin 256 → Prop) [DecidablePred p]
    (t u : Fin 256 → EReal) (ht : ∀ k, t k = if p k then 1 else 0) (hu : ∀ k, u k = if p k then 1 else 0) :
    (∑ k, f k * t k) + ∑ k, (f k - f k) * u k = ((∑ k, if p k then φ k else 0 : ℝ) : EReal) := by
  have h0 : ∑ k, (f k - f k) * u k = 0 := Finset.sum_eq_zero fun k _ => by
    rw [hf k, ← EReal.coe_sub, sub_self, EReal.coe_zero, zero_mul]
  rw [h0, add_zero, coe_sum]
  refine Finset.sum_congr rfl fun k _ => ?_
  rw [hf k, ht k]
  split <;> simp

theorem log_one_add_exp (z : ℝ) : Ideal.log (1 + Ideal.exp (z : EReal)) = (soft z : EReal) := by
  have h : (1 : EReal) + Ideal.exp (z : EReal) = ((1 + Real.exp z : ℝ) : EReal) := by
    rw [Ideal.exp_coe, EReal.coe_add, EReal.coe_one]
  rw [h, Ideal.log_coe, if_neg (by have := Real.exp_pos z; linarith), soft]

theorem select_ofBool {α : Type} (p : Prop) [Decidable p] (x y : α) :
    Scalar.select (BitVec.ofBool (decide p)) x y = if p then x else y := by
  by_cases h : p <;> simp [h, Scalar.select]

/-- What the tile holds of a row, in real numbers: `ζ` the scores, `π` the products of cotangent and values, `L` the
    softplus summed over the later tiles, `R` what is left of the row's sum, `p` the keys that the query sees. -/
structure Row where
  ζ : Fin 256 → ℝ
  π : Fin 256 → ℝ
  L : ℝ
  R : ℝ
  p : Fin 256 → Prop
  dec : DecidablePred p

namespace Row

instance (w : Row) : DecidablePred w.p := w.dec

variable (w : Row)

/-- The softplus of the keys seen. -/
def sp (x : Fin 256) : ℝ := if w.p x then soft (w.ζ x) else 0
/-- The weights. -/
def wt (x : Fin 256) : ℝ := if w.p x then Real.exp (w.ζ x - (∑ k, if x.val ≤ k.val then w.sp k else 0) - w.L) else 0
/-- Weight times its gradient. -/
def g (x : Fin 256) : ℝ := w.wt x * w.π x
/-- The scores' gradient. -/
def dz (x : Fin 256) : ℝ :=
  if w.p x then w.g x - Real.exp (w.ζ x - w.sp x) * (w.R - ∑ k, if x.val < k.val then w.g k else 0) else 0

end Row

variable (a b : FVec Ideal S512x128 .bf16) (l r : FVec Ideal S512x1 .f32) (kt vt : Vec Ideal S1x256x128 .bf16)

/-- The tile's arguments at a row are those real numbers. -/
structure Holds (w : Fin 512 → Row) : Prop where
  score : ∀ q x, ∑ e, a (ix2 q e) * kt (ix3 0 x e) = ((w q).ζ x : EReal)
  prod : ∀ q x, ∑ e, b (ix2 q e) * vt (ix3 0 x e) = ((w q).π x : EReal)
  later : ∀ q, l (ix2 q 0) = ((w q).L : EReal)
  rest : ∀ q, r (ix2 q 0) = ((w q).R : EReal)
  cap : ∀ q x, (w q).p x → (w q).ζ x ≤ 60

theorem pay32_apply (q : Fin 512) (x : Fin 256) :
    k0_pay32 a kt (ix2 q x) = min (∑ e, a (ix2 q e) * kt (ix3 0 x e)) ((60 : ℝ) : EReal) := by
  pointwise [k0_pay32, k0_pay31]; rw [bits_60]

theorem pay33_apply (q : Fin 512) (x : Fin 256) :
    k0_pay33 a kt (ix2 q x) = Ideal.log (1 + Ideal.exp (k0_pay32 a kt (ix2 q x))) := by
  pointwise [k0_pay33]

theorem pay34_apply (t : FVec Ideal S512x256 .bf16) (q : Fin 512) (x : Fin 256) :
    k0_pay34 t a l kt (ix2 q x) = Ideal.exp (k0_pay32 a kt (ix2 q x)
      - ((∑ k : Fin 256, k0_pay33 a kt (ix2 q k) * t (ix2 ⟨k.val, by omega⟩ x))
        + ∑ k : Fin 256, (k0_pay33 a kt (ix2 q k) - k0_pay33 a kt (ix2 q k)) * t (ix2 ⟨256 + k.val, by omega⟩ x)) - l (ix2 q 0)) := by
  pointwise [k0_pay34]

theorem pay35_apply (t : FVec Ideal S512x256 .bf16) (q : Fin 512) (x : Fin 256) :
    k0_pay35 t a b l kt vt (ix2 q x) = k0_pay34 t a l kt (ix2 q x) * ∑ e, b (ix2 q e) * vt (ix3 0 x e) := by
  pointwise [k0_pay35]

theorem pay36_apply (q : Fin 512) (x : Fin 256) :
    k0_pay36 a kt (ix2 q x) = Ideal.exp (k0_pay32 a kt (ix2 q x) - k0_pay33 a kt (ix2 q x)) := by
  pointwise [k0_pay36]

theorem pay37_apply (t u : FVec Ideal S512x256 .bf16) (q : Fin 512) (x : Fin 256) :
    k0_pay37 t u a b l kt vt (ix2 q x) =
      (∑ k : Fin 256, k0_pay35 t a b l kt vt (ix2 q k) * u (ix2 ⟨k.val, by omega⟩ x))
        + ∑ k : Fin 256, (k0_pay35 t a b l kt vt (ix2 q k) - k0_pay35 t a b l kt vt (ix2 q k)) * u (ix2 ⟨256 + k.val, by omega⟩ x) := by
  pointwise [k0_pay37]

theorem pay39_apply (g e s : FVec Ideal S512x256 .f32) (q : Fin 512) (x : Fin 256) :
    k0_pay39 g e s (k0_pay38 r) (ix2 q x) = g (ix2 q x) - e (ix2 q x) * (r (ix2 q 0) - s (ix2 q x)) := by
  pointwise [k0_pay39, k0_pay38]

theorem pay4_apply (m : IVec S512x256 1) (q : Fin 512) (x : Fin 256) :
    k0_pay4 m a kt (ix2 q x) = Scalar.select (m (ix2 q x)) (k0_pay33 a kt (ix2 q x)) 0 := by
  pointwise [k0_pay4]; rw [pay33_apply]; rfl

theorem pay5_apply (m : IVec S512x256 1) (t : FVec Ideal S512x256 .bf16) (q : Fin 512) (x : Fin 256) :
    k0_pay5 m t a l kt (ix2 q x) = Scalar.select (m (ix2 q x)) (Ideal.exp (k0_pay32 a kt (ix2 q x)
      - ((∑ k : Fin 256, k0_pay4 m a kt (ix2 q k) * t (ix2 ⟨k.val, by omega⟩ x))
        + ∑ k : Fin 256, (k0_pay4 m a kt (ix2 q k) - k0_pay4 m a kt (ix2 q k)) * t (ix2 ⟨256 + k.val, by omega⟩ x)) - l (ix2 q 0))) 0 := by
  pointwise [k0_pay5]; rfl

theorem pay6_apply (m : IVec S512x256 1) (t : FVec Ideal S512x256 .bf16) (q : Fin 512) (x : Fin 256) :
    k0_pay6 m t a b l kt vt (ix2 q x) = k0_pay5 m t a l kt (ix2 q x) * ∑ e, b (ix2 q e) * vt (ix3 0 x e) := by
  pointwise [k0_pay6]

theorem pay7_apply (m : IVec S512x256 1) (t u : FVec Ideal S512x256 .bf16) (q : Fin 512) (x : Fin 256) :
    k0_pay7 m t u a b r l kt vt (ix2 q x) = k0_pay6 m t a b l kt vt (ix2 q x)
      - Ideal.exp (k0_pay32 a kt (ix2 q x) - k0_pay4 m a kt (ix2 q x)) * (r (ix2 q 0)
        - ((∑ k : Fin 256, k0_pay6 m t a b l kt vt (ix2 q k) * u (ix2 ⟨k.val, by omega⟩ x))
        + ∑ k : Fin 256, (k0_pay6 m t a b l kt vt (ix2 q k) - k0_pay6 m t a b l kt vt (ix2 q k)) * u (ix2 ⟨256 + k.val, by omega⟩ x))) := by
  pointwise [k0_pay7]; rfl

theorem pay8_apply (m : IVec S512x256 1) (s : FVec Ideal S512x256 .f32) (q : Fin 512) (x : Fin 256) :
    k0_pay8 m s (ix2 q x) = Scalar.select (m (ix2 q x)) (s (ix2 q x)) 0 := by
  pointwise [k0_pay8]

namespace Holds

variable {a b l r kt vt} {w : Fin 512 → Row} (h : Holds a b l r kt vt w)
include h

/-- The capped score is the score where the query sees the key. -/
theorem score_eq (q : Fin 512) (x : Fin 256) (hp : (w q).p x) : k0_pay32 a kt (ix2 q x) = ((w q).ζ x : EReal) := by
  rw [pay32_apply, h.score, min_eq_left (EReal.coe_le_coe_iff.mpr (h.cap q x hp))]

/-! ### A tile wholly seen -/

section All
variable (hall : ∀ q x, (w q).p x)
include hall

theorem soft_all (q : Fin 512) (x : Fin 256) : k0_pay33 a kt (ix2 q x) = ((w q).sp x : EReal) := by
  rw [pay33_apply, h.score_eq q x (hall q x), log_one_add_exp, Row.sp, if_pos (hall q x)]

theorem weight_all (q : Fin 512) (x : Fin 256) : k0_pay34 k0_pay97 a l kt (ix2 q x) = ((w q).wt x : EReal) := by
  rw [pay34_apply, split_sum (fun k => k0_pay33 a kt (ix2 q k)) (w q).sp (h.soft_all hall q) (fun k => x.val ≤ k.val) _ _
    (fun k => by rw [tri_incl]; congr 2; simp) (fun k => by rw [tri_incl]; congr 2; simp),
    h.score_eq q x (hall q x), h.later, ← EReal.coe_sub, ← EReal.coe_sub, Ideal.exp_coe, Row.wt, if_pos (hall q x)]

theorem g_all (q : Fin 512) (x : Fin 256) : k0_pay35 k0_pay97 a b l kt vt (ix2 q x) = ((w q).g x : EReal) := by
  rw [pay35_apply, h.weight_all hall, h.prod, ← EReal.coe_mul, Row.g]

theorem dz_all (q : Fin 512) (x : Fin 256) :
    k0_pay39 (k0_pay35 k0_pay97 a b l kt vt) (k0_pay36 a kt) (k0_pay37 k0_pay97 k0_pay98 a b l kt vt) (k0_pay38 r) (ix2 q x)
      = ((w q).dz x : EReal) := by
  rw [pay39_apply, pay37_apply, split_sum (fun k => k0_pay35 k0_pay97 a b l kt vt (ix2 q k)) (w q).g (h.g_all hall q) (fun k => x.val < k.val) _ _
    (fun k => by rw [tri_excl]; congr 2; simp) (fun k => by rw [tri_excl]; congr 2; simp),
    pay36_apply, h.score_eq q x (hall q x), h.soft_all hall, h.g_all hall, h.rest, ← EReal.coe_sub, ← EReal.coe_sub, Ideal.exp_coe,
    ← EReal.coe_mul, ← EReal.coe_sub, Row.dz, if_pos (hall q x)]

end All

/-! ### The tile on the diagonal -/

section Diag
variable (hdiag : ∀ q x, (w q).p x ↔ x.val < q.val % 256)
include hdiag

theorem soft_diag (q : Fin 512) (x : Fin 256) : k0_pay4 k0_pay96 a kt (ix2 q x) = ((w q).sp x : EReal) := by
  rw [pay4_apply, diag, select_ofBool, Row.sp]
  by_cases hp : (w q).p x
  · rw [if_pos ((hdiag q x).mp hp), if_pos hp, pay33_apply, h.score_eq q x hp, log_one_add_exp]
  · rw [if_neg (fun e => hp ((hdiag q x).mpr e)), if_neg hp, EReal.coe_zero]

theorem weight_diag (q : Fin 512) (x : Fin 256) : k0_pay5 k0_pay96 k0_pay97 a l kt (ix2 q x) = ((w q).wt x : EReal) := by
  rw [pay5_apply, split_sum (fun k => k0_pay4 k0_pay96 a kt (ix2 q k)) (w q).sp (h.soft_diag hdiag q) (fun k => x.val ≤ k.val) _ _
    (fun k => by rw [tri_incl]; congr 2; simp) (fun k => by rw [tri_incl]; congr 2; simp),
    diag, select_ofBool, Row.wt]
  by_cases hp : (w q).p x
  · rw [if_pos ((hdiag q x).mp hp), if_pos hp, h.score_eq q x hp, h.later, ← EReal.coe_sub, ← EReal.coe_sub, Ideal.exp_coe]
  · rw [if_neg (fun e => hp ((hdiag q x).mpr e)), if_neg hp, EReal.coe_zero]

theorem g_diag (q : Fin 512) (x : Fin 256) : k0_pay6 k0_pay96 k0_pay97 a b l kt vt (ix2 q x) = ((w q).g x : EReal) := by
  rw [pay6_apply, h.weight_diag hdiag, h.prod, ← EReal.coe_mul, Row.g]

theorem dz_diag (q : Fin 512) (x : Fin 256) :
    k0_pay8 k0_pay96 (k0_pay7 k0_pay96 k0_pay97 k0_pay98 a b r l kt vt) (ix2 q x) = ((w q).dz x : EReal) := by
  rw [pay8_apply, pay7_apply, split_sum (fun k => k0_pay6 k0_pay96 k0_pay97 a b l kt vt (ix2 q k)) (w q).g (h.g_diag hdiag q) (fun k => x.val < k.val) _ _
    (fun k => by rw [tri_excl]; congr 2; simp) (fun k => by rw [tri_excl]; congr 2; simp),
    diag, select_ofBool, Row.dz]
  by_cases hp : (w q).p x
  · rw [if_pos ((hdiag q x).mp hp), if_pos hp, h.score_eq q x hp, h.soft_diag hdiag, h.g_diag hdiag, h.rest, ← EReal.coe_sub, ← EReal.coe_sub,
      Ideal.exp_coe, ← EReal.coe_mul, ← EReal.coe_sub]
  · rw [if_neg (fun e => hp ((hdiag q x).mpr e)), if_neg hp, EReal.coe_zero]

end Diag

end Holds

end Cert.Sb

end
-- ==== Proof.Sb.Steps.lean ====
/-
  One program of the stick-breaking gradient's grid over the extended reals: if its three blocks hold the queries, keys
  and values, the cotangent and the output of two heads in real numbers, its output holds the two heads' gradients.
-/
module

public import proofs.«01_k».proof.Proof.Sb.Tile

@[expose] public section

set_option maxRecDepth 16384

noncomputable section

namespace Cert.Sb

open Idealize.ShloMosaic Idealize.ShloMosaic.TcCoe Idealize.ShloMosaic.VecWindow Finset
open Cert.SbKernelIdeal Cert.SbKernelIdeal.Gen

/-- Queries, keys, values and cotangent of two heads: by head, position and feature. -/
structure Heads where
  q : ℕ → ℕ → ℕ → ℝ
  k : ℕ → ℕ → ℕ → ℝ
  v : ℕ → ℕ → ℕ → ℝ
  d : ℕ → ℕ → ℕ → ℝ

namespace Heads
variable (H : Heads)
abbrev z (s : ℕ) := Head.z (H.q s) (H.k s)
abbrev sp (s : ℕ) := Head.sp (H.q s) (H.k s)
abbrev w (s : ℕ) := Head.w (H.q s) (H.k s)
abbrev pr (s : ℕ) := Head.pr (H.v s) (H.d s)
abbrev g (s : ℕ) := Head.g (H.q s) (H.k s) (H.v s) (H.d s)
abbrev dz (s : ℕ) := Head.dz (H.q s) (H.k s) (H.v s) (H.d s)

/-- What the tile of block `i` of the queries and block `j` of the keys holds of a stacked row. -/
def rowAt (i j : ℕ) (u : Fin 512) : Row where
  ζ x := H.z (u.val / 256) (256 * i + u.val % 256) (256 * j + x.val)
  π x := H.pr (u.val / 256) (256 * i + u.val % 256) (256 * j + x.val)
  L := ∑ c ∈ Ico (256 * j + 256) (256 * i + 256), H.sp (u.val / 256) (256 * i + u.val % 256) c
  R := ∑ c ∈ range (256 * j + 256), H.g (u.val / 256) (256 * i + u.val % 256) c
  p x := 256 * j + x.val < 256 * i + u.val % 256
  dec _ := inferInstance

variable (i j : ℕ) (u : Fin 512) (x : Fin 256)

theorem rowAt_sp : (H.rowAt i j u).sp x = H.sp (u.val / 256) (256 * i + u.val % 256) (256 * j + x.val) := rfl

theorem rowAt_wt (hij : j ≤ i) : (H.rowAt i j u).wt x = H.w (u.val / 256) (256 * i + u.val % 256) (256 * j + x.val) := by
  unfold Row.wt w Head.w
  refine if_congr Iff.rfl (congrArg Real.exp ?_) rfl
  simp only [rowAt_sp]
  rw [sum_from (fun c => H.sp (u.val / 256) (256 * i + u.val % 256) c) (256 * j) x.val, sub_sub]
  refine congrArg₂ _ rfl ?_
  unfold rowAt
  rw [sum_Ico_consecutive _ (by omega) (by omega)]
  exact Head.sum_Ico_cut _ (by omega) fun c hc => Head.sp_of_le _ _ hc

theorem rowAt_g (hij : j ≤ i) : (H.rowAt i j u).g x = H.g (u.val / 256) (256 * i + u.val % 256) (256 * j + x.val) := by
  rw [Row.g, rowAt_wt H i j u x hij]; rfl

theorem rowAt_dz (hij : j ≤ i) : (H.rowAt i j u).dz x = H.dz (u.val / 256) (256 * i + u.val % 256) (256 * j + x.val) := by
  unfold Row.dz dz Head.dz
  refine if_congr Iff.rfl ?_ rfl
  simp only [rowAt_g H i j u _ hij, rowAt_sp]
  rw [sum_after (fun c => H.g (u.val / 256) (256 * i + u.val % 256) c) (256 * j) x.val]
  refine congrArg₂ _ rfl (congrArg₂ _ rfl ?_)
  unfold rowAt
  rw [sub_eq_iff_eq_add, range_eq_Ico, range_eq_Ico, sum_Ico_consecutive _ (by omega) (by omega)]

end Heads

/-- The three blocks hold two heads' numbers, and no score of a key before its query is above 60. -/
structure Blocks (H : Heads) (X : Vec Ideal S1x2048x384 .bf16) (Y : Vec Ideal S1x2048x128 .bf16) (O : Vec Ideal S1x2048x128 .f32) : Prop where
  q : ∀ (n : Fin 2048) (l : Fin 128), X (ix3 0 n ⟨l.val, by omega⟩) = (H.q (l.val / 64) n.val (l.val % 64) : EReal)
  k : ∀ (n : Fin 2048) (l : Fin 128), X (ix3 0 n ⟨128 + l.val, by omega⟩) = (H.k (l.val / 64) n.val (l.val % 64) : EReal)
  v : ∀ (n : Fin 2048) (l : Fin 128), X (ix3 0 n ⟨256 + l.val, by omega⟩) = (H.v (l.val / 64) n.val (l.val % 64) : EReal)
  d : ∀ (n : Fin 2048) (l : Fin 128), Y (ix3 0 n l) = (H.d (l.val / 64) n.val (l.val % 64) : EReal)
  o : ∀ (n : Fin 2048) (l : Fin 128), O (ix3 0 n l) =
    (Head.o (H.q (l.val / 64)) (H.k (l.val / 64)) (H.v (l.val / 64)) n.val (l.val % 64) : EReal)
  cap : ∀ s i j, s < 2 → j < i → i < 2048 → H.z s i j ≤ 60

/-! ### Windows of the blocks -/

theorem window_x (X : Vec Ideal S1x2048x384 .bf16) (i : Fin 8) (c : ℕ) (hc : c + 128 ≤ 384)
    (inb : ∀ a, (![0, 256 * i.val, c] : Fin 3 → ℕ) a + S1x256x128.size a ≤ S1x2048x384.size a) (r : Fin 256) (l : Fin 128) :
    window X ![0, 256 * i.val, c] S1x256x128.size inb (ix3 0 r l) = X (ix3 0 ⟨256 * i.val + r.val, by omega⟩ ⟨c + l.val, by omega⟩) := by
  unfold window
  congr 1; funext a; apply Fin.ext
  match a with
  | ⟨0, _⟩ => rfl
  | ⟨1, _⟩ => simp [Rect.unit, Rect.emb, ix3]
  | ⟨2, _⟩ => simp [Rect.unit, Rect.emb, ix3]

theorem window_y {e : EltTy} (Y : Vec Ideal S1x2048x128 e) (i : Fin 8)
    (inb : ∀ a, (![0, 256 * i.val, 0] : Fin 3 → ℕ) a + S1x256x128.size a ≤ S1x2048x128.size a) (r : Fin 256) (l : Fin 128) :
    window Y ![0, 256 * i.val, 0] S1x256x128.size inb (ix3 0 r l) = Y (ix3 0 ⟨256 * i.val + r.val, by omega⟩ l) := by
  unfold window
  congr 1; funext a; apply Fin.ext
  match a with
  | ⟨0, _⟩ => rfl
  | ⟨1, _⟩ => simp [Rect.unit, Rect.emb, ix3]
  | ⟨2, _⟩ => simp [Rect.unit, Rect.emb, ix3]

theorem dTile_apply (D : Vec Ideal S2048x128 .f32) (j : Fin 8) (r : Fin 256) (l : Fin 128) :
    dTile D j (ix2 r l) = D (ix2 ⟨256 * j.val + r.val, by omega⟩ l) := by
  unfold dTile window
  congr 1; funext a; apply Fin.ext
  match a with
  | ⟨0, _⟩ => simp [Rect.unit, Rect.emb, ix2]
  | ⟨1, _⟩ => simp [Rect.unit, Rect.emb, ix2]

theorem put_rows (D : Vec Ideal S2048x128 .f32) (j : Fin 8) (W : Vec Ideal S256x128 .f32) (c : Fin 2048) (l : Fin 128) :
    put D ![256 * j.val, 0] S256x128.size W (ix2 c l) =
      if h : 256 * j.val ≤ c.val ∧ c.val < 256 * j.val + 256 then W (ix2 ⟨c.val - 256 * j.val, by omega⟩ l) else D (ix2 c l) := by
  unfold put
  by_cases h : 256 * j.val ≤ c.val ∧ c.val < 256 * j.val + 256
  · rw [dif_pos h, dif_pos]
    · congr 1; funext a; apply Fin.ext
      match a with
      | ⟨0, _⟩ => rfl
      | ⟨1, _⟩ => rfl
    · intro a
      match a with
      | ⟨0, _⟩ => exact h
      | ⟨1, _⟩ => exact ⟨Nat.zero_le _, by have := l.isLt; simpa [ix2] using this⟩
  · rw [dif_neg h, dif_neg]
    exact fun e => h (e 0)

variable {H : Heads} {X : Vec Ideal S1x2048x384 .bf16} {Y : Vec Ideal S1x2048x128 .bf16} {O : Vec Ideal S1x2048x128 .f32}

theorem lane_lt (l : Fin 128) : IntOp.cmpi .slt (BitVec.ofNat 32 l.val) 64#32 = BitVec.ofBool (decide (l.val < 64)) := by
  rw [WordCmp.cmpi_slt_eq]
  simp only [word_lt _ 64 (show l.val < 2 ^ 31 by omega) (by omega)]

/-- Stacking the heads keeps of each copy the lanes of one head. -/
theorem stack_cases {α : Type} (u : Fin 512) (l : Fin 128) (f : Fin 256 → α) (z : α) :
    (if h : u.val < 256 then Scalar.select (IntOp.cmpi .slt (BitVec.ofNat 32 l.val) 64#32) (f ⟨u.val, by omega⟩) z
      else Scalar.select (IntOp.cmpi .slt (BitVec.ofNat 32 l.val) 64#32) z (f ⟨u.val - 256, by omega⟩))
      = if l.val / 64 = u.val / 256 then f ⟨u.val % 256, by omega⟩ else z := by
  simp only [lane_lt, select_ofBool]
  by_cases h : u.val < 256 <;> by_cases h' : l.val < 64
  · rw [dif_pos h, if_pos h', if_pos (by omega)]; congr 2; omega
  · rw [dif_pos h, if_neg h', if_neg (by omega)]
  · rw [dif_neg h, if_pos h', if_neg (by omega)]
  · rw [dif_neg h, if_neg h', if_pos (by omega)]; congr 2; omega

theorem pay81_apply (x : Vec Ideal S1x256x128 .bf16) (u : Fin 512) (l : Fin 128) :
    k0_pay81 k0_pay95 x (ix2 u l) = if l.val / 64 = u.val / 256 then x (ix3 0 ⟨u.val % 256, by omega⟩ l) * ((1 / 8 : ℝ) : EReal) else 0 := by
  rw [← stack_cases u l (fun r => x (ix3 0 r l) * ((1 / 8 : ℝ) : EReal)) 0]
  pointwise [k0_pay81, k0_pay95]
  rw [bits_eighth_bf16]

theorem pay83_apply (x : Vec Ideal S1x256x128 .bf16) (u : Fin 512) (l : Fin 128) :
    k0_pay83 k0_pay95 x (ix2 u l) = if l.val / 64 = u.val / 256 then x (ix3 0 ⟨u.val % 256, by omega⟩ l) else 0 := by
  rw [← stack_cases u l (fun r => x (ix3 0 r l)) 0]
  pointwise [k0_pay83, k0_pay82, k0_pay95]

theorem pay84_apply (y : Vec Ideal S1x256x128 .bf16) (o : Vec Ideal S1x256x128 .f32) (u : Fin 512) :
    k0_pay84 k0_pay95 y o (ix2 u 0) = ∑ l : Fin 128,
      if l.val / 64 = u.val / 256 then y (ix3 0 ⟨u.val % 256, by omega⟩ l) * o (ix3 0 ⟨u.val % 256, by omega⟩ l) else 0 := by
  rw [sum_congr rfl fun l _ => (stack_cases u l (fun r => y (ix3 0 r l) * o (ix3 0 r l)) 0).symm]
  pointwise [k0_pay84, k0_pay82, k0_pay95]
  by_cases h : u.val < 256
  · simp only [h, dite_true]
  · simp only [h, dite_false]

namespace Blocks
variable (B : Blocks H X Y O)
include B

theorem qs_apply (i : Fin 8) (u : Fin 512) (l : Fin 128) :
    qs X i (ix2 u l) = ((if l.val / 64 = u.val / 256 then H.q (l.val / 64) (256 * i.val + u.val % 256) (l.val % 64) * (1 / 8) else 0 : ℝ) : EReal) := by
  have hw := fun r => (window_x X i 0 (by omega) (inb_q i) r l).trans
    ((congrArg X (by simp)).trans (B.q ⟨256 * i.val + r.val, by omega⟩ l))
  rw [qs, pay81_apply, hw]
  split
  · rw [EReal.coe_mul]
  · rfl

theorem dos_apply (i : Fin 8) (u : Fin 512) (l : Fin 128) :
    dos Y i (ix2 u l) = ((if l.val / 64 = u.val / 256 then H.d (l.val / 64) (256 * i.val + u.val % 256) (l.val % 64) else 0 : ℝ) : EReal) := by
  rw [dos, pay83_apply, window_y, B.d]
  split <;> rfl

theorem kTile_apply (j : Fin 8) (x : Fin 256) (l : Fin 128) :
    kTile X j (ix3 0 x l) = (H.k (l.val / 64) (256 * j.val + x.val) (l.val % 64) : EReal) :=
  (window_x X j 128 (by omega) (inb_k j) x l).trans (B.k ⟨256 * j.val + x.val, by omega⟩ l)

theorem vTile_apply (j : Fin 8) (x : Fin 256) (l : Fin 128) :
    vTile X j (ix3 0 x l) = (H.v (l.val / 64) (256 * j.val + x.val) (l.val % 64) : EReal) :=
  (window_x X j 256 (by omega) (inb_v j) x l).trans (B.v ⟨256 * j.val + x.val, by omega⟩ l)

theorem score_sum (i j : Fin 8) (u : Fin 512) (x : Fin 256) :
    ∑ l, qs X i (ix2 u l) * kTile X j (ix3 0 x l) = (H.z (u.val / 256) (256 * i.val + u.val % 256) (256 * j.val + x.val) : EReal) := by
  rw [Finset.sum_congr rfl fun l _ => by rw [B.qs_apply, B.kTile_apply, ← EReal.coe_mul, ite_mul, zero_mul], ← coe_sum]
  congr 1
  refine Eq.trans ?_ ((sum_lanes (fun e => H.q (u.val / 256) (256 * i.val + u.val % 256) e * (1 / 8) * H.k (u.val / 256) (256 * j.val + x.val) e)
    (u.val / 256) (by omega)).trans ?_)
  · refine sum_congr rfl fun l _ => ?_
    split
    · rename_i h; rw [h]
    · rfl
  · rw [Heads.z, Head.z, sum_mul]
    exact sum_congr rfl fun e _ => by ring

theorem prod_sum (i j : Fin 8) (u : Fin 512) (x : Fin 256) :
    ∑ l, dos Y i (ix2 u l) * vTile X j (ix3 0 x l) = (H.pr (u.val / 256) (256 * i.val + u.val % 256) (256 * j.val + x.val) : EReal) := by
  rw [Finset.sum_congr rfl fun l _ => by rw [B.dos_apply, B.vTile_apply, ← EReal.coe_mul, ite_mul, zero_mul], ← coe_sum]
  congr 1
  refine Eq.trans ?_ (sum_lanes (fun e => H.d (u.val / 256) (256 * i.val + u.val % 256) e * H.v (u.val / 256) (256 * j.val + x.val) e)
    (u.val / 256) (by omega))
  refine sum_congr rfl fun l _ => ?_
  split
  · rename_i h; rw [h]
  · rfl

theorem dsum_apply (i : Fin 8) (u : Fin 512) :
    dsum Y O i (ix2 u 0) = ((∑ c ∈ range (256 * i.val + 256), H.g (u.val / 256) (256 * i.val + u.val % 256) c : ℝ) : EReal) := by
  have e : ∀ l : Fin 128, (if l.val / 64 = u.val / 256 then
      window Y ![0, 256 * i.val, 0] S1x256x128.size (inb_o i) (ix3 0 ⟨u.val % 256, by omega⟩ l)
        * window O ![0, 256 * i.val, 0] S1x256x128.size (inb_o i) (ix3 0 ⟨u.val % 256, by omega⟩ l) else 0)
      = ((if l.val / 64 = u.val / 256 then H.d (u.val / 256) (256 * i.val + u.val % 256) (l.val % 64)
          * Head.o (H.q (u.val / 256)) (H.k (u.val / 256)) (H.v (u.val / 256)) (256 * i.val + u.val % 256) (l.val % 64) else 0 : ℝ) : EReal) := fun l => by
    rw [window_y, window_y, B.d, B.o]
    split
    · rename_i h; rw [← EReal.coe_mul, h]
    · rfl
  rw [dsum, pay84_apply, sum_congr rfl fun l _ => e l, ← coe_sum]
  congr 1
  rw [sum_lanes (fun e => H.d (u.val / 256) (256 * i.val + u.val % 256) e
    * Head.o (H.q (u.val / 256)) (H.k (u.val / 256)) (H.v (u.val / 256)) (256 * i.val + u.val % 256) e) _ (by omega), Head.sum_mul_o]
  rw [range_eq_Ico, range_eq_Ico, Head.sum_Ico_cut (i := 256 * i.val + u.val % 256) _ (by omega) (fun c hc => Head.g_of_le _ _ _ _ hc),
    Head.sum_Ico_cut (i := 256 * i.val + u.val % 256) (n := 256 * i.val + 256) _ (by omega) (fun c hc => Head.g_of_le _ _ _ _ hc)]

/-- What a tile's arguments hold. -/
theorem holds_tile (i j : Fin 8) (hij : j.val ≤ i.val) (l r : FVec Ideal S512x1 .f32)
    (hl : ∀ u, l (ix2 u 0) = ((∑ c ∈ Ico (256 * j.val + 256) (256 * i.val + 256), H.sp (u.val / 256) (256 * i.val + u.val % 256) c : ℝ) : EReal))
    (hr : ∀ u, r (ix2 u 0) = ((∑ c ∈ range (256 * j.val + 256), H.g (u.val / 256) (256 * i.val + u.val % 256) c : ℝ) : EReal)) :
    Holds (qs X i) (dos Y i) l r (kTile X j) (vTile X j) (H.rowAt i.val j.val) where
  score := B.score_sum i j
  prod := B.prod_sum i j
  later := hl
  rest := hr
  cap u x hp := B.cap _ _ _ (by omega) hp (by omega)

end Blocks

/-! ### One tile after another -/

/-- What is carried after the tile of block `i` of the queries and block `j` of the keys: the sums over the keys from that
    tile on, and what is added to the gradients `A` and `A'` of the keys and values. -/
structure At (H : Heads) (A A' : ℕ → ℕ → ℝ) (i j : ℕ) (s : St Ideal) : Prop where
  later : ∀ u, s.later (ix2 u 0) = ((∑ c ∈ Ico (256 * j) (256 * i + 256), H.sp (u.val / 256) (256 * i + u.val % 256) c : ℝ) : EReal)
  rest : ∀ u, s.rest (ix2 u 0) = ((∑ c ∈ range (256 * j), H.g (u.val / 256) (256 * i + u.val % 256) c : ℝ) : EReal)
  dq : ∀ (u : Fin 512) (l : Fin 128), s.dq (ix2 u l) = ((∑ c ∈ Ico (256 * j) (256 * i + 256),
    H.dz (u.val / 256) (256 * i + u.val % 256) c * H.k (l.val / 64) c (l.val % 64) : ℝ) : EReal)
  dk : ∀ (c : Fin 2048) (l : Fin 128), s.dk (ix2 c l) = ((A c.val l.val + if 256 * j ≤ c.val then
    ∑ ρ ∈ Ico (256 * i) (256 * i + 256), H.dz (l.val / 64) ρ c.val * (H.q (l.val / 64) ρ (l.val % 64) * (1 / 8)) else 0 : ℝ) : EReal)
  dv : ∀ (c : Fin 2048) (l : Fin 128), s.dv (ix2 c l) = ((A' c.val l.val + if 256 * j ≤ c.val then
    ∑ ρ ∈ Ico (256 * i) (256 * i + 256), H.w (l.val / 64) ρ c.val * H.d (l.val / 64) ρ (l.val % 64) else 0 : ℝ) : EReal)

theorem pay43_apply (l : FVec Ideal S512x1 .f32) (s : FVec Ideal S512x256 .f32) (u : Fin 512) :
    k0_pay43 l s (ix2 u 0) = l (ix2 u 0) + ∑ x, s (ix2 u x) := by pointwise [k0_pay43]

theorem pay44_apply (l : FVec Ideal S512x1 .f32) (s : FVec Ideal S512x256 .f32) (u : Fin 512) :
    k0_pay44 l s (ix2 u 0) = l (ix2 u 0) - ∑ x, s (ix2 u x) := by pointwise [k0_pay44]

theorem pay40_apply (k : Vec Ideal S1x256x128 .bf16) (a b c d : FVec Ideal S512x256 .f32) (D : Vec Ideal S512x128 .f32) (u : Fin 512) (l : Fin 128) :
    k0_pay40 (k0_pay31 k) a b c d D (ix2 u l) = D (ix2 u l) + ∑ x, k0_pay39 a b c d (ix2 u x) * k (ix3 0 x l) := by
  pointwise [k0_pay40, k0_pay31]

theorem pay41_apply (q : FVec Ideal S512x128 .bf16) (a b c d : FVec Ideal S512x256 .f32) (D : Vec Ideal S256x128 .f32) (x : Fin 256) (l : Fin 128) :
    k0_pay41 q a b c d D (ix2 x l) = D (ix2 x l) + ∑ u, k0_pay39 a b c d (ix2 u x) * q (ix2 u l) := by
  pointwise [k0_pay41]

theorem pay42_apply (q : FVec Ideal S512x128 .bf16) (a : FVec Ideal S512x256 .bf16) (D : Vec Ideal S256x128 .f32) (x : Fin 256) (l : Fin 128) :
    k0_pay42 q a D (ix2 x l) = D (ix2 x l) + ∑ u, a (ix2 u x) * q (ix2 u l) := by
  pointwise [k0_pay42]

theorem pay9_apply (m : IVec S512x256 1) (k : Vec Ideal S1x256x128 .bf16) (s : FVec Ideal S512x256 .f32) (u : Fin 512) (l : Fin 128) :
    k0_pay9 m (k0_pay2 k) s (ix2 u l) = ∑ x, k0_pay8 m s (ix2 u x) * k (ix3 0 x l) := by
  pointwise [k0_pay9, k0_pay2]

theorem pay10_apply (m : IVec S512x256 1) (q : FVec Ideal S512x128 .bf16) (s : FVec Ideal S512x256 .f32) (D : Vec Ideal S256x128 .f32) (x : Fin 256) (l : Fin 128) :
    k0_pay10 m q s D (ix2 x l) = D (ix2 x l) + ∑ u, k0_pay8 m s (ix2 u x) * q (ix2 u l) := by
  pointwise [k0_pay10]

theorem pay12_apply (l : FVec Ideal S512x1 .f32) (s : FVec Ideal S512x256 .f32) (u : Fin 512) :
    k0_pay12 l s (ix2 u 0) = l (ix2 u 0) + ∑ x, s (ix2 u x) := by pointwise [k0_pay12]

theorem pay13_apply (l : FVec Ideal S512x1 .f32) (s : FVec Ideal S512x256 .f32) (u : Fin 512) :
    k0_pay13 l s (ix2 u 0) = l (ix2 u 0) - ∑ x, s (ix2 u x) := by pointwise [k0_pay13]

theorem pay11_apply (q : FVec Ideal S512x128 .bf16) (a : FVec Ideal S512x256 .bf16) (D : Vec Ideal S256x128 .f32) (x : Fin 256) (l : Fin 128) :
    k0_pay11 q a D (ix2 x l) = D (ix2 x l) + ∑ u, a (ix2 u x) * q (ix2 u l) := by
  pointwise [k0_pay11]

/-- A product of a tile's numbers with the stacked rows, over the rows: the sum over one head's block of queries. -/
theorem rows_sum (f g : ℕ → ℕ → ℝ) (i : ℕ) (a b : Fin 512 → EReal) (l : Fin 128)
    (ha : ∀ u, a u = (f (u.val / 256) (256 * i + u.val % 256) : EReal))
    (hb : ∀ u, b u = ((if l.val / 64 = u.val / 256 then g (l.val / 64) (256 * i + u.val % 256) else 0 : ℝ) : EReal)) :
    ∑ u, a u * b u = ((∑ ρ ∈ Ico (256 * i) (256 * i + 256), f (l.val / 64) ρ * g (l.val / 64) ρ : ℝ) : EReal) := by
  rw [sum_congr rfl fun u _ => by rw [ha, hb, ← EReal.coe_mul], ← coe_sum]
  congr 1
  rw [sum_Ico_eq_sum_range, show 256 * i + 256 - 256 * i = 256 by omega,
    ← sum_stacked (fun t => f (l.val / 64) (256 * i + t) * g (l.val / 64) (256 * i + t)) (l.val / 64) (by omega)]
  refine sum_congr rfl fun u _ => ?_
  by_cases h : l.val / 64 = u.val / 256
  · rw [if_pos h, if_pos h.symm, h]
  · rw [if_neg h, if_neg (fun e => h e.symm), mul_zero]

end Cert.Sb

end
-- ==== Proof.Sb.Blocks.lean ====
/-
  The tiles of a block of queries one after another, and the blocks of queries one after another, over the extended
  reals: the output block holds the gradients of the two heads' queries, keys and values.
-/
module

public import proofs.«01_k».proof.Proof.Sb.Steps
public import proofs.«01_k».proof.Proof.Sb.Out

@[expose] public section

set_option maxRecDepth 16384

noncomputable section

namespace Cert.Sb

open Idealize.ShloMosaic Idealize.ShloMosaic.TcCoe Idealize.ShloMosaic.VecWindow Finset
open Cert.SbKernelIdeal Cert.SbKernelIdeal.Gen

variable {H : Heads} {X : Vec Ideal S1x2048x384 .bf16} {Y : Vec Ideal S1x2048x128 .bf16} {O : Vec Ideal S1x2048x128 .f32}

/-- A row of a tile's numbers times the keys: one more tile's worth of the sum over the keys. -/
theorem keys_sum (f : ℕ → ℝ) (g : ℕ → ℝ) (j : ℕ) (a b : Fin 256 → EReal)
    (ha : ∀ x : Fin 256, a x = (f (256 * j + x.val) : EReal)) (hb : ∀ x : Fin 256, b x = (g (256 * j + x.val) : EReal)) :
    ∑ x, a x * b x = ((∑ c ∈ Ico (256 * j) (256 * j + 256), f c * g c : ℝ) : EReal) := by
  rw [sum_congr rfl fun x _ => by rw [ha, hb, ← EReal.coe_mul], ← coe_sum, ← sum_tile (fun c => f c * g c)]

theorem tile_sum (f : ℕ → ℝ) (j : ℕ) (a : Fin 256 → EReal) (ha : ∀ x : Fin 256, a x = (f (256 * j + x.val) : EReal)) :
    ∑ x, a x = ((∑ c ∈ Ico (256 * j) (256 * j + 256), f c : ℝ) : EReal) := by
  rw [sum_congr rfl fun x _ => ha x, ← coe_sum, sum_tile]

/-- The rows put into the gradient of the keys or values by tile `j`. -/
theorem put_at (f g : ℕ → ℕ → ℕ → ℝ) (A : ℕ → ℕ → ℝ) (i : ℕ) (j : Fin 8) (hij : j.val ≤ i) (hf : ∀ s ρ c, ρ ≤ c → f s ρ c = 0)
    (D : Vec Ideal S2048x128 .f32) (W : Vec Ideal S256x128 .f32)
    (hD : ∀ (c : Fin 2048) (l : Fin 128), D (ix2 c l) = ((A c.val l.val + if 256 * j.val + 256 ≤ c.val then
      ∑ ρ ∈ Ico (256 * i) (256 * i + 256), f (l.val / 64) ρ c.val * g (l.val / 64) ρ (l.val % 64) else 0 : ℝ) : EReal))
    (hW : ∀ (x : Fin 256) (l : Fin 128), W (ix2 x l) = D (ix2 ⟨256 * j.val + x.val, by omega⟩ l)
      + ((∑ ρ ∈ Ico (256 * i) (256 * i + 256), f (l.val / 64) ρ (256 * j.val + x.val) * g (l.val / 64) ρ (l.val % 64) : ℝ) : EReal))
    (c : Fin 2048) (l : Fin 128) :
    put D ![256 * j.val, 0] S256x128.size W (ix2 c l) = ((A c.val l.val + if 256 * j.val ≤ c.val then
      ∑ ρ ∈ Ico (256 * i) (256 * i + 256), f (l.val / 64) ρ c.val * g (l.val / 64) ρ (l.val % 64) else 0 : ℝ) : EReal) := by
  rw [put_rows]
  by_cases h : 256 * j.val ≤ c.val ∧ c.val < 256 * j.val + 256
  · have e : 256 * j.val + (c.val - 256 * j.val) = c.val := by omega
    rw [dif_pos h, hW, hD, if_neg (by simp only []; omega), if_pos h.1, add_zero, ← EReal.coe_add]
    simp only [e]
  · rw [dif_neg h, hD]
    by_cases h' : 256 * j.val ≤ c.val
    · rw [if_pos (by omega), if_pos h']
    · rw [if_neg (by omega), if_neg h']

namespace Blocks
variable (B : Blocks H X Y O)
include B

/-- One tile wholly below the diagonal. -/
theorem step {A A' : ℕ → ℕ → ℝ} (i j : Fin 8) (hij : j.val < i.val) (s : St Ideal) (h : At H A A' i.val (j.val + 1) s) :
    At H A A' i.val j.val (tileU X (qs X i) (dos Y i) j s) := by
  have hl : ∀ u : Fin 512, s.later (ix2 u 0) = _ := fun u => (h.later u).trans (by rw [show 256 * (j.val + 1) = 256 * j.val + 256 by ring])
  have hr : ∀ u : Fin 512, s.rest (ix2 u 0) = _ := fun u => (h.rest u).trans (by rw [show 256 * (j.val + 1) = 256 * j.val + 256 by ring])
  have T := B.holds_tile i j hij.le s.later s.rest hl hr
  have hall : ∀ (u : Fin 512) (x : Fin 256), (H.rowAt i.val j.val u).p x := fun u x => by
    change 256 * j.val + x.val < 256 * i.val + u.val % 256
    omega
  have hdz : ∀ (u : Fin 512) (x : Fin 256), _ = (H.dz (u.val / 256) (256 * i.val + u.val % 256) (256 * j.val + x.val) : EReal) := fun u x =>
    (T.dz_all hall u x).trans (by rw [Heads.rowAt_dz _ _ _ _ _ hij.le])
  have hw : ∀ (u : Fin 512) (x : Fin 256), _ = (H.w (u.val / 256) (256 * i.val + u.val % 256) (256 * j.val + x.val) : EReal) := fun u x =>
    (T.weight_all hall u x).trans (by rw [Heads.rowAt_wt _ _ _ _ _ hij.le])
  refine ⟨fun u => ?_, fun u => ?_, fun u l => ?_, ?_, ?_⟩
  · refine (pay43_apply _ _ u).trans ?_
    rw [hl, tile_sum (fun c => H.sp (u.val / 256) (256 * i.val + u.val % 256) c) j.val _
      fun x => (T.soft_all hall u x).trans (by rw [Heads.rowAt_sp]), ← EReal.coe_add, add_comm, sum_Ico_consecutive _ (by omega) (by omega)]
  · refine (pay44_apply _ _ u).trans ?_
    rw [hr, tile_sum (fun c => H.g (u.val / 256) (256 * i.val + u.val % 256) c) j.val _
      fun x => (T.g_all hall u x).trans (by rw [Heads.rowAt_g _ _ _ _ _ hij.le]), ← EReal.coe_sub]
    congr 1
    rw [sub_eq_iff_eq_add, range_eq_Ico, range_eq_Ico, sum_Ico_consecutive _ (by omega) (by omega)]
  · refine (pay40_apply _ _ _ _ _ _ u l).trans ?_
    rw [h.dq, keys_sum (fun c => H.dz (u.val / 256) (256 * i.val + u.val % 256) c) (fun c => H.k (l.val / 64) c (l.val % 64)) j.val _ _
      (hdz u) (fun x => B.kTile_apply j x l), ← EReal.coe_add, add_comm, show 256 * (j.val + 1) = 256 * j.val + 256 by ring,
      sum_Ico_consecutive _ (by omega) (by omega)]
  · refine put_at (fun s => H.dz s) (fun s ρ e => H.q s ρ e * (1 / 8)) A i.val j hij.le (fun s ρ c hc => Head.dz_of_le _ _ _ _ hc) s.dk _ h.dk fun x l => ?_
    rw [pay41_apply, dTile_apply]
    exact congrArg₂ _ rfl (rows_sum (fun s ρ => H.dz s ρ (256 * j.val + x.val)) (fun s ρ => H.q s ρ (l.val % 64) * (1 / 8)) i.val _ _ l
      (fun u => hdz u x) (fun u => B.qs_apply i u l))
  · refine put_at (fun s => H.w s) (fun s ρ e => H.d s ρ e) A' i.val j hij.le (fun s ρ c hc => Head.w_of_le _ _ hc) s.dv _ h.dv fun x l => ?_
    rw [pay42_apply, dTile_apply]
    exact congrArg₂ _ rfl (rows_sum (fun s ρ => H.w s ρ (256 * j.val + x.val)) (fun s ρ => H.d s ρ (l.val % 64)) i.val _ _ l
      (fun u => hw u x) (fun u => B.dos_apply i u l))

/-- The tile on the diagonal. -/
theorem start {A A' : ℕ → ℕ → ℝ} (i : Fin 8) (dk dv : Vec Ideal S2048x128 .f32)
    (hk : ∀ (c : Fin 2048) (l : Fin 128), dk (ix2 c l) = (A c.val l.val : EReal))
    (hv : ∀ (c : Fin 2048) (l : Fin 128), dv (ix2 c l) = (A' c.val l.val : EReal)) :
    At H A A' i.val i.val (tileM X (qs X i) (dos Y i) (dsum Y O i) i dk dv) := by
  have hz : ∀ u : Fin 512, (k0_pay85 (F := Ideal)) (ix2 u 0) = 0 := fun u => by pointwise [k0_pay85]
  have hl : ∀ u : Fin 512, (k0_pay85 (F := Ideal)) (ix2 u 0) = ((∑ c ∈ Ico (256 * i.val + 256) (256 * i.val + 256), H.sp (u.val / 256) (256 * i.val + u.val % 256) c : ℝ) : EReal) :=
    fun u => (hz u).trans (by simp)
  have T := B.holds_tile i i le_rfl k0_pay85 (dsum Y O i) hl (B.dsum_apply i)
  have hd : ∀ (u : Fin 512) (x : Fin 256), (H.rowAt i.val i.val u).p x ↔ x.val < u.val % 256 := fun u x => by
    change 256 * i.val + x.val < 256 * i.val + u.val % 256 ↔ _
    omega
  have hdz : ∀ (u : Fin 512) (x : Fin 256), _ = (H.dz (u.val / 256) (256 * i.val + u.val % 256) (256 * i.val + x.val) : EReal) := fun u x =>
    (T.dz_diag hd u x).trans (by rw [Heads.rowAt_dz _ _ _ _ _ le_rfl])
  have hw : ∀ (u : Fin 512) (x : Fin 256), _ = (H.w (u.val / 256) (256 * i.val + u.val % 256) (256 * i.val + x.val) : EReal) := fun u x =>
    (T.weight_diag hd u x).trans (by rw [Heads.rowAt_wt _ _ _ _ _ le_rfl])
  have hnew : ∀ (f g : ℕ → ℕ → ℕ → ℝ) (a : ℕ → ℕ → ℝ) (D : Vec Ideal S2048x128 .f32) (hf : ∀ s ρ c, ρ ≤ c → f s ρ c = 0)
      (h : ∀ (c : Fin 2048) (l : Fin 128), D (ix2 c l) = (a c.val l.val : EReal)) (c : Fin 2048) (l : Fin 128), D (ix2 c l) =
        ((a c.val l.val + if 256 * i.val + 256 ≤ c.val then
          ∑ ρ ∈ Ico (256 * i.val) (256 * i.val + 256), f (l.val / 64) ρ c.val * g (l.val / 64) ρ (l.val % 64) else 0 : ℝ) : EReal) :=
    fun f g a D hf h c l => by
      rw [h]
      split
      · rename_i hc
        rw [sum_eq_zero fun ρ hρ => by rw [hf _ _ _ (by have := mem_Ico.mp hρ; omega), zero_mul], add_zero]
      · rw [add_zero]
  refine ⟨fun u => ?_, fun u => ?_, fun u l => ?_, ?_, ?_⟩
  · refine (pay12_apply _ _ u).trans ?_
    rw [hz, zero_add, tile_sum (fun c => H.sp (u.val / 256) (256 * i.val + u.val % 256) c) i.val _
      fun x => (T.soft_diag hd u x).trans (by rw [Heads.rowAt_sp])]
  · refine (pay13_apply _ _ u).trans ?_
    rw [B.dsum_apply, tile_sum (fun c => H.g (u.val / 256) (256 * i.val + u.val % 256) c) i.val _
      fun x => (T.g_diag hd u x).trans (by rw [Heads.rowAt_g _ _ _ _ _ le_rfl]), ← EReal.coe_sub]
    congr 1
    rw [sub_eq_iff_eq_add, range_eq_Ico, range_eq_Ico, sum_Ico_consecutive _ (by omega) (by omega)]
  · refine (pay9_apply _ _ _ u l).trans ?_
    rw [keys_sum (fun c => H.dz (u.val / 256) (256 * i.val + u.val % 256) c) (fun c => H.k (l.val / 64) c (l.val % 64)) i.val _ _
      (hdz u) (fun x => B.kTile_apply i x l)]
  · refine put_at (fun s => H.dz s) (fun s ρ e => H.q s ρ e * (1 / 8)) A i.val i le_rfl (fun s ρ c hc => Head.dz_of_le _ _ _ _ hc) dk _
      (hnew (fun s => H.dz s) (fun s ρ e => H.q s ρ e * (1 / 8)) A dk (fun s ρ c hc => Head.dz_of_le _ _ _ _ hc) hk) fun x l => ?_
    refine (pay10_apply _ _ _ _ x l).trans ?_
    rw [dTile_apply]
    exact congrArg₂ _ rfl (rows_sum (fun s ρ => H.dz s ρ (256 * i.val + x.val)) (fun s ρ => H.q s ρ (l.val % 64) * (1 / 8)) i.val _ _ l
      (fun u => hdz u x) (fun u => B.qs_apply i u l))
  · refine put_at (fun s => H.w s) (fun s ρ e => H.d s ρ e) A' i.val i le_rfl (fun s ρ c hc => Head.w_of_le _ _ hc) dv _
      (hnew (fun s => H.w s) (fun s ρ e => H.d s ρ e) A' dv (fun s ρ c hc => Head.w_of_le _ _ hc) hv) fun x l => ?_
    refine (pay11_apply _ _ _ x l).trans ?_
    rw [dTile_apply]
    exact congrArg₂ _ rfl (rows_sum (fun s ρ => H.w s ρ (256 * i.val + x.val)) (fun s ρ => H.d s ρ (l.val % 64)) i.val _ _ l
      (fun u => hw u x) (fun u => B.dos_apply i u l))

/-- The diagonal tile and the `n` tiles before it. -/
theorem seq_at {A A' : ℕ → ℕ → ℝ} (i : Fin 8) (dk dv : Vec Ideal S2048x128 .f32)
    (hk : ∀ (c : Fin 2048) (l : Fin 128), dk (ix2 c l) = (A c.val l.val : EReal))
    (hv : ∀ (c : Fin 2048) (l : Fin 128), dv (ix2 c l) = (A' c.val l.val : EReal)) (n : ℕ) (hn : n ≤ i.val) :
    At H A A' i.val (i.val - n) (seq X Y O i dk dv n) := by
  induction n with
  | zero => exact B.start i dk dv hk hv
  | succ n ih =>
    refine B.step i (before i n) (by simp only [before]; omega) _ ?_
    have e : (before i n).val + 1 = i.val - n := by simp only [before]; omega
    rw [e]
    exact ih (by omega)

/-- The gradients of the keys and values after `n` blocks of queries. -/
theorem acc_at (n : ℕ) (hn : n ≤ 8) :
    (∀ (c : Fin 2048) (l : Fin 128), (acc X Y O n).1 (ix2 c l) =
      ((∑ ρ ∈ range (256 * n), H.dz (l.val / 64) ρ c.val * (H.q (l.val / 64) ρ (l.val % 64) * (1 / 8)) : ℝ) : EReal))
    ∧ ∀ (c : Fin 2048) (l : Fin 128), (acc X Y O n).2 (ix2 c l) =
      ((∑ ρ ∈ range (256 * n), H.w (l.val / 64) ρ c.val * H.d (l.val / 64) ρ (l.val % 64) : ℝ) : EReal) := by
  induction n with
  | zero =>
    constructor
    · intro c l; unfold acc; simp only []; pointwise [k0_pay99]; simp
    · intro c l; unfold acc; simp only []; pointwise [k0_pay100]; simp
  | succ n ih =>
    have h := B.seq_at ⟨n, by omega⟩ (acc X Y O n).1 (acc X Y O n).2
      (A := fun c l => ∑ ρ ∈ range (256 * n), H.dz (l / 64) ρ c * (H.q (l / 64) ρ (l % 64) * (1 / 8)))
      (A' := fun c l => ∑ ρ ∈ range (256 * n), H.w (l / 64) ρ c * H.d (l / 64) ρ (l % 64))
      (ih (by omega)).1 (ih (by omega)).2 n le_rfl
    rw [acc_succ X Y O ⟨n, by omega⟩]
    constructor
    · intro c l
      refine (h.dk c l).trans ?_
      rw [if_pos (by simp), range_eq_Ico, range_eq_Ico, sum_Ico_consecutive _ (by omega) (by simp), show 256 * (n + 1) = 256 * n + 256 by ring]
    · intro c l
      refine (h.dv c l).trans ?_
      rw [if_pos (by simp), range_eq_Ico, range_eq_Ico, sum_Ico_consecutive _ (by omega) (by simp), show 256 * (n + 1) = 256 * n + 256 by ring]

/-- The gradient of the queries of a block. -/
theorem full_dq (i : Fin 8) (u : Fin 512) (l : Fin 128) : (full X Y O i).dq (ix2 u l) = ((∑ c ∈ range 2048,
    H.dz (u.val / 256) (256 * i.val + u.val % 256) c * H.k (l.val / 64) c (l.val % 64) : ℝ) : EReal) := by
  have h := B.seq_at i (acc X Y O i.val).1 (acc X Y O i.val).2
    (A := fun c l => ∑ ρ ∈ range (256 * i.val), H.dz (l / 64) ρ c * (H.q (l / 64) ρ (l % 64) * (1 / 8)))
    (A' := fun c l => ∑ ρ ∈ range (256 * i.val), H.w (l / 64) ρ c * H.d (l / 64) ρ (l % 64))
    (B.acc_at i.val (by omega)).1 (B.acc_at i.val (by omega)).2 i.val le_rfl
  refine (h.dq u l).trans ?_
  congr 1
  have hz : ∀ c, 256 * i.val + u.val % 256 ≤ c → H.dz (u.val / 256) (256 * i.val + u.val % 256) c * H.k (l.val / 64) c (l.val % 64) = 0 :=
    fun c hc => by rw [show H.dz _ _ _ = 0 from Head.dz_of_le _ _ _ _ hc, zero_mul]
  rw [range_eq_Ico, Head.sum_Ico_cut (i := 256 * i.val + u.val % 256) _ (by omega) hz,
    Head.sum_Ico_cut (i := 256 * i.val + u.val % 256) (n := 2048) _ (by omega) hz, Nat.sub_self]

end Blocks

end Cert.Sb

end
-- ==== Proof.Sb.OutValue.lean ====
/-
  The output block of one program of the grid, element by element: for two heads the gradients of the queries, then of
  the keys, then of the values.
-/
module

public import proofs.«01_k».proof.Proof.Sb.Blocks
public import proofs.«01_k».proof.Proof.Sb.Out

@[expose] public section

set_option maxRecDepth 16384

noncomputable section

namespace Cert.Sb

open Idealize.ShloMosaic Idealize.ShloMosaic.TcCoe Idealize.ShloMosaic.VecWindow Finset
open Cert.SbKernelIdeal Cert.SbKernelIdeal.Gen

/-- Rows of a block of queries put into the first 128 columns. -/
theorem put_q (D : Vec Ideal S1x2048x384 .bf16) (i : Fin 8) (W : Vec Ideal S1x256x128 .bf16) (n : Fin 2048) (l : Fin 128) :
    put D ![0, 256 * i.val, 0] S1x256x128.size W (ix3 0 n ⟨l.val, by omega⟩) =
      if h : 256 * i.val ≤ n.val ∧ n.val < 256 * i.val + 256 then W (ix3 0 ⟨n.val - 256 * i.val, by omega⟩ l)
      else D (ix3 0 n ⟨l.val, by omega⟩) := by
  unfold put
  by_cases h : 256 * i.val ≤ n.val ∧ n.val < 256 * i.val + 256
  · rw [dif_pos h, dif_pos]
    · congr 1; funext a; apply Fin.ext
      match a with
      | ⟨0, _⟩ => rfl
      | ⟨1, _⟩ => rfl
      | ⟨2, _⟩ => rfl
    · intro a
      match a with
      | ⟨0, _⟩ => exact ⟨le_rfl, by simp [ix3]⟩
      | ⟨1, _⟩ => exact h
      | ⟨2, _⟩ => exact ⟨Nat.zero_le _, by have := l.isLt; simpa [ix3] using this⟩
  · rw [dif_neg h, dif_neg]
    intro H
    exact h (H 1)

/-- All rows of 128 columns, at a column among them. -/
theorem put_c (D : Vec Ideal S1x2048x384 .bf16) (b : ℕ) (hb : b + 128 ≤ 384) (W : Vec Ideal S1x2048x128 .bf16) (n : Fin 2048) (l : Fin 128) :
    put D ![0, 0, b] S1x2048x128.size W (ix3 0 n ⟨b + l.val, by omega⟩) = W (ix3 0 n l) := by
  unfold put
  rw [dif_pos]
  · congr 1; funext a; apply Fin.ext
    match a with
    | ⟨0, _⟩ => rfl
    | ⟨1, _⟩ => rfl
    | ⟨2, _⟩ => exact Nat.add_sub_cancel_left b l.val
  · intro a
    match a with
    | ⟨0, _⟩ => exact ⟨le_rfl, by simp [ix3]⟩
    | ⟨1, _⟩ => exact ⟨Nat.zero_le _, by have := n.isLt; simpa [ix3] using this⟩
    | ⟨2, _⟩ => exact ⟨Nat.le_add_right _ _, by have := l.isLt; simpa [ix3] using this⟩

/-- At a column before them. -/
theorem put_c_before (D : Vec Ideal S1x2048x384 .bf16) (b : ℕ) (W : Vec Ideal S1x2048x128 .bf16) (n : Fin 2048) (x : Fin 384) (hx : x.val < b) :
    put D ![0, 0, b] S1x2048x128.size W (ix3 0 n x) = D (ix3 0 n x) := by
  unfold put
  rw [dif_neg]
  intro H
  have h : b ≤ x.val := (H 2).1
  omega

theorem pay112_apply (D : Vec Ideal S512x128 .f32) (r : Fin 256) (l : Fin 128) :
    k0_pay112 D (ix3 0 r l) = D (ix2 ⟨256 * (l.val / 64) + r.val, by omega⟩ l) * ((1 / 8 : ℝ) : EReal) := by
  have e : k0_pay112 D (ix3 0 r l) = (if l.val < 64 then D (ix2 ⟨r.val, by omega⟩ l) else D (ix2 ⟨256 + r.val, by omega⟩ l)) * ((1 / 8 : ℝ) : EReal) := by
    pointwise [k0_pay112, k0_pay95]
    rw [bits_eighth]
    rw [lane_lt, select_ofBool]
  rw [e]
  split
  · congr 3; apply Fin.ext; simp only []; omega
  · congr 3; apply Fin.ext; simp only []; omega

theorem pay113_apply (D : Vec Ideal S2048x128 .f32) (n : Fin 2048) (l : Fin 128) : k0_pay113 D (ix3 0 n l) = D (ix2 n l) := by
  pointwise [k0_pay113]

theorem pay1_apply (D : Vec Ideal S2048x128 .f32) (n : Fin 2048) (l : Fin 128) : k0_pay1 D (ix3 0 n l) = D (ix2 n l) := by
  pointwise [k0_pay1]

namespace Blocks
variable {H : Heads} {X : Vec Ideal S1x2048x384 .bf16} {Y : Vec Ideal S1x2048x128 .bf16} {O : Vec Ideal S1x2048x128 .f32}
variable (B : Blocks H X Y O)
include B

theorem outQ_at (W : Vec Ideal S1x2048x384 .bf16) (m : ℕ) (hm : m ≤ 8) (n : Fin 2048) (l : Fin 128) (hn : n.val < 256 * m) :
    outQ X Y O W m (ix3 0 n ⟨l.val, by omega⟩) =
      (Head.dq (H.q (l.val / 64)) (H.k (l.val / 64)) (H.v (l.val / 64)) (H.d (l.val / 64)) n.val (l.val % 64) : EReal) := by
  induction m with
  | zero => omega
  | succ m ih =>
    rw [outQ_succ X Y O W ⟨m, by omega⟩, put_q]
    by_cases h : 256 * m ≤ n.val
    · rw [dif_pos ⟨h, by simp only []; omega⟩, pay112_apply, B.full_dq, ← EReal.coe_mul, Head.dq]
      have e1 : (256 * (l.val / 64) + (n.val - 256 * m)) / 256 = l.val / 64 := by omega
      have e2 : 256 * m + (256 * (l.val / 64) + (n.val - 256 * m)) % 256 = n.val := by omega
      simp only [e1, e2]
    · rw [dif_neg (by simp only []; omega)]
      exact ih (by omega) (by omega)

/-- The gradient of the queries. -/
theorem out_q (n : Fin 2048) (l : Fin 128) : out X Y O (ix3 0 n ⟨l.val, by omega⟩) =
    (Head.dq (H.q (l.val / 64)) (H.k (l.val / 64)) (H.v (l.val / 64)) (H.d (l.val / 64)) n.val (l.val % 64) : EReal) := by
  rw [out, outAll, put_c_before _ 256 _ _ _ (by simp only []; omega), put_c_before _ 128 _ _ _ (by simp only []; omega)]
  exact B.outQ_at X 8 le_rfl n l n.isLt

/-- The gradient of the keys. -/
theorem out_k (n : Fin 2048) (l : Fin 128) : out X Y O (ix3 0 n ⟨128 + l.val, by omega⟩) =
    (Head.dk (H.q (l.val / 64)) (H.k (l.val / 64)) (H.v (l.val / 64)) (H.d (l.val / 64)) n.val (l.val % 64) : EReal) := by
  rw [out, outAll, put_c_before _ 256 _ _ _ (by simp only []; omega), put_c _ 128 (by omega), pay113_apply, (B.acc_at 8 le_rfl).1]
  rfl

/-- The gradient of the values. -/
theorem out_v (n : Fin 2048) (l : Fin 128) : out X Y O (ix3 0 n ⟨256 + l.val, by omega⟩) =
    (Head.dv (H.q (l.val / 64)) (H.k (l.val / 64)) (H.d (l.val / 64)) n.val (l.val % 64) : EReal) := by
  rw [out, outAll, put_c _ 256 (by omega), pay1_apply, (B.acc_at 8 le_rfl).2]
  rfl

end Blocks

end Cert.Sb

end
-- ==== Proof.Sb.RunningSum.lean ====
/-
  The host's running sums along the last axis of a rank-4 array, read at an index: from an entry on to the end, and from
  the start up to and including an entry.
-/
module

public import proofs.«01_k».proof.Proof.Sb.Tile
public import Idealize.ShloMosaic.Lib.Pointwise

@[expose] public section

set_option maxRecDepth 16384

noncomputable section

namespace Cert.Sb

open Idealize.ShloMosaic

/-- Adding up the terms of a list in order is their sum. -/
theorem foldl_add {α : Type} (l : List α) (f : α → EReal) (z : EReal) : l.foldl (fun r n => r + f n) z = z + (l.map f).sum := by
  induction l generalizing z with
  | nil => simp
  | cons a l ih => rw [List.foldl_cons, ih, List.map_cons, List.sum_cons, add_assoc]

/-- A window sum along the last axis: over the window's positions, what the padded array holds there. -/
theorem window_sum {s0 s1 s2 n lo hi : ℕ} (x : (⟨4, ![s0, s1, s2, n]⟩ : Shape).Idx → EReal)
    (h : (⟨4, ![s0, s1, s2, n]⟩ : Shape).ReduceWindows ![1, 1, 1, n] ![1, 1, 1, 1] ![0, 0, 0, lo] ![0, 0, 0, hi] ⟨4, ![s0, s1, s2, n]⟩)
    (a : Fin s0) (b : Fin s1) (c : Fin s2) (j : Fin n) :
    Ideal.hostReduceWindowAdd ![1, 1, 1, n] ![1, 1, 1, 1] ![0, 0, 0, lo] ![0, 0, 0, hi] h x 0 (ix4 a b c j)
      = ∑ t : Fin n, if g : lo ≤ j.val + t.val ∧ j.val + t.val - lo < n then x (ix4 a b c ⟨j.val + t.val - lo, g.2⟩) else 0 := by
  unfold Ideal.hostReduceWindowAdd Host.reduceWindow
  simp only []
  rw [foldl_add, zero_add, ← Fin.sum_univ_def]
  let G : (⟨4, ![1, 1, 1, n]⟩ : Shape).Idx → EReal := fun w =>
    if g : lo ≤ j.val + (w 3).val ∧ j.val + (w 3).val - lo < n then x (ix4 a b c ⟨j.val + (w 3).val - lo, g.2⟩) else 0
  refine (Finset.sum_congr rfl fun p _ => ?_).trans ((Equiv.sum_comp (⟨4, ![1, 1, 1, n]⟩ : Shape).rowMajor.symm G).trans ?_)
  · suffices H : ∀ w : (⟨4, ![1, 1, 1, n]⟩ : Shape).Idx,
        (if hin : ∀ e : Fin 4, (![0, 0, 0, lo] : Fin 4 → ℕ) e ≤ ((ix4 a b c j : (⟨4, ![s0, s1, s2, n]⟩ : Shape).Idx) e).val * (![1, 1, 1, 1] : Fin 4 → ℕ) e + (w e).val
            ∧ ((ix4 a b c j : (⟨4, ![s0, s1, s2, n]⟩ : Shape).Idx) e).val * (![1, 1, 1, 1] : Fin 4 → ℕ) e + (w e).val - (![0, 0, 0, lo] : Fin 4 → ℕ) e
              < (⟨4, ![s0, s1, s2, n]⟩ : Shape).size e
        then x (fun e => ⟨_, (hin e).2⟩) else 0) = G w from H _
    intro w
    have h0 : (w 0).val < 1 := (w 0).isLt
    have h1 : (w 1).val < 1 := (w 1).isLt
    have h2 : (w 2).val < 1 := (w 2).isLt
    simp only [G]
    by_cases g : lo ≤ j.val + (w 3).val ∧ j.val + (w 3).val - lo < n
    · rw [dif_pos g, dif_pos fun e => by
        match e with
        | ⟨0, _⟩ => exact ⟨Nat.zero_le _, show a.val * 1 + (w 0).val - 0 < s0 by omega⟩
        | ⟨1, _⟩ => exact ⟨Nat.zero_le _, show b.val * 1 + (w 1).val - 0 < s1 by omega⟩
        | ⟨2, _⟩ => exact ⟨Nat.zero_le _, show c.val * 1 + (w 2).val - 0 < s2 by omega⟩
        | ⟨3, _⟩ => exact ⟨show lo ≤ j.val * 1 + (w 3).val by omega, show j.val * 1 + (w 3).val - lo < n by omega⟩]
      congr 1; funext e; apply Fin.ext
      match e with
      | ⟨0, _⟩ => show a.val * 1 + (w 0).val - 0 = a.val; omega
      | ⟨1, _⟩ => show b.val * 1 + (w 1).val - 0 = b.val; omega
      | ⟨2, _⟩ => show c.val * 1 + (w 2).val - 0 = c.val; omega
      | ⟨3, _⟩ => show j.val * 1 + (w 3).val - lo = j.val + (w 3).val - lo; omega
    · rw [dif_neg g, dif_neg fun H => g (by
        have : lo ≤ j.val * 1 + (w 3).val ∧ j.val * 1 + (w 3).val - lo < n := H 3
        rwa [Nat.mul_one] at this)]
  · rw [sum_idx4]
    simp only [Finset.univ_unique, Finset.sum_singleton]
    rfl

/-- From an entry on: padded at the end. -/
theorem sum_to_end {s0 s1 s2 n hi : ℕ} (x : (⟨4, ![s0, s1, s2, n]⟩ : Shape).Idx → EReal) (f : ℕ → ℝ)
    (h : (⟨4, ![s0, s1, s2, n]⟩ : Shape).ReduceWindows ![1, 1, 1, n] ![1, 1, 1, 1] ![0, 0, 0, 0] ![0, 0, 0, hi] ⟨4, ![s0, s1, s2, n]⟩)
    (a : Fin s0) (b : Fin s1) (c : Fin s2) (hx : ∀ j : Fin n, x (ix4 a b c j) = (f j.val : EReal)) (j : Fin n) :
    Ideal.hostReduceWindowAdd ![1, 1, 1, n] ![1, 1, 1, 1] ![0, 0, 0, 0] ![0, 0, 0, hi] h x 0 (ix4 a b c j)
      = ((∑ i ∈ Finset.Ico j.val n, f i : ℝ) : EReal) := by
  rw [window_sum, Finset.sum_congr rfl fun t _ => show _ = ((if j.val + t.val < n then f (j.val + t.val) else 0 : ℝ) : EReal) from ?_]
  · rw [← coe_sum, Fin.sum_univ_eq_sum_range (fun t => if j.val + t < n then f (j.val + t) else 0) n, ← Finset.sum_filter]
    congr 1
    rw [Finset.sum_Ico_eq_sum_range]
    refine Finset.sum_congr (Finset.ext fun t => ?_) fun _ _ => rfl
    rw [Finset.mem_filter, Finset.mem_range, Finset.mem_range]
    omega
  · by_cases g : j.val + t.val < n
    · rw [dif_pos ⟨Nat.zero_le _, by omega⟩, if_pos g, hx]; rfl
    · rw [dif_neg (by omega), if_neg g]; rfl

/-- From the start up to an entry: padded at the start. -/
theorem sum_from_start {s0 s1 s2 n lo : ℕ} (hlo : lo + 1 = n) (x : (⟨4, ![s0, s1, s2, n]⟩ : Shape).Idx → EReal) (f : ℕ → ℝ)
    (h : (⟨4, ![s0, s1, s2, n]⟩ : Shape).ReduceWindows ![1, 1, 1, n] ![1, 1, 1, 1] ![0, 0, 0, lo] ![0, 0, 0, 0] ⟨4, ![s0, s1, s2, n]⟩)
    (a : Fin s0) (b : Fin s1) (c : Fin s2) (hx : ∀ j : Fin n, x (ix4 a b c j) = (f j.val : EReal)) (j : Fin n) :
    Ideal.hostReduceWindowAdd ![1, 1, 1, n] ![1, 1, 1, 1] ![0, 0, 0, lo] ![0, 0, 0, 0] h x 0 (ix4 a b c j)
      = ((∑ i ∈ Finset.range (j.val + 1), f i : ℝ) : EReal) := by
  rw [window_sum, Finset.sum_congr rfl fun t _ => show _ = ((if lo ≤ j.val + t.val then f (j.val + t.val - lo) else 0 : ℝ) : EReal) from ?_]
  · rw [← coe_sum, Fin.sum_univ_eq_sum_range (fun t => if lo ≤ j.val + t then f (j.val + t - lo) else 0) n, ← Finset.sum_filter]
    congr 1
    have e : (Finset.range n).filter (fun t => lo ≤ j.val + t) = Finset.Ico (lo - j.val) n := by
      ext t
      rw [Finset.mem_filter, Finset.mem_range, Finset.mem_Ico]
      omega
    have e2 : n - (lo - j.val) = j.val + 1 := by omega
    rw [e, Finset.sum_Ico_eq_sum_range, e2]
    exact Finset.sum_congr rfl fun t _ => by congr 1; omega
  · by_cases g : lo ≤ j.val + t.val
    · rw [dif_pos ⟨g, by omega⟩, if_pos g, hx]
    · rw [dif_neg (by omega), if_neg g]; rfl

end Cert.Sb

end
-- ==== Proof.Sb.Reference.lean ====
/-
  The stick-breaking reference over the extended reals, element by element: where the arguments are real numbers, its
  results are the gradients of one head's queries, keys and values in real numbers.
-/
module

public import proofs.«01_k».proof.Proof.Sb.RunningSum
public import proofs.«01_k».proof.Proof.Gen.SbReferenceIdeal.Read

@[expose] public section

set_option maxRecDepth 16384

noncomputable section

namespace Cert.Sb

open Idealize.ShloMosaic Idealize.ShloMosaic.TcCoe Finset

/-- Four arrays of real numbers: their entries by batch entry, head, position and feature. -/
structure Reals (x0 x1 x2 x3 : (⟨4, ![4, 2048, 8, 64]⟩ : Shape).Idx → EReal) (Q K V D : ℕ → ℕ → ℕ → ℕ → ℝ) : Prop where
  q : ∀ (b : Fin 4) (n : Fin 2048) (h : Fin 8) (e : Fin 64), x0 (ix4 b n h e) = (Q b.val h.val n.val e.val : EReal)
  k : ∀ (b : Fin 4) (n : Fin 2048) (h : Fin 8) (e : Fin 64), x1 (ix4 b n h e) = (K b.val h.val n.val e.val : EReal)
  v : ∀ (b : Fin 4) (n : Fin 2048) (h : Fin 8) (e : Fin 64), x2 (ix4 b n h e) = (V b.val h.val n.val e.val : EReal)
  d : ∀ (b : Fin 4) (n : Fin 2048) (h : Fin 8) (e : Fin 64), x3 (ix4 b n h e) = (D b.val h.val n.val e.val : EReal)

theorem bits_inf : Ideal.ofBits FTy.f32 2139095040#32 = ⊤ := by simp [Ideal.ofBits, Ideal.ieee]

/-- The softplus as the reference computes it. -/
theorem softplus_at (y : ℝ) : max (y : EReal) 0 + Ideal.log1p (Ideal.exp (-(FloatOps.absf (y : EReal) : Ideal .f32))) = (soft y : EReal) := by
  have ha : (FloatOps.absf (y : EReal) : Ideal .f32) = ((|y| : ℝ) : EReal) := by
    change max (y : EReal) (-(y : EReal)) = _
    rw [← EReal.coe_neg, abs_eq_max_neg, EReal.coe_strictMono.monotone.map_max]
  have hl : Ideal.log1p ((Real.exp (-|y|) : ℝ) : EReal) = ((Real.log (1 + Real.exp (-|y|)) : ℝ) : EReal) := by
    have := log_one_add_exp (-|y|)
    rw [Ideal.exp_coe] at this
    exact this
  rw [ha, ← EReal.coe_neg, Ideal.exp_coe, hl, ← EReal.coe_zero, ← EReal.coe_strictMono.monotone.map_max, ← EReal.coe_add, soft]
  congr 1
  rcases le_total 0 y with h | h
  · have e : 1 + Real.exp y = Real.exp y * (1 + Real.exp (-y)) := by rw [mul_add, ← Real.exp_add]; simp; ring
    rw [max_eq_left h, abs_of_nonneg h, e, Real.log_mul (Real.exp_pos y).ne' (by positivity), Real.log_exp]
  · rw [max_eq_right h, abs_of_nonpos h, neg_neg, zero_add]

/-- The logistic function, and what is left of one. -/
theorem logistic_add (z : ℝ) : Real.exp (z - soft z) + Real.exp (-z - soft (-z)) = 1 := by
  have h (y : ℝ) : Real.exp (y - soft y) = Real.exp y / (1 + Real.exp y) := by
    rw [soft, Real.exp_sub, Real.exp_log (by positivity)]
  have hz := Real.exp_pos z
  rw [h, h, Real.exp_neg]
  field_simp
  ring

theorem neg_soft_neg (z : ℝ) : - soft (-z) = z - soft z := by
  have e : 1 + Real.exp z = Real.exp z * (1 + Real.exp (-z)) := by rw [mul_add, ← Real.exp_add]; simp; ring
  have hz : soft z = z + soft (-z) := by
    rw [soft, soft, e, Real.log_mul (Real.exp_pos z).ne' (by positivity), Real.log_exp]
  rw [hz]; ring

/-- The reference's mask: a key is before the query. -/
theorem before_word {α : Type} (i j : Fin 2048) (x y : α) :
    Scalar.select (IntOp.cmpi .slt (BitVec.ofNat 32 j.val) (BitVec.ofNat 32 i.val)) x y = if j.val < i.val then x else y := by
  rw [WordCmp.cmpi_slt_eq]
  simp only [word_lt _ _ (show j.val < 2 ^ 31 by omega) (show i.val < 2 ^ 31 by omega)]
  exact select_ofBool _ x y

end Cert.Sb

namespace Cert.Sb.Reals
open Idealize.ShloMosaic Idealize.ShloMosaic.TcCoe Finset
open Cert.SbReferenceIdeal Cert.SbReferenceIdeal.Read Cert.Sb

variable {x0 x1 x2 x3 : (⟨4, ![4, 2048, 8, 64]⟩ : Shape).Idx → EReal} {Q K V D : ℕ → ℕ → ℕ → ℕ → ℝ} (A : Reals x0 x1 x2 x3 Q K V D)
include A

variable (b : Fin 4) (h : Fin 8) (i j : Fin 2048)

local notation "z_" => Head.z (Q b.val h.val) (K b.val h.val) i.val j.val

theorem v2_at : val_main_v2 (F := Ideal) x0 x1 (ix4 b h i j) = (z_ : EReal) := by
  pointwise [val_main_v2, val_main_v1, val_main_v0, val_main_cst]
  rw [bits_eighth, Finset.sum_congr rfl fun e _ => by rw [A.q, A.k, ← EReal.coe_mul], ← coe_sum, ← EReal.coe_mul, Head.z,
    Finset.sum_range (fun e => Q b.val h.val i.val e * K b.val h.val j.val e)]

theorem sp0_at : val_main_call0_v1_0 (F := Ideal) x0 x1 (ix4 b h i j) = ((soft (- z_) : ℝ) : EReal) := by
  pointwise [val_main_call0_v1_0, val_main_call0_call0_v4, val_main_call0_call0_v6, val_main_call0_call0_v11,
    val_main_call0_call0_v10, val_main_call0_call0_v9, val_main_call0_call0_v8, val_main_call0_call0_v7, val_main_call0_call0_v5,
    val_main_call0_call0_v3, val_main_call0_call0_v2, val_main_call0_call0_v1, val_main_call0_call0_v0, val_main_call0_call0_cst, val_main_call0_v0]
  rw [if_neg (fun e => e rfl), A.v2_at, ← EReal.coe_neg, softplus_at]

theorem v10_at : val_main_v10_0 (F := Ideal) x0 x1 (ix4 b h i j) = ((- soft (- z_) : ℝ) : EReal) := by
  pointwise [val_main_v10_0]
  rw [A.sp0_at, ← EReal.coe_neg]

theorem v10_1_at : val_main_v10_1 (F := Ideal) x0 x1 (ix4 b h i j) = ((Real.exp (- z_ - soft (- z_)) : ℝ) : EReal) := by
  pointwise [val_main_v10_1, val_main_call0_call0_v21, val_main_call0_call0_v20, val_main_call0_call0_v19, val_main_call0_call0_cst_3,
    val_main_call0_call0_v18, val_main_call0_call0_v17, val_main_call0_call0_cst_2, val_main_call0_call0_v16, val_main_call0_call0_v15,
    val_main_call0_call0_cst_1, val_main_call0_call0_v14, val_main_call0_call0_v13, val_main_call0_call0_cst_0, val_main_call0_v0]
  rw [A.v2_at, A.sp0_at, bits_inf, ← EReal.coe_neg, if_neg (EReal.coe_ne_top _), if_neg (EReal.coe_ne_top _), ← EReal.coe_sub, Ideal.exp_coe]

theorem sp1_at : val_main_call1_v1_0 (F := Ideal) x0 x1 (ix4 b h i j) = ((soft z_ : ℝ) : EReal) := by
  pointwise [val_main_call1_v1_0, val_main_call1_call0_v4, val_main_call1_call0_v6, val_main_call1_call0_v11,
    val_main_call1_call0_v10, val_main_call1_call0_v9, val_main_call1_call0_v8, val_main_call1_call0_v7, val_main_call1_call0_v5,
    val_main_call1_call0_v3, val_main_call1_call0_v2, val_main_call1_call0_v1, val_main_call1_call0_v0, val_main_call1_call0_cst, val_main_call1_v0, val_main_v11]
  rw [if_neg (fun e => e rfl), A.v2_at, ← EReal.coe_neg, ← EReal.coe_neg, neg_neg, softplus_at]

theorem v12_at : val_main_v12_0 (F := Ideal) x0 x1 (ix4 b h i j) = ((- soft z_ : ℝ) : EReal) := by
  pointwise [val_main_v12_0]
  rw [A.sp1_at, ← EReal.coe_neg]

theorem v12_1_at : val_main_v12_1 (F := Ideal) x0 x1 (ix4 b h i j) = ((Real.exp (z_ - soft z_) : ℝ) : EReal) := by
  pointwise [val_main_v12_1, val_main_call1_call0_v21, val_main_call1_call0_v20, val_main_call1_call0_v19, val_main_call1_call0_cst_3,
    val_main_call1_call0_v18, val_main_call1_call0_v17, val_main_call1_call0_cst_2, val_main_call1_call0_v16, val_main_call1_call0_v15,
    val_main_call1_call0_cst_1, val_main_call1_call0_v14, val_main_call1_call0_v13, val_main_call1_call0_cst_0, val_main_call1_v0, val_main_v11]
  rw [A.v2_at, A.sp1_at, bits_inf, ← EReal.coe_neg, ← EReal.coe_neg, neg_neg, if_neg (EReal.coe_ne_top _), if_neg (EReal.coe_ne_top _), ← EReal.coe_sub, Ideal.exp_coe]

theorem v13_at : val_main_v13_0 (F := Ideal) x0 x1 (ix4 b h i j) = ((- Head.sp (Q b.val h.val) (K b.val h.val) i.val j.val : ℝ) : EReal) := by
  have e : val_main_call2_v2 (F := Ideal) (ix4 b h i j) = 0 := by
    unfold val_main_call2_v2 val_main_call2_v0 val_main_cst_0 id
    pointwise
  pointwise [val_main_v13_0, val_main_v13_1, val_main_v9, val_main_v8, val_main_v7, val_main_v6, val_main_v5, val_main_v4, val_main_v3]
  rw [before_word, A.v12_at, e, Head.sp]
  split <;> simp

theorem v14_at : val_main_v14 (F := Ideal) x0 x1 (ix4 b h i j) = ((∑ c ∈ Ico j.val 2048, - Head.sp (Q b.val h.val) (K b.val h.val) i.val c : ℝ) : EReal) := by
  have e : val_main_call3_v0 (F := Ideal) (Shape.Idx.first Gen.h_S_) = 0 := by pointwise [val_main_call3_v0, val_main_call3_cst]
  unfold val_main_v14 Host.reduceWindowAdd
  have hs := sum_to_end (val_main_v13_0 (F := Ideal) x0 x1) (fun c => - Head.sp (Q b.val h.val) (K b.val h.val) i.val c)
    Gen.reduceWindows_S4x8x2048x2048_S4x8x2048x2048_w1s1p0_0_w1s1p0_0_w1s1p0_0_w2048s1p0_2047 b h i (fun j => A.v13_at b h i j) j
  rw [← e] at hs
  exact hs

theorem v17_at : val_main_v17 (F := Ideal) x0 x1 (ix4 b h i j)
    = ((Real.exp (z_ - soft z_ + (Head.sp (Q b.val h.val) (K b.val h.val) i.val j.val - ∑ c ∈ Ico j.val 2048, Head.sp (Q b.val h.val) (K b.val h.val) i.val c)) : ℝ) : EReal) := by
  pointwise [val_main_v17, val_main_v16, val_main_v15]
  rw [A.v10_at, A.v14_at, A.v13_at, ← EReal.coe_sub, ← EReal.coe_add, Ideal.exp_coe, neg_soft_neg, sum_neg_distrib]
  congr 3
  ring

/-- A weight, where the key is before the query. -/
theorem weight (hj : j.val < i.val) :
    Real.exp (z_ - soft z_ + (Head.sp (Q b.val h.val) (K b.val h.val) i.val j.val - ∑ c ∈ Ico j.val 2048, Head.sp (Q b.val h.val) (K b.val h.val) i.val c))
      = Head.w (Q b.val h.val) (K b.val h.val) i.val j.val := by
  rw [Head.w, if_pos hj, Head.sum_Ico_cut (i := i.val) _ i.isLt.le fun c hc => Head.sp_of_le _ _ hc]
  congr 1
  rw [show Head.sp (Q b.val h.val) (K b.val h.val) i.val j.val = soft z_ from if_pos hj]
  ring

theorem v18_at : val_main_v18_0 (F := Ideal) x0 x1 (ix4 b h i j) = (Head.w (Q b.val h.val) (K b.val h.val) i.val j.val : EReal) := by
  have e : val_main_call4_v2 (F := Ideal) (ix4 b h i j) = 0 := by
    unfold val_main_call4_v2 val_main_call4_v0 val_main_cst_1 id
    pointwise
  pointwise [val_main_v18_0, val_main_v18_1, val_main_v9, val_main_v8, val_main_v7, val_main_v6, val_main_v5, val_main_v4, val_main_v3]
  rw [before_word, A.v17_at, e]
  split
  · rename_i hj
    rw [A.weight b h i j hj]
  · rw [Head.w_of_le _ _ (by omega), EReal.coe_zero]

theorem v22_at : val_main_v22 (F := Ideal) x2 x3 (ix4 b h i j) = (Head.pr (V b.val h.val) (D b.val h.val) i.val j.val : EReal) := by
  pointwise [val_main_v22, val_main_v21]
  rw [Finset.sum_congr rfl fun e _ => by rw [A.d, A.v, ← EReal.coe_mul], ← coe_sum, Head.pr,
    Finset.sum_range (fun e => D b.val h.val i.val e * V b.val h.val j.val e)]

theorem v26_at : val_main_v26 (F := Ideal) x0 x1 x2 x3 (ix4 b h i j) = (Head.g (Q b.val h.val) (K b.val h.val) (V b.val h.val) (D b.val h.val) i.val j.val : EReal) := by
  pointwise [val_main_v26, val_main_v25, val_main_v18_1, val_main_call5_v0, val_main_call5_cst, val_main_v9, val_main_v8, val_main_v7, val_main_v6,
    val_main_v5, val_main_v4, val_main_v3]
  rw [before_word]
  split
  · rename_i hj
    rw [A.v22_at, A.v17_at, A.weight b h i j hj, ← EReal.coe_mul, Head.g, mul_comm]
  · rw [Head.g_of_le _ _ _ _ (by omega), EReal.coe_zero]

theorem v28_at : val_main_v28 (F := Ideal) x0 x1 x2 x3 (ix4 b h i j)
    = ((∑ c ∈ range (j.val + 1), Head.g (Q b.val h.val) (K b.val h.val) (V b.val h.val) (D b.val h.val) i.val c : ℝ) : EReal) := by
  have e : val_main_call6_v0 (F := Ideal) (Shape.Idx.first Gen.h_S_) = 0 := by pointwise [val_main_call6_v0, val_main_call6_cst]
  unfold val_main_v28 Host.reduceWindowAdd
  have hs := sum_from_start rfl (val_main_v26 (F := Ideal) x0 x1 x2 x3) (fun c => Head.g (Q b.val h.val) (K b.val h.val) (V b.val h.val) (D b.val h.val) i.val c)
    Gen.reduceWindows_S4x8x2048x2048_S4x8x2048x2048_w1s1p0_0_w1s1p0_0_w1s1p0_0_w2048s1p2047_0 b h i (fun j => A.v26_at b h i j) j
  rw [← e] at hs
  exact hs

theorem v36_at : val_main_v36 (F := Ideal) x0 x1 x2 x3 (ix4 b h i j)
    = ((Head.dz (Q b.val h.val) (K b.val h.val) (V b.val h.val) (D b.val h.val) i.val j.val * (1 / 8) : ℝ) : EReal) := by
  pointwise [val_main_v36, val_main_v35, val_main_cst_2, val_main_v34, val_main_v33, val_main_v32, val_main_v31, val_main_call8_v1, val_main_call8_v0,
    val_main_call9_v1, val_main_call9_v0, val_main_v30, val_main_v29, val_main_v27, val_main_v13_1, val_main_call7_v0, val_main_call7_cst, val_main_v9, val_main_v8, val_main_v7, val_main_v6,
    val_main_v5, val_main_v4, val_main_v3]
  rw [before_word, A.v26_at, A.v28_at, A.v12_1_at, A.v10_1_at, bits_eighth]
  split
  · rename_i hj
    simp only [← EReal.coe_neg, ← EReal.coe_add, ← EReal.coe_mul]
    congr 2
    rw [Head.dz, if_pos hj, show Head.sp (Q b.val h.val) (K b.val h.val) i.val j.val = soft z_ from if_pos hj]
    linear_combination Head.g (Q b.val h.val) (K b.val h.val) (V b.val h.val) (D b.val h.val) i.val j.val * logistic_add z_
  · rw [Head.g_of_le _ _ _ _ (by omega), Head.dz_of_le _ _ _ _ (by omega)]
    simp

/-- The gradient of the queries. -/
theorem dq_at (n : Fin 2048) (e : Fin 64) : val_main_v41 (F := Ideal) x0 x1 x2 x3 (ix4 b n h e)
    = (Head.dq (Q b.val h.val) (K b.val h.val) (V b.val h.val) (D b.val h.val) n.val e.val : EReal) := by
  pointwise [val_main_v41, val_main_v40, val_main_v39]
  rw [Finset.sum_congr rfl fun j _ => by rw [A.v36_at, A.k, ← EReal.coe_mul], ← coe_sum, Head.dq, sum_mul,
    Finset.sum_range (fun j => Head.dz (Q b.val h.val) (K b.val h.val) (V b.val h.val) (D b.val h.val) n.val j * K b.val h.val j e.val * (1 / 8))]
  congr 1
  exact Finset.sum_congr rfl fun j _ => by ring

/-- The gradient of the keys. -/
theorem dk_at (n : Fin 2048) (e : Fin 64) : val_main_v42 (F := Ideal) x0 x1 x2 x3 (ix4 b n h e)
    = (Head.dk (Q b.val h.val) (K b.val h.val) (V b.val h.val) (D b.val h.val) n.val e.val : EReal) := by
  pointwise [val_main_v42, val_main_v38, val_main_v37]
  rw [Finset.sum_congr rfl fun j _ => by rw [A.v36_at, A.q, ← EReal.coe_mul], ← coe_sum, Head.dk,
    Finset.sum_range (fun j => Head.dz (Q b.val h.val) (K b.val h.val) (V b.val h.val) (D b.val h.val) j n.val * (Q b.val h.val j e.val * (1 / 8)))]
  congr 1
  exact Finset.sum_congr rfl fun j _ => by ring

/-- The gradient of the values. -/
theorem dv_at (n : Fin 2048) (e : Fin 64) : val_main_v43 (F := Ideal) x0 x1 x3 (ix4 b n h e)
    = (Head.dv (Q b.val h.val) (K b.val h.val) (D b.val h.val) n.val e.val : EReal) := by
  pointwise [val_main_v43, val_main_v24, val_main_v23, val_main_v21]
  rw [Finset.sum_congr rfl fun j _ => by rw [A.d, A.v18_at, ← EReal.coe_mul], ← coe_sum, Head.dv,
    Finset.sum_range (fun j => Head.w (Q b.val h.val) (K b.val h.val) j n.val * D b.val h.val j e.val)]
  congr 1
  exact Finset.sum_congr rfl fun j _ => by ring

/-- The output that the forward pass leaves. -/
theorem o_at (n : Fin 2048) (e : Fin 64) : val_main_v20 (F := Ideal) x0 x1 x2 (ix4 b n h e)
    = (Head.o (Q b.val h.val) (K b.val h.val) (V b.val h.val) n.val e.val : EReal) := by
  pointwise [val_main_v20, val_main_v19]
  rw [Finset.sum_congr rfl fun j _ => by rw [A.v, A.v18_at, ← EReal.coe_mul], ← coe_sum, Head.o,
    Finset.sum_range (fun j => Head.w (Q b.val h.val) (K b.val h.val) n.val j * V b.val h.val j e.val)]
  congr 1
  exact Finset.sum_congr rfl fun j _ => by ring

end Cert.Sb.Reals

end
-- ==== Proof.Sb.Entry.lean ====
/-
  What the stick-breaking gradient's blocks hold when it starts.
-/
module

public import proofs.«01_k».proof.Proof.Sb.Run
public import proofs.«01_k».proof.Proof.Sb.OutValue
public import proofs.«01_k».proof.Proof.Sb.Reference
public import Idealize.ShloMosaic.Lib.Pipeline.ValueKit
public import Idealize.ShloMosaic.Lib.StableHlo.ReadAt

@[expose] public section

set_option maxRecDepth 16384

noncomputable section

namespace Cert.Sb

open Cert.SbKernelIdeal Cert.SbKernelIdeal.Gen
open Idealize.ShloMosaic Idealize.ShloMosaic.TcCoe Idealize.ShloMosaic.Tactic Finset

variable (m : (ℓ : Loc nD τ sig) → Buf (Elt Ideal) ℓ)

set_option maxHeartbeats 1600000 in
theorem entry_y (c : Dev nD) : V m c main_v34 = shapeCast S4x2048x512 (m ((c.tc : Thread nD τ).loc main_arg3)) shapeCasts_S4x2048x8x64_S4x2048x512 := by
  unfold V V0
  simp only [List.flatten_cons, List.flatten_nil, List.append_nil]
  after_reads_simp
  rfl

set_option maxHeartbeats 1600000 in
theorem entry_o (c : Dev nD) : V m c main_v32 = shapeCast S4x2048x512
    (Cert.SbReferenceIdeal.Read.val_main_v20 (F := Ideal) (m ((c.tc : Thread nD τ).loc main_arg0)) (m ((c.tc : Thread nD τ).loc main_arg1)) (m ((c.tc : Thread nD τ).loc main_arg2))) shapeCasts_S4x2048x8x64_S4x2048x512 := by
  unfold V V0
  simp only [List.flatten_cons, List.flatten_nil, List.append_nil]
  after_reads_simp
  rfl

/-- The arguments of a pair of heads side by side: its queries, its keys, its values. -/
def triple (x y z : FVec Ideal S4x2048x4x1x128 .f32) : FVec Ideal S4x2048x1536 .f32 :=
  shapeCast S4x2048x1536 (concatenate S4x2048x4x3x128 3 [⟨S4x2048x4x1x128, x⟩, ⟨S4x2048x4x1x128, y⟩, ⟨S4x2048x4x1x128, z⟩]
    concatenates_S4x2048x4x1x128_S4x2048x4x1x128_S4x2048x4x1x128_S4x2048x4x3x128_d3) shapeCasts_S4x2048x4x3x128_S4x2048x1536

theorem triple_congr {x y z x' y' z' : FVec Ideal S4x2048x4x1x128 .f32} (hx : x = x') (hy : y = y') (hz : z = z') :
    triple x y z = triple x' y' z' := by rw [hx, hy, hz]

/-- One argument by pairs of heads. -/
def paired (x : FVec Ideal S4x2048x8x64 .f32) : FVec Ideal S4x2048x4x1x128 .f32 :=
  broadcastInDim S4x2048x4x1x128 ![0, 1, 2, 4] bcast_S4x2048x4x128_S4x2048x4x1x128_0_1_2_4 (shapeCast S4x2048x4x128 x shapeCasts_S4x2048x8x64_S4x2048x4x128)

/-- The columns of the heads, and columns of zeros after them. -/
def widen (x : FVec Ideal S4x2048x1536 .f32) (y : FVec Ideal S4x2048x512 .f32) : FVec Ideal S4x2048x2048 .bf16 :=
  truncf .bf16 (concatenate S4x2048x2048 2 [⟨S4x2048x1536, x⟩, ⟨S4x2048x512, y⟩] concatenates_S4x2048x1536_S4x2048x512_S4x2048x2048_d2) bitsLt_bf16_f32

/-- The three arguments as the packing leaves them. -/
def pack (q k v : FVec Ideal S4x2048x8x64 .f32) : FVec Ideal S4x2048x2048 .bf16 :=
  widen (triple (paired q) (paired k) (paired v)) (broadcastInDim S4x2048x512 ![] bcast_S_S4x2048x512 (constant (F := Ideal) S_ .f32 0x00000000#32))

theorem entry_x (c : Dev nD) : V m c main_v10 =
    pack (m ((c.tc : Thread nD τ).loc main_arg0)) (m ((c.tc : Thread nD τ).loc main_arg1)) (m ((c.tc : Thread nD τ).loc main_arg2)) := by
  unfold V V0
  simp only [List.flatten_cons, List.flatten_nil, List.append_nil]
  after_reads_simp
  refine congrArg₂ widen ?_ ?_
  · after_reads_simp
    refine triple_congr ?_ ?_ ?_
    · dsimp only [Matrix.cons_val_zero]; after_reads_simp; rfl
    · dsimp only [Matrix.cons_val_one]; after_reads_simp; rfl
    · dsimp only [Matrix.cons_val]; after_reads_simp; rfl
  · after_reads_simp

variable (q k v : FVec Ideal S4x2048x8x64 .f32) (b p : Fin 4) (n : Fin 2048) (l : Fin 128)

theorem pack_q : pack q k v (ix3 b n ⟨384 * p.val + l.val, by omega⟩)
    = q (ix4 b n ⟨2 * p.val + l.val / 64, by omega⟩ ⟨l.val % 64, by omega⟩) := by
  unfold pack widen triple paired
  pointwise
  rw [dif_pos (by omega)]
  rw [dif_pos (by omega)]
  simp only [Nat.mul_comm p.val 2]

theorem pack_k : pack q k v (ix3 b n ⟨384 * p.val + (128 + l.val), by omega⟩)
    = k (ix4 b n ⟨2 * p.val + l.val / 64, by omega⟩ ⟨l.val % 64, by omega⟩) := by
  unfold pack widen triple paired
  pointwise
  rw [dif_pos (by omega)]
  rw [dif_neg (by omega), dif_pos (by omega)]
  simp only [Nat.mul_comm p.val 2]

theorem pack_v : pack q k v (ix3 b n ⟨384 * p.val + (256 + l.val), by omega⟩)
    = v (ix4 b n ⟨2 * p.val + l.val / 64, by omega⟩ ⟨l.val % 64, by omega⟩) := by
  unfold pack widen triple paired
  pointwise
  rw [dif_pos (by omega)]
  rw [dif_neg (by omega), dif_neg (by omega)]
  simp only [Nat.mul_comm p.val 2]

/-! ### The blocks of a point of the grid -/

/-- Point `4 b + p` has the blocks of batch entry `b` and pair of heads `p`. -/
theorem block_index : ∀ t : Fin cfg0.N, win0_0.index t = ![t.val / 4, 0, t.val % 4] ∧ win0_1.index t = ![t.val / 4, 0, t.val % 4]
    ∧ win0_2.index t = ![t.val / 4, 0, t.val % 4] ∧ win0_3.index t = ![t.val / 4, 0, t.val % 4] :=
  (by decide +kernel : ∀ t : Fin grid0.N, win0_0.index t = ![t.val / 4, 0, t.val % 4] ∧ win0_1.index t = ![t.val / 4, 0, t.val % 4]
    ∧ win0_2.index t = ![t.val / 4, 0, t.val % 4] ∧ win0_3.index t = ![t.val / 4, 0, t.val % 4])

variable (c : Dev nD) (t : Fin cfg0.N) (hb : t.val / 4 = b.val) (hp : t.val % 4 = p.val)
include hb hp

theorem block_x (j : Fin 384) : X0_0 m c t (ix3 0 n j) = V m c main_v10 (ix3 b n ⟨384 * p.val + j.val, by omega⟩) := by
  unfold X0_0 Pipeline.Window.fill
  rw [dif_pos (moved0_0 t _)]
  blk_simp [iblk]
  blk_ext [block_index]

theorem block_y : iblk m c 1 t (ix3 0 n l) = V m c main_v34 (ix3 b n ⟨128 * p.val + l.val, by omega⟩) := by
  blk_simp [iblk]
  blk_ext [block_index]

theorem block_o : iblk m c 2 t (ix3 0 n l) = V m c main_v32 (ix3 b n ⟨128 * p.val + l.val, by omega⟩) := by
  blk_simp [iblk]
  blk_ext [block_index]

end Cert.Sb
-- ==== Proof.Sb.Result.lean ====
/-
  The array that the stick-breaking gradient's launch leaves, element by element, where the arguments are real numbers.
-/
module

public import proofs.«01_k».proof.Proof.Sb.Entry

@[expose] public section

set_option maxRecDepth 16384

noncomputable section

namespace Cert.Sb

open Cert.SbKernelIdeal Cert.SbKernelIdeal.Gen
open Idealize.ShloMosaic Idealize.ShloMosaic.TcCoe Idealize.ShloMosaic.Tactic Finset

/-- The two heads of pair `p` of batch entry `b`. -/
def pairOf (Q K V D : ℕ → ℕ → ℕ → ℕ → ℝ) (b p : ℕ) : Heads where
  q s := Q b (2 * p + s)
  k s := K b (2 * p + s)
  v s := V b (2 * p + s)
  d s := D b (2 * p + s)

/-- Column `j` of row `n` of a pair's gradients: the queries', then the keys', then the values'. -/
def column (H : Heads) (n j : ℕ) : ℝ :=
  if j < 128 then Head.dq (H.q (j / 64)) (H.k (j / 64)) (H.v (j / 64)) (H.d (j / 64)) n (j % 64)
  else if j < 256 then Head.dk (H.q ((j - 128) / 64)) (H.k ((j - 128) / 64)) (H.v ((j - 128) / 64)) (H.d ((j - 128) / 64)) n ((j - 128) % 64)
  else Head.dv (H.q ((j - 256) / 64)) (H.k ((j - 256) / 64)) (H.d ((j - 256) / 64)) n ((j - 256) % 64)

theorem column_q (H : Heads) (n : ℕ) (l : Fin 128) : column H n l.val
    = Head.dq (H.q (l.val / 64)) (H.k (l.val / 64)) (H.v (l.val / 64)) (H.d (l.val / 64)) n (l.val % 64) := by
  rw [column, if_pos l.isLt]

theorem column_k (H : Heads) (n : ℕ) (l : Fin 128) : column H n (128 + l.val)
    = Head.dk (H.q (l.val / 64)) (H.k (l.val / 64)) (H.v (l.val / 64)) (H.d (l.val / 64)) n (l.val % 64) := by
  rw [column, if_neg (by omega), if_pos (by omega), Nat.add_sub_cancel_left]

theorem column_v (H : Heads) (n : ℕ) (l : Fin 128) : column H n (256 + l.val)
    = Head.dv (H.q (l.val / 64)) (H.k (l.val / 64)) (H.d (l.val / 64)) n (l.val % 64) := by
  rw [column, if_neg (by omega), if_neg (by omega), Nat.add_sub_cancel_left]

/-- What the body leaves at any column. -/
theorem out_at {H : Heads} {X Y O} (B : Blocks H X Y O) (n : Fin 2048) (j : Fin 384) : out X Y O (ix3 0 n j) = (column H n.val j.val : EReal) := by
  rcases Nat.lt_or_ge j.val 128 with h | h
  · have := B.out_q n ⟨j.val, h⟩
    rw [← column_q] at this
    exact this
  rcases Nat.lt_or_ge j.val 256 with h' | h'
  · have := B.out_k n ⟨j.val - 128, by omega⟩
    rw [← column_k] at this
    simpa only [Nat.add_sub_cancel' h] using this
  · have := B.out_v n ⟨j.val - 256, by omega⟩
    rw [← column_v] at this
    simpa only [Nat.add_sub_cancel' h'] using this

/-- The columns that hold gradients, by pairs of heads and by which of the three they are. -/
def split (x : FVec Ideal S4x2048x2048 .bf16) : FVec Ideal S4x2048x4x3x128 .bf16 :=
  shapeCast S4x2048x4x3x128 (extractStridedSlice S4x2048x1536 ![0, 0, 0] x slices_S4x2048x2048_S4x2048x1536_0_0_0) shapeCasts_S4x2048x1536_S4x2048x4x3x128

/-- Pairs of heads of two features' blocks, as heads. -/
def unpair (x : FVec Ideal S4x2048x4x1x128 .bf16) : FVec Ideal S4x2048x8x64 .bf16 :=
  shapeCast S4x2048x8x64 (shapeCast S4x2048x4x128 x shapeCasts_S4x2048x4x1x128_S4x2048x4x128) shapeCasts_S4x2048x4x128_S4x2048x8x64

/-- The first result as the launch's array gives it, -/
def unpack0 (x : FVec Ideal S4x2048x2048 .bf16) := unpair (extractStridedSlice S4x2048x4x1x128 ![0, 0, 0, 0, 0] (split x) slices_S4x2048x4x3x128_S4x2048x4x1x128_0_0_0_0_0)
/-- the second, -/
def unpack1 (x : FVec Ideal S4x2048x2048 .bf16) := unpair (extractStridedSlice S4x2048x4x1x128 ![0, 0, 0, 1, 0] (split x) slices_S4x2048x4x3x128_S4x2048x4x1x128_0_0_0_1_0)
/-- and the third. -/
def unpack2 (x : FVec Ideal S4x2048x2048 .bf16) := unpair (extractStridedSlice S4x2048x4x1x128 ![0, 0, 0, 2, 0] (split x) slices_S4x2048x4x3x128_S4x2048x4x1x128_0_0_0_2_0)

theorem unpack0_at (x : FVec Ideal S4x2048x2048 .bf16) (b : Fin 4) (n : Fin 2048) (h : Fin 8) (e : Fin 64) :
    unpack0 x (ix4 b n h e) = x (ix3 b n ⟨384 * (h.val / 2) + (64 * (h.val % 2) + e.val), by omega⟩) := by
  unfold unpack0 unpair split
  pointwise
  simp only [show h.val / 2 * 384 + (h.val % 2 * 64 + e.val) = 384 * (h.val / 2) + (64 * (h.val % 2) + e.val) by omega]

theorem unpack1_at (x : FVec Ideal S4x2048x2048 .bf16) (b : Fin 4) (n : Fin 2048) (h : Fin 8) (e : Fin 64) :
    unpack1 x (ix4 b n h e) = x (ix3 b n ⟨384 * (h.val / 2) + (128 + (64 * (h.val % 2) + e.val)), by omega⟩) := by
  unfold unpack1 unpair split
  pointwise
  simp only [show h.val / 2 * 384 + 128 + (h.val % 2 * 64 + e.val) = 384 * (h.val / 2) + (128 + (64 * (h.val % 2) + e.val)) by omega]

theorem unpack2_at (x : FVec Ideal S4x2048x2048 .bf16) (b : Fin 4) (n : Fin 2048) (h : Fin 8) (e : Fin 64) :
    unpack2 x (ix4 b n h e) = x (ix3 b n ⟨384 * (h.val / 2) + (256 + (64 * (h.val % 2) + e.val)), by omega⟩) := by
  unfold unpack2 unpair split
  pointwise
  simp only [show h.val / 2 * 384 + 256 + (h.val % 2 * 64 + e.val) = 384 * (h.val / 2) + (256 + (64 * (h.val % 2) + e.val)) by omega]

variable (m : (ℓ : Loc nD τ sig) → Buf (Elt Ideal) ℓ) (c : Dev nD) {Q K V' D : ℕ → ℕ → ℕ → ℕ → ℝ}
  (A : Reals (m ((c.tc : Thread nD τ).loc main_arg0)) (m ((c.tc : Thread nD τ).loc main_arg1)) (m ((c.tc : Thread nD τ).loc main_arg2))
    (m ((c.tc : Thread nD τ).loc main_arg3)) Q K V' D)
  (cap : ∀ b h i j, b < 4 → h < 8 → j < i → i < 2048 → Head.z (Q b h) (K b h) i j ≤ 60)
include A cap

/-- The blocks of a point are those of its pair of heads. -/
theorem blocks_at (t : Fin cfg0.N) : Blocks (pairOf Q K V' D (t.val / 4) (t.val % 4)) (X0_0 m c t) (iblk m c 1 t) (iblk m c 2 t) := by
  have ht : t.val < 16 := t.isLt
  have hb : t.val / 4 < 4 := by omega
  have hp : t.val % 4 < 4 := Nat.mod_lt _ (by decide)
  refine ⟨fun n l => ?_, fun n l => ?_, fun n l => ?_, fun n l => ?_, fun n l => ?_, fun s i j hs hj hi => cap _ _ i j hb (by omega) hj hi⟩
  · rw [block_x m ⟨_, hb⟩ ⟨_, hp⟩ n c t rfl rfl, entry_x]
    exact (pack_q _ _ _ ⟨_, hb⟩ ⟨_, hp⟩ n l).trans (A.q ..)
  · rw [block_x m ⟨_, hb⟩ ⟨_, hp⟩ n c t rfl rfl, entry_x]
    exact (pack_k _ _ _ ⟨_, hb⟩ ⟨_, hp⟩ n l).trans (A.k ..)
  · rw [block_x m ⟨_, hb⟩ ⟨_, hp⟩ n c t rfl rfl, entry_x]
    exact (pack_v _ _ _ ⟨_, hb⟩ ⟨_, hp⟩ n l).trans (A.v ..)
  · rw [block_y m ⟨_, hb⟩ ⟨_, hp⟩ n l c t rfl rfl, entry_y]
    pointwise
    refine (A.d ..).trans ?_
    simp only [show (128 * (t.val % 4) + l.val) / 64 = 2 * (t.val % 4) + l.val / 64 by omega, show (128 * (t.val % 4) + l.val) % 64 = l.val % 64 by omega]
    rfl
  · rw [block_o m ⟨_, hb⟩ ⟨_, hp⟩ n l c t rfl rfl, entry_o]
    pointwise
    refine (A.o_at ..).trans ?_
    simp only [show (128 * (t.val % 4) + l.val) / 64 = 2 * (t.val % 4) + l.val / 64 by omega, show (128 * (t.val % 4) + l.val) % 64 = l.val % 64 by omega]
    rfl

omit A cap in
theorem out_index : ∀ t : Fin cfg0.N, win0_3.index t 0 = t.val / 4 ∧ win0_3.index t 1 = 0 ∧ win0_3.index t 2 = t.val % 4 :=
  (by decide +kernel : ∀ t : Fin grid0.N, win0_3.index t 0 = t.val / 4 ∧ win0_3.index t 1 = 0 ∧ win0_3.index t 2 = t.val % 4)

theorem out_val (t : Fin cfg0.N) (z : S1x2048x384.Idx) {a0 a1 a2 : ℕ} (h0 : a0 = t.val / 4) (h1 : a1 = 0) (h2 : a2 = t.val % 4) :
    out (X0_0 m c t) (iblk m c 1 t) (iblk m c 2 t) z
    = (column (pairOf Q K V' D (a0 + (z 0).val) ((a2 * 384 + (z 2).val) / 384)) (a1 * 2048 + (z 1).val) ((a2 * 384 + (z 2).val) % 384) : EReal) := by
  subst h0 h1 h2
  idx_vars z
  have e := out_at (blocks_at m c A cap t) z1 z2
  have h0 : z0 = 0 := Subsingleton.elim _ _
  subst h0
  rw [e]
  show ((column _ _ _ : ℝ) : EReal) = ((column (pairOf Q K V' D (t.val / 4 + 0) ((t.val % 4 * 384 + z2.val) / 384)) (0 * 2048 + z1.val) ((t.val % 4 * 384 + z2.val) % 384) : ℝ) : EReal)
  rw [show (t.val % 4 * 384 + z2.val) / 384 = t.val % 4 by omega, show (t.val % 4 * 384 + z2.val) % 384 = z2.val by omega,
      Nat.zero_mul, Nat.zero_add, Nat.add_zero]

/-- The launch's array, at the columns that its blocks cover. -/
theorem array_at (b p : Fin 4) (n : Fin 2048) (j : Fin 384) :
    (dats m 0 c).arrAt 3 cfg0.N (ix3 b n ⟨384 * p.val + j.val, by omega⟩) = (column (pairOf Q K V' D b.val p.val) n.val j.val : EReal) := by
  refine ((dats m 0 c).arrAt_apply_of_coversWhere 3
    (fun i : S4x2048x2048.Idx => (column (pairOf Q K V' D (i 0).val ((i 2).val / 384)) (i 1).val ((i 2).val % 384) : EReal))
    (P := fun i : S4x2048x2048.Idx => (i 2).val / 384 < 4) (fun β => β (2 : Fin 3) < 4) (by decide +kernel)
    (fun t hf y => ?_) (fun j => by blk_simp [Pipeline.Window.cell_apply]) _).trans ?_
  · blk_simp
    rw [after_out]
    frame_out
    obtain ⟨h0, h1, h2⟩ := out_index t
    exact out_val m c A cap t _ h0 h1 h2
  · have hj : (384 * p.val + j.val) / 384 = p.val := by omega
    have hj' : (384 * p.val + j.val) % 384 = j.val := by omega
    refine (if_pos (show (384 * p.val + j.val) / 384 < 4 by omega)).trans ?_
    show ((column (pairOf Q K V' D b.val ((384 * p.val + j.val) / 384)) n.val ((384 * p.val + j.val) % 384) : ℝ) : EReal) = _
    rw [hj, hj']

/-! ### The results -/

omit A cap in
theorem array_read : Pipeline.withArrays spec0 c (V0 m c) (fun w => (dats m 0 c).arrAt w cfg0.N) (Proc.devRef .tc main_v35)
    = (dats m 0 c).arrAt 3 cfg0.N :=
  Pipeline.withArrays_arr spec0 winFacts0.arr_inj c (V0 m c) (fun w => (dats m 0 c).arrAt w cfg0.N) 3

omit A cap in
theorem result0 (w : FVec Ideal S4x2048x2048 .bf16) (hw : (dats m 0 c).arrAt 3 cfg0.N = w) :
    Pipeline.afterTail₀ cfgs (dats m) 0 (V0 m) [hostOps1] c main_v40 = unpack0 w := by
  unfold Pipeline.afterTail₀
  simp only [List.flatten_cons, List.flatten_nil, List.append_nil]
  after_reads_simp
  show unpack0 (Pipeline.withArrays spec0 c (V0 m c) (fun w => (dats m 0 c).arrAt w cfg0.N) (Proc.devRef .tc main_v35)) = _
  rw [array_read, hw]

omit A cap in
theorem result1 (w : FVec Ideal S4x2048x2048 .bf16) (hw : (dats m 0 c).arrAt 3 cfg0.N = w) :
    Pipeline.afterTail₀ cfgs (dats m) 0 (V0 m) [hostOps1] c main_v43 = unpack1 w := by
  unfold Pipeline.afterTail₀
  simp only [List.flatten_cons, List.flatten_nil, List.append_nil]
  after_reads_simp
  show unpack1 (Pipeline.withArrays spec0 c (V0 m c) (fun w => (dats m 0 c).arrAt w cfg0.N) (Proc.devRef .tc main_v35)) = _
  rw [array_read, hw]

omit A cap in
theorem result2 (w : FVec Ideal S4x2048x2048 .bf16) (hw : (dats m 0 c).arrAt 3 cfg0.N = w) :
    Pipeline.afterTail₀ cfgs (dats m) 0 (V0 m) [hostOps1] c main_v46 = unpack2 w := by
  unfold Pipeline.afterTail₀
  simp only [List.flatten_cons, List.flatten_nil, List.append_nil]
  after_reads_simp
  show unpack2 (Pipeline.withArrays spec0 c (V0 m c) (fun w => (dats m 0 c).arrAt w cfg0.N) (Proc.devRef .tc main_v35)) = _
  rw [array_read, hw]

end Cert.Sb
-- ==== Proof.Sb.Frames.lean ====
/-
  The frames of the stick-breaking gradient: the program read over the extended reals and the program on float words
  are one text, so one run serves both.
-/
module

public import proofs.«01_k».proof.Defs
public import proofs.«01_k».proof.Proof.Gen.SbKernel
public import proofs.«01_k».proof.Proof.Sb.Run

@[expose] public section

set_option maxRecDepth 16384

noncomputable section

namespace Cert.Sb

open Idealize.ShloMosaic Idealize.ShloMosaic.TcCoe Idealize.SL.Sem

/-- The program over the extended reals ends with its arguments unchanged and its semaphores at zero. -/
theorem quiescent_ideal : Cert.quiescent_SbKernelIdeal (hSbKernelIdeal := Cert.SbKernelIdeal.Gen.facts) :=
  fun m ρ _ => frame_run (F := Ideal) m ρ

set_option maxHeartbeats 4000000 in
/-- And so does the program on float words. -/
theorem quiescent_words : Cert.quiescent_SbKernel (hSbKernel := Cert.SbKernel.Gen.facts) := by
  have h : ∀ (m : (ℓ : Loc Cert.SbKernelIdeal.nD Cert.SbKernelIdeal.τ Cert.SbKernelIdeal.sig) → Buf (Elt Bits) ℓ) (ρ : Dev Cert.SbKernelIdeal.nD → PrngReg), True → _ :=
    fun m ρ _ => frame_run (F := Bits) m ρ
  have e : Cert.quiescent_SbKernel (hSbKernel := Cert.SbKernel.Gen.facts)
      = ∀ (m : (ℓ : Loc Cert.SbKernelIdeal.nD Cert.SbKernelIdeal.τ Cert.SbKernelIdeal.sig) → Buf (Elt Bits) ℓ) (ρ : Dev Cert.SbKernelIdeal.nD → PrngReg), True →
        θ_run (Cert.SbKernelIdeal.defs (F := Bits)) (onTc (τ := Cert.SbKernelIdeal.τ) (Cert.SbKernelIdeal.main (F := Bits))) ⟨m, fun _ => 0, ρ⟩ (fun r => (∀ c : Dev Cert.SbKernelIdeal.nD,
          r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
          ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1)
          ∧ r.2.mem ((c.tc : Thread Cert.SbKernelIdeal.nD Cert.SbKernelIdeal.τ).loc Cert.SbKernelIdeal.main_arg2) = m ((c.tc : Thread Cert.SbKernelIdeal.nD Cert.SbKernelIdeal.τ).loc Cert.SbKernelIdeal.main_arg2)
          ∧ r.2.mem ((c.tc : Thread Cert.SbKernelIdeal.nD Cert.SbKernelIdeal.τ).loc Cert.SbKernelIdeal.main_arg3) = m ((c.tc : Thread Cert.SbKernelIdeal.nD Cert.SbKernelIdeal.τ).loc Cert.SbKernelIdeal.main_arg3))
          ∧ r.2.sem = fun _ => 0) := by
    sl_kernel_rfl
  exact e.mpr h

end Cert.Sb
end
-- ==== Proof.Sb.Precondition.lean ====
/-
  The precondition of the stick-breaking claim, read back: the arguments are real numbers and no score before the query
  is above sixty.
-/
module

public import proofs.«01_k».proof.Proof.Sb.Reference
public import proofs.«01_k».proof.Defs
public import Idealize.ShloMosaic.Lib.ReduceAll
public import Idealize.ShloMosaic.Lib.Affine

@[expose] public section

set_option maxRecDepth 16384

noncomputable section

namespace Cert.Sb

open Idealize.ShloMosaic Idealize.ShloMosaic.TcCoe Idealize.ShloMosaic.Tactic Finset
open Cert.Pre_moderate_scores

/-- Two bits whose conjunction is one are one. -/
theorem and_bits {x y : IVec S_ 1} (h : andi x y = fun _ => 1#1) : (x = fun _ => 1#1) ∧ (y = fun _ => 1#1) := by
  have H : ∀ a b : BitVec 1, a &&& b = 1#1 → a = 1#1 ∧ b = 1#1 := by decide
  exact ⟨funext fun i => (H _ _ (congrFun h i)).1, funext fun i => (H _ _ (congrFun h i)).2⟩

/-- An extended real of which the magnitude is below infinity is a real number. -/
theorem real_of_abs (x : EReal) (h : Ideal.cmp .olt (max x (-x)) (Ideal.ofBits FTy.f32 2139095040#32) = 1#1) :
    ((x.toReal : ℝ) : EReal) = x := by
  rw [bits_inf] at h
  have h' : max x (-x) < ⊤ := by
    by_contra hn
    have e : Ideal.cmp .olt (max x (-x)) ⊤ = BitVec.ofBool (decide (max x (-x) < ⊤)) := rfl
    rw [e, decide_eq_false hn] at h
    exact absurd h (by decide)
  obtain ⟨h1, h2⟩ := max_lt_iff.mp h'
  refine EReal.coe_toReal h1.ne fun e => ?_
  rw [e] at h2
  exact absurd h2 (by simp)

theorem decode [Cert.Pre_moderate_scores.Facts] {q k v d : FVec Ideal S4x2048x8x64 .f32} (h : fn (F := Ideal) q k v d = fun _ => 1#1) :
    (∀ i, (((q i).toReal : ℝ) : EReal) = q i) ∧ (∀ i, (((k i).toReal : ℝ) : EReal) = k i) ∧ (∀ i, (((v i).toReal : ℝ) : EReal) = v i)
      ∧ (∀ i, (((d i).toReal : ℝ) : EReal) = d i) ∧ ∀ (b : Fin 4) (h : Fin 8) (i j : Fin 2048), j.val < i.val →
        (∑ e : Fin 64, q (ix4 b i h e) * k (ix4 b j h e)) * ((1 / 8 : ℝ) : EReal) ≤ ((60 : ℝ) : EReal) := by
  dsimp only [fn, fn_part1, fn_where] at h
  obtain ⟨h, h4⟩ := and_bits h
  obtain ⟨h, h3⟩ := and_bits h
  obtain ⟨h, h2⟩ := and_bits h
  obtain ⟨h, h1⟩ := and_bits h
  refine ⟨fun i => ?_, fun i => ?_, fun i => ?_, fun i => ?_, fun b hd i j hj => ?_⟩
  · have := Host.reduce_andi_all _ _ _ _ _ (congrFun h1 (Shape.Idx.first Facts.h_S_)) i
    exact real_of_abs _ this
  · exact real_of_abs _ (Host.reduce_andi_all _ _ _ _ _ (congrFun h2 (Shape.Idx.first Facts.h_S_)) i)
  · exact real_of_abs _ (Host.reduce_andi_all _ _ _ _ _ (congrFun h3 (Shape.Idx.first Facts.h_S_)) i)
  · exact real_of_abs _ (Host.reduce_andi_all _ _ _ _ _ (congrFun h4 (Shape.Idx.first Facts.h_S_)) i)
  · have := Host.reduce_andi_all _ _ _ _ _ (congrFun h (Shape.Idx.first Facts.h_S_)) (ix4 b hd i j)
    pointwise at this
    rw [before_word, if_pos hj, bits_eighth, bits_60] at this
    by_contra hn
    rw [decide_eq_false hn] at this
    exact absurd this (by decide)

/-- The facts about shapes that the precondition takes. -/
theorem precondition_facts : Cert.Pre_moderate_scores.Facts := by
  constructor <;> decide +kernel

end Cert.Sb
-- ==== Proof.Sb.Claim.lean ====
/-
  The stick-breaking claim: where the arguments are finite and no score before the query is above sixty, the kernel's
  gradients are the reference's.
-/
module

public import proofs.«01_k».proof.Proof.Sb.Result
public import proofs.«01_k».proof.Proof.Sb.Frames
public import proofs.«01_k».proof.Proof.Sb.Precondition
public import proofs.«01_k».proof.Proof.Gen.SbReferenceIdeal.Run
public import Idealize.ShloMosaic.Lib.Claim
public import Idealize.ShloMosaic.Lib.Quiescent

@[expose] public section

set_option maxRecDepth 16384

noncomputable section

namespace Cert.Sb

open Cert.SbKernelIdeal Cert.SbKernelIdeal.Gen
open Idealize.ShloMosaic Idealize.ShloMosaic.TcCoe Idealize.ShloMosaic.Tactic Idealize.SL.Sem Finset

/-- The entries of an array as real numbers, by batch entry, head, position and feature. -/
def entries (x : FVec Ideal S4x2048x8x64 .f32) (b h n e : ℕ) : ℝ :=
  if H : b < 4 ∧ n < 2048 ∧ h < 8 ∧ e < 64 then (x (ix4 ⟨b, H.1⟩ ⟨n, H.2.1⟩ ⟨h, H.2.2.1⟩ ⟨e, H.2.2.2⟩)).toReal else 0

theorem entries_at (x : FVec Ideal S4x2048x8x64 .f32) (hx : ∀ i, (((x i).toReal : ℝ) : EReal) = x i) (b : Fin 4) (n : Fin 2048) (h : Fin 8) (e : Fin 64) :
    x (ix4 b n h e) = (entries x b.val h.val n.val e.val : EReal) := by
  rw [entries, dif_pos ⟨b.isLt, n.isLt, h.isLt, e.isLt⟩, hx]

/-- What the precondition gives of the arguments. -/
theorem reals_of [Cert.Pre_moderate_scores.Facts] {q k v d : FVec Ideal S4x2048x8x64 .f32} (h : Cert.Pre_moderate_scores.fn (F := Ideal) q k v d = fun _ => 1#1) :
    Reals q k v d (entries q) (entries k) (entries v) (entries d)
      ∧ ∀ b h i j, b < 4 → h < 8 → j < i → i < 2048 → Head.z (entries q b h) (entries k b h) i j ≤ 60 := by
  obtain ⟨hq, hk, hv, hd, hz⟩ := decode h
  refine ⟨⟨entries_at q hq, entries_at k hk, entries_at v hv, entries_at d hd⟩, fun b h i j hb hh hj hi => ?_⟩
  have e := hz ⟨b, hb⟩ ⟨h, hh⟩ ⟨i, hi⟩ ⟨j, by omega⟩ hj
  rw [sum_congr rfl fun x _ => by rw [entries_at q hq, entries_at k hk, ← EReal.coe_mul], ← coe_sum, ← EReal.coe_mul, EReal.coe_le_coe_iff] at e
  refine le_trans (le_of_eq ?_) e
  rw [Head.z, sum_range]

theorem head_of (h : Fin 8) (e : Fin 64) : 2 * (h.val / 2) + (64 * (h.val % 2) + e.val) / 64 = h.val := by omega

theorem lane_of (h : Fin 8) (e : Fin 64) : (64 * (h.val % 2) + e.val) % 64 = e.val := by omega

/-- The run, with the three results as the launch's array gives them. -/
theorem kernel_results (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v40) = unpack0 ((dats m 0 c).arrAt 3 cfg0.N)
      ∧ r.2.mem ((c.tc : Thread nD τ).loc main_v43) = unpack1 ((dats m 0 c).arrAt 3 cfg0.N)
      ∧ r.2.mem ((c.tc : Thread nD τ).loc main_v46) = unpack2 ((dats m 0 c).arrAt 3 cfg0.N)) :=
  (θ_run defs _ _).mono (fun _ h c =>
    ⟨((h.1 c).2 main_v40 (Pipeline.mem_restRefs_of main_v40 (by decide) (by decide))).trans (result0 m c _ rfl),
     ((h.1 c).2 main_v43 (Pipeline.mem_restRefs_of main_v43 (by decide) (by decide))).trans (result1 m c _ rfl),
     ((h.1 c).2 main_v46 (Pipeline.mem_restRefs_of main_v46 (by decide) (by decide))).trans (result2 m c _ rfl)⟩) (run_quiescent m ρ)

section
variable (m : (ℓ : Loc nD τ sig) → Buf (Elt Ideal) ℓ) (c : Dev nD) {Q K V' D : ℕ → ℕ → ℕ → ℕ → ℝ}
  (A : Reals (m ((c.tc : Thread nD τ).loc main_arg0)) (m ((c.tc : Thread nD τ).loc main_arg1)) (m ((c.tc : Thread nD τ).loc main_arg2))
    (m ((c.tc : Thread nD τ).loc main_arg3)) Q K V' D)
  (cap : ∀ b h i j, b < 4 → h < 8 → j < i → i < 2048 → Head.z (Q b h) (K b h) i j ≤ 60)
include A cap

/-- The kernel's gradient of the queries is the reference's, -/
theorem same_q : unpack0 ((dats m 0 c).arrAt 3 cfg0.N) = Cert.SbReferenceIdeal.Read.val_main_v41 (F := Ideal)
      (m ((c.tc : Thread nD τ).loc main_arg0)) (m ((c.tc : Thread nD τ).loc main_arg1)) (m ((c.tc : Thread nD τ).loc main_arg2)) (m ((c.tc : Thread nD τ).loc main_arg3)) := by
  funext i
  idx_vars i
  have e := array_at m c A cap i0 ⟨i2.val / 2, by omega⟩ i1 ⟨64 * (i2.val % 2) + i3.val, by omega⟩
  have h := column_q (pairOf Q K V' D i0.val (i2.val / 2)) i1.val ⟨64 * (i2.val % 2) + i3.val, by omega⟩
  rw [A.dq_at i0 i2 i1 i3, unpack0_at, e]
  refine (congrArg _ h).trans ?_
  simp only [pairOf, head_of, lane_of]

/-- its gradient of the keys, -/
theorem same_k : unpack1 ((dats m 0 c).arrAt 3 cfg0.N) = Cert.SbReferenceIdeal.Read.val_main_v42 (F := Ideal)
      (m ((c.tc : Thread nD τ).loc main_arg0)) (m ((c.tc : Thread nD τ).loc main_arg1)) (m ((c.tc : Thread nD τ).loc main_arg2)) (m ((c.tc : Thread nD τ).loc main_arg3)) := by
  funext i
  idx_vars i
  have e := array_at m c A cap i0 ⟨i2.val / 2, by omega⟩ i1 ⟨128 + (64 * (i2.val % 2) + i3.val), by omega⟩
  have h := column_k (pairOf Q K V' D i0.val (i2.val / 2)) i1.val ⟨64 * (i2.val % 2) + i3.val, by omega⟩
  rw [A.dk_at i0 i2 i1 i3, unpack1_at, e]
  refine (congrArg _ h).trans ?_
  simp only [pairOf, head_of, lane_of]

/-- and its gradient of the values. -/
theorem same_v : unpack2 ((dats m 0 c).arrAt 3 cfg0.N) = Cert.SbReferenceIdeal.Read.val_main_v43 (F := Ideal)
      (m ((c.tc : Thread nD τ).loc main_arg0)) (m ((c.tc : Thread nD τ).loc main_arg1)) (m ((c.tc : Thread nD τ).loc main_arg3)) := by
  funext i
  idx_vars i
  have e := array_at m c A cap i0 ⟨i2.val / 2, by omega⟩ i1 ⟨256 + (64 * (i2.val % 2) + i3.val), by omega⟩
  have h := column_v (pairOf Q K V' D i0.val (i2.val / 2)) i1.val ⟨64 * (i2.val % 2) + i3.val, by omega⟩
  rw [A.dv_at i0 i2 i1 i3, unpack2_at, e]
  refine (congrArg _ h).trans ?_
  simp only [pairOf, head_of, lane_of]

end

/-- THE CLAIM: both programs run, and their three results agree. -/
theorem algebraic [Cert.Pre_moderate_scores.Facts] : algebraic_SbKernelIdeal_SbReferenceIdeal_pre_moderate_scores := by
  intro m ρ m' ρ' hpre hagree
  refine ⟨_, _, _, (θ_run defs _ _).mono (fun r h c => ⟨(h.2 c).1, (h.2 c).2.1, (h.2 c).2.2, (h.1.1 c).1, (h.1.1 c).2.1, (h.1.1 c).2.2.1, (h.1.1 c).2.2.2⟩)
    (θ_run_and (frame_run (F := Ideal) m ρ) (kernel_results m ρ)), ?_⟩
  refine (θ_run Cert.SbReferenceIdeal.defs _ _).mono (fun _ h c => ?_) (Cert.SbReferenceIdeal.Value.run (F := Ideal) m' ρ')
  obtain ⟨h0, h1, h2, h3⟩ := hagree c
  obtain ⟨A, cap⟩ := reals_of (hpre c)
  obtain ⟨r0, r1, r2, ra⟩ := h c
  refine ⟨r0.trans ?_, r1.trans ?_, r2.trans ?_, ra⟩
  · rw [same_q m c A cap, ← h0, ← h1, ← h2, ← h3]
    exact Cert.SbReferenceIdeal.Read.val_main_v41_eq m' c
  · rw [same_k m c A cap, ← h0, ← h1, ← h2, ← h3]
    exact Cert.SbReferenceIdeal.Read.val_main_v42_eq m' c
  · rw [same_v m c A cap, ← h0, ← h1, ← h3]
    exact Cert.SbReferenceIdeal.Read.val_main_v43_eq m' c

/-- The reference runs and leaves its arguments and its counters as they were. -/
theorem quiescent_reference : quiescent_SbReferenceIdeal := fun m ρ _ =>
  (θ_run Cert.SbReferenceIdeal.defs _ _).mono (fun r h => ⟨fun c => (h c).2.2.2, sem_eq_zero_of_no_sems (by decide) r.2⟩)
    (Cert.SbReferenceIdeal.Value.run (F := Ideal) m ρ)

theorem quiescent_kernel_pre [Cert.Pre_moderate_scores.Facts] : quiescent_SbKernelIdeal_pre_moderate_scores :=
  fun m ρ _ => quiescent_ideal m ρ trivial

theorem quiescent_reference_pre [Cert.Pre_moderate_scores.Facts] : quiescent_SbReferenceIdeal_pre_moderate_scores :=
  fun m ρ _ => quiescent_reference m ρ trivial

end Cert.Sb
-- ==== Proof.Reals.lean ====
/-
  Real numbers among the extended reals: what of the arithmetic stays inside them, and how a precondition says that an
  argument does.
-/
module

public import Idealize.ShloMosaic.Lib.Pointwise
public import Idealize.ShloMosaic.Lib.ReduceAll

@[expose] public section

noncomputable section

namespace Cert.Reals

open Idealize.ShloMosaic Idealize.ShloMosaic.TcCoe

/-- `x` is a real number. -/
def IsReal (x : EReal) : Prop := ((x.toReal : ℝ) : EReal) = x

theorem IsReal.coe (r : ℝ) : IsReal (r : EReal) := by rw [IsReal, EReal.toReal_coe]

theorem IsReal.exists {x : EReal} (h : IsReal x) : ∃ r : ℝ, x = r := ⟨_, h.symm⟩

theorem IsReal.mul {x y : EReal} (hx : IsReal x) (hy : IsReal y) : IsReal (x * y) := by
  rw [← hx, ← hy, ← EReal.coe_mul]; exact .coe _

theorem IsReal.add {x y : EReal} (hx : IsReal x) (hy : IsReal y) : IsReal (x + y) := by
  rw [← hx, ← hy, ← EReal.coe_add]; exact .coe _

/-- A sum of real numbers, summed as extended reals. -/
theorem coe_sum {ι : Type} (s : Finset ι) (f : ι → ℝ) : ((∑ k ∈ s, f k : ℝ) : EReal) = ∑ k ∈ s, (f k : EReal) := by
  induction s using Finset.cons_induction with
  | empty => simp
  | cons a s h ih => rw [Finset.sum_cons, Finset.sum_cons, EReal.coe_add, ih]

theorem IsReal.sum {ι : Type} (s : Finset ι) {f : ι → EReal} (h : ∀ i, IsReal (f i)) : IsReal (∑ i ∈ s, f i) := by
  rw [Finset.sum_congr rfl fun i _ => (h i).symm, ← coe_sum]; exact .coe _

/-- A quotient of real numbers, where the divisor is not zero. -/
theorem div_coe (x : ℝ) {y : ℝ} (h : y ≠ 0) : Ideal.div (x : EReal) (y : EReal) = ((x / y : ℝ) : EReal) := by
  rw [Ideal.div, if_neg (by exact_mod_cast h), div_eq_mul_inv, EReal.coe_mul, EReal.coe_inv]

theorem bits_inf : Ideal.ofBits FTy.f32 2139095040#32 = ⊤ := by simp [Ideal.ofBits, Ideal.ieee]

theorem bits_neg_inf : Ideal.ofBits FTy.f32 4286578688#32 = ⊥ := by simp [Ideal.ofBits, Ideal.ieee]

theorem bits_one : Ideal.ofBits FTy.f32 1065353216#32 = 1 := by
  simp [Ideal.ofBits, Ideal.ieee]; rw [← EReal.coe_mul, ← EReal.coe_one]; norm_num

/-- Two bits whose conjunction is one are one. -/
theorem and_bits {s : Shape} {x y : IVec s 1} (h : andi x y = fun _ => 1#1) : (x = fun _ => 1#1) ∧ (y = fun _ => 1#1) := by
  have H : ∀ a b : BitVec 1, a &&& b = 1#1 → a = 1#1 ∧ b = 1#1 := by decide
  exact ⟨funext fun i => (H _ _ (congrFun h i)).1, funext fun i => (H _ _ (congrFun h i)).2⟩

/-- An extended real of which the magnitude is below infinity is a real number. -/
theorem real_of_abs (x : EReal) (h : Ideal.cmp .olt (max x (-x)) (Ideal.ofBits FTy.f32 2139095040#32) = 1#1) : IsReal x := by
  rw [bits_inf] at h
  have h' : max x (-x) < ⊤ := by
    by_contra hn
    have e : Ideal.cmp .olt (max x (-x)) ⊤ = BitVec.ofBool (decide (max x (-x) < ⊤)) := rfl
    rw [e, decide_eq_false hn] at h
    exact absurd h (by decide)
  obtain ⟨h1, h2⟩ := max_lt_iff.mp h'
  refine EReal.coe_toReal h1.ne fun e => ?_
  rw [e] at h2
  exact absurd h2 (by simp)

end Cert.Reals
-- ==== Proof.Mem.Row.lean ====
/-
  One row of a softmax and of its gradient. Both programs take the row's largest score off before the exponential. One
  writes the gradient of a score as weight times (cotangent minus the row's weighted sum of cotangents), the other
  differentiates the quotient of the exponential and the row's sum.
-/
module

public import proofs.«01_k».proof.Proof.Reals

@[expose] public section

noncomputable section

namespace Cert.Mem

open Idealize.ShloMosaic Idealize.ShloMosaic.TcCoe Cert.Reals Finset

/-- The largest score of a row, -/
def top (s : Fin 256 → EReal) : EReal := fold max ⊥ s univ

/-- the exponential of a score below it, -/
def raised (s : Fin 256 → EReal) (j : Fin 256) : EReal := Ideal.exp (s j - top s)

/-- the weight of a score, -/
def weight (s : Fin 256 → EReal) (j : Fin 256) : EReal := Ideal.div (raised s j) (∑ x, raised s x)

/-- the gradient of a score, without the factor of the scores. -/
def slope (s t : Fin 256 → EReal) (j : Fin 256) : EReal := weight s j * (t j - ∑ x, weight s x * t x)

/-- The largest of real scores is real. -/
theorem top_real {s : Fin 256 → EReal} (hs : ∀ j, IsReal (s j)) : IsReal (top s) := by
  rw [top]
  refine EReal.coe_toReal (ne_of_lt ?_) (ne_of_gt ?_)
  · refine (fold_max_lt _).2 ⟨bot_lt_top, fun j _ => ?_⟩
    rw [← hs j]; exact EReal.coe_lt_top _
  · refine (lt_fold_max _).2 (.inr ⟨0, mem_univ _, ?_⟩)
    rw [← hs 0]; exact EReal.bot_lt_coe _

/-- The derivative of the quotient, as the programs differ in it. -/
theorem slope_eq {s t : Fin 256 → EReal} (hs : ∀ j, IsReal (s j)) (ht : ∀ j, IsReal (t j)) (j : Fin 256) :
    (Ideal.div (t j) (∑ x, raised s x)
      + -(∑ x, t x * Ideal.div 1 ((∑ y, raised s y) * ∑ y, raised s y) * raised s x)) * raised s j = slope s t j := by
  obtain ⟨M, hM⟩ := (top_real hs).exists
  have he : ∀ x, raised s x = ((Real.exp ((s x).toReal - M) : ℝ) : EReal) := fun x => by
    rw [raised, hM, ← hs x, ← EReal.coe_sub, Ideal.exp_coe, EReal.toReal_coe]
  obtain ⟨e, hpos, he⟩ : ∃ e : Fin 256 → ℝ, (∀ x, 0 < e x) ∧ ∀ x, raised s x = (e x : EReal) := ⟨_, fun x => Real.exp_pos _, he⟩
  have hl : (0 : ℝ) < ∑ x, e x := sum_pos (fun x _ => hpos x) ⟨0, mem_univ _⟩
  have hS : ∑ x, raised s x = ((∑ x, e x : ℝ) : EReal) := by rw [coe_sum]; exact sum_congr rfl fun x _ => he x
  generalize ∑ x, e x = l at hl hS
  have hw : ∀ x, weight s x = ((e x / l : ℝ) : EReal) := fun x => by rw [weight, hS, he x, div_coe _ hl.ne']
  obtain ⟨T, rfl⟩ : ∃ T : Fin 256 → ℝ, t = fun x => (T x : EReal) := ⟨fun x => (t x).toReal, funext fun x => (ht x).symm⟩
  simp only [slope, hw, hS]
  simp only [he]
  rw [← EReal.coe_one, ← EReal.coe_mul, div_coe _ (mul_pos hl hl).ne', div_coe _ hl.ne']
  simp only [← EReal.coe_mul, ← coe_sum, ← EReal.coe_neg, ← EReal.coe_add, ← EReal.coe_sub, EReal.coe_eq_coe_iff]
  have h1 : ∑ x, T x * (1 / (l * l)) * e x = (∑ x, e x / l * T x) / l := by
    rw [sum_div]
    refine sum_congr rfl fun x _ => ?_
    field_simp
  rw [h1]
  field_simp
  ring

end Cert.Mem
-- ==== Proof.Mem.Reference.lean ====
/-
  The reference's gradients of the memory attention, element by element, where its arguments are real numbers.
-/
module

public import proofs.«01_k».proof.Proof.Mem.Row
public import proofs.«01_k».proof.Proof.Gen.MemReferenceIdeal.Read

@[expose] public section

set_option maxRecDepth 16384

noncomputable section

namespace Cert.Mem

open Idealize.ShloMosaic Idealize.ShloMosaic.TcCoe Idealize.ShloMosaic.Tactic Finset
open Cert.MemReferenceIdeal Cert.MemReferenceIdeal.Read Cert.Reals

/-- The factor of the scores. -/
def scale : EReal := Ideal.ofBits FTy.f32 1035273459#32

variable (q : FVec Ideal S4x2048x4x128 .f32) (k v : FVec Ideal S4x256x4x128 .f32) (d : FVec Ideal S4x2048x4x128 .f32)
  (b : Fin 4) (h : Fin 4) (n : Fin 2048)

/-- The scores of a query, -/
def score (j : Fin 256) : EReal := (∑ x : Fin 128, q (ix4 b n h x) * k (ix4 b j h x)) * scale

/-- and the cotangents of its weights. -/
def cotangent (j : Fin 256) : EReal := ∑ x : Fin 128, d (ix4 b n h x) * v (ix4 b j h x)

theorem v2_at (j : Fin 256) : val_main_v2 (F := Ideal) q k (ix4 b h n j) = score q k b h n j := by
  pointwise [val_main_v2, val_main_v0]
  rfl

/-- The largest entry of a row. -/
theorem rowmax (y : FVec Ideal S4x4x2048x256 .f32) (z : FVec Ideal S_ .f32) :
    Host.reduce (FloatOps.maximumf (F := Ideal)) y z Gen.reducesTo_S4x4x2048x256_S4x4x2048_d3 Gen.h_S_ (ix3 b h n)
      = fold max (z (Shape.Idx.first Gen.h_S_)) (fun j : Fin 256 => y (ix4 b h n j)) univ := by
  refine (Host.reduce_eq_fold_single (max : EReal → EReal → EReal) y z Gen.reducesTo_S4x4x2048x256_S4x4x2048_d3 (by decide) Gen.h_S_ (ix3 b h n)).trans ?_
  refine congrArg (fun g => fold max (z (Shape.Idx.first Gen.h_S_)) g univ) (funext fun j => congrArg y (funext fun a => Fin.ext ?_))
  match a with | ⟨0, _⟩ => rfl | ⟨1, _⟩ => rfl | ⟨2, _⟩ => rfl | ⟨3, _⟩ => rfl

theorem least : val_main_cst_0 (F := Ideal) (Shape.Idx.first Gen.h_S_) = ⊥ := bits_neg_inf

theorem v3_fold : val_main_v3 (F := Ideal) q k (ix3 b h n)
    = fold max (val_main_cst_0 (F := Ideal) (Shape.Idx.first Gen.h_S_)) (fun j : Fin 256 => val_main_v2 (F := Ideal) q k (ix4 b h n j)) univ :=
  rowmax b h n _ _

theorem v3_at : val_main_v3 (F := Ideal) q k (ix3 b h n) = top (score q k b h n) := by
  rw [v3_fold, least, top]
  simp only [v2_at]

theorem least' : val_main_cst_2 (F := Ideal) ix0 = ⊥ := bits_neg_inf

theorem max_at (y : FVec Ideal S4x4x2048 .f32) : maximumf (val_main_v9 (F := Ideal)) y (ix3 b h n) = max (val_main_cst_2 (F := Ideal) ix0) (y (ix3 b h n)) := by
  pointwise [val_main_v9]

theorem max_bot (y : EReal) : max ⊥ y = y := max_eq_right bot_le

theorem v10_max : val_main_v10 (F := Ideal) q k (ix3 b h n) = max (val_main_cst_2 (F := Ideal) ix0) (val_main_v3 (F := Ideal) q k (ix3 b h n)) :=
  max_at b h n (val_main_v3 (F := Ideal) q k)

theorem v10_at : val_main_v10 (F := Ideal) q k (ix3 b h n) = top (score q k b h n) := by
  rw [v10_max, v3_at, least', max_bot]

theorem v21_at (j : Fin 256) : val_main_v21 (F := Ideal) q k (ix4 b h n j) = val_main_v10 (F := Ideal) q k (ix3 b h n) := by
  pointwise [val_main_v21, val_main_v20]

theorem v22_at (j : Fin 256) : val_main_v22 (F := Ideal) q k (ix4 b h n j) = score q k b h n j - top (score q k b h n) := by
  pointwise [val_main_v22]
  rw [v2_at, v21_at, v10_at]

theorem v23_at (j : Fin 256) : val_main_v23 (F := Ideal) q k (ix4 b h n j) = raised (score q k b h n) j := by
  pointwise [val_main_v23]
  rw [v22_at]
  rfl

theorem v25_at : val_main_v25 (F := Ideal) q k (ix4 b h n 0) = ∑ x, raised (score q k b h n) x := by
  pointwise [val_main_v25, val_main_v24]
  simp only [v23_at]
  rw [show val_main_cst_8 (F := Ideal) (Shape.Idx.first Gen.h_S_) = 0 from Ideal.ofBits_zero_f32, zero_add]

theorem v27_at (j : Fin 256) : val_main_v27 (F := Ideal) q k (ix4 b h n j) = weight (score q k b h n) j := by
  pointwise [val_main_v27, val_main_v26]
  rw [v23_at, v25_at]
  rfl

theorem v34_at (j : Fin 256) : val_main_v34 (F := Ideal) v d (ix4 b h n j) = cotangent v d b h n j := by
  pointwise [val_main_v34, val_main_v33]
  rfl

theorem v30_at : val_main_v30 (F := Ideal) q k (ix4 b h n 0)
    = Ideal.div 1 ((∑ x, raised (score q k b h n) x) * ∑ x, raised (score q k b h n) x) := by
  pointwise [val_main_v30, val_main_v29, val_main_v28]
  rw [v25_at, show val_main_cst_9 (F := Ideal) ix0 = 1 from bits_one]

variable (hq : ∀ i, IsReal (q i)) (hk : ∀ i, IsReal (k i)) (hv : ∀ i, IsReal (v i)) (hd : ∀ i, IsReal (d i))

theorem scale_real : IsReal scale := by
  unfold scale
  simp [Ideal.ofBits, Ideal.ieee]
  rw [← EReal.coe_mul]
  exact .coe _

include hq hk in
theorem score_real (j : Fin 256) : IsReal (score q k b h n j) := (IsReal.sum _ fun _ => (hq _).mul (hk _)).mul scale_real

include hv hd in
theorem cotangent_real (j : Fin 256) : IsReal (cotangent v d b h n j) := IsReal.sum _ fun _ => (hd _).mul (hv _)

include hq hk hv hd in
theorem v50_at (j : Fin 256) : val_main_v50 (F := Ideal) q k v d (ix4 b h n j)
    = slope (score q k b h n) (cotangent v d b h n) j * scale := by
  rw [← slope_eq (score_real q k b h n hq hk) (cotangent_real v d b h n hv hd)]
  pointwise [val_main_v50, val_main_v48, val_main_v47, val_main_v46, val_main_v45, val_main_v44, val_main_v43, val_main_v42, val_main_v41, val_main_v40,
    val_main_v39, val_main_v38, val_main_v37]
  simp only [v34_at, v25_at, v30_at, v23_at, sum_const, card_univ, Fintype.card_fin, one_nsmul]
  rw [show val_main_cst_11 (F := Ideal) (Shape.Idx.first Gen.h_S_) = 0 from Ideal.ofBits_zero_f32,
    show val_main_cst_10 (F := Ideal) (Shape.Idx.first Gen.h_S_) = 0 from Ideal.ofBits_zero_f32, zero_add, zero_add]
  rfl

/-- The gradient of the queries, -/
theorem dq_at (x : Fin 128) : val_main_v55 (F := Ideal) q k v d (ix4 b n h x)
    = ∑ j, val_main_v50 (F := Ideal) q k v d (ix4 b h n j) * k (ix4 b j h x) := by
  pointwise [val_main_v55, val_main_v54, val_main_v53]

/-- of the keys, -/
theorem dk_at (j : Fin 256) (x : Fin 128) : val_main_v56 (F := Ideal) q k v d (ix4 b j h x)
    = ∑ n, val_main_v50 (F := Ideal) q k v d (ix4 b h n j) * q (ix4 b n h x) := by
  pointwise [val_main_v56, val_main_v52, val_main_v51]

/-- and of the values. -/
theorem dv_at (j : Fin 256) (x : Fin 128) : val_main_v57 (F := Ideal) q k d (ix4 b j h x)
    = ∑ n, d (ix4 b n h x) * val_main_v27 (F := Ideal) q k (ix4 b h n j) := by
  pointwise [val_main_v57, val_main_v36, val_main_v35, val_main_v33]

end Cert.Mem
-- ==== Proof.Mem.Kernel.lean ====
/-
  What the memory gradient's launch leaves, element by element: point `4 b + h` of the grid has the columns of batch
  entry `b` and head `h`.
-/
module

public import proofs.«01_k».proof.Proof.Mem.Reference
public import proofs.«01_k».proof.Proof.Gen.MemKernelIdeal.Frame
public import Idealize.ShloMosaic.Lib.Pipeline.ValueKit
public import Idealize.ShloMosaic.Lib.StableHlo.ReadAt

@[expose] public section

set_option maxRecDepth 16384

noncomputable section

namespace Cert.Mem

open Idealize.ShloMosaic Idealize.ShloMosaic.TcCoe Idealize.ShloMosaic.Tactic Finset
open Cert.MemKernelIdeal Cert.MemKernelIdeal.Gen Cert.Reals

variable (m : (ℓ : Loc nD τ sig) → Buf (Elt Ideal) ℓ)

/-! ### The arrays that the launch reads -/

/-- The queries' columns after columns of zeros. -/
def packQ (q : FVec Ideal S4x2048x4x128 .f32) : FVec Ideal S4x2048x2048 .bf16 :=
  concatenate S4x2048x2048 2 [⟨S4x2048x1536, broadcastInDim S4x2048x1536 ![] bcast_S_S4x2048x1536 (constant (F := Ideal) S_ .bf16 0x0000#16)⟩,
    ⟨S4x2048x512, truncf .bf16 (shapeCast S4x2048x512 q shapeCasts_S4x2048x4x128_S4x2048x512) bitsLt_bf16_f32⟩] concatenates_S4x2048x1536_S4x2048x512_S4x2048x2048_d2

/-- The keys' columns, then the values'. -/
def packKV (k v : FVec Ideal S4x256x4x128 .f32) : FVec Ideal S4x256x1024 .bf16 :=
  truncf .bf16 (concatenate S4x256x1024 2 [⟨S4x256x512, shapeCast S4x256x512 k shapeCasts_S4x256x4x128_S4x256x512⟩,
    ⟨S4x256x512, shapeCast S4x256x512 v shapeCasts_S4x256x4x128_S4x256x512⟩] concatenates_S4x256x512_S4x256x512_S4x256x1024_d2) bitsLt_bf16_f32

def packD (d : FVec Ideal S4x2048x4x128 .f32) : FVec Ideal S4x2048x512 .bf16 :=
  truncf .bf16 (shapeCast S4x2048x512 d shapeCasts_S4x2048x4x128_S4x2048x512) bitsLt_bf16_f32

theorem entry_q (c : Dev nD) : V m c main_v3 = packQ (m ((c.tc : Thread nD τ).loc main_arg0)) := by
  unfold V V0
  simp only [List.flatten_cons, List.flatten_nil, List.append_nil]
  after_reads_simp
  rfl

theorem entry_kv (c : Dev nD) : V m c main_v7 = packKV (m ((c.tc : Thread nD τ).loc main_arg1)) (m ((c.tc : Thread nD τ).loc main_arg2)) := by
  unfold V V0
  simp only [List.flatten_cons, List.flatten_nil, List.append_nil]
  after_reads_simp
  rfl

theorem entry_d (c : Dev nD) : V m c main_v9 = packD (m ((c.tc : Thread nD τ).loc main_arg3)) := by
  unfold V V0
  simp only [List.flatten_cons, List.flatten_nil, List.append_nil]
  after_reads_simp
  rfl

variable (b h : Fin 4) (l : Fin 128)

theorem packQ_at (q : FVec Ideal S4x2048x4x128 .f32) (n : Fin 2048) :
    packQ q (ix3 b n ⟨1536 + (128 * h.val + l.val), by omega⟩) = q (ix4 b n h l) := by
  unfold packQ
  pointwise

theorem packK_at (k v : FVec Ideal S4x256x4x128 .f32) (j : Fin 256) :
    packKV k v (ix3 b j ⟨128 * h.val + l.val, by omega⟩) = k (ix4 b j h l) := by
  unfold packKV
  pointwise
  rw [dif_pos (by omega)]

theorem packV_at (k v : FVec Ideal S4x256x4x128 .f32) (j : Fin 256) :
    packKV k v (ix3 b j ⟨512 + (128 * h.val + l.val), by omega⟩) = v (ix4 b j h l) := by
  unfold packKV
  pointwise

theorem packD_at (d : FVec Ideal S4x2048x4x128 .f32) (n : Fin 2048) :
    packD d (ix3 b n ⟨128 * h.val + l.val, by omega⟩) = d (ix4 b n h l) := by
  unfold packD
  pointwise

/-! ### The blocks of a point -/

theorem block_index : ∀ t : Fin cfg0.N, win0_0.index t = ![t.val / 4, 0, 12 + t.val % 4] ∧ win0_1.index t = ![t.val / 4, 0, t.val % 4]
    ∧ win0_2.index t = ![t.val / 4, 0, 4 + t.val % 4] ∧ win0_3.index t = ![t.val / 4, 0, t.val % 4]
    ∧ win0_4.index t = ![t.val / 4, 0, 12 + t.val % 4] ∧ win0_5.index t = ![t.val / 4, 0, t.val % 4] ∧ win0_6.index t = ![t.val / 4, 0, t.val % 4] :=
  (by decide +kernel : ∀ t : Fin grid0.N, win0_0.index t = ![t.val / 4, 0, 12 + t.val % 4] ∧ win0_1.index t = ![t.val / 4, 0, t.val % 4]
    ∧ win0_2.index t = ![t.val / 4, 0, 4 + t.val % 4] ∧ win0_3.index t = ![t.val / 4, 0, t.val % 4]
    ∧ win0_4.index t = ![t.val / 4, 0, 12 + t.val % 4] ∧ win0_5.index t = ![t.val / 4, 0, t.val % 4] ∧ win0_6.index t = ![t.val / 4, 0, t.val % 4])

section
variable (c : Dev nD) (t : Fin cfg0.N) (hb : t.val / 4 = b.val) (hh : t.val % 4 = h.val)
include hb hh

theorem block_q (n : Fin 2048) : iblk m c 0 t (ix3 0 n l) = (m ((c.tc : Thread nD τ).loc main_arg0) : FVec Ideal S4x2048x4x128 .f32) (ix4 b n h l) := by
  refine Eq.trans ?_ (packQ_at b h l _ n)
  rw [← entry_q m c]
  blk_simp [iblk]
  blk_ext [block_index]

theorem block_k (j : Fin 256) : iblk m c 1 t (ix3 0 j l) = (m ((c.tc : Thread nD τ).loc main_arg1) : FVec Ideal S4x256x4x128 .f32) (ix4 b j h l) := by
  refine Eq.trans ?_ (packK_at b h l _ (m ((c.tc : Thread nD τ).loc main_arg2)) j)
  rw [← entry_kv m c]
  blk_simp [iblk]
  blk_ext [block_index]

theorem block_v (j : Fin 256) : iblk m c 2 t (ix3 0 j l) = (m ((c.tc : Thread nD τ).loc main_arg2) : FVec Ideal S4x256x4x128 .f32) (ix4 b j h l) := by
  refine Eq.trans ?_ (packV_at b h l (m ((c.tc : Thread nD τ).loc main_arg1)) _ j)
  rw [← entry_kv m c]
  blk_simp [iblk]
  blk_ext [block_index]

theorem block_d (n : Fin 2048) : iblk m c 3 t (ix3 0 n l) = (m ((c.tc : Thread nD τ).loc main_arg3) : FVec Ideal S4x2048x4x128 .f32) (ix4 b n h l) := by
  refine Eq.trans ?_ (packD_at b h l _ n)
  rw [← entry_d m c]
  blk_simp [iblk]
  blk_ext [block_index]

/-! ### What a point leaves -/

abbrev argQ : FVec Ideal S4x2048x4x128 .f32 := m ((c.tc : Thread nD τ).loc main_arg0)
abbrev argK : FVec Ideal S4x256x4x128 .f32 := m ((c.tc : Thread nD τ).loc main_arg1)
abbrev argV : FVec Ideal S4x256x4x128 .f32 := m ((c.tc : Thread nD τ).loc main_arg2)
abbrev argD : FVec Ideal S4x2048x4x128 .f32 := m ((c.tc : Thread nD τ).loc main_arg3)

theorem left_q (n : Fin 2048) : (outsAt0 m c t).1 (ix3 0 n l)
    = ∑ j, slope (score (argQ m c) (argK m c) b h n) (cotangent (argV m c) (argD m c) b h n) j * scale * argK m c (ix4 b j h l) := by
  unfold outsAt0
  frame_out
  unfold_payloads
  pointwise
  simp only [block_q m b h _ c t hb hh, block_k m b h _ c t hb hh, block_v m b h _ c t hb hh, block_d m b h _ c t hb hh, bits_neg_inf]
  rfl

theorem left_k (j : Fin 256) : (outsAt0 m c t).2.1 (ix3 0 j l)
    = ∑ n, slope (score (argQ m c) (argK m c) b h n) (cotangent (argV m c) (argD m c) b h n) j * scale * argQ m c (ix4 b n h l) := by
  unfold outsAt0
  frame_out
  unfold_payloads
  pointwise
  simp only [block_q m b h _ c t hb hh, block_k m b h _ c t hb hh, block_v m b h _ c t hb hh, block_d m b h _ c t hb hh, bits_neg_inf]
  rfl

theorem left_v (j : Fin 256) : (outsAt0 m c t).2.2 (ix3 0 j l)
    = ∑ n, weight (score (argQ m c) (argK m c) b h n) j * argD m c (ix4 b n h l) := by
  unfold outsAt0
  frame_out
  unfold_payloads
  pointwise
  simp only [block_q m b h _ c t hb hh, block_k m b h _ c t hb hh, block_d m b h _ c t hb hh, bits_neg_inf]
  rfl

variable (hq : ∀ i, IsReal (argQ m c i)) (hk : ∀ i, IsReal (argK m c i)) (hv : ∀ i, IsReal (argV m c i)) (hd : ∀ i, IsReal (argD m c i))

include hq hk hv hd in
/-- A point leaves the reference's gradients of its head: of the queries, -/
theorem same_q (n : Fin 2048) : (outsAt0 m c t).1 (ix3 0 n l)
    = Cert.MemReferenceIdeal.Read.val_main_v55 (F := Ideal) (argQ m c) (argK m c) (argV m c) (argD m c) (ix4 b n h l) := by
  rw [left_q m b h l c t hb hh, dq_at]
  simp only [v50_at _ _ _ _ _ _ _ hq hk hv hd]

include hq hk hv hd in
/-- of the keys, -/
theorem same_k (j : Fin 256) : (outsAt0 m c t).2.1 (ix3 0 j l)
    = Cert.MemReferenceIdeal.Read.val_main_v56 (F := Ideal) (argQ m c) (argK m c) (argV m c) (argD m c) (ix4 b j h l) := by
  rw [left_k m b h l c t hb hh, dk_at]
  simp only [v50_at _ _ _ _ _ _ _ hq hk hv hd]

/-- and of the values. -/
theorem same_v (j : Fin 256) : (outsAt0 m c t).2.2 (ix3 0 j l)
    = Cert.MemReferenceIdeal.Read.val_main_v57 (F := Ideal) (argQ m c) (argK m c) (argD m c) (ix4 b j h l) := by
  rw [left_v m b h l c t hb hh, dv_at]
  exact sum_congr rfl fun n _ => by rw [v27_at, mul_comm]

end

/-! ### The launch's arrays -/

section
variable (c : Dev nD) (hq : ∀ i, IsReal (argQ m c i)) (hk : ∀ i, IsReal (argK m c i)) (hv : ∀ i, IsReal (argV m c i)) (hd : ∀ i, IsReal (argD m c i))

/-- An element of a four-dimensional array by the columns of its heads side by side. -/
def byHead {n : ℕ} (x : FVec Ideal ⟨4, ![4, n, 4, 128]⟩ .bf16) (b : Fin 4) (r : Fin n) (col : ℕ) : EReal :=
  x (ix4 b r ⟨col / 128 % 4, by omega⟩ ⟨col % 128, by omega⟩)

theorem byHead_at {n : ℕ} (x : FVec Ideal ⟨4, ![4, n, 4, 128]⟩ .bf16) (r : Fin n) {col : ℕ} (e : col % 512 = 128 * h.val + l.val) :
    byHead x b r col = x (ix4 b r h l) := by
  unfold byHead
  have h1 : (⟨col / 128 % 4, by omega⟩ : Fin 4) = h := Fin.ext (by show col / 128 % 4 = h.val; omega)
  have h2 : (⟨col % 128, by omega⟩ : Fin 128) = l := Fin.ext (by show col % 128 = l.val; omega)
  rw [h1, h2]

include hq hk hv hd in
theorem array_q (n : Fin 2048) : (dats m 0 c).arrAt 4 cfg0.N (ix3 b n ⟨1536 + (128 * h.val + l.val), by omega⟩)
    = Cert.MemReferenceIdeal.Read.val_main_v55 (F := Ideal) (argQ m c) (argK m c) (argV m c) (argD m c) (ix4 b n h l) := by
  refine ((dats m 0 c).arrAt_apply_of_coversWhere 4
    (fun i : S4x2048x2048.Idx => byHead (Cert.MemReferenceIdeal.Read.val_main_v55 (F := Ideal) (argQ m c) (argK m c) (argV m c) (argD m c)) (i 0) (i 1) (i 2).val)
    (P := fun i : S4x2048x2048.Idx => 12 ≤ (i 2).val / 128) (fun β => 12 ≤ β (2 : Fin 3)) (by decide +kernel)
    (fun t hf y => ?_) (fun j => by blk_simp [Pipeline.Window.cell_apply]) _).trans ?_
  · blk_simp
    rw [after0_4]
    idx_vars y
    have ht : t.val < 16 := t.isLt
    have h0 : y0 = 0 := Subsingleton.elim _ _
    subst h0
    refine (same_q m ⟨t.val / 4, by omega⟩ ⟨t.val % 4, by omega⟩ y2 c t rfl rfl hq hk hv hd y1).trans ?_
    unfold byHead
    blk_ext [block_index]
  · refine (if_pos (show 12 ≤ (1536 + (128 * h.val + l.val)) / 128 by omega)).trans ?_
    exact byHead_at b h l _ n (by show (1536 + (128 * h.val + l.val)) % 512 = _; omega)

include hq hk hv hd in
theorem array_k (j : Fin 256) : (dats m 0 c).arrAt 5 cfg0.N (ix3 b j ⟨128 * h.val + l.val, by omega⟩)
    = Cert.MemReferenceIdeal.Read.val_main_v56 (F := Ideal) (argQ m c) (argK m c) (argV m c) (argD m c) (ix4 b j h l) := by
  rw [(dats m 0 c).arrAt_eq_of_covers 5
    (fun i : S4x256x512.Idx => byHead (Cert.MemReferenceIdeal.Read.val_main_v56 (F := Ideal) (argQ m c) (argK m c) (argV m c) (argD m c)) (i 0) (i 1) (i 2).val)
    (by decide +kernel) fun t hf y => ?_]
  · exact byHead_at b h l _ j (by show (128 * h.val + l.val) % 512 = _; omega)
  · blk_simp
    rw [after0_5]
    idx_vars y
    have ht : t.val < 16 := t.isLt
    have h0 : y0 = 0 := Subsingleton.elim _ _
    subst h0
    refine (same_k m ⟨t.val / 4, by omega⟩ ⟨t.val % 4, by omega⟩ y2 c t rfl rfl hq hk hv hd y1).trans ?_
    unfold byHead
    blk_ext [block_index]
theorem array_v (j : Fin 256) : (dats m 0 c).arrAt 6 cfg0.N (ix3 b j ⟨128 * h.val + l.val, by omega⟩)
    = Cert.MemReferenceIdeal.Read.val_main_v57 (F := Ideal) (argQ m c) (argK m c) (argD m c) (ix4 b j h l) := by
  rw [(dats m 0 c).arrAt_eq_of_covers 6
    (fun i : S4x256x512.Idx => byHead (Cert.MemReferenceIdeal.Read.val_main_v57 (F := Ideal) (argQ m c) (argK m c) (argD m c)) (i 0) (i 1) (i 2).val)
    (by decide +kernel) fun t hf y => ?_]
  · exact byHead_at b h l _ j (by show (128 * h.val + l.val) % 512 = _; omega)
  · blk_simp
    rw [after0_6]
    idx_vars y
    have ht : t.val < 16 := t.isLt
    have h0 : y0 = 0 := Subsingleton.elim _ _
    subst h0
    refine (same_v m ⟨t.val / 4, by omega⟩ ⟨t.val % 4, by omega⟩ y2 c t rfl rfl y1).trans ?_
    unfold byHead
    blk_ext [block_index]

end

end Cert.Mem
-- ==== Proof.Mem.Claim.lean ====
/-
  The memory attention's claim: where the arguments are finite, the kernel's gradients are the reference's.
-/
module

public import proofs.«01_k».proof.Defs
public import proofs.«01_k».proof.Proof.Mem.Kernel
public import proofs.«01_k».proof.Proof.Gen.MemKernel.Frame
public import proofs.«01_k».proof.Proof.Gen.MemReferenceIdeal.Run
public import Idealize.ShloMosaic.Lib.Claim
public import Idealize.ShloMosaic.Lib.Quiescent

@[expose] public section

set_option maxRecDepth 16384

noncomputable section

namespace Cert.Mem

open Cert.MemKernelIdeal Cert.MemKernelIdeal.Gen Cert.Reals
open Idealize.ShloMosaic Idealize.ShloMosaic.TcCoe Idealize.ShloMosaic.Tactic Idealize.SL.Sem Finset

/-- The facts about shapes that the precondition takes. -/
theorem precondition_facts : Cert.Pre_finite_memory.Facts := by
  constructor <;> decide +kernel

/-- What the precondition gives of the arguments: they are real numbers. -/
theorem decode [Cert.Pre_finite_memory.Facts] {q d : FVec Ideal S4x2048x4x128 .f32} {k v : FVec Ideal S4x256x4x128 .f32}
    (h : Cert.Pre_finite_memory.fn (F := Ideal) q k v d = fun _ => 1#1) :
    (∀ i, IsReal (q i)) ∧ (∀ i, IsReal (k i)) ∧ (∀ i, IsReal (v i)) ∧ ∀ i, IsReal (d i) := by
  dsimp only [Cert.Pre_finite_memory.fn] at h
  obtain ⟨h, h4⟩ := and_bits h
  obtain ⟨h, h3⟩ := and_bits h
  obtain ⟨h1, h2⟩ := and_bits h
  refine ⟨fun i => ?_, fun i => ?_, fun i => ?_, fun i => ?_⟩
  · exact real_of_abs _ (Host.reduce_andi_all _ _ _ _ _ (congrFun h1 (Shape.Idx.first Cert.Pre_finite_memory.Facts.h_S_)) i)
  · exact real_of_abs _ (Host.reduce_andi_all _ _ _ _ _ (congrFun h2 (Shape.Idx.first Cert.Pre_finite_memory.Facts.h_S_)) i)
  · exact real_of_abs _ (Host.reduce_andi_all _ _ _ _ _ (congrFun h3 (Shape.Idx.first Cert.Pre_finite_memory.Facts.h_S_)) i)
  · exact real_of_abs _ (Host.reduce_andi_all _ _ _ _ _ (congrFun h4 (Shape.Idx.first Cert.Pre_finite_memory.Facts.h_S_)) i)

/-! ### The results, read back from the launch's arrays -/

/-- The queries' gradient as the launch's array gives it. -/
def unpackQ (x : FVec Ideal S4x2048x2048 .bf16) : FVec Ideal S4x2048x4x128 .bf16 :=
  shapeCast S4x2048x4x128 (extractStridedSlice S4x2048x512 ![0, 0, 1536] x slices_S4x2048x2048_S4x2048x512_0_0_1536) shapeCasts_S4x2048x512_S4x2048x4x128

/-- The keys' and the values'. -/
def unpackK (x : FVec Ideal S4x256x512 .bf16) : FVec Ideal S4x256x4x128 .bf16 := shapeCast S4x256x4x128 x shapeCasts_S4x256x512_S4x256x4x128

theorem unpackQ_at (x : FVec Ideal S4x2048x2048 .bf16) (b : Fin 4) (n : Fin 2048) (h : Fin 4) (l : Fin 128) :
    unpackQ x (ix4 b n h l) = x (ix3 b n ⟨1536 + (128 * h.val + l.val), by omega⟩) := by
  unfold unpackQ
  pointwise
  simp only [Nat.mul_comm h.val 128]

theorem unpackK_at (x : FVec Ideal S4x256x512 .bf16) (b : Fin 4) (j : Fin 256) (h : Fin 4) (l : Fin 128) :
    unpackK x (ix4 b j h l) = x (ix3 b j ⟨128 * h.val + l.val, by omega⟩) := by
  unfold unpackK
  pointwise
  simp only [Nat.mul_comm h.val 128]

variable (m : (ℓ : Loc nD τ sig) → Buf (Elt Ideal) ℓ) (c : Dev nD)

theorem result_q (w : FVec Ideal S4x2048x2048 .bf16) (hw : (dats m 0 c).arrAt 4 cfg0.N = w) :
    Pipeline.afterTail₀ cfgs (dats m) 0 (V0 m) [hostOps1] c main_v13 = unpackQ w := by
  unfold Pipeline.afterTail₀
  simp only [List.flatten_cons, List.flatten_nil, List.append_nil]
  after_reads_simp
  show unpackQ (Pipeline.withArrays spec0 c (V0 m c) (fun w => (dats m 0 c).arrAt w cfg0.N) (Proc.devRef .tc main_v11_0)) = _
  rw [← hw]
  exact congrArg unpackQ ((dats m 0 c).withArrays_arrAt sharedIn0 (V0 m c) (A_eq m c) 4)

theorem result_k (w : FVec Ideal S4x256x512 .bf16) (hw : (dats m 0 c).arrAt 5 cfg0.N = w) :
    Pipeline.afterTail₀ cfgs (dats m) 0 (V0 m) [hostOps1] c main_v14 = unpackK w := by
  unfold Pipeline.afterTail₀
  simp only [List.flatten_cons, List.flatten_nil, List.append_nil]
  after_reads_simp
  show unpackK (Pipeline.withArrays spec0 c (V0 m c) (fun w => (dats m 0 c).arrAt w cfg0.N) (Proc.devRef .tc main_v11_1)) = _
  rw [← hw]
  exact congrArg unpackK ((dats m 0 c).withArrays_arrAt sharedIn0 (V0 m c) (A_eq m c) 5)

theorem result_v (w : FVec Ideal S4x256x512 .bf16) (hw : (dats m 0 c).arrAt 6 cfg0.N = w) :
    Pipeline.afterTail₀ cfgs (dats m) 0 (V0 m) [hostOps1] c main_v15 = unpackK w := by
  unfold Pipeline.afterTail₀
  simp only [List.flatten_cons, List.flatten_nil, List.append_nil]
  after_reads_simp
  show unpackK (Pipeline.withArrays spec0 c (V0 m c) (fun w => (dats m 0 c).arrAt w cfg0.N) (Proc.devRef .tc main_v11_2)) = _
  rw [← hw]
  exact congrArg unpackK ((dats m 0 c).withArrays_arrAt sharedIn0 (V0 m c) (A_eq m c) 6)

/-- The run, with the three results as the launch's arrays give them. -/
theorem kernel_results (ρ : Dev nD → PrngReg) :
    θ_run defs (onTc (τ := τ) (main (F := Ideal))) ⟨m, fun _ => 0, ρ⟩ (fun r => ∀ c : Dev nD,
      r.2.mem ((c.tc : Thread nD τ).loc main_v13) = unpackQ ((dats m 0 c).arrAt 4 cfg0.N)
      ∧ r.2.mem ((c.tc : Thread nD τ).loc main_v14) = unpackK ((dats m 0 c).arrAt 5 cfg0.N)
      ∧ r.2.mem ((c.tc : Thread nD τ).loc main_v15) = unpackK ((dats m 0 c).arrAt 6 cfg0.N)) :=
  (θ_run defs _ _).mono (fun _ h c =>
    ⟨((h c).2 main_v13 (Pipeline.mem_restRefs_of main_v13 (by decide) (by decide))).trans (result_q m c _ rfl),
     ((h c).2 main_v14 (Pipeline.mem_restRefs_of main_v14 (by decide) (by decide))).trans (result_k m c _ rfl),
     ((h c).2 main_v15 (Pipeline.mem_restRefs_of main_v15 (by decide) (by decide))).trans (result_v m c _ rfl)⟩) (run_main m ρ)

/-- THE CLAIM: both programs run, and their three results agree. -/
theorem algebraic [Cert.Pre_finite_memory.Facts] : algebraic_MemKernelIdeal_MemReferenceIdeal_pre_finite_memory := by
  intro m ρ m' ρ' hpre hagree
  refine ⟨_, _, _, (θ_run defs _ _).mono (fun r h c => ⟨(h.2 c).1, (h.2 c).2.1, (h.2 c).2.2, (h.1 c).1, (h.1 c).2.1, (h.1 c).2.2.1, (h.1 c).2.2.2⟩)
    (θ_run_and (unchanged (F := Ideal) m ρ) (kernel_results m ρ)), ?_⟩
  refine (θ_run Cert.MemReferenceIdeal.defs _ _).mono (fun _ h c => ?_) (Cert.MemReferenceIdeal.Value.run (F := Ideal) m' ρ')
  obtain ⟨h0, h1, h2, h3⟩ := hagree c
  obtain ⟨hq, hk, hv, hd⟩ := decode (hpre c)
  obtain ⟨r0, r1, r2, ra⟩ := h c
  have e0 : unpackQ ((dats m 0 c).arrAt 4 cfg0.N) = Cert.MemReferenceIdeal.Read.val_main_v55 (F := Ideal) (argQ m c) (argK m c) (argV m c) (argD m c) := by
    funext i; idx_vars i; rw [unpackQ_at]; exact array_q m i0 i2 i3 c hq hk hv hd i1
  have e1 : unpackK ((dats m 0 c).arrAt 5 cfg0.N) = Cert.MemReferenceIdeal.Read.val_main_v56 (F := Ideal) (argQ m c) (argK m c) (argV m c) (argD m c) := by
    funext i; idx_vars i; rw [unpackK_at]; exact array_k m i0 i2 i3 c hq hk hv hd i1
  have e2 : unpackK ((dats m 0 c).arrAt 6 cfg0.N) = Cert.MemReferenceIdeal.Read.val_main_v57 (F := Ideal) (argQ m c) (argK m c) (argD m c) := by
    funext i; idx_vars i; rw [unpackK_at]; exact array_v m i0 i2 i3 c i1
  refine ⟨r0.trans ?_, r1.trans ?_, r2.trans ?_, ra⟩
  · rw [e0, argQ, argK, argV, argD, ← h0, ← h1, ← h2, ← h3]
    exact Cert.MemReferenceIdeal.Read.val_main_v55_eq m' c
  · rw [e1, argQ, argK, argV, argD, ← h0, ← h1, ← h2, ← h3]
    exact Cert.MemReferenceIdeal.Read.val_main_v56_eq m' c
  · rw [e2, argQ, argK, argD, ← h0, ← h1, ← h3]
    exact Cert.MemReferenceIdeal.Read.val_main_v57_eq _ _ _

/-- The kernel runs and leaves its arguments and its counters as they were, -/
theorem quiescent_words : quiescent_MemKernel (hMemKernel := Cert.MemKernel.Gen.facts) := fun m ρ _ => Cert.MemKernel.Gen.frame m ρ

theorem quiescent_ideal : quiescent_MemKernelIdeal := fun m ρ _ => frame m ρ

/-- and so does the reference. -/
theorem quiescent_reference : quiescent_MemReferenceIdeal := fun m ρ _ =>
  (θ_run Cert.MemReferenceIdeal.defs _ _).mono (fun r h => ⟨fun c => (h c).2.2.2, sem_eq_zero_of_no_sems (by decide) r.2⟩)
    (Cert.MemReferenceIdeal.Value.run (F := Ideal) m ρ)

theorem quiescent_kernel_pre [Cert.Pre_finite_memory.Facts] : quiescent_MemKernelIdeal_pre_finite_memory :=
  fun m ρ _ => quiescent_ideal m ρ trivial

theorem quiescent_reference_pre [Cert.Pre_finite_memory.Facts] : quiescent_MemReferenceIdeal_pre_finite_memory :=
  fun m ρ _ => quiescent_reference m ρ trivial

end Cert.Mem
-- ==== Proof.Gate.Reference.lean ====
module

public import proofs.«01_k».proof.Proof.Gen.GateReferenceIdeal.Read
public import Idealize.ShloMosaic.Lib.Pointwise

@[expose] public section

set_option maxRecDepth 16384

/-!
The reference of the gates' gradient, read at an index: the cotangent of the merged rows, the gate of a branch and a
column, and with them the gradients of the branches, of the gates' scores and of their bias.
-/

noncomputable section

namespace Cert.Gate

open Cert.GateReferenceIdeal Cert.GateReferenceIdeal.Read
open Idealize.ShloMosaic Idealize.ShloMosaic.TcCoe Finset

/-- The cotangent of merged row `i` at column `j`: the row of `d` against row `j` of `w`. -/
def dMerged (w : FVec Ideal S1024x1024 .f32) (d : FVec Ideal S8192x1024 .f32) (i : Fin 8192) (j : Fin 1024) : EReal :=
  ∑ x : Fin 1024, d (ix2 i x) * w (ix2 j x)

/-- The gate of row `i` at column `n` of the three branches side by side. -/
def gate (g : FVec Ideal S8192x3072 .f32) (b : FVec Ideal S1x3072 .f32) (i : Fin 8192) (n : Fin 3072) : EReal :=
  Ideal.logistic (g (ix2 i n) + b (ix2 0 n))

variable (g : FVec Ideal S8192x3072 .f32) (ya yb yc d : FVec Ideal S8192x1024 .f32) (b : FVec Ideal S1x3072 .f32)
  (w : FVec Ideal S1024x1024 .f32) (i : Fin 8192) (j : Fin 1024)

theorem v24_at : val_main_v24 (F := Ideal) w d (ix2 i j) = dMerged w d i j := by
  unfold dMerged
  pointwise [val_main_v24]

theorem v7_at (n : Fin 3072) : val_main_v7 (F := Ideal) g b (ix2 i n) = gate g b i n := by
  unfold gate
  pointwise [val_main_v7, val_main_v6, val_main_cst_0, val_main_v5, val_main_v4, val_main_cst, val_main_v3, val_main_v2, val_main_v1, val_main_v0]
  rfl

theorem v10_at (n : Fin 3072) : val_main_v10 (F := Ideal) g b (ix2 i n) = gate g b i n * (1 - gate g b i n) := by
  rw [← v7_at]
  pointwise [val_main_v10, val_main_v9, val_main_v8, val_main_cst_1]

theorem v13_at : val_main_v13 (F := Ideal) g b (ix2 i j) = gate g b i ⟨j.val, by omega⟩ := by
  rw [← v7_at]
  pointwise [val_main_v13, val_main_v12, val_main_v11]

theorem v16_at : val_main_v16 (F := Ideal) g b (ix2 i j) = gate g b i ⟨1024 + j.val, by omega⟩ := by
  rw [← v7_at]
  pointwise [val_main_v16, val_main_v15, val_main_v11]

theorem v20_at : val_main_v20 (F := Ideal) g b (ix2 i j) = gate g b i ⟨2048 + j.val, by omega⟩ := by
  rw [← v7_at]
  pointwise [val_main_v20, val_main_v19, val_main_v11]

/-- The gradients of the three branches. -/
theorem v44_at : val_main_v44 (F := Ideal) g b w d (ix2 i j) = dMerged w d i j * gate g b i ⟨j.val, by omega⟩ := by
  rw [← v24_at, ← v13_at]
  pointwise [val_main_v44, val_main_v34]
  exact mul_comm _ _

theorem v45_at : val_main_v45 (F := Ideal) g b w d (ix2 i j) = dMerged w d i j * gate g b i ⟨1024 + j.val, by omega⟩ := by
  rw [← v24_at, ← v16_at]
  pointwise [val_main_v45, val_main_v29]
  exact mul_comm _ _

theorem v46_at : val_main_v46 (F := Ideal) g b w d (ix2 i j) = dMerged w d i j * gate g b i ⟨2048 + j.val, by omega⟩ := by
  rw [← v24_at, ← v20_at]
  pointwise [val_main_v46, val_main_v25]
  exact mul_comm _ _

theorem v39_at_0 : val_main_v39 (F := Ideal) ya yb yc w d (ix2 i ⟨j.val, by omega⟩) = dMerged w d i j * ya (ix2 i j) := by
  rw [← v24_at]
  pointwise [val_main_v39, val_main_v38, val_main_v33, val_main_v28, val_main_v32, val_main_v37, val_main_v36, val_main_v31, val_main_v27,
    val_main_v35, val_main_v30, val_main_v26, val_main_cst_2, val_main_cst_3, val_main_cst_4]
  have e : j.val / 1024 = 0 := by omega
  simp [e, Nat.mod_eq_of_lt j.isLt]

theorem v39_at_1 : val_main_v39 (F := Ideal) ya yb yc w d (ix2 i ⟨1024 + j.val, by omega⟩) = dMerged w d i j * yb (ix2 i j) := by
  rw [← v24_at]
  pointwise [val_main_v39, val_main_v38, val_main_v33, val_main_v28, val_main_v32, val_main_v37, val_main_v36, val_main_v31, val_main_v27,
    val_main_v35, val_main_v30, val_main_v26, val_main_cst_2, val_main_cst_3, val_main_cst_4]
  have e : (1024 + j.val) / 1024 = 1 := by omega
  simp [e]

theorem v39_at_2 : val_main_v39 (F := Ideal) ya yb yc w d (ix2 i ⟨2048 + j.val, by omega⟩) = dMerged w d i j * yc (ix2 i j) := by
  rw [← v24_at]
  pointwise [val_main_v39, val_main_v38, val_main_v33, val_main_v28, val_main_v32, val_main_v37, val_main_v36, val_main_v31, val_main_v27,
    val_main_v35, val_main_v30, val_main_v26, val_main_cst_2, val_main_cst_3, val_main_cst_4]
  have e : (2048 + j.val) / 1024 = 2 := by omega
  simp [e]

theorem v43_at (n : Fin 3072) : val_main_v43 (F := Ideal) g ya yb yc b w d (ix2 i n)
    = val_main_v39 (F := Ideal) ya yb yc w d (ix2 i n) * (gate g b i n * (1 - gate g b i n)) := by
  rw [← v10_at]
  pointwise [val_main_v43, val_main_v40]

theorem v42_at (n : Fin 3072) : val_main_v42 (F := Ideal) g ya yb yc b w d (ix2 0 n)
    = ∑ i : Fin 8192, val_main_v39 (F := Ideal) ya yb yc w d (ix2 i n) * (gate g b i n * (1 - gate g b i n)) := by
  pointwise [val_main_v42, val_main_v41, val_main_v40, val_main_cst_5]
  simp only [v10_at]

end Cert.Gate

end
-- ==== Proof.Total.lean ====
module

public import Idealize.ShloMosaic.Lib.Pointwise
public import Idealize.ShloMosaic.Lib.Pipeline.ValueKit

@[expose] public section

/-!
A total over rows that a launch keeps from point to point.
-/

namespace Cert.Total

open Idealize.ShloMosaic Finset

variable {ι : Type} {N J n R : ℕ}

theorem below (hR : R = J * n) (k : ℕ) (hk : k < J) (y : Fin n) : n * k + y.val < R := by
  have := Nat.mul_le_mul_left n hk
  have := y.isLt
  rw [Nat.mul_succ] at *
  rw [hR, Nat.mul_comm J n]
  omega

/-- A total that the first point starts at zero, and to which every point adds its `n` rows: after the last of the `J`
points it is the sum over all rows. -/
theorem rows (f : (k : ℕ) → k < N → ι → EReal) (g : Fin R → ι → EReal) (hR : R = J * n) (hN : N = J) (hJ : 0 < J)
    (h0 : ∀ t : Fin N, t.val % J = 0 → ∀ i, f t.val t.isLt i = 0 + ∑ y : Fin n, g ⟨n * t.val + y.val, below hR _ (hN ▸ t.isLt) y⟩ i)
    (hs : ∀ t : Fin N, ¬t.val % J = 0 → ∀ i, f t.val t.isLt i = f (t.val - 1) (Nat.lt_of_le_of_lt (Nat.sub_le _ _) t.isLt) i
      + ∑ y : Fin n, g ⟨n * t.val + y.val, below hR _ (hN ▸ t.isLt) y⟩ i)
    (t : Fin N) (ht : t.val + 1 = J) (i : ι) : f t.val t.isLt i = ∑ r : Fin R, g r i := by
  have e := Pipeline.eq_sum_of_reset_step_apply_single f J (fun _ => (0 : EReal))
    (fun k i => if hk : k < J then ∑ y : Fin n, g ⟨n * k + y.val, below hR k hk y⟩ i else 0)
    (fun t h i => by rw [h0 t h i, dif_pos (hN ▸ t.isLt)]) (fun t h i => by rw [hs t h i, dif_pos (hN ▸ t.isLt)]) hN.le t i
  rw [e, ht, zero_add, Finset.sum_range]
  refine Eq.trans ?_ (Fin.sum_mul_add_fin J n (fun r => g r i) hR)
  refine sum_congr rfl fun k _ => ?_
  rw [dif_pos k.isLt]
  refine sum_congr rfl fun y _ => ?_
  congr 1
  exact Fin.ext (by simp only [Nat.mul_comm n])

/-- The same for a launch that takes `p` points for every block of rows: the total starts at zero, the last point of a block
adds the block's rows, and every other point leaves the total as it was. -/
theorem rows_last {p : ℕ} (hp : 2 ≤ p) (f : (k : ℕ) → k < N → ι → EReal) (g : Fin R → ι → EReal) (hR : R = J * n) (hN : N = p * J) (hJ : 0 < J)
    (h0 : ∀ t : Fin N, t.val = 0 → ∀ i, f t.val t.isLt i = 0)
    (hh : ∀ t : Fin N, t.val ≠ 0 → t.val % p ≠ p - 1 → ∀ i, f t.val t.isLt i = f (t.val - 1) (Nat.lt_of_le_of_lt (Nat.sub_le _ _) t.isLt) i)
    (hs : ∀ t : Fin N, t.val % p = p - 1 → ∀ i, f t.val t.isLt i = f (t.val - 1) (Nat.lt_of_le_of_lt (Nat.sub_le _ _) t.isLt) i
      + ∑ y : Fin n, g ⟨n * (t.val / p) + y.val, below hR _ (Nat.div_lt_of_lt_mul (hN ▸ t.isLt)) y⟩ i)
    (t : Fin N) (ht : t.val + 1 = N) (i : ι) : f t.val t.isLt i = ∑ r : Fin R, g r i := by
  have lt : ∀ k, k < J → ∀ q, q < p → p * k + q < N := fun k hk q hq => by
    have := Nat.mul_le_mul_left p hk
    rw [Nat.mul_succ] at this
    omega
  have held : ∀ k (hk : k < J) q (hq : q < p - 1) i,
      f (p * k + q) (lt k hk q (by omega)) i = if h : k = 0 then 0 else f (p * (k - 1) + (p - 1)) (lt (k - 1) (by omega) _ (by omega)) i := by
    intro k hk q hq i
    induction q with
    | zero =>
      by_cases h : k = 0
      · subst h
        rw [dif_pos rfl]
        exact h0 ⟨p * 0 + 0, lt 0 hk 0 (by omega)⟩ (by simp) i
      · rw [dif_neg h]
        have hm : p * k = p * (k - 1) + p := by rw [← Nat.mul_succ]; congr 1; omega
        refine (hh ⟨p * k + 0, lt k hk 0 (by omega)⟩ (by show p * k + 0 ≠ 0; omega) (by show (p * k + 0) % p ≠ p - 1; simp; omega) i).trans ?_
        congr 1
        show p * k + 0 - 1 = _
        omega
    | succ q ih =>
      refine (hh ⟨p * k + (q + 1), lt k hk _ (by omega)⟩ (by show p * k + (q + 1) ≠ 0; omega)
        (by show (p * k + (q + 1)) % p ≠ p - 1; rw [Nat.mul_add_mod, Nat.mod_eq_of_lt (by omega)]; omega) i).trans ?_
      exact ih (by omega)
  have step : ∀ k (hk : k < J) i, f (p * k + (p - 1)) (lt k hk _ (by omega)) i
      = (if h : k = 0 then 0 else f (p * (k - 1) + (p - 1)) (lt (k - 1) (by omega) _ (by omega)) i) + ∑ y : Fin n, g ⟨n * k + y.val, below hR _ hk y⟩ i := by
    intro k hk i
    rw [← held k hk (p - 2) (by omega) i]
    have hd : (p * k + (p - 1)) / p = k := by
      rw [Nat.mul_add_div (by omega), Nat.div_eq_of_lt (by omega), Nat.add_zero]
    refine (hs ⟨p * k + (p - 1), lt k hk _ (by omega)⟩ (by show (p * k + (p - 1)) % p = p - 1; rw [Nat.mul_add_mod, Nat.mod_eq_of_lt (by omega)]) i).trans ?_
    congr 1
    · congr 1
      show p * k + (p - 1) - 1 = p * k + (p - 2)
      omega
    · refine sum_congr rfl fun y _ => ?_
      congr 1
      exact Fin.ext (by show n * ((p * k + (p - 1)) / p) + y.val = n * k + y.val; rw [hd])
  have e := rows (N := J) (fun k h i => f (p * k + (p - 1)) (lt k h _ (by omega)) i) g hR rfl hJ
    (fun k h i => by
      have hk : k.val = 0 := by rw [Nat.mod_eq_of_lt k.isLt] at h; exact h
      rw [step k.val k.isLt i, dif_pos hk])
    (fun k h i => by
      have hk : k.val ≠ 0 := fun hk => h (by rw [hk, Nat.zero_mod])
      rw [step k.val k.isLt i, dif_neg hk])
    ⟨J - 1, by omega⟩ (by show J - 1 + 1 = J; omega) i
  rw [← e]
  congr 1
  show t.val = p * (J - 1) + (p - 1)
  have : p * J = p * (J - 1) + p := by rw [← Nat.mul_succ]; congr 1; omega
  omega

end Cert.Total
-- ==== Proof.Gate.Kernel.lean ====
module

public import proofs.«01_k».proof.Proof.Gate.Reference
public import proofs.«01_k».proof.Proof.Total
public import proofs.«01_k».proof.Proof.Gen.GateKernelIdeal.Value
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

/-!
The kernel of the gates' gradient: what each of its 16 points reads, what it leaves, and the five arrays it fills.
-/

noncomputable section

namespace Cert.Gate

open Cert.GateKernelIdeal Cert.GateKernelIdeal.Gen Cert.GateKernelIdeal.Value
open Idealize.ShloMosaic Idealize.ShloMosaic.TcCoe Idealize.SL.Sem Finset

/-- Where the later stores of a buffer cover an index, the earlier ones do not matter there. -/
theorem canon_append_cover {Val : EltTy → Type} {S : Shape} {e : EltTy} [∀ e, Nonempty (Val e)] (L' : List (View.Piece Val S e)) :
    ∀ (L : List (View.Piece Val S e)) (y : S.Idx) (_ : ∃ p ∈ L, y ∈ p.1.set), View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · obtain ⟨q, hq, hyq⟩ := hy
      have hq' : q ∈ L := (List.mem_cons.mp hq).resolve_left fun h => hm (h ▸ hyq)
      rw [List.cons_append, View.canon_cons_of_not_mem _ _ hm, View.canon_cons_of_not_mem _ _ hm]
      exact canon_append_cover L' L y ⟨q, hq', hyq⟩

variable (m : (ℓ : Loc nD τ sig) → Buf (Elt Ideal) ℓ) (c : Dev nD)

abbrev argG : FVec Ideal S8192x3072 .f32 := m ((c.tc : Thread nD τ).loc main_arg0)
abbrev argYa : FVec Ideal S8192x1024 .f32 := m ((c.tc : Thread nD τ).loc main_arg1)
abbrev argYb : FVec Ideal S8192x1024 .f32 := m ((c.tc : Thread nD τ).loc main_arg2)
abbrev argYc : FVec Ideal S8192x1024 .f32 := m ((c.tc : Thread nD τ).loc main_arg3)
abbrev argB : FVec Ideal S1x3072 .f32 := m ((c.tc : Thread nD τ).loc main_arg4)
abbrev argW : FVec Ideal S1024x1024 .f32 := m ((c.tc : Thread nD τ).loc main_arg5)
abbrev argD : FVec Ideal S8192x1024 .f32 := m ((c.tc : Thread nD τ).loc main_arg6)

theorem block_index : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![0, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![0, 0])

/-- Row `y` of the block of point `t`, as a row of the whole array. -/
def row (t : Fin cfg0.N) (y : Fin 512) : Fin 8192 := ⟨512 * t.val + y.val, by have := lt_of_lt_of_eq t.isLt N_0; omega⟩

section
variable (t : Fin cfg0.N) (y : Fin 512) (j k : Fin 1024) (n : Fin 3072)

theorem block_d : iblk m c 0 t (ix2 y j) = argD m c (ix2 (row t y) j) := by
  unfold row
  blk_point [iblk, V, block_index]

theorem block_w : iblk m c 1 t (ix2 k j) = argW m c (ix2 k j) := by
  blk_point [iblk, V, block_index]

theorem block_g : iblk m c 2 t (ix2 y n) = argG m c (ix2 (row t y) n) := by
  unfold row
  blk_point [iblk, V, block_index]

theorem block_ya : iblk m c 3 t (ix2 y j) = argYa m c (ix2 (row t y) j) := by
  unfold row
  blk_point [iblk, V, block_index]

theorem block_yb : iblk m c 4 t (ix2 y j) = argYb m c (ix2 (row t y) j) := by
  unfold row
  blk_point [iblk, V, block_index]

theorem block_yc : iblk m c 5 t (ix2 y j) = argYc m c (ix2 (row t y) j) := by
  unfold row
  blk_point [iblk, V, block_index]

theorem block_b : iblk m c 6 t (ix2 0 n) = argB m c (ix2 0 n) := by
  blk_point [iblk, V, block_index]

/-! ### What a point leaves -/

theorem left_ya : (outsAt0 m c t.val t.isLt).1 (ix2 y j)
    = dMerged (argW m c) (argD m c) (row t y) j * gate (argG m c) (argB m c) (row t y) ⟨j.val, by omega⟩ := by
  by_cases h : t.val % 16 = 0
  · rw [outsAt0_A m c t h]
    frame_out
    unfold_payloads
    pointwise
    simp only [block_d, block_w, block_g, block_b]
    rfl
  · rw [outsAt0_B m c t h]
    frame_out
    unfold_payloads
    pointwise
    simp only [block_d, block_w, block_g, block_b]
    rfl

theorem left_yb : (outsAt0 m c t.val t.isLt).2.1 (ix2 y j)
    = dMerged (argW m c) (argD m c) (row t y) j * gate (argG m c) (argB m c) (row t y) ⟨1024 + j.val, by omega⟩ := by
  by_cases h : t.val % 16 = 0
  · rw [outsAt0_A m c t h]
    frame_out
    unfold_payloads
    pointwise
    simp only [block_d, block_w, block_g, block_b]
    rfl
  · rw [outsAt0_B m c t h]
    frame_out
    unfold_payloads
    pointwise
    simp only [block_d, block_w, block_g, block_b]
    rfl

theorem left_yc : (outsAt0 m c t.val t.isLt).2.2.1 (ix2 y j)
    = dMerged (argW m c) (argD m c) (row t y) j * gate (argG m c) (argB m c) (row t y) ⟨2048 + j.val, by omega⟩ := by
  by_cases h : t.val % 16 = 0
  · rw [outsAt0_A m c t h]
    frame_out
    unfold_payloads
    pointwise
    simp only [block_d, block_w, block_g, block_b]
    rfl
  · rw [outsAt0_B m c t h]
    frame_out
    unfold_payloads
    pointwise
    simp only [block_d, block_w, block_g, block_b]
    rfl

/-- The gradient of the gates' scores, at row `i` and column `n` of the three branches side by side. -/
def dScore (i : Fin 8192) (n : Fin 3072) : EReal :=
  Cert.GateReferenceIdeal.Read.val_main_v39 (F := Ideal) (argYa m c) (argYb m c) (argYc m c) (argW m c) (argD m c) (ix2 i n)
    * (gate (argG m c) (argB m c) i n * (1 - gate (argG m c) (argB m c) i n))

theorem dScore_0 : dScore m c (row t y) ⟨j.val, by omega⟩ = (∑ x : Fin 1024, argD m c (ix2 (row t y) x) * argW m c (ix2 j x)) * argYa m c (ix2 (row t y) j)
    * (Ideal.logistic (argG m c (ix2 (row t y) ⟨j.val, by omega⟩) + argB m c (ix2 0 ⟨j.val, by omega⟩))
      * (1 - Ideal.logistic (argG m c (ix2 (row t y) ⟨j.val, by omega⟩) + argB m c (ix2 0 ⟨j.val, by omega⟩)))) := by
  unfold dScore
  rw [v39_at_0]
  rfl

theorem dScore_1 : dScore m c (row t y) ⟨1024 + j.val, by omega⟩ = (∑ x : Fin 1024, argD m c (ix2 (row t y) x) * argW m c (ix2 j x)) * argYb m c (ix2 (row t y) j)
    * (Ideal.logistic (argG m c (ix2 (row t y) ⟨1024 + j.val, by omega⟩) + argB m c (ix2 0 ⟨1024 + j.val, by omega⟩))
      * (1 - Ideal.logistic (argG m c (ix2 (row t y) ⟨1024 + j.val, by omega⟩) + argB m c (ix2 0 ⟨1024 + j.val, by omega⟩)))) := by
  unfold dScore
  rw [v39_at_1]
  rfl

theorem dScore_2 : dScore m c (row t y) ⟨2048 + j.val, by omega⟩ = (∑ x : Fin 1024, argD m c (ix2 (row t y) x) * argW m c (ix2 j x)) * argYc m c (ix2 (row t y) j)
    * (Ideal.logistic (argG m c (ix2 (row t y) ⟨2048 + j.val, by omega⟩) + argB m c (ix2 0 ⟨2048 + j.val, by omega⟩))
      * (1 - Ideal.logistic (argG m c (ix2 (row t y) ⟨2048 + j.val, by omega⟩) + argB m c (ix2 0 ⟨2048 + j.val, by omega⟩)))) := by
  unfold dScore
  rw [v39_at_2]
  rfl

theorem left_g : (outsAt0 m c t.val t.isLt).2.2.2.1 (ix2 y n) = dScore m c (row t y) n := by
  by_cases h : t.val % 16 = 0
  · rw [outsAt0_A m c t h]
    frame_out
    canon_tiles x h
    · idx_vars x
      obtain rfl : y = x0 := Fin.ext h0
      rw [show n = ⟨2048 + x1.val, by omega⟩ from Fin.ext h1]
      open_payloads
      pointwise
      simp only [block_d, block_w, block_g, block_b, block_yc, dScore_2]
    · idx_vars x
      obtain rfl : y = x0 := Fin.ext h0
      rw [show n = ⟨1024 + x1.val, by omega⟩ from Fin.ext h1]
      open_payloads
      pointwise
      simp only [block_d, block_w, block_g, block_b, block_yb, dScore_1]
    · idx_vars x
      obtain rfl : y = x0 := Fin.ext h0
      rw [show n = ⟨x1.val, by omega⟩ from Fin.ext h1]
      open_payloads
      pointwise
      simp only [block_d, block_w, block_g, block_b, block_ya, dScore_0]
  · rw [outsAt0_B m c t h]
    frame_out
    canon_tiles x h
    · idx_vars x
      obtain rfl : y = x0 := Fin.ext h0
      rw [show n = ⟨2048 + x1.val, by omega⟩ from Fin.ext h1]
      open_payloads
      pointwise
      simp only [block_d, block_w, block_g, block_b, block_yc, dScore_2]
    · idx_vars x
      obtain rfl : y = x0 := Fin.ext h0
      rw [show n = ⟨1024 + x1.val, by omega⟩ from Fin.ext h1]
      open_payloads
      pointwise
      simp only [block_d, block_w, block_g, block_b, block_yb, dScore_1]
    · idx_vars x
      obtain rfl : y = x0 := Fin.ext h0
      rw [show n = ⟨x1.val, by omega⟩ from Fin.ext h1]
      open_payloads
      pointwise
      simp only [block_d, block_w, block_g, block_b, block_ya, dScore_0]

theorem left_b_first (h : t.val % 16 = 0) : (outsAt0 m c t.val t.isLt).2.2.2.2 (ix2 0 n) = 0 + ∑ y : Fin 512, dScore m c (row t y) n := by
  rw [outsAt0_A m c t h]
  frame_open
  simp (disch := decide) only [↓ View.readCov_skip, ↓ View.readCov_cons_toLoadRect, ↓ View.readCov_fill]
  frame_out
  refine (canon_append_cover (Val := Elt Ideal) [_] [_, _, _] _ ?_).trans ?_
  · refine View.cover_of_tiledL _ (![1, 1024] : Fin S1x3072.rank → ℕ) ?_ _
    sl_kernel_rfl
  canon_tiles x h
  · idx_vars x
    rw [show n = ⟨2048 + x1.val, by omega⟩ from Fin.ext h1]
    simp only [dScore_2]
    open_payloads
    pointwise
    simp only [block_d, block_w, block_g, block_b, block_yc]
  · idx_vars x
    rw [show n = ⟨1024 + x1.val, by omega⟩ from Fin.ext h1]
    simp only [dScore_1]
    open_payloads
    pointwise
    simp only [block_d, block_w, block_g, block_b, block_yb]
  · idx_vars x
    rw [show n = ⟨x1.val, by omega⟩ from Fin.ext h1]
    simp only [dScore_0]
    open_payloads
    pointwise
    simp only [block_d, block_w, block_g, block_b, block_ya]

theorem left_b_next (h : ¬t.val % 16 = 0) : (outsAt0 m c t.val t.isLt).2.2.2.2 (ix2 0 n)
    = (outsAt0 m c (t.val - 1) (by omega)).2.2.2.2 (ix2 0 n) + ∑ y : Fin 512, dScore m c (row t y) n := by
  rw [outsAt0_B m c t h]
  frame_open
  simp (disch := decide) only [↓ View.readCov_skip, ↓ View.readCov_cons_toLoadRect, ↓ View.readCov_fill]
  frame_out
  canon_tiles x h
  · idx_vars x
    rw [show n = ⟨2048 + x1.val, by omega⟩ from Fin.ext h1]
    simp only [dScore_2]
    open_payloads
    pointwise
    simp only [block_d, block_w, block_g, block_b, block_yc]
  · idx_vars x
    rw [show n = ⟨1024 + x1.val, by omega⟩ from Fin.ext h1]
    simp only [dScore_1]
    open_payloads
    pointwise
    simp only [block_d, block_w, block_g, block_b, block_yb]
  · idx_vars x
    rw [show n = ⟨x1.val, by omega⟩ from Fin.ext h1]
    simp only [dScore_0]
    open_payloads
    pointwise
    simp only [block_d, block_w, block_g, block_b, block_ya]
end

/-! ### The arrays -/

open Cert.GateReferenceIdeal.Read in
theorem array_ya : (dats m 0 c).arrAt 7 cfg0.N = val_main_v44 (F := Ideal) (argG m c) (argB m c) (argW m c) (argD m c) := by
  refine (dats m 0 c).arrAt_eq_of_covers 7 _ (by decide +kernel) fun t hf y => ?_
  blk_simp
  rw [after0_7]
  idx_vars y
  refine (left_ya m c t y0 y1).trans ?_
  rw [← v44_at]
  unfold row
  blk_ext [block_index]

open Cert.GateReferenceIdeal.Read in
theorem array_yb : (dats m 0 c).arrAt 8 cfg0.N = val_main_v45 (F := Ideal) (argG m c) (argB m c) (argW m c) (argD m c) := by
  refine (dats m 0 c).arrAt_eq_of_covers 8 _ (by decide +kernel) fun t hf y => ?_
  blk_simp
  rw [after0_8]
  idx_vars y
  refine (left_yb m c t y0 y1).trans ?_
  rw [← v45_at]
  unfold row
  blk_ext [block_index]

open Cert.GateReferenceIdeal.Read in
theorem array_yc : (dats m 0 c).arrAt 9 cfg0.N = val_main_v46 (F := Ideal) (argG m c) (argB m c) (argW m c) (argD m c) := by
  refine (dats m 0 c).arrAt_eq_of_covers 9 _ (by decide +kernel) fun t hf y => ?_
  blk_simp
  rw [after0_9]
  idx_vars y
  refine (left_yc m c t y0 y1).trans ?_
  rw [← v46_at]
  unfold row
  blk_ext [block_index]

open Cert.GateReferenceIdeal.Read in
theorem array_g : (dats m 0 c).arrAt 10 cfg0.N
    = val_main_v43 (F := Ideal) (argG m c) (argYa m c) (argYb m c) (argYc m c) (argB m c) (argW m c) (argD m c) := by
  refine (dats m 0 c).arrAt_eq_of_covers 10 _ (by decide +kernel) fun t hf y => ?_
  blk_simp
  rw [after0_10]
  idx_vars y
  refine (left_g m c t y0 y1).trans ?_
  unfold dScore
  rw [← v43_at]
  unfold row
  blk_ext [block_index]

open Cert.GateReferenceIdeal.Read in
theorem array_b : (dats m 0 c).arrAt 11 cfg0.N
    = val_main_v42 (F := Ideal) (argG m c) (argYa m c) (argYb m c) (argYc m c) (argB m c) (argW m c) (argD m c) := by
  refine (dats m 0 c).arrAt_eq_of_covers 11 _ (by decide +kernel) fun t hf y => ?_
  have ht : t.val + 1 = 16 := (by decide +kernel : ∀ t : Fin grid0.N, win0_11.flush t = true → t.val + 1 = 16) t hf
  blk_simp
  rw [after0_11]
  idx_vars y
  obtain rfl : y0 = 0 := by omega
  refine (Total.rows (R := 8192) (n := 512) (fun k h n => (outsAt0 m c k h).2.2.2.2 (ix2 0 n)) (fun r n => dScore m c r n) rfl N_0 (by decide)
    (fun t h n => left_b_first m c t n h) (fun t h n => left_b_next m c t n h) t ht y1).trans ?_
  unfold dScore
  rw [← v42_at]
  blk_ext [block_index]

end Cert.Gate

end
-- ==== Proof.Gate.Claim.lean ====
/-
  The gates' claim: on all arguments the kernel's gradients of the merge are the reference's.
-/
module

public import proofs.«01_k».proof.Defs
public import proofs.«01_k».proof.Proof.Gate.Kernel
public import proofs.«01_k».proof.Proof.Gen.GateKernel.Frame
public import proofs.«01_k».proof.Proof.Gen.GateReferenceIdeal.Run
public import Idealize.ShloMosaic.Lib.Claim
public import Idealize.ShloMosaic.Lib.Quiescent

@[expose] public section

set_option maxRecDepth 16384

noncomputable section

namespace Cert.Gate

open Cert.GateKernelIdeal Cert.GateKernelIdeal.Gen
open Idealize.ShloMosaic Idealize.ShloMosaic.TcCoe Idealize.SL.Sem

/-- THE CLAIM: both programs run, and their five results agree. -/
theorem algebraic : algebraic_GateKernelIdeal_GateReferenceIdeal := by
  intro m ρ m' ρ' _ hagree
  refine ⟨fun c => (dats m 0 c).arrAt 10 cfg0.N, fun c => (dats m 0 c).arrAt 7 cfg0.N, fun c => (dats m 0 c).arrAt 8 cfg0.N,
    fun c => (dats m 0 c).arrAt 9 cfg0.N, fun c => (dats m 0 c).arrAt 11 cfg0.N, (θ_run defs _ _).mono (fun r h c => ?_) (Cert.GateKernelIdeal.Value.run_blocks (F := Ideal) m ρ), ?_⟩
  · obtain ⟨ra, rb, rc, rg, rs, rest⟩ := h c
    exact ⟨rg, ra, rb, rc, rs, rest⟩
  refine (θ_run Cert.GateReferenceIdeal.defs _ _).mono (fun _ h c => ?_) (Cert.GateReferenceIdeal.Value.run (F := Ideal) m' ρ')
  obtain ⟨h0, h1, h2, h3, h4, h5, h6⟩ := hagree c
  obtain ⟨rg, ra, rb, rc, rs, rest⟩ := h c
  refine ⟨rg.trans (Eq.trans ?_ (array_g m c).symm), ra.trans (Eq.trans ?_ (array_ya m c).symm), rb.trans (Eq.trans ?_ (array_yb m c).symm), rc.trans (Eq.trans ?_ (array_yc m c).symm), rs.trans (Eq.trans ?_ (array_b m c).symm), rest⟩
  · rw [argG, argYa, argYb, argYc, argB, argW, argD, ← h0, ← h1, ← h2, ← h3, ← h4, ← h5, ← h6]
    exact Cert.GateReferenceIdeal.Read.val_main_v43_eq _ _ _ _ _ _ _
  · rw [argG, argB, argW, argD, ← h0, ← h4, ← h5, ← h6]
    exact Cert.GateReferenceIdeal.Read.val_main_v44_eq _ _ _ _
  · rw [argG, argB, argW, argD, ← h0, ← h4, ← h5, ← h6]
    exact Cert.GateReferenceIdeal.Read.val_main_v45_eq _ _ _ _
  · rw [argG, argB, argW, argD, ← h0, ← h4, ← h5, ← h6]
    exact Cert.GateReferenceIdeal.Read.val_main_v46_eq _ _ _ _
  · rw [argG, argYa, argYb, argYc, argB, argW, argD, ← h0, ← h1, ← h2, ← h3, ← h4, ← h5, ← h6]
    exact Cert.GateReferenceIdeal.Read.val_main_v42_eq _ _ _ _ _ _ _

/-- The kernel runs and leaves its arguments and its counters as they were, -/
theorem quiescent_words : quiescent_GateKernel (hGateKernel := Cert.GateKernel.Gen.facts) := fun m ρ _ => Cert.GateKernel.Gen.frame m ρ

theorem quiescent_ideal : quiescent_GateKernelIdeal := fun m ρ _ => frame m ρ

/-- and so does the reference. -/
theorem quiescent_reference : quiescent_GateReferenceIdeal := fun m ρ _ =>
  (θ_run Cert.GateReferenceIdeal.defs _ _).mono (fun r h => ⟨fun c => (h c).2.2.2.2.2, sem_eq_zero_of_no_sems (by decide) r.2⟩)
    (Cert.GateReferenceIdeal.Value.run (F := Ideal) m ρ)

end Cert.Gate

end
-- ==== Proof.Swiglu.Reference.lean ====
module

public import proofs.«01_k».proof.Proof.Gen.SwigluReferenceIdeal.Read
public import proofs.«01_k».proof.Proof.Reals
public import Idealize.ShloMosaic.Lib.Pointwise

@[expose] public section

set_option maxRecDepth 16384

/-!
The reference of the feed-forward's gate, read at an index: in the first 2816 columns the gradient of the half that
the gate's nonlinearity takes, in the others that of the half it multiplies. Where the arguments are real numbers the
first is written with one product.
-/

noncomputable section

namespace Cert.Swiglu

open Cert.SwigluReferenceIdeal Cert.SwigluReferenceIdeal.Read Cert.Reals
open Idealize.ShloMosaic Idealize.ShloMosaic.TcCoe Finset

variable (g : FVec Ideal S8192x5632 .f32) (w : FVec Ideal S2816x1024 .f32) (d : FVec Ideal S8192x1024 .f32)

/-- The cotangent of the gated row `i` at column `j`: the row of `d` against row `j` of `w`. -/
def dGated (i : Fin 8192) (j : Fin 2816) : EReal := ∑ x : Fin 1024, d (ix2 i x) * w (ix2 j x)

/-- The half that the nonlinearity takes, -/
def gateIn (i : Fin 8192) (j : Fin 2816) : EReal := g (ix2 i ⟨j.val, by omega⟩)

/-- and the half that it multiplies. -/
def upIn (i : Fin 8192) (j : Fin 2816) : EReal := g (ix2 i ⟨2816 + j.val, by omega⟩)

variable (i : Fin 8192) (j : Fin 2816)

theorem v0_at : val_main_v0 (F := Ideal) g (ix2 i j) = gateIn g i j := by
  unfold gateIn
  pointwise [val_main_v0]

theorem v2_at : val_main_v2 (F := Ideal) g (ix2 i j) = upIn g i j := by
  unfold upIn
  pointwise [val_main_v2]

theorem v5_at : val_main_v5 (F := Ideal) w d (ix2 i j) = dGated w d i j := by
  unfold dGated
  pointwise [val_main_v5]

theorem v1_2_at : val_main_v1_2 (F := Ideal) g (ix2 i j) = Ideal.logistic (gateIn g i j) := by
  rw [← v0_at]
  pointwise [val_main_v1_2, val_main_call0_v4, val_main_call0_cst_0, val_main_call0_v3, val_main_call0_v2, val_main_call0_cst, val_main_call0_v1,
    val_main_call0_v0]
  rfl

theorem v1_1_at : val_main_v1_1 (F := Ideal) g (ix2 i j) = Ideal.logistic (gateIn g i j) * (1 - Ideal.logistic (gateIn g i j)) := by
  rw [← v1_2_at]
  pointwise [val_main_v1_1, val_main_call0_v7, val_main_call0_v6, val_main_call0_cst_1]

theorem v6_at : val_main_v6 (F := Ideal) g w d (ix2 i j) = gateIn g i j * Ideal.logistic (gateIn g i j) * dGated w d i j := by
  rw [← v1_2_at, ← v5_at, ← v0_at]
  pointwise [val_main_v6, val_main_v1_0]

theorem v7_at : val_main_v7 (F := Ideal) g w d (ix2 i j) = dGated w d i j * upIn g i j := by
  rw [← v5_at, ← v2_at]
  pointwise [val_main_v7]

theorem v9_at : val_main_v9 (F := Ideal) g w d (ix2 i j) = dGated w d i j * upIn g i j * Ideal.logistic (gateIn g i j)
    + gateIn g i j * (dGated w d i j * upIn g i j) * (Ideal.logistic (gateIn g i j) * (1 - Ideal.logistic (gateIn g i j))) := by
  rw [← v1_1_at, ← v1_2_at, ← v7_at, ← v0_at]
  pointwise [val_main_v9, val_main_call1_v1, val_main_call1_v2, val_main_call1_v0]

/-- The product rule of the gate, for real numbers. -/
theorem product_rule {e a : EReal} (he : IsReal e) (ha : IsReal a) :
    e * Ideal.logistic a + a * e * (Ideal.logistic a * (1 - Ideal.logistic a)) = e * (Ideal.logistic a * (1 + a * (1 - Ideal.logistic a))) := by
  obtain ⟨x, rfl⟩ := he.exists
  obtain ⟨y, rfl⟩ := ha.exists
  rw [Ideal.logistic_coe]
  norm_cast
  ring

/-- The first 2816 columns of the result, -/
theorem v12_gate (hg : ∀ x, IsReal (g x)) (hw : ∀ x, IsReal (w x)) (hd : ∀ x, IsReal (d x)) :
    val_main_v12 (F := Ideal) g w d (ix2 i ⟨j.val, by omega⟩)
      = dGated w d i j * upIn g i j * (Ideal.logistic (gateIn g i j) * (1 + gateIn g i j * (1 - Ideal.logistic (gateIn g i j)))) := by
  have he : IsReal (dGated w d i j * upIn g i j) := (IsReal.sum _ fun x => (hd _).mul (hw _)).mul (hg _)
  have ha : IsReal (gateIn g i j) := hg _
  rw [← product_rule he ha, ← v9_at]
  pointwise [val_main_v12, val_main_v11, val_main_v8, val_main_v10, val_main_cst, val_main_cst_0]
  have e : ¬ 2816 ≤ j.val := by omega
  simp [e]

/-- and the others. -/
theorem v12_up : val_main_v12 (F := Ideal) g w d (ix2 i ⟨2816 + j.val, by omega⟩)
    = dGated w d i j * (gateIn g i j * Ideal.logistic (gateIn g i j)) := by
  rw [mul_comm, ← v6_at]
  pointwise [val_main_v12, val_main_v11, val_main_v8, val_main_v10, val_main_cst, val_main_cst_0]

end Cert.Swiglu

end
-- ==== Proof.Swiglu.Kernel.lean ====
module

public import proofs.«01_k».proof.Proof.Swiglu.Reference
public import proofs.«01_k».proof.Proof.Gen.SwigluKernelIdeal.Value
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

/-!
The kernel of the feed-forward gate's gradient: what each of its 32 points reads, what it leaves, and the array it fills.
-/

noncomputable section

namespace Cert.Swiglu

open Cert.SwigluKernelIdeal Cert.SwigluKernelIdeal.Gen Cert.SwigluKernelIdeal.Value Cert.Reals
open Idealize.ShloMosaic Idealize.ShloMosaic.TcCoe Idealize.SL.Sem Finset

variable (m : (ℓ : Loc nD τ sig) → Buf (Elt Ideal) ℓ) (c : Dev nD)

abbrev argG : FVec Ideal S8192x5632 .f32 := m ((c.tc : Thread nD τ).loc main_arg0)
abbrev argW : FVec Ideal S2816x1024 .f32 := m ((c.tc : Thread nD τ).loc main_arg1)
abbrev argD : FVec Ideal S8192x1024 .f32 := m ((c.tc : Thread nD τ).loc main_arg2)

theorem block_index : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![t.val, 0])

/-- Row `y` of the block of point `t`, as a row of the whole array. -/
def row (t : Fin cfg0.N) (y : Fin 256) : Fin 8192 := ⟨256 * t.val + y.val, by have := lt_of_lt_of_eq t.isLt N_0; omega⟩

section
variable (t : Fin cfg0.N) (y : Fin 256) (j : Fin 2816) (k : Fin 1024)

theorem block_d : iblk m c 0 t (ix2 y k) = argD m c (ix2 (row t y) k) := by
  unfold row
  blk_point [iblk, V, block_index]

theorem block_w : iblk m c 1 t (ix2 j k) = argW m c (ix2 j k) := by
  blk_point [iblk, V, block_index]

theorem block_a : iblk m c 2 t (ix2 y j) = gateIn (argG m c) (row t y) j := by
  unfold row gateIn
  blk_point [iblk, V, block_index]

theorem block_b : iblk m c 3 t (ix2 y j) = upIn (argG m c) (row t y) j := by
  unfold row upIn
  blk_point [iblk, V, block_index]

/-- What a point leaves in the output's block is the reference's result there. -/
theorem left_at (hg : ∀ x, IsReal (argG m c x)) (hw : ∀ x, IsReal (argW m c x)) (hd : ∀ x, IsReal (argD m c x)) (n : Fin 5632) :
    out0_4 (iblk m c 0 t) (iblk m c 1 t) (iblk m c 2 t) (iblk m c 3 t) (ix2 y n)
      = Cert.SwigluReferenceIdeal.Read.val_main_v12 (F := Ideal) (argG m c) (argW m c) (argD m c) (ix2 (row t y) n) := by
  frame_out
  canon_tiles x h
  · idx_vars x
    obtain rfl : y = x0 := Fin.ext h0
    rw [show n = ⟨2816 + x1.val, by omega⟩ from Fin.ext h1, v12_up]
    unfold dGated
    open_payloads
    pointwise
    simp only [block_d, block_w, block_a, block_b]
  · idx_vars x
    obtain rfl : y = x0 := Fin.ext h0
    rw [show n = ⟨x1.val, by omega⟩ from Fin.ext h1, v12_gate _ _ _ _ _ hg hw hd]
    unfold dGated
    open_payloads
    pointwise
    simp only [block_d, block_w, block_a, block_b]
end

/-- The array of the gradient. -/
theorem array_g (hg : ∀ x, IsReal (argG m c x)) (hw : ∀ x, IsReal (argW m c x)) (hd : ∀ x, IsReal (argD m c x)) :
    (dats m 0 c).arrAt 4 cfg0.N = Cert.SwigluReferenceIdeal.Read.val_main_v12 (F := Ideal) (argG m c) (argW m c) (argD m c) := by
  refine (dats m 0 c).arrAt_eq_of_covers 4 _ (by decide +kernel) fun t hf y => ?_
  blk_simp
  rw [after0_4]
  idx_vars y
  refine (left_at m c t y0 hg hw hd y1).trans ?_
  unfold row
  blk_ext [block_index]

end Cert.Swiglu

end
-- ==== Proof.Swiglu.Claim.lean ====
/-
  The feed-forward gate's claim: where the arguments are finite, the kernel's gradient is the reference's.
-/
module

public import proofs.«01_k».proof.Defs
public import proofs.«01_k».proof.Proof.Swiglu.Kernel
public import proofs.«01_k».proof.Proof.Gen.SwigluKernel.Frame
public import proofs.«01_k».proof.Proof.Gen.SwigluReferenceIdeal.Run
public import Idealize.ShloMosaic.Lib.Claim
public import Idealize.ShloMosaic.Lib.Quiescent

@[expose] public section

set_option maxRecDepth 16384

noncomputable section

namespace Cert.Swiglu

open Cert.SwigluKernelIdeal Cert.SwigluKernelIdeal.Gen Cert.Reals
open Idealize.ShloMosaic Idealize.ShloMosaic.TcCoe Idealize.ShloMosaic.Tactic Idealize.SL.Sem Finset

/-- The facts about shapes that the precondition takes. -/
theorem precondition_facts : Cert.Pre_finite_swiglu.Facts := by
  constructor <;> decide +kernel

/-- What the precondition gives of the arguments: they are real numbers. -/
theorem decode [Cert.Pre_finite_swiglu.Facts] {g : FVec Ideal S8192x5632 .f32} {w : FVec Ideal S2816x1024 .f32} {d : FVec Ideal S8192x1024 .f32}
    (h : Cert.Pre_finite_swiglu.fn (F := Ideal) g w d = fun _ => 1#1) :
    (∀ i, IsReal (g i)) ∧ (∀ i, IsReal (w i)) ∧ ∀ i, IsReal (d i) := by
  dsimp only [Cert.Pre_finite_swiglu.fn] at h
  obtain ⟨h, h3⟩ := and_bits h
  obtain ⟨h1, h2⟩ := and_bits h
  refine ⟨fun i => ?_, fun i => ?_, fun i => ?_⟩
  · exact real_of_abs _ (Host.reduce_andi_all _ _ _ _ _ (congrFun h1 (Shape.Idx.first Cert.Pre_finite_swiglu.Facts.h_S_)) i)
  · exact real_of_abs _ (Host.reduce_andi_all _ _ _ _ _ (congrFun h2 (Shape.Idx.first Cert.Pre_finite_swiglu.Facts.h_S_)) i)
  · exact real_of_abs _ (Host.reduce_andi_all _ _ _ _ _ (congrFun h3 (Shape.Idx.first Cert.Pre_finite_swiglu.Facts.h_S_)) i)

/-- THE CLAIM: both programs run, and their results agree. -/
theorem algebraic [Cert.Pre_finite_swiglu.Facts] : algebraic_SwigluKernelIdeal_SwigluReferenceIdeal_pre_finite_swiglu := by
  intro m ρ m' ρ' hpre hagree
  refine ⟨fun c => (dats m 0 c).arrAt 4 cfg0.N, Cert.SwigluKernelIdeal.Value.run_blocks (F := Ideal) m ρ, ?_⟩
  refine (θ_run Cert.SwigluReferenceIdeal.defs _ _).mono (fun _ h c => ?_) (Cert.SwigluReferenceIdeal.Value.run (F := Ideal) m' ρ')
  obtain ⟨h0, h1, h2⟩ := hagree c
  obtain ⟨hg, hw, hd⟩ := decode (hpre c)
  obtain ⟨r0, rest⟩ := h c
  refine ⟨r0.trans (Eq.trans ?_ (array_g m c hg hw hd).symm), rest⟩
  rw [argG, argW, argD, ← h0, ← h1, ← h2]
  exact Cert.SwigluReferenceIdeal.Read.val_main_v12_eq _ _ _

/-- The kernel runs and leaves its arguments and its counters as they were, -/
theorem quiescent_words : quiescent_SwigluKernel (hSwigluKernel := Cert.SwigluKernel.Gen.facts) := fun m ρ _ => Cert.SwigluKernel.Gen.frame m ρ

theorem quiescent_ideal : quiescent_SwigluKernelIdeal := fun m ρ _ => frame m ρ

/-- and so does the reference. -/
theorem quiescent_reference : quiescent_SwigluReferenceIdeal := fun m ρ _ =>
  (θ_run Cert.SwigluReferenceIdeal.defs _ _).mono (fun r h => ⟨fun c => (h c).2, sem_eq_zero_of_no_sems (by decide) r.2⟩)
    (Cert.SwigluReferenceIdeal.Value.run (F := Ideal) m ρ)

theorem quiescent_kernel_pre [Cert.Pre_finite_swiglu.Facts] : quiescent_SwigluKernelIdeal_pre_finite_swiglu :=
  fun m ρ _ => quiescent_ideal m ρ trivial

theorem quiescent_reference_pre [Cert.Pre_finite_swiglu.Facts] : quiescent_SwigluReferenceIdeal_pre_finite_swiglu :=
  fun m ρ _ => quiescent_reference m ρ trivial

end Cert.Swiglu

end
-- ==== Proof.Norm.lean ====
module

public import proofs.«01_k».proof.Proof.Reals

@[expose] public section

/-!
The norm of a row of 1024 numbers, and the gradient through it: as the derivative of the forward line gives it, and in
the form that multiplies by the row's scale once.
-/

noncomputable section

namespace Cert.Norm

open Cert.Reals
open Idealize.ShloMosaic Finset

theorem sub_real {x y : EReal} (hx : IsReal x) (hy : IsReal y) : IsReal (x - y) := by
  rw [← hx, ← hy, ← EReal.coe_sub]; exact .coe _

/-- The row's length. -/
def width : EReal := Ideal.ofBits FTy.f32 0x44800000#32

/-- The small number added to the mean of the squares. -/
def small : EReal := Ideal.ofBits FTy.f32 0x358637BD#32

/-- One half, negated. -/
def minusHalf : EReal := Ideal.ofBits FTy.f32 0xBF000000#32

theorem width_eq : width = ((1024 : ℝ) : EReal) := by
  simp [width, Ideal.ofBits, Ideal.ieee]
  rw [← EReal.coe_mul]
  norm_num

theorem minusHalf_eq : minusHalf = ((-(1 / 2) : ℝ) : EReal) := by
  simp [minusHalf, Ideal.ofBits, Ideal.ieee]
  rw [← EReal.coe_mul]
  norm_num

theorem small_eq : ∃ e : ℝ, 0 < e ∧ small = (e : EReal) := by
  refine ⟨(8796093 : ℝ) / 2 ^ 43, by positivity, ?_⟩
  simp [small, Ideal.ofBits, Ideal.ieee]
  rw [← EReal.coe_mul]
  norm_num

variable {ι : Type} [Fintype ι] (x u : ι → EReal) (k : ι)

/-- The mean of the row's squares and the small number. -/
def meanSq : EReal := Ideal.div (∑ j, x j * x j) width + small

/-- The row's scale. -/
def scale : EReal := Ideal.rsqrt (meanSq x)

/-- The row, scaled. -/
def normed : EReal := x k * scale x

/-- The gradient through the norm. -/
def back : EReal := scale x * (u k - normed x k * Ideal.div (∑ j, u j * normed x j) width)

/-- What the derivative of the forward line passes to every entry of the row. -/
def passed : EReal := Ideal.div ((∑ j, x j * u j) * (minusHalf * Ideal.div (scale x) (meanSq x))) width

variable {x u}

theorem meanSq_pos (hx : ∀ j, IsReal (x j)) : ∃ s : ℝ, 0 < s ∧ meanSq x = (s : EReal) := by
  obtain ⟨e, he, hs⟩ := small_eq
  refine ⟨(∑ j, (x j).toReal * (x j).toReal) / 1024 + e, add_pos_of_nonneg_of_pos (div_nonneg (sum_nonneg fun _ _ => mul_self_nonneg _) (by norm_num)) he, ?_⟩
  rw [meanSq, width_eq, hs, EReal.coe_add, ← div_coe _ (by norm_num), coe_sum]
  simp only [EReal.coe_mul]
  congr 2
  exact sum_congr rfl fun j _ => by rw [hx j]

theorem scale_pos (hx : ∀ j, IsReal (x j)) : ∃ s r : ℝ, s ≠ 0 ∧ r * r = s⁻¹ ∧ meanSq x = (s : EReal) ∧ scale x = (r : EReal) := by
  obtain ⟨s, hs, e⟩ := meanSq_pos hx
  refine ⟨s, (Real.sqrt s)⁻¹, hs.ne', ?_, e, ?_⟩
  · rw [← mul_inv, Real.mul_self_sqrt hs.le]
  · rw [scale, e, Ideal.rsqrt_coe, if_neg hs.not_gt, if_neg hs.ne']

theorem scale_real (hx : ∀ j, IsReal (x j)) : IsReal (scale x) := by
  obtain ⟨s, r, -, -, -, e⟩ := scale_pos hx
  rw [e]
  exact .coe r

theorem normed_real (hx : ∀ j, IsReal (x j)) : IsReal (normed x k) := (hx k).mul (scale_real hx)

/-- For real numbers the two forms of the gradient are one. -/
theorem back_eq (hx : ∀ j, IsReal (x j)) (hu : ∀ j, IsReal (u j)) :
    u k * scale x + x k * passed x u + passed x u * x k = back x u k := by
  obtain ⟨s, r, hs, hr, es, er⟩ := scale_pos hx
  obtain ⟨a, rfl⟩ : ∃ a : ι → ℝ, x = fun j => (a j : EReal) := ⟨fun j => (x j).toReal, funext fun j => (hx j).symm⟩
  obtain ⟨b, rfl⟩ : ∃ b : ι → ℝ, u = fun j => (b j : EReal) := ⟨fun j => (u j).toReal, funext fun j => (hu j).symm⟩
  have e1 : ∑ j, (a j : EReal) * (b j : EReal) = ((∑ j, a j * b j : ℝ) : EReal) := by rw [coe_sum]; simp only [EReal.coe_mul]
  have e2 : ∑ j, (b j : EReal) * normed (fun j => (a j : EReal)) j = (((∑ j, a j * b j) * r : ℝ) : EReal) := by
    rw [Finset.sum_mul, coe_sum]
    refine sum_congr rfl fun j _ => ?_
    rw [normed, er]
    norm_cast
    ring
  have e3 : passed (fun j => (a j : EReal)) (fun j => (b j : EReal)) = (((∑ j, a j * b j) * (-(1 / 2) * (r / s)) / 1024 : ℝ) : EReal) := by
    rw [passed, e1, es, er, div_coe _ hs, minusHalf_eq, width_eq, ← EReal.coe_mul, ← EReal.coe_mul, div_coe _ (by norm_num)]
  rw [e3, back, e2, normed, er, width_eq, div_coe _ (by norm_num)]
  beta_reduce
  norm_cast
  rw [div_eq_mul_inv r s, ← hr]
  ring

theorem back_real (hx : ∀ j, IsReal (x j)) (hu : ∀ j, IsReal (u j)) : IsReal (back x u k) := by
  rw [← back_eq k hx hu]
  obtain ⟨s, r, hs, hr, es, er⟩ := scale_pos hx
  have hp : IsReal (passed x u) := by
    have h1 : IsReal (∑ j, x j * u j) := IsReal.sum _ fun j => (hx j).mul (hu j)
    obtain ⟨b, hb⟩ := h1.exists
    rw [passed, hb, es, er, div_coe _ hs, minusHalf_eq, width_eq, ← EReal.coe_mul, ← EReal.coe_mul, div_coe _ (by norm_num)]
    exact .coe _
  exact (((hu k).mul (scale_real hx)).add ((hx k).mul hp)).add (hp.mul (hx k))

end Cert.Norm

end
-- ==== Proof.Loss.Reference.lean ====
module

public import proofs.«01_k».proof.Proof.Gen.LossReferenceIdeal.Read
public import proofs.«01_k».proof.Proof.Norm
public import Idealize.ShloMosaic.Lib.Pointwise

@[expose] public section

set_option maxRecDepth 16384

/-!
The reference of the loss and of the gradient through the last norm, read at an index.
-/

noncomputable section

namespace Cert.Loss

open Cert.LossReferenceIdeal Cert.LossReferenceIdeal.Read Cert.Reals Cert.Norm
open Idealize.ShloMosaic Idealize.ShloMosaic.TcCoe Finset

variable (x : FVec Ideal S8192x1024 .f32) (s : FVec Ideal S8192x2816 .f32) (w : FVec Ideal S2816x1024 .f32)
  (g : FVec Ideal S1x1024 .f32) (y : FVec Ideal S8192x1024 .f32)

/-- Row `i` of the feed-forward's output. -/
def out (i : Fin 8192) (j : Fin 1024) : EReal := ∑ k : Fin 2816, s (ix2 i k) * w (ix2 k j)

/-- How far the block's output is from the target. -/
def err (i : Fin 8192) (j : Fin 1024) : EReal := x (ix2 i j) + normed (out s w i) j * g (ix2 0 j) - y (ix2 i j)

/-- The cotangent of the block's output. -/
def dOut (i : Fin 8192) (j : Fin 1024) : EReal := err x s w g y i j * Ideal.ofBits FTy.f32 0x3A800000#32

variable (i : Fin 8192) (j : Fin 1024)

theorem v0_at : val_main_v0 (F := Ideal) s w (ix2 i j) = out s w i j := by
  unfold out
  pointwise [val_main_v0]

theorem v7_at : val_main_v7 (F := Ideal) s w (ix2 i 0) = meanSq (out s w i) := by
  unfold meanSq width small
  simp only [← v0_at]
  pointwise [val_main_v7, val_main_v6, val_main_cst_1, val_main_v5, val_main_v4, val_main_cst_0, val_main_v3, val_main_v2, val_main_cst, val_main_v1]

theorem v8_at : val_main_v8 (F := Ideal) s w (ix2 i 0) = scale (out s w i) := by
  rw [scale, ← v7_at]
  pointwise [val_main_v8]

theorem v13_at : val_main_v13 (F := Ideal) s w (ix2 i j) = normed (out s w i) j := by
  rw [normed, ← v0_at, ← v8_at]
  pointwise [val_main_v13, val_main_v12]

theorem v17_at : val_main_v17 (F := Ideal) x s w g y (ix2 i j) = err x s w g y i j := by
  rw [err, ← v13_at]
  pointwise [val_main_v17, val_main_v16, val_main_v15, val_main_v14]

theorem inverse_width : Ideal.ofBits FTy.f32 0x3A800000#32 = ((1 / 1024 : ℝ) : EReal) := by
  simp [Ideal.ofBits, Ideal.ieee]; rw [← EReal.coe_mul]; norm_num

/-- One half of one, over the row's length, times two, is one over the row's length. -/
theorem factors : Ideal.div (Ideal.ofBits FTy.f32 0x3F000000#32 * Ideal.ofBits FTy.f32 0x3F800000#32) (Ideal.ofBits FTy.f32 0x44800000#32)
    * Ideal.ofBits FTy.f32 0x40000000#32 = Ideal.ofBits FTy.f32 0x3A800000#32 := by
  have h : Ideal.ofBits FTy.f32 0x3F000000#32 = ((1 / 2 : ℝ) : EReal) := by
    simp [Ideal.ofBits, Ideal.ieee]; rw [← EReal.coe_mul]; norm_num
  have h2 : Ideal.ofBits FTy.f32 0x40000000#32 = ((2 : ℝ) : EReal) := by
    simp [Ideal.ofBits, Ideal.ieee]; rw [← EReal.coe_mul]; norm_num
  have h4 : Ideal.ofBits FTy.f32 0x44800000#32 = ((1024 : ℝ) : EReal) := width_eq
  rw [h, h2, inverse_width, h4, show Ideal.ofBits FTy.f32 0x3F800000#32 = 1 from bits_one, mul_one, div_coe _ (by norm_num), ← EReal.coe_mul]
  norm_num

theorem v37_at : val_main_v37 (F := Ideal) x s w g y (ix2 i j) = dOut x s w g y i j := by
  rw [dOut, ← factors, ← v17_at]
  pointwise [val_main_v37, val_main_v36, val_main_v35, val_main_v34, val_main_cst_12, val_main_v33, val_main_v32, val_main_cst_11, val_main_cst_10,
    val_main_v20, val_main_v19, val_main_cst_3]
  exact (mul_assoc _ _ _).symm.trans (mul_comm _ _)

/-- The sums of the squared errors, column by column. -/
theorem v31_at : val_main_v31 (F := Ideal) x s w g y (ix2 0 j) = ∑ i : Fin 8192, err x s w g y i j * err x s w g y i j := by
  simp only [← v17_at]
  pointwise [val_main_v31, val_main_v30, val_main_cst_9, val_main_v27, val_main_v26, val_main_v17]

/-- The gradient of the last norm's gain. -/
theorem v40_at : val_main_v40 (F := Ideal) x s w g y (ix2 0 j) = ∑ i : Fin 8192, dOut x s w g y i j * normed (out s w i) j := by
  simp only [← v37_at, ← v13_at]
  pointwise [val_main_v40, val_main_v39, val_main_cst_13, val_main_v38]
  exact sum_congr rfl fun i _ => mul_comm _ _

theorem v42_at : val_main_v42 (F := Ideal) x s w g y (ix2 i j) = dOut x s w g y i j * g (ix2 0 j) := by
  rw [← v37_at]
  pointwise [val_main_v42, val_main_v41]

theorem v51_at : val_main_v51 (F := Ideal) x s w g y (ix1 i) = passed (out s w i) fun j => dOut x s w g y i j * g (ix2 0 j) := by
  unfold passed minusHalf width
  simp only [← v42_at, ← v0_at, ← v8_at, ← v7_at]
  pointwise [val_main_v51, val_main_cst_16, val_main_v50, val_main_v49, val_main_cst_15, val_main_v48, val_main_v45, val_main_v44, val_main_cst_14,
    val_main_v43, val_main_v11, val_main_v10, val_main_cst_2, val_main_v9]
  exact Fin.sum_univ_one _

/-- The gradient of the feed-forward's output. -/
theorem v57_at (hx : ∀ a, IsReal (x a)) (hs : ∀ a, IsReal (s a)) (hw : ∀ a, IsReal (w a)) (hg : ∀ a, IsReal (g a)) (hy : ∀ a, IsReal (y a)) :
    val_main_v57 (F := Ideal) x s w g y (ix2 i j) = back (out s w i) (fun j => dOut x s w g y i j * g (ix2 0 j)) j := by
  have ho : ∀ k, IsReal (out s w i k) := fun k => IsReal.sum _ fun _ => (hs _).mul (hw _)
  have hd : ∀ k, IsReal (dOut x s w g y i k * g (ix2 0 k)) := fun k => by
    refine IsReal.mul (IsReal.mul (sub_real ((hx _).add ((normed_real k ho).mul (hg _))) (hy _)) ?_) (hg _)
    rw [inverse_width]
    exact .coe _
  rw [← back_eq j ho hd, ← v51_at, ← v42_at, ← v8_at, ← v0_at]
  pointwise [val_main_v57, val_main_v56, val_main_v55, val_main_v54, val_main_v53, val_main_v52, val_main_v47, val_main_v46]

end Cert.Loss

end
-- ==== Proof.Loss.Kernel.lean ====
module

public import proofs.«01_k».proof.Proof.Loss.Reference
public import proofs.«01_k».proof.Proof.Total
public import proofs.«01_k».proof.Proof.Gen.LossKernelIdeal.Value
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

/-!
The kernel of the loss and of the gradient through the last norm: what each of its 16 points reads, what it leaves, and
the four arrays it fills.
-/

noncomputable section

namespace Cert.Loss

open Cert.LossKernelIdeal Cert.LossKernelIdeal.Gen Cert.LossKernelIdeal.Value Cert.Reals Cert.Norm
open Idealize.ShloMosaic Idealize.ShloMosaic.TcCoe Idealize.SL.Sem Finset

variable (m : (ℓ : Loc nD τ sig) → Buf (Elt Ideal) ℓ) (c : Dev nD)

abbrev argX : FVec Ideal S8192x1024 .f32 := m ((c.tc : Thread nD τ).loc main_arg0)
abbrev argS : FVec Ideal S8192x2816 .f32 := m ((c.tc : Thread nD τ).loc main_arg1)
abbrev argW : FVec Ideal S2816x1024 .f32 := m ((c.tc : Thread nD τ).loc main_arg2)
abbrev argG : FVec Ideal S1x1024 .f32 := m ((c.tc : Thread nD τ).loc main_arg3)
abbrev argY : FVec Ideal S8192x1024 .f32 := m ((c.tc : Thread nD τ).loc main_arg4)

theorem block_index : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![0, 0])

/-- Row `y` of the block of point `t`, as a row of the whole array. -/
def row (t : Fin cfg0.N) (y : Fin 512) : Fin 8192 := ⟨512 * t.val + y.val, by have := lt_of_lt_of_eq t.isLt N_0; omega⟩

section
variable (t : Fin cfg0.N) (y : Fin 512) (j : Fin 1024) (k : Fin 2816)

theorem block_s : iblk m c 0 t (ix2 y k) = argS m c (ix2 (row t y) k) := by
  unfold row
  blk_point [iblk, V, block_index]

theorem block_w : iblk m c 1 t (ix2 k j) = argW m c (ix2 k j) := by
  blk_point [iblk, V, block_index]

theorem block_x : iblk m c 2 t (ix2 y j) = argX m c (ix2 (row t y) j) := by
  unfold row
  blk_point [iblk, V, block_index]

theorem block_y : iblk m c 3 t (ix2 y j) = argY m c (ix2 (row t y) j) := by
  unfold row
  blk_point [iblk, V, block_index]

theorem block_g : iblk m c 4 t (ix2 0 j) = argG m c (ix2 0 j) := by
  blk_point [iblk, V, block_index]

/-! ### What a point computes -/

theorem out_at : k0_pay6 (iblk m c 0 t) (iblk m c 1 t) (ix2 y j) = out (argS m c) (argW m c) (row t y) j := by
  unfold out k0_pay6
  pointwise
  simp only [block_s, block_w]

theorem scale_at : k0_pay7 (iblk m c 0 t) (iblk m c 1 t) (ix2 y 0) = scale (out (argS m c) (argW m c) (row t y)) := by
  unfold scale meanSq width small k0_pay7
  simp only [← out_at]
  pointwise

theorem normed_at : k0_pay8 (iblk m c 0 t) (iblk m c 1 t) (ix2 y j) = normed (out (argS m c) (argW m c) (row t y)) j := by
  rw [normed, ← out_at, ← scale_at]
  unfold k0_pay8
  pointwise

theorem err_at : k0_pay9 (iblk m c 0 t) (iblk m c 1 t) (iblk m c 2 t) (iblk m c 4 t) (iblk m c 3 t) (ix2 y j)
    = err (argX m c) (argS m c) (argW m c) (argG m c) (argY m c) (row t y) j := by
  rw [err, ← normed_at, ← block_x, ← block_g m c t, ← block_y]
  unfold k0_pay9
  pointwise

theorem dOut_at : k0_pay1 (k0_pay9 (iblk m c 0 t) (iblk m c 1 t) (iblk m c 2 t) (iblk m c 4 t) (iblk m c 3 t)) (ix2 y j)
    = dOut (argX m c) (argS m c) (argW m c) (argG m c) (argY m c) (row t y) j := by
  rw [dOut, ← err_at]
  unfold k0_pay1
  pointwise

/-! ### What a point leaves -/

theorem left_y : (outsAt0 m c t.val t.isLt).1 (ix2 y j) = dOut (argX m c) (argS m c) (argW m c) (argG m c) (argY m c) (row t y) j := by
  rw [← dOut_at]
  by_cases h : t.val % 16 = 0
  · rw [outsAt0_A m c t h]
    frame_out
  · rw [outsAt0_B m c t h]
    frame_out

theorem left_s : (outsAt0 m c t.val t.isLt).2.1 (ix2 y j) = back (out (argS m c) (argW m c) (row t y))
    (fun j => dOut (argX m c) (argS m c) (argW m c) (argG m c) (argY m c) (row t y) j * argG m c (ix2 0 j)) j := by
  unfold back width
  simp only [← dOut_at, ← normed_at, ← scale_at]
  by_cases h : t.val % 16 = 0
  · rw [outsAt0_A m c t h]
    frame_out
    unfold k0_pay3
    pointwise
    simp only [block_g]
  · rw [outsAt0_B m c t h]
    frame_out
    unfold k0_pay3
    pointwise
    simp only [block_g]

theorem left_g_first (h : t.val % 16 = 0) : (outsAt0 m c t.val t.isLt).2.2.1 (ix2 0 j)
    = 0 + ∑ y : Fin 512, dOut (argX m c) (argS m c) (argW m c) (argG m c) (argY m c) (row t y) j * normed (out (argS m c) (argW m c) (row t y)) j := by
  simp only [← dOut_at, ← normed_at]
  rw [outsAt0_A m c t h]
  frame_out
  unfold k0_pay2 k0_pay4
  pointwise

theorem left_g_next (h : ¬t.val % 16 = 0) : (outsAt0 m c t.val t.isLt).2.2.1 (ix2 0 j) = (outsAt0 m c (t.val - 1) (by omega)).2.2.1 (ix2 0 j)
    + ∑ y : Fin 512, dOut (argX m c) (argS m c) (argW m c) (argG m c) (argY m c) (row t y) j * normed (out (argS m c) (argW m c) (row t y)) j := by
  simp only [← dOut_at, ← normed_at]
  rw [outsAt0_B m c t h]
  frame_out
  unfold k0_pay2
  pointwise

theorem left_e_first (h : t.val % 16 = 0) : (outsAt0 m c t.val t.isLt).2.2.2 (ix2 0 j)
    = 0 + ∑ y : Fin 512, err (argX m c) (argS m c) (argW m c) (argG m c) (argY m c) (row t y) j * err (argX m c) (argS m c) (argW m c) (argG m c) (argY m c) (row t y) j := by
  simp only [← err_at]
  rw [outsAt0_A m c t h]
  frame_out
  unfold k0_pay10 k0_pay5
  pointwise

theorem left_e_next (h : ¬t.val % 16 = 0) : (outsAt0 m c t.val t.isLt).2.2.2 (ix2 0 j) = (outsAt0 m c (t.val - 1) (by omega)).2.2.2 (ix2 0 j)
    + ∑ y : Fin 512, err (argX m c) (argS m c) (argW m c) (argG m c) (argY m c) (row t y) j * err (argX m c) (argS m c) (argW m c) (argG m c) (argY m c) (row t y) j := by
  simp only [← err_at]
  rw [outsAt0_B m c t h]
  frame_out
  unfold k0_pay10
  pointwise
end

/-! ### The arrays -/

open Cert.LossReferenceIdeal.Read in
theorem array_y : (dats m 0 c).arrAt 5 cfg0.N = val_main_v37 (F := Ideal) (argX m c) (argS m c) (argW m c) (argG m c) (argY m c) := by
  refine (dats m 0 c).arrAt_eq_of_covers 5 _ (by decide +kernel) fun t hf y => ?_
  blk_simp
  rw [after0_5]
  idx_vars y
  refine (left_y m c t y0 y1).trans ?_
  rw [← v37_at]
  unfold row
  blk_ext [block_index]

open Cert.LossReferenceIdeal.Read in
theorem array_s (hx : ∀ a, IsReal (argX m c a)) (hs : ∀ a, IsReal (argS m c a)) (hw : ∀ a, IsReal (argW m c a)) (hg : ∀ a, IsReal (argG m c a))
    (hy : ∀ a, IsReal (argY m c a)) :
    (dats m 0 c).arrAt 6 cfg0.N = val_main_v57 (F := Ideal) (argX m c) (argS m c) (argW m c) (argG m c) (argY m c) := by
  refine (dats m 0 c).arrAt_eq_of_covers 6 _ (by decide +kernel) fun t hf y => ?_
  blk_simp
  rw [after0_6]
  idx_vars y
  refine (left_s m c t y0 y1).trans ?_
  rw [← v57_at _ _ _ _ _ _ _ hx hs hw hg hy]
  unfold row
  blk_ext [block_index]

open Cert.LossReferenceIdeal.Read in
theorem array_g : (dats m 0 c).arrAt 7 cfg0.N = val_main_v40 (F := Ideal) (argX m c) (argS m c) (argW m c) (argG m c) (argY m c) := by
  refine (dats m 0 c).arrAt_eq_of_covers 7 _ (by decide +kernel) fun t hf y => ?_
  have ht : t.val + 1 = 16 := (by decide +kernel : ∀ t : Fin grid0.N, win0_7.flush t = true → t.val + 1 = 16) t hf
  blk_simp
  rw [after0_7]
  idx_vars y
  obtain rfl : y0 = 0 := by omega
  refine (Total.rows (R := 8192) (n := 512) (fun k h n => (outsAt0 m c k h).2.2.1 (ix2 0 n))
    (fun r n => dOut (argX m c) (argS m c) (argW m c) (argG m c) (argY m c) r n * normed (out (argS m c) (argW m c) r) n) rfl N_0 (by decide)
    (fun t h n => left_g_first m c t n h) (fun t h n => left_g_next m c t n h) t ht y1).trans ?_
  rw [← v40_at]
  blk_ext [block_index]

open Cert.LossReferenceIdeal.Read in
theorem array_e : (dats m 0 c).arrAt 8 cfg0.N = val_main_v31 (F := Ideal) (argX m c) (argS m c) (argW m c) (argG m c) (argY m c) := by
  refine (dats m 0 c).arrAt_eq_of_covers 8 _ (by decide +kernel) fun t hf y => ?_
  have ht : t.val + 1 = 16 := (by decide +kernel : ∀ t : Fin grid0.N, win0_8.flush t = true → t.val + 1 = 16) t hf
  blk_simp
  rw [after0_8]
  idx_vars y
  obtain rfl : y0 = 0 := by omega
  refine (Total.rows (R := 8192) (n := 512) (fun k h n => (outsAt0 m c k h).2.2.2 (ix2 0 n))
    (fun r n => err (argX m c) (argS m c) (argW m c) (argG m c) (argY m c) r n * err (argX m c) (argS m c) (argW m c) (argG m c) (argY m c) r n) rfl N_0 (by decide)
    (fun t h n => left_e_first m c t n h) (fun t h n => left_e_next m c t n h) t ht y1).trans ?_
  rw [← v31_at]
  blk_ext [block_index]

end Cert.Loss

end
-- ==== Proof.Loss.Claim.lean ====
/-
  The loss's claim: where the arguments are finite, the kernel's gradients and sums are the reference's.
-/
module

public import proofs.«01_k».proof.Defs
public import proofs.«01_k».proof.Proof.Loss.Kernel
public import proofs.«01_k».proof.Proof.Gen.LossKernel.Frame
public import proofs.«01_k».proof.Proof.Gen.LossReferenceIdeal.Run
public import Idealize.ShloMosaic.Lib.Claim
public import Idealize.ShloMosaic.Lib.Quiescent

@[expose] public section

set_option maxRecDepth 16384

noncomputable section

namespace Cert.Loss

open Cert.LossKernelIdeal Cert.LossKernelIdeal.Gen Cert.Reals
open Idealize.ShloMosaic Idealize.ShloMosaic.TcCoe Idealize.ShloMosaic.Tactic Idealize.SL.Sem Finset

/-- The facts about shapes that the precondition takes. -/
theorem precondition_facts : Cert.Pre_finite_loss.Facts := by
  constructor <;> decide +kernel

/-- What the precondition gives of the arguments: they are real numbers. -/
theorem decode [Cert.Pre_finite_loss.Facts] {x : FVec Ideal S8192x1024 .f32} {s : FVec Ideal S8192x2816 .f32} {w : FVec Ideal S2816x1024 .f32} {g : FVec Ideal S1x1024 .f32} {y : FVec Ideal S8192x1024 .f32}
    (h : Cert.Pre_finite_loss.fn (F := Ideal) x s w g y = fun _ => 1#1) :
    (∀ i, IsReal (x i)) ∧ (∀ i, IsReal (s i)) ∧ (∀ i, IsReal (w i)) ∧ (∀ i, IsReal (g i)) ∧ ∀ i, IsReal (y i) := by
  dsimp only [Cert.Pre_finite_loss.fn] at h
  obtain ⟨h, h5⟩ := and_bits h
  obtain ⟨h, h4⟩ := and_bits h
  obtain ⟨h, h3⟩ := and_bits h
  obtain ⟨h1, h2⟩ := and_bits h
  refine ⟨fun i => ?_, fun i => ?_, fun i => ?_, fun i => ?_, fun i => ?_⟩
  · exact real_of_abs _ (Host.reduce_andi_all _ _ _ _ _ (congrFun h1 (Shape.Idx.first Cert.Pre_finite_loss.Facts.h_S_)) i)
  · exact real_of_abs _ (Host.reduce_andi_all _ _ _ _ _ (congrFun h2 (Shape.Idx.first Cert.Pre_finite_loss.Facts.h_S_)) i)
  · exact real_of_abs _ (Host.reduce_andi_all _ _ _ _ _ (congrFun h3 (Shape.Idx.first Cert.Pre_finite_loss.Facts.h_S_)) i)
  · exact real_of_abs _ (Host.reduce_andi_all _ _ _ _ _ (congrFun h4 (Shape.Idx.first Cert.Pre_finite_loss.Facts.h_S_)) i)
  · exact real_of_abs _ (Host.reduce_andi_all _ _ _ _ _ (congrFun h5 (Shape.Idx.first Cert.Pre_finite_loss.Facts.h_S_)) i)

/-- THE CLAIM: both programs run, and their four results agree. -/
theorem algebraic [Cert.Pre_finite_loss.Facts] : algebraic_LossKernelIdeal_LossReferenceIdeal_pre_finite_loss := by
  intro m ρ m' ρ' hpre hagree
  refine ⟨fun c => (dats m 0 c).arrAt 5 cfg0.N, fun c => (dats m 0 c).arrAt 6 cfg0.N, fun c => (dats m 0 c).arrAt 7 cfg0.N,
    fun c => (dats m 0 c).arrAt 8 cfg0.N, Cert.LossKernelIdeal.Value.run_blocks (F := Ideal) m ρ, ?_⟩
  refine (θ_run Cert.LossReferenceIdeal.defs _ _).mono (fun _ h c => ?_) (Cert.LossReferenceIdeal.Value.run (F := Ideal) m' ρ')
  obtain ⟨h0, h1, h2, h3, h4⟩ := hagree c
  obtain ⟨hx, hs, hw, hg, hy⟩ := decode (hpre c)
  obtain ⟨ry, rs, rg, re, rest⟩ := h c
  refine ⟨ry.trans (Eq.trans ?_ (array_y m c).symm), rs.trans (Eq.trans ?_ (array_s m c hx hs hw hg hy).symm), rg.trans (Eq.trans ?_ (array_g m c).symm),
    re.trans (Eq.trans ?_ (array_e m c).symm), rest⟩
  · rw [argX, argS, argW, argG, argY, ← h0, ← h1, ← h2, ← h3, ← h4]
    exact Cert.LossReferenceIdeal.Read.val_main_v37_eq _ _ _ _ _
  · rw [argX, argS, argW, argG, argY, ← h0, ← h1, ← h2, ← h3, ← h4]
    exact Cert.LossReferenceIdeal.Read.val_main_v57_eq _ _
  · rw [argX, argS, argW, argG, argY, ← h0, ← h1, ← h2, ← h3, ← h4]
    exact Cert.LossReferenceIdeal.Read.val_main_v40_eq _ _ _ _ _
  · rw [argX, argS, argW, argG, argY, ← h0, ← h1, ← h2, ← h3, ← h4]
    exact Cert.LossReferenceIdeal.Read.val_main_v31_eq _ _ _ _ _

/-- The kernel runs and leaves its arguments and its counters as they were, -/
theorem quiescent_words : quiescent_LossKernel (hLossKernel := Cert.LossKernel.Gen.facts) := fun m ρ _ => Cert.LossKernel.Gen.frame m ρ

theorem quiescent_ideal : quiescent_LossKernelIdeal := fun m ρ _ => frame m ρ

/-- and so does the reference. -/
theorem quiescent_reference : quiescent_LossReferenceIdeal := fun m ρ _ =>
  (θ_run Cert.LossReferenceIdeal.defs _ _).mono (fun r h => ⟨fun c => (h c).2.2.2.2, sem_eq_zero_of_no_sems (by decide) r.2⟩)
    (Cert.LossReferenceIdeal.Value.run (F := Ideal) m ρ)

theorem quiescent_kernel_pre [Cert.Pre_finite_loss.Facts] : quiescent_LossKernelIdeal_pre_finite_loss :=
  fun m ρ _ => quiescent_ideal m ρ trivial

theorem quiescent_reference_pre [Cert.Pre_finite_loss.Facts] : quiescent_LossReferenceIdeal_pre_finite_loss :=
  fun m ρ _ => quiescent_reference m ρ trivial

end Cert.Loss

end
-- ==== Proof.Mix.Reference.lean ====
module

public import proofs.«01_k».proof.Proof.Gen.MixReferenceIdeal.Read
public import proofs.«01_k».proof.Proof.Norm
public import Idealize.ShloMosaic.Lib.Pointwise

@[expose] public section

set_option maxRecDepth 16384

/-!
The reference of the gradient between the mixer and the feed-forward, read at an index: through the norm in front of the
feed-forward, and through the norm behind the mixer.
-/

noncomputable section

namespace Cert.Mix

open Cert.MixReferenceIdeal Cert.MixReferenceIdeal.Read Cert.Reals Cert.Norm
open Idealize.ShloMosaic Idealize.ShloMosaic.TcCoe Finset

variable (x mix : FVec Ideal S8192x1024 .f32) (ga gb : FVec Ideal S1x1024 .f32) (w : FVec Ideal S1024x5632 .f32)
  (d : FVec Ideal S8192x5632 .f32) (e : FVec Ideal S8192x1024 .f32)

/-- Row `i` of the mixer's output. -/
def mixed (i : Fin 8192) (j : Fin 1024) : EReal := mix (ix2 i j)

/-- Row `i` of the residual stream after the mixer. -/
def stream (i : Fin 8192) (j : Fin 1024) : EReal := x (ix2 i j) + normed (mixed mix i) j * ga (ix2 0 j)

/-- The cotangent of the feed-forward's input: row `i` of `d` against row `j` of `w`. -/
def dIn (i : Fin 8192) (j : Fin 1024) : EReal := ∑ n : Fin 5632, d (ix2 i n) * w (ix2 j n)

/-- The cotangent of the residual stream after the mixer. -/
def dStream (i : Fin 8192) (j : Fin 1024) : EReal :=
  e (ix2 i j) + back (stream x mix ga i) (fun j => dIn w d i j * gb (ix2 0 j)) j

variable (i : Fin 8192) (j : Fin 1024)

theorem v6_at : val_main_v6 (F := Ideal) mix (ix2 i 0) = meanSq (mixed mix i) := by
  unfold meanSq width small mixed
  pointwise [val_main_v6, val_main_v5, val_main_cst_1, val_main_v4, val_main_v3, val_main_cst_0, val_main_v2, val_main_v1, val_main_cst, val_main_v0]

theorem v7_at : val_main_v7 (F := Ideal) mix (ix2 i 0) = scale (mixed mix i) := by
  rw [scale, ← v6_at]
  pointwise [val_main_v7]

theorem v12_at : val_main_v12 (F := Ideal) mix (ix2 i j) = normed (mixed mix i) j := by
  rw [normed, ← v7_at, mixed]
  pointwise [val_main_v12, val_main_v11]

theorem v15_at : val_main_v15 (F := Ideal) x mix ga (ix2 i j) = stream x mix ga i j := by
  rw [stream, ← v12_at]
  pointwise [val_main_v15, val_main_v14, val_main_v13]

theorem v22_at : val_main_v22 (F := Ideal) x mix ga (ix2 i 0) = meanSq (stream x mix ga i) := by
  unfold meanSq width small
  simp only [← v15_at]
  pointwise [val_main_v22, val_main_v21, val_main_cst_5, val_main_v20, val_main_v19, val_main_cst_4, val_main_v18, val_main_v17, val_main_cst_3, val_main_v16]

theorem v23_at : val_main_v23 (F := Ideal) x mix ga (ix2 i 0) = scale (stream x mix ga i) := by
  rw [scale, ← v22_at]
  pointwise [val_main_v23]

theorem v28_at : val_main_v28 (F := Ideal) x mix ga (ix2 i j) = normed (stream x mix ga i) j := by
  rw [normed, ← v23_at, ← v15_at]
  pointwise [val_main_v28, val_main_v27]

theorem v32_at : val_main_v32 (F := Ideal) w d (ix2 i j) = dIn w d i j := by
  unfold dIn
  pointwise [val_main_v32]

/-- The gradient of the gain of the norm in front of the feed-forward. -/
theorem v35_at : val_main_v35 (F := Ideal) x mix ga w d (ix2 0 j) = ∑ i : Fin 8192, dIn w d i j * normed (stream x mix ga i) j := by
  simp only [← v32_at, ← v28_at]
  pointwise [val_main_v35, val_main_v34, val_main_cst_7, val_main_v33]
  exact sum_congr rfl fun i _ => mul_comm _ _

theorem v37_at : val_main_v37 (F := Ideal) gb w d (ix2 i j) = dIn w d i j * gb (ix2 0 j) := by
  rw [← v32_at]
  pointwise [val_main_v37, val_main_v36]

theorem v47_at : val_main_v47 (F := Ideal) x mix ga gb w d (ix1 i) = passed (stream x mix ga i) fun j => dIn w d i j * gb (ix2 0 j) := by
  unfold passed minusHalf width
  simp only [← v37_at, ← v15_at, ← v23_at, ← v22_at]
  pointwise [val_main_v47, val_main_cst_10, val_main_v46, val_main_v45, val_main_cst_9, val_main_v44, val_main_v40, val_main_v39, val_main_cst_8,
    val_main_v38, val_main_v26, val_main_v25, val_main_cst_6, val_main_v24]
  exact Fin.sum_univ_one _

section
variable (hx : ∀ a, IsReal (x a)) (hm : ∀ a, IsReal (mix a)) (ha : ∀ a, IsReal (ga a)) (hb : ∀ a, IsReal (gb a)) (hw : ∀ a, IsReal (w a))
  (hd : ∀ a, IsReal (d a)) (he : ∀ a, IsReal (e a))
include hx hm ha hb hw hd

theorem stream_real (k : Fin 1024) : IsReal (stream x mix ga i k) := (hx _).add ((normed_real k fun _ => hm _).mul (ha _))

theorem dGained_real (k : Fin 1024) : IsReal (dIn w d i k * gb (ix2 0 k)) := (IsReal.sum _ fun _ => (hd _).mul (hw _)).mul (hb _)

/-- The gradient of the residual stream. -/
theorem v52_at : val_main_v52 (F := Ideal) x mix ga gb w d e (ix2 i j) = dStream x mix ga gb w d e i j := by
  rw [dStream, ← back_eq j (stream_real x mix ga gb w d i hx hm ha hb hw hd) (dGained_real x mix ga gb w d i hx hm ha hb hw hd), ← v47_at, ← v37_at,
    ← v23_at, ← v15_at, ← add_assoc, ← add_assoc]
  pointwise [val_main_v52, val_main_v51, val_main_v50, val_main_v49, val_main_v48, val_main_v43, val_main_v42, val_main_v41]

theorem v53_at : val_main_v53 (F := Ideal) x mix ga gb w d e (ix2 i j) = dStream x mix ga gb w d e i j := by
  rw [← v52_at x mix ga gb w d e _ _ hx hm ha hb hw hd]
  pointwise [val_main_v53]

/-- The gradient of the gain of the norm behind the mixer. -/
theorem v56_at : val_main_v56 (F := Ideal) x mix ga gb w d e (ix2 0 j)
    = ∑ i : Fin 8192, dStream x mix ga gb w d e i j * normed (mixed mix i) j := by
  simp only [← v53_at x mix ga gb w d e _ _ hx hm ha hb hw hd, ← v12_at]
  pointwise [val_main_v56, val_main_v55, val_main_cst_11, val_main_v54]
  exact sum_congr rfl fun i _ => mul_comm _ _

theorem v58_at : val_main_v58 (F := Ideal) x mix ga gb w d e (ix2 i j) = dStream x mix ga gb w d e i j * ga (ix2 0 j) := by
  rw [← v53_at x mix ga gb w d e _ _ hx hm ha hb hw hd]
  pointwise [val_main_v58, val_main_v57]

theorem v67_at : val_main_v67 (F := Ideal) x mix ga gb w d e (ix1 i)
    = passed (mixed mix i) fun j => dStream x mix ga gb w d e i j * ga (ix2 0 j) := by
  unfold passed minusHalf width
  simp only [← v58_at x mix ga gb w d e _ _ hx hm ha hb hw hd, ← v7_at, ← v6_at]
  unfold mixed
  pointwise [val_main_v67, val_main_cst_14, val_main_v66, val_main_v65, val_main_cst_13, val_main_v64, val_main_v61, val_main_v60, val_main_cst_12,
    val_main_v59, val_main_v10, val_main_v9, val_main_cst_2, val_main_v8]
  exact Fin.sum_univ_one _

include he

/-- The gradient of the mixer's output. -/
theorem v73_at : val_main_v73 (F := Ideal) x mix ga gb w d e (ix2 i j)
    = back (mixed mix i) (fun j => dStream x mix ga gb w d e i j * ga (ix2 0 j)) j := by
  have hs : ∀ k, IsReal (dStream x mix ga gb w d e i k * ga (ix2 0 k)) := fun k =>
    ((he _).add (back_real k (stream_real x mix ga gb w d i hx hm ha hb hw hd) (dGained_real x mix ga gb w d i hx hm ha hb hw hd))).mul (ha _)
  have hr : ∀ k, IsReal (mixed mix i k) := fun k => hm _
  rw [← back_eq j hr hs, ← v67_at x mix ga gb w d e i hx hm ha hb hw hd, ← v58_at x mix ga gb w d e _ _ hx hm ha hb hw hd,
    ← v7_at, mixed]
  pointwise [val_main_v73, val_main_v72, val_main_v71, val_main_v70, val_main_v69, val_main_v68, val_main_v63, val_main_v62]
end

end Cert.Mix

end
-- ==== Proof.Mix.Kernel.lean ====
module

public import proofs.«01_k».proof.Proof.Mix.Reference
public import proofs.«01_k».proof.Proof.Total
public import proofs.«01_k».proof.Proof.Gen.MixKernelIdeal.Frame
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

/-!
The kernel of the gradient between the mixer and the feed-forward: 16 blocks of rows, each in two points that take half
of the product's terms; what a block's second point leaves, and the four arrays.
-/

noncomputable section

namespace Cert.Mix

open Cert.MixKernelIdeal Cert.MixKernelIdeal.Gen Cert.Reals Cert.Norm
open Idealize.ShloMosaic Idealize.ShloMosaic.TcCoe Idealize.SL.Sem Finset

variable (m : (ℓ : Loc nD τ sig) → Buf (Elt Ideal) ℓ) (c : Dev nD)

abbrev argX : FVec Ideal S8192x1024 .f32 := m ((c.tc : Thread nD τ).loc main_arg0)
abbrev argM : FVec Ideal S8192x1024 .f32 := m ((c.tc : Thread nD τ).loc main_arg1)
abbrev argA : FVec Ideal S1x1024 .f32 := m ((c.tc : Thread nD τ).loc main_arg2)
abbrev argB : FVec Ideal S1x1024 .f32 := m ((c.tc : Thread nD τ).loc main_arg3)
abbrev argW : FVec Ideal S1024x5632 .f32 := m ((c.tc : Thread nD τ).loc main_arg4)
abbrev argD : FVec Ideal S8192x5632 .f32 := m ((c.tc : Thread nD τ).loc main_arg5)
abbrev argE : FVec Ideal S8192x1024 .f32 := m ((c.tc : Thread nD τ).loc main_arg6)

theorem block_index : ∀ t : Fin cfg0.N, win0_0.index t = ![t.val / 2, t.val % 2] ∧ win0_1.index t = ![0, t.val % 2] ∧ win0_2.index t = ![t.val / 2, 0]
    ∧ win0_3.index t = ![t.val / 2, 0] ∧ win0_4.index t = ![t.val / 2, 0] ∧ win0_5.index t = ![0, 0] ∧ win0_6.index t = ![0, 0]
    ∧ win0_7.index t = ![t.val / 2, 0] ∧ win0_8.index t = ![t.val / 2, 0] ∧ win0_9.index t = ![0, 0] ∧ win0_10.index t = ![0, 0] :=
  (by decide +kernel : ∀ t : Fin grid0.N, win0_0.index t = ![t.val / 2, t.val % 2] ∧ win0_1.index t = ![0, t.val % 2] ∧ win0_2.index t = ![t.val / 2, 0]
    ∧ win0_3.index t = ![t.val / 2, 0] ∧ win0_4.index t = ![t.val / 2, 0] ∧ win0_5.index t = ![0, 0] ∧ win0_6.index t = ![0, 0]
    ∧ win0_7.index t = ![t.val / 2, 0] ∧ win0_8.index t = ![t.val / 2, 0] ∧ win0_9.index t = ![0, 0] ∧ win0_10.index t = ![0, 0])

/-- Row `y` of the block of rows of point `t`, as a row of the whole array. -/
def row (t : Fin cfg0.N) (y : Fin 512) : Fin 8192 := ⟨512 * (t.val / 2) + y.val, by have := lt_of_lt_of_eq t.isLt N_0; omega⟩

section
variable (t : Fin cfg0.N) (y : Fin 512) (j : Fin 1024) (k : Fin 2816)

theorem block_d : iblk m c 0 t (ix2 y k) = argD m c (ix2 (row t y) ⟨2816 * (t.val % 2) + k.val, by omega⟩) := by
  unfold row
  blk_point [iblk, V, block_index]

theorem block_w : iblk m c 1 t (ix2 j k) = argW m c (ix2 j ⟨2816 * (t.val % 2) + k.val, by omega⟩) := by
  blk_point [iblk, V, block_index]

theorem block_x : iblk m c 2 t (ix2 y j) = stream (argX m c) (argM m c) (argA m c) (row t y) j := by
  rw [← v15_at]
  unfold row
  blk_point [iblk, V, block_index]

theorem block_e : iblk m c 3 t (ix2 y j) = argE m c (ix2 (row t y) j) := by
  unfold row
  blk_point [iblk, V, block_index]

theorem block_m : iblk m c 4 t (ix2 y j) = mixed (argM m c) (row t y) j := by
  unfold row mixed
  blk_point [iblk, V, block_index]

theorem block_b : iblk m c 5 t (ix2 0 j) = argB m c (ix2 0 j) := by
  blk_point [iblk, V, block_index]

theorem block_a : iblk m c 6 t (ix2 0 j) = argA m c (ix2 0 j) := by
  blk_point [iblk, V, block_index]

/-! ### The product, half by half -/

/-- The first point of a block of rows keeps its half of the product, -/
theorem kept_at (h : t.val % 2 = 0) : (outsAt0 m c t.val t.isLt).2.2.2.2 (ix2 y j)
    = ∑ k : Fin 2816, argD m c (ix2 (row t y) ⟨k.val, by omega⟩) * argW m c (ix2 j ⟨k.val, by omega⟩) := by
  have e : k0_pay3 (iblk m c 0 t) (iblk m c 1 t) (ix2 y j) = ∑ k : Fin 2816, argD m c (ix2 (row t y) ⟨k.val, by omega⟩) * argW m c (ix2 j ⟨k.val, by omega⟩) := by
    unfold k0_pay3
    pointwise
    simp only [block_d, block_w, h, Nat.mul_zero, Nat.zero_add]
  rw [← e]
  by_cases h0 : t.val % 32 = 0
  · rw [outsAt0_A m c t h0 h (by omega)]
    frame_out
  · rw [outsAt0_C m c t h0 h (by omega)]
    frame_out

/-- and the second adds its own. -/
theorem product_at (h : t.val % 2 = 1) : k0_pay4 (iblk m c 0 t) (iblk m c 1 t) (outsAt0 m c (t.val - 1) (by omega)).2.2.2.2 (ix2 y j)
    = dIn (argW m c) (argD m c) (row t y) j := by
  have e := kept_at m c ⟨t.val - 1, by omega⟩ y j (by show (t.val - 1) % 2 = 0; omega)
  have r : row ⟨t.val - 1, by omega⟩ y = row t y := Fin.ext (by show 512 * ((t.val - 1) / 2) + y.val = 512 * (t.val / 2) + y.val; omega)
  rw [r] at e
  unfold k0_pay4 dIn
  pointwise
  rw [e]
  simp only [block_d, block_w, h]
  rw [← Fin.sum_mul_add_fin 2 2816 (fun n : Fin 5632 => argD m c (ix2 (row t y) n) * argW m c (ix2 j n)) rfl, Fin.sum_univ_two]
  simp only [Fin.val_zero, Fin.val_one, Nat.zero_mul, Nat.one_mul, Nat.zero_add, Nat.mul_one]
  exact add_comm _ _

/-! ### What the second point of a block of rows computes -/

/-- The half of the product that the point before kept. -/
abbrev kept : FVec Ideal S512x1024 .f32 := (outsAt0 m c (t.val - 1) (by omega)).2.2.2.2

/-- The residual stream's cotangent, as the point computes it. -/
abbrev computed : FVec Ideal S512x1024 .f32 := k0_pay11 (k0_pay6 (iblk m c 2 t)) (k0_pay7 (iblk m c 2 t)) (iblk m c 3 t)
  (k0_pay9 (iblk m c 0 t) (iblk m c 1 t) (kept m c t) (iblk m c 5 t)) (k0_pay10 (iblk m c 0 t) (iblk m c 1 t) (kept m c t) (iblk m c 2 t) (iblk m c 5 t))

theorem scale_at : k0_pay6 (iblk m c 2 t) (ix2 y 0) = scale (stream (argX m c) (argM m c) (argA m c) (row t y)) := by
  unfold scale meanSq width small k0_pay6 k0_pay5
  simp only [← block_x]
  pointwise

theorem normed_at : k0_pay7 (iblk m c 2 t) (ix2 y j) = normed (stream (argX m c) (argM m c) (argA m c) (row t y)) j := by
  rw [normed, ← block_x, ← scale_at]
  unfold k0_pay7 k0_pay5
  pointwise

theorem scaleMixed_at : k0_pay12 (iblk m c 4 t) (ix2 y 0) = scale (mixed (argM m c) (row t y)) := by
  unfold scale meanSq width small k0_pay12
  simp only [← block_m]
  pointwise

theorem normedMixed_at : k0_pay13 (iblk m c 4 t) (ix2 y j) = normed (mixed (argM m c) (row t y)) j := by
  rw [normed, ← block_m, ← scaleMixed_at]
  unfold k0_pay13
  pointwise

variable (h : t.val % 2 = 1)
include h

theorem gained_at : k0_pay9 (iblk m c 0 t) (iblk m c 1 t) (kept m c t) (iblk m c 5 t) (ix2 y j)
    = dIn (argW m c) (argD m c) (row t y) j * argB m c (ix2 0 j) := by
  rw [← product_at m c t y j h, ← block_b m c t]
  unfold k0_pay9
  pointwise

theorem computed_at : computed m c t (ix2 y j)
    = dStream (argX m c) (argM m c) (argA m c) (argB m c) (argW m c) (argD m c) (argE m c) (row t y) j := by
  unfold computed dStream back width
  simp only [← gained_at m c t y _ h, ← normed_at, ← scale_at]
  unfold k0_pay11 k0_pay10
  pointwise
  rw [block_e]

theorem left_x : (outsAt0 m c t.val t.isLt).1 (ix2 y j)
    = dStream (argX m c) (argM m c) (argA m c) (argB m c) (argW m c) (argD m c) (argE m c) (row t y) j := by
  rw [← computed_at m c t y j h, outsAt0_B m c t (by omega) (by omega) h]
  frame_out
  simp only [read_unread_whole]

theorem left_m : (outsAt0 m c t.val t.isLt).2.1 (ix2 y j) = back (mixed (argM m c) (row t y))
    (fun j => dStream (argX m c) (argM m c) (argA m c) (argB m c) (argW m c) (argD m c) (argE m c) (row t y) j * argA m c (ix2 0 j)) j := by
  unfold back width
  simp only [← computed_at m c t y _ h, ← normedMixed_at, ← scaleMixed_at]
  rw [outsAt0_B m c t (by omega) (by omega) h]
  frame_out
  simp only [read_unread_whole]
  unfold k0_pay15 computed
  pointwise
  simp only [block_a]

theorem left_b : (outsAt0 m c t.val t.isLt).2.2.1 (ix2 0 j) = (outsAt0 m c (t.val - 1) (by omega)).2.2.1 (ix2 0 j)
    + ∑ y : Fin 512, dIn (argW m c) (argD m c) (row t y) j * normed (stream (argX m c) (argM m c) (argA m c) (row t y)) j := by
  simp only [← product_at m c t _ j h, ← normed_at]
  rw [outsAt0_B m c t (by omega) (by omega) h]
  frame_out
  simp only [read_unread_whole]
  unfold k0_pay8
  pointwise

theorem left_a : (outsAt0 m c t.val t.isLt).2.2.2.1 (ix2 0 j) = (outsAt0 m c (t.val - 1) (by omega)).2.2.2.1 (ix2 0 j)
    + ∑ y : Fin 512, dStream (argX m c) (argM m c) (argA m c) (argB m c) (argW m c) (argD m c) (argE m c) (row t y) j * normed (mixed (argM m c) (row t y)) j := by
  simp only [← computed_at m c t _ j h, ← normedMixed_at]
  rw [outsAt0_B m c t (by omega) (by omega) h]
  frame_out
  simp only [read_unread_whole]
  unfold k0_pay14 computed
  pointwise
end

section
variable (t : Fin cfg0.N) (j : Fin 1024)

/-! The first point of a block of rows leaves the two sums as they were, and the first of all sets them to zero. -/

theorem zero_b (h' : t.val % 32 = 0) : (outsAt0 m c t.val t.isLt).2.2.1 (ix2 0 j) = 0 := by
  rw [outsAt0_A m c t h' (by omega) (by omega)]
  frame_out
  unfold k0_pay1
  pointwise

theorem zero_a (h' : t.val % 32 = 0) : (outsAt0 m c t.val t.isLt).2.2.2.1 (ix2 0 j) = 0 := by
  rw [outsAt0_A m c t h' (by omega) (by omega)]
  frame_out
  unfold k0_pay2
  pointwise

theorem hold_b (h' : ¬t.val % 32 = 0) (h2 : t.val % 2 = 0) :
    (outsAt0 m c t.val t.isLt).2.2.1 (ix2 0 j) = (outsAt0 m c (t.val - 1) (by omega)).2.2.1 (ix2 0 j) := by
  rw [outsAt0_C m c t h' h2 (by omega)]
  rfl

theorem hold_a (h' : ¬t.val % 32 = 0) (h2 : t.val % 2 = 0) :
    (outsAt0 m c t.val t.isLt).2.2.2.1 (ix2 0 j) = (outsAt0 m c (t.val - 1) (by omega)).2.2.2.1 (ix2 0 j) := by
  rw [outsAt0_C m c t h' h2 (by omega)]
  rfl
end

/-! ### The sums over all rows -/

theorem total_b (t : Fin cfg0.N) (ht : t.val + 1 = 32) (j : Fin 1024) : (outsAt0 m c t.val t.isLt).2.2.1 (ix2 0 j)
    = ∑ r : Fin 8192, dIn (argW m c) (argD m c) r j * normed (stream (argX m c) (argM m c) (argA m c) r) j :=
  Total.rows_last (p := 2) (J := 16) (R := 8192) (n := 512) (by decide) (fun k h n => (outsAt0 m c k h).2.2.1 (ix2 0 n))
    (fun r n => dIn (argW m c) (argD m c) r n * normed (stream (argX m c) (argM m c) (argA m c) r) n) rfl N_0 (by decide)
    (fun t h n => zero_b m c t n (by omega)) (fun t h h2 n => hold_b m c t n (by have := lt_of_lt_of_eq t.isLt N_0; omega) (by omega))
    (fun t h n => left_b m c t n h) t (ht.trans N_0.symm) j

theorem total_a (t : Fin cfg0.N) (ht : t.val + 1 = 32) (j : Fin 1024) : (outsAt0 m c t.val t.isLt).2.2.2.1 (ix2 0 j)
    = ∑ r : Fin 8192, dStream (argX m c) (argM m c) (argA m c) (argB m c) (argW m c) (argD m c) (argE m c) r j * normed (mixed (argM m c) r) j :=
  Total.rows_last (p := 2) (J := 16) (R := 8192) (n := 512) (by decide) (fun k h n => (outsAt0 m c k h).2.2.2.1 (ix2 0 n))
    (fun r n => dStream (argX m c) (argM m c) (argA m c) (argB m c) (argW m c) (argD m c) (argE m c) r n * normed (mixed (argM m c) r) n) rfl N_0 (by decide)
    (fun t h n => zero_a m c t n (by omega)) (fun t h h2 n => hold_a m c t n (by have := lt_of_lt_of_eq t.isLt N_0; omega) (by omega))
    (fun t h n => left_a m c t n h) t (ht.trans N_0.symm) j

/-! ### The arrays -/

section
variable (hx : ∀ a, IsReal (argX m c a)) (hm : ∀ a, IsReal (argM m c a)) (ha : ∀ a, IsReal (argA m c a)) (hb : ∀ a, IsReal (argB m c a))
  (hw : ∀ a, IsReal (argW m c a)) (hd : ∀ a, IsReal (argD m c a)) (he : ∀ a, IsReal (argE m c a))
include hx hm ha hb hw hd

open Cert.MixReferenceIdeal.Read in
theorem array_x : (dats m 0 c).arrAt 7 cfg0.N = val_main_v52 (F := Ideal) (argX m c) (argM m c) (argA m c) (argB m c) (argW m c) (argD m c) (argE m c) := by
  refine (dats m 0 c).arrAt_eq_of_covers 7 _ (by decide +kernel) fun t hf y => ?_
  have ht : t.val % 2 = 1 := (by decide +kernel : ∀ t : Fin grid0.N, win0_7.flush t = true → t.val % 2 = 1) t hf
  blk_simp
  rw [after0_7]
  idx_vars y
  refine (left_x m c t y0 y1 ht).trans ?_
  rw [← v52_at _ _ _ _ _ _ _ _ _ hx hm ha hb hw hd]
  unfold row
  blk_ext [block_index]

open Cert.MixReferenceIdeal.Read in
include he in
theorem array_m : (dats m 0 c).arrAt 8 cfg0.N = val_main_v73 (F := Ideal) (argX m c) (argM m c) (argA m c) (argB m c) (argW m c) (argD m c) (argE m c) := by
  refine (dats m 0 c).arrAt_eq_of_covers 8 _ (by decide +kernel) fun t hf y => ?_
  have ht : t.val % 2 = 1 := (by decide +kernel : ∀ t : Fin grid0.N, win0_8.flush t = true → t.val % 2 = 1) t hf
  blk_simp
  rw [after0_8]
  idx_vars y
  refine (left_m m c t y0 y1 ht).trans ?_
  rw [← v73_at _ _ _ _ _ _ _ _ _ hx hm ha hb hw hd he]
  unfold row
  blk_ext [block_index]

open Cert.MixReferenceIdeal.Read in
theorem array_a : (dats m 0 c).arrAt 10 cfg0.N = val_main_v56 (F := Ideal) (argX m c) (argM m c) (argA m c) (argB m c) (argW m c) (argD m c) (argE m c) := by
  refine (dats m 0 c).arrAt_eq_of_covers 10 _ (by decide +kernel) fun t hf y => ?_
  have ht : t.val + 1 = 32 := (by decide +kernel : ∀ t : Fin grid0.N, win0_10.flush t = true → t.val + 1 = 32) t hf
  blk_simp
  rw [after0_10]
  idx_vars y
  obtain rfl : y0 = 0 := by omega
  refine (total_a m c t ht y1).trans ?_
  rw [← v56_at _ _ _ _ _ _ _ _ hx hm ha hb hw hd]
  blk_ext [block_index]
end

open Cert.MixReferenceIdeal.Read in
theorem array_b : (dats m 0 c).arrAt 9 cfg0.N = val_main_v35 (F := Ideal) (argX m c) (argM m c) (argA m c) (argW m c) (argD m c) := by
  refine (dats m 0 c).arrAt_eq_of_covers 9 _ (by decide +kernel) fun t hf y => ?_
  have ht : t.val + 1 = 32 := (by decide +kernel : ∀ t : Fin grid0.N, win0_9.flush t = true → t.val + 1 = 32) t hf
  blk_simp
  rw [after0_9]
  idx_vars y
  obtain rfl : y0 = 0 := by omega
  refine (total_b m c t ht y1).trans ?_
  rw [← v35_at]
  blk_ext [block_index]

/-- The run, with the four results as the launch's arrays give them. -/
theorem kernel_results (ρ : Dev nD → PrngReg) :
    θ_run defs (onTc (τ := τ) (main (F := Ideal))) ⟨m, fun _ => 0, ρ⟩ (fun r => ∀ c : Dev nD,
      r.2.mem ((c.tc : Thread nD τ).loc main_v15_0) = (dats m 0 c).arrAt 7 cfg0.N
      ∧ r.2.mem ((c.tc : Thread nD τ).loc main_v15_1) = (dats m 0 c).arrAt 8 cfg0.N
      ∧ r.2.mem ((c.tc : Thread nD τ).loc main_v15_3) = (dats m 0 c).arrAt 10 cfg0.N
      ∧ r.2.mem ((c.tc : Thread nD τ).loc main_v15_2) = (dats m 0 c).arrAt 9 cfg0.N) :=
  (θ_run defs _ _).mono (fun _ h c => ⟨(h c).1 7, (h c).1 8, (h c).1 10, (h c).1 9⟩) (run_main m ρ)

end Cert.Mix

end
-- ==== Proof.Mix.Claim.lean ====
/-
  The claim of the gradient between the mixer and the feed-forward: where the arguments are finite, the kernel's gradients are
  the reference's.
-/
module

public import proofs.«01_k».proof.Defs
public import proofs.«01_k».proof.Proof.Mix.Kernel
public import proofs.«01_k».proof.Proof.Gen.MixKernel.Frame
public import proofs.«01_k».proof.Proof.Gen.MixReferenceIdeal.Run
public import Idealize.ShloMosaic.Lib.Claim
public import Idealize.ShloMosaic.Lib.Quiescent

@[expose] public section

set_option maxRecDepth 16384

noncomputable section

namespace Cert.Mix

open Cert.MixKernelIdeal Cert.MixKernelIdeal.Gen Cert.Reals
open Idealize.ShloMosaic Idealize.ShloMosaic.TcCoe Idealize.ShloMosaic.Tactic Idealize.SL.Sem Finset

/-- The facts about shapes that the precondition takes. -/
theorem precondition_facts : Cert.Pre_finite_mix.Facts := by
  constructor <;> decide +kernel

/-- What the precondition gives of the arguments: they are real numbers. -/
theorem decode [Cert.Pre_finite_mix.Facts] {x : FVec Ideal S8192x1024 .f32} {u : FVec Ideal S8192x1024 .f32} {a : FVec Ideal S1x1024 .f32} {b : FVec Ideal S1x1024 .f32} {w : FVec Ideal S1024x5632 .f32} {d : FVec Ideal S8192x5632 .f32} {e : FVec Ideal S8192x1024 .f32}
    (h : Cert.Pre_finite_mix.fn (F := Ideal) x u a b w d e = fun _ => 1#1) :
    (∀ i, IsReal (x i)) ∧ (∀ i, IsReal (u i)) ∧ (∀ i, IsReal (a i)) ∧ (∀ i, IsReal (b i)) ∧ (∀ i, IsReal (w i)) ∧ (∀ i, IsReal (d i)) ∧ ∀ i, IsReal (e i) := by
  dsimp only [Cert.Pre_finite_mix.fn] at h
  obtain ⟨h, h7⟩ := and_bits h
  obtain ⟨h, h6⟩ := and_bits h
  obtain ⟨h, h5⟩ := and_bits h
  obtain ⟨h, h4⟩ := and_bits h
  obtain ⟨h, h3⟩ := and_bits h
  obtain ⟨h1, h2⟩ := and_bits h
  refine ⟨fun i => ?_, fun i => ?_, fun i => ?_, fun i => ?_, fun i => ?_, fun i => ?_, fun i => ?_⟩
  · exact real_of_abs _ (Host.reduce_andi_all _ _ _ _ _ (congrFun h1 (Shape.Idx.first Cert.Pre_finite_mix.Facts.h_S_)) i)
  · exact real_of_abs _ (Host.reduce_andi_all _ _ _ _ _ (congrFun h2 (Shape.Idx.first Cert.Pre_finite_mix.Facts.h_S_)) i)
  · exact real_of_abs _ (Host.reduce_andi_all _ _ _ _ _ (congrFun h3 (Shape.Idx.first Cert.Pre_finite_mix.Facts.h_S_)) i)
  · exact real_of_abs _ (Host.reduce_andi_all _ _ _ _ _ (congrFun h4 (Shape.Idx.first Cert.Pre_finite_mix.Facts.h_S_)) i)
  · exact real_of_abs _ (Host.reduce_andi_all _ _ _ _ _ (congrFun h5 (Shape.Idx.first Cert.Pre_finite_mix.Facts.h_S_)) i)
  · exact real_of_abs _ (Host.reduce_andi_all _ _ _ _ _ (congrFun h6 (Shape.Idx.first Cert.Pre_finite_mix.Facts.h_S_)) i)
  · exact real_of_abs _ (Host.reduce_andi_all _ _ _ _ _ (congrFun h7 (Shape.Idx.first Cert.Pre_finite_mix.Facts.h_S_)) i)

/-- THE CLAIM: both programs run, and their four results agree. -/
theorem algebraic [Cert.Pre_finite_mix.Facts] : algebraic_MixKernelIdeal_MixReferenceIdeal_pre_finite_mix := by
  intro m ρ m' ρ' hpre hagree
  refine ⟨fun c => (dats m 0 c).arrAt 7 cfg0.N, fun c => (dats m 0 c).arrAt 8 cfg0.N, fun c => (dats m 0 c).arrAt 10 cfg0.N,
    fun c => (dats m 0 c).arrAt 9 cfg0.N,
    (θ_run defs _ _).mono (fun r h c => ⟨(h.2 c).1, (h.2 c).2.1, (h.2 c).2.2.1, (h.2 c).2.2.2, h.1 c⟩)
      (θ_run_and (unchanged (F := Ideal) m ρ) (kernel_results m ρ)), ?_⟩
  refine (θ_run Cert.MixReferenceIdeal.defs _ _).mono (fun _ h c => ?_) (Cert.MixReferenceIdeal.Value.run (F := Ideal) m' ρ')
  obtain ⟨h0, h1, h2, h3, h4, h5, h6⟩ := hagree c
  obtain ⟨hx, hm, ha, hb, hw, hd, he⟩ := decode (hpre c)
  obtain ⟨rx, rm, ra, rb, rest⟩ := h c
  refine ⟨rx.trans (Eq.trans ?_ (array_x m c hx hm ha hb hw hd).symm), rm.trans (Eq.trans ?_ (array_m m c hx hm ha hb hw hd he).symm),
    ra.trans (Eq.trans ?_ (array_a m c hx hm ha hb hw hd).symm), rb.trans (Eq.trans ?_ (array_b m c).symm), rest⟩
  · rw [argX, argM, argA, argB, argW, argD, argE, ← h0, ← h1, ← h2, ← h3, ← h4, ← h5, ← h6]
    exact Cert.MixReferenceIdeal.Read.val_main_v52_eq m' c
  · rw [argX, argM, argA, argB, argW, argD, argE, ← h0, ← h1, ← h2, ← h3, ← h4, ← h5, ← h6]
    exact Cert.MixReferenceIdeal.Read.val_main_v73_eq m' c
  · rw [argX, argM, argA, argB, argW, argD, argE, ← h0, ← h1, ← h2, ← h3, ← h4, ← h5, ← h6]
    exact Cert.MixReferenceIdeal.Read.val_main_v56_eq m' c
  · rw [argX, argM, argA, argW, argD, ← h0, ← h1, ← h2, ← h4, ← h5]
    exact Cert.MixReferenceIdeal.Read.val_main_v35_eq _ _ _ _ _

/-- The kernel runs and leaves its arguments and its counters as they were, -/
theorem quiescent_words : quiescent_MixKernel (hMixKernel := Cert.MixKernel.Gen.facts) := fun m ρ _ => Cert.MixKernel.Gen.frame m ρ

theorem quiescent_ideal : quiescent_MixKernelIdeal := fun m ρ _ => frame m ρ

/-- and so does the reference. -/
theorem quiescent_reference : quiescent_MixReferenceIdeal := fun m ρ _ =>
  (θ_run Cert.MixReferenceIdeal.defs _ _).mono (fun r h => ⟨fun c => (h c).2.2.2.2, sem_eq_zero_of_no_sems (by decide) r.2⟩)
    (Cert.MixReferenceIdeal.Value.run (F := Ideal) m ρ)

theorem quiescent_kernel_pre [Cert.Pre_finite_mix.Facts] : quiescent_MixKernelIdeal_pre_finite_mix :=
  fun m ρ _ => quiescent_ideal m ρ trivial

theorem quiescent_reference_pre [Cert.Pre_finite_mix.Facts] : quiescent_MixReferenceIdeal_pre_finite_mix :=
  fun m ρ _ => quiescent_reference m ρ trivial

end Cert.Mix

end
-- ==== Proof.Pre.Reference.lean ====
module

public import proofs.«01_k».proof.Proof.Gen.PreReferenceIdeal.Read
public import proofs.«01_k».proof.Proof.Norm
public import Idealize.ShloMosaic.Lib.Pointwise

@[expose] public section

set_option maxRecDepth 16384

/-!
The reference of the gradient through the block's first norm, read at an index.
-/

noncomputable section

namespace Cert.Pre

open Cert.PreReferenceIdeal Cert.PreReferenceIdeal.Read Cert.Reals Cert.Norm
open Idealize.ShloMosaic Idealize.ShloMosaic.TcCoe Finset

variable (x : FVec Ideal S8192x1024 .f32) (g : FVec Ideal S1x1024 .f32) (w : FVec Ideal S1024x4352 .f32) (v : FVec Ideal S1024x3072 .f32)
  (d : FVec Ideal S8192x4352 .f32) (u : FVec Ideal S8192x3072 .f32) (e : FVec Ideal S8192x1024 .f32)

/-- Row `i` of the block's input. -/
def input (i : Fin 8192) (j : Fin 1024) : EReal := x (ix2 i j)

/-- The cotangent of the normed input: through the gates' scores and through the projections. -/
def dIn (i : Fin 8192) (j : Fin 1024) : EReal := (∑ n : Fin 3072, u (ix2 i n) * v (ix2 j n)) + ∑ n : Fin 4352, d (ix2 i n) * w (ix2 j n)

variable (i : Fin 8192) (j : Fin 1024)

theorem v6_at : val_main_v6 (F := Ideal) x (ix2 i 0) = meanSq (input x i) := by
  unfold meanSq width small input
  pointwise [val_main_v6, val_main_v5, val_main_cst_1, val_main_v4, val_main_v3, val_main_cst_0, val_main_v2, val_main_v1, val_main_cst, val_main_v0]

theorem v7_at : val_main_v7 (F := Ideal) x (ix2 i 0) = scale (input x i) := by
  rw [scale, ← v6_at]
  pointwise [val_main_v7]

theorem v12_at : val_main_v12 (F := Ideal) x (ix2 i j) = normed (input x i) j := by
  rw [normed, ← v7_at, input]
  pointwise [val_main_v12, val_main_v11]

theorem v19_at : val_main_v19 (F := Ideal) w v d u (ix2 i j) = dIn w v d u i j := by
  unfold dIn
  pointwise [val_main_v19, val_main_v18, val_main_v17]

/-- The gradient of the gain. -/
theorem v22_at : val_main_v22 (F := Ideal) x w v d u (ix2 0 j) = ∑ i : Fin 8192, dIn w v d u i j * normed (input x i) j := by
  simp only [← v19_at, ← v12_at]
  pointwise [val_main_v22, val_main_v21, val_main_cst_3, val_main_v20]
  exact sum_congr rfl fun i _ => mul_comm _ _

theorem v24_at : val_main_v24 (F := Ideal) g w v d u (ix2 i j) = dIn w v d u i j * g (ix2 0 j) := by
  rw [← v19_at]
  pointwise [val_main_v24, val_main_v23]

theorem v34_at : val_main_v34 (F := Ideal) x g w v d u (ix1 i) = passed (input x i) fun j => dIn w v d u i j * g (ix2 0 j) := by
  unfold passed minusHalf width
  simp only [← v24_at, ← v7_at, ← v6_at]
  unfold input
  pointwise [val_main_v34, val_main_cst_6, val_main_v33, val_main_v32, val_main_cst_5, val_main_v31, val_main_v27, val_main_v26, val_main_cst_4,
    val_main_v25, val_main_v10, val_main_v9, val_main_cst_2, val_main_v8]
  exact Fin.sum_univ_one _

/-- The gradient of the block's input, where the arguments are real numbers. -/
theorem v39_at (hx : ∀ a, IsReal (x a)) (hg : ∀ a, IsReal (g a)) (hw : ∀ a, IsReal (w a)) (hv : ∀ a, IsReal (v a)) (hd : ∀ a, IsReal (d a))
    (hu : ∀ a, IsReal (u a)) : val_main_v39 (F := Ideal) x g w v d u e (ix2 i j)
      = e (ix2 i j) + back (input x i) (fun j => dIn w v d u i j * g (ix2 0 j)) j := by
  have hr : ∀ k, IsReal (input x i k) := fun k => hx _
  have hs : ∀ k, IsReal (dIn w v d u i k * g (ix2 0 k)) := fun k =>
    ((IsReal.sum _ fun _ => (hu _).mul (hv _)).add (IsReal.sum _ fun _ => (hd _).mul (hw _))).mul (hg _)
  rw [← back_eq j hr hs, ← v34_at, ← v24_at, ← v7_at, input, ← add_assoc, ← add_assoc]
  pointwise [val_main_v39, val_main_v38, val_main_v37, val_main_v36, val_main_v35, val_main_v30, val_main_v29, val_main_v28]

end Cert.Pre

end
-- ==== Proof.Pre.Columns.lean ====
module

public import proofs.«01_k».proof.Proof.Gen.PreKernelIdeal.Frame
public import Idealize.ShloMosaic.Lib.Pointwise
public import Idealize.ShloMosaic.Lib.Pipeline.ValueKit
public import Idealize.ShloMosaic.Lib.StableHlo.ReadAt

@[expose] public section

set_option maxRecDepth 16384

/-!
The order in which the kernel takes the columns of the projections: chunks of 128 columns, sixteen of them for its second
product and eighteen for its third; and that together they are all the columns.
-/

noncomputable section

namespace Cert.Pre

open Cert.PreKernelIdeal Cert.PreKernelIdeal.Gen
open Idealize.ShloMosaic Idealize.ShloMosaic.TcCoe Idealize.SL.Sem Finset

/-- The chunks of the second product, -/
def chunkA : Fin 16 → Fin 34 := ![0, 4, 8, 1, 5, 9, 2, 6, 10, 3, 7, 11, 30, 31, 32, 33]

/-- and of the third. -/
def chunkB : Fin 18 → Fin 34 := ![12, 14, 16, 18, 20, 22, 24, 26, 28, 13, 15, 17, 19, 21, 23, 25, 27, 29]

/-- The column that stands at `n` of the second product, -/
def colA (n : Fin 2048) : Fin 4352 := ⟨128 * (chunkA ⟨n.val / 128, by omega⟩).val + n.val % 128, by have := (chunkA ⟨n.val / 128, by omega⟩).isLt; omega⟩

/-- and of the third. -/
def colB (n : Fin 2304) : Fin 4352 := ⟨128 * (chunkB ⟨n.val / 128, by omega⟩).val + n.val % 128, by have := (chunkB ⟨n.val / 128, by omega⟩).isLt; omega⟩

/-- All columns are taken once. -/
theorem sum_columns (F : Fin 4352 → EReal) : (∑ n, F (colA n)) + ∑ n, F (colB n) = ∑ n, F n := by
  have hc : ∀ c : Fin 34, ∀ l : Fin 128, 128 * c.val + l.val < 4352 := fun c l => by omega
  have ea : ∑ n, F (colA n) = ∑ k : Fin 16, ∑ l : Fin 128, F ⟨128 * (chunkA k).val + l.val, hc _ l⟩ := by
    rw [← Fin.sum_mul_add_fin 16 128 (fun n : Fin 2048 => F (colA n)) rfl]
    refine sum_congr rfl fun k _ => sum_congr rfl fun l _ => congrArg F (Fin.ext ?_)
    have e : (⟨(k.val * 128 + l.val) / 128, by omega⟩ : Fin 16) = k := Fin.ext (by show (k.val * 128 + l.val) / 128 = k.val; omega)
    show 128 * (chunkA ⟨(k.val * 128 + l.val) / 128, _⟩).val + (k.val * 128 + l.val) % 128 = 128 * (chunkA k).val + l.val
    rw [e]
    omega
  have eb : ∑ n, F (colB n) = ∑ k : Fin 18, ∑ l : Fin 128, F ⟨128 * (chunkB k).val + l.val, hc _ l⟩ := by
    rw [← Fin.sum_mul_add_fin 18 128 (fun n : Fin 2304 => F (colB n)) rfl]
    refine sum_congr rfl fun k _ => sum_congr rfl fun l _ => congrArg F (Fin.ext ?_)
    have e : (⟨(k.val * 128 + l.val) / 128, by omega⟩ : Fin 18) = k := Fin.ext (by show (k.val * 128 + l.val) / 128 = k.val; omega)
    show 128 * (chunkB ⟨(k.val * 128 + l.val) / 128, _⟩).val + (k.val * 128 + l.val) % 128 = 128 * (chunkB k).val + l.val
    rw [e]
    omega
  have ec : ∑ n, F n = ∑ c : Fin 34, ∑ l : Fin 128, F ⟨128 * c.val + l.val, hc c l⟩ := by
    rw [← Fin.sum_mul_add_fin 34 128 F rfl]
    exact sum_congr rfl fun k _ => sum_congr rfl fun l _ => congrArg F (Fin.ext (by show k.val * 128 + l.val = 128 * k.val + l.val; omega))
  rw [ea, eb, ec]
  have hb : Function.Bijective (Sum.elim chunkA chunkB) := by decide +kernel
  rw [← hb.sum_comp, Fintype.sum_sum_type]
  rfl

/-- Chunks of columns laid side by side, read at an index. -/
theorem picked {α : Type} {R N w T : ℕ} (chunk : Fin N → ℕ) (x : (⟨2, ![R, w]⟩ : Shape).Idx → α)
    (hs : ∀ n, Shape.Slices (⟨2, ![R, w]⟩ : Shape) ![0, 128 * chunk n] ⟨2, ![R, 128]⟩)
    (xs : List ((s : Shape) × (s.Idx → α)))
    (hx : xs = List.ofFn fun n => ⟨⟨2, ![R, 128]⟩, extractStridedSlice ⟨2, ![R, 128]⟩ ![0, 128 * chunk n] x (hs n)⟩)
    (h : Shape.Concatenates (xs.map (·.1)) (⟨2, ![R, T]⟩ : Shape) 1) (i : Fin R) (j : Fin T) (hj : j.val / 128 < N)
    (hw : 128 * chunk ⟨j.val / 128, hj⟩ + j.val % 128 < w) :
    concatenate ⟨2, ![R, T]⟩ 1 xs h (ix2 i j) = x (ix2 i ⟨128 * chunk ⟨j.val / 128, hj⟩ + j.val % 128, hw⟩) := by
  subst hx
  refine (concatenate_ofFn_apply (t := ⟨2, ![R, T]⟩) (s₁ := ⟨2, ![R, 128]⟩) 1 _ h rfl 128 rfl (ix2 i j) ⟨j.val / 128, hj⟩ rfl
    (ix2 i ⟨j.val % 128, by omega⟩) rfl fun b hb => ?_).trans ?_
  · match b with
    | ⟨0, _⟩ => rfl
    | ⟨1, _⟩ => exact absurd rfl hb
  · refine extractStridedSlice_apply _ _ _ _ _ fun b => ?_
    match b with
    | ⟨0, _⟩ => show _ = 0 + _; simp
    | ⟨1, _⟩ => rfl

/-- Lists of pieces of one shape, piece by piece. -/
theorem pieces_cons {s : Shape} {α : Type} {N : ℕ} {a : s.Idx → α} {f : Fin (N + 1) → s.Idx → α} {xs : List ((s : Shape) × (s.Idx → α))}
    (h : a = f 0) (hs : xs = List.ofFn fun n : Fin N => ⟨s, f n.succ⟩) :
    (⟨s, a⟩ : (s : Shape) × (s.Idx → α)) :: xs = List.ofFn fun n => ⟨s, f n⟩ := by
  rw [List.ofFn_succ, h, hs]

variable (m : (ℓ : Loc nD τ sig) → Buf (Elt Ideal) ℓ) (c : Dev nD)

/-- The arrays that are picked from. -/
abbrev wholeD : FVec Ideal S8192x4352 .bf16 :=
  truncf (F := Ideal) .bf16 (m ((c.tc : Thread nD τ).loc main_arg4) : FVec Ideal S8192x4352 .f32) bitsLt_bf16_f32
abbrev wholeW : FVec Ideal S1024x4352 .bf16 :=
  truncf (F := Ideal) .bf16 (m ((c.tc : Thread nD τ).loc main_arg2) : FVec Ideal S1024x4352 .f32) bitsLt_bf16_f32

theorem columnsA_d (i : Fin 8192) (n : Fin 2048) :
    (V m c main_v20 : FVec Ideal S8192x2048 .bf16) (ix2 i n) = (m ((c.tc : Thread nD τ).loc main_arg4) : FVec Ideal S8192x4352 .f32) (ix2 i (colA n)) := by
  unfold V
  after_reads_simp
  refine (picked (R := 8192) (N := 16) (w := 4352) (T := 2048) (fun k => (chunkA k).val) (wholeD m c) (by decide +kernel) _ ?_ _ i n (by omega) (colA n).isLt).trans ?_
  · iterate 16
      refine pieces_cons ((StableHlo.unary_result _ _ _ _ _ _).trans ?_) ?_
      · after_reads_simp
        rfl
    rfl
  · rfl

theorem columnsA_w (i : Fin 1024) (n : Fin 2048) :
    (V m c main_v37 : FVec Ideal S1024x2048 .bf16) (ix2 i n) = (m ((c.tc : Thread nD τ).loc main_arg2) : FVec Ideal S1024x4352 .f32) (ix2 i (colA n)) := by
  unfold V
  after_reads_simp
  refine (picked (R := 1024) (N := 16) (w := 4352) (T := 2048) (fun k => (chunkA k).val) (wholeW m c) (by decide +kernel) _ ?_ _ i n (by omega) (colA n).isLt).trans ?_
  · iterate 16
      refine pieces_cons ((StableHlo.unary_result _ _ _ _ _ _).trans ?_) ?_
      · after_reads_simp
        rfl
    rfl
  · rfl

theorem columnsB_d (i : Fin 8192) (n : Fin 2304) :
    (V m c main_v58 : FVec Ideal S8192x2304 .bf16) (ix2 i n) = (m ((c.tc : Thread nD τ).loc main_arg4) : FVec Ideal S8192x4352 .f32) (ix2 i (colB n)) := by
  unfold V
  after_reads_simp
  by_cases hn : n.val < 2048
  · refine (concatenate_pair_apply_left (t := S8192x2304) (s₁ := S8192x2048) (s₂ := S8192x256) 1 _ _ _ (ix2 i n) rfl
      (ix2 i (⟨n.val, hn⟩ : Fin 2048)) fun b => ?_).trans ?_
    · match b with
      | ⟨0, _⟩ => rfl
      | ⟨1, _⟩ => rfl
    · refine (picked (R := 8192) (N := 16) (w := 4352) (T := 2048) (fun k => (chunkB (k.castAdd 2)).val) (wholeD m c) (by decide +kernel) _ ?_ _ i
        ⟨n.val, hn⟩ (by show n.val / 128 < 16; omega) (colB n).isLt).trans ?_
      · iterate 16
          refine pieces_cons ?_ ?_
          · dsimp only [Matrix.cons_val]
            after_reads_simp
            rfl
        rfl
      · rfl
  · have hk : (Fin.natAdd 16 (⟨(n.val - 2048) / 128, by omega⟩ : Fin 2)) = ⟨n.val / 128, by omega⟩ := Fin.ext (by show 16 + (n.val - 2048) / 128 = n.val / 128; omega)
    have hc : 128 * (chunkB (Fin.natAdd 16 (⟨(n.val - 2048) / 128, by omega⟩ : Fin 2))).val + (n.val - 2048) % 128 = (colB n).val := by
      rw [hk]
      show _ = 128 * (chunkB ⟨n.val / 128, by omega⟩).val + n.val % 128
      omega
    refine (concatenate_pair_apply_right (t := S8192x2304) (s₁ := S8192x2048) (s₂ := S8192x256) 1 _ _ _ (ix2 i n) rfl rfl
      (ix2 i (⟨n.val - 2048, by omega⟩ : Fin 256)) (fun b hb => ?_) ?_).trans ?_
    · match b with
      | ⟨0, _⟩ => rfl
      | ⟨1, _⟩ => exact absurd rfl hb
    · show n.val - 2048 + 2048 = n.val
      omega
    · refine (picked (R := 8192) (N := 2) (w := 4352) (T := 256) (fun k => (chunkB (Fin.natAdd 16 k)).val) (wholeD m c) (by decide +kernel) _ ?_ _ i
        ⟨n.val - 2048, by omega⟩ (by show (n.val - 2048) / 128 < 2; omega) (lt_of_eq_of_lt hc (colB n).isLt)).trans ?_
      · iterate 2
          refine pieces_cons ?_ ?_
          · after_reads_simp
            rfl
        rfl
      · exact congrArg (fun k => (wholeD m c) (ix2 i k)) (Fin.ext hc)

theorem columnsB_w (i : Fin 1024) (n : Fin 2304) :
    (V m c main_v79 : FVec Ideal S1024x2304 .bf16) (ix2 i n) = (m ((c.tc : Thread nD τ).loc main_arg2) : FVec Ideal S1024x4352 .f32) (ix2 i (colB n)) := by
  unfold V
  after_reads_simp
  by_cases hn : n.val < 2048
  · refine (concatenate_pair_apply_left (t := S1024x2304) (s₁ := S1024x2048) (s₂ := S1024x256) 1 _ _ _ (ix2 i n) rfl
      (ix2 i (⟨n.val, hn⟩ : Fin 2048)) fun b => ?_).trans ?_
    · match b with
      | ⟨0, _⟩ => rfl
      | ⟨1, _⟩ => rfl
    · refine (picked (R := 1024) (N := 16) (w := 4352) (T := 2048) (fun k => (chunkB (k.castAdd 2)).val) (wholeW m c) (by decide +kernel) _ ?_ _ i
        ⟨n.val, hn⟩ (by show n.val / 128 < 16; omega) (colB n).isLt).trans ?_
      · iterate 16
          refine pieces_cons ?_ ?_
          · dsimp only [Matrix.cons_val]
            after_reads_simp
            rfl
        rfl
      · rfl
  · have hk : (Fin.natAdd 16 (⟨(n.val - 2048) / 128, by omega⟩ : Fin 2)) = ⟨n.val / 128, by omega⟩ := Fin.ext (by show 16 + (n.val - 2048) / 128 = n.val / 128; omega)
    have hc : 128 * (chunkB (Fin.natAdd 16 (⟨(n.val - 2048) / 128, by omega⟩ : Fin 2))).val + (n.val - 2048) % 128 = (colB n).val := by
      rw [hk]
      show _ = 128 * (chunkB ⟨n.val / 128, by omega⟩).val + n.val % 128
      omega
    refine (concatenate_pair_apply_right (t := S1024x2304) (s₁ := S1024x2048) (s₂ := S1024x256) 1 _ _ _ (ix2 i n) rfl rfl
      (ix2 i (⟨n.val - 2048, by omega⟩ : Fin 256)) (fun b hb => ?_) ?_).trans ?_
    · match b with
      | ⟨0, _⟩ => rfl
      | ⟨1, _⟩ => exact absurd rfl hb
    · show n.val - 2048 + 2048 = n.val
      omega
    · refine (picked (R := 1024) (N := 2) (w := 4352) (T := 256) (fun k => (chunkB (Fin.natAdd 16 k)).val) (wholeW m c) (by decide +kernel) _ ?_ _ i
        ⟨n.val - 2048, by omega⟩ (by show (n.val - 2048) / 128 < 2; omega) (lt_of_eq_of_lt hc (colB n).isLt)).trans ?_
      · iterate 2
          refine pieces_cons ?_ ?_
          · after_reads_simp
            rfl
        rfl
      · exact congrArg (fun k => (wholeW m c) (ix2 i k)) (Fin.ext hc)

end Cert.Pre

end
-- ==== Proof.Pre.Kernel.lean ====
module

public import proofs.«01_k».proof.Proof.Pre.Reference
public import proofs.«01_k».proof.Proof.Total
public import proofs.«01_k».proof.Proof.Pre.Columns
public import proofs.«01_k».proof.Proof.Gen.PreKernelIdeal.Frame
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

/-!
The kernel of the gradient through the block's first norm: 8 blocks of rows, each in eight points that take a part of the
three products' terms; what a block's last point leaves, and the two arrays.
-/

noncomputable section

namespace Cert.Pre

open Cert.PreKernelIdeal Cert.PreKernelIdeal.Gen Cert.Reals Cert.Norm
open Idealize.ShloMosaic Idealize.ShloMosaic.TcCoe Idealize.SL.Sem Finset

variable (m : (ℓ : Loc nD τ sig) → Buf (Elt Ideal) ℓ) (c : Dev nD)

abbrev argX : FVec Ideal S8192x1024 .f32 := m ((c.tc : Thread nD τ).loc main_arg0)
abbrev argG : FVec Ideal S1x1024 .f32 := m ((c.tc : Thread nD τ).loc main_arg1)
abbrev argW : FVec Ideal S1024x4352 .f32 := m ((c.tc : Thread nD τ).loc main_arg2)
abbrev argV : FVec Ideal S1024x3072 .f32 := m ((c.tc : Thread nD τ).loc main_arg3)
abbrev argD : FVec Ideal S8192x4352 .f32 := m ((c.tc : Thread nD τ).loc main_arg4)
abbrev argU : FVec Ideal S8192x3072 .f32 := m ((c.tc : Thread nD τ).loc main_arg5)
abbrev argE : FVec Ideal S8192x1024 .f32 := m ((c.tc : Thread nD τ).loc main_arg6)

/-- The step of the first product that point `t` takes, -/
def stepU (t : ℕ) : ℕ := min (t % 8) 2
/-- of the second, -/
def stepA (t : ℕ) : ℕ := min (t % 8 - 3) 1
/-- and of the third. -/
def stepB (t : ℕ) : ℕ := min (t % 8 - 5) 2

theorem block_index : ∀ t : Fin cfg0.N, win0_0.index t = ![t.val / 8, stepU t.val] ∧ win0_1.index t = ![0, stepU t.val]
    ∧ win0_2.index t = ![t.val / 8, stepA t.val] ∧ win0_3.index t = ![0, stepA t.val]
    ∧ win0_4.index t = ![t.val / 8, stepB t.val] ∧ win0_5.index t = ![0, stepB t.val] ∧ win0_6.index t = ![t.val / 8, 0]
    ∧ win0_7.index t = ![t.val / 8, 0] ∧ win0_8.index t = ![0, 0] ∧ win0_9.index t = ![t.val / 8, 0] ∧ win0_10.index t = ![0, 0] :=
  (by decide +kernel : ∀ t : Fin grid0.N, win0_0.index t = ![t.val / 8, stepU t.val] ∧ win0_1.index t = ![0, stepU t.val]
    ∧ win0_2.index t = ![t.val / 8, stepA t.val] ∧ win0_3.index t = ![0, stepA t.val]
    ∧ win0_4.index t = ![t.val / 8, stepB t.val] ∧ win0_5.index t = ![0, stepB t.val] ∧ win0_6.index t = ![t.val / 8, 0]
    ∧ win0_7.index t = ![t.val / 8, 0] ∧ win0_8.index t = ![0, 0] ∧ win0_9.index t = ![t.val / 8, 0] ∧ win0_10.index t = ![0, 0])

/-- Row `y` of the block of rows of point `t`, as a row of the whole array. -/
def row (t : Fin cfg0.N) (y : Fin 1024) : Fin 8192 := ⟨1024 * (t.val / 8) + y.val, by have := lt_of_lt_of_eq t.isLt N_0; omega⟩

theorem stepU_lt (t : ℕ) : stepU t < 3 := by unfold stepU; omega
theorem stepA_lt (t : ℕ) : stepA t < 2 := by unfold stepA; omega
theorem stepB_lt (t : ℕ) : stepB t < 3 := by unfold stepB; omega

section
variable (t : Fin cfg0.N) (y j k : Fin 1024) (l : Fin 768)

theorem block_u : iblk m c 0 t (ix2 y k) = argU m c (ix2 (row t y) ⟨1024 * stepU t.val + k.val, by have := stepU_lt t.val; omega⟩) := by
  unfold row
  blk_point [iblk, V, block_index]

theorem block_v : iblk m c 1 t (ix2 j k) = argV m c (ix2 j ⟨1024 * stepU t.val + k.val, by have := stepU_lt t.val; omega⟩) := by
  blk_point [iblk, V, block_index]

theorem block_x : iblk m c 6 t (ix2 y j) = input (argX m c) (row t y) j := by
  unfold row input
  blk_point [iblk, V, block_index]

theorem block_e : iblk m c 7 t (ix2 y j) = argE m c (ix2 (row t y) j) := by
  unfold row
  blk_point [iblk, V, block_index]

theorem block_g : iblk m c 8 t (ix2 0 j) = argG m c (ix2 0 j) := by
  blk_point [iblk, V, block_index]

theorem block_ad : iblk m c 2 t (ix2 y k) = argD m c (ix2 (row t y) (colA ⟨1024 * stepA t.val + k.val, by have := stepA_lt t.val; omega⟩)) := by
  refine Eq.trans ?_ (columnsA_d m c _ _)
  unfold row
  blk_point [iblk, block_index]

theorem block_aw : iblk m c 3 t (ix2 j k) = argW m c (ix2 j (colA ⟨1024 * stepA t.val + k.val, by have := stepA_lt t.val; omega⟩)) := by
  refine Eq.trans ?_ (columnsA_w m c _ _)
  blk_point [iblk, block_index]

theorem block_bd : iblk m c 4 t (ix2 y l) = argD m c (ix2 (row t y) (colB ⟨768 * stepB t.val + l.val, by have := stepB_lt t.val; omega⟩)) := by
  refine Eq.trans ?_ (columnsB_d m c _ _)
  unfold row
  blk_point [iblk, block_index]

theorem block_bw : iblk m c 5 t (ix2 j l) = argW m c (ix2 j (colB ⟨768 * stepB t.val + l.val, by have := stepB_lt t.val; omega⟩)) := by
  refine Eq.trans ?_ (columnsB_w m c _ _)
  blk_point [iblk, block_index]
end

/-! ### The products, part by part -/

/-- The part of the products that a block's point `s` takes. -/
def part (r : Fin 8192) (s : ℕ) (j : Fin 1024) : EReal :=
  if s % 8 < 3 then ∑ k : Fin 1024, argU m c (ix2 r ⟨1024 * stepU s + k.val, by have := stepU_lt s; omega⟩)
      * argV m c (ix2 j ⟨1024 * stepU s + k.val, by have := stepU_lt s; omega⟩)
  else if s % 8 < 5 then ∑ k : Fin 1024, argD m c (ix2 r (colA ⟨1024 * stepA s + k.val, by have := stepA_lt s; omega⟩))
      * argW m c (ix2 j (colA ⟨1024 * stepA s + k.val, by have := stepA_lt s; omega⟩))
  else ∑ k : Fin 768, argD m c (ix2 r (colB ⟨768 * stepB s + k.val, by have := stepB_lt s; omega⟩))
      * argW m c (ix2 j (colB ⟨768 * stepB s + k.val, by have := stepB_lt s; omega⟩))

theorem part_mod (r : Fin 8192) (s : ℕ) (j : Fin 1024) : part m c r s j = part m c r (s % 8) j := by
  have hu : stepU (s % 8) = stepU s := by unfold stepU; omega
  have ha : stepA (s % 8) = stepA s := by unfold stepA; omega
  have hb : stepB (s % 8) = stepB s := by unfold stepB; omega
  unfold part
  simp only [hu, ha, hb, Nat.mod_mod]

/-- All eight parts together are the cotangent of the normed input. -/
theorem sum_parts (r : Fin 8192) (j : Fin 1024) : ∑ s ∈ range 8, part m c r s j = dIn (argW m c) (argV m c) (argD m c) (argU m c) r j := by
  have u0 : stepU 0 = 0 := rfl
  have u1 : stepU 1 = 1 := rfl
  have u2 : stepU 2 = 2 := rfl
  have a3 : stepA 3 = 0 := rfl
  have a4 : stepA 4 = 1 := rfl
  have b5 : stepB 5 = 0 := rfl
  have b6 : stepB 6 = 1 := rfl
  have b7 : stepB 7 = 2 := rfl
  unfold dIn
  rw [← sum_columns (fun n => argD m c (ix2 r n) * argW m c (ix2 j n)),
    ← Fin.sum_mul_add_fin 3 1024 (fun n : Fin 3072 => argU m c (ix2 r n) * argV m c (ix2 j n)) rfl,
    ← Fin.sum_mul_add_fin 2 1024 (fun n : Fin 2048 => argD m c (ix2 r (colA n)) * argW m c (ix2 j (colA n))) rfl,
    ← Fin.sum_mul_add_fin 3 768 (fun n : Fin 2304 => argD m c (ix2 r (colB n)) * argW m c (ix2 j (colB n))) rfl]
  simp only [sum_range_succ, sum_range_zero, zero_add, part, Nat.reduceMod, Nat.reduceLT, if_true, if_false, u0, u1, u2, a3, a4, b5, b6, b7,
    Fin.sum_univ_three, Fin.sum_univ_two, Fin.val_zero, Fin.val_one, Fin.val_two, Nat.mul_comm 1024, Nat.mul_comm 768, add_assoc]

section
variable (t : Fin cfg0.N) (y j k : Fin 1024) (l : Fin 768)

/-- The blocks that the point multiplies. -/
abbrev opnd0 : FVec Ideal S1024x1024 .bf16 := iblk m c 0 t
abbrev opnd1 : FVec Ideal S1024x1024 .bf16 := iblk m c 1 t
abbrev opnd2 : FVec Ideal S1024x1024 .bf16 := iblk m c 2 t
abbrev opnd3 : FVec Ideal S1024x1024 .bf16 := iblk m c 3 t
abbrev opnd4 : FVec Ideal S1024x768 .bf16 := iblk m c 4 t
abbrev opnd5 : FVec Ideal S1024x768 .bf16 := iblk m c 5 t

theorem part_u (h : t.val % 8 < 3) : ∑ k : Fin 1024, opnd0 m c t (ix2 y k) * opnd1 m c t (ix2 j k) = part m c (row t y) t.val j := by
  simp only [part, if_pos h, block_u, block_v]

theorem part_a (h : 3 ≤ t.val % 8) (h' : t.val % 8 < 5) : ∑ k : Fin 1024, opnd2 m c t (ix2 y k) * opnd3 m c t (ix2 j k) = part m c (row t y) t.val j := by
  simp only [part, if_neg (by omega : ¬t.val % 8 < 3), if_pos h', block_ad, block_aw]

theorem part_b (h : 5 ≤ t.val % 8) : ∑ k : Fin 768, opnd4 m c t (ix2 y k) * opnd5 m c t (ix2 j k) = part m c (row t y) t.val j := by
  simp only [part, if_neg (by omega : ¬t.val % 8 < 3), if_neg (by omega : ¬t.val % 8 < 5), block_bd, block_bw]

/-- The products so far, as a point leaves them. -/
abbrev held : FVec Ideal S1024x1024 .f32 := (outsAt0 m c t.val t.isLt).2.2

/-- The products so far, as a point finds them. -/
abbrev found : FVec Ideal S1024x1024 .f32 := (outsAt0 m c (t.val - 1) (by omega)).2.2

theorem held_first (h : t.val % 8 = 0) : held m c t (ix2 y j) = part m c (row t y) t.val j := by
  have e : k0_pay2 (iblk m c 0 t) (iblk m c 1 t) (ix2 y j) = part m c (row t y) t.val j := by
    rw [← part_u m c t y j (by omega)]
    unfold k0_pay2
    pointwise
  rw [← e]
  unfold held
  by_cases h0 : t.val % 64 = 0
  · rw [outsAt0_A m c t h0 h (by omega) (by omega) (by omega) (by omega)]
    frame_out
  · rw [outsAt0_F m c t h0 h (by omega) (by omega) (by omega) (by omega)]
    frame_out

theorem held_next (h : t.val % 8 ≠ 0) (h7 : t.val % 8 ≠ 7) : held m c t (ix2 y j) = part m c (row t y) t.val j + found m c t (ix2 y j) := by
  unfold held
  rcases (by omega : (1 ≤ t.val % 8 ∧ t.val % 8 ≤ 2) ∨ (3 ≤ t.val % 8 ∧ t.val % 8 ≤ 4) ∨ (5 ≤ t.val % 8 ∧ t.val % 8 ≤ 6)) with h' | h' | h'
  · rw [← part_u m c t y j (by omega), outsAt0_B m c t (by omega) h h' (by omega) (by omega) h7]
    frame_out
    simp only [read_unread_whole]
    unfold k0_pay3
    pointwise
  · rw [← part_a m c t y j (by omega) (by omega), outsAt0_C m c t (by omega) h (by omega) h' (by omega) h7]
    frame_out
    simp only [read_unread_whole]
    unfold k0_pay4
    pointwise
  · rw [← part_b m c t y j (by omega), outsAt0_D m c t (by omega) h (by omega) (by omega) h' h7]
    frame_out
    simp only [read_unread_whole]
    unfold k0_pay5
    pointwise

theorem found_row (h : t.val % 8 ≠ 0) : row ⟨t.val - 1, by omega⟩ y = row t y :=
  Fin.ext (by show 1024 * ((t.val - 1) / 8) + y.val = 1024 * (t.val / 8) + y.val; omega)
end

theorem held_at (s : ℕ) (hs : s < 7) (t : Fin cfg0.N) (h : t.val % 8 = s) (y j : Fin 1024) :
    held m c t (ix2 y j) = ∑ i ∈ range (s + 1), part m c (row t y) i j := by
  induction s generalizing t with
  | zero => rw [held_first m c t y j h, part_mod, h, sum_range_one]
  | succ s ih =>
    have e := ih (by omega) ⟨t.val - 1, by omega⟩ (by show (t.val - 1) % 8 = s; omega)
    rw [found_row t y (by omega)] at e
    rw [held_next m c t y j (by omega) (by omega), sum_range_succ, ← e, part_mod, h]
    exact add_comm _ _

/-- What the last point of a block multiplies out is the cotangent of the normed input. -/
theorem product_at (t : Fin cfg0.N) (h : t.val % 8 = 7) (y j : Fin 1024) : k0_pay7 (iblk m c 4 t) (iblk m c 5 t) (found m c t) (ix2 y j)
    = dIn (argW m c) (argV m c) (argD m c) (argU m c) (row t y) j := by
  have e := held_at m c 6 (by omega) ⟨t.val - 1, by omega⟩ (by show (t.val - 1) % 8 = 6; omega) y j
  rw [found_row t y (by omega)] at e
  rw [← sum_parts, sum_range_succ, ← e, ← h, ← part_mod, ← part_b m c t y j (by omega), add_comm]
  unfold k0_pay7
  pointwise

/-! ### What the last point of a block writes, 256 rows at a time -/

section
variable (p x e : FVec Ideal S256x1024 .f32) (g a : FVec Ideal S1x1024 .f32) (r : Fin 256) (j : Fin 1024)

/-- The gradient of 256 rows of the input, from the rows of the product, of the input and of the residual stream's cotangent. -/
def through : FVec Ideal S256x1024 .f32 := k0_pay12 (k0_pay8 x) (k0_pay9 x) e (k0_pay11 p g)

theorem scale_at : k0_pay8 (F := Ideal) x (ix2 r 0) = scale fun j => x (ix2 r j) := by
  unfold scale meanSq width small k0_pay8
  pointwise

theorem normed_at : k0_pay9 (F := Ideal) x (ix2 r j) = normed (fun j => x (ix2 r j)) j := by
  rw [normed, ← scale_at]
  unfold k0_pay9
  pointwise

theorem through_at : through p x e g (ix2 r j) = e (ix2 r j) + back (fun j => x (ix2 r j)) (fun j => p (ix2 r j) * g (ix2 0 j)) j := by
  unfold through back width
  simp only [← normed_at, ← scale_at]
  unfold k0_pay12 k0_pay11
  pointwise

/-- The gain's sum after 256 more rows. -/
theorem gain_at : k0_pay10 (F := Ideal) p x a (ix2 0 j) = a (ix2 0 j) + ∑ r : Fin 256, p (ix2 r j) * normed (fun j => x (ix2 r j)) j := by
  simp only [← normed_at]
  unfold k0_pay10
  pointwise
end

section
variable (off : ℕ) (inb : ∀ a, (![off, 0] : Fin 2 → ℕ) a + (![256, 1024] : Fin 2 → ℕ) a ≤ S1024x1024.size a)

/-- 256 rows of a block, from row `off` on. -/
abbrev rows (v : FVec Ideal S1024x1024 .f32) : FVec Ideal S256x1024 .f32 :=
  View.ld (Val := Elt Ideal) (e' := .f32) v (Rect.unit (s := S1024x1024) ![off, 0] ![256, 1024] inb)

theorem rows_at (v : FVec Ideal S1024x1024 .f32) (r : Fin 256) (y j : Fin 1024) (hy : y.val = off + r.val) : rows off inb v (ix2 r j) = v (ix2 y j) := by
  unfold rows
  refine congrArg v (funext fun a => Fin.ext ?_)
  match a with
  | 0 => show off + 1 * r.val = y.val; omega
  | 1 => show 0 + 1 * j.val = j.val; omega

variable (t : Fin cfg0.N) (h : t.val % 8 = 7)

/-- The block of the product that the last point multiplies out. -/
abbrev product : FVec Ideal S1024x1024 .f32 := k0_pay7 (iblk m c 4 t) (iblk m c 5 t) (found m c t)

include h
theorem through_rows (r : Fin 256) (y j : Fin 1024) (hy : y.val = off + r.val) :
    through (rows off inb (product m c t)) (rows off inb (iblk m c 6 t)) (rows off inb (iblk m c 7 t)) (iblk m c 8 t) (ix2 r j)
      = argE m c (ix2 (row t y) j)
        + back (input (argX m c) (row t y)) (fun j => dIn (argW m c) (argV m c) (argD m c) (argU m c) (row t y) j * argG m c (ix2 0 j)) j := by
  rw [through_at]
  refine congrArg₂ (· + ·) ((rows_at off inb _ r y j hy).trans (block_e m c t y j)) (congrArg₂ (fun a b => back a b j)
    (funext fun k => (rows_at off inb _ r y k hy).trans (block_x m c t y k)) (funext fun k => congrArg₂ (· * ·) ?_ (block_g m c t k)))
  exact (rows_at off inb _ r y k hy).trans (product_at m c t h y k)

/-- What row `y` adds to the gain's gradient. -/
abbrev term (r : Fin 8192) (j : Fin 1024) : EReal := dIn (argW m c) (argV m c) (argD m c) (argU m c) r j * normed (input (argX m c) r) j

theorem gain_rows (k : Fin 4) (ho : off = k.val * 256) (a : FVec Ideal S1x1024 .f32) (j : Fin 1024) :
    k0_pay10 (F := Ideal) (rows off inb (product m c t)) (rows off inb (iblk m c 6 t)) a (ix2 0 j)
      = a (ix2 0 j) + ∑ r : Fin 256, term m c (row t ⟨k.val * 256 + r.val, by omega⟩) j := by
  rw [gain_at]
  refine congrArg _ (sum_congr rfl fun r _ => ?_)
  have hy : k.val * 256 + r.val = off + r.val := by rw [ho]
  exact congrArg₂ (· * ·) ((rows_at off inb _ r ⟨k.val * 256 + r.val, by omega⟩ j hy).trans (product_at m c t h _ j))
    (congrArg (fun a => normed a j) (funext fun n => (rows_at off inb _ r ⟨k.val * 256 + r.val, by omega⟩ n hy).trans (block_x m c t _ n)))
end

section
variable (t : Fin cfg0.N) (j : Fin 1024) (h : t.val % 8 = 7)
include h

theorem left_x (y : Fin 1024) : (outsAt0 m c t.val t.isLt).1 (ix2 y j) = argE m c (ix2 (row t y) j)
    + back (input (argX m c) (row t y)) (fun j => dIn (argW m c) (argV m c) (argD m c) (argU m c) (row t y) j * argG m c (ix2 0 j)) j := by
  rw [outsAt0_E m c t (by omega) (by omega) (by omega) (by omega) (by omega) h]
  frame_out
  simp only [read_unread_whole]
  simp (disch := decide) only [View.readCov_fill]
  canon_tiles x h
  all_goals
    idx_vars x
    obtain rfl : j = x1 := Fin.ext h1
  · exact through_rows m c 768 _ t h x0 y j h0
  · exact through_rows m c 512 _ t h x0 y j h0
  · exact through_rows m c 256 _ t h x0 y j h0
  · exact through_rows m c 0 _ t h x0 y j (h0.trans (Nat.zero_add _).symm)

theorem left_g : (outsAt0 m c t.val t.isLt).2.1 (ix2 0 j) = (outsAt0 m c (t.val - 1) (by omega)).2.1 (ix2 0 j)
    + ∑ y : Fin 1024, term m c (row t y) j := by
  rw [← Fin.sum_mul_add_fin 4 256 (fun y : Fin 1024 => term m c (row t y) j) rfl, Fin.sum_univ_four]
  rw [outsAt0_E m c t (by omega) (by omega) (by omega) (by omega) (by omega) h]
  frame_out
  simp only [read_unread_whole]
  simp (disch := decide) only [View.readCov_fill]
  refine (gain_rows m c 768 _ t h 3 rfl _ j).trans ?_
  rw [← add_assoc, ← add_assoc, ← add_assoc]
  refine congrArg (· + _) ((gain_rows m c 512 _ t h 2 rfl _ j).trans (congrArg (· + _) ((gain_rows m c 256 _ t h 1 rfl _ j).trans (congrArg (· + _) ?_))))
  exact gain_rows m c 0 _ t h 0 rfl _ j
end

section
variable (t : Fin cfg0.N) (j : Fin 1024)

/-! The other points leave the gain's sum as it was, and the first of all sets it to zero. -/

theorem zero_g (h : t.val % 64 = 0) : (outsAt0 m c t.val t.isLt).2.1 (ix2 0 j) = 0 := by
  rw [outsAt0_A m c t h (by omega) (by omega) (by omega) (by omega) (by omega)]
  frame_out
  unfold k0_pay1
  pointwise

theorem hold_g (h : ¬t.val % 64 = 0) (h7 : ¬t.val % 8 = 7) :
    (outsAt0 m c t.val t.isLt).2.1 (ix2 0 j) = (outsAt0 m c (t.val - 1) (by omega)).2.1 (ix2 0 j) := by
  rcases (by omega : t.val % 8 = 0 ∨ (t.val % 8 ≠ 0 ∧ t.val % 8 < 3) ∨ (3 ≤ t.val % 8 ∧ t.val % 8 < 5) ∨ (5 ≤ t.val % 8 ∧ t.val % 8 < 7)) with h' | h' | h' | h'
  · rw [outsAt0_F m c t h h' (by omega) (by omega) (by omega) (by omega)]
    rfl
  · rw [outsAt0_B m c t h (by omega) (by omega) (by omega) (by omega) (by omega)]
    rfl
  · rw [outsAt0_C m c t h (by omega) (by omega) (by omega) (by omega) (by omega)]
    rfl
  · rw [outsAt0_D m c t h (by omega) (by omega) (by omega) (by omega) (by omega)]
    rfl
end

/-- The gain's sum over all rows. -/
theorem total_g (t : Fin cfg0.N) (ht : t.val + 1 = 64) (j : Fin 1024) : (outsAt0 m c t.val t.isLt).2.1 (ix2 0 j) = ∑ r : Fin 8192, term m c r j :=
  Total.rows_last (p := 8) (J := 8) (R := 8192) (n := 1024) (by decide) (fun k h n => (outsAt0 m c k h).2.1 (ix2 0 n))
    (fun r n => term m c r n) rfl N_0 (by decide)
    (fun t h n => zero_g m c t n (by omega)) (fun t h h2 n => hold_g m c t n (by have := lt_of_lt_of_eq t.isLt N_0; omega) (by omega))
    (fun t h n => left_g m c t n h) t (ht.trans N_0.symm) j

/-! ### The arrays -/

open Cert.PreReferenceIdeal.Read in
theorem array_x (hx : ∀ a, IsReal (argX m c a)) (hg : ∀ a, IsReal (argG m c a)) (hw : ∀ a, IsReal (argW m c a)) (hv : ∀ a, IsReal (argV m c a))
    (hd : ∀ a, IsReal (argD m c a)) (hu : ∀ a, IsReal (argU m c a)) : (dats m 0 c).arrAt 9 cfg0.N
      = val_main_v39 (F := Ideal) (argX m c) (argG m c) (argW m c) (argV m c) (argD m c) (argU m c) (argE m c) := by
  refine (dats m 0 c).arrAt_eq_of_covers 9 _ (by decide +kernel) fun t hf y => ?_
  have ht : t.val % 8 = 7 := (by decide +kernel : ∀ t : Fin grid0.N, win0_9.flush t = true → t.val % 8 = 7) t hf
  blk_simp
  rw [after0_9]
  idx_vars y
  refine (left_x m c t y1 ht y0).trans ?_
  rw [← v39_at _ _ _ _ _ _ _ _ _ hx hg hw hv hd hu]
  unfold row
  blk_ext [block_index]

open Cert.PreReferenceIdeal.Read in
theorem array_g : (dats m 0 c).arrAt 10 cfg0.N = val_main_v22 (F := Ideal) (argX m c) (argW m c) (argV m c) (argD m c) (argU m c) := by
  refine (dats m 0 c).arrAt_eq_of_covers 10 _ (by decide +kernel) fun t hf y => ?_
  have ht : t.val + 1 = 64 := (by decide +kernel : ∀ t : Fin grid0.N, win0_10.flush t = true → t.val + 1 = 64) t hf
  blk_simp
  rw [after0_10]
  idx_vars y
  obtain rfl : y0 = 0 := by omega
  refine (total_g m c t ht y1).trans ?_
  unfold term
  rw [← v22_at]
  blk_ext [block_index]

/-- The run, with the two results as the launch's arrays give them. -/
theorem kernel_results (ρ : Dev nD → PrngReg) :
    θ_run defs (onTc (τ := τ) (main (F := Ideal))) ⟨m, fun _ => 0, ρ⟩ (fun r => ∀ c : Dev nD,
      r.2.mem ((c.tc : Thread nD τ).loc main_v80_0) = (dats m 0 c).arrAt 9 cfg0.N
      ∧ r.2.mem ((c.tc : Thread nD τ).loc main_v80_1) = (dats m 0 c).arrAt 10 cfg0.N) :=
  (θ_run defs _ _).mono (fun _ h c => ⟨(h c).1 9, (h c).1 10⟩) (run_main m ρ)

end Cert.Pre

end
-- ==== Proof.Pre.Claim.lean ====
/-
  The claim of the gradient through the block's first norm: where the arguments are finite, the kernel's gradients are
  the reference's.
-/
module

public import proofs.«01_k».proof.Defs
public import proofs.«01_k».proof.Proof.Pre.Kernel
public import proofs.«01_k».proof.Proof.Gen.PreKernel.Frame
public import proofs.«01_k».proof.Proof.Gen.PreReferenceIdeal.Run
public import Idealize.ShloMosaic.Lib.Claim
public import Idealize.ShloMosaic.Lib.Quiescent

@[expose] public section

set_option maxRecDepth 16384

noncomputable section

namespace Cert.Pre

open Cert.PreKernelIdeal Cert.PreKernelIdeal.Gen Cert.Reals
open Idealize.ShloMosaic Idealize.ShloMosaic.TcCoe Idealize.ShloMosaic.Tactic Idealize.SL.Sem Finset

/-- The facts about shapes that the precondition takes. -/
theorem precondition_facts : Cert.Pre_finite_pre.Facts := by
  constructor <;> decide +kernel

/-- What the precondition gives of the arguments: they are real numbers. -/
theorem decode [Cert.Pre_finite_pre.Facts] {x : FVec Ideal S8192x1024 .f32} {g : FVec Ideal S1x1024 .f32} {w : FVec Ideal S1024x4352 .f32} {v : FVec Ideal S1024x3072 .f32} {d : FVec Ideal S8192x4352 .f32} {u : FVec Ideal S8192x3072 .f32} {e : FVec Ideal S8192x1024 .f32}
    (h : Cert.Pre_finite_pre.fn (F := Ideal) x g w v d u e = fun _ => 1#1) :
    (∀ i, IsReal (x i)) ∧ (∀ i, IsReal (g i)) ∧ (∀ i, IsReal (w i)) ∧ (∀ i, IsReal (v i)) ∧ (∀ i, IsReal (d i)) ∧ (∀ i, IsReal (u i)) ∧ ∀ i, IsReal (e i) := by
  dsimp only [Cert.Pre_finite_pre.fn] at h
  obtain ⟨h, h7⟩ := and_bits h
  obtain ⟨h, h6⟩ := and_bits h
  obtain ⟨h, h5⟩ := and_bits h
  obtain ⟨h, h4⟩ := and_bits h
  obtain ⟨h, h3⟩ := and_bits h
  obtain ⟨h1, h2⟩ := and_bits h
  refine ⟨fun i => ?_, fun i => ?_, fun i => ?_, fun i => ?_, fun i => ?_, fun i => ?_, fun i => ?_⟩
  · exact real_of_abs _ (Host.reduce_andi_all _ _ _ _ _ (congrFun h1 (Shape.Idx.first Cert.Pre_finite_pre.Facts.h_S_)) i)
  · exact real_of_abs _ (Host.reduce_andi_all _ _ _ _ _ (congrFun h2 (Shape.Idx.first Cert.Pre_finite_pre.Facts.h_S_)) i)
  · exact real_of_abs _ (Host.reduce_andi_all _ _ _ _ _ (congrFun h3 (Shape.Idx.first Cert.Pre_finite_pre.Facts.h_S_)) i)
  · exact real_of_abs _ (Host.reduce_andi_all _ _ _ _ _ (congrFun h4 (Shape.Idx.first Cert.Pre_finite_pre.Facts.h_S_)) i)
  · exact real_of_abs _ (Host.reduce_andi_all _ _ _ _ _ (congrFun h5 (Shape.Idx.first Cert.Pre_finite_pre.Facts.h_S_)) i)
  · exact real_of_abs _ (Host.reduce_andi_all _ _ _ _ _ (congrFun h6 (Shape.Idx.first Cert.Pre_finite_pre.Facts.h_S_)) i)
  · exact real_of_abs _ (Host.reduce_andi_all _ _ _ _ _ (congrFun h7 (Shape.Idx.first Cert.Pre_finite_pre.Facts.h_S_)) i)

/-- THE CLAIM: both programs run, and their two results agree. -/
theorem algebraic [Cert.Pre_finite_pre.Facts] : algebraic_PreKernelIdeal_PreReferenceIdeal_pre_finite_pre := by
  intro m ρ m' ρ' hpre hagree
  refine ⟨fun c => (dats m 0 c).arrAt 9 cfg0.N, fun c => (dats m 0 c).arrAt 10 cfg0.N,
    (θ_run defs _ _).mono (fun r h c => ⟨(h.2 c).1, (h.2 c).2, h.1 c⟩)
      (θ_run_and (unchanged (F := Ideal) m ρ) (kernel_results m ρ)), ?_⟩
  refine (θ_run Cert.PreReferenceIdeal.defs _ _).mono (fun _ h c => ?_) (Cert.PreReferenceIdeal.Value.run (F := Ideal) m' ρ')
  obtain ⟨h0, h1, h2, h3, h4, h5, h6⟩ := hagree c
  obtain ⟨hx, hg, hw, hv, hd, hu, -⟩ := decode (hpre c)
  obtain ⟨rx, rg, rest⟩ := h c
  refine ⟨rx.trans (Eq.trans ?_ (array_x m c hx hg hw hv hd hu).symm), rg.trans (Eq.trans ?_ (array_g m c).symm), rest⟩
  · rw [argX, argG, argW, argV, argD, argU, argE, ← h0, ← h1, ← h2, ← h3, ← h4, ← h5, ← h6]
    exact Cert.PreReferenceIdeal.Read.val_main_v39_eq m' c
  · rw [argX, argW, argV, argD, argU, ← h0, ← h2, ← h3, ← h4, ← h5]
    exact Cert.PreReferenceIdeal.Read.val_main_v22_eq _ _ _ _ _

/-- The kernel runs and leaves its arguments and its counters as they were, -/
theorem quiescent_words : quiescent_PreKernel (hPreKernel := Cert.PreKernel.Gen.facts) := fun m ρ _ => Cert.PreKernel.Gen.frame m ρ

theorem quiescent_ideal : quiescent_PreKernelIdeal := fun m ρ _ => frame m ρ

/-- and so does the reference. -/
theorem quiescent_reference : quiescent_PreReferenceIdeal := fun m ρ _ =>
  (θ_run Cert.PreReferenceIdeal.defs _ _).mono (fun r h => ⟨fun c => (h c).2.2, sem_eq_zero_of_no_sems (by decide) r.2⟩)
    (Cert.PreReferenceIdeal.Value.run (F := Ideal) m ρ)

theorem quiescent_kernel_pre [Cert.Pre_finite_pre.Facts] : quiescent_PreKernelIdeal_pre_finite_pre :=
  fun m ρ _ => quiescent_ideal m ρ trivial

theorem quiescent_reference_pre [Cert.Pre_finite_pre.Facts] : quiescent_PreReferenceIdeal_pre_finite_pre :=
  fun m ρ _ => quiescent_reference m ρ trivial

end Cert.Pre

end
-- ==== Proof.Sbf.Model.lean ====
/-
  What one program of the stick-breaking attention's grid computes, as a function of its block of queries, keys and
  values: the tiles of a block of queries one after another, and the rows of the output. No memory and no loops here.
-/
module

public import proofs.«01_k».proof.Proof.Sb.Model
public import proofs.«01_k».proof.Proof.Gen.SbfKernelIdeal.Skeleton
public import Idealize.ShloMosaic.Lib.Pointwise

@[expose] public section

set_option maxRecDepth 16384

noncomputable section

namespace Cert.Sbf

open Idealize.ShloMosaic Idealize.ShloMosaic.TcCoe Idealize.ShloMosaic.VecWindow
open Cert.SbfKernelIdeal Cert.SbfKernelIdeal.Gen
open Cert.Sb (inb_k inb_v inb_q inb_o kTile vTile before)

variable {F : FTy → Type} [FloatOps F]

/-- What is carried from tile to tile of a block of queries: per row the sum of the softplus of the later tiles, and the
    weighted sum of the values so far. -/
structure St (F : FTy → Type) [FloatOps F] where
  later : FVec F S512x1 .f32
  acc : Vec F S512x128 .f32

/-- Block `i` of the queries, scaled, once with each head's columns. -/
def qs (X : Vec F S1x2048x384 .bf16) (i : Fin 8) : FVec F S512x128 .bf16 := k0_pay18 k0_pay1 (window X ![0, 256 * i.val, 0] S1x256x128.size (inb_q i))

/-- One tile wholly below the diagonal. -/
def tileU (X : Vec F S1x2048x384 .bf16) (a : FVec F S512x128 .bf16) (j : Fin 8) (s : St F) : St F where
  later := k0_pay28 s.later (k0_pay13 a (kTile X j))
  acc := k0_pay12 k0_pay3 a s.later (kTile X j) (vTile X j) s.acc

/-- The tile on the diagonal, the first of a block of queries: nothing is later, and the sum starts here. -/
def tileM (X : Vec F S1x2048x384 .bf16) (a : FVec F S512x128 .bf16) (j : Fin 8) : St F where
  later := k0_pay9 k0_pay2 a k0_pay19 (kTile X j)
  acc := k0_pay8 k0_pay2 k0_pay3 a k0_pay19 (kTile X j) (vTile X j)

/-- Block `i` of the queries after the diagonal tile and the `n` tiles before it, going back. -/
def seq (X : Vec F S1x2048x384 .bf16) (i : Fin 8) : ℕ → St F
  | 0 => tileM X (qs X i) i
  | n + 1 => tileU X (qs X i) (before i n) (seq X i n)

/-- Block `i` of the queries, all its tiles: the output's rows, each head's columns from that head's copy. -/
def rows (X : Vec F S1x2048x384 .bf16) (i : Fin 8) : FVec F S256x128 .f32 := k0_pay39 k0_pay1 (seq X i i.val).acc

/-- An output after the first `n` blocks of queries, a block's rows written as `f` of them. -/
def outN {e : EltTy} (f : FVec F S256x128 .f32 → Vec F S1x256x128 e) (X : Vec F S1x2048x384 .bf16) (W : Vec F S1x2048x128 e) : ℕ → Vec F S1x2048x128 e
  | 0 => W
  | n + 1 => if h : n < 8 then put (outN f X W n) ![0, 256 * n, 0] S1x256x128.size (f (rows X ⟨n, h⟩)) else outN f X W n

theorem outN_succ {e : EltTy} (f : FVec F S256x128 .f32 → Vec F S1x256x128 e) (X : Vec F S1x2048x384 .bf16) (W : Vec F S1x2048x128 e) (i : Fin 8) :
    outN f X W (i.val + 1) = put (outN f X W i.val) ![0, 256 * i.val, 0] S1x256x128.size (f (rows X i)) := by
  rw [outN, dif_pos i.isLt]

/-- An element of a row of the first `n` blocks: that of its block of queries. -/
theorem outN_at {e : EltTy} (f : FVec F S256x128 .f32 → Vec F S1x256x128 e) (X : Vec F S1x2048x384 .bf16) (W : Vec F S1x2048x128 e)
    (n : ℕ) (hn : n ≤ 8) (y : S1x2048x128.Idx) (hy : (y 1).val < 256 * n) :
    outN f X W n y = f (rows X ⟨(y 1).val / 256, by have : (y 1).val < 2048 := (y 1).isLt; omega⟩)
      (ix3 0 ⟨(y 1).val % 256, Nat.mod_lt _ (by omega)⟩ (y 2)) := by
  induction n with
  | zero => omega
  | succ n ih =>
    have h0 : (y 0).val < 1 := (y 0).isLt
    have h2 : (y 2).val < 128 := (y 2).isLt
    rw [show outN f X W (n + 1) = _ from outN_succ f X W ⟨n, by omega⟩]
    unfold put
    by_cases h : 256 * n ≤ (y 1).val
    · rw [dif_pos fun a => by
        match a with
        | ⟨0, _⟩ => exact ⟨Nat.zero_le _, by show (y 0).val < 0 + 1; omega⟩
        | ⟨1, _⟩ => exact ⟨h, by show (y 1).val < 256 * n + 256; omega⟩
        | ⟨2, _⟩ => exact ⟨Nat.zero_le _, by show (y 2).val < 0 + 128; omega⟩]
      have e1 : (y 1).val / 256 = n := by omega
      refine congrArg₂ (fun b z => f (rows X b) z) (Fin.ext e1.symm) ?_
      funext a; apply Fin.ext
      match a with
      | ⟨0, _⟩ => show (y 0).val - 0 = 0; omega
      | ⟨1, _⟩ => show (y 1).val - 256 * n = (y 1).val % 256; omega
      | ⟨2, _⟩ => rfl
    · rw [dif_neg fun H => h (H 1).1]
      exact ih (by omega) (by omega)

/-- An output: what its buffer held before does not matter. -/
def out {e : EltTy} (f : FVec F S256x128 .f32 → Vec F S1x256x128 e) (X : Vec F S1x2048x384 .bf16) : Vec F S1x2048x128 e := fun y =>
  f (rows X ⟨(y 1).val / 256, by have : (y 1).val < 2048 := (y 1).isLt; omega⟩) (ix3 0 ⟨(y 1).val % 256, Nat.mod_lt _ (by omega)⟩ (y 2))

theorem outN_eq {e : EltTy} (f : FVec F S256x128 .f32 → Vec F S1x256x128 e) (X : Vec F S1x2048x384 .bf16) (W : Vec F S1x2048x128 e) (n : ℕ) (hn : n = 8) :
    outN f X W n = out f X :=
  funext fun y => outN_at f X W n (by omega) y (by have : (y 1).val < 2048 := (y 1).isLt; omega)

end Cert.Sbf

end
-- ==== Proof.Sbf.Closed.lean ====
/-
  Where the tiles of the stick-breaking attention lie, in closed form, and which of its branches are taken.
-/
module

public import proofs.«01_k».proof.Proof.Gen.SbfKernelIdeal.Skeleton
public import Idealize.ShloMosaic.Lib.Exec

@[expose] public section

set_option maxRecDepth 16384

namespace Cert.Sbf

open Idealize.ShloMosaic Idealize.ShloMosaic.TcCoe
open Cert.SbfKernelIdeal Cert.SbfKernelIdeal.Gen

theorem trips1 : k0_t1_loop.trips = 8 := by decide +kernel
/-- A trip of the loop over blocks of queries, as a block's number. -/
abbrev blk (t : Fin k0_t1_loop.trips) : Fin 8 := ⟨t.val, trips1 ▸ t.isLt⟩

theorem trips2 : ∀ t : Fin k0_t1_loop.trips, (k0_t2_loop t).trips = (t.val - 1) / 2 := by decide +kernel
theorem trips3 : ∀ t : Fin k0_t1_loop.trips, (k0_t3_loop t).trips = 0 := by decide +kernel
theorem cond1_iff : ∀ t : Fin k0_t1_loop.trips, k0_cond1 t = 1#1 ↔ 0 < t.val := by decide +kernel
theorem cond2_iff : ∀ t : Fin k0_t1_loop.trips, k0_cond2 t = 1#1 ↔ 0 < t.val ∧ t.val % 2 = 0 := by decide +kernel

theorem off4_eq : ∀ t : Fin k0_t1_loop.trips, 0 < t.val → k0_off4 t = ![0, 256 * (t.val - (0 + 1)), 128] := by decide +kernel
theorem off5_eq : ∀ t : Fin k0_t1_loop.trips, 0 < t.val → k0_off5 t = ![0, 256 * (t.val - (0 + 1)), 256] := by decide +kernel
theorem off8_eq : ∀ (t : Fin k0_t1_loop.trips) (u : Fin (k0_t2_loop t).trips) (r : Fin 2),
    k0_off8 t u (BitVec.ofNat 32 (1 + r.val)) = ![0, 256 * (t.val - (1 + 2 * u.val + r.val + 1)), 128] := by decide +kernel
theorem off9_eq : ∀ (t : Fin k0_t1_loop.trips) (u : Fin (k0_t2_loop t).trips) (r : Fin 2),
    k0_off9 t u (BitVec.ofNat 32 (1 + r.val)) = ![0, 256 * (t.val - (1 + 2 * u.val + r.val + 1)), 256] := by decide +kernel

end Cert.Sbf
-- ==== Proof.Sbf.Loop2.lean ====
/-
  The loop over pairs of tiles of the stick-breaking attention: one trip does the next two tiles before it.
-/
module

public import proofs.«01_k».proof.Proof.Sbf.Model
public import proofs.«01_k».proof.Proof.Sbf.Closed
public import proofs.«01_k».proof.Proof.Gen.SbfKernelIdeal.Frame
public import Idealize.ShloMosaic.Lib.Tactic

@[expose] public section

set_option maxRecDepth 16384

noncomputable section

namespace Cert.Sbf

open Cert.SbfKernelIdeal Cert.SbfKernelIdeal.Gen
open Cert.Sb (inb_k inb_v inb_q inb_o kTile vTile before)
open Idealize.ShloMosaic
open Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Reads

theorem kRead (m : Memref sig .tc .vmem S1x2048x384 .bf16) {f : m.view.ty.Contents (Elt F)} {X : Vec F S1x2048x384 .bf16} (hf : m.view.read (Elt F) f = X)
    (j : Fin 8) {off : Fin 3 → ℕ} (h : off = ![0, 256 * j.val, 128]) (inb : ∀ a, off a + S1x256x128.size a ≤ S1x2048x384.size a) :
    m.view.readAt (Elt F) (Rect.unit (s := S1x2048x384) off S1x256x128.size inb).toLoadRect f = kTile X j := by
  subst hf; exact View.readAt_unit _ _ _ h (inb_k j)

theorem vRead (m : Memref sig .tc .vmem S1x2048x384 .bf16) {f : m.view.ty.Contents (Elt F)} {X : Vec F S1x2048x384 .bf16} (hf : m.view.read (Elt F) f = X)
    (j : Fin 8) {off : Fin 3 → ℕ} (h : off = ![0, 256 * j.val, 256]) (inb : ∀ a, off a + S1x256x128.size a ≤ S1x2048x384.size a) :
    m.view.readAt (Elt F) (Rect.unit (s := S1x2048x384) off S1x256x128.size inb).toLoadRect f = vTile X j := by
  subst hf; exact View.readAt_unit _ _ _ h (inb_v j)

theorem accCov (m : Memref sig .tc .vmem S512x128 .f32) (inb inb' : ∀ a, (![0, 0] : Fin 2 → ℕ) a + S512x128.size a ≤ S512x128.size a)
    (w : Vec F S512x128 .f32) (L : List (View.Piece (Elt F) S512x128 .f32)) :
    m.view.readCov (Val := Elt F) (⟨Rect.unit (s := S512x128) ![0, 0] S512x128.size inb', w⟩ :: L) (Rect.unit (s := S512x128) ![0, 0] S512x128.size inb).toLoadRect = w :=
  View.readCov_full m.view inb inb' w L

theorem accPut (m : Memref sig .tc .vmem S512x128 .f32) (f : m.view.ty.Contents (Elt F)) (inb : ∀ a, (![0, 0] : Fin 2 → ℕ) a + S512x128.size a ≤ S512x128.size a)
    (w : Vec F S512x128 .f32) (L : List (View.Piece (Elt F) S512x128 .f32)) :
    m.view.read (Elt F) (m.view.writes (Elt F) f (⟨Rect.unit (s := S512x128) ![0, 0] S512x128.size inb, w⟩ :: L)) = w :=
  View.read_writes_full m.view f inb w L

theorem accRead (m : Memref sig .tc .vmem S512x128 .f32) (f : m.view.ty.Contents (Elt F)) (inb : ∀ a, (![0, 0] : Fin 2 → ℕ) a + S512x128.size a ≤ S512x128.size a) :
    m.view.readAt (Elt F) (Rect.unit (s := S512x128) ![0, 0] S512x128.size inb).toLoadRect f = m.view.read (Elt F) f :=
  View.readAt_full m.view f inb

end Reads

section Trip

variable (c : Dev nD) (i : grid0.Coords)
  (arg2 : Memref sig .tc .vmem S1x2048x384 .bf16) (harg2 : arg2.IsWhole) (arg3 : Memref sig .tc .vmem S1x2048x128 .bf16) (harg3 : arg3.IsWhole)
  (arg4 : Memref sig .tc .vmem S1x2048x128 .f32) (harg4 : arg4.IsWhole) (arg5 : Memref sig .tc .vmem S512x128 .f32) (harg5 : arg5.IsWhole)
  (X : Vec F S1x2048x384 .bf16)

/-- Before trip `k` of the loop over pairs of tiles, one tile having been done before the loop besides the diagonal one. -/
def inv2 (st : ℕ → St F) (k : ℕ) (r : FVec F S512x1 .f32) : sProp 𝕄 :=
  iprop(⌜r = (st (1 + 2 * k)).later⌝ ∗ owns (c : Thread nD τ) arg2 fullShare X ∗ owns (c : Thread nD τ) arg5 fullShare (st (1 + 2 * k)).acc)

set_option maxHeartbeats 4000000 in
theorem step2 (t : Fin k0_t1_loop.trips) (v33 : BitVec 32) (u : Fin (k0_t2_loop t).trips) (q : Vec F S1x256x128 .bf16) (st : ℕ → St F)
    (hst : ∀ n, st (n + 1) = tileU X (k0_pay18 k0_pay1 q) (before (blk t) n) (st n)) (r : FVec F S512x1 .f32) :
    inv2 c arg2 arg5 X st u.val r
    ⊢ wp Idealize.ShloMosaic.frame (wpE (defs₀ (F := F)) Variants.none (c : Thread nD τ) none) Set.univ
      (k0_t2_body (F := F) i arg2 harg2 arg3 harg3 arg4 harg4 arg5 harg5 k0_pay1 k0_pay2 k0_pay3 0#32 1#32 t q v33 u r)
      (inv2 c arg2 arg5 X st (u.val + 1)) := by
  have e1 : 1 + 2 * (u.val + 1) = (1 + 2 * u.val) + 1 + 1 := by omega
  unfold inv2 k0_t2_body
  rw [e1, hst, hst]
  generalize st (1 + 2 * u.val) = s
  unfold owns
  iintro ⟨%hr, ⟨%f2, %h2, H2⟩, ⟨%f5, %h5, H5⟩⟩
  subst hr
  have ek0 := fun inb => kRead arg2 h2 (before (blk t) (1 + 2 * u.val)) (off := k0_off8 t u 1#32) (off8_eq t u 0) inb
  have ek1 := fun inb => kRead arg2 h2 (before (blk t) (1 + 2 * u.val + 1)) (off := k0_off8 t u 2#32) (off8_eq t u 1) inb
  have ev0 := fun inb => vRead arg2 h2 (before (blk t) (1 + 2 * u.val)) (off := k0_off9 t u 1#32) (off9_eq t u 0) inb
  have ev1 := fun inb => vRead arg2 h2 (before (blk t) (1 + 2 * u.val + 1)) (off := k0_off9 t u 2#32) (off9_eq t u 1) inb
  simp only [k0_part2_eq_skeleton]
  sl_exec
  sl_step
  isplitr
  · ipureintro
    sl_unfold_run_names
    rfl
  isplitl [H2]
  · iexists _; isplitr
    · ipureintro; exact h2
    iexact H2
  iexists _; isplitr; swap
  · iexact H5
  ipureintro
  sl_unfold_run_names
  rw [accPut, accCov, accRead, h5]
  rfl

end Trip
end Cert.Sbf
end
-- ==== Proof.Sbf.Loop1.lean ====
/-
  The loop over blocks of queries of the stick-breaking attention: one trip writes the output's rows of a block.
-/
module

public import proofs.«01_k».proof.Proof.Sbf.Loop2

@[expose] public section

set_option maxRecDepth 16384

noncomputable section

namespace Cert.Sbf

open Cert.SbfKernelIdeal Cert.SbfKernelIdeal.Gen
open Cert.Sb (inb_k inb_v inb_q inb_o kTile vTile before)
open Idealize.ShloMosaic
open Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Reads

theorem q1Read (m : Memref sig .tc .vmem S1x2048x384 .bf16) {f : m.view.ty.Contents (Elt F)} {X : Vec F S1x2048x384 .bf16} (hf : m.view.read (Elt F) f = X)
    (j : Fin 8) {off : Fin 3 → ℕ} (h : off = ![0, 256 * j.val, 0]) (inb : ∀ a, off a + S1x256x128.size a ≤ S1x2048x384.size a) :
    m.view.readAt (Elt F) (Rect.unit (s := S1x2048x384) off S1x256x128.size inb).toLoadRect f = window X ![0, 256 * j.val, 0] S1x256x128.size (inb_q j) := by
  subst hf; exact View.readAt_unit _ _ _ h (inb_q j)

theorem outPut {e : EltTy} (m : Memref sig .tc .vmem S1x2048x128 e) (f : m.view.ty.Contents (Elt F))
    (j : Fin 8) {off : Fin 3 → ℕ} (h : off = ![0, 256 * j.val, 0]) (inb : ∀ a, off a + S1x256x128.size a ≤ S1x2048x128.size a)
    (w : Vec F S1x256x128 e) (L : List (View.Piece (Elt F) S1x2048x128 e)) :
    m.view.read (Elt F) (m.view.writes (Elt F) f (⟨Rect.unit (s := S1x2048x128) off S1x256x128.size inb, w⟩ :: L))
      = put (m.view.read (Elt F) (m.view.writes (Elt F) f L)) ![0, 256 * j.val, 0] S1x256x128.size w :=
  View.read_writes_cons_put _ _ _ _ _ h

end Reads

section Trip

variable (c : Dev nD) (i : grid0.Coords)
  (arg2 : Memref sig .tc .vmem S1x2048x384 .bf16) (harg2 : arg2.IsWhole) (arg3 : Memref sig .tc .vmem S1x2048x128 .bf16) (harg3 : arg3.IsWhole)
  (arg4 : Memref sig .tc .vmem S1x2048x128 .f32) (harg4 : arg4.IsWhole) (arg5 : Memref sig .tc .vmem S512x128 .f32) (harg5 : arg5.IsWhole)
  (X : Vec F S1x2048x384 .bf16) (W : Vec F S1x2048x128 .bf16) (W' : Vec F S1x2048x128 .f32)

/-- Before block `k` of the queries. -/
def inv1 (k : ℕ) (_ : Unit) : sProp 𝕄 :=
  iprop(owns (c : Thread nD τ) arg2 fullShare X ∗ owns (c : Thread nD τ) arg3 fullShare (outN k0_pay5 X W k)
    ∗ owns (c : Thread nD τ) arg4 fullShare (outN k0_pay4 X W' k) ∗ (∃ d, owns (c : Thread nD τ) arg5 fullShare d))

set_option maxHeartbeats 4000000 in
theorem step1_zero (t : Fin k0_t1_loop.trips) (ht : t.val = 0) (r : Unit) :
    inv1 c arg2 arg3 arg4 arg5 X W W' t.val r
    ⊢ wp Idealize.ShloMosaic.frame (wpE (defs₀ (F := F)) Variants.none (c : Thread nD τ) none) Set.univ
      (k0_t1_body (F := F) i arg2 harg2 arg3 harg3 arg4 harg4 arg5 harg5 t r)
      (inv1 c arg2 arg3 arg4 arg5 X W W' (t.val + 1)) := by
  have htr2 : (k0_t2_loop t).trips = 0 := by rw [trips2]; omega
  have htr3 : (k0_t3_loop t).trips = 0 := trips3 t
  have hc1 : ¬ k0_cond1 t = 1#1 := fun h => by have := (cond1_iff t).1 h; omega
  have hc2 : ¬ k0_cond2 t = 1#1 := fun h => by have := (cond2_iff t).1 h; omega
  unfold inv1 k0_t1_body
  unfold owns
  iintro ⟨⟨%f2, %h2, H2⟩, ⟨%f3, %h3, H3⟩, ⟨%f4, %h4, H4⟩, ⟨%d5, %f5, %h5, H5⟩⟩
  have eq1 := fun inb => q1Read arg2 h2 (blk t) (off := k0_off1 t) (k0_off1_eq t) inb
  have ek := fun inb => kRead arg2 h2 (blk t) (off := k0_off6 t) (k0_off6_eq t) inb
  have ev := fun inb => vRead arg2 h2 (blk t) (off := k0_off7 t) (k0_off7_eq t) inb
  simp only [k0_part4_eq_skeleton]
  sl_exec (disch := first | sl_exact hc1 | sl_exact hc2)
  sl_step
  rw [show outN k0_pay5 X W (t.val + 1) = _ from outN_succ k0_pay5 X W (blk t), show outN k0_pay4 X W' (t.val + 1) = _ from outN_succ k0_pay4 X W' (blk t)]
  have hf : rows X (blk t) = k0_pay39 k0_pay1 (tileM X (qs X (blk t)) (blk t)).acc := by
    unfold rows; rw [show (blk t).val = 0 from ht]; rfl
  rw [hf]
  isplitl [H2]
  · iexists _; isplitr; swap
    · iexact H2
    ipureintro; exact h2
  isplitl [H3]
  · iexists _; isplitr; swap
    · iexact H3
    ipureintro
    sl_unfold_run_names
    rw [outPut arg3 f3 (blk t) (k0_off12_eq t), View.writes_nil, h3, accCov]
    rfl
  isplitl [H4]
  · iexists _; isplitr; swap
    · iexact H4
    ipureintro
    sl_unfold_run_names
    rw [outPut arg4 f4 (blk t) (k0_off12_eq t), View.writes_nil, h4, accCov]
    rfl
  iexists _; iexists _; isplitr; swap
  · iexact H5
  ipureintro; rfl

set_option maxHeartbeats 4000000 in
theorem step1_pos (t : Fin k0_t1_loop.trips) (ht : 0 < t.val) (r : Unit) :
    inv1 c arg2 arg3 arg4 arg5 X W W' t.val r
    ⊢ wp Idealize.ShloMosaic.frame (wpE (defs₀ (F := F)) Variants.none (c : Thread nD τ) none) Set.univ
      (k0_t1_body (F := F) i arg2 harg2 arg3 harg3 arg4 harg4 arg5 harg5 t r)
      (inv1 c arg2 arg3 arg4 arg5 X W W' (t.val + 1)) := by
  have htr3 : (k0_t3_loop t).trips = 0 := trips3 t
  have hc1 : k0_cond1 t = 1#1 := (cond1_iff t).2 ht
  unfold inv1 k0_t1_body
  unfold owns
  iintro ⟨⟨%f2, %h2, H2⟩, ⟨%f3, %h3, H3⟩, ⟨%f4, %h4, H4⟩, ⟨%d5, %f5, %h5, H5⟩⟩
  have eq1 := fun inb => q1Read arg2 h2 (blk t) (off := k0_off1 t) (k0_off1_eq t) inb
  have ek := fun inb => kRead arg2 h2 (blk t) (off := k0_off2 t) (k0_off2_eq t) inb
  have ev := fun inb => vRead arg2 h2 (blk t) (off := k0_off3 t) (k0_off3_eq t) inb
  have ek0 := fun inb => kRead arg2 h2 (before (blk t) 0) (off := k0_off4 t) (off4_eq t ht) inb
  have ev0 := fun inb => vRead arg2 h2 (before (blk t) 0) (off := k0_off5 t) (off5_eq t ht) inb
  simp only [k0_part4_eq_skeleton, k0_part1_eq_skeleton]
  sl_exec (disch := first | sl_exact hc1)
  sl_for (inv2 c arg2 arg5 X (seq X (blk t))) $$ [H2 H5]
  · intro u r
    exact step2 c i arg2 harg2 arg3 harg3 arg4 harg4 arg5 harg5 X t _ u _ _ (fun n => rfl) r
  · unfold inv2 owns
    isplitr
    · ipureintro
      sl_unfold_run_names
      rfl
    isplitl [H2]
    · iexists _; isplitr; swap
      · iexact H2
      ipureintro; exact h2
    iexists _; isplitr; swap
    · iexact H5
    ipureintro
    sl_unfold_run_names
    rw [accPut, accCov]
    rfl
  · unfold inv2 owns
    rw [show outN k0_pay5 X W (t.val + 1) = _ from outN_succ k0_pay5 X W (blk t), show outN k0_pay4 X W' (t.val + 1) = _ from outN_succ k0_pay4 X W' (blk t)]
    have hs : rows X (blk t) = k0_pay39 k0_pay1 (seq X (blk t) t.val).acc := rfl
    have hn : ∀ n, seq X (blk t) (n + 1) = tileU X (qs X (blk t)) (before (blk t) n) (seq X (blk t) n) := fun _ => rfl
    generalize seq X (blk t) = st at hs hn ⊢
    by_cases hev : t.val % 2 = 0
    · have hc2 : k0_cond2 t = 1#1 := (cond2_iff t).2 ⟨ht, hev⟩
      have hj : (before (blk t) (t.val - 1)).val = 0 := by simp only [blk]; omega
      rw [show t.val = (1 + 2 * (k0_t2_loop t).trips) + 1 by rw [trips2]; omega, hn, show before (blk t) (1 + 2 * (k0_t2_loop t).trips) = before (blk t) (t.val - 1) by rw [trips2]; congr 1; omega] at hs
      rw [hs]
      generalize st (1 + 2 * (k0_t2_loop t).trips) = s
      iintro %r ⟨%hr, ⟨%f2, %h2, H2⟩, ⟨%f5, %h5, H5⟩⟩
      subst hr
      have ekz := fun inb => kRead arg2 h2 (before (blk t) (t.val - 1)) (off := ![0, 0, 128]) (by rw [hj]) inb
      have evz := fun inb => vRead arg2 h2 (before (blk t) (t.val - 1)) (off := ![0, 0, 256]) (by rw [hj]) inb
      sl_exec (disch := first | sl_exact hc2)
      sl_step
      isplitl [H2]
      · iexists _; isplitr; swap
        · iexact H2
        ipureintro; exact h2
      isplitl [H3]
      · iexists _; isplitr; swap
        · iexact H3
        ipureintro
        sl_unfold_run_names
        rw [outPut arg3 f3 (blk t) (k0_off12_eq t), View.writes_nil, h3]
        rw [accCov, accRead, h5]; rfl
      isplitl [H4]
      · iexists _; isplitr; swap
        · iexact H4
        ipureintro
        sl_unfold_run_names
        rw [outPut arg4 f4 (blk t) (k0_off12_eq t), View.writes_nil, h4]
        rw [accCov, accRead, h5]; rfl
      iexists _; iexists _; isplitr; swap
      · iexact H5
      ipureintro; rfl
    · have hc2 : ¬ k0_cond2 t = 1#1 := fun h => hev ((cond2_iff t).1 h).2
      rw [show t.val = 1 + 2 * (k0_t2_loop t).trips by rw [trips2]; omega] at hs
      rw [hs]
      generalize st (1 + 2 * (k0_t2_loop t).trips) = s
      iintro %r ⟨%hr, ⟨%f2, %h2, H2⟩, ⟨%f5, %h5, H5⟩⟩
      subst hr
      sl_exec (disch := first | sl_exact hc2)
      sl_step
      isplitl [H2]
      · iexists _; isplitr; swap
        · iexact H2
        ipureintro; exact h2
      isplitl [H3]
      · iexists _; isplitr; swap
        · iexact H3
        ipureintro
        sl_unfold_run_names
        rw [outPut arg3 f3 (blk t) (k0_off12_eq t), View.writes_nil, h3]
        rw [accRead, h5]
      isplitl [H4]
      · iexists _; isplitr; swap
        · iexact H4
        ipureintro
        sl_unfold_run_names
        rw [outPut arg4 f4 (blk t) (k0_off12_eq t), View.writes_nil, h4]
        rw [accRead, h5]
      iexists _; iexists _; isplitr; swap
      · iexact H5
      ipureintro; rfl

end Trip
end Cert.Sbf
end
-- ==== Proof.Sbf.Run.lean ====
/-
  The run of the stick-breaking attention: its body at a point of the grid, and the launch.
-/
module

public import proofs.«01_k».proof.Proof.Sbf.Loop1
public import Idealize.ShloMosaic.Lib.Claim

@[expose] public section

set_option maxRecDepth 16384

noncomputable section

namespace Cert.Sbf

open Cert.SbfKernelIdeal Cert.SbfKernelIdeal.Gen
open Idealize.ShloMosaic
open Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

theorem full16 (X : Vec F S1x2048x384 .bf16) (W : Vec F S1x2048x128 .bf16) (n : ℕ) (hn : n = 8) : outN (k0_pay5 (F := F)) X W n = out k0_pay5 X :=
  outN_eq (e := .bf16) (k0_pay5 (F := F)) X W n hn

theorem full32 (X : Vec F S1x2048x384 .bf16) (W : Vec F S1x2048x128 .f32) (n : ℕ) (hn : n = 8) : outN (k0_pay4 (F := F)) X W n = out k0_pay4 X :=
  outN_eq (e := .f32) (k0_pay4 (F := F)) X W n hn

section Trip

variable (c : Dev nD) (i : grid0.Coords)
  (arg2 : Memref sig .tc .vmem S1x2048x384 .bf16) (harg2 : arg2.IsWhole) (arg3 : Memref sig .tc .vmem S1x2048x128 .bf16) (harg3 : arg3.IsWhole)
  (arg4 : Memref sig .tc .vmem S1x2048x128 .f32) (harg4 : arg4.IsWhole) (arg5 : Memref sig .tc .vmem S512x128 .f32) (harg5 : arg5.IsWhole)
  (X : Vec F S1x2048x384 .bf16) (W : Vec F S1x2048x128 .bf16) (W' : Vec F S1x2048x128 .f32)

/-- One trip of the loop over blocks of queries. -/
theorem step1 (t : Fin k0_t1_loop.trips) (r : Unit) :
    inv1 c arg2 arg3 arg4 arg5 X W W' t.val r
    ⊢ wp Idealize.ShloMosaic.frame (wpE (defs₀ (F := F)) Variants.none (c : Thread nD τ) none) Set.univ
      (k0_t1_body (F := F) i arg2 harg2 arg3 harg3 arg4 harg4 arg5 harg5 t r)
      (inv1 c arg2 arg3 arg4 arg5 X W W' (t.val + 1)) := by
  rcases Nat.eq_zero_or_pos t.val with h | h
  · exact step1_zero c i arg2 harg2 arg3 harg3 arg4 harg4 arg5 harg5 X W W' t h r
  · exact step1_pos c i arg2 harg2 arg3 harg3 arg4 harg4 arg5 harg5 X W W' t h r

set_option maxHeartbeats 400000 in
/-- The body: from its block it leaves the two outputs. -/
theorem sound_kernel (K : PUnit → sProp 𝕄) :
    iprop(owns (c : Thread nD τ) arg2 fullShare X ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg2 fullShare X ∗ owns (c : Thread nD τ) arg3 fullShare (out k0_pay5 X)
          ∗ owns (c : Thread nD τ) arg4 fullShare (out k0_pay4 X) ∗ (∃ d, owns (c : Thread nD τ) arg5 fullShare d)) -∗ K ⟨⟩))
      ⊢ wp frame (wpE (defs₀ (F := F)) Variants.none c none) Set.univ (cc0_sb_attn_fwd (F := F) i arg2 harg2 arg3 harg3 arg4 harg4 arg5 harg5) K := by
  simp only [cc0_sb_attn_fwd_eq_skeleton]; unfold cc0_sb_attn_fwd_skel
  unfold owns
  iintro ⟨⟨%f2, %h2, H2⟩, ⟨%d3, %f3, %h3, H3⟩, ⟨%d4, %f4, %h4, H4⟩, ⟨%d5, %f5, %h5, H5⟩, Hk⟩
  sl_for (inv1 c arg2 arg3 arg4 arg5 X d3 d4) $$ [H2 H3 H4 H5]
  · intro t r
    exact step1 c i arg2 harg2 arg3 harg3 arg4 harg4 arg5 harg5 X d3 d4 t r
  · unfold inv1 owns
    isplitl [H2]
    · iexists _; isplitr; swap
      · iexact H2
      ipureintro; exact h2
    isplitl [H3]
    · iexists _; isplitr; swap
      · iexact H3
      ipureintro; exact h3
    isplitl [H4]
    · iexists _; isplitr; swap
      · iexact H4
      ipureintro; exact h4
    iexists _; iexists _; isplitr; swap
    · iexact H5
    ipureintro; exact h5
  · unfold inv1 owns
    iintro %r ⟨⟨%f2, %h2, H2⟩, ⟨%f3, %h3', H3⟩, ⟨%f4, %h4', H4⟩, ⟨%d5, %f5, %h5, H5⟩⟩
    sl_step
    iapply Hk
    isplitl [H2]
    · iexists _; isplitr; swap
      · iexact H2
      ipureintro; exact h2
    isplitl [H3]
    · iexists _; isplitr; swap
      · iexact H3
      ipureintro; rw [h3']; exact full16 X d3 _ trips1
    isplitl [H4]
    · iexists _; isplitr; swap
      · iexact H4
      ipureintro; rw [h4']; exact full32 X d4 _ trips1
    iexists _; iexists _; isplitr; swap
    · iexact H5
    ipureintro; exact h5

end Trip

variable (m : (ℓ : Loc nD τ sig) → Buf (Elt F) ℓ) (ρ : Dev nD → PrngReg)

/-- The pipeline's data on a core: the input's buffer at its block, the outputs' at the body's functions of it. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => out k0_pay5 (X0_0 m c t)
    | ⟨2, _⟩ => out k0_pay4 (X0_0 m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_x (c : Dev nD) (t : Fin cfg0.N) : (dats m 0 c).after 0 t = X0_0 m c t := by dsimp only [dats]
/-- What the body leaves in the outputs' buffers. -/
theorem after_o (c : Dev nD) (t : Fin cfg0.N) : (dats m 0 c).after 1 t = out k0_pay5 (X0_0 m c t) := by dsimp only [dats]
theorem after_o32 (c : Dev nD) (t : Fin cfg0.N) : (dats m 0 c).after 2 t = out k0_pay4 (X0_0 m c t) := by dsimp only [dats]

/-- Between points the scratch buffer is held at some contents. -/
theorem between (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

set_option maxHeartbeats 1000000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after_x m c)]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, between,
    after_x, after_o, after_o32]
  iintro ⟨⟨HA, Hr⟩, Ho, ⟨%d0, H0⟩, ⟨%d1, H1⟩, ⟨%d2, H2⟩⟩
  iapply (sound_kernel c (grid0.coords t) _ _ _ _ _ _ _ _ (X0_0 m c t) _)
  isplitl [H0]; · iexact H0
  isplitl [H1]; · iexists _; iexact H1
  isplitl [H2]; · iexists _; iexact H2
  isplitl [HA]; · iexact HA
  iintro ⟨H0, H1, H2, HA⟩
  isplitl [HA Hr]
  · isplitl [HA]; · iexact HA
    iexact Hr
  isplitl [Ho]; · iexact Ho
  isplitl [H0]; · iexact H0
  isplitl [H1]; · iexact H1
  iexact H2

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
set_option maxHeartbeats 1600000 in
/-- The launch: every run ends, with the arrays as the pipeline's data say and every semaphore counter at zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every run ends with the arguments unchanged and every semaphore counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.Sbf
end
-- ==== Proof.Sbf.Value.lean ====
/-
  One program of the stick-breaking attention's grid over the extended reals: if its block holds the queries, keys and
  values of two heads in real numbers, its two outputs hold the two heads' attention.
-/
module

public import proofs.«01_k».proof.Proof.Sb.Blocks
public import proofs.«01_k».proof.Proof.Sbf.Model

@[expose] public section

set_option maxRecDepth 16384

noncomputable section

namespace Cert.Sbf

open Idealize.ShloMosaic Idealize.ShloMosaic.TcCoe Idealize.ShloMosaic.VecWindow Finset
open Cert.SbfKernelIdeal Cert.SbfKernelIdeal.Gen
open Cert.Sb (kTile vTile before Heads Blocks tile_sum keys_sum lane_lt select_ofBool)

/-! ### The tile's numbers are those of the gradient's tile -/

theorem qs_eq (X : Vec Ideal S1x2048x384 .bf16) (i : Fin 8) : qs X i = Cert.Sb.qs X i := rfl
theorem tri_eq : (k0_pay3 (F := Ideal)) = Cert.SbKernelIdeal.Gen.k0_pay97 := rfl
theorem diag_eq : k0_pay2 = Cert.SbKernelIdeal.Gen.k0_pay96 := rfl

section Tile
variable (t : FVec Ideal S512x256 .bf16) (mk : IVec S512x256 1) (a : FVec Ideal S512x128 .bf16) (l : FVec Ideal S512x1 .f32)
  (k v : Vec Ideal S1x256x128 .bf16) (D : Vec Ideal S512x128 .f32) (u : Fin 512) (e : Fin 128)

theorem pay12_apply : k0_pay12 t a l k v D (ix2 u e) = D (ix2 u e) + ∑ x, Cert.SbKernelIdeal.Gen.k0_pay34 t a l k (ix2 u x) * v (ix3 0 x e) := by
  have h : ∀ w : FVec Ideal S512x256 .bf16, k0_pay12 t a l k v D = shapeCast S512x128
      (addf D (matmul dot_S512x256_S256x128_S512x128_1_0_0_1_n_n none (Cert.SbKernelIdeal.Gen.k0_pay34 t a l k)
        (shapeCast S256x128 v shapeCasts_S1x256x128_S256x128) (constant S512x128 .f32 0x00000000#32))) shapeCasts_S512x128_S512x128 := fun _ => rfl
  rw [h t]
  generalize Cert.SbKernelIdeal.Gen.k0_pay34 t a l k = w
  pointwise

theorem pay8_apply : k0_pay8 mk t a l k v (ix2 u e) = ∑ x, Cert.SbKernelIdeal.Gen.k0_pay5 mk t a l k (ix2 u x) * v (ix3 0 x e) := by
  have h : ∀ w : FVec Ideal S512x256 .bf16, k0_pay8 mk t a l k v = shapeCast S512x128
      (matmul dot_S512x256_S256x128_S512x128_1_0_0_1_n_n none (Cert.SbKernelIdeal.Gen.k0_pay5 mk t a l k)
        (shapeCast S256x128 v shapeCasts_S1x256x128_S256x128) (constant S512x128 .f32 0x00000000#32)) shapeCasts_S512x128_S512x128 := fun _ => rfl
  rw [h t]
  generalize Cert.SbKernelIdeal.Gen.k0_pay5 mk t a l k = w
  pointwise

theorem pay28_apply : k0_pay28 l (k0_pay13 a k) (ix2 u 0) = l (ix2 u 0) + ∑ x, Cert.SbKernelIdeal.Gen.k0_pay33 a k (ix2 u x) :=
  (show k0_pay28 l (k0_pay13 a k) (ix2 u 0) = Cert.SbKernelIdeal.Gen.k0_pay43 l (Cert.SbKernelIdeal.Gen.k0_pay33 a k) (ix2 u 0) from rfl).trans
    (Cert.Sb.pay43_apply _ _ u)

theorem pay9_apply : k0_pay9 mk a l k (ix2 u 0) = l (ix2 u 0) + ∑ x, Cert.SbKernelIdeal.Gen.k0_pay4 mk a k (ix2 u x) :=
  (show k0_pay9 mk a l k (ix2 u 0) = Cert.SbKernelIdeal.Gen.k0_pay12 l (Cert.SbKernelIdeal.Gen.k0_pay4 mk a k) (ix2 u 0) from rfl).trans
    (Cert.Sb.pay12_apply _ _ u)

/-- The output's rows keep of each head's copy the lanes of that head. -/
theorem pay39_apply (r : Fin 256) : k0_pay39 k0_pay1 D (ix2 r e) = D (ix2 ⟨256 * (e.val / 64) + r.val, by omega⟩ e) := by
  have h : k0_pay39 k0_pay1 D (ix2 r e) = if e.val < 64 then D (ix2 ⟨r.val, by omega⟩ e) else D (ix2 ⟨256 + r.val, by omega⟩ e) := by
    pointwise [k0_pay39, k0_pay1]
    rw [lane_lt, select_ofBool]
  rw [h]
  split
  · congr 2; apply Fin.ext; simp only []; omega
  · congr 2; apply Fin.ext; simp only []; omega

theorem pay4_apply (W : FVec Ideal S256x128 .f32) (r : Fin 256) : k0_pay4 W (ix3 0 r e) = W (ix2 r e) := by pointwise [k0_pay4]
theorem pay5_apply (W : FVec Ideal S256x128 .f32) (r : Fin 256) : k0_pay5 W (ix3 0 r e) = W (ix2 r e) := by pointwise [k0_pay5]

end Tile

/-- What is carried after the tile of block `i` of the queries and block `j` of the keys: the sums over the keys from that
    tile on. -/
structure At (H : Heads) (i j : ℕ) (s : St Ideal) : Prop where
  later : ∀ u, s.later (ix2 u 0) = ((∑ c ∈ Ico (256 * j) (256 * i + 256), H.sp (u.val / 256) (256 * i + u.val % 256) c : ℝ) : EReal)
  acc : ∀ (u : Fin 512) (l : Fin 128), s.acc (ix2 u l) = ((∑ c ∈ Ico (256 * j) (256 * i + 256),
    H.w (u.val / 256) (256 * i + u.val % 256) c * H.v (l.val / 64) c (l.val % 64) : ℝ) : EReal)

variable {H : Heads} {X : Vec Ideal S1x2048x384 .bf16} {Y : Vec Ideal S1x2048x128 .bf16} {O : Vec Ideal S1x2048x128 .f32}
variable (B : Blocks H X Y O)
include B

/-- One tile wholly below the diagonal. -/
theorem step_at (i j : Fin 8) (hij : j.val < i.val) (s : St Ideal) (h : At H i.val (j.val + 1) s) :
    At H i.val j.val (tileU X (qs X i) j s) := by
  have hl : ∀ u : Fin 512, s.later (ix2 u 0) = _ := fun u => (h.later u).trans (by rw [show 256 * (j.val + 1) = 256 * j.val + 256 by ring])
  have T := B.holds_tile i j hij.le s.later
    (fun y => ((∑ c ∈ range (256 * j.val + 256), H.g ((y 0).val / 256) (256 * i.val + (y 0).val % 256) c : ℝ) : EReal)) hl (fun _ => rfl)
  have hall : ∀ (u : Fin 512) (x : Fin 256), (H.rowAt i.val j.val u).p x := fun u x => by
    change 256 * j.val + x.val < 256 * i.val + u.val % 256
    omega
  refine ⟨fun u => ?_, fun u l => ?_⟩
  · refine (pay28_apply _ _ _ u).trans ?_
    rw [hl, qs_eq, tile_sum (fun c => H.sp (u.val / 256) (256 * i.val + u.val % 256) c) j.val _
      fun x => (T.soft_all hall u x).trans (by rw [Heads.rowAt_sp]), ← EReal.coe_add, add_comm, sum_Ico_consecutive _ (by omega) (by omega)]
  · refine (pay12_apply _ _ _ _ _ _ u l).trans ?_
    rw [h.acc, qs_eq, tri_eq, keys_sum (fun c => H.w (u.val / 256) (256 * i.val + u.val % 256) c) (fun c => H.v (l.val / 64) c (l.val % 64)) j.val _ _
      (fun x => (T.weight_all hall u x).trans (by rw [Heads.rowAt_wt _ _ _ _ _ hij.le])) (fun x => B.vTile_apply j x l),
      ← EReal.coe_add, add_comm, show 256 * (j.val + 1) = 256 * j.val + 256 by ring, sum_Ico_consecutive _ (by omega) (by omega)]

/-- The tile on the diagonal. -/
theorem start_at (i : Fin 8) : At H i.val i.val (tileM X (qs X i) i) := by
  have hz : ∀ u : Fin 512, (k0_pay19 (F := Ideal)) (ix2 u 0) = 0 := fun u => by pointwise [k0_pay19]
  have hl : ∀ u : Fin 512, (k0_pay19 (F := Ideal)) (ix2 u 0) = ((∑ c ∈ Ico (256 * i.val + 256) (256 * i.val + 256), H.sp (u.val / 256) (256 * i.val + u.val % 256) c : ℝ) : EReal) :=
    fun u => (hz u).trans (by simp)
  have T := B.holds_tile i i le_rfl k0_pay19
    (fun y => ((∑ c ∈ range (256 * i.val + 256), H.g ((y 0).val / 256) (256 * i.val + (y 0).val % 256) c : ℝ) : EReal)) hl (fun _ => rfl)
  have hd : ∀ (u : Fin 512) (x : Fin 256), (H.rowAt i.val i.val u).p x ↔ x.val < u.val % 256 := fun u x => by
    change 256 * i.val + x.val < 256 * i.val + u.val % 256 ↔ _
    omega
  refine ⟨fun u => ?_, fun u l => ?_⟩
  · refine (pay9_apply _ _ _ _ u).trans ?_
    rw [hz, zero_add, qs_eq, diag_eq, tile_sum (fun c => H.sp (u.val / 256) (256 * i.val + u.val % 256) c) i.val _
      fun x => (T.soft_diag hd u x).trans (by rw [Heads.rowAt_sp])]
  · refine (pay8_apply _ _ _ _ _ _ u l).trans ?_
    rw [qs_eq, diag_eq, tri_eq, keys_sum (fun c => H.w (u.val / 256) (256 * i.val + u.val % 256) c) (fun c => H.v (l.val / 64) c (l.val % 64)) i.val _ _
      (fun x => (T.weight_diag hd u x).trans (by rw [Heads.rowAt_wt _ _ _ _ _ le_rfl])) (fun x => B.vTile_apply i x l)]

/-- The diagonal tile and the `n` tiles before it. -/
theorem seq_at (i : Fin 8) (n : ℕ) (hn : n ≤ i.val) : At H i.val (i.val - n) (seq X i n) := by
  induction n with
  | zero => exact start_at B i
  | succ n ih =>
    refine step_at B i (before i n) (by simp only [before]; omega) _ ?_
    have e : (before i n).val + 1 = i.val - n := by simp only [before]; omega
    rw [e]
    exact ih (by omega)

/-- The rows of a block of queries. -/
theorem rows_at (i : Fin 8) (r : Fin 256) (l : Fin 128) : rows X i (ix2 r l) =
    (Cert.Sb.Head.o (H.q (l.val / 64)) (H.k (l.val / 64)) (H.v (l.val / 64)) (256 * i.val + r.val) (l.val % 64) : EReal) := by
  rw [rows, pay39_apply, (seq_at B i i.val le_rfl).acc]
  have e1 : (256 * (l.val / 64) + r.val) / 256 = l.val / 64 := by omega
  have e2 : (256 * (l.val / 64) + r.val) % 256 = r.val := by omega
  simp only [e1, e2]
  congr 1
  have hz : ∀ c, 256 * i.val + r.val ≤ c → H.w (l.val / 64) (256 * i.val + r.val) c * H.v (l.val / 64) c (l.val % 64) = 0 :=
    fun c hc => by rw [show H.w _ _ _ = 0 from Cert.Sb.Head.w_of_le _ _ hc, zero_mul]
  rw [Cert.Sb.Head.o, range_eq_Ico, Cert.Sb.Head.sum_Ico_cut (i := 256 * i.val + r.val) _ (by omega) hz,
    Cert.Sb.Head.sum_Ico_cut (i := 256 * i.val + r.val) (n := 2048) _ (by omega) hz, Nat.sub_self]

/-- An output's element, for either way of writing the rows. -/
theorem out_at {e : EltTy} (f : FVec Ideal S256x128 .f32 → Vec Ideal S1x256x128 e) (g : EReal → Elt Ideal e)
    (hf : ∀ (W : FVec Ideal S256x128 .f32) (r : Fin 256) (l : Fin 128), f W (ix3 0 r l) = g (W (ix2 r l))) (n : Fin 2048) (l : Fin 128) :
    out f X (ix3 0 n l) = g (Cert.Sb.Head.o (H.q (l.val / 64)) (H.k (l.val / 64)) (H.v (l.val / 64)) n.val (l.val % 64) : EReal) := by
  refine (hf (rows X ⟨n.val / 256, by omega⟩) ⟨n.val % 256, by omega⟩ l).trans (congrArg g ?_)
  rw [rows_at B, show 256 * (n.val / 256) + n.val % 256 = n.val by omega]

theorem out16_at (n : Fin 2048) (l : Fin 128) : out (e := .bf16) (k0_pay5 (F := Ideal)) X (ix3 0 n l) =
    (Cert.Sb.Head.o (H.q (l.val / 64)) (H.k (l.val / 64)) (H.v (l.val / 64)) n.val (l.val % 64) : EReal) :=
  out_at B (e := .bf16) k0_pay5 (fun x => x) (fun W r l => pay5_apply l W r) n l

theorem out32_at (n : Fin 2048) (l : Fin 128) : out (e := .f32) (k0_pay4 (F := Ideal)) X (ix3 0 n l) =
    (Cert.Sb.Head.o (H.q (l.val / 64)) (H.k (l.val / 64)) (H.v (l.val / 64)) n.val (l.val % 64) : EReal) :=
  out_at B (e := .f32) k0_pay4 (fun x => x) (fun W r l => pay4_apply l W r) n l

end Cert.Sbf

end
-- ==== Proof.Sbf.Entry.lean ====
/-
  What the stick-breaking attention's blocks hold when it starts, and the two arrays that its launch leaves, where the
  arguments are real numbers.
-/
module

public import proofs.«01_k».proof.Proof.Sb.Result
public import proofs.«01_k».proof.Proof.Sbf.Run
public import proofs.«01_k».proof.Proof.Sbf.Value

@[expose] public section

set_option maxRecDepth 16384

noncomputable section

namespace Cert.Sbf

open Cert.SbfKernelIdeal Cert.SbfKernelIdeal.Gen
open Idealize.ShloMosaic Idealize.ShloMosaic.TcCoe Idealize.ShloMosaic.Tactic Finset
open Cert.Sb (Heads Blocks Reals pairOf pack)

/-- A head's output in real numbers, of the heads of a pair. -/
def lane (H : Heads) (n l : ℕ) : ℝ := Cert.Sb.Head.o (H.q (l / 64)) (H.k (l / 64)) (H.v (l / 64)) n (l % 64)

variable (m : (ℓ : Loc nD τ sig) → Buf (Elt Ideal) ℓ)

set_option maxHeartbeats 1600000 in
theorem entry_x (c : Dev nD) : V m c main_v10 =
    pack (m ((c.tc : Thread nD τ).loc main_arg0)) (m ((c.tc : Thread nD τ).loc main_arg1)) (m ((c.tc : Thread nD τ).loc main_arg2)) := by
  unfold V V0
  simp only [List.flatten_cons, List.flatten_nil, List.append_nil]
  after_reads_simp
  refine congrArg₂ Cert.Sb.widen ?_ ?_
  · after_reads_simp
    refine Cert.Sb.triple_congr ?_ ?_ ?_
    · dsimp only [Matrix.cons_val_zero]; after_reads_simp; rfl
    · dsimp only [Matrix.cons_val_one]; after_reads_simp; rfl
    · dsimp only [Matrix.cons_val]; after_reads_simp; rfl
  · after_reads_simp

/-- Point `4 b + p` has the blocks of batch entry `b` and pair of heads `p`. -/
theorem block_index : ∀ t : Fin cfg0.N, win0_0.index t = ![t.val / 4, 0, t.val % 4] :=
  (by decide +kernel : ∀ t : Fin grid0.N, win0_0.index t = ![t.val / 4, 0, t.val % 4])

section
variable (b p : Fin 4) (n : Fin 2048) (c : Dev nD) (t : Fin cfg0.N) (hb : t.val / 4 = b.val) (hp : t.val % 4 = p.val)
include hb hp

theorem block_x (j : Fin 384) : X0_0 m c t (ix3 0 n j) = V m c main_v10 (ix3 b n ⟨384 * p.val + j.val, by omega⟩) := by
  unfold X0_0 Pipeline.Window.fill
  rw [dif_pos (moved0_0 t _)]
  blk_simp [iblk]
  blk_ext [block_index]

end

variable (c : Dev nD) {Q K V' : ℕ → ℕ → ℕ → ℕ → ℝ}
  (A : Reals (m ((c.tc : Thread nD τ).loc main_arg0)) (m ((c.tc : Thread nD τ).loc main_arg1)) (m ((c.tc : Thread nD τ).loc main_arg2))
    (fun _ => 0) Q K V' fun _ _ _ _ => 0)
  (cap : ∀ b h i j, b < 4 → h < 8 → j < i → i < 2048 → Cert.Sb.Head.z (Q b h) (K b h) i j ≤ 60)
include A cap

/-- The block of a point is that of its pair of heads; no cotangent is read, and it is set to zero. -/
theorem blocks_at (t : Fin cfg0.N) : Blocks (pairOf Q K V' (fun _ _ _ _ => 0) (t.val / 4) (t.val % 4)) (X0_0 m c t) (fun _ => (0 : EReal))
    (fun y => (lane (pairOf Q K V' (fun _ _ _ _ => 0) (t.val / 4) (t.val % 4)) (y 1).val (y 2).val : EReal)) := by
  have ht : t.val < 16 := t.isLt
  have hb : t.val / 4 < 4 := by omega
  have hp : t.val % 4 < 4 := Nat.mod_lt _ (by decide)
  refine ⟨fun n l => ?_, fun n l => ?_, fun n l => ?_, fun n l => ?_, fun n l => rfl, fun s i j hs hj hi => cap _ _ i j hb (by omega) hj hi⟩
  · rw [block_x m ⟨_, hb⟩ ⟨_, hp⟩ n c t rfl rfl, entry_x]
    exact (Cert.Sb.pack_q _ _ _ ⟨_, hb⟩ ⟨_, hp⟩ n l).trans (A.q ..)
  · rw [block_x m ⟨_, hb⟩ ⟨_, hp⟩ n c t rfl rfl, entry_x]
    exact (Cert.Sb.pack_k _ _ _ ⟨_, hb⟩ ⟨_, hp⟩ n l).trans (A.k ..)
  · rw [block_x m ⟨_, hb⟩ ⟨_, hp⟩ n c t rfl rfl, entry_x]
    exact (Cert.Sb.pack_v _ _ _ ⟨_, hb⟩ ⟨_, hp⟩ n l).trans (A.v ..)
  · exact EReal.coe_zero.symm

omit A cap in
theorem out_index : ∀ t : Fin cfg0.N, (win0_1.index t 0 = t.val / 4 ∧ win0_1.index t 1 = 0 ∧ win0_1.index t 2 = t.val % 4)
    ∧ (win0_2.index t 0 = t.val / 4 ∧ win0_2.index t 1 = 0 ∧ win0_2.index t 2 = t.val % 4) :=
  (by decide +kernel : ∀ t : Fin grid0.N, (win0_1.index t 0 = t.val / 4 ∧ win0_1.index t 1 = 0 ∧ win0_1.index t 2 = t.val % 4)
    ∧ (win0_2.index t 0 = t.val / 4 ∧ win0_2.index t 1 = 0 ∧ win0_2.index t 2 = t.val % 4))

/-- What the launch leaves at batch entry `b`, position `n` and column `j`. -/
def cell (Q K V' : ℕ → ℕ → ℕ → ℕ → ℝ) (b n j : ℕ) : ℝ := lane (pairOf Q K V' (fun _ _ _ _ => 0) b (j / 128)) n (j % 128)

theorem out16_val (t : Fin cfg0.N) (z : S1x2048x128.Idx) {a0 a1 a2 : ℕ} (h0 : a0 = t.val / 4) (h1 : a1 = 0) (h2 : a2 = t.val % 4) :
    out (e := .bf16) (k0_pay5 (F := Ideal)) (X0_0 m c t) z = (cell Q K V' a0 (a1 * 2048 + (z 1).val) (a2 * 128 + (z 2).val) : EReal) := by
  subst h0 h1 h2
  idx_vars z
  have e := out16_at (blocks_at m c A cap t) z1 z2
  have h0 : z0 = 0 := Subsingleton.elim _ _
  subst h0
  rw [e]
  show ((lane _ _ _ : ℝ) : EReal) = ((cell Q K V' (t.val / 4) (0 * 2048 + z1.val) (t.val % 4 * 128 + z2.val) : ℝ) : EReal)
  rw [cell, show (t.val % 4 * 128 + z2.val) / 128 = t.val % 4 by omega, show (t.val % 4 * 128 + z2.val) % 128 = z2.val by omega,
      Nat.zero_mul, Nat.zero_add]

theorem out32_val (t : Fin cfg0.N) (z : S1x2048x128.Idx) {a0 a1 a2 : ℕ} (h0 : a0 = t.val / 4) (h1 : a1 = 0) (h2 : a2 = t.val % 4) :
    out (e := .f32) (k0_pay4 (F := Ideal)) (X0_0 m c t) z = (cell Q K V' a0 (a1 * 2048 + (z 1).val) (a2 * 128 + (z 2).val) : EReal) := by
  subst h0 h1 h2
  idx_vars z
  have e := out32_at (blocks_at m c A cap t) z1 z2
  have h0 : z0 = 0 := Subsingleton.elim _ _
  subst h0
  rw [e]
  show ((lane _ _ _ : ℝ) : EReal) = ((cell Q K V' (t.val / 4) (0 * 2048 + z1.val) (t.val % 4 * 128 + z2.val) : ℝ) : EReal)
  rw [cell, show (t.val % 4 * 128 + z2.val) / 128 = t.val % 4 by omega, show (t.val % 4 * 128 + z2.val) % 128 = z2.val by omega,
      Nat.zero_mul, Nat.zero_add]

/-- The launch's array of bf16, -/
theorem array16_at (i : S4x2048x512.Idx) :
    (dats m 0 c).arrAt 1 cfg0.N i = (cell Q K V' (i 0).val (i 1).val (i 2).val : EReal) := by
  refine ((dats m 0 c).arrAt_apply_of_coversWhere 1
    (fun i : S4x2048x512.Idx => (cell Q K V' (i 0).val (i 1).val (i 2).val : EReal))
    (P := fun i : S4x2048x512.Idx => (i 2).val / 128 < 4) (fun β => β (2 : Fin 3) < 4) (by decide +kernel)
    (fun t hf y => ?_) (fun j => by blk_simp [Pipeline.Window.cell_apply]) _).trans ?_
  · blk_simp
    rw [after_o]
    frame_out
    obtain ⟨⟨h0, h1, h2⟩, -⟩ := out_index t
    exact out16_val m c A cap t _ h0 h1 h2
  · exact if_pos (by have : (i 2).val < 512 := (i 2).isLt; omega)

/-- and that of f32. -/
theorem array32_at (i : S4x2048x512.Idx) :
    (dats m 0 c).arrAt 2 cfg0.N i = (cell Q K V' (i 0).val (i 1).val (i 2).val : EReal) := by
  refine ((dats m 0 c).arrAt_apply_of_coversWhere 2
    (fun i : S4x2048x512.Idx => (cell Q K V' (i 0).val (i 1).val (i 2).val : EReal))
    (P := fun i : S4x2048x512.Idx => (i 2).val / 128 < 4) (fun β => β (2 : Fin 3) < 4) (by decide +kernel)
    (fun t hf y => ?_) (fun j => by blk_simp [Pipeline.Window.cell_apply]) _).trans ?_
  · blk_simp
    rw [after_o32]
    frame_out
    obtain ⟨-, h0, h1, h2⟩ := out_index t
    exact out32_val m c A cap t _ h0 h1 h2
  · exact if_pos (by have : (i 2).val < 512 := (i 2).isLt; omega)

end Cert.Sbf

end
-- ==== Proof.Sbf.Frames.lean ====
/-
  The frames of the stick-breaking attention: the program read over the extended reals and the program on float words
  are one text, so one run serves both.
-/
module

public import proofs.«01_k».proof.Defs
public import proofs.«01_k».proof.Proof.Gen.SbfKernel
public import proofs.«01_k».proof.Proof.Sbf.Run

@[expose] public section

set_option maxRecDepth 16384

noncomputable section

namespace Cert.Sbf

open Idealize.ShloMosaic Idealize.ShloMosaic.TcCoe Idealize.SL.Sem

/-- The program over the extended reals ends with its arguments unchanged and its semaphores at zero. -/
theorem quiescent_ideal : Cert.quiescent_SbfKernelIdeal (hSbfKernelIdeal := Cert.SbfKernelIdeal.Gen.facts) :=
  fun m ρ _ => frame_run (F := Ideal) m ρ

set_option maxHeartbeats 4000000 in
/-- And so does the program on float words. -/
theorem quiescent_words : Cert.quiescent_SbfKernel (hSbfKernel := Cert.SbfKernel.Gen.facts) := by
  have h : ∀ (m : (ℓ : Loc Cert.SbfKernelIdeal.nD Cert.SbfKernelIdeal.τ Cert.SbfKernelIdeal.sig) → Buf (Elt Bits) ℓ) (ρ : Dev Cert.SbfKernelIdeal.nD → PrngReg), True → _ :=
    fun m ρ _ => frame_run (F := Bits) m ρ
  have e : Cert.quiescent_SbfKernel (hSbfKernel := Cert.SbfKernel.Gen.facts)
      = ∀ (m : (ℓ : Loc Cert.SbfKernelIdeal.nD Cert.SbfKernelIdeal.τ Cert.SbfKernelIdeal.sig) → Buf (Elt Bits) ℓ) (ρ : Dev Cert.SbfKernelIdeal.nD → PrngReg), True →
        θ_run (Cert.SbfKernelIdeal.defs (F := Bits)) (onTc (τ := Cert.SbfKernelIdeal.τ) (Cert.SbfKernelIdeal.main (F := Bits))) ⟨m, fun _ => 0, ρ⟩ (fun r => (∀ c : Dev Cert.SbfKernelIdeal.nD,
          r.2.mem ((c.tc : Thread Cert.SbfKernelIdeal.nD Cert.SbfKernelIdeal.τ).loc Cert.SbfKernelIdeal.main_arg0) = m ((c.tc : Thread Cert.SbfKernelIdeal.nD Cert.SbfKernelIdeal.τ).loc Cert.SbfKernelIdeal.main_arg0)
          ∧ r.2.mem ((c.tc : Thread Cert.SbfKernelIdeal.nD Cert.SbfKernelIdeal.τ).loc Cert.SbfKernelIdeal.main_arg1) = m ((c.tc : Thread Cert.SbfKernelIdeal.nD Cert.SbfKernelIdeal.τ).loc Cert.SbfKernelIdeal.main_arg1)
          ∧ r.2.mem ((c.tc : Thread Cert.SbfKernelIdeal.nD Cert.SbfKernelIdeal.τ).loc Cert.SbfKernelIdeal.main_arg2) = m ((c.tc : Thread Cert.SbfKernelIdeal.nD Cert.SbfKernelIdeal.τ).loc Cert.SbfKernelIdeal.main_arg2))
          ∧ r.2.sem = fun _ => 0) := by
    sl_kernel_rfl
  exact e.mpr h

end Cert.Sbf
end
-- ==== Proof.Sbf.Reference.lean ====
/-
  The stick-breaking attention's reference over the extended reals, element by element: where the arguments are real
  numbers, its results are the heads' outputs in real numbers.
-/
module

public import proofs.«01_k».proof.Proof.Sb.Reference
public import proofs.«01_k».proof.Proof.Gen.SbfReferenceIdeal.Read
public import proofs.«01_k».proof.Proof.Gen.SbfReferenceIdeal.Run

@[expose] public section

set_option maxRecDepth 16384

noncomputable section

namespace Cert.Sbf

open Idealize.ShloMosaic Idealize.ShloMosaic.TcCoe Finset

variable (x0 x1 x2 : (⟨4, ![4, 2048, 8, 64]⟩ : Shape).Idx → EReal)

/-- The attention is the forward part of the gradient's reference: the same lines. -/
theorem o_eq : Cert.SbfReferenceIdeal.Read.val_main_v20 (F := Ideal) x0 x1 x2 = Cert.SbReferenceIdeal.Read.val_main_v20 (F := Ideal) x0 x1 x2 := rfl

variable {x0 x1 x2} {Q K V : ℕ → ℕ → ℕ → ℕ → ℝ} (A : Cert.Sb.Reals x0 x1 x2 (fun _ => 0) Q K V fun _ _ _ _ => 0)
  (b : Fin 4) (n : Fin 2048) (h : Fin 8) (e : Fin 64)
include A

/-- The result in float32, -/
theorem o32_at : Cert.SbfReferenceIdeal.Read.val_main_v20 (F := Ideal) x0 x1 x2 (ix4 b n h e)
    = (Cert.Sb.Head.o (Q b.val h.val) (K b.val h.val) (V b.val h.val) n.val e.val : EReal) := by
  rw [o_eq]; exact A.o_at b h n e

/-- and in bfloat16. -/
theorem o16_at : Cert.SbfReferenceIdeal.Read.val_main_v21 (F := Ideal) x0 x1 x2 (ix4 b n h e)
    = (Cert.Sb.Head.o (Q b.val h.val) (K b.val h.val) (V b.val h.val) n.val e.val : EReal) :=
  (show Cert.SbfReferenceIdeal.Read.val_main_v21 (F := Ideal) x0 x1 x2 (ix4 b n h e) = Cert.SbfReferenceIdeal.Read.val_main_v20 (F := Ideal) x0 x1 x2 (ix4 b n h e)
    from rfl).trans (o32_at A b n h e)

end Cert.Sbf

end
-- ==== Proof.Sbf.Precondition.lean ====
/-
  The precondition of the claim on the stick-breaking attention, read back: the arguments are real numbers and no score
  before the query is above sixty.
-/
module

public import proofs.«01_k».proof.Proof.Sb.Precondition

@[expose] public section

set_option maxRecDepth 16384

noncomputable section

namespace Cert.Sbf

open Idealize.ShloMosaic Idealize.ShloMosaic.TcCoe Idealize.ShloMosaic.Tactic Finset
open Cert.Pre_moderate_forward
open Cert.Sb (and_bits real_of_abs before_word bits_eighth bits_60)

theorem decode [Cert.Pre_moderate_forward.Facts] {q k v : FVec Ideal S4x2048x8x64 .f32} (h : fn (F := Ideal) q k v = fun _ => 1#1) :
    (∀ i, (((q i).toReal : ℝ) : EReal) = q i) ∧ (∀ i, (((k i).toReal : ℝ) : EReal) = k i) ∧ (∀ i, (((v i).toReal : ℝ) : EReal) = v i)
      ∧ ∀ (b : Fin 4) (h : Fin 8) (i j : Fin 2048), j.val < i.val →
        (∑ e : Fin 64, q (ix4 b i h e) * k (ix4 b j h e)) * ((1 / 8 : ℝ) : EReal) ≤ ((60 : ℝ) : EReal) := by
  dsimp only [fn, fn_part1, fn_where] at h
  obtain ⟨h, hz⟩ := and_bits h
  obtain ⟨h, h3⟩ := and_bits h
  obtain ⟨h1, h2⟩ := and_bits h
  refine ⟨fun i => ?_, fun i => ?_, fun i => ?_, fun b hd i j hj => ?_⟩
  · exact real_of_abs _ (Host.reduce_andi_all _ _ _ _ _ (congrFun h1 (Shape.Idx.first Facts.h_S_)) i)
  · exact real_of_abs _ (Host.reduce_andi_all _ _ _ _ _ (congrFun h2 (Shape.Idx.first Facts.h_S_)) i)
  · exact real_of_abs _ (Host.reduce_andi_all _ _ _ _ _ (congrFun h3 (Shape.Idx.first Facts.h_S_)) i)
  · have := Host.reduce_andi_all _ _ _ _ _ (congrFun hz (Shape.Idx.first Facts.h_S_)) (ix4 b hd i j)
    pointwise at this
    rw [before_word, if_pos hj, bits_eighth, bits_60] at this
    by_contra hn
    rw [decide_eq_false hn] at this
    exact absurd this (by decide)

/-- The facts about shapes that the precondition takes. -/
theorem precondition_facts : Cert.Pre_moderate_forward.Facts := by
  constructor <;> decide +kernel

end Cert.Sbf
end
-- ==== Proof.Sbf.Claim.lean ====
/-
  The claim on the stick-breaking attention: where the arguments are finite and no score before the query is above sixty,
  the kernel's two results are the reference's.
-/
module

public import proofs.«01_k».proof.Proof.Sb.Claim
public import proofs.«01_k».proof.Proof.Sbf.Entry
public import proofs.«01_k».proof.Proof.Sbf.Frames
public import proofs.«01_k».proof.Proof.Sbf.Reference
public import proofs.«01_k».proof.Proof.Sbf.Precondition

@[expose] public section

set_option maxRecDepth 16384

noncomputable section

namespace Cert.Sbf

open Cert.SbfKernelIdeal Cert.SbfKernelIdeal.Gen
open Idealize.ShloMosaic Idealize.ShloMosaic.TcCoe Idealize.ShloMosaic.Tactic Idealize.SL.Sem Finset
open Cert.Sb (Reals entries entries_at coe_sum head_of lane_of pairOf)

/-- What the precondition gives of the arguments. -/
theorem reals_of [Cert.Pre_moderate_forward.Facts] {q k v : FVec Ideal S4x2048x8x64 .f32} (h : Cert.Pre_moderate_forward.fn (F := Ideal) q k v = fun _ => 1#1) :
    Reals q k v (fun _ => 0) (entries q) (entries k) (entries v) (fun _ _ _ _ => 0)
      ∧ ∀ b h i j, b < 4 → h < 8 → j < i → i < 2048 → Cert.Sb.Head.z (entries q b h) (entries k b h) i j ≤ 60 := by
  obtain ⟨hq, hk, hv, hz⟩ := decode h
  refine ⟨⟨entries_at q hq, entries_at k hk, entries_at v hv, fun _ _ _ _ => EReal.coe_zero.symm⟩, fun b h i j hb hh hj hi => ?_⟩
  have e := hz ⟨b, hb⟩ ⟨h, hh⟩ ⟨i, hi⟩ ⟨j, by omega⟩ hj
  rw [sum_congr rfl fun x _ => by rw [entries_at q hq, entries_at k hk, ← EReal.coe_mul], ← coe_sum, ← EReal.coe_mul, EReal.coe_le_coe_iff] at e
  refine le_trans (le_of_eq ?_) e
  rw [Cert.Sb.Head.z, sum_range]

section
variable (m : (ℓ : Loc nD τ sig) → Buf (Elt Ideal) ℓ) (c : Dev nD)

theorem array16_read : Pipeline.withArrays spec0 c (V0 m c) (fun w => (dats m 0 c).arrAt w cfg0.N) (Proc.devRef .tc main_v11_0)
    = (dats m 0 c).arrAt 1 cfg0.N :=
  Pipeline.withArrays_arr spec0 winFacts0.arr_inj c (V0 m c) (fun w => (dats m 0 c).arrAt w cfg0.N) 1

theorem array32_read : Pipeline.withArrays spec0 c (V0 m c) (fun w => (dats m 0 c).arrAt w cfg0.N) (Proc.devRef .tc main_v11_1)
    = (dats m 0 c).arrAt 2 cfg0.N :=
  Pipeline.withArrays_arr spec0 winFacts0.arr_inj c (V0 m c) (fun w => (dats m 0 c).arrAt w cfg0.N) 2

/-- The columns of an array, by heads. -/
def heads {e : EltTy} (x : Vec Ideal S4x2048x512 e) : Vec Ideal S4x2048x8x64 e := shapeCast S4x2048x8x64 x shapeCasts_S4x2048x512_S4x2048x8x64

theorem result16 (w : Vec Ideal S4x2048x512 .bf16) (hw : (dats m 0 c).arrAt 1 cfg0.N = w) :
    Pipeline.afterTail₀ cfgs (dats m) 0 (V0 m) [hostOps1] c main_v12 = heads w := by
  unfold Pipeline.afterTail₀
  simp only [List.flatten_cons, List.flatten_nil, List.append_nil]
  after_reads_simp
  show heads (e := .bf16) (Pipeline.withArrays spec0 c (V0 m c) (fun w => (dats m 0 c).arrAt w cfg0.N) (Proc.devRef .tc main_v11_0)) = _
  rw [array16_read, hw]

theorem result32 (w : Vec Ideal S4x2048x512 .f32) (hw : (dats m 0 c).arrAt 2 cfg0.N = w) :
    Pipeline.afterTail₀ cfgs (dats m) 0 (V0 m) [hostOps1] c main_v13 = heads w := by
  unfold Pipeline.afterTail₀
  simp only [List.flatten_cons, List.flatten_nil, List.append_nil]
  after_reads_simp
  show heads (e := .f32) (Pipeline.withArrays spec0 c (V0 m c) (fun w => (dats m 0 c).arrAt w cfg0.N) (Proc.devRef .tc main_v11_1)) = _
  rw [array32_read, hw]

end

/-- The run, with the two results as the launch's arrays give them. -/
theorem kernel_results (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v12) = heads (e := .bf16) ((dats m 0 c).arrAt 1 cfg0.N)
      ∧ r.2.mem ((c.tc : Thread nD τ).loc main_v13) = heads (e := .f32) ((dats m 0 c).arrAt 2 cfg0.N)) :=
  (θ_run defs _ _).mono (fun _ h c =>
    ⟨((h.1 c).2 main_v12 (Pipeline.mem_restRefs_of main_v12 (by decide) (by decide))).trans (result16 m c _ rfl),
     ((h.1 c).2 main_v13 (Pipeline.mem_restRefs_of main_v13 (by decide) (by decide))).trans (result32 m c _ rfl)⟩) (run_quiescent m ρ)

section
variable (m : (ℓ : Loc nD τ sig) → Buf (Elt Ideal) ℓ) (c : Dev nD) {Q K V' : ℕ → ℕ → ℕ → ℕ → ℝ}
  (A : Reals (m ((c.tc : Thread nD τ).loc main_arg0)) (m ((c.tc : Thread nD τ).loc main_arg1)) (m ((c.tc : Thread nD τ).loc main_arg2))
    (fun _ => 0) Q K V' fun _ _ _ _ => 0)
  (cap : ∀ b h i j, b < 4 → h < 8 → j < i → i < 2048 → Cert.Sb.Head.z (Q b h) (K b h) i j ≤ 60)

/-- A head's column among the launch's. -/
theorem cell_of (b n : ℕ) (h : Fin 8) (e : Fin 64) : cell Q K V' b n (64 * h.val + e.val) = Cert.Sb.Head.o (Q b h.val) (K b h.val) (V' b h.val) n e.val := by
  have h1 : (64 * h.val + e.val) / 128 = h.val / 2 := by omega
  have h2 : (64 * h.val + e.val) % 128 = 64 * (h.val % 2) + e.val := by omega
  rw [cell, lane, h1, h2]
  simp only [pairOf, head_of, lane_of]

theorem heads16_at (w : Vec Ideal S4x2048x512 .bf16) (hw : ∀ i, w i = (cell Q K V' (i 0).val (i 1).val (i 2).val : EReal))
    (b : Fin 4) (n : Fin 2048) (h : Fin 8) (e : Fin 64) :
    heads w (ix4 b n h e) = (Cert.Sb.Head.o (Q b.val h.val) (K b.val h.val) (V' b.val h.val) n.val e.val : EReal) := by
  rw [← cell_of]
  unfold heads
  pointwise
  rw [hw]
  show ((cell Q K V' b.val n.val (h.val * 64 + e.val) : ℝ) : EReal) = _
  rw [Nat.mul_comm h.val 64]

theorem heads32_at (w : Vec Ideal S4x2048x512 .f32) (hw : ∀ i, w i = (cell Q K V' (i 0).val (i 1).val (i 2).val : EReal))
    (b : Fin 4) (n : Fin 2048) (h : Fin 8) (e : Fin 64) :
    heads w (ix4 b n h e) = (Cert.Sb.Head.o (Q b.val h.val) (K b.val h.val) (V' b.val h.val) n.val e.val : EReal) := heads16_at w hw b n h e

include A cap

/-- The kernel's output in bfloat16 is the reference's, -/
theorem same16 : heads (e := .bf16) ((dats m 0 c).arrAt 1 cfg0.N) = Cert.SbfReferenceIdeal.Read.val_main_v21 (F := Ideal)
      (m ((c.tc : Thread nD τ).loc main_arg0)) (m ((c.tc : Thread nD τ).loc main_arg1)) (m ((c.tc : Thread nD τ).loc main_arg2)) := by
  funext i
  idx_vars i
  exact (heads16_at _ (array16_at m c A cap) i0 i1 i2 i3).trans (o16_at A i0 i1 i2 i3).symm

/-- and so is its output in float32. -/
theorem same32 : heads (e := .f32) ((dats m 0 c).arrAt 2 cfg0.N) = Cert.SbfReferenceIdeal.Read.val_main_v20 (F := Ideal)
      (m ((c.tc : Thread nD τ).loc main_arg0)) (m ((c.tc : Thread nD τ).loc main_arg1)) (m ((c.tc : Thread nD τ).loc main_arg2)) := by
  funext i
  idx_vars i
  exact (heads32_at _ (array32_at m c A cap) i0 i1 i2 i3).trans (o32_at A i0 i1 i2 i3).symm

end

/-- THE CLAIM: both programs run, and their two results agree. -/
theorem algebraic [Cert.Pre_moderate_forward.Facts] : algebraic_SbfKernelIdeal_SbfReferenceIdeal_pre_moderate_forward := by
  intro m ρ m' ρ' hpre hagree
  refine ⟨_, _, (θ_run defs _ _).mono (fun r h c => ⟨(h.2 c).1, (h.2 c).2, (h.1.1 c).1, (h.1.1 c).2.1, (h.1.1 c).2.2⟩)
    (θ_run_and (frame_run (F := Ideal) m ρ) (kernel_results m ρ)), ?_⟩
  refine (θ_run Cert.SbfReferenceIdeal.defs _ _).mono (fun _ h c => ?_) (Cert.SbfReferenceIdeal.Value.run (F := Ideal) m' ρ')
  obtain ⟨h0, h1, h2⟩ := hagree c
  obtain ⟨A, cap⟩ := reals_of (hpre c)
  obtain ⟨r0, r1, ra⟩ := h c
  refine ⟨r0.trans ?_, r1.trans ?_, ra⟩
  · rw [same16 m c A cap, ← h0, ← h1, ← h2]
    exact Cert.SbfReferenceIdeal.Read.val_main_v21_eq m' c
  · rw [same32 m c A cap, ← h0, ← h1, ← h2]
    exact Cert.SbfReferenceIdeal.Read.val_main_v20_eq m' c

/-- The reference runs and leaves its arguments and its counters as they were. -/
theorem quiescent_reference : quiescent_SbfReferenceIdeal := fun m ρ _ =>
  (θ_run Cert.SbfReferenceIdeal.defs _ _).mono (fun r h => ⟨fun c => (h c).2.2, sem_eq_zero_of_no_sems (by decide) r.2⟩)
    (Cert.SbfReferenceIdeal.Value.run (F := Ideal) m ρ)

theorem quiescent_kernel_pre [Cert.Pre_moderate_forward.Facts] : quiescent_SbfKernelIdeal_pre_moderate_forward :=
  fun m ρ _ => quiescent_ideal m ρ trivial

theorem quiescent_reference_pre [Cert.Pre_moderate_forward.Facts] : quiescent_SbfReferenceIdeal_pre_moderate_forward :=
  fun m ρ _ => quiescent_reference m ρ trivial

end Cert.Sbf

end
-- ==== Proof.Memf.Reference.lean ====
/-
  The reference's output of the memory attention, element by element, for any arguments.
-/
module

public import proofs.«01_k».proof.Proof.Mem.Row
public import proofs.«01_k».proof.Proof.Gen.MemfReferenceIdeal.Read
public import Idealize.ShloMosaic.Lib.Pointwise

@[expose] public section

set_option maxRecDepth 16384

noncomputable section

namespace Cert.Memf

open Idealize.ShloMosaic Idealize.ShloMosaic.TcCoe Idealize.ShloMosaic.Tactic Finset
open Cert.MemfReferenceIdeal Cert.MemfReferenceIdeal.Read Cert.Reals Cert.Mem

variable (q : FVec Ideal S4x2048x4x128 .f32) (k v : FVec Ideal S4x256x4x128 .f32) (b : Fin 4) (h : Fin 4) (n : Fin 2048)

/-- The scores of a query. -/
def scores (j : Fin 256) : EReal := (∑ x : Fin 128, q (ix4 b n h x) * k (ix4 b j h x)) * Ideal.ofBits FTy.f32 1035273459#32

theorem scores_at (j : Fin 256) : val_main_v2 (F := Ideal) q k (ix4 b h n j) = scores q k b h n j := by
  pointwise [val_main_v2, val_main_v0]
  rfl

/-- The largest entry of a row, and of it and the least of all. -/
theorem largest (y : FVec Ideal S4x4x2048x256 .f32) (z : FVec Ideal S_ .f32) :
    Host.reduce (FloatOps.maximumf (F := Ideal)) y z Gen.reducesTo_S4x4x2048x256_S4x4x2048_d3 Gen.h_S_ (ix3 b h n)
      = fold max (z (Shape.Idx.first Gen.h_S_)) (fun j : Fin 256 => y (ix4 b h n j)) univ := by
  refine (Host.reduce_eq_fold_single (max : EReal → EReal → EReal) y z Gen.reducesTo_S4x4x2048x256_S4x4x2048_d3 (by decide) Gen.h_S_ (ix3 b h n)).trans ?_
  refine congrArg (fun g => fold max (z (Shape.Idx.first Gen.h_S_)) g univ) (funext fun j => congrArg y (funext fun a => Fin.ext ?_))
  match a with | ⟨0, _⟩ => rfl | ⟨1, _⟩ => rfl | ⟨2, _⟩ => rfl | ⟨3, _⟩ => rfl

theorem largest_at : val_main_v3 (F := Ideal) q k (ix3 b h n) = top (scores q k b h n) := by
  rw [val_main_v3, largest, top, show val_main_cst_0 (F := Ideal) (Shape.Idx.first Gen.h_S_) = ⊥ from bits_neg_inf]
  simp only [scores_at]

theorem with_least (y : FVec Ideal S4x4x2048 .f32) :
    maximumf (val_main_v4 (F := Ideal)) y (ix3 b h n) = max (val_main_cst_1 (F := Ideal) ix0) (y (ix3 b h n)) := by
  pointwise [val_main_v4]

theorem top_at : val_main_v5 (F := Ideal) q k (ix3 b h n) = top (scores q k b h n) := by
  rw [val_main_v5, with_least, largest_at, show val_main_cst_1 (F := Ideal) ix0 = ⊥ from bits_neg_inf]
  exact max_eq_right bot_le

theorem top_along (j : Fin 256) : val_main_v7 (F := Ideal) q k (ix4 b h n j) = val_main_v5 (F := Ideal) q k (ix3 b h n) := by
  pointwise [val_main_v7, val_main_v6]

theorem raised_at (j : Fin 256) : val_main_v9 (F := Ideal) q k (ix4 b h n j) = raised (scores q k b h n) j := by
  pointwise [val_main_v9, val_main_v8]
  rw [scores_at, top_along, top_at]
  rfl

theorem total_at : val_main_v11 (F := Ideal) q k (ix4 b h n 0) = ∑ x, raised (scores q k b h n) x := by
  pointwise [val_main_v11, val_main_v10]
  simp only [raised_at]
  rw [show val_main_cst_2 (F := Ideal) (Shape.Idx.first Gen.h_S_) = 0 from Ideal.ofBits_zero_f32, zero_add]

theorem weight_at (j : Fin 256) : val_main_v13 (F := Ideal) q k (ix4 b h n j) = weight (scores q k b h n) j := by
  pointwise [val_main_v13, val_main_v12]
  rw [raised_at, total_at]
  rfl

/-- The output: the values, weighted. -/
theorem output_at (l : Fin 128) : val_main_v16 (F := Ideal) q k v (ix4 b n h l)
    = ∑ j, weight (scores q k b h n) j * v (ix4 b j h l) := by
  pointwise [val_main_v16, val_main_v15, val_main_v14]
  exact sum_congr rfl fun j _ => by rw [weight_at, mul_comm]

end Cert.Memf
-- ==== Proof.Memf.Kernel.lean ====
/-
  What the memory attention's forward launch leaves, element by element: point `4 b + h` of the grid has the columns of
  batch entry `b` and head `h`.
-/
module

public import proofs.«01_k».proof.Proof.Memf.Reference
public import proofs.«01_k».proof.Proof.Gen.MemfKernelIdeal.Frame
public import Idealize.ShloMosaic.Lib.Pipeline.ValueKit
public import Idealize.ShloMosaic.Lib.StableHlo.ReadAt

@[expose] public section

set_option maxRecDepth 16384

noncomputable section

namespace Cert.Memf

open Idealize.ShloMosaic Idealize.ShloMosaic.TcCoe Idealize.ShloMosaic.Tactic Finset
open Cert.MemfKernelIdeal Cert.MemfKernelIdeal.Gen Cert.Reals Cert.Mem

variable (m : (ℓ : Loc nD τ sig) → Buf (Elt Ideal) ℓ) (c : Dev nD)

abbrev argQ : FVec Ideal S4x2048x4x128 .f32 := m ((c.tc : Thread nD τ).loc main_arg0)
abbrev argK : FVec Ideal S4x256x4x128 .f32 := m ((c.tc : Thread nD τ).loc main_arg1)
abbrev argV : FVec Ideal S4x256x4x128 .f32 := m ((c.tc : Thread nD τ).loc main_arg2)

/-- The queries' columns after columns of zeros. -/
def packedQ (q : FVec Ideal S4x2048x4x128 .f32) : FVec Ideal S4x2048x2048 .bf16 :=
  concatenate S4x2048x2048 2 [⟨S4x2048x1536, broadcastInDim S4x2048x1536 ![] bcast_S_S4x2048x1536 (constant (F := Ideal) S_ .bf16 0x0000#16)⟩,
    ⟨S4x2048x512, truncf .bf16 (shapeCast S4x2048x512 q shapeCasts_S4x2048x4x128_S4x2048x512) bitsLt_bf16_f32⟩] concatenates_S4x2048x1536_S4x2048x512_S4x2048x2048_d2

/-- The keys' columns, then the values'. -/
def packedKV (k v : FVec Ideal S4x256x4x128 .f32) : FVec Ideal S4x256x1024 .bf16 :=
  truncf .bf16 (concatenate S4x256x1024 2 [⟨S4x256x512, shapeCast S4x256x512 k shapeCasts_S4x256x4x128_S4x256x512⟩,
    ⟨S4x256x512, shapeCast S4x256x512 v shapeCasts_S4x256x4x128_S4x256x512⟩] concatenates_S4x256x512_S4x256x512_S4x256x1024_d2) bitsLt_bf16_f32

theorem entry_q : V m c main_v3 = packedQ (argQ m c) := by
  unfold V V0
  simp only [List.flatten_cons, List.flatten_nil, List.append_nil]
  after_reads_simp
  rfl

theorem entry_kv : V m c main_v7 = packedKV (argK m c) (argV m c) := by
  unfold V V0
  simp only [List.flatten_cons, List.flatten_nil, List.append_nil]
  after_reads_simp
  rfl

variable (b h : Fin 4) (l : Fin 128)

theorem packedQ_at (q : FVec Ideal S4x2048x4x128 .f32) (n : Fin 2048) :
    packedQ q (ix3 b n ⟨1536 + (128 * h.val + l.val), by omega⟩) = q (ix4 b n h l) := by
  unfold packedQ
  pointwise

theorem packedKV_keys (k v : FVec Ideal S4x256x4x128 .f32) (j : Fin 256) :
    packedKV k v (ix3 b j ⟨128 * h.val + l.val, by omega⟩) = k (ix4 b j h l) := by
  unfold packedKV
  pointwise
  rw [dif_pos (by omega)]

theorem packedKV_values (k v : FVec Ideal S4x256x4x128 .f32) (j : Fin 256) :
    packedKV k v (ix3 b j ⟨512 + (128 * h.val + l.val), by omega⟩) = v (ix4 b j h l) := by
  unfold packedKV
  pointwise

theorem block_index : ∀ t : Fin cfg0.N, win0_0.index t = ![t.val / 4, 0, 12 + t.val % 4] ∧ win0_1.index t = ![t.val / 4, 0, t.val % 4]
    ∧ win0_2.index t = ![t.val / 4, 0, 4 + t.val % 4] ∧ win0_3.index t = ![t.val / 4, 0, t.val % 4] :=
  (by decide +kernel : ∀ t : Fin grid0.N, win0_0.index t = ![t.val / 4, 0, 12 + t.val % 4] ∧ win0_1.index t = ![t.val / 4, 0, t.val % 4]
    ∧ win0_2.index t = ![t.val / 4, 0, 4 + t.val % 4] ∧ win0_3.index t = ![t.val / 4, 0, t.val % 4])

section
variable (t : Fin cfg0.N) (hb : t.val / 4 = b.val) (hh : t.val % 4 = h.val)
include hb hh

theorem block_q (n : Fin 2048) : iblk m c 0 t (ix3 0 n l) = argQ m c (ix4 b n h l) := by
  refine Eq.trans ?_ (packedQ_at b h l _ n)
  rw [← entry_q m c]
  blk_simp [iblk]
  blk_ext [block_index]

theorem block_k (j : Fin 256) : iblk m c 1 t (ix3 0 j l) = argK m c (ix4 b j h l) := by
  refine Eq.trans ?_ (packedKV_keys b h l _ (argV m c) j)
  rw [← entry_kv m c]
  blk_simp [iblk]
  blk_ext [block_index]

theorem block_v (j : Fin 256) : iblk m c 2 t (ix3 0 j l) = argV m c (ix4 b j h l) := by
  refine Eq.trans ?_ (packedKV_values b h l (argK m c) _ j)
  rw [← entry_kv m c]
  blk_simp [iblk]
  blk_ext [block_index]

/-- What a point leaves: the reference's output of its head. -/
theorem left (n : Fin 2048) : out0_3 (iblk m c 0 t) (iblk m c 1 t) (iblk m c 2 t) (ix3 0 n l)
    = Cert.MemfReferenceIdeal.Read.val_main_v16 (F := Ideal) (argQ m c) (argK m c) (argV m c) (ix4 b n h l) := by
  rw [output_at]
  unfold out0_3
  frame_out
  unfold_payloads
  pointwise
  simp only [block_q m c b h _ t hb hh, block_k m c b h _ t hb hh, block_v m c b h _ t hb hh, bits_neg_inf]
  rfl

end

/-- An element of the output by the columns of its heads side by side. -/
def columns (x : FVec Ideal S4x2048x4x128 .bf16) (r : Fin 2048) (col : ℕ) : EReal :=
  x (ix4 b r ⟨col / 128 % 4, by omega⟩ ⟨col % 128, by omega⟩)

theorem columns_at (x : FVec Ideal S4x2048x4x128 .bf16) (r : Fin 2048) : columns b x r (128 * h.val + l.val) = x (ix4 b r h l) := by
  unfold columns
  have h1 : (⟨(128 * h.val + l.val) / 128 % 4, by omega⟩ : Fin 4) = h := Fin.ext (by show (128 * h.val + l.val) / 128 % 4 = h.val; omega)
  have h2 : (⟨(128 * h.val + l.val) % 128, by omega⟩ : Fin 128) = l := Fin.ext (by show (128 * h.val + l.val) % 128 = l.val; omega)
  rw [h1, h2]

/-- The launch's array: the reference's output, heads side by side. -/
theorem array (n : Fin 2048) : (dats m 0 c).arrAt 3 cfg0.N (ix3 b n ⟨128 * h.val + l.val, by omega⟩)
    = Cert.MemfReferenceIdeal.Read.val_main_v16 (F := Ideal) (argQ m c) (argK m c) (argV m c) (ix4 b n h l) := by
  rw [(dats m 0 c).arrAt_eq_of_covers 3
    (fun i : S4x2048x512.Idx => columns (i 0) (Cert.MemfReferenceIdeal.Read.val_main_v16 (F := Ideal) (argQ m c) (argK m c) (argV m c)) (i 1) (i 2).val)
    (by decide +kernel) fun t hf y => ?_]
  · exact columns_at b h l _ n
  · blk_simp
    rw [after0_3]
    idx_vars y
    have ht : t.val < 16 := t.isLt
    have h0 : y0 = 0 := Subsingleton.elim _ _
    subst h0
    refine (left m c ⟨t.val / 4, by omega⟩ ⟨t.val % 4, by omega⟩ y2 t rfl rfl y1).trans ?_
    unfold columns
    blk_ext [block_index]

end Cert.Memf
-- ==== Proof.Memf.Claim.lean ====
/-
  The memory attention's forward claim: kernel and reference leave the same output, whatever their arguments.
-/
module

public import proofs.«01_k».proof.Defs
public import proofs.«01_k».proof.Proof.Memf.Kernel
public import proofs.«01_k».proof.Proof.Gen.MemfKernel.Frame
public import proofs.«01_k».proof.Proof.Gen.MemfReferenceIdeal.Run
public import Idealize.ShloMosaic.Lib.Claim
public import Idealize.ShloMosaic.Lib.Quiescent

@[expose] public section

set_option maxRecDepth 16384

noncomputable section

namespace Cert.Memf

open Cert.MemfKernelIdeal Cert.MemfKernelIdeal.Gen
open Idealize.ShloMosaic Idealize.ShloMosaic.TcCoe Idealize.ShloMosaic.Tactic Idealize.SL.Sem Finset

/-- The output as the launch's array gives it. -/
def unpacked (x : FVec Ideal S4x2048x512 .bf16) : FVec Ideal S4x2048x4x128 .bf16 := shapeCast S4x2048x4x128 x shapeCasts_S4x2048x512_S4x2048x4x128

theorem unpacked_at (x : FVec Ideal S4x2048x512 .bf16) (b : Fin 4) (n : Fin 2048) (h : Fin 4) (l : Fin 128) :
    unpacked x (ix4 b n h l) = x (ix3 b n ⟨128 * h.val + l.val, by omega⟩) := by
  unfold unpacked
  pointwise
  simp only [Nat.mul_comm h.val 128]

variable (m : (ℓ : Loc nD τ sig) → Buf (Elt Ideal) ℓ) (c : Dev nD)

theorem result (w : FVec Ideal S4x2048x512 .bf16) (hw : (dats m 0 c).arrAt 3 cfg0.N = w) :
    Pipeline.afterTail₀ cfgs (dats m) 0 (V0 m) [hostOps1] c main_v9 = unpacked w := by
  unfold Pipeline.afterTail₀
  simp only [List.flatten_cons, List.flatten_nil, List.append_nil]
  after_reads_simp
  show unpacked (Pipeline.withArrays spec0 c (V0 m c) (fun w => (dats m 0 c).arrAt w cfg0.N) (Proc.devRef .tc main_v8)) = _
  rw [← hw]
  exact congrArg unpacked ((dats m 0 c).withArrays_arrAt sharedIn0 (V0 m c) (A_eq m c) 3)

/-- THE CLAIM: both programs run, and their outputs agree. -/
theorem algebraic : algebraic_MemfKernelIdeal_MemfReferenceIdeal := by
  intro m ρ m' ρ' hpre hagree
  have run : θ_run defs (onTc (τ := τ) (main (F := Ideal))) ⟨m, fun _ => 0, ρ⟩ (fun r => ∀ c : Dev nD,
      r.2.mem ((c.tc : Thread nD τ).loc main_v9) = unpacked ((dats m 0 c).arrAt 3 cfg0.N)) :=
    (θ_run defs _ _).mono (fun _ h c => ((h c).2 main_v9 (Pipeline.mem_restRefs_of main_v9 (by decide) (by decide))).trans (result m c _ rfl)) (run_main m ρ)
  refine ⟨_, (θ_run defs _ _).mono (fun r h c => ⟨h.2 c, (h.1 c).1, (h.1 c).2.1, (h.1 c).2.2⟩)
    (θ_run_and (unchanged (F := Ideal) m ρ) run), ?_⟩
  refine (θ_run Cert.MemfReferenceIdeal.defs _ _).mono (fun _ h c => ?_) (Cert.MemfReferenceIdeal.Value.run (F := Ideal) m' ρ')
  obtain ⟨h0, h1, h2⟩ := hagree c
  obtain ⟨r0, ra⟩ := h c
  have e0 : unpacked ((dats m 0 c).arrAt 3 cfg0.N) = Cert.MemfReferenceIdeal.Read.val_main_v16 (F := Ideal) (argQ m c) (argK m c) (argV m c) := by
    funext i; idx_vars i; rw [unpacked_at]; exact array m c i0 i2 i3 i1
  refine ⟨r0.trans ?_, ra⟩
  rw [e0, argQ, argK, argV, ← h0, ← h1, ← h2]
  rfl

/-- The kernel runs and leaves its arguments and its counters as they were, -/
theorem quiescent_words : quiescent_MemfKernel (hMemfKernel := Cert.MemfKernel.Gen.facts) := fun m ρ _ => Cert.MemfKernel.Gen.frame m ρ

theorem quiescent_ideal : quiescent_MemfKernelIdeal := fun m ρ _ => frame m ρ

/-- and so does the reference. -/
theorem quiescent_reference : quiescent_MemfReferenceIdeal := fun m ρ _ =>
  (θ_run Cert.MemfReferenceIdeal.defs _ _).mono (fun r h => ⟨fun c => (h c).2, sem_eq_zero_of_no_sems (by decide) r.2⟩)
    (Cert.MemfReferenceIdeal.Value.run (F := Ideal) m ρ)

end Cert.Memf
-- ==== Proof.Norm.Claim.lean ====
/-
  The norm in front of the mixer: kernel and reference leave the same rows, whatever their arguments.
-/
module

public import proofs.«01_k».proof.Defs
public import proofs.«01_k».proof.Proof.Norm
public import proofs.«01_k».proof.Proof.Gen.NormKernel.Frame
public import proofs.«01_k».proof.Proof.Gen.NormKernelIdeal.Value
public import proofs.«01_k».proof.Proof.Gen.NormReferenceIdeal.Read
public import Idealize.ShloMosaic.Lib.Claim
public import Idealize.ShloMosaic.Lib.Pointwise
public import Idealize.ShloMosaic.Lib.Quiescent
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Norm

open Cert.NormKernelIdeal Cert.NormKernelIdeal.Gen
open Idealize.ShloMosaic Idealize.ShloMosaic.TcCoe Idealize.ShloMosaic.Tactic Idealize.SL.Sem Finset

section
open Cert.NormReferenceIdeal.Read

variable (x : FVec Ideal S8192x1024 .f32) (g : FVec Ideal S1x1024 .f32) (i : Fin 8192) (j : Fin 1024)

theorem reference_scale : val_main_v7 (F := Ideal) x (ix2 i 0) = scale fun k : Fin 1024 => x (ix2 i k) := by
  unfold scale meanSq width small
  pointwise [val_main_v7, val_main_v6, val_main_v5, val_main_cst_1, val_main_v4, val_main_v3, val_main_cst_0, val_main_v2, val_main_v1, val_main_cst,
    val_main_v0]

/-- The reference: a row, normed, times the gain. -/
theorem reference_at : val_main_v12 (F := Ideal) x g (ix2 i j) = normed (fun k : Fin 1024 => x (ix2 i k)) j * g (ix2 0 j) := by
  rw [normed, ← reference_scale]
  pointwise [val_main_v12, val_main_v11, val_main_v10, val_main_v9, val_main_v8]

end

variable (m : (ℓ : Loc nD τ sig) → Buf (Elt Ideal) ℓ) (c : Dev nD)

abbrev argX : FVec Ideal S8192x1024 .f32 := m ((c.tc : Thread nD τ).loc main_arg0)
abbrev argG : FVec Ideal S1x1024 .f32 := m ((c.tc : Thread nD τ).loc main_arg1)

theorem block_index : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- Row `y` of the block of point `t`, as a row of the whole array. -/
def row (t : Fin cfg0.N) (y : Fin 512) : Fin 8192 := ⟨512 * t.val + y.val, by have := lt_of_lt_of_eq t.isLt N_0; omega⟩

section
variable (t : Fin cfg0.N) (y : Fin 512) (j : Fin 1024)

theorem block_x : iblk m c 0 t (ix2 y j) = argX m c (ix2 (row t y) j) := by
  unfold row
  blk_point [iblk, V, block_index]

theorem block_g : iblk m c 1 t (ix2 0 j) = argG m c (ix2 0 j) := by
  blk_point [iblk, V, block_index]

/-- What a point leaves. -/
theorem left_at : out0_2 (iblk m c 0 t) (iblk m c 1 t) (ix2 y j)
    = Cert.NormReferenceIdeal.Read.val_main_v12 (F := Ideal) (argX m c) (argG m c) (ix2 (row t y) j) := by
  rw [reference_at]
  frame_out
  unfold_payloads
  pointwise
  simp only [block_x, block_g]
  rfl

end

/-- The launch's array is the reference's result. -/
theorem array : (dats m 0 c).arrAt 2 cfg0.N = Cert.NormReferenceIdeal.Read.val_main_v12 (F := Ideal) (argX m c) (argG m c) := by
  refine (dats m 0 c).arrAt_eq_of_covers 2 _ (by decide +kernel) fun t hf y => ?_
  blk_simp
  rw [after0_2]
  idx_vars y
  refine (left_at m c t y0 y1).trans ?_
  unfold row
  blk_ext [block_index]

/-- THE CLAIM: both programs run, and their results agree. -/
theorem algebraic : algebraic_NormKernelIdeal_NormReferenceIdeal := by
  intro m ρ m' ρ' _ hagree
  refine ⟨fun c => (dats m 0 c).arrAt 2 cfg0.N, Cert.NormKernelIdeal.Value.run_blocks (F := Ideal) m ρ, ?_⟩
  refine (θ_run Cert.NormReferenceIdeal.defs _ _).mono (fun _ h c => ?_) (Cert.NormReferenceIdeal.Value.run (F := Ideal) m' ρ')
  obtain ⟨h0, h1⟩ := hagree c
  obtain ⟨r0, rest⟩ := h c
  refine ⟨r0.trans (Eq.trans ?_ (array m c).symm), rest⟩
  rw [argX, argG, ← h0, ← h1]
  exact Cert.NormReferenceIdeal.Read.val_main_v12_eq _ _

/-- The kernel runs and leaves its arguments and its counters as they were, -/
theorem quiescent_words : quiescent_NormKernel (hNormKernel := Cert.NormKernel.Gen.facts) := fun m ρ _ => Cert.NormKernel.Gen.frame m ρ

theorem quiescent_ideal : quiescent_NormKernelIdeal := fun m ρ _ => frame m ρ

/-- and so does the reference. -/
theorem quiescent_reference : quiescent_NormReferenceIdeal := fun m ρ _ =>
  (θ_run Cert.NormReferenceIdeal.defs _ _).mono (fun r h => ⟨fun c => (h c).2, sem_eq_zero_of_no_sems (by decide) r.2⟩)
    (Cert.NormReferenceIdeal.Value.run (F := Ideal) m ρ)

end Cert.Norm

end
-- ==== Proof.Ffn.Claim.lean ====
/-
  The feed-forward's first product and its gate: kernel and reference leave the same three arrays, whatever their
  arguments. Point `16 j + i` of the grid has rows `512 i …` and columns `1408 j …` of either half.
-/
module

public import proofs.«01_k».proof.Defs
public import proofs.«01_k».proof.Proof.Reals
public import proofs.«01_k».proof.Proof.Gen.FfnKernel.Frame
public import proofs.«01_k».proof.Proof.Gen.FfnKernelIdeal.Value
public import proofs.«01_k».proof.Proof.Gen.FfnReferenceIdeal.Read
public import Idealize.ShloMosaic.Lib.Claim
public import Idealize.ShloMosaic.Lib.Pointwise
public import Idealize.ShloMosaic.Lib.Quiescent
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Ffn

open Cert.FfnKernelIdeal Cert.FfnKernelIdeal.Gen
open Idealize.ShloMosaic Idealize.ShloMosaic.TcCoe Idealize.ShloMosaic.Tactic Idealize.SL.Sem Finset

variable (h : FVec Ideal S8192x1024 .f32) (w : FVec Ideal S1024x5632 .f32)

/-- Row `i` of the input against column `n` of the weight. -/
def product (i : Fin 8192) (n : Fin 5632) : EReal := ∑ k : Fin 1024, h (ix2 i k) * w (ix2 k n)

section
open Cert.FfnReferenceIdeal.Read

variable (i : Fin 8192) (j : Fin 2816)

theorem gate_at : val_main_v1 (F := Ideal) h w (ix2 i j) = product h w i ⟨j.val, by omega⟩ := by
  unfold product
  pointwise [val_main_v1, val_main_v0]

theorem up_at : val_main_v3 (F := Ideal) h w (ix2 i j) = product h w i ⟨2816 + j.val, by omega⟩ := by
  unfold product
  pointwise [val_main_v3, val_main_v0]

/-- The reference's results: the half that the nonlinearity takes, -/
theorem reference_gate : val_main_v6 (F := Ideal) h w (ix2 i j) = product h w i ⟨j.val, by omega⟩ := by
  unfold product
  pointwise [val_main_v6, val_main_v5, val_main_v0]

/-- the half that it multiplies, -/
theorem reference_up : val_main_v8 (F := Ideal) h w (ix2 i j) = product h w i ⟨2816 + j.val, by omega⟩ := by
  unfold product
  pointwise [val_main_v8, val_main_v7, val_main_v0]

theorem sigmoid_at : val_main_call0_v5 (F := Ideal) h w (ix2 i j) = Ideal.logistic (val_main_v1 (F := Ideal) h w (ix2 i j)) := by
  pointwise [val_main_call0_v5, val_main_call0_v4, val_main_call0_cst_0, val_main_call0_v3, val_main_call0_v2, val_main_call0_cst, val_main_call0_v1,
    val_main_call0_v0]
  rfl

/-- and the gated product. -/
theorem reference_gated : val_main_v9 (F := Ideal) h w (ix2 i j)
    = product h w i ⟨j.val, by omega⟩ * Ideal.logistic (product h w i ⟨j.val, by omega⟩) * product h w i ⟨2816 + j.val, by omega⟩ := by
  rw [← gate_at, ← up_at, ← sigmoid_at]
  pointwise [val_main_v9, val_main_v4, val_main_v2]

end

variable (m : (ℓ : Loc nD τ sig) → Buf (Elt Ideal) ℓ) (c : Dev nD)

abbrev argH : FVec Ideal S8192x1024 .f32 := m ((c.tc : Thread nD τ).loc main_arg0)
abbrev argW : FVec Ideal S1024x5632 .f32 := m ((c.tc : Thread nD τ).loc main_arg1)

theorem block_index : ∀ t : Fin cfg0.N, win0_0.index t = ![t.val % 16, 0] ∧ win0_1.index t = ![0, t.val / 16] ∧ win0_2.index t = ![0, t.val / 16 + 2]
    ∧ win0_3.index t = ![t.val % 16, t.val / 16] ∧ win0_4.index t = ![t.val % 16, t.val / 16] ∧ win0_5.index t = ![t.val % 16, t.val / 16] :=
  (by decide +kernel : ∀ t : Fin grid0.N, win0_0.index t = ![t.val % 16, 0] ∧ win0_1.index t = ![0, t.val / 16] ∧ win0_2.index t = ![0, t.val / 16 + 2]
    ∧ win0_3.index t = ![t.val % 16, t.val / 16] ∧ win0_4.index t = ![t.val % 16, t.val / 16] ∧ win0_5.index t = ![t.val % 16, t.val / 16])

/-- Row `y` of the block of point `t`, as a row of the whole array, -/
def row (t : Fin cfg0.N) (y : Fin 512) : Fin 8192 := ⟨512 * (t.val % 16) + y.val, by omega⟩

/-- and its column `n`. -/
def col (t : Fin cfg0.N) (n : Fin 1408) : Fin 2816 := ⟨1408 * (t.val / 16) + n.val, by have := lt_of_lt_of_eq t.isLt N_0; omega⟩

section
variable (t : Fin cfg0.N) (y : Fin 512) (k : Fin 1024) (n : Fin 1408)

theorem block_h : iblk m c 0 t (ix2 y k) = argH m c (ix2 (row t y) k) := by
  unfold row
  blk_point [iblk, V, block_index]

theorem block_gate : iblk m c 1 t (ix2 k n) = argW m c (ix2 k ⟨(col t n).val, by omega⟩) := by
  unfold col
  blk_point [iblk, V, block_index]

theorem block_up : iblk m c 2 t (ix2 k n) = argW m c (ix2 k ⟨2816 + (col t n).val, by omega⟩) := by
  unfold col
  blk_point [iblk, V, block_index]

/-! ### What a point leaves -/

theorem left_gate : out0_3 (iblk m c 0 t) (iblk m c 1 t) (iblk m c 2 t) (ix2 y n)
    = Cert.FfnReferenceIdeal.Read.val_main_v6 (F := Ideal) (argH m c) (argW m c) (ix2 (row t y) (col t n)) := by
  rw [reference_gate]
  frame_out
  unfold_payloads
  pointwise
  simp only [block_h, block_gate]
  rfl

theorem left_up : out0_4 (iblk m c 0 t) (iblk m c 1 t) (iblk m c 2 t) (ix2 y n)
    = Cert.FfnReferenceIdeal.Read.val_main_v8 (F := Ideal) (argH m c) (argW m c) (ix2 (row t y) (col t n)) := by
  rw [reference_up]
  frame_out
  unfold_payloads
  pointwise
  simp only [block_h, block_up]
  rfl

theorem left_gated : out0_5 (iblk m c 0 t) (iblk m c 1 t) (iblk m c 2 t) (ix2 y n)
    = Cert.FfnReferenceIdeal.Read.val_main_v9 (F := Ideal) (argH m c) (argW m c) (ix2 (row t y) (col t n)) := by
  rw [reference_gated]
  frame_out
  unfold_payloads
  pointwise
  simp only [block_h, block_gate, block_up]
  rfl

end

/-! ### The launch's arrays -/

theorem array_gate : (dats m 0 c).arrAt 3 cfg0.N = Cert.FfnReferenceIdeal.Read.val_main_v6 (F := Ideal) (argH m c) (argW m c) := by
  refine (dats m 0 c).arrAt_eq_of_covers 3 _ (by decide +kernel) fun t hf y => ?_
  blk_simp
  rw [after0_3]
  idx_vars y
  refine (left_gate m c t y0 y1).trans ?_
  unfold row col
  blk_ext [block_index]

theorem array_up : (dats m 0 c).arrAt 4 cfg0.N = Cert.FfnReferenceIdeal.Read.val_main_v8 (F := Ideal) (argH m c) (argW m c) := by
  refine (dats m 0 c).arrAt_eq_of_covers 4 _ (by decide +kernel) fun t hf y => ?_
  blk_simp
  rw [after0_4]
  idx_vars y
  refine (left_up m c t y0 y1).trans ?_
  unfold row col
  blk_ext [block_index]

theorem array_gated : (dats m 0 c).arrAt 5 cfg0.N = Cert.FfnReferenceIdeal.Read.val_main_v9 (F := Ideal) (argH m c) (argW m c) := by
  refine (dats m 0 c).arrAt_eq_of_covers 5 _ (by decide +kernel) fun t hf y => ?_
  blk_simp
  rw [after0_5]
  idx_vars y
  refine (left_gated m c t y0 y1).trans ?_
  unfold row col
  blk_ext [block_index]

/-- THE CLAIM: both programs run, and their three results agree. -/
theorem algebraic : algebraic_FfnKernelIdeal_FfnReferenceIdeal := by
  intro m ρ m' ρ' _ hagree
  refine ⟨fun c => (dats m 0 c).arrAt 3 cfg0.N, fun c => (dats m 0 c).arrAt 4 cfg0.N, fun c => (dats m 0 c).arrAt 5 cfg0.N,
    Cert.FfnKernelIdeal.Value.run_blocks (F := Ideal) m ρ, ?_⟩
  refine (θ_run Cert.FfnReferenceIdeal.defs _ _).mono (fun _ h c => ?_) (Cert.FfnReferenceIdeal.Value.run (F := Ideal) m' ρ')
  obtain ⟨h0, h1⟩ := hagree c
  obtain ⟨rg, ru, rp, rest⟩ := h c
  refine ⟨rg.trans (Eq.trans ?_ (array_gate m c).symm), ru.trans (Eq.trans ?_ (array_up m c).symm), rp.trans (Eq.trans ?_ (array_gated m c).symm), rest⟩
  · rw [argH, argW, ← h0, ← h1]
    exact Cert.FfnReferenceIdeal.Read.val_main_v6_eq _ _
  · rw [argH, argW, ← h0, ← h1]
    exact Cert.FfnReferenceIdeal.Read.val_main_v8_eq _ _
  · rw [argH, argW, ← h0, ← h1]
    exact Cert.FfnReferenceIdeal.Read.val_main_v9_eq _ _

/-- The kernel runs and leaves its arguments and its counters as they were, -/
theorem quiescent_words : quiescent_FfnKernel (hFfnKernel := Cert.FfnKernel.Gen.facts) := fun m ρ _ => Cert.FfnKernel.Gen.frame m ρ

theorem quiescent_ideal : quiescent_FfnKernelIdeal := fun m ρ _ => frame m ρ

/-- and so does the reference. -/
theorem quiescent_reference : quiescent_FfnReferenceIdeal := fun m ρ _ =>
  (θ_run Cert.FfnReferenceIdeal.defs _ _).mono (fun r h => ⟨fun c => (h c).2.2.2, sem_eq_zero_of_no_sems (by decide) r.2⟩)
    (Cert.FfnReferenceIdeal.Value.run (F := Ideal) m ρ)

end Cert.Ffn

end
-- ==== Proof.Merge.Reference.lean ====
/-
  The reference of the mixer's end, read at an index: the gated branches added up, their product with the output weight,
  the residual stream after it, and that stream normed.
-/
module

public import proofs.«01_k».proof.Proof.Norm
public import proofs.«01_k».proof.Proof.Gen.MergeReferenceIdeal.Read
public import Idealize.ShloMosaic.Lib.Pointwise

@[expose] public section

set_option maxRecDepth 16384

noncomputable section

namespace Cert.Merge

open Cert.MergeReferenceIdeal Cert.MergeReferenceIdeal.Read Cert.Norm
open Idealize.ShloMosaic Idealize.ShloMosaic.TcCoe Finset

variable (g : FVec Ideal S8192x3072 .f32) (ya yb yc : FVec Ideal S8192x1024 .f32) (b : FVec Ideal S1x3072 .f32)
  (w : FVec Ideal S1024x1024 .f32) (x : FVec Ideal S8192x1024 .f32) (gp gf : FVec Ideal S1x1024 .f32) (i : Fin 8192) (j : Fin 1024)

/-- The gate of row `i` at column `n` of the three branches side by side. -/
def gate (n : Fin 3072) : EReal := Ideal.logistic (g (ix2 i n) + b (ix2 0 n))

/-- The branches of row `i`, gated and added up, -/
def merged : EReal := gate g b i ⟨j.val, by omega⟩ * ya (ix2 i j) + gate g b i ⟨1024 + j.val, by omega⟩ * yb (ix2 i j)
  + gate g b i ⟨2048 + j.val, by omega⟩ * yc (ix2 i j)

/-- their product with the output weight, -/
def mixed : EReal := ∑ k : Fin 1024, merged g ya yb yc b i k * w (ix2 k j)

/-- and the residual stream after it. -/
def stream : EReal := x (ix2 i j) + normed (mixed g ya yb yc b w i) j * gp (ix2 0 j)

theorem v7_at (n : Fin 3072) : val_main_v7 (F := Ideal) g b (ix2 i n) = gate g b i n := by
  unfold gate
  pointwise [val_main_v7, val_main_v6, val_main_cst_0, val_main_v5, val_main_v4, val_main_cst, val_main_v3, val_main_v2, val_main_v1, val_main_v0]
  rfl

theorem v10_at : val_main_v10 (F := Ideal) g b (ix2 i j) = gate g b i ⟨j.val, by omega⟩ := by
  rw [← v7_at]
  pointwise [val_main_v10, val_main_v9, val_main_v8]

theorem v13_at : val_main_v13 (F := Ideal) g b (ix2 i j) = gate g b i ⟨1024 + j.val, by omega⟩ := by
  rw [← v7_at]
  pointwise [val_main_v13, val_main_v12, val_main_v8]

theorem v17_at : val_main_v17 (F := Ideal) g b (ix2 i j) = gate g b i ⟨2048 + j.val, by omega⟩ := by
  rw [← v7_at]
  pointwise [val_main_v17, val_main_v16, val_main_v8]

theorem v19_at : val_main_v19 (F := Ideal) g ya yb yc b (ix2 i j) = merged g ya yb yc b i j := by
  rw [merged, ← v10_at, ← v13_at, ← v17_at]
  pointwise [val_main_v19, val_main_v18, val_main_v15, val_main_v14, val_main_v11]

theorem v34_at : val_main_v34 (F := Ideal) g ya yb yc b (ix2 i j) = merged g ya yb yc b i j := by
  rw [← v19_at]
  pointwise [val_main_v34]

theorem v20_at : val_main_v20 (F := Ideal) g ya yb yc b w (ix2 i j) = mixed g ya yb yc b w i j := by
  unfold mixed
  simp only [← v19_at]
  pointwise [val_main_v20]

theorem v28_at : val_main_v28 (F := Ideal) g ya yb yc b w (ix2 i 0) = scale (mixed g ya yb yc b w i) := by
  unfold scale meanSq width small
  simp only [← v20_at]
  pointwise [val_main_v28, val_main_v27, val_main_v26, val_main_cst_3, val_main_v25, val_main_v24, val_main_cst_2, val_main_v23, val_main_v22,
    val_main_cst_1, val_main_v21]

theorem v33_at : val_main_v33 (F := Ideal) g ya yb yc b w x gp (ix2 i j) = stream g ya yb yc b w x gp i j := by
  rw [stream, normed, ← v28_at, ← v20_at]
  pointwise [val_main_v33, val_main_v32, val_main_v31, val_main_v30, val_main_v29]

theorem v42_at : val_main_v42 (F := Ideal) g ya yb yc b w x gp (ix2 i 0) = scale (stream g ya yb yc b w x gp i) := by
  unfold scale meanSq width small
  simp only [← v33_at]
  pointwise [val_main_v42, val_main_v41, val_main_v40, val_main_cst_6, val_main_v39, val_main_v38, val_main_cst_5, val_main_v37, val_main_v36,
    val_main_cst_4, val_main_v35]

theorem v47_at : val_main_v47 (F := Ideal) g ya yb yc b w x gp gf (ix2 i j) = normed (stream g ya yb yc b w x gp i) j * gf (ix2 0 j) := by
  rw [normed, ← v42_at, ← v33_at]
  pointwise [val_main_v47, val_main_v46, val_main_v45, val_main_v44, val_main_v43]

end Cert.Merge

end
-- ==== Proof.Merge.Kernel.lean ====
/-
  The kernel of the mixer's end: what each of its 16 points reads, what it leaves, and the arrays it fills.
-/
module

public import proofs.«01_k».proof.Proof.Merge.Reference
public import proofs.«01_k».proof.Proof.Gen.MergeKernelIdeal.Value
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Merge

open Cert.MergeKernelIdeal Cert.MergeKernelIdeal.Gen Cert.Norm
open Idealize.ShloMosaic Idealize.ShloMosaic.TcCoe Idealize.ShloMosaic.Tactic Idealize.SL.Sem Finset

/-! ### The body's arithmetic, for any blocks -/

section
variable (v : FVec Ideal S512x1024 .bf16) (w : FVec Ideal S1024x1024 .bf16) (x : FVec Ideal S512x1024 .f32) (p f : FVec Ideal S1x1024 .f32)
  (y : Fin 512) (j : Fin 1024)

/-- The product with the weight, at an entry. -/
theorem pay1_at : k0_pay1 v w (ix2 y j) = ∑ k : Fin 1024, v (ix2 y k) * w (ix2 k j) := by
  unfold k0_pay1
  pointwise

/-- The stream: the residual plus the product's row, normed and scaled. -/
theorem pay2_at : k0_pay2 v w x p (ix2 y j) = x (ix2 y j) + normed (fun n : Fin 1024 => k0_pay1 v w (ix2 y n)) j * p (ix2 0 j) := by
  unfold k0_pay2 normed scale meanSq width small
  generalize k0_pay1 v w = u
  pointwise

/-- The stream's row, normed and scaled. -/
theorem pay3_at : k0_pay3 v w x p f (ix2 y j) = normed (fun n : Fin 1024 => k0_pay2 v w x p (ix2 y n)) j * f (ix2 0 j) := by
  unfold k0_pay3 normed scale meanSq width small
  generalize k0_pay2 v w x p = u
  pointwise

end

variable (m : (ℓ : Loc nD τ sig) → Buf (Elt Ideal) ℓ) (c : Dev nD)

abbrev argG : FVec Ideal S8192x3072 .f32 := m ((c.tc : Thread nD τ).loc main_arg0)
abbrev argYa : FVec Ideal S8192x1024 .f32 := m ((c.tc : Thread nD τ).loc main_arg1)
abbrev argYb : FVec Ideal S8192x1024 .f32 := m ((c.tc : Thread nD τ).loc main_arg2)
abbrev argYc : FVec Ideal S8192x1024 .f32 := m ((c.tc : Thread nD τ).loc main_arg3)
abbrev argB : FVec Ideal S1x3072 .f32 := m ((c.tc : Thread nD τ).loc main_arg4)
abbrev argW : FVec Ideal S1024x1024 .f32 := m ((c.tc : Thread nD τ).loc main_arg5)
abbrev argX : FVec Ideal S8192x1024 .f32 := m ((c.tc : Thread nD τ).loc main_arg6)
abbrev argP : FVec Ideal S1x1024 .f32 := m ((c.tc : Thread nD τ).loc main_arg7)
abbrev argF : FVec Ideal S1x1024 .f32 := m ((c.tc : Thread nD τ).loc main_arg8)

theorem block_index : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0])

/-- Row `y` of the block of point `t`, as a row of the whole array. -/
def row (t : Fin cfg0.N) (y : Fin 512) : Fin 8192 := ⟨512 * t.val + y.val, by have := lt_of_lt_of_eq t.isLt N_0; omega⟩

section
variable (t : Fin cfg0.N) (y : Fin 512) (j k : Fin 1024) (n : Fin 3072)

theorem block_g : iblk m c 0 t (ix2 y n) = argG m c (ix2 (row t y) n) := by
  unfold row
  blk_point [iblk, V, block_index]

theorem block_ya : iblk m c 1 t (ix2 y j) = argYa m c (ix2 (row t y) j) := by
  unfold row
  blk_point [iblk, V, block_index]

theorem block_yb : iblk m c 2 t (ix2 y j) = argYb m c (ix2 (row t y) j) := by
  unfold row
  blk_point [iblk, V, block_index]

theorem block_yc : iblk m c 3 t (ix2 y j) = argYc m c (ix2 (row t y) j) := by
  unfold row
  blk_point [iblk, V, block_index]

theorem block_b : iblk m c 4 t (ix2 0 n) = argB m c (ix2 0 n) := by
  blk_point [iblk, V, block_index]

theorem block_w : iblk m c 5 t (ix2 k j) = argW m c (ix2 k j) := by
  blk_point [iblk, V, block_index]

theorem block_x : iblk m c 6 t (ix2 y j) = argX m c (ix2 (row t y) j) := by
  unfold row
  blk_point [iblk, V, block_index]

theorem block_p : iblk m c 7 t (ix2 0 j) = argP m c (ix2 0 j) := by
  blk_point [iblk, V, block_index]

theorem block_f : iblk m c 8 t (ix2 0 j) = argF m c (ix2 0 j) := by
  blk_point [iblk, V, block_index]

/-! ### What a point leaves -/

/-- The gated branches, added up, -/
theorem left_merged : out0_9 (iblk m c 0 t) (iblk m c 1 t) (iblk m c 2 t) (iblk m c 3 t) (iblk m c 4 t) (iblk m c 5 t) (iblk m c 6 t) (iblk m c 7 t)
      (iblk m c 8 t) (ix2 y j)
    = merged (argG m c) (argYa m c) (argYb m c) (argYc m c) (argB m c) (row t y) j := by
  frame_out
  unfold_payloads
  pointwise
  simp only [block_g, block_b, block_ya, block_yb, block_yc]
  rfl

theorem kept_merged : k0_pay5 (iblk m c 0 t) (iblk m c 1 t) (iblk m c 2 t) (iblk m c 3 t) (iblk m c 4 t) (iblk m c 5 t) (iblk m c 6 t) (iblk m c 7 t)
      (iblk m c 8 t) (ix2 y j)
    = merged (argG m c) (argYa m c) (argYb m c) (argYc m c) (argB m c) (row t y) j := by
  unfold k0_pay5
  frame_out
  unfold_payloads
  pointwise
  simp only [block_g, block_b, block_ya, block_yb, block_yc]
  rfl

/-- The body's product with the weight, of the merged row. -/
theorem mixed_at : k0_pay1 (k0_pay5 (iblk m c 0 t) (iblk m c 1 t) (iblk m c 2 t) (iblk m c 3 t) (iblk m c 4 t) (iblk m c 5 t) (iblk m c 6 t) (iblk m c 7 t)
      (iblk m c 8 t)) (iblk m c 5 t) (ix2 y j)
    = mixed (argG m c) (argYa m c) (argYb m c) (argYc m c) (argB m c) (argW m c) (row t y) j := by
  rw [pay1_at]
  simp only [kept_merged, block_w]
  rfl

/-- The body's stream, of the merged row. -/
theorem stream_at : k0_pay2 (k0_pay5 (iblk m c 0 t) (iblk m c 1 t) (iblk m c 2 t) (iblk m c 3 t) (iblk m c 4 t) (iblk m c 5 t) (iblk m c 6 t) (iblk m c 7 t)
      (iblk m c 8 t)) (iblk m c 5 t) (iblk m c 6 t) (iblk m c 7 t) (ix2 y j)
    = stream (argG m c) (argYa m c) (argYb m c) (argYc m c) (argB m c) (argW m c) (argX m c) (argP m c) (row t y) j := by
  rw [pay2_at]
  simp only [mixed_at, block_x, block_p]
  rfl

/-- their product with the weight, -/
theorem left_mixed : out0_10 (iblk m c 0 t) (iblk m c 1 t) (iblk m c 2 t) (iblk m c 3 t) (iblk m c 4 t) (iblk m c 5 t) (iblk m c 6 t) (iblk m c 7 t)
      (iblk m c 8 t) (ix2 y j)
    = mixed (argG m c) (argYa m c) (argYb m c) (argYc m c) (argB m c) (argW m c) (row t y) j := by
  frame_out
  exact mixed_at m c t y j

/-- the stream after it, -/
theorem left_stream : out0_11 (iblk m c 0 t) (iblk m c 1 t) (iblk m c 2 t) (iblk m c 3 t) (iblk m c 4 t) (iblk m c 5 t) (iblk m c 6 t) (iblk m c 7 t)
      (iblk m c 8 t) (ix2 y j)
    = stream (argG m c) (argYa m c) (argYb m c) (argYc m c) (argB m c) (argW m c) (argX m c) (argP m c) (row t y) j := by
  frame_out
  exact stream_at m c t y j

/-- and the stream, normed. -/
theorem left_normed : out0_12 (iblk m c 0 t) (iblk m c 1 t) (iblk m c 2 t) (iblk m c 3 t) (iblk m c 4 t) (iblk m c 5 t) (iblk m c 6 t) (iblk m c 7 t)
      (iblk m c 8 t) (ix2 y j)
    = normed (stream (argG m c) (argYa m c) (argYb m c) (argYc m c) (argB m c) (argW m c) (argX m c) (argP m c) (row t y)) j * argF m c (ix2 0 j) := by
  frame_out
  rw [pay3_at]
  simp only [stream_at, block_f]

end

/-! ### The launch's arrays -/

theorem array_merged : (dats m 0 c).arrAt 9 cfg0.N
    = Cert.MergeReferenceIdeal.Read.val_main_v34 (F := Ideal) (argG m c) (argYa m c) (argYb m c) (argYc m c) (argB m c) := by
  refine (dats m 0 c).arrAt_eq_of_covers 9 _ (by decide +kernel) fun t hf y => ?_
  blk_simp
  rw [after0_9]
  idx_vars y
  refine ((left_merged m c t y0 y1).trans (v34_at _ _ _ _ _ _ _).symm).trans ?_
  unfold row
  blk_ext [block_index]

theorem array_mixed : (dats m 0 c).arrAt 10 cfg0.N
    = Cert.MergeReferenceIdeal.Read.val_main_v20 (F := Ideal) (argG m c) (argYa m c) (argYb m c) (argYc m c) (argB m c) (argW m c) := by
  refine (dats m 0 c).arrAt_eq_of_covers 10 _ (by decide +kernel) fun t hf y => ?_
  blk_simp
  rw [after0_10]
  idx_vars y
  refine ((left_mixed m c t y0 y1).trans (v20_at _ _ _ _ _ _ _ _).symm).trans ?_
  unfold row
  blk_ext [block_index]

theorem array_stream : (dats m 0 c).arrAt 11 cfg0.N
    = Cert.MergeReferenceIdeal.Read.val_main_v33 (F := Ideal) (argG m c) (argYa m c) (argYb m c) (argYc m c) (argB m c) (argW m c) (argX m c) (argP m c) := by
  refine (dats m 0 c).arrAt_eq_of_covers 11 _ (by decide +kernel) fun t hf y => ?_
  blk_simp
  rw [after0_11]
  idx_vars y
  refine ((left_stream m c t y0 y1).trans (v33_at _ _ _ _ _ _ _ _ _ _).symm).trans ?_
  unfold row
  blk_ext [block_index]

theorem array_normed : (dats m 0 c).arrAt 12 cfg0.N
    = Cert.MergeReferenceIdeal.Read.val_main_v47 (F := Ideal) (argG m c) (argYa m c) (argYb m c) (argYc m c) (argB m c) (argW m c) (argX m c) (argP m c)
      (argF m c) := by
  refine (dats m 0 c).arrAt_eq_of_covers 12 _ (by decide +kernel) fun t hf y => ?_
  blk_simp
  rw [after0_12]
  idx_vars y
  refine ((left_normed m c t y0 y1).trans (v47_at _ _ _ _ _ _ _ _ _ _ _).symm).trans ?_
  unfold row
  blk_ext [block_index]

end Cert.Merge

end
-- ==== Proof.Merge.Claim.lean ====
/-
  The claim of the mixer's end: kernel and reference leave the same four arrays, whatever their arguments.
-/
module

public import proofs.«01_k».proof.Defs
public import proofs.«01_k».proof.Proof.Merge.Kernel
public import proofs.«01_k».proof.Proof.Gen.MergeKernel.Frame
public import Idealize.ShloMosaic.Lib.Claim
public import Idealize.ShloMosaic.Lib.Quiescent

@[expose] public section

set_option maxRecDepth 16384

noncomputable section

namespace Cert.Merge

open Cert.MergeKernelIdeal Cert.MergeKernelIdeal.Gen
open Idealize.ShloMosaic Idealize.ShloMosaic.TcCoe Idealize.ShloMosaic.Tactic Idealize.SL.Sem Finset

/-- THE CLAIM: both programs run, and their four results agree. -/
theorem algebraic : algebraic_MergeKernelIdeal_MergeReferenceIdeal := by
  intro m ρ m' ρ' _ hagree
  refine ⟨fun c => (dats m 0 c).arrAt 9 cfg0.N, fun c => (dats m 0 c).arrAt 10 cfg0.N, fun c => (dats m 0 c).arrAt 11 cfg0.N,
    fun c => (dats m 0 c).arrAt 12 cfg0.N, Cert.MergeKernelIdeal.Value.run_blocks (F := Ideal) m ρ, ?_⟩
  refine (θ_run Cert.MergeReferenceIdeal.defs _ _).mono (fun _ h c => ?_) (Cert.MergeReferenceIdeal.Value.run (F := Ideal) m' ρ')
  obtain ⟨h0, h1, h2, h3, h4, h5, h6, h7, h8⟩ := hagree c
  obtain ⟨r0, r1, r2, r3, rest⟩ := h c
  refine ⟨r0.trans (Eq.trans ?_ (array_merged m c).symm), r1.trans (Eq.trans ?_ (array_mixed m c).symm),
    r2.trans (Eq.trans ?_ (array_stream m c).symm), r3.trans (Eq.trans ?_ (array_normed m c).symm), rest⟩
  · rw [argG, argYa, argYb, argYc, argB, ← h0, ← h1, ← h2, ← h3, ← h4]
    exact Cert.MergeReferenceIdeal.Read.val_main_v34_eq _ _ _ _ _
  · rw [argG, argYa, argYb, argYc, argB, argW, ← h0, ← h1, ← h2, ← h3, ← h4, ← h5]
    exact Cert.MergeReferenceIdeal.Read.val_main_v20_eq _ _ _ _ _ _
  · rw [argG, argYa, argYb, argYc, argB, argW, argX, argP, ← h0, ← h1, ← h2, ← h3, ← h4, ← h5, ← h6, ← h7]
    exact Cert.MergeReferenceIdeal.Read.val_main_v33_eq m' c
  · rw [argG, argYa, argYb, argYc, argB, argW, argX, argP, argF, ← h0, ← h1, ← h2, ← h3, ← h4, ← h5, ← h6, ← h7, ← h8]
    exact Cert.MergeReferenceIdeal.Read.val_main_v47_eq m' c

/-- The kernel runs and leaves its arguments and its counters as they were, -/
theorem quiescent_words : quiescent_MergeKernel (hMergeKernel := Cert.MergeKernel.Gen.facts) := fun m ρ _ => Cert.MergeKernel.Gen.frame m ρ

theorem quiescent_ideal : quiescent_MergeKernelIdeal := fun m ρ _ => frame m ρ

/-- and so does the reference. -/
theorem quiescent_reference : quiescent_MergeReferenceIdeal := fun m ρ _ =>
  (θ_run Cert.MergeReferenceIdeal.defs _ _).mono (fun r h => ⟨fun c => (h c).2.2.2.2, sem_eq_zero_of_no_sems (by decide) r.2⟩)
    (Cert.MergeReferenceIdeal.Value.run (F := Ideal) m ρ)

end Cert.Merge

end
-- ==== Proof.Gw.Claim.lean ====
/-
  The gradient of `w_ffn_in`: the kernel adds the product of the tokens up over four points for every block of columns,
  the reference takes it at once, and both leave the same array, whatever their arguments.
-/
module

public import proofs.«01_k».proof.Defs
public import proofs.«01_k».proof.Proof.Gen.GwKernel.Frame
public import proofs.«01_k».proof.Proof.Gen.GwKernelIdeal.Value
public import proofs.«01_k».proof.Proof.Gen.GwReferenceIdeal.Read
public import Idealize.ShloMosaic.Lib.Claim
public import Idealize.ShloMosaic.Lib.Pointwise
public import Idealize.ShloMosaic.Lib.Quiescent
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Gw

open Cert.GwKernelIdeal Cert.GwKernelIdeal.Gen
open Idealize.ShloMosaic Idealize.ShloMosaic.TcCoe Idealize.ShloMosaic.Tactic Idealize.SL.Sem Finset

/-- The reference: a column of the input against a column of the cotangent, over all tokens. -/
theorem reference_at (h : FVec Ideal S8192x1024 .f32) (d : FVec Ideal S8192x5632 .f32) (i : Fin 1024) (n : Fin 5632) :
    Cert.GwReferenceIdeal.Read.val_main_v3 (F := Ideal) h d (ix2 i n) = ∑ r : Fin 8192, d (ix2 r n) * h (ix2 r i) := by
  open Cert.GwReferenceIdeal.Read in
  pointwise [val_main_v3, val_main_v2, val_main_v1]

variable (m : (ℓ : Loc nD τ sig) → Buf (Elt Ideal) ℓ) (c : Dev nD)

abbrev argH : FVec Ideal S8192x1024 .f32 := m ((c.tc : Thread nD τ).loc main_arg0)
abbrev argD : FVec Ideal S8192x5632 .f32 := m ((c.tc : Thread nD τ).loc main_arg2)

theorem block_index : ∀ t : Fin cfg0.N, win0_0.index t = ![t.val % 4, 0] ∧ win0_1.index t = ![t.val % 4, t.val / 4]
    ∧ win0_2.index t = ![0, t.val / 4] :=
  (by decide +kernel : ∀ t : Fin grid0.N, win0_0.index t = ![t.val % 4, 0] ∧ win0_1.index t = ![t.val % 4, t.val / 4]
    ∧ win0_2.index t = ![0, t.val / 4])

/-- Token `r` of the tokens of step `s`, as a token of all. -/
def token (s : ℕ) (r : Fin 2048) : Fin 8192 := ⟨2048 * (s % 4) + r.val, by omega⟩

/-- Column `j` of the block of point `t`, as a column of the whole array. -/
def col (t : Fin cfg0.N) (j : Fin 1408) : Fin 5632 := ⟨1408 * (t.val / 4) + j.val, by have := lt_of_lt_of_eq t.isLt N_0; omega⟩

/-- What step `s` adds to an entry. -/
def part (i : Fin 1024) (n : Fin 5632) (s : ℕ) : EReal := ∑ r : Fin 2048, argH m c (ix2 (token s r) i) * argD m c (ix2 (token s r) n)

section
variable (t : Fin cfg0.N) (i : Fin 1024) (j : Fin 1408) (r : Fin 2048)

theorem block_h : iblk m c 0 t (ix2 r i) = argH m c (ix2 (token t.val r) i) := by
  unfold token
  blk_point [iblk, V, block_index]

theorem block_d : iblk m c 1 t (ix2 r j) = argD m c (ix2 (token t.val r) (col t j)) := by
  unfold token col
  blk_point [iblk, V, block_index]

/-- The blocks that the point multiplies. -/
abbrev opnd0 : FVec Ideal S2048x1024 .bf16 := iblk m c 0 t
abbrev opnd1 : FVec Ideal S2048x1408 .bf16 := iblk m c 1 t

theorem part_at : ∑ r : Fin 2048, opnd0 m c t (ix2 r i) * opnd1 m c t (ix2 r j) = part m c i (col t j) t.val := by
  simp only [part, block_h, block_d]

/-- The sum so far, as a point leaves it, -/
abbrev held : FVec Ideal S1024x1408 .f32 := (outsAt0 m c t.val t.isLt).2

/-- and as a point finds it. -/
abbrev found : FVec Ideal S1024x1408 .f32 := (outsAt0 m c (t.val - 1) (by omega)).2

theorem held_first (h : t.val % 4 = 0) : held m c t (ix2 i j) = part m c i (col t j) t.val := by
  unfold held
  rw [← part_at, outsAt0_A m c t h (by omega) (by omega)]
  frame_out
  unfold k0_pay1
  pointwise

theorem held_next (h : t.val % 4 ≠ 0) (h3 : t.val % 4 ≠ 3) : held m c t (ix2 i j) = part m c i (col t j) t.val + found m c t (ix2 i j) := by
  unfold held
  rw [← part_at, outsAt0_B m c t h (by omega) h3]
  frame_out
  simp only [read_unread_whole]
  unfold k0_pay2
  pointwise

theorem left_at (h : t.val % 4 = 3) : (outsAt0 m c t.val t.isLt).1 (ix2 i j) = part m c i (col t j) t.val + found m c t (ix2 i j) := by
  rw [← part_at, outsAt0_C m c t (by omega) (by omega) h]
  frame_out
  simp only [read_unread_whole]
  unfold k0_pay3
  pointwise

theorem found_col (h : t.val % 4 ≠ 0) : col ⟨t.val - 1, by omega⟩ j = col t j :=
  Fin.ext (by show 1408 * ((t.val - 1) / 4) + j.val = 1408 * (t.val / 4) + j.val; omega)

theorem part_mod (n : Fin 5632) (s : ℕ) : part m c i n s = part m c i n (s % 4) := by
  simp only [part, token, Nat.mod_mod]
end

theorem held_at (s : ℕ) (hs : s < 3) (t : Fin cfg0.N) (h : t.val % 4 = s) (i : Fin 1024) (j : Fin 1408) :
    held m c t (ix2 i j) = ∑ k ∈ range (s + 1), part m c i (col t j) k := by
  induction s generalizing t with
  | zero => rw [held_first m c t i j h, part_mod, h, sum_range_one]
  | succ s ih =>
    have e := ih (by omega) ⟨t.val - 1, by omega⟩ (by show (t.val - 1) % 4 = s; omega)
    rw [found_col t j (by omega)] at e
    rw [held_next m c t i j (by omega) (by omega), sum_range_succ, ← e, part_mod, h]
    exact add_comm _ _

/-- All four steps together are the sum over all tokens. -/
theorem sum_parts (i : Fin 1024) (n : Fin 5632) : ∑ k ∈ range 4, part m c i n k = ∑ r : Fin 8192, argD m c (ix2 r n) * argH m c (ix2 r i) := by
  rw [← Fin.sum_mul_add_fin 4 2048 (fun r : Fin 8192 => argD m c (ix2 r n) * argH m c (ix2 r i)) rfl, ← Fin.sum_univ_eq_sum_range]
  refine sum_congr rfl fun k _ => sum_congr rfl fun r _ => ?_
  have e : token k.val r = ⟨k.val * 2048 + r.val, by omega⟩ := Fin.ext (by show 2048 * (k.val % 4) + r.val = k.val * 2048 + r.val; omega)
  rw [e, mul_comm]

/-- What the last point of a block of columns leaves. -/
theorem left_all (t : Fin cfg0.N) (h : t.val % 4 = 3) (i : Fin 1024) (j : Fin 1408) : (outsAt0 m c t.val t.isLt).1 (ix2 i j)
    = Cert.GwReferenceIdeal.Read.val_main_v3 (F := Ideal) (argH m c) (argD m c) (ix2 i (col t j)) := by
  have e := held_at m c 2 (by omega) ⟨t.val - 1, by omega⟩ (by show (t.val - 1) % 4 = 2; omega) i j
  rw [found_col t j (by omega)] at e
  rw [reference_at, ← sum_parts, sum_range_succ, ← e, left_at m c t i j h, part_mod, h]
  exact add_comm _ _

/-- The launch's array is the reference's result. -/
theorem array : (dats m 0 c).arrAt 2 cfg0.N = Cert.GwReferenceIdeal.Read.val_main_v3 (F := Ideal) (argH m c) (argD m c) := by
  refine (dats m 0 c).arrAt_eq_of_covers 2 _ (by decide +kernel) fun t hf y => ?_
  have ht : t.val % 4 = 3 := (flush0_2 t).mp hf
  blk_simp
  rw [after0_2]
  idx_vars y
  refine (left_all m c t ht y0 y1).trans ?_
  unfold col
  blk_ext [block_index]

/-- THE CLAIM: both programs run, and their results agree. -/
theorem algebraic : algebraic_GwKernelIdeal_GwReferenceIdeal := by
  intro m ρ m' ρ' _ hagree
  refine ⟨fun c => (dats m 0 c).arrAt 2 cfg0.N, Cert.GwKernelIdeal.Value.run_blocks (F := Ideal) m ρ, ?_⟩
  refine (θ_run Cert.GwReferenceIdeal.defs _ _).mono (fun _ h c => ?_) (Cert.GwReferenceIdeal.Value.run (F := Ideal) m' ρ')
  obtain ⟨h0, _, h2⟩ := hagree c
  obtain ⟨r0, rest⟩ := h c
  refine ⟨r0.trans (Eq.trans ?_ (array m c).symm), rest⟩
  rw [argH, argD, ← h0, ← h2]
  exact Cert.GwReferenceIdeal.Read.val_main_v3_eq _ _

/-- The kernel runs and leaves its arguments and its counters as they were, -/
theorem quiescent_words : quiescent_GwKernel (hGwKernel := Cert.GwKernel.Gen.facts) := fun m ρ _ => Cert.GwKernel.Gen.frame m ρ

theorem quiescent_ideal : quiescent_GwKernelIdeal := fun m ρ _ => frame m ρ

/-- and so does the reference. -/
theorem quiescent_reference : quiescent_GwReferenceIdeal := fun m ρ _ =>
  (θ_run Cert.GwReferenceIdeal.defs _ _).mono (fun r h => ⟨fun c => (h c).2, sem_eq_zero_of_no_sems (by decide) r.2⟩)
    (Cert.GwReferenceIdeal.Value.run (F := Ideal) m ρ)

end Cert.Gw

end
-- ==== Proof.Adam.Claim.lean ====
/-
  The sum of the eight devices' parts of a gradient and the optimiser's step: kernel and reference leave the same four
  arrays, whatever their arguments.
-/
module

public import proofs.«01_k».proof.Defs
public import proofs.«01_k».proof.Proof.Gen.AdamKernel.Frame
public import proofs.«01_k».proof.Proof.Gen.AdamKernelIdeal.Value
public import proofs.«01_k».proof.Proof.Gen.AdamReferenceIdeal.Read
public import Idealize.ShloMosaic.Lib.Claim
public import Idealize.ShloMosaic.Lib.Pointwise
public import Idealize.ShloMosaic.Lib.Quiescent
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Adam

open Cert.AdamKernelIdeal Cert.AdamKernelIdeal.Gen
open Idealize.ShloMosaic Idealize.ShloMosaic.TcCoe Idealize.ShloMosaic.Tactic Idealize.SL.Sem Finset

section
open Cert.AdamReferenceIdeal.Read

variable (p : FVec Ideal S8x1024x704 .f32) (w a b : FVec Ideal S1x1024x704 .f32) (i : Fin 1024) (j : Fin 704)

/-- A number as its word is read. -/
abbrev word (n : BitVec 32) : EReal := FloatOps.ofBits (F := Ideal) .f32 n

/-- The first moment's new value, -/
def first (a g : EReal) : EReal := word 0x3F666666#32 * a + word 0x3DCCCCCD#32 * g

/-- the second's, -/
def second (b g : EReal) : EReal := word 0x3F7FBE77#32 * b + word 0x3A83126F#32 * (g * g)

/-- and the weight's step. -/
def step (w a b g : EReal) : EReal := word 0xBA83126F#32 * (Ideal.div (Ideal.div (first a g) (word 0x3F26BD02#32))
  (Ideal.sqrt (Ideal.div (second b g) (word 0x3C231ACC#32)) + word 0x322BCC77#32) + word 0x3C23D70A#32 * w)

/-- The gradient: the sum of the eight parts. -/
def grad : EReal := ∑ s : Fin 8, p (ix3 s i j)

theorem reference_g : val_main_v1 (F := Ideal) p (ix3 0 i j) = grad p i j := by
  unfold grad
  pointwise [val_main_v1, val_main_v0, val_main_cst]

theorem reference_m : val_main_v6 (F := Ideal) p a (ix3 0 i j) = first (a (ix3 0 i j)) (grad p i j) := by
  rw [← reference_g]
  unfold first word
  pointwise [val_main_v6, val_main_v5, val_main_v4, val_main_cst_1, val_main_v3, val_main_v2, val_main_cst_0]

theorem reference_v : val_main_v12 (F := Ideal) p b (ix3 0 i j) = second (b (ix3 0 i j)) (grad p i j) := by
  rw [← reference_g]
  unfold second word
  pointwise [val_main_v12, val_main_v11, val_main_v10, val_main_cst_3, val_main_v9, val_main_v8, val_main_v7, val_main_cst_2]

theorem reference_d : val_main_v25 (F := Ideal) p w a b (ix3 0 i j) = step (w (ix3 0 i j)) (a (ix3 0 i j)) (b (ix3 0 i j)) (grad p i j) := by
  unfold step word
  rw [← reference_m, ← reference_v]
  pointwise [val_main_v25, val_main_v24, val_main_cst_8, val_main_v23, val_main_v22, val_main_v21, val_main_cst_7, val_main_v20, val_main_v19, val_main_v18, val_main_cst_6,
    val_main_v17, val_main_v16, val_main_v15, val_main_cst_5, val_main_v14, val_main_v13, val_main_cst_4]

end

variable (m : (ℓ : Loc nD τ sig) → Buf (Elt Ideal) ℓ) (c : Dev nD)

abbrev argP : FVec Ideal S8x1024x704 .f32 := m ((c.tc : Thread nD τ).loc main_arg0)
abbrev argW : FVec Ideal S1x1024x704 .f32 := m ((c.tc : Thread nD τ).loc main_arg1)
abbrev argM : FVec Ideal S1x1024x704 .f32 := m ((c.tc : Thread nD τ).loc main_arg2)
abbrev argV : FVec Ideal S1x1024x704 .f32 := m ((c.tc : Thread nD τ).loc main_arg3)

theorem block_index : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0] :=
  (by decide +kernel : ∀ t : Fin grid0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0])

/-- Row `y` of the block of point `t`, as a row of the whole array. -/
def row (t : Fin cfg0.N) (y : Fin 256) : Fin 1024 := ⟨256 * t.val + y.val, by have := lt_of_lt_of_eq t.isLt N_0; omega⟩

section
variable (t : Fin cfg0.N) (y : Fin 256) (j : Fin 704) (s : Fin 8)

theorem block_p : iblk m c 0 t (ix3 s y j) = argP m c (ix3 s (row t y) j) := by
  unfold row
  blk_point [iblk, V, block_index]

theorem block_w : iblk m c 1 t (ix3 0 y j) = argW m c (ix3 0 (row t y) j) := by
  unfold row
  blk_point [iblk, V, block_index]

theorem block_m : iblk m c 2 t (ix3 0 y j) = argM m c (ix3 0 (row t y) j) := by
  unfold row
  blk_point [iblk, V, block_index]

theorem block_v : iblk m c 3 t (ix3 0 y j) = argV m c (ix3 0 (row t y) j) := by
  unfold row
  blk_point [iblk, V, block_index]

/-- The eight parts, added up by a point. -/
theorem sum_at : k0_pay8 (iblk m c 0 t) (iblk m c 1 t) (iblk m c 2 t) (iblk m c 3 t) (ix2 y j) = grad (argP m c) (row t y) j := by
  unfold grad k0_pay8
  rw [Fin.sum_univ_eight]
  unfold_payloads
  pointwise
  simp only [block_p]

/-! What a point leaves: the gradient, the step, and the two moments. -/

theorem left_g : out0_4 (iblk m c 0 t) (iblk m c 1 t) (iblk m c 2 t) (iblk m c 3 t) (ix3 0 y j)
    = Cert.AdamReferenceIdeal.Read.val_main_v1 (F := Ideal) (argP m c) (ix3 0 (row t y) j) := by
  rw [reference_g, ← sum_at]
  frame_out
  unfold k0_pay4
  pointwise

theorem left_m : out0_6 (iblk m c 0 t) (iblk m c 1 t) (iblk m c 2 t) (iblk m c 3 t) (ix3 0 y j)
    = Cert.AdamReferenceIdeal.Read.val_main_v6 (F := Ideal) (argP m c) (argM m c) (ix3 0 (row t y) j) := by
  rw [reference_m, ← sum_at, ← block_m]
  unfold first word
  frame_out
  unfold k0_pay1 k0_pay5
  pointwise

theorem left_v : out0_7 (iblk m c 0 t) (iblk m c 1 t) (iblk m c 2 t) (iblk m c 3 t) (ix3 0 y j)
    = Cert.AdamReferenceIdeal.Read.val_main_v12 (F := Ideal) (argP m c) (argV m c) (ix3 0 (row t y) j) := by
  rw [reference_v, ← sum_at, ← block_v]
  unfold second word
  frame_out
  unfold k0_pay2 k0_pay6
  pointwise

theorem left_d : out0_5 (iblk m c 0 t) (iblk m c 1 t) (iblk m c 2 t) (iblk m c 3 t) (ix3 0 y j)
    = Cert.AdamReferenceIdeal.Read.val_main_v25 (F := Ideal) (argP m c) (argW m c) (argM m c) (argV m c) (ix3 0 (row t y) j) := by
  rw [reference_d, ← sum_at, ← block_w, ← block_m, ← block_v]
  unfold step first second word
  frame_out
  unfold k0_pay7 k0_pay5 k0_pay6
  pointwise

end

/-! ### The launch's arrays -/

theorem array_g : (dats m 0 c).arrAt 4 cfg0.N = Cert.AdamReferenceIdeal.Read.val_main_v1 (F := Ideal) (argP m c) := by
  refine (dats m 0 c).arrAt_eq_of_covers 4 _ (by decide +kernel) fun t hf y => ?_
  blk_simp
  rw [after0_4]
  idx_vars y
  obtain rfl : y0 = 0 := by omega
  refine (left_g m c t y1 y2).trans ?_
  unfold row
  blk_ext [block_index]

theorem array_d : (dats m 0 c).arrAt 5 cfg0.N = Cert.AdamReferenceIdeal.Read.val_main_v25 (F := Ideal) (argP m c) (argW m c) (argM m c) (argV m c) := by
  refine (dats m 0 c).arrAt_eq_of_covers 5 _ (by decide +kernel) fun t hf y => ?_
  blk_simp
  rw [after0_5]
  idx_vars y
  obtain rfl : y0 = 0 := by omega
  refine (left_d m c t y1 y2).trans ?_
  unfold row
  blk_ext [block_index]

theorem array_m : (dats m 0 c).arrAt 6 cfg0.N = Cert.AdamReferenceIdeal.Read.val_main_v6 (F := Ideal) (argP m c) (argM m c) := by
  refine (dats m 0 c).arrAt_eq_of_covers 6 _ (by decide +kernel) fun t hf y => ?_
  blk_simp
  rw [after0_6]
  idx_vars y
  obtain rfl : y0 = 0 := by omega
  refine (left_m m c t y1 y2).trans ?_
  unfold row
  blk_ext [block_index]

theorem array_v : (dats m 0 c).arrAt 7 cfg0.N = Cert.AdamReferenceIdeal.Read.val_main_v12 (F := Ideal) (argP m c) (argV m c) := by
  refine (dats m 0 c).arrAt_eq_of_covers 7 _ (by decide +kernel) fun t hf y => ?_
  blk_simp
  rw [after0_7]
  idx_vars y
  obtain rfl : y0 = 0 := by omega
  refine (left_v m c t y1 y2).trans ?_
  unfold row
  blk_ext [block_index]

/-- THE CLAIM: both programs run, and their four results agree. -/
theorem algebraic : algebraic_AdamKernelIdeal_AdamReferenceIdeal := by
  intro m ρ m' ρ' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Cert.AdamKernelIdeal.Value.run_blocks (F := Ideal) m ρ, ?_⟩
  refine (θ_run Cert.AdamReferenceIdeal.defs _ _).mono (fun _ h c => ?_) (Cert.AdamReferenceIdeal.Value.run (F := Ideal) m' ρ')
  obtain ⟨h0, h1, h2, h3⟩ := hagree c
  obtain ⟨r0, r1, r2, r3, rest⟩ := h c
  refine ⟨r0.trans (Eq.trans ?_ (array_g m c).symm), r1.trans (Eq.trans ?_ (array_d m c).symm),
    r2.trans (Eq.trans ?_ (array_m m c).symm), r3.trans (Eq.trans ?_ (array_v m c).symm), rest⟩
  · rw [argP, ← h0]
    exact Cert.AdamReferenceIdeal.Read.val_main_v1_eq _
  · rw [argP, argW, argM, argV, ← h0, ← h1, ← h2, ← h3]
    exact Cert.AdamReferenceIdeal.Read.val_main_v25_eq _ _ _ _
  · rw [argP, argM, ← h0, ← h2]
    exact Cert.AdamReferenceIdeal.Read.val_main_v6_eq _ _
  · rw [argP, argV, ← h0, ← h3]
    exact Cert.AdamReferenceIdeal.Read.val_main_v12_eq _ _

/-- The kernel runs and leaves its arguments and its counters as they were, -/
theorem quiescent_words : quiescent_AdamKernel (hAdamKernel := Cert.AdamKernel.Gen.facts) := fun m ρ _ => Cert.AdamKernel.Gen.frame m ρ

theorem quiescent_ideal : quiescent_AdamKernelIdeal := fun m ρ _ => frame m ρ

/-- and so does the reference. -/
theorem quiescent_reference : quiescent_AdamReferenceIdeal := fun m ρ _ =>
  (θ_run Cert.AdamReferenceIdeal.defs _ _).mono (fun r h => ⟨fun c => (h c).2.2.2.2, sem_eq_zero_of_no_sems (by decide) r.2⟩)
    (Cert.AdamReferenceIdeal.Value.run (F := Ideal) m ρ)

end Cert.Adam

end
-- ==== Proof.Small.Claim.lean ====
/-
  The sums over tokens of the gains', the bias' and the loss' parts: the kernel packs them into rows, adds the eight devices'
  parts up, takes the optimiser's step for the first eight rows and makes the loss of the ninth. The reference adds every
  parameter's parts up by itself. Both leave the same five arrays, whatever their arguments.
-/
module

public import proofs.«01_k».proof.Defs
public import proofs.«01_k».proof.Proof.Gen.SmallKernel.Frame
public import proofs.«01_k».proof.Proof.Gen.SmallKernelIdeal.Value
public import proofs.«01_k».proof.Proof.Gen.SmallReferenceIdeal.Read
public import Idealize.ShloMosaic.Lib.Claim
public import Idealize.ShloMosaic.Lib.Pointwise
public import Idealize.ShloMosaic.Lib.Quiescent
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Small

open Cert.SmallKernelIdeal Cert.SmallKernelIdeal.Gen
open Idealize.ShloMosaic Idealize.ShloMosaic.TcCoe Idealize.ShloMosaic.Tactic Idealize.SL.Sem Finset

section
variable (w a b g : EReal)

/-- A number as its word is read. -/
abbrev word (n : BitVec 32) : EReal := FloatOps.ofBits (F := Ideal) .f32 n

/-- The first moment's new value, -/
def first (a g : EReal) : EReal := word 0x3F666666#32 * a + word 0x3DCCCCCD#32 * g

/-- the second's, -/
def second (b g : EReal) : EReal := word 0x3F7FBE77#32 * b + word 0x3A83126F#32 * (g * g)

/-- and the weight's step. -/
def step (w a b g : EReal) : EReal := word 0xBA83126F#32 * (Ideal.div (Ideal.div (first a g) (word 0x3F26BD02#32))
  (Ideal.sqrt (Ideal.div (second b g) (word 0x3C231ACC#32)) + word 0x322BCC77#32) + word 0x3C23D70A#32 * w)

end

/-! ### Packing -/

section
/-- The parts, the loss's and seven rows of zeros, packed. -/
def packed (p0 p1 p2 p3 p4 : FVec Ideal S8x1x1024 .f32) (p5 : FVec Ideal S8x1x3072 .f32) (l : FVec Ideal S8x1x1024 .f32) : FVec Ideal S8x16x1024 .f32 :=
  concatenate S8x16x1024 1 [⟨S8x8x1024, concatenate S8x8x1024 1 [⟨S8x1x1024, p0⟩, ⟨S8x1x1024, p1⟩, ⟨S8x1x1024, p2⟩, ⟨S8x1x1024, p3⟩, ⟨S8x1x1024, p4⟩,
      ⟨S8x3x1024, shapeCast S8x3x1024 p5 shapeCasts_S8x1x3072_S8x3x1024⟩]
      concatenates_S8x1x1024_S8x1x1024_S8x1x1024_S8x1x1024_S8x1x1024_S8x3x1024_S8x8x1024_d1⟩,
    ⟨S8x1x1024, l⟩, ⟨S8x7x1024, broadcastInDim S8x7x1024 ![] bcast_S_S8x7x1024 (constant (F := Ideal) S_ .f32 0x00000000#32)⟩]
    concatenates_S8x8x1024_S8x1x1024_S8x7x1024_S8x16x1024_d1

variable (p0 p1 p2 p3 p4 : FVec Ideal S8x1x1024 .f32) (p5 : FVec Ideal S8x1x3072 .f32) (l : FVec Ideal S8x1x1024 .f32)

theorem packed_loss (s : Fin 8) (j : Fin 1024) : packed p0 p1 p2 p3 p4 p5 l (ix3 s 8 j) = l (ix3 s 0 j) := by
  unfold packed
  pointwise

theorem packed_sum (i : Fin 8) (j : Fin 1024) : ∑ s : Fin 8, packed p0 p1 p2 p3 p4 p5 l (ix3 s ⟨i.val, by omega⟩ j)
    = Cert.SmallReferenceIdeal.Read.val_main_v7 (F := Ideal) p0 p1 p2 p3 p4 p5 (ix2 i j) := by
  open Cert.SmallReferenceIdeal.Read in
  unfold packed
  obtain ⟨i, hi⟩ := i
  interval_cases i
  · pointwise [val_main_v7, val_main_v0, val_main_cst]
  · pointwise [val_main_v7, val_main_v1, val_main_cst_0]
  · pointwise [val_main_v7, val_main_v2, val_main_cst_1]
  · pointwise [val_main_v7, val_main_v3, val_main_cst_2]
  · pointwise [val_main_v7, val_main_v4, val_main_cst_3]
  all_goals pointwise [val_main_v7, val_main_v6, val_main_v5, val_main_cst_4]

end

variable (m : (ℓ : Loc nD τ sig) → Buf (Elt Ideal) ℓ) (c : Dev nD)

/-! The arguments: the weights, their two moments and their gradients' parts, six of each, and the loss' parts. -/

abbrev arg0 : FVec Ideal S1x1024 .f32 := m ((c.tc : Thread nD τ).loc main_arg0)
abbrev arg1 : FVec Ideal S1x1024 .f32 := m ((c.tc : Thread nD τ).loc main_arg1)
abbrev arg2 : FVec Ideal S1x1024 .f32 := m ((c.tc : Thread nD τ).loc main_arg2)
abbrev arg3 : FVec Ideal S1x1024 .f32 := m ((c.tc : Thread nD τ).loc main_arg3)
abbrev arg4 : FVec Ideal S1x1024 .f32 := m ((c.tc : Thread nD τ).loc main_arg4)
abbrev arg5 : FVec Ideal S1x3072 .f32 := m ((c.tc : Thread nD τ).loc main_arg5)
abbrev arg6 : FVec Ideal S1x1024 .f32 := m ((c.tc : Thread nD τ).loc main_arg6)
abbrev arg7 : FVec Ideal S1x1024 .f32 := m ((c.tc : Thread nD τ).loc main_arg7)
abbrev arg8 : FVec Ideal S1x1024 .f32 := m ((c.tc : Thread nD τ).loc main_arg8)
abbrev arg9 : FVec Ideal S1x1024 .f32 := m ((c.tc : Thread nD τ).loc main_arg9)
abbrev arg10 : FVec Ideal S1x1024 .f32 := m ((c.tc : Thread nD τ).loc main_arg10)
abbrev arg11 : FVec Ideal S1x3072 .f32 := m ((c.tc : Thread nD τ).loc main_arg11)
abbrev arg12 : FVec Ideal S1x1024 .f32 := m ((c.tc : Thread nD τ).loc main_arg12)
abbrev arg13 : FVec Ideal S1x1024 .f32 := m ((c.tc : Thread nD τ).loc main_arg13)
abbrev arg14 : FVec Ideal S1x1024 .f32 := m ((c.tc : Thread nD τ).loc main_arg14)
abbrev arg15 : FVec Ideal S1x1024 .f32 := m ((c.tc : Thread nD τ).loc main_arg15)
abbrev arg16 : FVec Ideal S1x1024 .f32 := m ((c.tc : Thread nD τ).loc main_arg16)
abbrev arg17 : FVec Ideal S1x3072 .f32 := m ((c.tc : Thread nD τ).loc main_arg17)
abbrev arg18 : FVec Ideal S8x1x1024 .f32 := m ((c.tc : Thread nD τ).loc main_arg18)
abbrev arg19 : FVec Ideal S8x1x1024 .f32 := m ((c.tc : Thread nD τ).loc main_arg19)
abbrev arg20 : FVec Ideal S8x1x1024 .f32 := m ((c.tc : Thread nD τ).loc main_arg20)
abbrev arg21 : FVec Ideal S8x1x1024 .f32 := m ((c.tc : Thread nD τ).loc main_arg21)
abbrev arg22 : FVec Ideal S8x1x1024 .f32 := m ((c.tc : Thread nD τ).loc main_arg22)
abbrev arg23 : FVec Ideal S8x1x3072 .f32 := m ((c.tc : Thread nD τ).loc main_arg23)
abbrev arg24 : FVec Ideal S8x1x1024 .f32 := m ((c.tc : Thread nD τ).loc main_arg24)

/-- The gradients, the sums of their parts, packed; -/
abbrev packedG : FVec Ideal S8x1024 .f32 := Cert.SmallReferenceIdeal.Read.val_main_v7 (F := Ideal) (arg18 m c) (arg19 m c) (arg20 m c) (arg21 m c) (arg22 m c) (arg23 m c)

/-- the weights, -/
abbrev packedW : FVec Ideal S8x1024 .f32 := Cert.SmallReferenceIdeal.Read.val_main_v9 (F := Ideal) (arg0 m c) (arg1 m c) (arg2 m c) (arg3 m c) (arg4 m c) (arg5 m c)

/-- the first moments -/
abbrev packedM : FVec Ideal S8x1024 .f32 := Cert.SmallReferenceIdeal.Read.val_main_v11 (F := Ideal) (arg6 m c) (arg7 m c) (arg8 m c) (arg9 m c) (arg10 m c) (arg11 m c)

/-- and the second ones. -/
abbrev packedV : FVec Ideal S8x1024 .f32 := Cert.SmallReferenceIdeal.Read.val_main_v13 (F := Ideal) (arg12 m c) (arg13 m c) (arg14 m c) (arg15 m c) (arg16 m c) (arg17 m c)

theorem entry_p : V m c main_v3 = packed (arg18 m c) (arg19 m c) (arg20 m c) (arg21 m c) (arg22 m c) (arg23 m c) (arg24 m c) := by
  unfold V
  after_reads_simp
  rfl

theorem entry_w : V m c main_v5 = packedW m c := by
  unfold V
  after_reads_simp
  rfl

theorem entry_m : V m c main_v7 = packedM m c := by
  unfold V
  after_reads_simp
  rfl

theorem entry_v : V m c main_v9 = packedV m c := by
  unfold V
  after_reads_simp
  rfl

/-! ### The reference's results -/

abbrev resultM : FVec Ideal S8x1024 .f32 := Cert.SmallReferenceIdeal.Read.val_main_v18 (F := Ideal) (arg6 m c) (arg7 m c) (arg8 m c) (arg9 m c) (arg10 m c) (arg11 m c)
    (arg18 m c) (arg19 m c) (arg20 m c) (arg21 m c) (arg22 m c) (arg23 m c)

abbrev resultV : FVec Ideal S8x1024 .f32 := Cert.SmallReferenceIdeal.Read.val_main_v24 (F := Ideal) (arg12 m c) (arg13 m c) (arg14 m c) (arg15 m c) (arg16 m c) (arg17 m c)
    (arg18 m c) (arg19 m c) (arg20 m c) (arg21 m c) (arg22 m c) (arg23 m c)

abbrev resultD : FVec Ideal S8x1024 .f32 := Cert.SmallReferenceIdeal.Read.val_main_v37 (F := Ideal) (arg0 m c) (arg1 m c) (arg2 m c) (arg3 m c) (arg4 m c) (arg5 m c)
    (arg6 m c) (arg7 m c) (arg8 m c) (arg9 m c) (arg10 m c) (arg11 m c)
    (arg12 m c) (arg13 m c) (arg14 m c) (arg15 m c) (arg16 m c) (arg17 m c)
    (arg18 m c) (arg19 m c) (arg20 m c) (arg21 m c) (arg22 m c) (arg23 m c)

abbrev resultLoss : FVec Ideal S8x128 .f32 := Cert.SmallReferenceIdeal.Read.val_main_v40 (F := Ideal) (arg24 m c)

section
open Cert.SmallReferenceIdeal.Read

variable (i : Fin 8) (j : Fin 1024)

theorem reference_m : resultM m c (ix2 i j) = first (packedM m c (ix2 i j)) (packedG m c (ix2 i j)) := by
  unfold first word
  pointwise [val_main_v18, val_main_v17, val_main_v16, val_main_cst_6, val_main_v15, val_main_v14, val_main_cst_5]

theorem reference_v : resultV m c (ix2 i j) = second (packedV m c (ix2 i j)) (packedG m c (ix2 i j)) := by
  unfold second word
  pointwise [val_main_v24, val_main_v23, val_main_v22, val_main_cst_8, val_main_v21, val_main_v20, val_main_v19, val_main_cst_7]

theorem reference_d : resultD m c (ix2 i j) = step (packedW m c (ix2 i j)) (packedM m c (ix2 i j)) (packedV m c (ix2 i j)) (packedG m c (ix2 i j)) := by
  unfold step word
  rw [← reference_m, ← reference_v]
  pointwise [val_main_v37, val_main_v36, val_main_cst_13, val_main_v35, val_main_v34, val_main_v33, val_main_cst_12, val_main_v32, val_main_v31, val_main_v30, val_main_cst_11,
    val_main_v29, val_main_v28, val_main_v27, val_main_cst_10, val_main_v26, val_main_v25, val_main_cst_9]

theorem reference_loss (y : Fin 128) : resultLoss m c (ix2 i y) = word 0x3A000000#32 * ∑ j : Fin 1024, ∑ s : Fin 8, arg24 m c (ix3 s 0 j) := by
  unfold word
  rw [Finset.sum_comm]
  pointwise [val_main_v40, val_main_v39, val_main_cst_15, val_main_v38, val_main_cst_14]
  simp only [Finset.univ_unique, Finset.sum_singleton]
  rfl

end

/-! ### The kernel's blocks, each of them the whole array -/

theorem block_index : ∀ t : Fin cfg0.N, win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] :=
  (by decide +kernel : ∀ t : Fin grid0.N, win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0])

section
variable (t : Fin cfg0.N) (i : Fin 8) (j : Fin 1024) (r : Fin 16) (s : Fin 8)

theorem block_p : iblk m c 0 t (ix3 s r j) = packed (arg18 m c) (arg19 m c) (arg20 m c) (arg21 m c) (arg22 m c) (arg23 m c) (arg24 m c) (ix3 s r j) := by
  rw [← entry_p m c]
  blk_simp [iblk]
  blk_ext [block_index]

theorem block_w : iblk m c 1 t (ix2 i j) = packedW m c (ix2 i j) := by
  rw [← entry_w m c]
  blk_simp [iblk]
  blk_ext [block_index]

theorem block_m : iblk m c 2 t (ix2 i j) = packedM m c (ix2 i j) := by
  rw [← entry_m m c]
  blk_simp [iblk]
  blk_ext [block_index]

theorem block_v : iblk m c 3 t (ix2 i j) = packedV m c (ix2 i j) := by
  rw [← entry_v m c]
  blk_simp [iblk]
  blk_ext [block_index]

/-- The eight parts, added up. -/
theorem total_at (x0 x1 x2 x3 x4 x5 x6 x7 : FVec Ideal S1x16x1024 .f32) : k0_pay1 x0 x1 x2 x3 x4 x5 x6 x7 (ix2 r j)
    = x0 (ix3 0 r j) + x1 (ix3 0 r j) + x2 (ix3 0 r j) + x3 (ix3 0 r j) + x4 (ix3 0 r j) + x5 (ix3 0 r j) + x6 (ix3 0 r j) + x7 (ix3 0 r j) := by
  unfold k0_pay1
  pointwise

/-- The first eight rows of the sum. -/
theorem sum_at : k0_pay9 (iblk m c 0 t) (iblk m c 1 t) (iblk m c 2 t) (iblk m c 3 t) (ix2 i j) = packedG m c (ix2 i j) := by
  refine Eq.trans ?_ (packed_sum _ _ _ _ _ _ (arg24 m c) i j)
  unfold k0_pay9
  rw [Fin.sum_univ_eight]
  unfold_payloads
  pointwise
  simp only [block_p]

/-- The loss the kernel makes of a sum. -/
theorem loss_at (v : FVec Ideal S16x1024 .f32) (y : Fin 128) : k0_pay8 v (ix2 i y) = word 0x3A000000#32 * ∑ j : Fin 1024, v (ix2 8 j) := by
  unfold k0_pay8 word
  pointwise

/-! What the kernel leaves: the gradient, the step, the two moments and the loss. -/

theorem left_g : out0_4 (iblk m c 0 t) (iblk m c 1 t) (iblk m c 2 t) (iblk m c 3 t) (ix2 i j)
    = packedG m c (ix2 i j) := by
  rw [← sum_at m c t]
  unfold k0_pay9
  frame_out

theorem left_m : out0_6 (iblk m c 0 t) (iblk m c 1 t) (iblk m c 2 t) (iblk m c 3 t) (ix2 i j)
    = resultM m c (ix2 i j) := by
  rw [reference_m, ← sum_at m c t, ← block_m m c t]
  unfold first word
  frame_out
  unfold k0_pay5 k0_pay10 k0_pay4
  pointwise

theorem left_v : out0_7 (iblk m c 0 t) (iblk m c 1 t) (iblk m c 2 t) (iblk m c 3 t) (ix2 i j)
    = resultV m c (ix2 i j) := by
  rw [reference_v, ← sum_at m c t, ← block_v m c t]
  unfold second word
  frame_out
  unfold k0_pay6
  pointwise

theorem left_d : out0_5 (iblk m c 0 t) (iblk m c 1 t) (iblk m c 2 t) (iblk m c 3 t) (ix2 i j)
    = resultD m c (ix2 i j) := by
  rw [reference_d, ← sum_at m c t, ← block_w m c t, ← block_m m c t, ← block_v m c t]
  unfold step first second word
  frame_out
  unfold k0_pay7 k0_pay5 k0_pay6 k0_pay3 k0_pay10 k0_pay4
  pointwise

theorem left_loss (y : Fin 128) : out0_8 (iblk m c 0 t) (iblk m c 1 t) (iblk m c 2 t) (iblk m c 3 t) (ix2 i y)
    = resultLoss m c (ix2 i y) := by
  rw [reference_loss]
  unfold word
  simp only [← packed_loss (arg18 m c) (arg19 m c) (arg20 m c) (arg21 m c) (arg22 m c) (arg23 m c), ← block_p m c t, Fin.sum_univ_eight]
  frame_out
  rw [loss_at]
  simp only [total_at]
  pointwise

end

/-! ### The launch's arrays -/

theorem array_g : (dats m 0 c).arrAt 4 cfg0.N = packedG m c := by
  refine (dats m 0 c).arrAt_eq_of_covers 4 _ (by decide +kernel) fun t hf y => ?_
  blk_simp
  rw [after0_4]
  idx_vars y
  refine (left_g m c t y0 y1).trans ?_
  blk_ext [block_index]

theorem array_d : (dats m 0 c).arrAt 5 cfg0.N = resultD m c := by
  refine (dats m 0 c).arrAt_eq_of_covers 5 _ (by decide +kernel) fun t hf y => ?_
  blk_simp
  rw [after0_5]
  idx_vars y
  refine (left_d m c t y0 y1).trans ?_
  blk_ext [block_index]

theorem array_m : (dats m 0 c).arrAt 6 cfg0.N = resultM m c := by
  refine (dats m 0 c).arrAt_eq_of_covers 6 _ (by decide +kernel) fun t hf y => ?_
  blk_simp
  rw [after0_6]
  idx_vars y
  refine (left_m m c t y0 y1).trans ?_
  blk_ext [block_index]

theorem array_v : (dats m 0 c).arrAt 7 cfg0.N = resultV m c := by
  refine (dats m 0 c).arrAt_eq_of_covers 7 _ (by decide +kernel) fun t hf y => ?_
  blk_simp
  rw [after0_7]
  idx_vars y
  refine (left_v m c t y0 y1).trans ?_
  blk_ext [block_index]

theorem array_loss : (dats m 0 c).arrAt 8 cfg0.N = resultLoss m c := by
  refine (dats m 0 c).arrAt_eq_of_covers 8 _ (by decide +kernel) fun t hf y => ?_
  blk_simp
  rw [after0_8]
  idx_vars y
  refine (left_loss m c t y0 y1).trans ?_
  blk_ext [block_index]

set_option maxHeartbeats 2000000 in
/-- THE CLAIM: both programs run, and their five results agree. -/
theorem algebraic : algebraic_SmallKernelIdeal_SmallReferenceIdeal := by
  intro m ρ m' ρ' _ hagree
  refine ⟨fun c => (dats m 0 c).arrAt 4 cfg0.N, fun c => (dats m 0 c).arrAt 5 cfg0.N, fun c => (dats m 0 c).arrAt 6 cfg0.N,
    fun c => (dats m 0 c).arrAt 7 cfg0.N, fun c => (dats m 0 c).arrAt 8 cfg0.N, Cert.SmallKernelIdeal.Value.run_blocks (F := Ideal) m ρ, ?_⟩
  refine (θ_run Cert.SmallReferenceIdeal.defs _ _).mono (fun _ h c => ?_) (Cert.SmallReferenceIdeal.Value.run (F := Ideal) m' ρ')
  obtain ⟨h0, h1, h2, h3, h4, h5, h6, h7, h8, h9, h10, h11, h12, h13, h14, h15, h16, h17, h18, h19, h20, h21, h22, h23, h24⟩ := hagree c
  obtain ⟨r0, r1, r2, r3, r4, rest⟩ := h c
  refine ⟨r0.trans (Eq.trans ?_ (array_g m c).symm), r1.trans (Eq.trans ?_ (array_d m c).symm),
    r2.trans (Eq.trans ?_ (array_m m c).symm), r3.trans (Eq.trans ?_ (array_v m c).symm), r4.trans (Eq.trans ?_ (array_loss m c).symm), rest⟩
  · refine (Cert.SmallReferenceIdeal.Read.val_main_v7_eq ..).trans ?_
    rw [h18, h19, h20, h21, h22, h23]
  · refine (Cert.SmallReferenceIdeal.Read.val_main_v37_eq m' c).trans ?_
    rw [h0, h1, h2, h3, h4, h5, h6, h7, h8, h9, h10, h11, h12, h13, h14, h15, h16, h17, h18, h19, h20, h21, h22, h23]
  · refine (Cert.SmallReferenceIdeal.Read.val_main_v18_eq ..).trans ?_
    rw [h6, h7, h8, h9, h10, h11, h18, h19, h20, h21, h22, h23]
  · refine (Cert.SmallReferenceIdeal.Read.val_main_v24_eq ..).trans ?_
    rw [h12, h13, h14, h15, h16, h17, h18, h19, h20, h21, h22, h23]
  · refine (Cert.SmallReferenceIdeal.Read.val_main_v40_eq ..).trans ?_
    rw [h24]

/-- The kernel runs and leaves its arguments and its counters as they were, -/
theorem quiescent_words : quiescent_SmallKernel (hSmallKernel := Cert.SmallKernel.Gen.facts) := fun m ρ _ => Cert.SmallKernel.Gen.frame m ρ

theorem quiescent_ideal : quiescent_SmallKernelIdeal := fun m ρ _ => frame m ρ

/-- and so does the reference. -/
theorem quiescent_reference : quiescent_SmallReferenceIdeal := fun m ρ _ =>
  (θ_run Cert.SmallReferenceIdeal.defs _ _).mono (fun r h => ⟨fun c => (h c).2.2.2.2.2, sem_eq_zero_of_no_sems (by decide) r.2⟩)
    (Cert.SmallReferenceIdeal.Value.run (F := Ideal) m ρ)

end Cert.Small

end
-- ==== Proof.lean ====
module

public import proofs.«01_k».proof.Defs
public import proofs.«01_k».proof.Proof.Gain
public import proofs.«01_k».proof.Proof.Sb.Claim
public import proofs.«01_k».proof.Proof.Mem.Claim
public import proofs.«01_k».proof.Proof.Gate.Claim
public import proofs.«01_k».proof.Proof.Swiglu.Claim
public import proofs.«01_k».proof.Proof.Loss.Claim
public import proofs.«01_k».proof.Proof.Mix.Claim
public import proofs.«01_k».proof.Proof.Pre.Claim
public import proofs.«01_k».proof.Proof.Sbf.Claim
public import proofs.«01_k».proof.Proof.Memf.Claim
public import proofs.«01_k».proof.Proof.Norm.Claim
public import proofs.«01_k».proof.Proof.Ffn.Claim
public import proofs.«01_k».proof.Proof.Merge.Claim
public import proofs.«01_k».proof.Proof.Gw.Claim
public import proofs.«01_k».proof.Proof.Adam.Claim
public import proofs.«01_k».proof.Proof.Small.Claim

@[expose] public section

noncomputable section

namespace Cert.Proof

open Idealize.ShloMosaic Idealize.SL.Sem

/-- Every claim of the directory. -/
theorem claim : Cert.Claim :=
  ⟨Cert.GainKernel.Gen.facts, Cert.GainKernelIdeal.Gen.facts, Cert.GainReferenceIdeal.Gen.facts,
    Cert.SbKernel.Gen.facts, Cert.SbKernelIdeal.Gen.facts, Cert.SbReferenceIdeal.Gen.facts,
    Cert.MemKernel.Gen.facts, Cert.MemKernelIdeal.Gen.facts, Cert.MemReferenceIdeal.Gen.facts,
    Cert.GateKernel.Gen.facts, Cert.GateKernelIdeal.Gen.facts, Cert.GateReferenceIdeal.Gen.facts,
    Cert.SwigluKernel.Gen.facts, Cert.SwigluKernelIdeal.Gen.facts, Cert.SwigluReferenceIdeal.Gen.facts,
    Cert.LossKernel.Gen.facts, Cert.LossKernelIdeal.Gen.facts, Cert.LossReferenceIdeal.Gen.facts,
    Cert.MixKernel.Gen.facts, Cert.MixKernelIdeal.Gen.facts, Cert.MixReferenceIdeal.Gen.facts,
    Cert.PreKernel.Gen.facts, Cert.PreKernelIdeal.Gen.facts, Cert.PreReferenceIdeal.Gen.facts,
    Cert.SbfKernel.Gen.facts, Cert.SbfKernelIdeal.Gen.facts, Cert.SbfReferenceIdeal.Gen.facts,
    Cert.MemfKernel.Gen.facts, Cert.MemfKernelIdeal.Gen.facts, Cert.MemfReferenceIdeal.Gen.facts,
    Cert.NormKernel.Gen.facts, Cert.NormKernelIdeal.Gen.facts, Cert.NormReferenceIdeal.Gen.facts,
    Cert.FfnKernel.Gen.facts, Cert.FfnKernelIdeal.Gen.facts, Cert.FfnReferenceIdeal.Gen.facts,
    Cert.MergeKernel.Gen.facts, Cert.MergeKernelIdeal.Gen.facts, Cert.MergeReferenceIdeal.Gen.facts,
    Cert.GwKernel.Gen.facts, Cert.GwKernelIdeal.Gen.facts, Cert.GwReferenceIdeal.Gen.facts,
    Cert.AdamKernel.Gen.facts, Cert.AdamKernelIdeal.Gen.facts, Cert.AdamReferenceIdeal.Gen.facts,
    Cert.SmallKernel.Gen.facts, Cert.SmallKernelIdeal.Gen.facts, Cert.SmallReferenceIdeal.Gen.facts,
    Sb.precondition_facts, Mem.precondition_facts, Swiglu.precondition_facts, Loss.precondition_facts, Mix.precondition_facts, Pre.precondition_facts, Sbf.precondition_facts,
    fun m ρ _ => Cert.GainKernel.Gen.frame m ρ, fun m ρ _ => Cert.GainKernelIdeal.Gen.frame m ρ, Gain.quiescent_reference,
    Sb.quiescent_words, Sb.quiescent_ideal, haveI := Sb.precondition_facts; Sb.quiescent_kernel_pre,
    Sb.quiescent_reference, haveI := Sb.precondition_facts; Sb.quiescent_reference_pre,
    Mem.quiescent_words, Mem.quiescent_ideal, haveI := Mem.precondition_facts; Mem.quiescent_kernel_pre,
    Mem.quiescent_reference, haveI := Mem.precondition_facts; Mem.quiescent_reference_pre,
    Gate.quiescent_words, Gate.quiescent_ideal, Gate.quiescent_reference,
    Swiglu.quiescent_words, Swiglu.quiescent_ideal, haveI := Swiglu.precondition_facts; Swiglu.quiescent_kernel_pre,
    Swiglu.quiescent_reference, haveI := Swiglu.precondition_facts; Swiglu.quiescent_reference_pre,
    Loss.quiescent_words, Loss.quiescent_ideal, haveI := Loss.precondition_facts; Loss.quiescent_kernel_pre,
    Loss.quiescent_reference, haveI := Loss.precondition_facts; Loss.quiescent_reference_pre,
    Mix.quiescent_words, Mix.quiescent_ideal, haveI := Mix.precondition_facts; Mix.quiescent_kernel_pre,
    Mix.quiescent_reference, haveI := Mix.precondition_facts; Mix.quiescent_reference_pre,
    Pre.quiescent_words, Pre.quiescent_ideal, haveI := Pre.precondition_facts; Pre.quiescent_kernel_pre,
    Pre.quiescent_reference, haveI := Pre.precondition_facts; Pre.quiescent_reference_pre,
    Sbf.quiescent_words, Sbf.quiescent_ideal, haveI := Sbf.precondition_facts; Sbf.quiescent_kernel_pre,
    Sbf.quiescent_reference, haveI := Sbf.precondition_facts; Sbf.quiescent_reference_pre,
    Memf.quiescent_words, Memf.quiescent_ideal, Memf.quiescent_reference,
    Norm.quiescent_words, Norm.quiescent_ideal, Norm.quiescent_reference,
    Ffn.quiescent_words, Ffn.quiescent_ideal, Ffn.quiescent_reference,
    Merge.quiescent_words, Merge.quiescent_ideal, Merge.quiescent_reference,
    Gw.quiescent_words, Gw.quiescent_ideal, Gw.quiescent_reference,
    Adam.quiescent_words, Adam.quiescent_ideal, Adam.quiescent_reference,
    Small.quiescent_words, Small.quiescent_ideal, Small.quiescent_reference,
    (trivial : preserves_GainKernel_GainKernelIdeal), Gain.algebraic,
    (trivial : preserves_SbKernel_SbKernelIdeal), haveI := Sb.precondition_facts; Sb.algebraic,
    (trivial : preserves_MemKernel_MemKernelIdeal), haveI := Mem.precondition_facts; Mem.algebraic,
    (trivial : preserves_GateKernel_GateKernelIdeal), Gate.algebraic,
    (trivial : preserves_SwigluKernel_SwigluKernelIdeal), haveI := Swiglu.precondition_facts; Swiglu.algebraic,
    (trivial : preserves_LossKernel_LossKernelIdeal), haveI := Loss.precondition_facts; Loss.algebraic,
    (trivial : preserves_MixKernel_MixKernelIdeal), haveI := Mix.precondition_facts; Mix.algebraic,
    (trivial : preserves_PreKernel_PreKernelIdeal), haveI := Pre.precondition_facts; Pre.algebraic,
    (trivial : preserves_SbfKernel_SbfKernelIdeal), haveI := Sbf.precondition_facts; Sbf.algebraic,
    (trivial : preserves_MemfKernel_MemfKernelIdeal), Memf.algebraic,
    (trivial : preserves_NormKernel_NormKernelIdeal), Norm.algebraic,
    (trivial : preserves_FfnKernel_FfnKernelIdeal), Ffn.algebraic,
    (trivial : preserves_MergeKernel_MergeKernelIdeal), Merge.algebraic,
    (trivial : preserves_GwKernel_GwKernelIdeal), Gw.algebraic,
    (trivial : preserves_AdamKernel_AdamKernelIdeal), Adam.algebraic,
    (trivial : preserves_SmallKernel_SmallKernelIdeal), Small.algebraic⟩

end Cert.Proof

end
